-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_saved [hPre_saved : Cert.Pre_saved.Facts] (m : (ℓ : Loc Cert.KernelIdeal.nD Cert.KernelIdeal.τ Cert.KernelIdeal.sig) → Buf (Elt Ideal) ℓ) : Prop :=
  ∀ c : Dev Cert.KernelIdeal.nD,
    (Cert.Pre_saved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_saved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_saved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_saved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_saved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_saved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_saved [hPre_saved : Cert.Pre_saved.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_saved.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_saved.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_saved.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_saved.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_saved.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_saved.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_GluDz (m : (ℓ : Loc Cert.GluDz.nD Cert.GluDz.τ Cert.GluDz.sig) → Buf (Elt Bits) ℓ) : Prop :=
  True

def Pre_GluDzIdeal (m : (ℓ : Loc Cert.GluDzIdeal.nD Cert.GluDzIdeal.τ Cert.GluDzIdeal.sig) → Buf (Elt Ideal) ℓ) : Prop :=
  True

def Pre_GluDzRefIdeal (m : (ℓ : Loc Cert.GluDzRefIdeal.nD Cert.GluDzRefIdeal.τ Cert.GluDzRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxIdeal_finite_glu [hPre_finite_glu : Cert.Pre_finite_glu.Facts] (m : (ℓ : Loc Cert.GluDxIdeal.nD Cert.GluDxIdeal.τ Cert.GluDxIdeal.sig) → Buf (Elt Ideal) ℓ) : Prop :=
  ∀ c : Dev Cert.GluDxIdeal.nD,
    (Cert.Pre_finite_glu.fn (F := Ideal) (m ((c.tc : Thread Cert.GluDxIdeal.nD Cert.GluDxIdeal.τ).loc Cert.GluDxIdeal.main_arg0)) (m ((c.tc : Thread Cert.GluDxIdeal.nD Cert.GluDxIdeal.τ).loc Cert.GluDxIdeal.main_arg1)) (m ((c.tc : Thread Cert.GluDxIdeal.nD Cert.GluDxIdeal.τ).loc Cert.GluDxIdeal.main_arg2)) (m ((c.tc : Thread Cert.GluDxIdeal.nD Cert.GluDxIdeal.τ).loc Cert.GluDxIdeal.main_arg3)) (m ((c.tc : Thread Cert.GluDxIdeal.nD Cert.GluDxIdeal.τ).loc Cert.GluDxIdeal.main_arg4))).1 = (fun _ => 1#1)
    ∧ (Cert.Pre_finite_glu.fn (F := Ideal) (m ((c.tc : Thread Cert.GluDxIdeal.nD Cert.GluDxIdeal.τ).loc Cert.GluDxIdeal.main_arg0)) (m ((c.tc : Thread Cert.GluDxIdeal.nD Cert.GluDxIdeal.τ).loc Cert.GluDxIdeal.main_arg1)) (m ((c.tc : Thread Cert.GluDxIdeal.nD Cert.GluDxIdeal.τ).loc Cert.GluDxIdeal.main_arg2)) (m ((c.tc : Thread Cert.GluDxIdeal.nD Cert.GluDxIdeal.τ).loc Cert.GluDxIdeal.main_arg3)) (m ((c.tc : Thread Cert.GluDxIdeal.nD Cert.GluDxIdeal.τ).loc Cert.GluDxIdeal.main_arg4))).2.1 = (fun _ => 1#1)
    ∧ (Cert.Pre_finite_glu.fn (F := Ideal) (m ((c.tc : Thread Cert.GluDxIdeal.nD Cert.GluDxIdeal.τ).loc Cert.GluDxIdeal.main_arg0)) (m ((c.tc : Thread Cert.GluDxIdeal.nD Cert.GluDxIdeal.τ).loc Cert.GluDxIdeal.main_arg1)) (m ((c.tc : Thread Cert.GluDxIdeal.nD Cert.GluDxIdeal.τ).loc Cert.GluDxIdeal.main_arg2)) (m ((c.tc : Thread Cert.GluDxIdeal.nD Cert.GluDxIdeal.τ).loc Cert.GluDxIdeal.main_arg3)) (m ((c.tc : Thread Cert.GluDxIdeal.nD Cert.GluDxIdeal.τ).loc Cert.GluDxIdeal.main_arg4))).2.2 = (fun _ => 1#1)

def Pre_GluDxRefIdeal (m : (ℓ : Loc Cert.GluDxRefIdeal.nD Cert.GluDxRefIdeal.τ Cert.GluDxRefIdeal.sig) → Buf (Elt Ideal) ℓ) : Prop :=
  True

def Pre_GluDxRefIdeal_finite_glu [hPre_finite_glu : Cert.Pre_finite_glu.Facts] (m : (ℓ : Loc Cert.GluDxRefIdeal.nD Cert.GluDxRefIdeal.τ Cert.GluDxRefIdeal.sig) → Buf (Elt Ideal) ℓ) : Prop :=
  ∀ c : Dev Cert.GluDxRefIdeal.nD,
    (Cert.Pre_finite_glu.fn (F := Ideal) (m ((c.tc : Thread Cert.GluDxRefIdeal.nD Cert.GluDxRefIdeal.τ).loc Cert.GluDxRefIdeal.main_arg0)) (m ((c.tc : Thread Cert.GluDxRefIdeal.nD Cert.GluDxRefIdeal.τ).loc Cert.GluDxRefIdeal.main_arg1)) (m ((c.tc : Thread Cert.GluDxRefIdeal.nD Cert.GluDxRefIdeal.τ).loc Cert.GluDxRefIdeal.main_arg2)) (m ((c.tc : Thread Cert.GluDxRefIdeal.nD Cert.GluDxRefIdeal.τ).loc Cert.GluDxRefIdeal.main_arg3)) (m ((c.tc : Thread Cert.GluDxRefIdeal.nD Cert.GluDxRefIdeal.τ).loc Cert.GluDxRefIdeal.main_arg4))).1 = (fun _ => 1#1)
    ∧ (Cert.Pre_finite_glu.fn (F := Ideal) (m ((c.tc : Thread Cert.GluDxRefIdeal.nD Cert.GluDxRefIdeal.τ).loc Cert.GluDxRefIdeal.main_arg0)) (m ((c.tc : Thread Cert.GluDxRefIdeal.nD Cert.GluDxRefIdeal.τ).loc Cert.GluDxRefIdeal.main_arg1)) (m ((c.tc : Thread Cert.GluDxRefIdeal.nD Cert.GluDxRefIdeal.τ).loc Cert.GluDxRefIdeal.main_arg2)) (m ((c.tc : Thread Cert.GluDxRefIdeal.nD Cert.GluDxRefIdeal.τ).loc Cert.GluDxRefIdeal.main_arg3)) (m ((c.tc : Thread Cert.GluDxRefIdeal.nD Cert.GluDxRefIdeal.τ).loc Cert.GluDxRefIdeal.main_arg4))).2.1 = (fun _ => 1#1)
    ∧ (Cert.Pre_finite_glu.fn (F := Ideal) (m ((c.tc : Thread Cert.GluDxRefIdeal.nD Cert.GluDxRefIdeal.τ).loc Cert.GluDxRefIdeal.main_arg0)) (m ((c.tc : Thread Cert.GluDxRefIdeal.nD Cert.GluDxRefIdeal.τ).loc Cert.GluDxRefIdeal.main_arg1)) (m ((c.tc : Thread Cert.GluDxRefIdeal.nD Cert.GluDxRefIdeal.τ).loc Cert.GluDxRefIdeal.main_arg2)) (m ((c.tc : Thread Cert.GluDxRefIdeal.nD Cert.GluDxRefIdeal.τ).loc Cert.GluDxRefIdeal.main_arg3)) (m ((c.tc : Thread Cert.GluDxRefIdeal.nD Cert.GluDxRefIdeal.τ).loc Cert.GluDxRefIdeal.main_arg4))).2.2 = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_HeadsBwd (m : (ℓ : Loc Cert.HeadsBwd.nD Cert.HeadsBwd.τ Cert.HeadsBwd.sig) → Buf (Elt Bits) ℓ) : Prop :=
  True

def Pre_HeadsBwdIdeal (m : (ℓ : Loc Cert.HeadsBwdIdeal.nD Cert.HeadsBwdIdeal.τ Cert.HeadsBwdIdeal.sig) → Buf (Elt Ideal) ℓ) : Prop :=
  True

def Pre_HeadsBwdRefIdeal (m : (ℓ : Loc Cert.HeadsBwdRefIdeal.nD Cert.HeadsBwdRefIdeal.τ Cert.HeadsBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_HeadsFwd (m : (ℓ : Loc Cert.HeadsFwd.nD Cert.HeadsFwd.τ Cert.HeadsFwd.sig) → Buf (Elt Bits) ℓ) : Prop :=
  True

def Pre_HeadsFwdIdeal (m : (ℓ : Loc Cert.HeadsFwdIdeal.nD Cert.HeadsFwdIdeal.τ Cert.HeadsFwdIdeal.sig) → Buf (Elt Ideal) ℓ) : Prop :=
  True

def Pre_HeadsFwdRefIdeal (m : (ℓ : Loc Cert.HeadsFwdRefIdeal.nD Cert.HeadsFwdRefIdeal.τ Cert.HeadsFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attn [hPre_finite_attn : Cert.Pre_finite_attn.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attn.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).1 = (fun _ => 1#1)
    ∧ (Cert.Pre_finite_attn.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.1 = (fun _ => 1#1)
    ∧ (Cert.Pre_finite_attn.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2.1 = (fun _ => 1#1)
    ∧ (Cert.Pre_finite_attn.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attn [hPre_finite_attn : Cert.Pre_finite_attn.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attn.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).1 = (fun _ => 1#1)
    ∧ (Cert.Pre_finite_attn.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.1 = (fun _ => 1#1)
    ∧ (Cert.Pre_finite_attn.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2.1 = (fun _ => 1#1)
    ∧ (Cert.Pre_finite_attn.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_KNormBwd (m : (ℓ : Loc Cert.KNormBwd.nD Cert.KNormBwd.τ Cert.KNormBwd.sig) → Buf (Elt Bits) ℓ) : Prop :=
  True

def Pre_KNormBwdIdeal (m : (ℓ : Loc Cert.KNormBwdIdeal.nD Cert.KNormBwdIdeal.τ Cert.KNormBwdIdeal.sig) → Buf (Elt Ideal) ℓ) : Prop :=
  True

def Pre_KNormBwdRefIdeal (m : (ℓ : Loc Cert.KNormBwdRefIdeal.nD Cert.KNormBwdRefIdeal.τ Cert.KNormBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_saved [hKernelIdeal : Cert.KernelIdeal.Facts] [hPre_saved : Cert.Pre_saved.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_saved m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_saved [hReferenceIdeal : Cert.ReferenceIdeal.Facts] [hPre_saved : Cert.Pre_saved.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_saved m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_GluDz [hGluDz : Cert.GluDz.Facts] : Prop :=
  ∀ (m : (ℓ : Loc Cert.GluDz.nD Cert.GluDz.τ Cert.GluDz.sig) → Buf (Elt Bits) ℓ) (g : Dev Cert.GluDz.nD → PrngReg), Pre_GluDz m →
    θ_run (Cert.GluDz.defs (F := Bits)) (onTc (τ := Cert.GluDz.τ) (Cert.GluDz.main (F := Bits))) ⟨m, fun _ => 0, g⟩ (fun r => (∀ c : Dev Cert.GluDz.nD,
      r.2.mem ((c.tc : Thread Cert.GluDz.nD Cert.GluDz.τ).loc Cert.GluDz.main_arg0) = m ((c.tc : Thread Cert.GluDz.nD Cert.GluDz.τ).loc Cert.GluDz.main_arg0)
      ∧ r.2.mem ((c.tc : Thread Cert.GluDz.nD Cert.GluDz.τ).loc Cert.GluDz.main_arg1) = m ((c.tc : Thread Cert.GluDz.nD Cert.GluDz.τ).loc Cert.GluDz.main_arg1)
      ∧ r.2.mem ((c.tc : Thread Cert.GluDz.nD Cert.GluDz.τ).loc Cert.GluDz.main_arg2) = m ((c.tc : Thread Cert.GluDz.nD Cert.GluDz.τ).loc Cert.GluDz.main_arg2))
      ∧ r.2.sem = fun _ => 0)

def quiescent_GluDzIdeal [hGluDzIdeal : Cert.GluDzIdeal.Facts] : Prop :=
  ∀ (m : (ℓ : Loc Cert.GluDzIdeal.nD Cert.GluDzIdeal.τ Cert.GluDzIdeal.sig) → Buf (Elt Ideal) ℓ) (g : Dev Cert.GluDzIdeal.nD → PrngReg), Pre_GluDzIdeal m →
    θ_run (Cert.GluDzIdeal.defs (F := Ideal)) (onTc (τ := Cert.GluDzIdeal.τ) (Cert.GluDzIdeal.main (F := Ideal))) ⟨m, fun _ => 0, g⟩ (fun r => (∀ c : Dev Cert.GluDzIdeal.nD,
      r.2.mem ((c.tc : Thread Cert.GluDzIdeal.nD Cert.GluDzIdeal.τ).loc Cert.GluDzIdeal.main_arg0) = m ((c.tc : Thread Cert.GluDzIdeal.nD Cert.GluDzIdeal.τ).loc Cert.GluDzIdeal.main_arg0)
      ∧ r.2.mem ((c.tc : Thread Cert.GluDzIdeal.nD Cert.GluDzIdeal.τ).loc Cert.GluDzIdeal.main_arg1) = m ((c.tc : Thread Cert.GluDzIdeal.nD Cert.GluDzIdeal.τ).loc Cert.GluDzIdeal.main_arg1)
      ∧ r.2.mem ((c.tc : Thread Cert.GluDzIdeal.nD Cert.GluDzIdeal.τ).loc Cert.GluDzIdeal.main_arg2) = m ((c.tc : Thread Cert.GluDzIdeal.nD Cert.GluDzIdeal.τ).loc Cert.GluDzIdeal.main_arg2))
      ∧ r.2.sem = fun _ => 0)

def quiescent_GluDzRefIdeal [hGluDzRefIdeal : Cert.GluDzRefIdeal.Facts] : Prop :=
  ∀ (m : (ℓ : Loc Cert.GluDzRefIdeal.nD Cert.GluDzRefIdeal.τ Cert.GluDzRefIdeal.sig) → Buf (Elt Ideal) ℓ) (g : Dev Cert.GluDzRefIdeal.nD → PrngReg), Pre_GluDzRefIdeal m →
    θ_run (Cert.GluDzRefIdeal.defs (F := Ideal)) (onTc (τ := Cert.GluDzRefIdeal.τ) (Cert.GluDzRefIdeal.main (F := Ideal))) ⟨m, fun _ => 0, g⟩ (fun r => (∀ c : Dev Cert.GluDzRefIdeal.nD,
      r.2.mem ((c.tc : Thread Cert.GluDzRefIdeal.nD Cert.GluDzRefIdeal.τ).loc Cert.GluDzRefIdeal.main_arg0) = m ((c.tc : Thread Cert.GluDzRefIdeal.nD Cert.GluDzRefIdeal.τ).loc Cert.GluDzRefIdeal.main_arg0)
      ∧ r.2.mem ((c.tc : Thread Cert.GluDzRefIdeal.nD Cert.GluDzRefIdeal.τ).loc Cert.GluDzRefIdeal.main_arg1) = m ((c.tc : Thread Cert.GluDzRefIdeal.nD Cert.GluDzRefIdeal.τ).loc Cert.GluDzRefIdeal.main_arg1)
      ∧ r.2.mem ((c.tc : Thread Cert.GluDzRefIdeal.nD Cert.GluDzRefIdeal.τ).loc Cert.GluDzRefIdeal.main_arg2) = m ((c.tc : Thread Cert.GluDzRefIdeal.nD Cert.GluDzRefIdeal.τ).loc Cert.GluDzRefIdeal.main_arg2))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1)
      ∧ r.2.mem ((c.tc : Thread Cert.GluDx.nD Cert.GluDx.τ).loc Cert.GluDx.main_arg2) = m ((c.tc : Thread Cert.GluDx.nD Cert.GluDx.τ).loc Cert.GluDx.main_arg2)
      ∧ r.2.mem ((c.tc : Thread Cert.GluDx.nD Cert.GluDx.τ).loc Cert.GluDx.main_arg3) = m ((c.tc : Thread Cert.GluDx.nD Cert.GluDx.τ).loc Cert.GluDx.main_arg3)
      ∧ r.2.mem ((c.tc : Thread Cert.GluDx.nD Cert.GluDx.τ).loc Cert.GluDx.main_arg4) = m ((c.tc : Thread Cert.GluDx.nD Cert.GluDx.τ).loc Cert.GluDx.main_arg4))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2)
      ∧ r.2.mem ((c.tc : Thread Cert.GluDxIdeal.nD Cert.GluDxIdeal.τ).loc Cert.GluDxIdeal.main_arg3) = m ((c.tc : Thread Cert.GluDxIdeal.nD Cert.GluDxIdeal.τ).loc Cert.GluDxIdeal.main_arg3)
      ∧ r.2.mem ((c.tc : Thread Cert.GluDxIdeal.nD Cert.GluDxIdeal.τ).loc Cert.GluDxIdeal.main_arg4) = m ((c.tc : Thread Cert.GluDxIdeal.nD Cert.GluDxIdeal.τ).loc Cert.GluDxIdeal.main_arg4))
      ∧ r.2.sem = fun _ => 0)

def quiescent_GluDxIdeal_pre_finite_glu [hGluDxIdeal : Cert.GluDxIdeal.Facts] [hPre_finite_glu : Cert.Pre_finite_glu.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal_finite_glu m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2)
      ∧ r.2.mem ((c.tc : Thread Cert.GluDxIdeal.nD Cert.GluDxIdeal.τ).loc Cert.GluDxIdeal.main_arg3) = m ((c.tc : Thread Cert.GluDxIdeal.nD Cert.GluDxIdeal.τ).loc Cert.GluDxIdeal.main_arg3)
      ∧ r.2.mem ((c.tc : Thread Cert.GluDxIdeal.nD Cert.GluDxIdeal.τ).loc Cert.GluDxIdeal.main_arg4) = m ((c.tc : Thread Cert.GluDxIdeal.nD Cert.GluDxIdeal.τ).loc Cert.GluDxIdeal.main_arg4))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1)
      ∧ r.2.mem ((c.tc : Thread Cert.GluDxRefIdeal.nD Cert.GluDxRefIdeal.τ).loc Cert.GluDxRefIdeal.main_arg2) = m ((c.tc : Thread Cert.GluDxRefIdeal.nD Cert.GluDxRefIdeal.τ).loc Cert.GluDxRefIdeal.main_arg2)
      ∧ r.2.mem ((c.tc : Thread Cert.GluDxRefIdeal.nD Cert.GluDxRefIdeal.τ).loc Cert.GluDxRefIdeal.main_arg3) = m ((c.tc : Thread Cert.GluDxRefIdeal.nD Cert.GluDxRefIdeal.τ).loc Cert.GluDxRefIdeal.main_arg3)
      ∧ r.2.mem ((c.tc : Thread Cert.GluDxRefIdeal.nD Cert.GluDxRefIdeal.τ).loc Cert.GluDxRefIdeal.main_arg4) = m ((c.tc : Thread Cert.GluDxRefIdeal.nD Cert.GluDxRefIdeal.τ).loc Cert.GluDxRefIdeal.main_arg4))
      ∧ r.2.sem = fun _ => 0)

def quiescent_GluDxRefIdeal_pre_finite_glu [hGluDxRefIdeal : Cert.GluDxRefIdeal.Facts] [hPre_finite_glu : Cert.Pre_finite_glu.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal_finite_glu m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1)
      ∧ r.2.mem ((c.tc : Thread Cert.GluDxRefIdeal.nD Cert.GluDxRefIdeal.τ).loc Cert.GluDxRefIdeal.main_arg2) = m ((c.tc : Thread Cert.GluDxRefIdeal.nD Cert.GluDxRefIdeal.τ).loc Cert.GluDxRefIdeal.main_arg2)
      ∧ r.2.mem ((c.tc : Thread Cert.GluDxRefIdeal.nD Cert.GluDxRefIdeal.τ).loc Cert.GluDxRefIdeal.main_arg3) = m ((c.tc : Thread Cert.GluDxRefIdeal.nD Cert.GluDxRefIdeal.τ).loc Cert.GluDxRefIdeal.main_arg3)
      ∧ r.2.mem ((c.tc : Thread Cert.GluDxRefIdeal.nD Cert.GluDxRefIdeal.τ).loc Cert.GluDxRefIdeal.main_arg4) = m ((c.tc : Thread Cert.GluDxRefIdeal.nD Cert.GluDxRefIdeal.τ).loc Cert.GluDxRefIdeal.main_arg4))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_HeadsBwd [hHeadsBwd : Cert.HeadsBwd.Facts] : Prop :=
  ∀ (m : (ℓ : Loc Cert.HeadsBwd.nD Cert.HeadsBwd.τ Cert.HeadsBwd.sig) → Buf (Elt Bits) ℓ) (g : Dev Cert.HeadsBwd.nD → PrngReg), Pre_HeadsBwd m →
    θ_run (Cert.HeadsBwd.defs (F := Bits)) (onTc (τ := Cert.HeadsBwd.τ) (Cert.HeadsBwd.main (F := Bits))) ⟨m, fun _ => 0, g⟩ (fun r => (∀ c : Dev Cert.HeadsBwd.nD,
      r.2.mem ((c.tc : Thread Cert.HeadsBwd.nD Cert.HeadsBwd.τ).loc Cert.HeadsBwd.main_arg0) = m ((c.tc : Thread Cert.HeadsBwd.nD Cert.HeadsBwd.τ).loc Cert.HeadsBwd.main_arg0)
      ∧ r.2.mem ((c.tc : Thread Cert.HeadsBwd.nD Cert.HeadsBwd.τ).loc Cert.HeadsBwd.main_arg1) = m ((c.tc : Thread Cert.HeadsBwd.nD Cert.HeadsBwd.τ).loc Cert.HeadsBwd.main_arg1)
      ∧ r.2.mem ((c.tc : Thread Cert.HeadsBwd.nD Cert.HeadsBwd.τ).loc Cert.HeadsBwd.main_arg2) = m ((c.tc : Thread Cert.HeadsBwd.nD Cert.HeadsBwd.τ).loc Cert.HeadsBwd.main_arg2)
      ∧ r.2.mem ((c.tc : Thread Cert.HeadsBwd.nD Cert.HeadsBwd.τ).loc Cert.HeadsBwd.main_arg3) = m ((c.tc : Thread Cert.HeadsBwd.nD Cert.HeadsBwd.τ).loc Cert.HeadsBwd.main_arg3)
      ∧ r.2.mem ((c.tc : Thread Cert.HeadsBwd.nD Cert.HeadsBwd.τ).loc Cert.HeadsBwd.main_arg4) = m ((c.tc : Thread Cert.HeadsBwd.nD Cert.HeadsBwd.τ).loc Cert.HeadsBwd.main_arg4))
      ∧ r.2.sem = fun _ => 0)

def quiescent_HeadsBwdIdeal [hHeadsBwdIdeal : Cert.HeadsBwdIdeal.Facts] : Prop :=
  ∀ (m : (ℓ : Loc Cert.HeadsBwdIdeal.nD Cert.HeadsBwdIdeal.τ Cert.HeadsBwdIdeal.sig) → Buf (Elt Ideal) ℓ) (g : Dev Cert.HeadsBwdIdeal.nD → PrngReg), Pre_HeadsBwdIdeal m →
    θ_run (Cert.HeadsBwdIdeal.defs (F := Ideal)) (onTc (τ := Cert.HeadsBwdIdeal.τ) (Cert.HeadsBwdIdeal.main (F := Ideal))) ⟨m, fun _ => 0, g⟩ (fun r => (∀ c : Dev Cert.HeadsBwdIdeal.nD,
      r.2.mem ((c.tc : Thread Cert.HeadsBwdIdeal.nD Cert.HeadsBwdIdeal.τ).loc Cert.HeadsBwdIdeal.main_arg0) = m ((c.tc : Thread Cert.HeadsBwdIdeal.nD Cert.HeadsBwdIdeal.τ).loc Cert.HeadsBwdIdeal.main_arg0)
      ∧ r.2.mem ((c.tc : Thread Cert.HeadsBwdIdeal.nD Cert.HeadsBwdIdeal.τ).loc Cert.HeadsBwdIdeal.main_arg1) = m ((c.tc : Thread Cert.HeadsBwdIdeal.nD Cert.HeadsBwdIdeal.τ).loc Cert.HeadsBwdIdeal.main_arg1)
      ∧ r.2.mem ((c.tc : Thread Cert.HeadsBwdIdeal.nD Cert.HeadsBwdIdeal.τ).loc Cert.HeadsBwdIdeal.main_arg2) = m ((c.tc : Thread Cert.HeadsBwdIdeal.nD Cert.HeadsBwdIdeal.τ).loc Cert.HeadsBwdIdeal.main_arg2)
      ∧ r.2.mem ((c.tc : Thread Cert.HeadsBwdIdeal.nD Cert.HeadsBwdIdeal.τ).loc Cert.HeadsBwdIdeal.main_arg3) = m ((c.tc : Thread Cert.HeadsBwdIdeal.nD Cert.HeadsBwdIdeal.τ).loc Cert.HeadsBwdIdeal.main_arg3)
      ∧ r.2.mem ((c.tc : Thread Cert.HeadsBwdIdeal.nD Cert.HeadsBwdIdeal.τ).loc Cert.HeadsBwdIdeal.main_arg4) = m ((c.tc : Thread Cert.HeadsBwdIdeal.nD Cert.HeadsBwdIdeal.τ).loc Cert.HeadsBwdIdeal.main_arg4))
      ∧ r.2.sem = fun _ => 0)

def quiescent_HeadsBwdRefIdeal [hHeadsBwdRefIdeal : Cert.HeadsBwdRefIdeal.Facts] : Prop :=
  ∀ (m : (ℓ : Loc Cert.HeadsBwdRefIdeal.nD Cert.HeadsBwdRefIdeal.τ Cert.HeadsBwdRefIdeal.sig) → Buf (Elt Ideal) ℓ) (g : Dev Cert.HeadsBwdRefIdeal.nD → PrngReg), Pre_HeadsBwdRefIdeal m →
    θ_run (Cert.HeadsBwdRefIdeal.defs (F := Ideal)) (onTc (τ := Cert.HeadsBwdRefIdeal.τ) (Cert.HeadsBwdRefIdeal.main (F := Ideal))) ⟨m, fun _ => 0, g⟩ (fun r => (∀ c : Dev Cert.HeadsBwdRefIdeal.nD,
      r.2.mem ((c.tc : Thread Cert.HeadsBwdRefIdeal.nD Cert.HeadsBwdRefIdeal.τ).loc Cert.HeadsBwdRefIdeal.main_arg0) = m ((c.tc : Thread Cert.HeadsBwdRefIdeal.nD Cert.HeadsBwdRefIdeal.τ).loc Cert.HeadsBwdRefIdeal.main_arg0)
      ∧ r.2.mem ((c.tc : Thread Cert.HeadsBwdRefIdeal.nD Cert.HeadsBwdRefIdeal.τ).loc Cert.HeadsBwdRefIdeal.main_arg1) = m ((c.tc : Thread Cert.HeadsBwdRefIdeal.nD Cert.HeadsBwdRefIdeal.τ).loc Cert.HeadsBwdRefIdeal.main_arg1)
      ∧ r.2.mem ((c.tc : Thread Cert.HeadsBwdRefIdeal.nD Cert.HeadsBwdRefIdeal.τ).loc Cert.HeadsBwdRefIdeal.main_arg2) = m ((c.tc : Thread Cert.HeadsBwdRefIdeal.nD Cert.HeadsBwdRefIdeal.τ).loc Cert.HeadsBwdRefIdeal.main_arg2)
      ∧ r.2.mem ((c.tc : Thread Cert.HeadsBwdRefIdeal.nD Cert.HeadsBwdRefIdeal.τ).loc Cert.HeadsBwdRefIdeal.main_arg3) = m ((c.tc : Thread Cert.HeadsBwdRefIdeal.nD Cert.HeadsBwdRefIdeal.τ).loc Cert.HeadsBwdRefIdeal.main_arg3)
      ∧ r.2.mem ((c.tc : Thread Cert.HeadsBwdRefIdeal.nD Cert.HeadsBwdRefIdeal.τ).loc Cert.HeadsBwdRefIdeal.main_arg4) = m ((c.tc : Thread Cert.HeadsBwdRefIdeal.nD Cert.HeadsBwdRefIdeal.τ).loc Cert.HeadsBwdRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_HeadsFwd [hHeadsFwd : Cert.HeadsFwd.Facts] : Prop :=
  ∀ (m : (ℓ : Loc Cert.HeadsFwd.nD Cert.HeadsFwd.τ Cert.HeadsFwd.sig) → Buf (Elt Bits) ℓ) (g : Dev Cert.HeadsFwd.nD → PrngReg), Pre_HeadsFwd m →
    θ_run (Cert.HeadsFwd.defs (F := Bits)) (onTc (τ := Cert.HeadsFwd.τ) (Cert.HeadsFwd.main (F := Bits))) ⟨m, fun _ => 0, g⟩ (fun r => (∀ c : Dev Cert.HeadsFwd.nD,
      r.2.mem ((c.tc : Thread Cert.HeadsFwd.nD Cert.HeadsFwd.τ).loc Cert.HeadsFwd.main_arg0) = m ((c.tc : Thread Cert.HeadsFwd.nD Cert.HeadsFwd.τ).loc Cert.HeadsFwd.main_arg0)
      ∧ r.2.mem ((c.tc : Thread Cert.HeadsFwd.nD Cert.HeadsFwd.τ).loc Cert.HeadsFwd.main_arg1) = m ((c.tc : Thread Cert.HeadsFwd.nD Cert.HeadsFwd.τ).loc Cert.HeadsFwd.main_arg1)
      ∧ r.2.mem ((c.tc : Thread Cert.HeadsFwd.nD Cert.HeadsFwd.τ).loc Cert.HeadsFwd.main_arg2) = m ((c.tc : Thread Cert.HeadsFwd.nD Cert.HeadsFwd.τ).loc Cert.HeadsFwd.main_arg2)
      ∧ r.2.mem ((c.tc : Thread Cert.HeadsFwd.nD Cert.HeadsFwd.τ).loc Cert.HeadsFwd.main_arg3) = m ((c.tc : Thread Cert.HeadsFwd.nD Cert.HeadsFwd.τ).loc Cert.HeadsFwd.main_arg3))
      ∧ r.2.sem = fun _ => 0)

def quiescent_HeadsFwdIdeal [hHeadsFwdIdeal : Cert.HeadsFwdIdeal.Facts] : Prop :=
  ∀ (m : (ℓ : Loc Cert.HeadsFwdIdeal.nD Cert.HeadsFwdIdeal.τ Cert.HeadsFwdIdeal.sig) → Buf (Elt Ideal) ℓ) (g : Dev Cert.HeadsFwdIdeal.nD → PrngReg), Pre_HeadsFwdIdeal m →
    θ_run (Cert.HeadsFwdIdeal.defs (F := Ideal)) (onTc (τ := Cert.HeadsFwdIdeal.τ) (Cert.HeadsFwdIdeal.main (F := Ideal))) ⟨m, fun _ => 0, g⟩ (fun r => (∀ c : Dev Cert.HeadsFwdIdeal.nD,
      r.2.mem ((c.tc : Thread Cert.HeadsFwdIdeal.nD Cert.HeadsFwdIdeal.τ).loc Cert.HeadsFwdIdeal.main_arg0) = m ((c.tc : Thread Cert.HeadsFwdIdeal.nD Cert.HeadsFwdIdeal.τ).loc Cert.HeadsFwdIdeal.main_arg0)
      ∧ r.2.mem ((c.tc : Thread Cert.HeadsFwdIdeal.nD Cert.HeadsFwdIdeal.τ).loc Cert.HeadsFwdIdeal.main_arg1) = m ((c.tc : Thread Cert.HeadsFwdIdeal.nD Cert.HeadsFwdIdeal.τ).loc Cert.HeadsFwdIdeal.main_arg1)
      ∧ r.2.mem ((c.tc : Thread Cert.HeadsFwdIdeal.nD Cert.HeadsFwdIdeal.τ).loc Cert.HeadsFwdIdeal.main_arg2) = m ((c.tc : Thread Cert.HeadsFwdIdeal.nD Cert.HeadsFwdIdeal.τ).loc Cert.HeadsFwdIdeal.main_arg2)
      ∧ r.2.mem ((c.tc : Thread Cert.HeadsFwdIdeal.nD Cert.HeadsFwdIdeal.τ).loc Cert.HeadsFwdIdeal.main_arg3) = m ((c.tc : Thread Cert.HeadsFwdIdeal.nD Cert.HeadsFwdIdeal.τ).loc Cert.HeadsFwdIdeal.main_arg3))
      ∧ r.2.sem = fun _ => 0)

def quiescent_HeadsFwdRefIdeal [hHeadsFwdRefIdeal : Cert.HeadsFwdRefIdeal.Facts] : Prop :=
  ∀ (m : (ℓ : Loc Cert.HeadsFwdRefIdeal.nD Cert.HeadsFwdRefIdeal.τ Cert.HeadsFwdRefIdeal.sig) → Buf (Elt Ideal) ℓ) (g : Dev Cert.HeadsFwdRefIdeal.nD → PrngReg), Pre_HeadsFwdRefIdeal m →
    θ_run (Cert.HeadsFwdRefIdeal.defs (F := Ideal)) (onTc (τ := Cert.HeadsFwdRefIdeal.τ) (Cert.HeadsFwdRefIdeal.main (F := Ideal))) ⟨m, fun _ => 0, g⟩ (fun r => (∀ c : Dev Cert.HeadsFwdRefIdeal.nD,
      r.2.mem ((c.tc : Thread Cert.HeadsFwdRefIdeal.nD Cert.HeadsFwdRefIdeal.τ).loc Cert.HeadsFwdRefIdeal.main_arg0) = m ((c.tc : Thread Cert.HeadsFwdRefIdeal.nD Cert.HeadsFwdRefIdeal.τ).loc Cert.HeadsFwdRefIdeal.main_arg0)
      ∧ r.2.mem ((c.tc : Thread Cert.HeadsFwdRefIdeal.nD Cert.HeadsFwdRefIdeal.τ).loc Cert.HeadsFwdRefIdeal.main_arg1) = m ((c.tc : Thread Cert.HeadsFwdRefIdeal.nD Cert.HeadsFwdRefIdeal.τ).loc Cert.HeadsFwdRefIdeal.main_arg1)
      ∧ r.2.mem ((c.tc : Thread Cert.HeadsFwdRefIdeal.nD Cert.HeadsFwdRefIdeal.τ).loc Cert.HeadsFwdRefIdeal.main_arg2) = m ((c.tc : Thread Cert.HeadsFwdRefIdeal.nD Cert.HeadsFwdRefIdeal.τ).loc Cert.HeadsFwdRefIdeal.main_arg2)
      ∧ r.2.mem ((c.tc : Thread Cert.HeadsFwdRefIdeal.nD Cert.HeadsFwdRefIdeal.τ).loc Cert.HeadsFwdRefIdeal.main_arg3) = m ((c.tc : Thread Cert.HeadsFwdRefIdeal.nD Cert.HeadsFwdRefIdeal.τ).loc Cert.HeadsFwdRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite_attn [hAttnFwdIdeal : Cert.AttnFwdIdeal.Facts] [hPre_finite_attn : Cert.Pre_finite_attn.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attn m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_finite_attn [hAttnFwdRefIdeal : Cert.AttnFwdRefIdeal.Facts] [hPre_finite_attn : Cert.Pre_finite_attn.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attn m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_KNormBwd [hKNormBwd : Cert.KNormBwd.Facts] : Prop :=
  ∀ (m : (ℓ : Loc Cert.KNormBwd.nD Cert.KNormBwd.τ Cert.KNormBwd.sig) → Buf (Elt Bits) ℓ) (g : Dev Cert.KNormBwd.nD → PrngReg), Pre_KNormBwd m →
    θ_run (Cert.KNormBwd.defs (F := Bits)) (onTc (τ := Cert.KNormBwd.τ) (Cert.KNormBwd.main (F := Bits))) ⟨m, fun _ => 0, g⟩ (fun r => (∀ c : Dev Cert.KNormBwd.nD,
      r.2.mem ((c.tc : Thread Cert.KNormBwd.nD Cert.KNormBwd.τ).loc Cert.KNormBwd.main_arg0) = m ((c.tc : Thread Cert.KNormBwd.nD Cert.KNormBwd.τ).loc Cert.KNormBwd.main_arg0)
      ∧ r.2.mem ((c.tc : Thread Cert.KNormBwd.nD Cert.KNormBwd.τ).loc Cert.KNormBwd.main_arg1) = m ((c.tc : Thread Cert.KNormBwd.nD Cert.KNormBwd.τ).loc Cert.KNormBwd.main_arg1)
      ∧ r.2.mem ((c.tc : Thread Cert.KNormBwd.nD Cert.KNormBwd.τ).loc Cert.KNormBwd.main_arg2) = m ((c.tc : Thread Cert.KNormBwd.nD Cert.KNormBwd.τ).loc Cert.KNormBwd.main_arg2)
      ∧ r.2.mem ((c.tc : Thread Cert.KNormBwd.nD Cert.KNormBwd.τ).loc Cert.KNormBwd.main_arg3) = m ((c.tc : Thread Cert.KNormBwd.nD Cert.KNormBwd.τ).loc Cert.KNormBwd.main_arg3)
      ∧ r.2.mem ((c.tc : Thread Cert.KNormBwd.nD Cert.KNormBwd.τ).loc Cert.KNormBwd.main_arg4) = m ((c.tc : Thread Cert.KNormBwd.nD Cert.KNormBwd.τ).loc Cert.KNormBwd.main_arg4))
      ∧ r.2.sem = fun _ => 0)

def quiescent_KNormBwdIdeal [hKNormBwdIdeal : Cert.KNormBwdIdeal.Facts] : Prop :=
  ∀ (m : (ℓ : Loc Cert.KNormBwdIdeal.nD Cert.KNormBwdIdeal.τ Cert.KNormBwdIdeal.sig) → Buf (Elt Ideal) ℓ) (g : Dev Cert.KNormBwdIdeal.nD → PrngReg), Pre_KNormBwdIdeal m →
    θ_run (Cert.KNormBwdIdeal.defs (F := Ideal)) (onTc (τ := Cert.KNormBwdIdeal.τ) (Cert.KNormBwdIdeal.main (F := Ideal))) ⟨m, fun _ => 0, g⟩ (fun r => (∀ c : Dev Cert.KNormBwdIdeal.nD,
      r.2.mem ((c.tc : Thread Cert.KNormBwdIdeal.nD Cert.KNormBwdIdeal.τ).loc Cert.KNormBwdIdeal.main_arg0) = m ((c.tc : Thread Cert.KNormBwdIdeal.nD Cert.KNormBwdIdeal.τ).loc Cert.KNormBwdIdeal.main_arg0)
      ∧ r.2.mem ((c.tc : Thread Cert.KNormBwdIdeal.nD Cert.KNormBwdIdeal.τ).loc Cert.KNormBwdIdeal.main_arg1) = m ((c.tc : Thread Cert.KNormBwdIdeal.nD Cert.KNormBwdIdeal.τ).loc Cert.KNormBwdIdeal.main_arg1)
      ∧ r.2.mem ((c.tc : Thread Cert.KNormBwdIdeal.nD Cert.KNormBwdIdeal.τ).loc Cert.KNormBwdIdeal.main_arg2) = m ((c.tc : Thread Cert.KNormBwdIdeal.nD Cert.KNormBwdIdeal.τ).loc Cert.KNormBwdIdeal.main_arg2)
      ∧ r.2.mem ((c.tc : Thread Cert.KNormBwdIdeal.nD Cert.KNormBwdIdeal.τ).loc Cert.KNormBwdIdeal.main_arg3) = m ((c.tc : Thread Cert.KNormBwdIdeal.nD Cert.KNormBwdIdeal.τ).loc Cert.KNormBwdIdeal.main_arg3)
      ∧ r.2.mem ((c.tc : Thread Cert.KNormBwdIdeal.nD Cert.KNormBwdIdeal.τ).loc Cert.KNormBwdIdeal.main_arg4) = m ((c.tc : Thread Cert.KNormBwdIdeal.nD Cert.KNormBwdIdeal.τ).loc Cert.KNormBwdIdeal.main_arg4))
      ∧ r.2.sem = fun _ => 0)

def quiescent_KNormBwdRefIdeal [hKNormBwdRefIdeal : Cert.KNormBwdRefIdeal.Facts] : Prop :=
  ∀ (m : (ℓ : Loc Cert.KNormBwdRefIdeal.nD Cert.KNormBwdRefIdeal.τ Cert.KNormBwdRefIdeal.sig) → Buf (Elt Ideal) ℓ) (g : Dev Cert.KNormBwdRefIdeal.nD → PrngReg), Pre_KNormBwdRefIdeal m →
    θ_run (Cert.KNormBwdRefIdeal.defs (F := Ideal)) (onTc (τ := Cert.KNormBwdRefIdeal.τ) (Cert.KNormBwdRefIdeal.main (F := Ideal))) ⟨m, fun _ => 0, g⟩ (fun r => (∀ c : Dev Cert.KNormBwdRefIdeal.nD,
      r.2.mem ((c.tc : Thread Cert.KNormBwdRefIdeal.nD Cert.KNormBwdRefIdeal.τ).loc Cert.KNormBwdRefIdeal.main_arg0) = m ((c.tc : Thread Cert.KNormBwdRefIdeal.nD Cert.KNormBwdRefIdeal.τ).loc Cert.KNormBwdRefIdeal.main_arg0)
      ∧ r.2.mem ((c.tc : Thread Cert.KNormBwdRefIdeal.nD Cert.KNormBwdRefIdeal.τ).loc Cert.KNormBwdRefIdeal.main_arg1) = m ((c.tc : Thread Cert.KNormBwdRefIdeal.nD Cert.KNormBwdRefIdeal.τ).loc Cert.KNormBwdRefIdeal.main_arg1)
      ∧ r.2.mem ((c.tc : Thread Cert.KNormBwdRefIdeal.nD Cert.KNormBwdRefIdeal.τ).loc Cert.KNormBwdRefIdeal.main_arg2) = m ((c.tc : Thread Cert.KNormBwdRefIdeal.nD Cert.KNormBwdRefIdeal.τ).loc Cert.KNormBwdRefIdeal.main_arg2)
      ∧ r.2.mem ((c.tc : Thread Cert.KNormBwdRefIdeal.nD Cert.KNormBwdRefIdeal.τ).loc Cert.KNormBwdRefIdeal.main_arg3) = m ((c.tc : Thread Cert.KNormBwdRefIdeal.nD Cert.KNormBwdRefIdeal.τ).loc Cert.KNormBwdRefIdeal.main_arg3)
      ∧ r.2.mem ((c.tc : Thread Cert.KNormBwdRefIdeal.nD Cert.KNormBwdRefIdeal.τ).loc Cert.KNormBwdRefIdeal.main_arg4) = m ((c.tc : Thread Cert.KNormBwdRefIdeal.nD Cert.KNormBwdRefIdeal.τ).loc Cert.KNormBwdRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_saved [hKernelIdeal : Cert.KernelIdeal.Facts] [hReferenceIdeal : Cert.ReferenceIdeal.Facts] [hPre_saved : Cert.Pre_saved.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_saved m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_2)) (v2 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_v0_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v14) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v5) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)) →
    ∃ (v0 : (c : Dev Cert.GluFwdIdeal.nD) → Buf (Elt Ideal) ((c.tc : Thread Cert.GluFwdIdeal.nD Cert.GluFwdIdeal.τ).loc Cert.GluFwdIdeal.main_v0_0)) (v1 : (c : Dev Cert.GluFwdIdeal.nD) → Buf (Elt Ideal) ((c.tc : Thread Cert.GluFwdIdeal.nD Cert.GluFwdIdeal.τ).loc Cert.GluFwdIdeal.main_v0_1)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0_0) = v0 c
          ∧ r.2.mem ((c.tc : Thread Cert.GluFwdIdeal.nD Cert.GluFwdIdeal.τ).loc Cert.GluFwdIdeal.main_v0_1) = v1 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v12) = v0 c
          ∧ r.2.mem ((c.tc : Thread Cert.GluFwdRefIdeal.nD Cert.GluFwdRefIdeal.τ).loc Cert.GluFwdRefIdeal.main_v5) = v1 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v2) = v0 c
          ∧ r.2.mem ((c.tc : Thread Cert.UpFwdRefIdeal.nD Cert.UpFwdRefIdeal.τ).loc Cert.UpFwdRefIdeal.main_v5) = v1 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v3) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_GluDz_GluDzIdeal : Prop :=
  True

def algebraic_GluDzIdeal_GluDzRefIdeal [hGluDzIdeal : Cert.GluDzIdeal.Facts] [hGluDzRefIdeal : Cert.GluDzRefIdeal.Facts] : Prop :=
  ∀ (m : (ℓ : Loc Cert.GluDzIdeal.nD Cert.GluDzIdeal.τ Cert.GluDzIdeal.sig) → Buf (Elt Ideal) ℓ) (g : Dev Cert.GluDzIdeal.nD → PrngReg)
    (m' : (ℓ : Loc Cert.GluDzRefIdeal.nD Cert.GluDzRefIdeal.τ Cert.GluDzRefIdeal.sig) → Buf (Elt Ideal) ℓ) (g' : Dev Cert.GluDzRefIdeal.nD → PrngReg), Pre_GluDzIdeal m →
    (∀ c : Dev Cert.GluDzIdeal.nD,
      m' ((c.tc : Thread Cert.GluDzRefIdeal.nD Cert.GluDzRefIdeal.τ).loc Cert.GluDzRefIdeal.main_arg0) = m ((c.tc : Thread Cert.GluDzIdeal.nD Cert.GluDzIdeal.τ).loc Cert.GluDzIdeal.main_arg0)
      ∧ m' ((c.tc : Thread Cert.GluDzRefIdeal.nD Cert.GluDzRefIdeal.τ).loc Cert.GluDzRefIdeal.main_arg1) = m ((c.tc : Thread Cert.GluDzIdeal.nD Cert.GluDzIdeal.τ).loc Cert.GluDzIdeal.main_arg1)
      ∧ m' ((c.tc : Thread Cert.GluDzRefIdeal.nD Cert.GluDzRefIdeal.τ).loc Cert.GluDzRefIdeal.main_arg2) = m ((c.tc : Thread Cert.GluDzIdeal.nD Cert.GluDzIdeal.τ).loc Cert.GluDzIdeal.main_arg2)) →
    ∃ (v0 : (c : Dev Cert.GluDzIdeal.nD) → Buf (Elt Ideal) ((c.tc : Thread Cert.GluDzIdeal.nD Cert.GluDzIdeal.τ).loc Cert.GluDzIdeal.main_v0_0)) (v1 : (c : Dev Cert.GluDzIdeal.nD) → Buf (Elt Ideal) ((c.tc : Thread Cert.GluDzIdeal.nD Cert.GluDzIdeal.τ).loc Cert.GluDzIdeal.main_v0_1)),
      θ_run (Cert.GluDzIdeal.defs (F := Ideal)) (onTc (τ := Cert.GluDzIdeal.τ) (Cert.GluDzIdeal.main (F := Ideal))) ⟨m, fun _ => 0, g⟩ (fun r => ∀ c : Dev Cert.GluDzIdeal.nD,
          r.2.mem ((c.tc : Thread Cert.GluDzIdeal.nD Cert.GluDzIdeal.τ).loc Cert.GluDzIdeal.main_v0_0) = v0 c
          ∧ r.2.mem ((c.tc : Thread Cert.GluDzIdeal.nD Cert.GluDzIdeal.τ).loc Cert.GluDzIdeal.main_v0_1) = v1 c
          ∧ r.2.mem ((c.tc : Thread Cert.GluDzIdeal.nD Cert.GluDzIdeal.τ).loc Cert.GluDzIdeal.main_arg0) = m ((c.tc : Thread Cert.GluDzIdeal.nD Cert.GluDzIdeal.τ).loc Cert.GluDzIdeal.main_arg0)
          ∧ r.2.mem ((c.tc : Thread Cert.GluDzIdeal.nD Cert.GluDzIdeal.τ).loc Cert.GluDzIdeal.main_arg1) = m ((c.tc : Thread Cert.GluDzIdeal.nD Cert.GluDzIdeal.τ).loc Cert.GluDzIdeal.main_arg1)
          ∧ r.2.mem ((c.tc : Thread Cert.GluDzIdeal.nD Cert.GluDzIdeal.τ).loc Cert.GluDzIdeal.main_arg2) = m ((c.tc : Thread Cert.GluDzIdeal.nD Cert.GluDzIdeal.τ).loc Cert.GluDzIdeal.main_arg2))
      ∧ θ_run (Cert.GluDzRefIdeal.defs (F := Ideal)) (onTc (τ := Cert.GluDzRefIdeal.τ) (Cert.GluDzRefIdeal.main (F := Ideal))) ⟨m', fun _ => 0, g'⟩ (fun r => ∀ c : Dev Cert.GluDzRefIdeal.nD,
          r.2.mem ((c.tc : Thread Cert.GluDzRefIdeal.nD Cert.GluDzRefIdeal.τ).loc Cert.GluDzRefIdeal.main_v21) = v0 c
          ∧ r.2.mem ((c.tc : Thread Cert.GluDzRefIdeal.nD Cert.GluDzRefIdeal.τ).loc Cert.GluDzRefIdeal.main_v20) = v1 c
          ∧ r.2.mem ((c.tc : Thread Cert.GluDzRefIdeal.nD Cert.GluDzRefIdeal.τ).loc Cert.GluDzRefIdeal.main_arg0) = m' ((c.tc : Thread Cert.GluDzRefIdeal.nD Cert.GluDzRefIdeal.τ).loc Cert.GluDzRefIdeal.main_arg0)
          ∧ r.2.mem ((c.tc : Thread Cert.GluDzRefIdeal.nD Cert.GluDzRefIdeal.τ).loc Cert.GluDzRefIdeal.main_arg1) = m' ((c.tc : Thread Cert.GluDzRefIdeal.nD Cert.GluDzRefIdeal.τ).loc Cert.GluDzRefIdeal.main_arg1)
          ∧ r.2.mem ((c.tc : Thread Cert.GluDzRefIdeal.nD Cert.GluDzRefIdeal.τ).loc Cert.GluDzRefIdeal.main_arg2) = m' ((c.tc : Thread Cert.GluDzRefIdeal.nD Cert.GluDzRefIdeal.τ).loc Cert.GluDzRefIdeal.main_arg2))

def preserves_GluDx_GluDxIdeal : Prop :=
  IdealRules.named_const.Statement Cert.GluDxIdeal.κ "gelu" .f32 0x3D372713#32 ((8943 / 200000 : ℝ) : EReal)
  ∧ IdealRules.named_const.Statement Cert.GluDxIdeal.κ "gelu3" .f32 0x3E095D4F#32 ((26829 / 200000 : ℝ) : EReal)

def algebraic_GluDxIdeal_GluDxRefIdeal_pre_finite_glu [hGluDxIdeal : Cert.GluDxIdeal.Facts] [hGluDxRefIdeal : Cert.GluDxRefIdeal.Facts] [hPre_finite_glu : Cert.Pre_finite_glu.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal_finite_glu m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)
      ∧ m' ((c.tc : Thread Cert.GluDxRefIdeal.nD Cert.GluDxRefIdeal.τ).loc Cert.GluDxRefIdeal.main_arg2) = m ((c.tc : Thread Cert.GluDxIdeal.nD Cert.GluDxIdeal.τ).loc Cert.GluDxIdeal.main_arg2)
      ∧ m' ((c.tc : Thread Cert.GluDxRefIdeal.nD Cert.GluDxRefIdeal.τ).loc Cert.GluDxRefIdeal.main_arg3) = m ((c.tc : Thread Cert.GluDxIdeal.nD Cert.GluDxIdeal.τ).loc Cert.GluDxIdeal.main_arg3)
      ∧ m' ((c.tc : Thread Cert.GluDxRefIdeal.nD Cert.GluDxRefIdeal.τ).loc Cert.GluDxRefIdeal.main_arg4) = m ((c.tc : Thread Cert.GluDxIdeal.nD Cert.GluDxIdeal.τ).loc Cert.GluDxIdeal.main_arg4)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
          ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2)
          ∧ r.2.mem ((c.tc : Thread Cert.GluDxIdeal.nD Cert.GluDxIdeal.τ).loc Cert.GluDxIdeal.main_arg3) = m ((c.tc : Thread Cert.GluDxIdeal.nD Cert.GluDxIdeal.τ).loc Cert.GluDxIdeal.main_arg3)
          ∧ r.2.mem ((c.tc : Thread Cert.GluDxIdeal.nD Cert.GluDxIdeal.τ).loc Cert.GluDxIdeal.main_arg4) = m ((c.tc : Thread Cert.GluDxIdeal.nD Cert.GluDxIdeal.τ).loc Cert.GluDxIdeal.main_arg4))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v46) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1)
          ∧ r.2.mem ((c.tc : Thread Cert.GluDxRefIdeal.nD Cert.GluDxRefIdeal.τ).loc Cert.GluDxRefIdeal.main_arg2) = m' ((c.tc : Thread Cert.GluDxRefIdeal.nD Cert.GluDxRefIdeal.τ).loc Cert.GluDxRefIdeal.main_arg2)
          ∧ r.2.mem ((c.tc : Thread Cert.GluDxRefIdeal.nD Cert.GluDxRefIdeal.τ).loc Cert.GluDxRefIdeal.main_arg3) = m' ((c.tc : Thread Cert.GluDxRefIdeal.nD Cert.GluDxRefIdeal.τ).loc Cert.GluDxRefIdeal.main_arg3)
          ∧ r.2.mem ((c.tc : Thread Cert.GluDxRefIdeal.nD Cert.GluDxRefIdeal.τ).loc Cert.GluDxRefIdeal.main_arg4) = m' ((c.tc : Thread Cert.GluDxRefIdeal.nD Cert.GluDxRefIdeal.τ).loc Cert.GluDxRefIdeal.main_arg4))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v38) = v1 c
          ∧ r.2.mem ((c.tc : Thread Cert.NormBwdRefIdeal.nD Cert.NormBwdRefIdeal.τ).loc Cert.NormBwdRefIdeal.main_v39) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_HeadsBwd_HeadsBwdIdeal : Prop :=
  True

def algebraic_HeadsBwdIdeal_HeadsBwdRefIdeal [hHeadsBwdIdeal : Cert.HeadsBwdIdeal.Facts] [hHeadsBwdRefIdeal : Cert.HeadsBwdRefIdeal.Facts] : Prop :=
  ∀ (m : (ℓ : Loc Cert.HeadsBwdIdeal.nD Cert.HeadsBwdIdeal.τ Cert.HeadsBwdIdeal.sig) → Buf (Elt Ideal) ℓ) (g : Dev Cert.HeadsBwdIdeal.nD → PrngReg)
    (m' : (ℓ : Loc Cert.HeadsBwdRefIdeal.nD Cert.HeadsBwdRefIdeal.τ Cert.HeadsBwdRefIdeal.sig) → Buf (Elt Ideal) ℓ) (g' : Dev Cert.HeadsBwdRefIdeal.nD → PrngReg), Pre_HeadsBwdIdeal m →
    (∀ c : Dev Cert.HeadsBwdIdeal.nD,
      m' ((c.tc : Thread Cert.HeadsBwdRefIdeal.nD Cert.HeadsBwdRefIdeal.τ).loc Cert.HeadsBwdRefIdeal.main_arg0) = m ((c.tc : Thread Cert.HeadsBwdIdeal.nD Cert.HeadsBwdIdeal.τ).loc Cert.HeadsBwdIdeal.main_arg0)
      ∧ m' ((c.tc : Thread Cert.HeadsBwdRefIdeal.nD Cert.HeadsBwdRefIdeal.τ).loc Cert.HeadsBwdRefIdeal.main_arg1) = m ((c.tc : Thread Cert.HeadsBwdIdeal.nD Cert.HeadsBwdIdeal.τ).loc Cert.HeadsBwdIdeal.main_arg1)
      ∧ m' ((c.tc : Thread Cert.HeadsBwdRefIdeal.nD Cert.HeadsBwdRefIdeal.τ).loc Cert.HeadsBwdRefIdeal.main_arg2) = m ((c.tc : Thread Cert.HeadsBwdIdeal.nD Cert.HeadsBwdIdeal.τ).loc Cert.HeadsBwdIdeal.main_arg2)
      ∧ m' ((c.tc : Thread Cert.HeadsBwdRefIdeal.nD Cert.HeadsBwdRefIdeal.τ).loc Cert.HeadsBwdRefIdeal.main_arg3) = m ((c.tc : Thread Cert.HeadsBwdIdeal.nD Cert.HeadsBwdIdeal.τ).loc Cert.HeadsBwdIdeal.main_arg3)
      ∧ m' ((c.tc : Thread Cert.HeadsBwdRefIdeal.nD Cert.HeadsBwdRefIdeal.τ).loc Cert.HeadsBwdRefIdeal.main_arg4) = m ((c.tc : Thread Cert.HeadsBwdIdeal.nD Cert.HeadsBwdIdeal.τ).loc Cert.HeadsBwdIdeal.main_arg4)) →
    ∃ (v0 : (c : Dev Cert.HeadsBwdIdeal.nD) → Buf (Elt Ideal) ((c.tc : Thread Cert.HeadsBwdIdeal.nD Cert.HeadsBwdIdeal.τ).loc Cert.HeadsBwdIdeal.main_v0_0)) (v1 : (c : Dev Cert.HeadsBwdIdeal.nD) → Buf (Elt Ideal) ((c.tc : Thread Cert.HeadsBwdIdeal.nD Cert.HeadsBwdIdeal.τ).loc Cert.HeadsBwdIdeal.main_v0_1)) (v2 : (c : Dev Cert.HeadsBwdIdeal.nD) → Buf (Elt Ideal) ((c.tc : Thread Cert.HeadsBwdIdeal.nD Cert.HeadsBwdIdeal.τ).loc Cert.HeadsBwdIdeal.main_v0_2)) (v3 : (c : Dev Cert.HeadsBwdIdeal.nD) → Buf (Elt Ideal) ((c.tc : Thread Cert.HeadsBwdIdeal.nD Cert.HeadsBwdIdeal.τ).loc Cert.HeadsBwdIdeal.main_v0_3)),
      θ_run (Cert.HeadsBwdIdeal.defs (F := Ideal)) (onTc (τ := Cert.HeadsBwdIdeal.τ) (Cert.HeadsBwdIdeal.main (F := Ideal))) ⟨m, fun _ => 0, g⟩ (fun r => ∀ c : Dev Cert.HeadsBwdIdeal.nD,
          r.2.mem ((c.tc : Thread Cert.HeadsBwdIdeal.nD Cert.HeadsBwdIdeal.τ).loc Cert.HeadsBwdIdeal.main_v0_0) = v0 c
          ∧ r.2.mem ((c.tc : Thread Cert.HeadsBwdIdeal.nD Cert.HeadsBwdIdeal.τ).loc Cert.HeadsBwdIdeal.main_v0_1) = v1 c
          ∧ r.2.mem ((c.tc : Thread Cert.HeadsBwdIdeal.nD Cert.HeadsBwdIdeal.τ).loc Cert.HeadsBwdIdeal.main_v0_2) = v2 c
          ∧ r.2.mem ((c.tc : Thread Cert.HeadsBwdIdeal.nD Cert.HeadsBwdIdeal.τ).loc Cert.HeadsBwdIdeal.main_v0_3) = v3 c
          ∧ r.2.mem ((c.tc : Thread Cert.HeadsBwdIdeal.nD Cert.HeadsBwdIdeal.τ).loc Cert.HeadsBwdIdeal.main_arg0) = m ((c.tc : Thread Cert.HeadsBwdIdeal.nD Cert.HeadsBwdIdeal.τ).loc Cert.HeadsBwdIdeal.main_arg0)
          ∧ r.2.mem ((c.tc : Thread Cert.HeadsBwdIdeal.nD Cert.HeadsBwdIdeal.τ).loc Cert.HeadsBwdIdeal.main_arg1) = m ((c.tc : Thread Cert.HeadsBwdIdeal.nD Cert.HeadsBwdIdeal.τ).loc Cert.HeadsBwdIdeal.main_arg1)
          ∧ r.2.mem ((c.tc : Thread Cert.HeadsBwdIdeal.nD Cert.HeadsBwdIdeal.τ).loc Cert.HeadsBwdIdeal.main_arg2) = m ((c.tc : Thread Cert.HeadsBwdIdeal.nD Cert.HeadsBwdIdeal.τ).loc Cert.HeadsBwdIdeal.main_arg2)
          ∧ r.2.mem ((c.tc : Thread Cert.HeadsBwdIdeal.nD Cert.HeadsBwdIdeal.τ).loc Cert.HeadsBwdIdeal.main_arg3) = m ((c.tc : Thread Cert.HeadsBwdIdeal.nD Cert.HeadsBwdIdeal.τ).loc Cert.HeadsBwdIdeal.main_arg3)
          ∧ r.2.mem ((c.tc : Thread Cert.HeadsBwdIdeal.nD Cert.HeadsBwdIdeal.τ).loc Cert.HeadsBwdIdeal.main_arg4) = m ((c.tc : Thread Cert.HeadsBwdIdeal.nD Cert.HeadsBwdIdeal.τ).loc Cert.HeadsBwdIdeal.main_arg4))
      ∧ θ_run (Cert.HeadsBwdRefIdeal.defs (F := Ideal)) (onTc (τ := Cert.HeadsBwdRefIdeal.τ) (Cert.HeadsBwdRefIdeal.main (F := Ideal))) ⟨m', fun _ => 0, g'⟩ (fun r => ∀ c : Dev Cert.HeadsBwdRefIdeal.nD,
          r.2.mem ((c.tc : Thread Cert.HeadsBwdRefIdeal.nD Cert.HeadsBwdRefIdeal.τ).loc Cert.HeadsBwdRefIdeal.main_v77) = v0 c
          ∧ r.2.mem ((c.tc : Thread Cert.HeadsBwdRefIdeal.nD Cert.HeadsBwdRefIdeal.τ).loc Cert.HeadsBwdRefIdeal.main_v56) = v1 c
          ∧ r.2.mem ((c.tc : Thread Cert.HeadsBwdRefIdeal.nD Cert.HeadsBwdRefIdeal.τ).loc Cert.HeadsBwdRefIdeal.main_v78) = v2 c
          ∧ r.2.mem ((c.tc : Thread Cert.HeadsBwdRefIdeal.nD Cert.HeadsBwdRefIdeal.τ).loc Cert.HeadsBwdRefIdeal.main_v57) = v3 c
          ∧ r.2.mem ((c.tc : Thread Cert.HeadsBwdRefIdeal.nD Cert.HeadsBwdRefIdeal.τ).loc Cert.HeadsBwdRefIdeal.main_arg0) = m' ((c.tc : Thread Cert.HeadsBwdRefIdeal.nD Cert.HeadsBwdRefIdeal.τ).loc Cert.HeadsBwdRefIdeal.main_arg0)
          ∧ r.2.mem ((c.tc : Thread Cert.HeadsBwdRefIdeal.nD Cert.HeadsBwdRefIdeal.τ).loc Cert.HeadsBwdRefIdeal.main_arg1) = m' ((c.tc : Thread Cert.HeadsBwdRefIdeal.nD Cert.HeadsBwdRefIdeal.τ).loc Cert.HeadsBwdRefIdeal.main_arg1)
          ∧ r.2.mem ((c.tc : Thread Cert.HeadsBwdRefIdeal.nD Cert.HeadsBwdRefIdeal.τ).loc Cert.HeadsBwdRefIdeal.main_arg2) = m' ((c.tc : Thread Cert.HeadsBwdRefIdeal.nD Cert.HeadsBwdRefIdeal.τ).loc Cert.HeadsBwdRefIdeal.main_arg2)
          ∧ r.2.mem ((c.tc : Thread Cert.HeadsBwdRefIdeal.nD Cert.HeadsBwdRefIdeal.τ).loc Cert.HeadsBwdRefIdeal.main_arg3) = m' ((c.tc : Thread Cert.HeadsBwdRefIdeal.nD Cert.HeadsBwdRefIdeal.τ).loc Cert.HeadsBwdRefIdeal.main_arg3)
          ∧ r.2.mem ((c.tc : Thread Cert.HeadsBwdRefIdeal.nD Cert.HeadsBwdRefIdeal.τ).loc Cert.HeadsBwdRefIdeal.main_arg4) = m' ((c.tc : Thread Cert.HeadsBwdRefIdeal.nD Cert.HeadsBwdRefIdeal.τ).loc Cert.HeadsBwdRefIdeal.main_arg4))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_HeadsFwd_HeadsFwdIdeal : Prop :=
  True

def algebraic_HeadsFwdIdeal_HeadsFwdRefIdeal [hHeadsFwdIdeal : Cert.HeadsFwdIdeal.Facts] [hHeadsFwdRefIdeal : Cert.HeadsFwdRefIdeal.Facts] : Prop :=
  ∀ (m : (ℓ : Loc Cert.HeadsFwdIdeal.nD Cert.HeadsFwdIdeal.τ Cert.HeadsFwdIdeal.sig) → Buf (Elt Ideal) ℓ) (g : Dev Cert.HeadsFwdIdeal.nD → PrngReg)
    (m' : (ℓ : Loc Cert.HeadsFwdRefIdeal.nD Cert.HeadsFwdRefIdeal.τ Cert.HeadsFwdRefIdeal.sig) → Buf (Elt Ideal) ℓ) (g' : Dev Cert.HeadsFwdRefIdeal.nD → PrngReg), Pre_HeadsFwdIdeal m →
    (∀ c : Dev Cert.HeadsFwdIdeal.nD,
      m' ((c.tc : Thread Cert.HeadsFwdRefIdeal.nD Cert.HeadsFwdRefIdeal.τ).loc Cert.HeadsFwdRefIdeal.main_arg0) = m ((c.tc : Thread Cert.HeadsFwdIdeal.nD Cert.HeadsFwdIdeal.τ).loc Cert.HeadsFwdIdeal.main_arg0)
      ∧ m' ((c.tc : Thread Cert.HeadsFwdRefIdeal.nD Cert.HeadsFwdRefIdeal.τ).loc Cert.HeadsFwdRefIdeal.main_arg1) = m ((c.tc : Thread Cert.HeadsFwdIdeal.nD Cert.HeadsFwdIdeal.τ).loc Cert.HeadsFwdIdeal.main_arg1)
      ∧ m' ((c.tc : Thread Cert.HeadsFwdRefIdeal.nD Cert.HeadsFwdRefIdeal.τ).loc Cert.HeadsFwdRefIdeal.main_arg2) = m ((c.tc : Thread Cert.HeadsFwdIdeal.nD Cert.HeadsFwdIdeal.τ).loc Cert.HeadsFwdIdeal.main_arg2)
      ∧ m' ((c.tc : Thread Cert.HeadsFwdRefIdeal.nD Cert.HeadsFwdRefIdeal.τ).loc Cert.HeadsFwdRefIdeal.main_arg3) = m ((c.tc : Thread Cert.HeadsFwdIdeal.nD Cert.HeadsFwdIdeal.τ).loc Cert.HeadsFwdIdeal.main_arg3)) →
    ∃ (v0 : (c : Dev Cert.HeadsFwdIdeal.nD) → Buf (Elt Ideal) ((c.tc : Thread Cert.HeadsFwdIdeal.nD Cert.HeadsFwdIdeal.τ).loc Cert.HeadsFwdIdeal.main_v0)),
      θ_run (Cert.HeadsFwdIdeal.defs (F := Ideal)) (onTc (τ := Cert.HeadsFwdIdeal.τ) (Cert.HeadsFwdIdeal.main (F := Ideal))) ⟨m, fun _ => 0, g⟩ (fun r => ∀ c : Dev Cert.HeadsFwdIdeal.nD,
          r.2.mem ((c.tc : Thread Cert.HeadsFwdIdeal.nD Cert.HeadsFwdIdeal.τ).loc Cert.HeadsFwdIdeal.main_v0) = v0 c
          ∧ r.2.mem ((c.tc : Thread Cert.HeadsFwdIdeal.nD Cert.HeadsFwdIdeal.τ).loc Cert.HeadsFwdIdeal.main_arg0) = m ((c.tc : Thread Cert.HeadsFwdIdeal.nD Cert.HeadsFwdIdeal.τ).loc Cert.HeadsFwdIdeal.main_arg0)
          ∧ r.2.mem ((c.tc : Thread Cert.HeadsFwdIdeal.nD Cert.HeadsFwdIdeal.τ).loc Cert.HeadsFwdIdeal.main_arg1) = m ((c.tc : Thread Cert.HeadsFwdIdeal.nD Cert.HeadsFwdIdeal.τ).loc Cert.HeadsFwdIdeal.main_arg1)
          ∧ r.2.mem ((c.tc : Thread Cert.HeadsFwdIdeal.nD Cert.HeadsFwdIdeal.τ).loc Cert.HeadsFwdIdeal.main_arg2) = m ((c.tc : Thread Cert.HeadsFwdIdeal.nD Cert.HeadsFwdIdeal.τ).loc Cert.HeadsFwdIdeal.main_arg2)
          ∧ r.2.mem ((c.tc : Thread Cert.HeadsFwdIdeal.nD Cert.HeadsFwdIdeal.τ).loc Cert.HeadsFwdIdeal.main_arg3) = m ((c.tc : Thread Cert.HeadsFwdIdeal.nD Cert.HeadsFwdIdeal.τ).loc Cert.HeadsFwdIdeal.main_arg3))
      ∧ θ_run (Cert.HeadsFwdRefIdeal.defs (F := Ideal)) (onTc (τ := Cert.HeadsFwdRefIdeal.τ) (Cert.HeadsFwdRefIdeal.main (F := Ideal))) ⟨m', fun _ => 0, g'⟩ (fun r => ∀ c : Dev Cert.HeadsFwdRefIdeal.nD,
          r.2.mem ((c.tc : Thread Cert.HeadsFwdRefIdeal.nD Cert.HeadsFwdRefIdeal.τ).loc Cert.HeadsFwdRefIdeal.main_v29) = v0 c
          ∧ r.2.mem ((c.tc : Thread Cert.HeadsFwdRefIdeal.nD Cert.HeadsFwdRefIdeal.τ).loc Cert.HeadsFwdRefIdeal.main_arg0) = m' ((c.tc : Thread Cert.HeadsFwdRefIdeal.nD Cert.HeadsFwdRefIdeal.τ).loc Cert.HeadsFwdRefIdeal.main_arg0)
          ∧ r.2.mem ((c.tc : Thread Cert.HeadsFwdRefIdeal.nD Cert.HeadsFwdRefIdeal.τ).loc Cert.HeadsFwdRefIdeal.main_arg1) = m' ((c.tc : Thread Cert.HeadsFwdRefIdeal.nD Cert.HeadsFwdRefIdeal.τ).loc Cert.HeadsFwdRefIdeal.main_arg1)
          ∧ r.2.mem ((c.tc : Thread Cert.HeadsFwdRefIdeal.nD Cert.HeadsFwdRefIdeal.τ).loc Cert.HeadsFwdRefIdeal.main_arg2) = m' ((c.tc : Thread Cert.HeadsFwdRefIdeal.nD Cert.HeadsFwdRefIdeal.τ).loc Cert.HeadsFwdRefIdeal.main_arg2)
          ∧ r.2.mem ((c.tc : Thread Cert.HeadsFwdRefIdeal.nD Cert.HeadsFwdRefIdeal.τ).loc Cert.HeadsFwdRefIdeal.main_arg3) = m' ((c.tc : Thread Cert.HeadsFwdRefIdeal.nD Cert.HeadsFwdRefIdeal.τ).loc Cert.HeadsFwdRefIdeal.main_arg3))

def preserves_AttnFwd_AttnFwdIdeal : Prop :=
  IdealRules.named_const.Statement Cert.AttnFwdIdeal.κ "mask" .f32 0xF149F2CA#32 ⊥

def algebraic_AttnFwdIdeal_AttnFwdRefIdeal_pre_finite_attn [hAttnFwdIdeal : Cert.AttnFwdIdeal.Facts] [hAttnFwdRefIdeal : Cert.AttnFwdRefIdeal.Facts] [hPre_finite_attn : Cert.Pre_finite_attn.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attn m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v102) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_2)) (v1 : (c : Dev Cert.LossHeadIdeal.nD) → Buf (Elt Ideal) ((c.tc : Thread Cert.LossHeadIdeal.nD Cert.LossHeadIdeal.τ).loc Cert.LossHeadIdeal.main_v0_0)) (v2 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_2) = v0 c
          ∧ r.2.mem ((c.tc : Thread Cert.LossHeadIdeal.nD Cert.LossHeadIdeal.τ).loc Cert.LossHeadIdeal.main_v0_0) = v1 c
          ∧ r.2.mem ((c.tc : Thread Cert.LossHeadIdeal.nD Cert.LossHeadIdeal.τ).loc Cert.LossHeadIdeal.main_v0_1) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v17) = v0 c
          ∧ r.2.mem ((c.tc : Thread Cert.LossHeadRefIdeal.nD Cert.LossHeadRefIdeal.τ).loc Cert.LossHeadRefIdeal.main_v16) = v1 c
          ∧ r.2.mem ((c.tc : Thread Cert.LossHeadRefIdeal.nD Cert.LossHeadRefIdeal.τ).loc Cert.LossHeadRefIdeal.main_v18) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_KNormBwd_KNormBwdIdeal : Prop :=
  True

def algebraic_KNormBwdIdeal_KNormBwdRefIdeal [hKNormBwdIdeal : Cert.KNormBwdIdeal.Facts] [hKNormBwdRefIdeal : Cert.KNormBwdRefIdeal.Facts] : Prop :=
  ∀ (m : (ℓ : Loc Cert.KNormBwdIdeal.nD Cert.KNormBwdIdeal.τ Cert.KNormBwdIdeal.sig) → Buf (Elt Ideal) ℓ) (g : Dev Cert.KNormBwdIdeal.nD → PrngReg)
    (m' : (ℓ : Loc Cert.KNormBwdRefIdeal.nD Cert.KNormBwdRefIdeal.τ Cert.KNormBwdRefIdeal.sig) → Buf (Elt Ideal) ℓ) (g' : Dev Cert.KNormBwdRefIdeal.nD → PrngReg), Pre_KNormBwdIdeal m →
    (∀ c : Dev Cert.KNormBwdIdeal.nD,
      m' ((c.tc : Thread Cert.KNormBwdRefIdeal.nD Cert.KNormBwdRefIdeal.τ).loc Cert.KNormBwdRefIdeal.main_arg0) = m ((c.tc : Thread Cert.KNormBwdIdeal.nD Cert.KNormBwdIdeal.τ).loc Cert.KNormBwdIdeal.main_arg0)
      ∧ m' ((c.tc : Thread Cert.KNormBwdRefIdeal.nD Cert.KNormBwdRefIdeal.τ).loc Cert.KNormBwdRefIdeal.main_arg1) = m ((c.tc : Thread Cert.KNormBwdIdeal.nD Cert.KNormBwdIdeal.τ).loc Cert.KNormBwdIdeal.main_arg1)
      ∧ m' ((c.tc : Thread Cert.KNormBwdRefIdeal.nD Cert.KNormBwdRefIdeal.τ).loc Cert.KNormBwdRefIdeal.main_arg2) = m ((c.tc : Thread Cert.KNormBwdIdeal.nD Cert.KNormBwdIdeal.τ).loc Cert.KNormBwdIdeal.main_arg2)
      ∧ m' ((c.tc : Thread Cert.KNormBwdRefIdeal.nD Cert.KNormBwdRefIdeal.τ).loc Cert.KNormBwdRefIdeal.main_arg3) = m ((c.tc : Thread Cert.KNormBwdIdeal.nD Cert.KNormBwdIdeal.τ).loc Cert.KNormBwdIdeal.main_arg3)
      ∧ m' ((c.tc : Thread Cert.KNormBwdRefIdeal.nD Cert.KNormBwdRefIdeal.τ).loc Cert.KNormBwdRefIdeal.main_arg4) = m ((c.tc : Thread Cert.KNormBwdIdeal.nD Cert.KNormBwdIdeal.τ).loc Cert.KNormBwdIdeal.main_arg4)) →
    ∃ (v0 : (c : Dev Cert.KNormBwdIdeal.nD) → Buf (Elt Ideal) ((c.tc : Thread Cert.KNormBwdIdeal.nD Cert.KNormBwdIdeal.τ).loc Cert.KNormBwdIdeal.main_v0_0)) (v1 : (c : Dev Cert.KNormBwdIdeal.nD) → Buf (Elt Ideal) ((c.tc : Thread Cert.KNormBwdIdeal.nD Cert.KNormBwdIdeal.τ).loc Cert.KNormBwdIdeal.main_v0_1)),
      θ_run (Cert.KNormBwdIdeal.defs (F := Ideal)) (onTc (τ := Cert.KNormBwdIdeal.τ) (Cert.KNormBwdIdeal.main (F := Ideal))) ⟨m, fun _ => 0, g⟩ (fun r => ∀ c : Dev Cert.KNormBwdIdeal.nD,
          r.2.mem ((c.tc : Thread Cert.KNormBwdIdeal.nD Cert.KNormBwdIdeal.τ).loc Cert.KNormBwdIdeal.main_v0_0) = v0 c
          ∧ r.2.mem ((c.tc : Thread Cert.KNormBwdIdeal.nD Cert.KNormBwdIdeal.τ).loc Cert.KNormBwdIdeal.main_v0_1) = v1 c
          ∧ r.2.mem ((c.tc : Thread Cert.KNormBwdIdeal.nD Cert.KNormBwdIdeal.τ).loc Cert.KNormBwdIdeal.main_arg0) = m ((c.tc : Thread Cert.KNormBwdIdeal.nD Cert.KNormBwdIdeal.τ).loc Cert.KNormBwdIdeal.main_arg0)
          ∧ r.2.mem ((c.tc : Thread Cert.KNormBwdIdeal.nD Cert.KNormBwdIdeal.τ).loc Cert.KNormBwdIdeal.main_arg1) = m ((c.tc : Thread Cert.KNormBwdIdeal.nD Cert.KNormBwdIdeal.τ).loc Cert.KNormBwdIdeal.main_arg1)
          ∧ r.2.mem ((c.tc : Thread Cert.KNormBwdIdeal.nD Cert.KNormBwdIdeal.τ).loc Cert.KNormBwdIdeal.main_arg2) = m ((c.tc : Thread Cert.KNormBwdIdeal.nD Cert.KNormBwdIdeal.τ).loc Cert.KNormBwdIdeal.main_arg2)
          ∧ r.2.mem ((c.tc : Thread Cert.KNormBwdIdeal.nD Cert.KNormBwdIdeal.τ).loc Cert.KNormBwdIdeal.main_arg3) = m ((c.tc : Thread Cert.KNormBwdIdeal.nD Cert.KNormBwdIdeal.τ).loc Cert.KNormBwdIdeal.main_arg3)
          ∧ r.2.mem ((c.tc : Thread Cert.KNormBwdIdeal.nD Cert.KNormBwdIdeal.τ).loc Cert.KNormBwdIdeal.main_arg4) = m ((c.tc : Thread Cert.KNormBwdIdeal.nD Cert.KNormBwdIdeal.τ).loc Cert.KNormBwdIdeal.main_arg4))
      ∧ θ_run (Cert.KNormBwdRefIdeal.defs (F := Ideal)) (onTc (τ := Cert.KNormBwdRefIdeal.τ) (Cert.KNormBwdRefIdeal.main (F := Ideal))) ⟨m', fun _ => 0, g'⟩ (fun r => ∀ c : Dev Cert.KNormBwdRefIdeal.nD,
          r.2.mem ((c.tc : Thread Cert.KNormBwdRefIdeal.nD Cert.KNormBwdRefIdeal.τ).loc Cert.KNormBwdRefIdeal.main_v46) = v0 c
          ∧ r.2.mem ((c.tc : Thread Cert.KNormBwdRefIdeal.nD Cert.KNormBwdRefIdeal.τ).loc Cert.KNormBwdRefIdeal.main_v40) = v1 c
          ∧ r.2.mem ((c.tc : Thread Cert.KNormBwdRefIdeal.nD Cert.KNormBwdRefIdeal.τ).loc Cert.KNormBwdRefIdeal.main_arg0) = m' ((c.tc : Thread Cert.KNormBwdRefIdeal.nD Cert.KNormBwdRefIdeal.τ).loc Cert.KNormBwdRefIdeal.main_arg0)
          ∧ r.2.mem ((c.tc : Thread Cert.KNormBwdRefIdeal.nD Cert.KNormBwdRefIdeal.τ).loc Cert.KNormBwdRefIdeal.main_arg1) = m' ((c.tc : Thread Cert.KNormBwdRefIdeal.nD Cert.KNormBwdRefIdeal.τ).loc Cert.KNormBwdRefIdeal.main_arg1)
          ∧ r.2.mem ((c.tc : Thread Cert.KNormBwdRefIdeal.nD Cert.KNormBwdRefIdeal.τ).loc Cert.KNormBwdRefIdeal.main_arg2) = m' ((c.tc : Thread Cert.KNormBwdRefIdeal.nD Cert.KNormBwdRefIdeal.τ).loc Cert.KNormBwdRefIdeal.main_arg2)
          ∧ r.2.mem ((c.tc : Thread Cert.KNormBwdRefIdeal.nD Cert.KNormBwdRefIdeal.τ).loc Cert.KNormBwdRefIdeal.main_arg3) = m' ((c.tc : Thread Cert.KNormBwdRefIdeal.nD Cert.KNormBwdRefIdeal.τ).loc Cert.KNormBwdRefIdeal.main_arg3)
          ∧ r.2.mem ((c.tc : Thread Cert.KNormBwdRefIdeal.nD Cert.KNormBwdRefIdeal.τ).loc Cert.KNormBwdRefIdeal.main_arg4) = m' ((c.tc : Thread Cert.KNormBwdRefIdeal.nD Cert.KNormBwdRefIdeal.τ).loc Cert.KNormBwdRefIdeal.main_arg4))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hGluDw : Cert.GluDw.Facts) (hGluDwIdeal : Cert.GluDwIdeal.Facts) (hGluDwRefIdeal : Cert.GluDwRefIdeal.Facts) (hInFwd : Cert.InFwd.Facts) (hInFwdIdeal : Cert.InFwdIdeal.Facts) (hInFwdRefIdeal : Cert.InFwdRefIdeal.Facts) (hGluFwd : Cert.GluFwd.Facts) (hGluFwdIdeal : Cert.GluFwdIdeal.Facts) (hGluFwdRefIdeal : Cert.GluFwdRefIdeal.Facts) (hOutFwd : Cert.OutFwd.Facts) (hOutFwdIdeal : Cert.OutFwdIdeal.Facts) (hOutFwdRefIdeal : Cert.OutFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hGluDz : Cert.GluDz.Facts) (hGluDzIdeal : Cert.GluDzIdeal.Facts) (hGluDzRefIdeal : Cert.GluDzRefIdeal.Facts) (hGluDx : Cert.GluDx.Facts) (hGluDxIdeal : Cert.GluDxIdeal.Facts) (hGluDxRefIdeal : Cert.GluDxRefIdeal.Facts) (hNormBwd : Cert.NormBwd.Facts) (hNormBwdIdeal : Cert.NormBwdIdeal.Facts) (hNormBwdRefIdeal : Cert.NormBwdRefIdeal.Facts) (hHeadsBwd : Cert.HeadsBwd.Facts) (hHeadsBwdIdeal : Cert.HeadsBwdIdeal.Facts) (hHeadsBwdRefIdeal : Cert.HeadsBwdRefIdeal.Facts) (hNormFwd : Cert.NormFwd.Facts) (hNormFwdIdeal : Cert.NormFwdIdeal.Facts) (hNormFwdRefIdeal : Cert.NormFwdRefIdeal.Facts) (hHeadsFwd : Cert.HeadsFwd.Facts) (hHeadsFwdIdeal : Cert.HeadsFwdIdeal.Facts) (hHeadsFwdRefIdeal : Cert.HeadsFwdRefIdeal.Facts) (hAttnFwd : Cert.AttnFwd.Facts) (hAttnFwdIdeal : Cert.AttnFwdIdeal.Facts) (hAttnFwdRefIdeal : Cert.AttnFwdRefIdeal.Facts) (hLossHead : Cert.LossHead.Facts) (hLossHeadIdeal : Cert.LossHeadIdeal.Facts) (hLossHeadRefIdeal : Cert.LossHeadRefIdeal.Facts) (hKNormBwd : Cert.KNormBwd.Facts) (hKNormBwdIdeal : Cert.KNormBwdIdeal.Facts) (hKNormBwdRefIdeal : Cert.KNormBwdRefIdeal.Facts) (hPre_saved : Cert.Pre_saved.Facts) (hPre_finite_glu : Cert.Pre_finite_glu.Facts) (hPre_finite_attn : Cert.Pre_finite_attn.Facts),
    quiescent_Kernel (hKernel := hKernel)
    ∧ quiescent_KernelIdeal (hKernelIdeal := hKernelIdeal)
    ∧ quiescent_KernelIdeal_pre_saved (hKernelIdeal := hKernelIdeal) (hPre_saved := hPre_saved)
    ∧ quiescent_ReferenceIdeal (hReferenceIdeal := hReferenceIdeal)
    ∧ quiescent_ReferenceIdeal_pre_saved (hReferenceIdeal := hReferenceIdeal) (hPre_saved := hPre_saved)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_GluDz (hGluDz := hGluDz)
    ∧ quiescent_GluDzIdeal (hGluDzIdeal := hGluDzIdeal)
    ∧ quiescent_GluDzRefIdeal (hGluDzRefIdeal := hGluDzRefIdeal)
    ∧ quiescent_GluDx (hGluDx := hGluDx)
    ∧ quiescent_GluDxIdeal (hGluDxIdeal := hGluDxIdeal)
    ∧ quiescent_GluDxIdeal_pre_finite_glu (hGluDxIdeal := hGluDxIdeal) (hPre_finite_glu := hPre_finite_glu)
    ∧ quiescent_GluDxRefIdeal (hGluDxRefIdeal := hGluDxRefIdeal)
    ∧ quiescent_GluDxRefIdeal_pre_finite_glu (hGluDxRefIdeal := hGluDxRefIdeal) (hPre_finite_glu := hPre_finite_glu)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_HeadsBwd (hHeadsBwd := hHeadsBwd)
    ∧ quiescent_HeadsBwdIdeal (hHeadsBwdIdeal := hHeadsBwdIdeal)
    ∧ quiescent_HeadsBwdRefIdeal (hHeadsBwdRefIdeal := hHeadsBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_HeadsFwd (hHeadsFwd := hHeadsFwd)
    ∧ quiescent_HeadsFwdIdeal (hHeadsFwdIdeal := hHeadsFwdIdeal)
    ∧ quiescent_HeadsFwdRefIdeal (hHeadsFwdRefIdeal := hHeadsFwdRefIdeal)
    ∧ quiescent_AttnFwd (hAttnFwd := hAttnFwd)
    ∧ quiescent_AttnFwdIdeal (hAttnFwdIdeal := hAttnFwdIdeal)
    ∧ quiescent_AttnFwdIdeal_pre_finite_attn (hAttnFwdIdeal := hAttnFwdIdeal) (hPre_finite_attn := hPre_finite_attn)
    ∧ quiescent_AttnFwdRefIdeal (hAttnFwdRefIdeal := hAttnFwdRefIdeal)
    ∧ quiescent_AttnFwdRefIdeal_pre_finite_attn (hAttnFwdRefIdeal := hAttnFwdRefIdeal) (hPre_finite_attn := hPre_finite_attn)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_KNormBwd (hKNormBwd := hKNormBwd)
    ∧ quiescent_KNormBwdIdeal (hKNormBwdIdeal := hKNormBwdIdeal)
    ∧ quiescent_KNormBwdRefIdeal (hKNormBwdRefIdeal := hKNormBwdRefIdeal)
    ∧ preserves_Kernel_KernelIdeal
    ∧ algebraic_KernelIdeal_ReferenceIdeal_pre_saved (hKernelIdeal := hKernelIdeal) (hReferenceIdeal := hReferenceIdeal) (hPre_saved := hPre_saved)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_GluDw_GluDwIdeal
    ∧ algebraic_GluDwIdeal_GluDwRefIdeal (hGluDwIdeal := hGluDwIdeal) (hGluDwRefIdeal := hGluDwRefIdeal)
    ∧ preserves_InFwd_InFwdIdeal
    ∧ algebraic_InFwdIdeal_InFwdRefIdeal (hInFwdIdeal := hInFwdIdeal) (hInFwdRefIdeal := hInFwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_GluDz_GluDzIdeal
    ∧ algebraic_GluDzIdeal_GluDzRefIdeal (hGluDzIdeal := hGluDzIdeal) (hGluDzRefIdeal := hGluDzRefIdeal)
    ∧ preserves_GluDx_GluDxIdeal
    ∧ algebraic_GluDxIdeal_GluDxRefIdeal_pre_finite_glu (hGluDxIdeal := hGluDxIdeal) (hGluDxRefIdeal := hGluDxRefIdeal) (hPre_finite_glu := hPre_finite_glu)
    ∧ preserves_NormBwd_NormBwdIdeal
    ∧ algebraic_NormBwdIdeal_NormBwdRefIdeal (hNormBwdIdeal := hNormBwdIdeal) (hNormBwdRefIdeal := hNormBwdRefIdeal)
    ∧ preserves_HeadsBwd_HeadsBwdIdeal
    ∧ algebraic_HeadsBwdIdeal_HeadsBwdRefIdeal (hHeadsBwdIdeal := hHeadsBwdIdeal) (hHeadsBwdRefIdeal := hHeadsBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_HeadsFwd_HeadsFwdIdeal
    ∧ algebraic_HeadsFwdIdeal_HeadsFwdRefIdeal (hHeadsFwdIdeal := hHeadsFwdIdeal) (hHeadsFwdRefIdeal := hHeadsFwdRefIdeal)
    ∧ preserves_AttnFwd_AttnFwdIdeal
    ∧ algebraic_AttnFwdIdeal_AttnFwdRefIdeal_pre_finite_attn (hAttnFwdIdeal := hAttnFwdIdeal) (hAttnFwdRefIdeal := hAttnFwdRefIdeal) (hPre_finite_attn := hPre_finite_attn)
    ∧ preserves_LossHead_LossHeadIdeal
    ∧ algebraic_LossHeadIdeal_LossHeadRefIdeal (hLossHeadIdeal := hLossHeadIdeal) (hLossHeadRefIdeal := hLossHeadRefIdeal)
    ∧ preserves_KNormBwd_KNormBwdIdeal
    ∧ algebraic_KNormBwdIdeal_KNormBwdRefIdeal (hKNormBwdIdeal := hKNormBwdIdeal) (hKNormBwdRefIdeal := hKNormBwdRefIdeal)
-- ==== Pre_finite_attn.lean ====
abbrev S4224x2560 : Shape := ⟨2, ![4224, 2560]⟩
abbrev S1x64 : Shape := ⟨2, ![1, 64]⟩
abbrev S1x16 : Shape := ⟨2, ![1, 16]⟩
abbrev S4112x1280 : Shape := ⟨2, ![4112, 1280]⟩
abbrev S_ : Shape := ⟨0, ![]⟩

class Facts : Prop where
  slices_S4224x2560_S4112x1280_112_0 : S4224x2560.Slices ![112, 0] S4112x1280
  bcast_S_S4112x1280 : S_.BroadcastsInDim S4112x1280 (![] : Fin 0 → Fin S4112x1280.rank)
  bcast_S_S1x64 : S_.BroadcastsInDim S1x64 (![] : Fin 0 → Fin S1x64.rank)
  bcast_S_S1x16 : S_.BroadcastsInDim S1x16 (![] : Fin 0 → Fin S1x16.rank)

variable [Facts]

def fn_part1 {F : FTy → Type} [FloatOps F] (main_arg3 : FVec F S1x16 .f32) (main_v5 : IVec S4112x1280 1) (main_v10 : IVec S1x64 1) (main_v15 : IVec S1x64 1) (main_v16 : FVec F S1x16 .f32) : IVec S4112x1280 1 × IVec S1x64 1 × IVec S1x64 1 × IVec S1x16 1 :=
  let main_v17 : IVec S1x16 1 := cmpf .ogt main_arg3 main_v16
  let main_cst_6 : FVec F S_ .f32 := constant S_ .f32 0x7F800000#32
  let main_v18 : FVec F S1x16 .f32 := broadcastInDim S1x16 ![] bcast_S_S1x16 main_cst_6
  let main_v19 : IVec S1x16 1 := cmpf .olt main_arg3 main_v18
  let main_v20 : IVec S1x16 1 := andi main_v17 main_v19
  (main_v5, main_v10, main_v15, main_v20)

def fn {F : FTy → Type} [FloatOps F] (main_arg0 : FVec F S4224x2560 .f32) (main_arg1 : FVec F S1x64 .f32) (main_arg2 : FVec F S1x64 .f32) (main_arg3 : FVec F S1x16 .f32) : IVec S4112x1280 1 × IVec S1x64 1 × IVec S1x64 1 × IVec S1x16 1 :=
  let main_v0 : FVec F S4112x1280 .f32 := (extractStridedSlice S4112x1280 ![112, 0] · slices_S4224x2560_S4112x1280_112_0) main_arg0
  let main_cst : FVec F S_ .f32 := constant S_ .f32 0xFF800000#32
  let main_v1 : FVec F S4112x1280 .f32 := broadcastInDim S4112x1280 ![] bcast_S_S4112x1280 main_cst
  let main_v2 : IVec S4112x1280 1 := cmpf .ogt main_v0 main_v1
  let main_cst_0 : FVec F S_ .f32 := constant S_ .f32 0x7F800000#32
  let main_v3 : FVec F S4112x1280 .f32 := broadcastInDim S4112x1280 ![] bcast_S_S4112x1280 main_cst_0
  let main_v4 : IVec S4112x1280 1 := cmpf .olt main_v0 main_v3
  let main_v5 : IVec S4112x1280 1 := andi main_v2 main_v4
  let main_cst_1 : FVec F S_ .f32 := constant S_ .f32 0xFF800000#32
  let main_v6 : FVec F S1x64 .f32 := broadcastInDim S1x64 ![] bcast_S_S1x64 main_cst_1
  let main_v7 : IVec S1x64 1 := cmpf .ogt main_arg1 main_v6
  let main_cst_2 : FVec F S_ .f32 := constant S_ .f32 0x7F800000#32
  let main_v8 : FVec F S1x64 .f32 := broadcastInDim S1x64 ![] bcast_S_S1x64 main_cst_2
  let main_v9 : IVec S1x64 1 := cmpf .olt main_arg1 main_v8
  let main_v10 : IVec S1x64 1 := andi main_v7 main_v9
  let main_cst_3 : FVec F S_ .f32 := constant S_ .f32 0xFF800000#32
  let main_v11 : FVec F S1x64 .f32 := broadcastInDim S1x64 ![] bcast_S_S1x64 main_cst_3
  let main_v12 : IVec S1x64 1 := cmpf .ogt main_arg2 main_v11
  let main_cst_4 : FVec F S_ .f32 := constant S_ .f32 0x7F800000#32
  let main_v13 : FVec F S1x64 .f32 := broadcastInDim S1x64 ![] bcast_S_S1x64 main_cst_4
  let main_v14 : IVec S1x64 1 := cmpf .olt main_arg2 main_v13
  let main_v15 : IVec S1x64 1 := andi main_v12 main_v14
  let main_cst_5 : FVec F S_ .f32 := constant S_ .f32 0xFF800000#32
  let main_v16 : FVec F S1x16 .f32 := broadcastInDim S1x16 ![] bcast_S_S1x16 main_cst_5
  fn_part1 (F := F) main_arg3 main_v5 main_v10 main_v15 main_v16
-- ==== Pre_finite_glu.lean ====
abbrev S4224x1024 : Shape := ⟨2, ![4224, 1024]⟩
abbrev S1024x1024 : Shape := ⟨2, ![1024, 1024]⟩
abbrev S_ : Shape := ⟨0, ![]⟩

class Facts : Prop where
  bcast_S_S4224x1024 : S_.BroadcastsInDim S4224x1024 (![] : Fin 0 → Fin S4224x1024.rank)
  bcast_S_S1024x1024 : S_.BroadcastsInDim S1024x1024 (![] : Fin 0 → Fin S1024x1024.rank)

variable [Facts]

def fn {F : FTy → Type} [FloatOps F] (main_arg0 : FVec F S4224x1024 .bf16) (main_arg1 : FVec F S1024x1024 .bf16) (main_arg2 : FVec F S4224x1024 .f32) (main_arg3 : FVec F S4224x1024 .f32) (main_arg4 : FVec F S4224x1024 .f32) : IVec S4224x1024 1 × IVec S1024x1024 1 × IVec S4224x1024 1 :=
  let main_cst : FVec F S_ .bf16 := constant S_ .bf16 0xFF80#16
  let main_v0 : FVec F S4224x1024 .bf16 := broadcastInDim S4224x1024 ![] bcast_S_S4224x1024 main_cst
  let main_v1 : IVec S4224x1024 1 := cmpf .ogt main_arg0 main_v0
  let main_cst_0 : FVec F S_ .bf16 := constant S_ .bf16 0x7F80#16
  let main_v2 : FVec F S4224x1024 .bf16 := broadcastInDim S4224x1024 ![] bcast_S_S4224x1024 main_cst_0
  let main_v3 : IVec S4224x1024 1 := cmpf .olt main_arg0 main_v2
  let main_v4 : IVec S4224x1024 1 := andi main_v1 main_v3
  let main_cst_1 : FVec F S_ .bf16 := constant S_ .bf16 0xFF80#16
  let main_v5 : FVec F S1024x1024 .bf16 := broadcastInDim S1024x1024 ![] bcast_S_S1024x1024 main_cst_1
  let main_v6 : IVec S1024x1024 1 := cmpf .ogt main_arg1 main_v5
  let main_cst_2 : FVec F S_ .bf16 := constant S_ .bf16 0x7F80#16
  let main_v7 : FVec F S1024x1024 .bf16 := broadcastInDim S1024x1024 ![] bcast_S_S1024x1024 main_cst_2
  let main_v8 : IVec S1024x1024 1 := cmpf .olt main_arg1 main_v7
  let main_v9 : IVec S1024x1024 1 := andi main_v6 main_v8
  let main_cst_3 : FVec F S_ .f32 := constant S_ .f32 0xFF800000#32
  let main_v10 : FVec F S4224x1024 .f32 := broadcastInDim S4224x1024 ![] bcast_S_S4224x1024 main_cst_3
  let main_v11 : IVec S4224x1024 1 := cmpf .ogt main_arg2 main_v10
  let main_cst_4 : FVec F S_ .f32 := constant S_ .f32 0x7F800000#32
  let main_v12 : FVec F S4224x1024 .f32 := broadcastInDim S4224x1024 ![] bcast_S_S4224x1024 main_cst_4
  let main_v13 : IVec S4224x1024 1 := cmpf .olt main_arg2 main_v12
  let main_v14 : IVec S4224x1024 1 := andi main_v11 main_v13
  (main_v4, main_v9, main_v14)
-- ==== Pre_saved.lean ====
abbrev S4224x2560 : Shape := ⟨2, ![4224, 2560]⟩
abbrev S4224x1024 : Shape := ⟨2, ![4224, 1024]⟩
abbrev S1x64 : Shape := ⟨2, ![1, 64]⟩
abbrev S1x16 : Shape := ⟨2, ![1, 16]⟩
abbrev S4112x1536 : Shape := ⟨2, ![4112, 1536]⟩
abbrev S4112x1024 : Shape := ⟨2, ![4112, 1024]⟩
abbrev S_ : Shape := ⟨0, ![]⟩
abbrev S4112x2560 : Shape := ⟨2, ![4112, 2560]⟩
abbrev S4112x4x4x64 : Shape := ⟨4, ![4112, 4, 4, 64]⟩
abbrev S64 : Shape := ⟨1, ![64]⟩
abbrev S4112x4x4 : Shape := ⟨3, ![4112, 4, 4]⟩
abbrev S4112x4x4x1 : Shape := ⟨4, ![4112, 4, 4, 1]⟩
abbrev S1x1x1x64 : Shape := ⟨4, ![1, 1, 1, 64]⟩
abbrev S4112x256 : Shape := ⟨2, ![4112, 256]⟩
abbrev S4112x4x64 : Shape := ⟨3, ![4112, 4, 64]⟩
abbrev S4112x4 : Shape := ⟨2, ![4112, 4]⟩
abbrev S4112x4x1 : Shape := ⟨3, ![4112, 4, 1]⟩
abbrev S1x1x64 : Shape := ⟨3, ![1, 1, 64]⟩
abbrev S4112 : Shape := ⟨1, ![4112]⟩
abbrev S4112x1 : Shape := ⟨2, ![4112, 1]⟩
abbrev S1x4112 : Shape := ⟨2, ![1, 4112]⟩
abbrev S4112x4112 : Shape := ⟨2, ![4112, 4112]⟩
abbrev S1 : Shape := ⟨1, ![1]⟩
abbrev S16 : Shape := ⟨1, ![16]⟩
abbrev S4x4x1x1 : Shape := ⟨4, ![4, 4, 1, 1]⟩
abbrev S4x4112x4112x4 : Shape := ⟨4, ![4, 4112, 4112, 4]⟩
abbrev S4x4x4112x4112 : Shape := ⟨4, ![4, 4, 4112, 4112]⟩
abbrev S1x1x4112x4112 : Shape := ⟨4, ![1, 1, 4112, 4112]⟩
abbrev S4x4x4112x1 : Shape := ⟨4, ![4, 4, 4112, 1]⟩
abbrev S4x4x4112x4113 : Shape := ⟨4, ![4, 4, 4112, 4113]⟩
abbrev S4x4x4112 : Shape := ⟨3, ![4, 4, 4112]⟩
abbrev S4x64x4x4112 : Shape := ⟨4, ![4, 64, 4, 4112]⟩

class Facts : Prop where
  slices_S4224x2560_S4112x1536_112_0 : S4224x2560.Slices ![112, 0] S4112x1536
  slices_S4224x1024_S4112x1024_112_0 : S4224x1024.Slices ![112, 0] S4112x1024
  bcast_S_S4112x1536 : S_.BroadcastsInDim S4112x1536 (![] : Fin 0 → Fin S4112x1536.rank)
  bcast_S_S4112x1024 : S_.BroadcastsInDim S4112x1024 (![] : Fin 0 → Fin S4112x1024.rank)
  bcast_S_S1x64 : S_.BroadcastsInDim S1x64 (![] : Fin 0 → Fin S1x64.rank)
  bcast_S_S1x16 : S_.BroadcastsInDim S1x16 (![] : Fin 0 → Fin S1x16.rank)
  slices_S4224x2560_S4112x2560_112_0 : S4224x2560.Slices ![112, 0] S4112x2560
  slices_S4112x2560_S4112x1024_0_0 : S4112x2560.Slices ![0, 0] S4112x1024
  shapeCasts_S4112x1024_S4112x4x4x64 : S4112x1024.ShapeCasts S4112x4x4x64
  shapeCasts_S1x64_S64 : S1x64.ShapeCasts S64
  reducesTo_S4112x4x4x64_S4112x4x4_d3 : S4112x4x4x64.ReducesTo [3] S4112x4x4
  h_S_ : 0 < S_.numel
  bcast_S4112x4x4_S4112x4x4x1_0_1_2 : S4112x4x4.BroadcastsInDim S4112x4x4x1 (![0, 1, 2] : Fin 3 → Fin S4112x4x4x1.rank)
  bcast_S_S4112x4x4x1 : S_.BroadcastsInDim S4112x4x4x1 (![] : Fin 0 → Fin S4112x4x4x1.rank)
  bcast_S4112x4x4x1_S4112x4x4x64_0_1_2_3 : S4112x4x4x1.BroadcastsInDim S4112x4x4x64 (![0, 1, 2, 3] : Fin 4 → Fin S4112x4x4x64.rank)
  bcast_S64_S1x1x1x64_3 : S64.BroadcastsInDim S1x1x1x64 (![3] : Fin 1 → Fin S1x1x1x64.rank)
  bcast_S1x1x1x64_S4112x4x4x64_0_1_2_3 : S1x1x1x64.BroadcastsInDim S4112x4x4x64 (![0, 1, 2, 3] : Fin 4 → Fin S4112x4x4x64.rank)
  slices_S4112x2560_S4112x256_0_1024 : S4112x2560.Slices ![0, 1024] S4112x256
  shapeCasts_S4112x256_S4112x4x64 : S4112x256.ShapeCasts S4112x4x64
  reducesTo_S4112x4x64_S4112x4_d2 : S4112x4x64.ReducesTo [2] S4112x4
  bcast_S4112x4_S4112x4x1_0_1 : S4112x4.BroadcastsInDim S4112x4x1 (![0, 1] : Fin 2 → Fin S4112x4x1.rank)
  bcast_S_S4112x4x1 : S_.BroadcastsInDim S4112x4x1 (![] : Fin 0 → Fin S4112x4x1.rank)
  bcast_S4112x4x1_S4112x4x64_0_1_2 : S4112x4x1.BroadcastsInDim S4112x4x64 (![0, 1, 2] : Fin 3 → Fin S4112x4x64.rank)
  bcast_S64_S1x1x64_2 : S64.BroadcastsInDim S1x1x64 (![2] : Fin 1 → Fin S1x1x64.rank)
  bcast_S1x1x64_S4112x4x64_0_1_2 : S1x1x64.BroadcastsInDim S4112x4x64 (![0, 1, 2] : Fin 3 → Fin S4112x4x64.rank)
  slices_S4112x2560_S4112x256_0_1280 : S4112x2560.Slices ![0, 1280] S4112x256
  bcast_S4112_S4112x1_0 : S4112.BroadcastsInDim S4112x1 (![0] : Fin 1 → Fin S4112x1.rank)
  bcast_S4112_S1x4112_1 : S4112.BroadcastsInDim S1x4112 (![1] : Fin 1 → Fin S1x4112.rank)
  bcast_S1x4112_S4112x4112_0_1 : S1x4112.BroadcastsInDim S4112x4112 (![0, 1] : Fin 2 → Fin S4112x4112.rank)
  bcast_S4112x1_S4112x4112_0_1 : S4112x1.BroadcastsInDim S4112x4112 (![0, 1] : Fin 2 → Fin S4112x4112.rank)
  bcast_S_S4112x4112 : S_.BroadcastsInDim S4112x4112 (![] : Fin 0 → Fin S4112x4112.rank)
  bcast_S_S1x4112 : S_.BroadcastsInDim S1x4112 (![] : Fin 0 → Fin S1x4112.rank)
  bcast_S_S1 : S_.BroadcastsInDim S1 (![] : Fin 0 → Fin S1.rank)
  concatenates_S1_S1_S1_S1_S1_S1_S1_S1_S1_S1_S1_S1_S1_S1_S1_S1_S16_d0 : Shape.Concatenates [S1, S1, S1, S1, S1, S1, S1, S1, S1, S1, S1, S1, S1, S1, S1, S1] S16 0
  shapeCasts_S16_S4x4x1x1 : S16.ShapeCasts S4x4x1x1
  transposes_S4x4112x4112x4_S4x4x4112x4112_0_3_2_1 : S4x4112x4112x4.Transposes [0, 3, 2, 1] S4x4x4112x4112
  bcast_S_S4x4x4112x4112 : S_.BroadcastsInDim S4x4x4112x4112 (![] : Fin 0 → Fin S4x4x4112x4112.rank)
  bcast_S4112x4112_S1x1x4112x4112_2_3 : S4112x4112.BroadcastsInDim S1x1x4112x4112 (![2, 3] : Fin 2 → Fin S1x1x4112x4112.rank)
  bcast_S4x4x1x1_S4x4x4112x4112_0_1_2_3 : S4x4x1x1.BroadcastsInDim S4x4x4112x4112 (![0, 1, 2, 3] : Fin 4 → Fin S4x4x4112x4112.rank)
  bcast_S1x1x4112x4112_S4x4x4112x4112_0_1_2_3 : S1x1x4112x4112.BroadcastsInDim S4x4x4112x4112 (![0, 1, 2, 3] : Fin 4 → Fin S4x4x4112x4112.rank)
  bcast_S4112x4112_S4x4x4112x4112_2_3 : S4112x4112.BroadcastsInDim S4x4x4112x4112 (![2, 3] : Fin 2 → Fin S4x4x4112x4112.rank)
  shapeCasts_S1x16_S4x4x1x1 : S1x16.ShapeCasts S4x4x1x1
  bcast_S4x4x1x1_S4x4x4112x1_0_1_2_3 : S4x4x1x1.BroadcastsInDim S4x4x4112x1 (![0, 1, 2, 3] : Fin 4 → Fin S4x4x4112x1.rank)
  concatenates_S4x4x4112x4112_S4x4x4112x1_S4x4x4112x4113_d3 : Shape.Concatenates [S4x4x4112x4112, S4x4x4112x1] S4x4x4112x4113 3
  reducesTo_S4x4x4112x4113_S4x4x4112_d3 : S4x4x4112x4113.ReducesTo [3] S4x4x4112
  bcast_S_S4x4x4112 : S_.BroadcastsInDim S4x4x4112 (![] : Fin 0 → Fin S4x4x4112.rank)
  bcast_S4x4x4112_S4x4x4112x1_0_1_2 : S4x4x4112.BroadcastsInDim S4x4x4112x1 (![0, 1, 2] : Fin 3 → Fin S4x4x4112x1.rank)
  bcast_S4x4x4112x1_S4x4x4112x4113_0_1_2_3 : S4x4x4112x1.BroadcastsInDim S4x4x4112x4113 (![0, 1, 2, 3] : Fin 4 → Fin S4x4x4112x4113.rank)
  slices_S4x4x4112x4113_S4x4x4112x4112_0_0_0_0 : S4x4x4112x4113.Slices ![0, 0, 0, 0] S4x4x4112x4112
  transposes_S4x64x4x4112_S4112x4x4x64_3_0_2_1 : S4x64x4x4112.Transposes [3, 0, 2, 1] S4112x4x4x64
  shapeCasts_S4112x4x4x64_S4112x1024 : S4112x4x4x64.ShapeCasts S4112x1024
  pads_S4112x1024_S4224x1024_11200_000 : S4112x1024.Pads (![112, 0] : Fin 2 → Nat) ![0, 0] ![0, 0] S4224x1024
  dot_S4112x4x64_S4112x4x4x64_S4x4112x4112x4_2_3_0_02_1_1_wf : DotDims.WF S4112x4x64 S4112x4x4x64 S4x4112x4112x4 [2] [3] [0] [0, 2] [1] [1]
  dot_S4112x4x64_S4x4x4112x4112_S4x64x4x4112_0_3_2_12_1_0_wf : DotDims.WF S4112x4x64 S4x4x4112x4112 S4x64x4x4112 [0] [3] [2] [1, 2] [1] [0]

variable [Facts]

def dot_S4112x4x64_S4112x4x4x64_S4x4112x4112x4_2_3_0_02_1_1 : DotDims S4112x4x64 S4112x4x4x64 S4x4112x4112x4 where
  lhsContracting := [2]
  rhsContracting := [3]
  lhsNonContracting := [0]
  rhsNonContracting := [0, 2]
  lhsBatch := [1]
  rhsBatch := [1]
  wf := dot_S4112x4x64_S4112x4x4x64_S4x4112x4112x4_2_3_0_02_1_1_wf
def dot_S4112x4x64_S4x4x4112x4112_S4x64x4x4112_0_3_2_12_1_0 : DotDims S4112x4x64 S4x4x4112x4112 S4x64x4x4112 where
  lhsContracting := [0]
  rhsContracting := [3]
  lhsNonContracting := [2]
  rhsNonContracting := [1, 2]
  lhsBatch := [1]
  rhsBatch := [0]
  wf := dot_S4112x4x64_S4x4x4112x4112_S4x64x4x4112_0_3_2_12_1_0_wf
def fn_where {F : FTy → Type} [FloatOps F] (arg0 : IVec S4112x4112 1) (arg1 : FVec F S4x4x4112x4112 .f32) (arg2 : FVec F S_ .f32) : FVec F S4x4x4112x4112 .f32 :=
  let v0 : FVec F S_ .f32 := id arg2
  let v1 : IVec S4x4x4112x4112 1 := broadcastInDim S4x4x4112x4112 ![2, 3] bcast_S4112x4112_S4x4x4112x4112_2_3 arg0
  let v2 : FVec F S4x4x4112x4112 .f32 := broadcastInDim S4x4x4112x4112 ![] bcast_S_S4x4x4112x4112 v0
  let v3 : FVec F S4x4x4112x4112 .f32 := select v1 arg1 v2
  v3

def fn_pad {F : FTy → Type} [FloatOps F] (arg0 : FVec F S4112x1024 .f32) (arg1 : IVec S_ 32) : FVec F S4224x1024 .f32 :=
  let v0 : FVec F S_ .f32 := sitofp .f32 arg1
  let v1 : FVec F S4224x1024 .f32 := (fun x v => pad S4224x1024 ![112, 0] ![0, 0] ![0, 0] x v pads_S4112x1024_S4224x1024_11200_000 h_S_) arg0 v0
  v1

def fn_part7 {F : FTy → Type} [FloatOps F] (main_arg1 : FVec F S4224x1024 .f32) (main_v6 : IVec S4112x1536 1) (main_v11 : IVec S4112x1024 1) (main_v16 : IVec S1x64 1) (main_v21 : IVec S1x64 1) (main_v26 : IVec S1x16 1) (main_v128 : FVec F S4112x1024 .f32) : IVec S4112x1536 1 × IVec S4112x1024 1 × IVec S1x64 1 × IVec S1x64 1 × IVec S1x16 1 × IVec S4224x1024 1 :=
  let main_c_37 : IVec S_ 32 := constantI S_ 32 0#32
  let main_v129 : FVec F S4224x1024 .f32 := fn_pad (F := F) main_v128 main_c_37
  let main_v130 : IVec S4224x1024 1 := cmpf .oeq main_arg1 main_v129
  (main_v6, main_v11, main_v16, main_v21, main_v26, main_v130)

def fn_part6 {F : FTy → Type} [FloatOps F] (main_arg1 : FVec F S4224x1024 .f32) (main_arg5 : FVec F S1x16 .f32) (main_v6 : IVec S4112x1536 1) (main_v11 : IVec S4112x1024 1) (main_v16 : IVec S1x64 1) (main_v21 : IVec S1x64 1) (main_v26 : IVec S1x16 1) (main_v61 : FVec F S4112x4x64 .f32) (main_v78 : IVec S4112x4112 1) (main_v104 : FVec F S4x4x4112x4112 .f32) (main_v108 : FVec F S4x4x4112x4112 .f32) : IVec S4112x1536 1 × IVec S4112x1024 1 × IVec S1x64 1 × IVec S1x64 1 × IVec S1x16 1 × IVec S4224x1024 1 :=
  let main_v109 : FVec F S4x4x4112x4112 .f32 := subf main_v104 main_v108
  let main_cst_33 : FVec F S_ .f32 := constant S_ .f32 0xFF800000#32
  let main_v110 : FVec F S4x4x4112x4112 .f32 := fn_where (F := F) main_v78 main_v109 main_cst_33
  let main_v111 : FVec F S4x4x1x1 .f32 := shapeCast S4x4x1x1 main_arg5 shapeCasts_S1x16_S4x4x1x1
  let main_v112 : FVec F S4x4x4112x1 .f32 := broadcastInDim S4x4x4112x1 ![0, 1, 2, 3] bcast_S4x4x1x1_S4x4x4112x1_0_1_2_3 main_v111
  let main_v113 : FVec F S4x4x4112x4113 .f32 := (fun a b => concatenate S4x4x4112x4113 3 [⟨S4x4x4112x4112, a⟩, ⟨S4x4x4112x1, b⟩] concatenates_S4x4x4112x4112_S4x4x4112x1_S4x4x4112x4113_d3) main_v110 main_v112
  let main_cst_34 : FVec F S_ .f32 := constant S_ .f32 0xFF800000#32
  let main_v114 : FVec F S4x4x4112 .f32 := (fun x v => Host.reduce FloatOps.maximumf x v reducesTo_S4x4x4112x4113_S4x4x4112_d3 h_S_) main_v113 main_cst_34
  let main_cst_35 : FVec F S_ .f32 := constant S_ .f32 0xFF800000#32
  let main_v115 : FVec F S4x4x4112 .f32 := broadcastInDim S4x4x4112 ![] bcast_S_S4x4x4112 main_cst_35
  let main_v116 : FVec F S4x4x4112 .f32 := maximumf main_v115 main_v114
  let main_v117 : FVec F S4x4x4112x1 .f32 := broadcastInDim S4x4x4112x1 ![0, 1, 2] bcast_S4x4x4112_S4x4x4112x1_0_1_2 main_v116
  let main_v118 : FVec F S4x4x4112x4113 .f32 := broadcastInDim S4x4x4112x4113 ![0, 1, 2, 3] bcast_S4x4x4112x1_S4x4x4112x4113_0_1_2_3 main_v117
  let main_v119 : FVec F S4x4x4112x4113 .f32 := subf main_v113 main_v118
  let main_v120 : FVec F S4x4x4112x4113 .f32 := Host.exp main_v119
  let main_cst_36 : FVec F S_ .f32 := constant S_ .f32 0x00000000#32
  let main_v121 : FVec F S4x4x4112 .f32 := (fun x v => Host.reduceAdd x v reducesTo_S4x4x4112x4113_S4x4x4112_d3 h_S_) main_v120 main_cst_36
  let main_v122 : FVec F S4x4x4112x1 .f32 := broadcastInDim S4x4x4112x1 ![0, 1, 2] bcast_S4x4x4112_S4x4x4112x1_0_1_2 main_v121
  let main_v123 : FVec F S4x4x4112x4113 .f32 := broadcastInDim S4x4x4112x4113 ![0, 1, 2, 3] bcast_S4x4x4112x1_S4x4x4112x4113_0_1_2_3 main_v122
  let main_v124 : FVec F S4x4x4112x4113 .f32 := Host.divf main_v120 main_v123
  let main_v125 : FVec F S4x4x4112x4112 .f32 := (extractStridedSlice S4x4x4112x4112 ![0, 0, 0, 0] · slices_S4x4x4112x4113_S4x4x4112x4112_0_0_0_0) main_v124
  let main_v126 : FVec F S4x64x4x4112 .f32 := (fun l r => Host.dotGeneral dot_S4112x4x64_S4x4x4112x4112_S4x64x4x4112_0_3_2_12_1_0 none l r) main_v61 main_v125
  let main_v127 : FVec F S4112x4x4x64 .f32 := (transpose S4112x4x4x64 [3, 0, 2, 1] · transposes_S4x64x4x4112_S4112x4x4x64_3_0_2_1) main_v126
  let main_v128 : FVec F S4112x1024 .f32 := shapeCast S4112x1024 main_v127 shapeCasts_S4112x4x4x64_S4112x1024
  fn_part7 (F := F) main_arg1 main_v6 main_v11 main_v16 main_v21 main_v26 main_v128

def fn_part5 {F : FTy → Type} [FloatOps F] (main_arg1 : FVec F S4224x1024 .f32) (main_arg5 : FVec F S1x16 .f32) (main_v6 : IVec S4112x1536 1) (main_v11 : IVec S4112x1024 1) (main_v16 : IVec S1x64 1) (main_v21 : IVec S1x64 1) (main_v26 : IVec S1x16 1) (main_v43 : FVec F S4112x4x4x64 .f32) (main_v59 : FVec F S4112x4x64 .f32) (main_v61 : FVec F S4112x4x64 .f32) (main_v78 : IVec S4112x4112 1) (main_v82 : FVec F S4112x4112 .f32) (main_v83 : FVec F S1 .f32) (main_v84 : FVec F S1 .f32) (main_v85 : FVec F S1 .f32) (main_v86 : FVec F S1 .f32) (main_v87 : FVec F S1 .f32) (main_v88 : FVec F S1 .f32) (main_v89 : FVec F S1 .f32) (main_v90 : FVec F S1 .f32) (main_v91 : FVec F S1 .f32) (main_cst_25 : FVec F S_ .f32) : IVec S4112x1536 1 × IVec S4112x1024 1 × IVec S1x64 1 × IVec S1x64 1 × IVec S1x16 1 × IVec S4224x1024 1 :=
  let main_v92 : FVec F S1 .f32 := broadcastInDim S1 ![] bcast_S_S1 main_cst_25
  let main_cst_26 : FVec F S_ .f32 := constant S_ .f32 0x3CB504F3#32
  let main_v93 : FVec F S1 .f32 := broadcastInDim S1 ![] bcast_S_S1 main_cst_26
  let main_cst_27 : FVec F S_ .f32 := constant S_ .f32 0x3C800000#32
  let main_v94 : FVec F S1 .f32 := broadcastInDim S1 ![] bcast_S_S1 main_cst_27
  let main_cst_28 : FVec F S_ .f32 := constant S_ .f32 0x3C3504F3#32
  let main_v95 : FVec F S1 .f32 := broadcastInDim S1 ![] bcast_S_S1 main_cst_28
  let main_cst_29 : FVec F S_ .f32 := constant S_ .f32 0x3C000000#32
  let main_v96 : FVec F S1 .f32 := broadcastInDim S1 ![] bcast_S_S1 main_cst_29
  let main_cst_30 : FVec F S_ .f32 := constant S_ .f32 0x3BB504F3#32
  let main_v97 : FVec F S1 .f32 := broadcastInDim S1 ![] bcast_S_S1 main_cst_30
  let main_cst_31 : FVec F S_ .f32 := constant S_ .f32 0x3B800000#32
  let main_v98 : FVec F S1 .f32 := broadcastInDim S1 ![] bcast_S_S1 main_cst_31
  let main_v99 : FVec F S16 .f32 := concatenate S16 0 [⟨S1, main_v83⟩, ⟨S1, main_v84⟩, ⟨S1, main_v85⟩, ⟨S1, main_v86⟩, ⟨S1, main_v87⟩, ⟨S1, main_v88⟩, ⟨S1, main_v89⟩, ⟨S1, main_v90⟩, ⟨S1, main_v91⟩, ⟨S1, main_v92⟩, ⟨S1, main_v93⟩, ⟨S1, main_v94⟩, ⟨S1, main_v95⟩, ⟨S1, main_v96⟩, ⟨S1, main_v97⟩, ⟨S1, main_v98⟩] concatenates_S1_S1_S1_S1_S1_S1_S1_S1_S1_S1_S1_S1_S1_S1_S1_S1_S16_d0
  let main_v100 : FVec F S4x4x1x1 .f32 := shapeCast S4x4x1x1 main_v99 shapeCasts_S16_S4x4x1x1
  let main_v101 : FVec F S4x4112x4112x4 .f32 := (fun l r => Host.dotGeneral dot_S4112x4x64_S4112x4x4x64_S4x4112x4112x4_2_3_0_02_1_1 none l r) main_v59 main_v43
  let main_v102 : FVec F S4x4x4112x4112 .f32 := (transpose S4x4x4112x4112 [0, 3, 2, 1] · transposes_S4x4112x4112x4_S4x4x4112x4112_0_3_2_1) main_v101
  let main_cst_32 : FVec F S_ .f32 := constant S_ .f32 0x3E000000#32
  let main_v103 : FVec F S4x4x4112x4112 .f32 := broadcastInDim S4x4x4112x4112 ![] bcast_S_S4x4x4112x4112 main_cst_32
  let main_v104 : FVec F S4x4x4112x4112 .f32 := mulf main_v102 main_v103
  let main_v105 : FVec F S1x1x4112x4112 .f32 := broadcastInDim S1x1x4112x4112 ![2, 3] bcast_S4112x4112_S1x1x4112x4112_2_3 main_v82
  let main_v106 : FVec F S4x4x4112x4112 .f32 := broadcastInDim S4x4x4112x4112 ![0, 1, 2, 3] bcast_S4x4x1x1_S4x4x4112x4112_0_1_2_3 main_v100
  let main_v107 : FVec F S4x4x4112x4112 .f32 := broadcastInDim S4x4x4112x4112 ![0, 1, 2, 3] bcast_S1x1x4112x4112_S4x4x4112x4112_0_1_2_3 main_v105
  let main_v108 : FVec F S4x4x4112x4112 .f32 := mulf main_v106 main_v107
  fn_part6 (F := F) main_arg1 main_arg5 main_v6 main_v11 main_v16 main_v21 main_v26 main_v61 main_v78 main_v104 main_v108

def fn_part4 {F : FTy → Type} [FloatOps F] (main_arg1 : FVec F S4224x1024 .f32) (main_arg5 : FVec F S1x16 .f32) (main_v6 : IVec S4112x1536 1) (main_v11 : IVec S4112x1024 1) (main_v16 : IVec S1x64 1) (main_v21 : IVec S1x64 1) (main_v26 : IVec S1x16 1) (main_v43 : FVec F S4112x4x4x64 .f32) (main_v59 : FVec F S4112x4x64 .f32) (main_v61 : FVec F S4112x4x64 .f32) (main_v63 : IVec S4112x1 32) (main_v65 : IVec S1x4112 32) (main_v68 : IVec S4112x4112 1) (main_v77 : IVec S4112x4112 1) : IVec S4112x1536 1 × IVec S4112x1024 1 × IVec S1x64 1 × IVec S1x64 1 × IVec S1x16 1 × IVec S4224x1024 1 :=
  let main_v78 : IVec S4112x4112 1 := andi main_v68 main_v77
  let main_v79 : IVec S4112x4112 32 := broadcastInDim S4112x4112 ![0, 1] bcast_S4112x1_S4112x4112_0_1 main_v63
  let main_v80 : IVec S4112x4112 32 := broadcastInDim S4112x4112 ![0, 1] bcast_S1x4112_S4112x4112_0_1 main_v65
  let main_v81 : IVec S4112x4112 32 := subi main_v79 main_v80
  let main_v82 : FVec F S4112x4112 .f32 := sitofp .f32 main_v81
  let main_cst_16 : FVec F S_ .f32 := constant S_ .f32 0x3F3504F3#32
  let main_v83 : FVec F S1 .f32 := broadcastInDim S1 ![] bcast_S_S1 main_cst_16
  let main_cst_17 : FVec F S_ .f32 := constant S_ .f32 0x3F000000#32
  let main_v84 : FVec F S1 .f32 := broadcastInDim S1 ![] bcast_S_S1 main_cst_17
  let main_cst_18 : FVec F S_ .f32 := constant S_ .f32 0x3EB504F3#32
  let main_v85 : FVec F S1 .f32 := broadcastInDim S1 ![] bcast_S_S1 main_cst_18
  let main_cst_19 : FVec F S_ .f32 := constant S_ .f32 0x3E800000#32
  let main_v86 : FVec F S1 .f32 := broadcastInDim S1 ![] bcast_S_S1 main_cst_19
  let main_cst_20 : FVec F S_ .f32 := constant S_ .f32 0x3E3504F3#32
  let main_v87 : FVec F S1 .f32 := broadcastInDim S1 ![] bcast_S_S1 main_cst_20
  let main_cst_21 : FVec F S_ .f32 := constant S_ .f32 0x3E000000#32
  let main_v88 : FVec F S1 .f32 := broadcastInDim S1 ![] bcast_S_S1 main_cst_21
  let main_cst_22 : FVec F S_ .f32 := constant S_ .f32 0x3DB504F3#32
  let main_v89 : FVec F S1 .f32 := broadcastInDim S1 ![] bcast_S_S1 main_cst_22
  let main_cst_23 : FVec F S_ .f32 := constant S_ .f32 0x3D800000#32
  let main_v90 : FVec F S1 .f32 := broadcastInDim S1 ![] bcast_S_S1 main_cst_23
  let main_cst_24 : FVec F S_ .f32 := constant S_ .f32 0x3D3504F3#32
  let main_v91 : FVec F S1 .f32 := broadcastInDim S1 ![] bcast_S_S1 main_cst_24
  let main_cst_25 : FVec F S_ .f32 := constant S_ .f32 0x3D000000#32
  fn_part5 (F := F) main_arg1 main_arg5 main_v6 main_v11 main_v16 main_v21 main_v26 main_v43 main_v59 main_v61 main_v78 main_v82 main_v83 main_v84 main_v85 main_v86 main_v87 main_v88 main_v89 main_v90 main_v91 main_cst_25

def fn_part3 {F : FTy → Type} [FloatOps F] (main_arg1 : FVec F S4224x1024 .f32) (main_arg5 : FVec F S1x16 .f32) (main_v6 : IVec S4112x1536 1) (main_v11 : IVec S4112x1024 1) (main_v16 : IVec S1x64 1) (main_v21 : IVec S1x64 1) (main_v26 : IVec S1x16 1) (main_v27 : FVec F S4112x2560 .f32) (main_v43 : FVec F S4112x4x4x64 .f32) (main_v45 : FVec F S4112x4x64 .f32) (main_v46 : FVec F S64 .f32) (main_v55 : FVec F S4112x4x64 .f32) : IVec S4112x1536 1 × IVec S4112x1024 1 × IVec S1x64 1 × IVec S1x64 1 × IVec S1x16 1 × IVec S4224x1024 1 :=
  let main_v56 : FVec F S4112x4x64 .f32 := mulf main_v45 main_v55
  let main_v57 : FVec F S1x1x64 .f32 := broadcastInDim S1x1x64 ![2] bcast_S64_S1x1x64_2 main_v46
  let main_v58 : FVec F S4112x4x64 .f32 := broadcastInDim S4112x4x64 ![0, 1, 2] bcast_S1x1x64_S4112x4x64_0_1_2 main_v57
  let main_v59 : FVec F S4112x4x64 .f32 := mulf main_v56 main_v58
  let main_v60 : FVec F S4112x256 .f32 := (extractStridedSlice S4112x256 ![0, 1280] · slices_S4112x2560_S4112x256_0_1280) main_v27
  let main_v61 : FVec F S4112x4x64 .f32 := shapeCast S4112x4x64 main_v60 shapeCasts_S4112x256_S4112x4x64
  let main_v62 : IVec S4112 32 := iotaInDim S4112 32 0
  let main_v63 : IVec S4112x1 32 := broadcastInDim S4112x1 ![0] bcast_S4112_S4112x1_0 main_v62
  let main_v64 : IVec S4112 32 := iotaInDim S4112 32 0
  let main_v65 : IVec S1x4112 32 := broadcastInDim S1x4112 ![1] bcast_S4112_S1x4112_1 main_v64
  let main_v66 : IVec S4112x4112 32 := broadcastInDim S4112x4112 ![0, 1] bcast_S1x4112_S4112x4112_0_1 main_v65
  let main_v67 : IVec S4112x4112 32 := broadcastInDim S4112x4112 ![0, 1] bcast_S4112x1_S4112x4112_0_1 main_v63
  let main_v68 : IVec S4112x4112 1 := cmpi .sle main_v66 main_v67
  let main_v69 : IVec S4112x4112 32 := broadcastInDim S4112x4112 ![0, 1] bcast_S4112x1_S4112x4112_0_1 main_v63
  let main_v70 : IVec S4112x4112 32 := broadcastInDim S4112x4112 ![0, 1] bcast_S1x4112_S4112x4112_0_1 main_v65
  let main_v71 : IVec S4112x4112 32 := subi main_v69 main_v70
  let main_c : IVec S_ 32 := constantI S_ 32 128#32
  let main_v72 : IVec S4112x4112 32 := broadcastInDim S4112x4112 ![] bcast_S_S4112x4112 main_c
  let main_v73 : IVec S4112x4112 1 := cmpi .slt main_v71 main_v72
  let main_c_15 : IVec S_ 32 := constantI S_ 32 16#32
  let main_v74 : IVec S1x4112 32 := broadcastInDim S1x4112 ![] bcast_S_S1x4112 main_c_15
  let main_v75 : IVec S1x4112 1 := cmpi .slt main_v65 main_v74
  let main_v76 : IVec S4112x4112 1 := broadcastInDim S4112x4112 ![0, 1] bcast_S1x4112_S4112x4112_0_1 main_v75
  let main_v77 : IVec S4112x4112 1 := ori main_v73 main_v76
  fn_part4 (F := F) main_arg1 main_arg5 main_v6 main_v11 main_v16 main_v21 main_v26 main_v43 main_v59 main_v61 main_v63 main_v65 main_v68 main_v77

def fn_part2 {F : FTy → Type} [FloatOps F] (main_arg1 : FVec F S4224x1024 .f32) (main_arg4 : FVec F S1x64 .f32) (main_arg5 : FVec F S1x16 .f32) (main_v6 : IVec S4112x1536 1) (main_v11 : IVec S4112x1024 1) (main_v16 : IVec S1x64 1) (main_v21 : IVec S1x64 1) (main_v26 : IVec S1x16 1) (main_v27 : FVec F S4112x2560 .f32) (main_v29 : FVec F S4112x4x4x64 .f32) (main_v30 : FVec F S64 .f32) (main_v35 : FVec F S4112x4x4x1 .f32) : IVec S4112x1536 1 × IVec S4112x1024 1 × IVec S1x64 1 × IVec S1x64 1 × IVec S1x16 1 × IVec S4224x1024 1 :=
  let main_cst_11 : FVec F S_ .f32 := constant S_ .f32 0x358637BD#32
  let main_v36 : FVec F S4112x4x4x1 .f32 := broadcastInDim S4112x4x4x1 ![] bcast_S_S4112x4x4x1 main_cst_11
  let main_v37 : FVec F S4112x4x4x1 .f32 := addf main_v35 main_v36
  let main_v38 : FVec F S4112x4x4x1 .f32 := Host.rsqrt main_v37
  let main_v39 : FVec F S4112x4x4x64 .f32 := broadcastInDim S4112x4x4x64 ![0, 1, 2, 3] bcast_S4112x4x4x1_S4112x4x4x64_0_1_2_3 main_v38
  let main_v40 : FVec F S4112x4x4x64 .f32 := mulf main_v29 main_v39
  let main_v41 : FVec F S1x1x1x64 .f32 := broadcastInDim S1x1x1x64 ![3] bcast_S64_S1x1x1x64_3 main_v30
  let main_v42 : FVec F S4112x4x4x64 .f32 := broadcastInDim S4112x4x4x64 ![0, 1, 2, 3] bcast_S1x1x1x64_S4112x4x4x64_0_1_2_3 main_v41
  let main_v43 : FVec F S4112x4x4x64 .f32 := mulf main_v40 main_v42
  let main_v44 : FVec F S4112x256 .f32 := (extractStridedSlice S4112x256 ![0, 1024] · slices_S4112x2560_S4112x256_0_1024) main_v27
  let main_v45 : FVec F S4112x4x64 .f32 := shapeCast S4112x4x64 main_v44 shapeCasts_S4112x256_S4112x4x64
  let main_v46 : FVec F S64 .f32 := shapeCast S64 main_arg4 shapeCasts_S1x64_S64
  let main_v47 : FVec F S4112x4x64 .f32 := mulf main_v45 main_v45
  let main_cst_12 : FVec F S_ .f32 := constant S_ .f32 0x00000000#32
  let main_v48 : FVec F S4112x4 .f32 := (fun x v => Host.reduceAdd x v reducesTo_S4112x4x64_S4112x4_d2 h_S_) main_v47 main_cst_12
  let main_v49 : FVec F S4112x4x1 .f32 := broadcastInDim S4112x4x1 ![0, 1] bcast_S4112x4_S4112x4x1_0_1 main_v48
  let main_cst_13 : FVec F S_ .f32 := constant S_ .f32 0x42800000#32
  let main_v50 : FVec F S4112x4x1 .f32 := broadcastInDim S4112x4x1 ![] bcast_S_S4112x4x1 main_cst_13
  let main_v51 : FVec F S4112x4x1 .f32 := Host.divf main_v49 main_v50
  let main_cst_14 : FVec F S_ .f32 := constant S_ .f32 0x358637BD#32
  let main_v52 : FVec F S4112x4x1 .f32 := broadcastInDim S4112x4x1 ![] bcast_S_S4112x4x1 main_cst_14
  let main_v53 : FVec F S4112x4x1 .f32 := addf main_v51 main_v52
  let main_v54 : FVec F S4112x4x1 .f32 := Host.rsqrt main_v53
  let main_v55 : FVec F S4112x4x64 .f32 := broadcastInDim S4112x4x64 ![0, 1, 2] bcast_S4112x4x1_S4112x4x64_0_1_2 main_v54
  fn_part3 (F := F) main_arg1 main_arg5 main_v6 main_v11 main_v16 main_v21 main_v26 main_v27 main_v43 main_v45 main_v46 main_v55

def fn_part1 {F : FTy → Type} [FloatOps F] (main_arg0 : FVec F S4224x2560 .f32) (main_arg1 : FVec F S4224x1024 .f32) (main_arg3 : FVec F S1x64 .f32) (main_arg4 : FVec F S1x64 .f32) (main_arg5 : FVec F S1x16 .f32) (main_v6 : IVec S4112x1536 1) (main_v11 : IVec S4112x1024 1) (main_v16 : IVec S1x64 1) (main_cst_5 : FVec F S_ .f32) : IVec S4112x1536 1 × IVec S4112x1024 1 × IVec S1x64 1 × IVec S1x64 1 × IVec S1x16 1 × IVec S4224x1024 1 :=
  let main_v17 : FVec F S1x64 .f32 := broadcastInDim S1x64 ![] bcast_S_S1x64 main_cst_5
  let main_v18 : IVec S1x64 1 := cmpf .ogt main_arg4 main_v17
  let main_cst_6 : FVec F S_ .f32 := constant S_ .f32 0x7F800000#32
  let main_v19 : FVec F S1x64 .f32 := broadcastInDim S1x64 ![] bcast_S_S1x64 main_cst_6
  let main_v20 : IVec S1x64 1 := cmpf .olt main_arg4 main_v19
  let main_v21 : IVec S1x64 1 := andi main_v18 main_v20
  let main_cst_7 : FVec F S_ .f32 := constant S_ .f32 0xFF800000#32
  let main_v22 : FVec F S1x16 .f32 := broadcastInDim S1x16 ![] bcast_S_S1x16 main_cst_7
  let main_v23 : IVec S1x16 1 := cmpf .ogt main_arg5 main_v22
  let main_cst_8 : FVec F S_ .f32 := constant S_ .f32 0x7F800000#32
  let main_v24 : FVec F S1x16 .f32 := broadcastInDim S1x16 ![] bcast_S_S1x16 main_cst_8
  let main_v25 : IVec S1x16 1 := cmpf .olt main_arg5 main_v24
  let main_v26 : IVec S1x16 1 := andi main_v23 main_v25
  let main_v27 : FVec F S4112x2560 .f32 := (extractStridedSlice S4112x2560 ![112, 0] · slices_S4224x2560_S4112x2560_112_0) main_arg0
  let main_v28 : FVec F S4112x1024 .f32 := (extractStridedSlice S4112x1024 ![0, 0] · slices_S4112x2560_S4112x1024_0_0) main_v27
  let main_v29 : FVec F S4112x4x4x64 .f32 := shapeCast S4112x4x4x64 main_v28 shapeCasts_S4112x1024_S4112x4x4x64
  let main_v30 : FVec F S64 .f32 := shapeCast S64 main_arg3 shapeCasts_S1x64_S64
  let main_v31 : FVec F S4112x4x4x64 .f32 := mulf main_v29 main_v29
  let main_cst_9 : FVec F S_ .f32 := constant S_ .f32 0x00000000#32
  let main_v32 : FVec F S4112x4x4 .f32 := (fun x v => Host.reduceAdd x v reducesTo_S4112x4x4x64_S4112x4x4_d3 h_S_) main_v31 main_cst_9
  let main_v33 : FVec F S4112x4x4x1 .f32 := broadcastInDim S4112x4x4x1 ![0, 1, 2] bcast_S4112x4x4_S4112x4x4x1_0_1_2 main_v32
  let main_cst_10 : FVec F S_ .f32 := constant S_ .f32 0x42800000#32
  let main_v34 : FVec F S4112x4x4x1 .f32 := broadcastInDim S4112x4x4x1 ![] bcast_S_S4112x4x4x1 main_cst_10
  let main_v35 : FVec F S4112x4x4x1 .f32 := Host.divf main_v33 main_v34
  fn_part2 (F := F) main_arg1 main_arg4 main_arg5 main_v6 main_v11 main_v16 main_v21 main_v26 main_v27 main_v29 main_v30 main_v35

def fn {F : FTy → Type} [FloatOps F] (main_arg0 : FVec F S4224x2560 .f32) (main_arg1 : FVec F S4224x1024 .f32) (main_arg2 : FVec F S4224x1024 .f32) (main_arg3 : FVec F S1x64 .f32) (main_arg4 : FVec F S1x64 .f32) (main_arg5 : FVec F S1x16 .f32) : IVec S4112x1536 1 × IVec S4112x1024 1 × IVec S1x64 1 × IVec S1x64 1 × IVec S1x16 1 × IVec S4224x1024 1 :=
  let main_v0 : FVec F S4112x1536 .f32 := (extractStridedSlice S4112x1536 ![112, 0] · slices_S4224x2560_S4112x1536_112_0) main_arg0
  let main_v1 : FVec F S4112x1024 .f32 := (extractStridedSlice S4112x1024 ![112, 0] · slices_S4224x1024_S4112x1024_112_0) main_arg2
  let main_cst : FVec F S_ .f32 := constant S_ .f32 0xFF800000#32
  let main_v2 : FVec F S4112x1536 .f32 := broadcastInDim S4112x1536 ![] bcast_S_S4112x1536 main_cst
  let main_v3 : IVec S4112x1536 1 := cmpf .ogt main_v0 main_v2
  let main_cst_0 : FVec F S_ .f32 := constant S_ .f32 0x7F800000#32
  let main_v4 : FVec F S4112x1536 .f32 := broadcastInDim S4112x1536 ![] bcast_S_S4112x1536 main_cst_0
  let main_v5 : IVec S4112x1536 1 := cmpf .olt main_v0 main_v4
  let main_v6 : IVec S4112x1536 1 := andi main_v3 main_v5
  let main_cst_1 : FVec F S_ .f32 := constant S_ .f32 0xFF800000#32
  let main_v7 : FVec F S4112x1024 .f32 := broadcastInDim S4112x1024 ![] bcast_S_S4112x1024 main_cst_1
  let main_v8 : IVec S4112x1024 1 := cmpf .ogt main_v1 main_v7
  let main_cst_2 : FVec F S_ .f32 := constant S_ .f32 0x7F800000#32
  let main_v9 : FVec F S4112x1024 .f32 := broadcastInDim S4112x1024 ![] bcast_S_S4112x1024 main_cst_2
  let main_v10 : IVec S4112x1024 1 := cmpf .olt main_v1 main_v9
  let main_v11 : IVec S4112x1024 1 := andi main_v8 main_v10
  let main_cst_3 : FVec F S_ .f32 := constant S_ .f32 0xFF800000#32
  let main_v12 : FVec F S1x64 .f32 := broadcastInDim S1x64 ![] bcast_S_S1x64 main_cst_3
  let main_v13 : IVec S1x64 1 := cmpf .ogt main_arg3 main_v12
  let main_cst_4 : FVec F S_ .f32 := constant S_ .f32 0x7F800000#32
  let main_v14 : FVec F S1x64 .f32 := broadcastInDim S1x64 ![] bcast_S_S1x64 main_cst_4
  let main_v15 : IVec S1x64 1 := cmpf .olt main_arg3 main_v14
  let main_v16 : IVec S1x64 1 := andi main_v13 main_v15
  let main_cst_5 : FVec F S_ .f32 := constant S_ .f32 0xFF800000#32
  fn_part1 (F := F) main_arg0 main_arg1 main_arg3 main_arg4 main_arg5 main_v6 main_v11 main_v16 main_cst_5
-- ==== Kernel.lean ====
abbrev S4224x2560 : Shape := ⟨2, ![4224, 2560]⟩
abbrev S4224x1024 : Shape := ⟨2, ![4224, 1024]⟩
abbrev S1x64 : Shape := ⟨2, ![1, 64]⟩
abbrev S1x16 : Shape := ⟨2, ![1, 16]⟩
abbrev S4224x256 : Shape := ⟨2, ![4224, 256]⟩
abbrev S128x1024 : Shape := ⟨2, ![128, 1024]⟩
abbrev S128x256 : Shape := ⟨2, ![128, 256]⟩
abbrev S128x384 : Shape := ⟨2, ![128, 384]⟩
abbrev S512x384 : Shape := ⟨2, ![512, 384]⟩
abbrev S128x64 : Shape := ⟨2, ![128, 64]⟩
abbrev S384x64 : Shape := ⟨2, ![384, 64]⟩
abbrev S384 : Shape := ⟨1, ![384]⟩
abbrev S384x1 : Shape := ⟨2, ![384, 1]⟩
abbrev S512x64 : Shape := ⟨2, ![512, 64]⟩
abbrev S512 : Shape := ⟨1, ![512]⟩
abbrev S512x1 : Shape := ⟨2, ![512, 1]⟩
abbrev S1x1 : Shape := ⟨2, ![1, 1]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S64 : Shape := ⟨1, ![64]⟩

abbrev nBuf : Space → Nat
  | .hbm => 11
  | .vmem => 25
  | .smem => 0
  | _ => 0

abbrev bufTy : (tb : Table) → Fin (tcTables nBuf tb) → BufTy
  | .hbm, ⟨0, _⟩ => ⟨S4224x2560, .f32⟩
  | .hbm, ⟨1, _⟩ => ⟨S4224x1024, .f32⟩
  | .hbm, ⟨2, _⟩ => ⟨S4224x1024, .f32⟩
  | .hbm, ⟨3, _⟩ => ⟨S1x64, .f32⟩
  | .hbm, ⟨4, _⟩ => ⟨S1x64, .f32⟩
  | .hbm, ⟨5, _⟩ => ⟨S1x16, .f32⟩
  | .hbm, ⟨6, _⟩ => ⟨S4224x2560, .bf16⟩
  | .hbm, ⟨7, _⟩ => ⟨S4224x256, .f32⟩
  | .hbm, ⟨8, _⟩ => ⟨S4224x256, .f32⟩
  | .hbm, ⟨9, _⟩ => ⟨S1x64, .f32⟩
  | .hbm, ⟨10, _⟩ => ⟨S1x16, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S1x64, .f32⟩
  | .local _ .vmem, ⟨17, _⟩ => ⟨S1x64, .f32⟩
  | .local _ .vmem, ⟨18, _⟩ => ⟨S1x16, .f32⟩
  | .local _ .vmem, ⟨19, _⟩ => ⟨S128x1024, .bf16⟩
  | .local _ .vmem, ⟨20, _⟩ => ⟨S128x1024, .bf16⟩
  | .local _ .vmem, ⟨21, _⟩ => ⟨S4224x256, .f32⟩
  | .local _ .vmem, ⟨22, _⟩ => ⟨S4224x256, .f32⟩
  | .local _ .vmem, ⟨23, _⟩ => ⟨S1x64, .f32⟩
  | .local _ .vmem, ⟨24, _⟩ => ⟨S1x16, .f32⟩
  | _, _ => ⟨S4224x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![33], ![false]⟩

def k0_mult1 (i : grid0.Coords) : BitVec 32 :=
  let arg0 : BitVec 32 := BitVec.ofNat 32 (i 0).val
  let c1_i32 : BitVec 32 := 1#32
  let v45 : BitVec 32 := Scalar.subi arg0 c1_i32
  let c0_i32_9 : BitVec 32 := 0#32
  let v46 : BitVec 32 := Scalar.maxsi v45 c0_i32_9
  let c128_i32_10 : BitVec 32 := 128#32
  let v47 : BitVec 32 := Scalar.muli v46 c128_i32_10
  v47
def k0_mult2 (i : grid0.Coords) : BitVec 32 :=
  let arg0 : BitVec 32 := BitVec.ofNat 32 (i 0).val
  let c128_i32_11 : BitVec 32 := 128#32
  let v49 : BitVec 32 := Scalar.muli arg0 c128_i32_11
  v49
def k0_off1 (i : grid0.Coords) : Fin 2 → Nat :=
  let arg0 : BitVec 32 := BitVec.ofNat 32 (i 0).val
  let c1_i32 : BitVec 32 := 1#32
  let v45 : BitVec 32 := Scalar.subi arg0 c1_i32
  let c0_i32_9 : BitVec 32 := 0#32
  let v46 : BitVec 32 := Scalar.maxsi v45 c0_i32_9
  let c128_i32_10 : BitVec 32 := 128#32
  let v47 : BitVec 32 := Scalar.muli v46 c128_i32_10
  let v48 : BitVec 32 := v47
  let v251 : Index := Scalar.indexCast v48
  let c0_101 : Index := 0#32
  ![v251.toNat, 0]
def k0_off2 (i : grid0.Coords) : Fin 2 → Nat :=
  let arg0 : BitVec 32 := BitVec.ofNat 32 (i 0).val
  let c128_i32_11 : BitVec 32 := 128#32
  let v49 : BitVec 32 := Scalar.muli arg0 c128_i32_11
  let v50 : BitVec 32 := v49
  let v265 : Index := Scalar.indexCast v50
  let c0_105 : Index := 0#32
  ![v265.toNat, 0]
def k0_off3 (i : grid0.Coords) : Fin 2 → Nat :=
  let arg0 : BitVec 32 := BitVec.ofNat 32 (i 0).val
  let c1_i32 : BitVec 32 := 1#32
  let v45 : BitVec 32 := Scalar.subi arg0 c1_i32
  let c0_i32_9 : BitVec 32 := 0#32
  let v46 : BitVec 32 := Scalar.maxsi v45 c0_i32_9
  let c128_i32_10 : BitVec 32 := 128#32
  let v47 : BitVec 32 := Scalar.muli v46 c128_i32_10
  let v48 : BitVec 32 := v47
  let v487 : Index := Scalar.indexCast v48
  let c64_201 : Index := 64#32
  ![v487.toNat, 64]
def k0_off4 (i : grid0.Coords) : Fin 2 → Nat :=
  let arg0 : BitVec 32 := BitVec.ofNat 32 (i 0).val
  let c128_i32_11 : BitVec 32 := 128#32
  let v49 : BitVec 32 := Scalar.muli arg0 c128_i32_11
  let v50 : BitVec 32 := v49
  let v501 : Index := Scalar.indexCast v50
  let c64_205 : Index := 64#32
  ![v501.toNat, 64]
def k0_off5 (i : grid0.Coords) : Fin 2 → Nat :=
  let arg0 : BitVec 32 := BitVec.ofNat 32 (i 0).val
  let c1_i32 : BitVec 32 := 1#32
  let v45 : BitVec 32 := Scalar.subi arg0 c1_i32
  let c0_i32_9 : BitVec 32 := 0#32
  let v46 : BitVec 32 := Scalar.maxsi v45 c0_i32_9
  let c128_i32_10 : BitVec 32 := 128#32
  let v47 : BitVec 32 := Scalar.muli v46 c128_i32_10
  let v48 : BitVec 32 := v47
  let v723 : Index := Scalar.indexCast v48
  let c128_301 : Index := 128#32
  ![v723.toNat, 128]
def k0_off6 (i : grid0.Coords) : Fin 2 → Nat :=
  let arg0 : BitVec 32 := BitVec.ofNat 32 (i 0).val
  let c128_i32_11 : BitVec 32 := 128#32
  let v49 : BitVec 32 := Scalar.muli arg0 c128_i32_11
  let v50 : BitVec 32 := v49
  let v737 : Index := Scalar.indexCast v50
  let c128_305 : Index := 128#32
  ![v737.toNat, 128]
def k0_off7 (i : grid0.Coords) : Fin 2 → Nat :=
  let arg0 : BitVec 32 := BitVec.ofNat 32 (i 0).val
  let c1_i32 : BitVec 32 := 1#32
  let v45 : BitVec 32 := Scalar.subi arg0 c1_i32
  let c0_i32_9 : BitVec 32 := 0#32
  let v46 : BitVec 32 := Scalar.maxsi v45 c0_i32_9
  let c128_i32_10 : BitVec 32 := 128#32
  let v47 : BitVec 32 := Scalar.muli v46 c128_i32_10
  let v48 : BitVec 32 := v47
  let v959 : Index := Scalar.indexCast v48
  let c192_401 : Index := 192#32
  ![v959.toNat, 192]
def k0_off8 (i : grid0.Coords) : Fin 2 → Nat :=
  let arg0 : BitVec 32 := BitVec.ofNat 32 (i 0).val
  let c128_i32_11 : BitVec 32 := 128#32
  let v49 : BitVec 32 := Scalar.muli arg0 c128_i32_11
  let v50 : BitVec 32 := v49
  let v973 : Index := Scalar.indexCast v50
  let c192_405 : Index := 192#32
  ![v973.toNat, 192]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4224x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4224x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4224x2560 : Shape := ⟨2, ![4224, 2560]⟩
abbrev S4224x1024 : Shape := ⟨2, ![4224, 1024]⟩
abbrev S1x64 : Shape := ⟨2, ![1, 64]⟩
abbrev S1x16 : Shape := ⟨2, ![1, 16]⟩
abbrev S4112x2560 : Shape := ⟨2, ![4112, 2560]⟩
abbrev S4112x1024 : Shape := ⟨2, ![4112, 1024]⟩
abbrev S4112x4x4x64 : Shape := ⟨4, ![4112, 4, 4, 64]⟩
abbrev S64 : Shape := ⟨1, ![64]⟩
abbrev S_ : Shape := ⟨0, ![]⟩
abbrev S4112x4x4 : Shape := ⟨3, ![4112, 4, 4]⟩
abbrev S4112x4x4x1 : Shape := ⟨4, ![4112, 4, 4, 1]⟩
abbrev S1x1x1x64 : Shape := ⟨4, ![1, 1, 1, 64]⟩
abbrev S4112x256 : Shape := ⟨2, ![4112, 256]⟩
abbrev S4112x4x64 : Shape := ⟨3, ![4112, 4, 64]⟩
abbrev S4112x4 : Shape := ⟨2, ![4112, 4]⟩
abbrev S4112x4x1 : Shape := ⟨3, ![4112, 4, 1]⟩
abbrev S1x1x64 : Shape := ⟨3, ![1, 1, 64]⟩
abbrev S4112 : Shape := ⟨1, ![4112]⟩
abbrev S4112x1 : Shape := ⟨2, ![4112, 1]⟩
abbrev S1x4112 : Shape := ⟨2, ![1, 4112]⟩
abbrev S4112x4112 : Shape := ⟨2, ![4112, 4112]⟩
abbrev S1 : Shape := ⟨1, ![1]⟩
abbrev S16 : Shape := ⟨1, ![16]⟩
abbrev S4x4x1x1 : Shape := ⟨4, ![4, 4, 1, 1]⟩
abbrev S4x4112x4112x4 : Shape := ⟨4, ![4, 4112, 4112, 4]⟩
abbrev S4x4x4112x4112 : Shape := ⟨4, ![4, 4, 4112, 4112]⟩
abbrev S1x1x4112x4112 : Shape := ⟨4, ![1, 1, 4112, 4112]⟩
abbrev S4x4x4112x1 : Shape := ⟨4, ![4, 4, 4112, 1]⟩
abbrev S4x4x4112x4113 : Shape := ⟨4, ![4, 4, 4112, 4113]⟩
abbrev S4x4x4112 : Shape := ⟨3, ![4, 4, 4112]⟩
abbrev S4x64x4x4112 : Shape := ⟨4, ![4, 64, 4, 4112]⟩
abbrev S4x64x4112 : Shape := ⟨3, ![4, 64, 4112]⟩
abbrev S4x4 : Shape := ⟨2, ![4, 4]⟩
abbrev S4x4112x64 : Shape := ⟨3, ![4, 4112, 64]⟩
abbrev S4224x256 : Shape := ⟨2, ![4224, 256]⟩

abbrev nBuf : Space → Nat
  | .hbm => 210
  | .vmem => 0
  | .smem => 0
  | _ => 0

abbrev hbmTy0_0 (i : Nat) : BufTy := match i % 128 with
  | 0 => ⟨S4224x2560, .f32⟩
  | 1 => ⟨S4224x1024, .f32⟩
  | 2 => ⟨S4224x1024, .f32⟩
  | 3 => ⟨S1x64, .f32⟩
  | 4 => ⟨S1x64, .f32⟩
  | 5 => ⟨S1x16, .f32⟩
  | 6 => ⟨S4112x2560, .f32⟩
  | 7 => ⟨S4112x1024, .f32⟩
  | 8 => ⟨S4112x4x4x64, .f32⟩
  | 9 => ⟨S64, .f32⟩
  | 10 => ⟨S4112x4x4x64, .f32⟩
  | 11 => ⟨S_, .f32⟩
  | 12 => ⟨S4112x4x4, .f32⟩
  | 13 => ⟨S4112x4x4x1, .f32⟩
  | 14 => ⟨S_, .f32⟩
  | 15 => ⟨S4112x4x4x1, .f32⟩
  | 16 => ⟨S4112x4x4x1, .f32⟩
  | 17 => ⟨S_, .f32⟩
  | 18 => ⟨S4112x4x4x1, .f32⟩
  | 19 => ⟨S4112x4x4x1, .f32⟩
  | 20 => ⟨S4112x4x4x1, .f32⟩
  | 21 => ⟨S4112x4x4x64, .f32⟩
  | 22 => ⟨S4112x4x4x64, .f32⟩
  | 23 => ⟨S1x1x1x64, .f32⟩
  | 24 => ⟨S4112x4x4x64, .f32⟩
  | 25 => ⟨S4112x4x4x64, .f32⟩
  | 26 => ⟨S4112x256, .f32⟩
  | 27 => ⟨S4112x4x64, .f32⟩
  | 28 => ⟨S64, .f32⟩
  | 29 => ⟨S4112x4x64, .f32⟩
  | 30 => ⟨S_, .f32⟩
  | 31 => ⟨S4112x4, .f32⟩
  | 32 => ⟨S4112x4x1, .f32⟩
  | 33 => ⟨S_, .f32⟩
  | 34 => ⟨S4112x4x1, .f32⟩
  | 35 => ⟨S4112x4x1, .f32⟩
  | 36 => ⟨S_, .f32⟩
  | 37 => ⟨S4112x4x1, .f32⟩
  | 38 => ⟨S4112x4x1, .f32⟩
  | 39 => ⟨S4112x4x1, .f32⟩
  | 40 => ⟨S4112x4x64, .f32⟩
  | 41 => ⟨S4112x4x64, .f32⟩
  | 42 => ⟨S1x1x64, .f32⟩
  | 43 => ⟨S4112x4x64, .f32⟩
  | 44 => ⟨S4112x4x64, .f32⟩
  | 45 => ⟨S4112x256, .f32⟩
  | 46 => ⟨S4112x4x64, .f32⟩
  | 47 => ⟨S4112x1024, .f32⟩
  | 48 => ⟨S4112x4x4x64, .f32⟩
  | 49 => ⟨S4112, .i32⟩
  | 50 => ⟨S4112x1, .i32⟩
  | 51 => ⟨S4112, .i32⟩
  | 52 => ⟨S1x4112, .i32⟩
  | 53 => ⟨S4112x4112, .i32⟩
  | 54 => ⟨S4112x4112, .i32⟩
  | 55 => ⟨S4112x4112, .i1⟩
  | 56 => ⟨S4112x4112, .i32⟩
  | 57 => ⟨S4112x4112, .i32⟩
  | 58 => ⟨S4112x4112, .i32⟩
  | 59 => ⟨S_, .i32⟩
  | 60 => ⟨S4112x4112, .i32⟩
  | 61 => ⟨S4112x4112, .i1⟩
  | 62 => ⟨S_, .i32⟩
  | 63 => ⟨S1x4112, .i32⟩
  | 64 => ⟨S1x4112, .i1⟩
  | 65 => ⟨S4112x4112, .i1⟩
  | 66 => ⟨S4112x4112, .i1⟩
  | 67 => ⟨S4112x4112, .i1⟩
  | 68 => ⟨S4112x4112, .i32⟩
  | 69 => ⟨S4112x4112, .i32⟩
  | 70 => ⟨S4112x4112, .i32⟩
  | 71 => ⟨S4112x4112, .f32⟩
  | 72 => ⟨S_, .f32⟩
  | 73 => ⟨S1, .f32⟩
  | 74 => ⟨S_, .f32⟩
  | 75 => ⟨S1, .f32⟩
  | 76 => ⟨S_, .f32⟩
  | 77 => ⟨S1, .f32⟩
  | 78 => ⟨S_, .f32⟩
  | 79 => ⟨S1, .f32⟩
  | 80 => ⟨S_, .f32⟩
  | 81 => ⟨S1, .f32⟩
  | 82 => ⟨S_, .f32⟩
  | 83 => ⟨S1, .f32⟩
  | 84 => ⟨S_, .f32⟩
  | 85 => ⟨S1, .f32⟩
  | 86 => ⟨S_, .f32⟩
  | 87 => ⟨S1, .f32⟩
  | 88 => ⟨S_, .f32⟩
  | 89 => ⟨S1, .f32⟩
  | 90 => ⟨S_, .f32⟩
  | 91 => ⟨S1, .f32⟩
  | 92 => ⟨S_, .f32⟩
  | 93 => ⟨S1, .f32⟩
  | 94 => ⟨S_, .f32⟩
  | 95 => ⟨S1, .f32⟩
  | 96 => ⟨S_, .f32⟩
  | 97 => ⟨S1, .f32⟩
  | 98 => ⟨S_, .f32⟩
  | 99 => ⟨S1, .f32⟩
  | 100 => ⟨S_, .f32⟩
  | 101 => ⟨S1, .f32⟩
  | 102 => ⟨S_, .f32⟩
  | 103 => ⟨S1, .f32⟩
  | 104 => ⟨S16, .f32⟩
  | 105 => ⟨S4x4x1x1, .f32⟩
  | 106 => ⟨S4x4112x4112x4, .f32⟩
  | 107 => ⟨S4x4x4112x4112, .f32⟩
  | 108 => ⟨S_, .f32⟩
  | 109 => ⟨S4x4x4112x4112, .f32⟩
  | 110 => ⟨S4x4x4112x4112, .f32⟩
  | 111 => ⟨S1x1x4112x4112, .f32⟩
  | 112 => ⟨S4x4x4112x4112, .f32⟩
  | 113 => ⟨S4x4x4112x4112, .f32⟩
  | 114 => ⟨S4x4x4112x4112, .f32⟩
  | 115 => ⟨S4x4x4112x4112, .f32⟩
  | 116 => ⟨S_, .f32⟩
  | 117 => ⟨S_, .f32⟩
  | 118 => ⟨S4x4x4112x4112, .i1⟩
  | 119 => ⟨S4x4x4112x4112, .f32⟩
  | 120 => ⟨S4x4x4112x4112, .f32⟩
  | 121 => ⟨S_, .f32⟩
  | 122 => ⟨S4x4x4112x4112, .f32⟩
  | 123 => ⟨S4x4x1x1, .f32⟩
  | 124 => ⟨S4x4x4112x1, .f32⟩
  | 125 => ⟨S4x4x4112x4113, .f32⟩
  | 126 => ⟨S_, .f32⟩
  | 127 => ⟨S4x4x4112, .f32⟩
  | _ => ⟨S4224x2560, .f32⟩

abbrev hbmTy0_1 (i : Nat) : BufTy := match i % 128 with
  | 0 => ⟨S4x4x4112x1, .f32⟩
  | 1 => ⟨S4x4x4112x4113, .f32⟩
  | 2 => ⟨S4x4x4112x4113, .i1⟩
  | 3 => ⟨S4x4x4112x4113, .f32⟩
  | 4 => ⟨S_, .f32⟩
  | 5 => ⟨S4x4x4112, .f32⟩
  | 6 => ⟨S_, .f32⟩
  | 7 => ⟨S4x4x4112, .f32⟩
  | 8 => ⟨S4x4x4112, .f32⟩
  | 9 => ⟨S_, .f32⟩
  | 10 => ⟨S4x4x4112, .f32⟩
  | 11 => ⟨S4x4x4112, .i1⟩
  | 12 => ⟨S_, .f32⟩
  | 13 => ⟨S4x4x4112, .f32⟩
  | 14 => ⟨S4x4x4112, .i1⟩
  | 15 => ⟨S_, .f32⟩
  | 16 => ⟨S4x4x4112, .f32⟩
  | 17 => ⟨S_, .f32⟩
  | 18 => ⟨S4x4x4112, .f32⟩
  | 19 => ⟨S_, .f32⟩
  | 20 => ⟨S4x4x4112, .f32⟩
  | 21 => ⟨S4x4x4112, .f32⟩
  | 22 => ⟨S4x4x4112, .f32⟩
  | 23 => ⟨S4x4x4112x1, .f32⟩
  | 24 => ⟨S4x4x4112x4113, .f32⟩
  | 25 => ⟨S4x4x4112x4113, .f32⟩
  | 26 => ⟨S4x4x4112x4113, .f32⟩
  | 27 => ⟨S_, .f32⟩
  | 28 => ⟨S4x4x4112, .f32⟩
  | 29 => ⟨S4x4x4112x1, .f32⟩
  | 30 => ⟨S4x4x4112x4113, .f32⟩
  | 31 => ⟨S4x4x4112x4113, .f32⟩
  | 32 => ⟨S4x4x4112x1, .f32⟩
  | 33 => ⟨S_, .f32⟩
  | 34 => ⟨S4x4x4112x1, .f32⟩
  | 35 => ⟨S4x4x4112x1, .f32⟩
  | 36 => ⟨S4x4x4112x4112, .f32⟩
  | 37 => ⟨S4x64x4x4112, .f32⟩
  | 38 => ⟨S4112x4x4x64, .f32⟩
  | 39 => ⟨S4x64x4x4112, .f32⟩
  | 40 => ⟨S4x4x4112x4112, .f32⟩
  | 41 => ⟨S4x64x4112, .f32⟩
  | 42 => ⟨S4112x4x64, .f32⟩
  | 43 => ⟨S_, .f32⟩
  | 44 => ⟨S4x4x4112x4113, .f32⟩
  | 45 => ⟨S4x4x4112x4113, .f32⟩
  | 46 => ⟨S4x4x4112x4113, .f32⟩
  | 47 => ⟨S4x4x4112x4113, .f32⟩
  | 48 => ⟨S_, .f32⟩
  | 49 => ⟨S4x4x4112, .f32⟩
  | 50 => ⟨S4x4x4112x1, .f32⟩
  | 51 => ⟨S4x4x4112x1, .f32⟩
  | 52 => ⟨S4x4x4112x4113, .f32⟩
  | 53 => ⟨S4x4x4112x4113, .f32⟩
  | 54 => ⟨S_, .f32⟩
  | 55 => ⟨S4x4x4112, .f32⟩
  | 56 => ⟨S4x4x4112x4113, .f32⟩
  | 57 => ⟨S4x4x4112x4113, .f32⟩
  | 58 => ⟨S4x4x4112x4113, .f32⟩
  | 59 => ⟨S4x4x4112x4112, .f32⟩
  | 60 => ⟨S4x4x4112x1, .f32⟩
  | 61 => ⟨S_, .f32⟩
  | 62 => ⟨S4x4, .f32⟩
  | 63 => ⟨S4x4x1x1, .f32⟩
  | 64 => ⟨S1x16, .f32⟩
  | 65 => ⟨S_, .f32⟩
  | 66 => ⟨S4x4x4112x4112, .f32⟩
  | 67 => ⟨S4x4x4112x4112, .f32⟩
  | 68 => ⟨S_, .f32⟩
  | 69 => ⟨S4x4x4112x4112, .f32⟩
  | 70 => ⟨S4x4x4112x4112, .f32⟩
  | 71 => ⟨S4x4112x4112x4, .f32⟩
  | 72 => ⟨S4x4112x64, .f32⟩
  | 73 => ⟨S4112x4x64, .f32⟩
  | 74 => ⟨S4112x256, .f32⟩
  | 75 => ⟨S_, .i32⟩
  | 76 => ⟨S_, .f32⟩
  | 77 => ⟨S4224x256, .f32⟩
  | 78 => ⟨S4112x256, .f32⟩
  | 79 => ⟨S_, .i32⟩
  | 80 => ⟨S_, .f32⟩
  | 81 => ⟨S4224x256, .f32⟩
  | _ => ⟨S4224x2560, .f32⟩

abbrev hbmTy (i : Nat) : BufTy := match i / 128 with
  | 0 => hbmTy0_0 i
  | 1 => hbmTy0_1 i
  | _ => ⟨S4224x2560, .f32⟩

abbrev bufTy : (tb : Table) → Fin (tcTables nBuf tb) → BufTy
  | .hbm, ⟨i, _⟩ => hbmTy i
  | _, _ => ⟨S4224x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c : Ref sig .tc := ⟨.hbm, 59, rfl⟩
abbrev main_v47 : Ref sig .tc := ⟨.hbm, 60, rfl⟩
abbrev main_v48 : Ref sig .tc := ⟨.hbm, 61, rfl⟩
abbrev main_c_5 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_cst_16 : Ref sig .tc := ⟨.hbm, 92, rfl⟩
abbrev main_v68 : Ref sig .tc := ⟨.hbm, 93, rfl⟩
abbrev main_cst_17 : Ref sig .tc := ⟨.hbm, 94, rfl⟩
abbrev main_v69 : Ref sig .tc := ⟨.hbm, 95, rfl⟩
abbrev main_cst_18 : Ref sig .tc := ⟨.hbm, 96, rfl⟩
abbrev main_v70 : Ref sig .tc := ⟨.hbm, 97, rfl⟩
abbrev main_cst_19 : Ref sig .tc := ⟨.hbm, 98, rfl⟩
abbrev main_v71 : Ref sig .tc := ⟨.hbm, 99, rfl⟩
abbrev main_cst_20 : Ref sig .tc := ⟨.hbm, 100, rfl⟩
abbrev main_v72 : Ref sig .tc := ⟨.hbm, 101, rfl⟩
abbrev main_cst_21 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_22 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_23 : Ref sig .tc := ⟨.hbm, 116, rfl⟩
abbrev main_call0_v0 : Ref sig .tc := ⟨.hbm, 117, rfl⟩
abbrev main_v85_1 : Ref sig .tc := ⟨.hbm, 118, rfl⟩
abbrev main_call0_v2 : Ref sig .tc := ⟨.hbm, 119, rfl⟩
abbrev main_v85_0 : Ref sig .tc := ⟨.hbm, 120, rfl⟩
abbrev main_call0_cst : Ref sig .tc := ⟨.hbm, 121, rfl⟩
abbrev main_v85_2 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_24 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_25 : Ref sig .tc := ⟨.hbm, 132, rfl⟩
abbrev main_v94 : Ref sig .tc := ⟨.hbm, 133, rfl⟩
abbrev main_cst_26 : Ref sig .tc := ⟨.hbm, 134, rfl⟩
abbrev main_v95 : Ref sig .tc := ⟨.hbm, 135, rfl⟩
abbrev main_v96 : Ref sig .tc := ⟨.hbm, 136, rfl⟩
abbrev main_cst_27 : Ref sig .tc := ⟨.hbm, 137, rfl⟩
abbrev main_v97 : Ref sig .tc := ⟨.hbm, 138, rfl⟩
abbrev main_v98 : Ref sig .tc := ⟨.hbm, 139, rfl⟩
abbrev main_cst_28 : Ref sig .tc := ⟨.hbm, 140, rfl⟩
abbrev main_v99 : Ref sig .tc := ⟨.hbm, 141, rfl⟩
abbrev main_v100 : Ref sig .tc := ⟨.hbm, 142, rfl⟩
abbrev main_cst_29 : Ref sig .tc := ⟨.hbm, 143, rfl⟩
abbrev main_v101 : Ref sig .tc := ⟨.hbm, 144, rfl⟩
abbrev main_cst_30 : Ref sig .tc := ⟨.hbm, 145, rfl⟩
abbrev main_v102 : Ref sig .tc := ⟨.hbm, 146, rfl⟩
abbrev main_cst_31 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_32 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_33 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_34 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_35 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_36 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_37 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_call1_cst : Ref sig .tc := ⟨.hbm, 193, rfl⟩
abbrev main_call1_v0 : Ref sig .tc := ⟨.hbm, 194, rfl⟩
abbrev main_v142 : Ref sig .tc := ⟨.hbm, 195, rfl⟩
abbrev main_cst_38 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_c_39 : Ref sig .tc := ⟨.hbm, 203, rfl⟩
abbrev main_call2_v0 : Ref sig .tc := ⟨.hbm, 204, rfl⟩
abbrev main_v149 : Ref sig .tc := ⟨.hbm, 205, rfl⟩
abbrev main_v150 : Ref sig .tc := ⟨.hbm, 206, rfl⟩
abbrev main_c_40 : Ref sig .tc := ⟨.hbm, 207, rfl⟩
abbrev main_call3_v0 : Ref sig .tc := ⟨.hbm, 208, rfl⟩
abbrev main_v151 : Ref sig .tc := ⟨.hbm, 209, rfl⟩

abbrev nD : Nat := 1
abbrev τ : Topo := Topo.v7x

variable {F : FTy → Type} [FloatOps F]
-- ==== DownDx.lean ====
abbrev S4224x2048 : Shape := ⟨2, ![4224, 2048]⟩
abbrev S8192x2048 : Shape := ⟨2, ![8192, 2048]⟩
abbrev S4224x8192 : Shape := ⟨2, ![4224, 8192]⟩
abbrev S1408x2048 : Shape := ⟨2, ![1408, 2048]⟩
abbrev S1024x2048 : Shape := ⟨2, ![1024, 2048]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x2048, .bf16⟩
  | .hbm, ⟨1, _⟩ => ⟨S8192x2048, .bf16⟩
  | .hbm, ⟨2, _⟩ => ⟨S4224x8192, .f32⟩
  | .hbm, ⟨3, _⟩ => ⟨S4224x8192, .bf16⟩
  | .local _ .vmem, ⟨0, _⟩ => ⟨S1408x2048, .bf16⟩
  | .local _ .vmem, ⟨1, _⟩ => ⟨S1408x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S4224x2048 : Shape := ⟨2, ![4224, 2048]⟩
abbrev S8192x2048 : Shape := ⟨2, ![8192, 2048]⟩
abbrev S4224x8192 : Shape := ⟨2, ![4224, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S8192x2048, .bf16⟩
  | .hbm, ⟨2, _⟩ => ⟨S4224x8192, .f32⟩
  | .hbm, ⟨3, _⟩ => ⟨S4224x2048, .f32⟩
  | .hbm, ⟨4, _⟩ => ⟨S8192x2048, .f32⟩
  | .hbm, ⟨5, _⟩ => ⟨S_, .f32⟩
  | .hbm, ⟨6, _⟩ => ⟨S4224x8192, .f32⟩
  | .hbm, ⟨7, _⟩ => ⟨S4224x8192, .f32⟩
  | .hbm, ⟨8, _⟩ => ⟨S_, .f32⟩
  | .hbm, ⟨9, _⟩ => ⟨S4224x8192, .f32⟩
  | .hbm, ⟨10, _⟩ => ⟨S4224x8192, .i1⟩
  | .hbm, ⟨11, _⟩ => ⟨S_, .f32⟩
  | .hbm, ⟨12, _⟩ => ⟨S4224x8192, .f32⟩
  | .hbm, ⟨13, _⟩ => ⟨S4224x8192, .f32⟩
  | .hbm, ⟨14, _⟩ => ⟨S_, .f32⟩
  | .hbm, ⟨15, _⟩ => ⟨S4224x8192, .f32⟩
  | .hbm, ⟨16, _⟩ => ⟨S4224x8192, .f32⟩
  | .hbm, ⟨17, _⟩ => ⟨S4224x2048, .f32⟩
  | .hbm, ⟨18, _⟩ => ⟨S4224x8192, .f32⟩
  | .hbm, ⟨19, _⟩ => ⟨S4224x8192, .f32⟩
  | .hbm, ⟨20, _⟩ => ⟨S_, .f32⟩
  | .hbm, ⟨21, _⟩ => ⟨S4224x8192, .f32⟩
  | .hbm, ⟨22, _⟩ => ⟨S4224x8192, .f32⟩
  | .hbm, ⟨23, _⟩ => ⟨S4224x8192, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownDw.lean ====
abbrev S4224x8192 : Shape := ⟨2, ![4224, 8192]⟩
abbrev S4224x2048 : Shape := ⟨2, ![4224, 2048]⟩
abbrev S8192x2048 : Shape := ⟨2, ![8192, 2048]⟩
abbrev S1408x1024 : Shape := ⟨2, ![1408, 1024]⟩
abbrev S1408x2048 : Shape := ⟨2, ![1408, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4224x8192, .bf16⟩
  | .hbm, ⟨1, _⟩ => ⟨S4224x2048, .bf16⟩
  | .hbm, ⟨2, _⟩ => ⟨S8192x2048, .bf16⟩
  | .local _ .vmem, ⟨0, _⟩ => ⟨S1408x1024, .bf16⟩
  | .local _ .vmem, ⟨1, _⟩ => ⟨S1408x1024, .bf16⟩
  | .local _ .vmem, ⟨2, _⟩ => ⟨S1408x2048, .bf16⟩
  | .local _ .vmem, ⟨3, _⟩ => ⟨S1408x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4224x8192 : Shape := ⟨2, ![4224, 8192]⟩
abbrev S4224x2048 : Shape := ⟨2, ![4224, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S4224x2048, .bf16⟩
  | .hbm, ⟨2, _⟩ => ⟨S4224x8192, .f32⟩
  | .hbm, ⟨3, _⟩ => ⟨S4224x2048, .f32⟩
  | .hbm, ⟨4, _⟩ => ⟨S_, .f32⟩
  | .hbm, ⟨5, _⟩ => ⟨S8192x2048, .f32⟩
  | .hbm, ⟨6, _⟩ => ⟨S4224x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S4224x8192 : Shape := ⟨2, ![4224, 8192]⟩
abbrev S2048x8192 : Shape := ⟨2, ![2048, 8192]⟩
abbrev S4224x2048 : Shape := ⟨2, ![4224, 2048]⟩
abbrev S1408x512 : Shape := ⟨2, ![1408, 512]⟩
abbrev S2048x512 : Shape := ⟨2, ![2048, 512]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4224x8192, .bf16⟩
  | .hbm, ⟨1, _⟩ => ⟨S2048x8192, .bf16⟩
  | .hbm, ⟨2, _⟩ => ⟨S4224x2048, .f32⟩
  | .local _ .vmem, ⟨0, _⟩ => ⟨S1408x512, .bf16⟩
  | .local _ .vmem, ⟨1, _⟩ => ⟨S1408x512, .bf16⟩
  | .local _ .vmem, ⟨2, _⟩ => ⟨S2048x512, .bf16⟩
  | .local _ .vmem, ⟨3, _⟩ => ⟨S2048x512, .bf16⟩
  | .local _ .vmem, ⟨4, _⟩ => ⟨S1408x2048, .f32⟩
  | .local _ .vmem, ⟨5, _⟩ => ⟨S1408x2048, .f32⟩
  | .local _ .vmem, ⟨6, _⟩ => ⟨S1408x2048, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4224x8192 : Shape := ⟨2, ![4224, 8192]⟩
abbrev S2048x8192 : Shape := ⟨2, ![2048, 8192]⟩
abbrev S_ : Shape := ⟨0, ![]⟩
abbrev S4224x2048 : Shape := ⟨2, ![4224, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S2048x8192, .bf16⟩
  | .hbm, ⟨2, _⟩ => ⟨S4224x8192, .f32⟩
  | .hbm, ⟨3, _⟩ => ⟨S2048x8192, .f32⟩
  | .hbm, ⟨4, _⟩ => ⟨S_, .f32⟩
  | .hbm, ⟨5, _⟩ => ⟨S4224x2048, .f32⟩
  | .hbm, ⟨6, _⟩ => ⟨S4224x8192, .f32⟩
  | .hbm, ⟨7, _⟩ => ⟨S4224x2048, .f32⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S4224x2048 : Shape := ⟨2, ![4224, 2048]⟩
abbrev S4224x8192 : Shape := ⟨2, ![4224, 8192]⟩
abbrev S2048x8192 : Shape := ⟨2, ![2048, 8192]⟩
abbrev S1408x1024 : Shape := ⟨2, ![1408, 1024]⟩
abbrev S1408x2048 : Shape := ⟨2, ![1408, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x8192, .bf16⟩
  | .hbm, ⟨2, _⟩ => ⟨S2048x8192, .bf16⟩
  | .local _ .vmem, ⟨0, _⟩ => ⟨S1408x1024, .bf16⟩
  | .local _ .vmem, ⟨1, _⟩ => ⟨S1408x1024, .bf16⟩
  | .local _ .vmem, ⟨2, _⟩ => ⟨S1408x2048, .bf16⟩
  | .local _ .vmem, ⟨3, _⟩ => ⟨S1408x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4224x2048 : Shape := ⟨2, ![4224, 2048]⟩
abbrev S4224x8192 : Shape := ⟨2, ![4224, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x8192, .bf16⟩
  | .hbm, ⟨2, _⟩ => ⟨S4224x2048, .f32⟩
  | .hbm, ⟨3, _⟩ => ⟨S4224x8192, .f32⟩
  | .hbm, ⟨4, _⟩ => ⟨S_, .f32⟩
  | .hbm, ⟨5, _⟩ => ⟨S2048x8192, .f32⟩
  | .hbm, ⟨6, _⟩ => ⟨S4224x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4224x2048 : Shape := ⟨2, ![4224, 2048]⟩
abbrev S2048x2048 : Shape := ⟨2, ![2048, 2048]⟩
abbrev S1408x2048 : Shape := ⟨2, ![1408, 2048]⟩
abbrev S1024x2048 : Shape := ⟨2, ![1024, 2048]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4224x2048 : Shape := ⟨2, ![4224, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S2048x2048, .f32⟩
  | .hbm, ⟨4, _⟩ => ⟨S_, .f32⟩
  | .hbm, ⟨5, _⟩ => ⟨S4224x2048, .f32⟩
  | .hbm, ⟨6, _⟩ => ⟨S4224x2048, .f32⟩
  | .hbm, ⟨7, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4224x2048 : Shape := ⟨2, ![4224, 2048]⟩
abbrev S2048x2048 : Shape := ⟨2, ![2048, 2048]⟩
abbrev S1408x1024 : Shape := ⟨2, ![1408, 1024]⟩
abbrev S1408x2048 : Shape := ⟨2, ![1408, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S2048x2048, .bf16⟩
  | .local _ .vmem, ⟨0, _⟩ => ⟨S1408x1024, .bf16⟩
  | .local _ .vmem, ⟨1, _⟩ => ⟨S1408x1024, .bf16⟩
  | .local _ .vmem, ⟨2, _⟩ => ⟨S1408x2048, .bf16⟩
  | .local _ .vmem, ⟨3, _⟩ => ⟨S1408x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4224x2048 : Shape := ⟨2, ![4224, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S4224x2048, .f32⟩
  | .hbm, ⟨3, _⟩ => ⟨S4224x2048, .f32⟩
  | .hbm, ⟨4, _⟩ => ⟨S_, .f32⟩
  | .hbm, ⟨5, _⟩ => ⟨S2048x2048, .f32⟩
  | .hbm, ⟨6, _⟩ => ⟨S4224x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S4224x2560 : Shape := ⟨2, ![4224, 2560]⟩
abbrev S2048x2560 : Shape := ⟨2, ![2048, 2560]⟩
abbrev S4224x2048 : Shape := ⟨2, ![4224, 2048]⟩
abbrev S1408x512 : Shape := ⟨2, ![1408, 512]⟩
abbrev S2048x512 : Shape := ⟨2, ![2048, 512]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4224x2560, .bf16⟩
  | .hbm, ⟨1, _⟩ => ⟨S2048x2560, .bf16⟩
  | .hbm, ⟨2, _⟩ => ⟨S4224x2048, .f32⟩
  | .local _ .vmem, ⟨0, _⟩ => ⟨S1408x512, .bf16⟩
  | .local _ .vmem, ⟨1, _⟩ => ⟨S1408x512, .bf16⟩
  | .local _ .vmem, ⟨2, _⟩ => ⟨S2048x512, .bf16⟩
  | .local _ .vmem, ⟨3, _⟩ => ⟨S2048x512, .bf16⟩
  | .local _ .vmem, ⟨4, _⟩ => ⟨S1408x2048, .f32⟩
  | .local _ .vmem, ⟨5, _⟩ => ⟨S1408x2048, .f32⟩
  | .local _ .vmem, ⟨6, _⟩ => ⟨S1408x2048, .f32⟩
  | _, _ => ⟨S4224x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4224x2560 : Shape := ⟨2, ![4224, 2560]⟩
abbrev S2048x2560 : Shape := ⟨2, ![2048, 2560]⟩
abbrev S_ : Shape := ⟨0, ![]⟩
abbrev S4224x2048 : Shape := ⟨2, ![4224, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x2560, .bf16⟩
  | .hbm, ⟨1, _⟩ => ⟨S2048x2560, .bf16⟩
  | .hbm, ⟨2, _⟩ => ⟨S4224x2560, .f32⟩
  | .hbm, ⟨3, _⟩ => ⟨S2048x2560, .f32⟩
  | .hbm, ⟨4, _⟩ => ⟨S_, .f32⟩
  | .hbm, ⟨5, _⟩ => ⟨S4224x2048, .f32⟩
  | .hbm, ⟨6, _⟩ => ⟨S4224x2560, .f32⟩
  | .hbm, ⟨7, _⟩ => ⟨S4224x2048, .f32⟩
  | _, _ => ⟨S4224x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S4224x2048 : Shape := ⟨2, ![4224, 2048]⟩
abbrev S4224x2560 : Shape := ⟨2, ![4224, 2560]⟩
abbrev S2048x2560 : Shape := ⟨2, ![2048, 2560]⟩
abbrev S1408x1024 : Shape := ⟨2, ![1408, 1024]⟩
abbrev S1408x1280 : Shape := ⟨2, ![1408, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x2560, .bf16⟩
  | .hbm, ⟨2, _⟩ => ⟨S2048x2560, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1280, .bf16⟩
  | .local _ .vmem, ⟨3, _⟩ => ⟨S1408x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4224x2048 : Shape := ⟨2, ![4224, 2048]⟩
abbrev S4224x2560 : Shape := ⟨2, ![4224, 2560]⟩
abbrev S_ : Shape := ⟨0, ![]⟩
abbrev S2048x2560 : Shape := ⟨2, ![2048, 2560]⟩
abbrev S2560x2048 : Shape := ⟨2, ![2560, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2560, .bf16⟩
  | .hbm, ⟨2, _⟩ => ⟨S4224x2048, .f32⟩
  | .hbm, ⟨3, _⟩ => ⟨S4224x2560, .f32⟩
  | .hbm, ⟨4, _⟩ => ⟨S_, .f32⟩
  | .hbm, ⟨5, _⟩ => ⟨S2048x2560, .f32⟩
  | .hbm, ⟨6, _⟩ => ⟨S4224x2560, .f32⟩
  | .hbm, ⟨7, _⟩ => ⟨S2560x2048, .f32⟩
  | .hbm, ⟨8, _⟩ => ⟨S2048x2560, .f32⟩
  | .hbm, ⟨9, _⟩ => ⟨S2048x2560, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluDw.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S4224x1024, .bf16⟩
  | .hbm, ⟨2, _⟩ => ⟨S1024x1024, .bf16⟩
  | .local _ .vmem, ⟨0, _⟩ => ⟨S1408x1024, .f32⟩
  | .local _ .vmem, ⟨1, _⟩ => ⟨S1408x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwRefIdeal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .bf16⟩
  | .hbm, ⟨2, _⟩ => ⟨S4224x1024, .f32⟩
  | .hbm, ⟨3, _⟩ => ⟨S_, .f32⟩
  | .hbm, ⟨4, _⟩ => ⟨S1024x1024, .f32⟩
  | .hbm, ⟨5, _⟩ => ⟨S4224x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InFwd.lean ====
abbrev S4224x2048 : Shape := ⟨2, ![4224, 2048]⟩
abbrev S2048x2560 : Shape := ⟨2, ![2048, 2560]⟩
abbrev S4224x2560 : Shape := ⟨2, ![4224, 2560]⟩
abbrev S1408x2048 : Shape := ⟨2, ![1408, 2048]⟩
abbrev S2048x1280 : Shape := ⟨2, ![2048, 1280]⟩
abbrev S1408x1280 : Shape := ⟨2, ![1408, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x2560, .bf16⟩
  | .hbm, ⟨2, _⟩ => ⟨S4224x2560, .f32⟩
  | .local _ .vmem, ⟨0, _⟩ => ⟨S1408x2048, .bf16⟩
  | .local _ .vmem, ⟨1, _⟩ => ⟨S1408x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1408x1280, .f32⟩
  | .local _ .vmem, ⟨5, _⟩ => ⟨S1408x1280, .f32⟩
  | .local _ .vmem, ⟨6, _⟩ => ⟨S1408x1280, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S4224x2048 : Shape := ⟨2, ![4224, 2048]⟩
abbrev S2048x2560 : Shape := ⟨2, ![2048, 2560]⟩
abbrev S4224x2560 : Shape := ⟨2, ![4224, 2560]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2560, .bf16⟩
  | .hbm, ⟨2, _⟩ => ⟨S4224x2048, .f32⟩
  | .hbm, ⟨3, _⟩ => ⟨S2048x2560, .f32⟩
  | .hbm, ⟨4, _⟩ => ⟨S4224x2560, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GluFwd.lean ====
abbrev S4224x1024 : Shape := ⟨2, ![4224, 1024]⟩
abbrev S1024x1024 : Shape := ⟨2, ![1024, 1024]⟩
abbrev S1x1024 : Shape := ⟨2, ![1, 1024]⟩
abbrev S1408x256 : Shape := ⟨2, ![1408, 256]⟩
abbrev S256x1024 : Shape := ⟨2, ![256, 1024]⟩
abbrev S1408x1024 : Shape := ⟨2, ![1408, 1024]⟩

abbrev nBuf : Space → Nat
  | .hbm => 5
  | .vmem => 12
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S1x1024, .f32⟩
  | .hbm, ⟨3, _⟩ => ⟨S4224x1024, .f32⟩
  | .hbm, ⟨4, _⟩ => ⟨S4224x1024, .f32⟩
  | .local _ .vmem, ⟨0, _⟩ => ⟨S1408x256, .f32⟩
  | .local _ .vmem, ⟨1, _⟩ => ⟨S1408x256, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | .local _ .vmem, ⟨9, _⟩ => ⟨S1408x1024, .f32⟩
  | .local _ .vmem, ⟨10, _⟩ => ⟨S1408x1024, .f32⟩
  | .local _ .vmem, ⟨11, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1408x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GluFwdRefIdeal.lean ====
abbrev S4224x1024 : Shape := ⟨2, ![4224, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S1x1024, .f32⟩
  | .hbm, ⟨3, _⟩ => ⟨S1024x1024, .f32⟩
  | .hbm, ⟨4, _⟩ => ⟨S4224x1024, .f32⟩
  | .hbm, ⟨5, _⟩ => ⟨S1024, .f32⟩
  | .hbm, ⟨6, _⟩ => ⟨S1x1024, .f32⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S_, .f32⟩
  | .hbm, ⟨12, _⟩ => ⟨S4224x1024, .f32⟩
  | .hbm, ⟨13, _⟩ => ⟨S4224x1024, .f32⟩
  | .hbm, ⟨14, _⟩ => ⟨S_, .f32⟩
  | .hbm, ⟨15, _⟩ => ⟨S4224x1024, .f32⟩
  | .hbm, ⟨16, _⟩ => ⟨S4224x1024, .f32⟩
  | .hbm, ⟨17, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== OutFwd.lean ====
abbrev S4224x2048 : Shape := ⟨2, ![4224, 2048]⟩
abbrev S2048x2048 : Shape := ⟨2, ![2048, 2048]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 4
  | .vmem => 9
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | .local _ .vmem, ⟨8, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdRefIdeal.lean ====
abbrev S4224x2048 : Shape := ⟨2, ![4224, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpFwd.lean ====
abbrev S4224x2048 : Shape := ⟨2, ![4224, 2048]⟩
abbrev S2048x8192 : Shape := ⟨2, ![2048, 8192]⟩
abbrev S4224x8192 : Shape := ⟨2, ![4224, 8192]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x2048, .bf16⟩
  | .hbm, ⟨1, _⟩ => ⟨S2048x8192, .bf16⟩
  | .hbm, ⟨2, _⟩ => ⟨S4224x8192, .f32⟩
  | .hbm, ⟨3, _⟩ => ⟨S4224x8192, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpFwdRefIdeal.lean ====
abbrev S4224x2048 : Shape := ⟨2, ![4224, 2048]⟩
abbrev S2048x8192 : Shape := ⟨2, ![2048, 8192]⟩
abbrev S4224x8192 : Shape := ⟨2, ![4224, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x8192, .bf16⟩
  | .hbm, ⟨2, _⟩ => ⟨S4224x2048, .f32⟩
  | .hbm, ⟨3, _⟩ => ⟨S2048x8192, .f32⟩
  | .hbm, ⟨4, _⟩ => ⟨S4224x8192, .f32⟩
  | .hbm, ⟨5, _⟩ => ⟨S_, .f32⟩
  | .hbm, ⟨6, _⟩ => ⟨S4224x8192, .f32⟩
  | .hbm, ⟨7, _⟩ => ⟨S4224x8192, .f32⟩
  | .hbm, ⟨8, _⟩ => ⟨S4224x8192, .f32⟩
  | .hbm, ⟨9, _⟩ => ⟨S4224x8192, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DownFwd.lean ====
abbrev S4224x8192 : Shape := ⟨2, ![4224, 8192]⟩
abbrev S8192x2048 : Shape := ⟨2, ![8192, 2048]⟩
abbrev S4224x2048 : Shape := ⟨2, ![4224, 2048]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x8192, .bf16⟩
  | .hbm, ⟨1, _⟩ => ⟨S8192x2048, .bf16⟩
  | .hbm, ⟨2, _⟩ => ⟨S4224x2048, .f32⟩
  | .hbm, ⟨3, _⟩ => ⟨S4224x2048, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdRefIdeal.lean ====
abbrev S4224x8192 : Shape := ⟨2, ![4224, 8192]⟩
abbrev S8192x2048 : Shape := ⟨2, ![8192, 2048]⟩
abbrev S4224x2048 : Shape := ⟨2, ![4224, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S8192x2048, .bf16⟩
  | .hbm, ⟨2, _⟩ => ⟨S4224x2048, .f32⟩
  | .hbm, ⟨3, _⟩ => ⟨S4224x8192, .f32⟩
  | .hbm, ⟨4, _⟩ => ⟨S8192x2048, .f32⟩
  | .hbm, ⟨5, _⟩ => ⟨S4224x2048, .f32⟩
  | .hbm, ⟨6, _⟩ => ⟨S4224x2048, .f32⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluDz.lean ====
abbrev S4224x1024 : Shape := ⟨2, ![4224, 1024]⟩
abbrev S1x1024 : Shape := ⟨2, ![1, 1024]⟩
abbrev S384x1024 : Shape := ⟨2, ![384, 1024]⟩
abbrev S1024 : Shape := ⟨1, ![1024]⟩

abbrev nBuf : Space → Nat
  | .hbm => 5
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S4224x1024, .bf16⟩
  | .hbm, ⟨4, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .bf16⟩
  | .local _ .vmem, ⟨7, _⟩ => ⟨S384x1024, .bf16⟩
  | .local _ .vmem, ⟨8, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GluDzRefIdeal.lean ====
abbrev S4224x1024 : Shape := ⟨2, ![4224, 1024]⟩
abbrev S_ : Shape := ⟨0, ![]⟩
abbrev S1x1024 : Shape := ⟨2, ![1, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S_, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S_, .f32⟩
  | .hbm, ⟨12, _⟩ => ⟨S4224x1024, .f32⟩
  | .hbm, ⟨13, _⟩ => ⟨S4224x1024, .f32⟩
  | .hbm, ⟨14, _⟩ => ⟨S_, .f32⟩
  | .hbm, ⟨15, _⟩ => ⟨S4224x1024, .f32⟩
  | .hbm, ⟨16, _⟩ => ⟨S4224x1024, .f32⟩
  | .hbm, ⟨17, _⟩ => ⟨S_, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== GluDx.lean ====
abbrev S4224x1024 : Shape := ⟨2, ![4224, 1024]⟩
abbrev S1024x1024 : Shape := ⟨2, ![1024, 1024]⟩
abbrev S1408x1024 : Shape := ⟨2, ![1408, 1024]⟩
abbrev S512x1024 : Shape := ⟨2, ![512, 1024]⟩
abbrev S1408x512 : Shape := ⟨2, ![1408, 512]⟩

abbrev nBuf : Space → Nat
  | .hbm => 6
  | .vmem => 13
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S512x1024, .bf16⟩
  | .local _ .vmem, ⟨3, _⟩ => ⟨S512x1024, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | .local _ .vmem, ⟨8, _⟩ => ⟨S1408x512, .f32⟩
  | .local _ .vmem, ⟨9, _⟩ => ⟨S1408x512, .f32⟩
  | .local _ .vmem, ⟨10, _⟩ => ⟨S1408x512, .f32⟩
  | .local _ .vmem, ⟨11, _⟩ => ⟨S1408x512, .f32⟩
  | .local _ .vmem, ⟨12, _⟩ => ⟨S1408x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1408x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GluDxIdeal.lean ====
variable {F : FTy → Type} [FloatOps F] [Named F]
def κ : String → Option EReal := fun
  | "gelu" => some ((8943 / 200000 : ℝ) : EReal)
  | "gelu3" => some ((26829 / 200000 : ℝ) : EReal)
  | _ => none
-- ==== GluDxRefIdeal.lean ====
abbrev S4224x1024 : Shape := ⟨2, ![4224, 1024]⟩
abbrev S1024x1024 : Shape := ⟨2, ![1024, 1024]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S_, .f32⟩
  | .hbm, ⟨12, _⟩ => ⟨S4224x1024, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S_, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S_, .f32⟩
  | .hbm, ⟨22, _⟩ => ⟨S4224x1024, .f32⟩
  | .hbm, ⟨23, _⟩ => ⟨S4224x1024, .f32⟩
  | .hbm, ⟨24, _⟩ => ⟨S_, .f32⟩
  | .hbm, ⟨25, _⟩ => ⟨S4224x1024, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S4224x1024, .f32⟩
  | .hbm, ⟨30, _⟩ => ⟨S4224x1024, .f32⟩
  | .hbm, ⟨31, _⟩ => ⟨S_, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S1024x1024, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S_, .f32⟩
  | .hbm, ⟨40, _⟩ => ⟨S4224x1024, .f32⟩
  | .hbm, ⟨41, _⟩ => ⟨S4224x1024, .f32⟩
  | .hbm, ⟨42, _⟩ => ⟨S_, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S4224x1024, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S_, .f32⟩
  | .hbm, ⟨53, _⟩ => ⟨S4224x1024, .f32⟩
  | .hbm, ⟨54, _⟩ => ⟨S4224x1024, .f32⟩
  | .hbm, ⟨55, _⟩ => ⟨S4224x1024, .f32⟩
  | .hbm, ⟨56, _⟩ => ⟨S_, .f32⟩
  | .hbm, ⟨57, _⟩ => ⟨S4224x1024, .f32⟩
  | .hbm, ⟨58, _⟩ => ⟨S4224x1024, .f32⟩
  | .hbm, ⟨59, _⟩ => ⟨S4224x1024, .f32⟩
  | .hbm, ⟨60, _⟩ => ⟨S4224x1024, .f32⟩
  | .hbm, ⟨61, _⟩ => ⟨S4224x1024, .f32⟩
  | .hbm, ⟨62, _⟩ => ⟨S4224x1024, .f32⟩
  | .hbm, ⟨63, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== NormBwd.lean ====
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S4224x2048, .f32⟩
  | .hbm, ⟨4, _⟩ => ⟨S4224x2048, .f32⟩
  | .hbm, ⟨5, _⟩ => ⟨S1x2048, .f32⟩
  | .hbm, ⟨6, _⟩ => ⟨S4224x2048, .bf16⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x2048, .f32⟩
  | .local _ .vmem, ⟨4, _⟩ => ⟨S384x2048, .f32⟩
  | .local _ .vmem, ⟨5, _⟩ => ⟨S384x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .f32⟩
  | .local _ .vmem, ⟨9, _⟩ => ⟨S1x2048, .f32⟩
  | .local _ .vmem, ⟨10, _⟩ => ⟨S384x2048, .bf16⟩
  | .local _ .vmem, ⟨11, _⟩ => ⟨S384x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormBwdRefIdeal.lean ====
abbrev S4224x2048 : Shape := ⟨2, ![4224, 2048]⟩
abbrev S1x2048 : Shape := ⟨2, ![1, 2048]⟩
abbrev S2048 : Shape := ⟨1, ![2048]⟩
abbrev S_ : Shape := ⟨0, ![]⟩
abbrev S4224 : Shape := ⟨1, ![4224]⟩
abbrev S4224x1 : Shape := ⟨2, ![4224, 1]⟩

abbrev nBuf : Space → Nat
  | .hbm => 53
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S4224x2048, .f32⟩
  | .hbm, ⟨4, _⟩ => ⟨S2048, .f32⟩
  | .hbm, ⟨5, _⟩ => ⟨S4224x2048, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x2048, .f32⟩
  | .hbm, ⟨21, _⟩ => ⟨S4224x2048, .f32⟩
  | .hbm, ⟨22, _⟩ => ⟨S1x2048, .f32⟩
  | .hbm, ⟨23, _⟩ => ⟨S4224x2048, .f32⟩
  | .hbm, ⟨24, _⟩ => ⟨S4224x2048, .f32⟩
  | .hbm, ⟨25, _⟩ => ⟨S4224x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4224x2048, .f32⟩
  | .hbm, ⟨30, _⟩ => ⟨S4224x2048, .f32⟩
  | .hbm, ⟨31, _⟩ => ⟨S_, .f32⟩
  | .hbm, ⟨32, _⟩ => ⟨S2048, .f32⟩
  | .hbm, ⟨33, _⟩ => ⟨S4224x2048, .f32⟩
  | .hbm, ⟨34, _⟩ => ⟨S_, .f32⟩
  | .hbm, ⟨35, _⟩ => ⟨S4224, .f32⟩
  | .hbm, ⟨36, _⟩ => ⟨S4224x1, .f32⟩
  | .hbm, ⟨37, _⟩ => ⟨S4224x2048, .f32⟩
  | .hbm, ⟨38, _⟩ => ⟨S4224x2048, .f32⟩
  | .hbm, ⟨39, _⟩ => ⟨S4224x2048, .f32⟩
  | .hbm, ⟨40, _⟩ => ⟨S4224x1, .f32⟩
  | .hbm, ⟨41, _⟩ => ⟨S_, .f32⟩
  | .hbm, ⟨42, _⟩ => ⟨S4224x1, .f32⟩
  | .hbm, ⟨43, _⟩ => ⟨S4224x1, .f32⟩
  | .hbm, ⟨44, _⟩ => ⟨S_, .f32⟩
  | .hbm, ⟨45, _⟩ => ⟨S4224, .f32⟩
  | .hbm, ⟨46, _⟩ => ⟨S4224x2048, .f32⟩
  | .hbm, ⟨47, _⟩ => ⟨S4224x2048, .f32⟩
  | .hbm, ⟨48, _⟩ => ⟨S4224x2048, .f32⟩
  | .hbm, ⟨49, _⟩ => ⟨S4224x2048, .f32⟩
  | .hbm, ⟨50, _⟩ => ⟨S4224x2048, .f32⟩
  | .hbm, ⟨51, _⟩ => ⟨S1x2048, .f32⟩
  | .hbm, ⟨52, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== HeadsBwd.lean ====
abbrev S4224x1024 : Shape := ⟨2, ![4224, 1024]⟩
abbrev S1x1024 : Shape := ⟨2, ![1, 1024]⟩
abbrev S4224x2048 : Shape := ⟨2, ![4224, 2048]⟩
abbrev S384x1024 : Shape := ⟨2, ![384, 1024]⟩
abbrev S384x2048 : Shape := ⟨2, ![384, 2048]⟩
abbrev S384 : Shape := ⟨1, ![384]⟩
abbrev S384x1 : Shape := ⟨2, ![384, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S1x1024, .f32⟩
  | .hbm, ⟨4, _⟩ => ⟨S4224x2048, .f32⟩
  | .hbm, ⟨5, _⟩ => ⟨S4224x1024, .f32⟩
  | .hbm, ⟨6, _⟩ => ⟨S4224x1024, .f32⟩
  | .hbm, ⟨7, _⟩ => ⟨S1x1024, .f32⟩
  | .hbm, ⟨8, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S1x1024, .f32⟩
  | .local _ .vmem, ⟨6, _⟩ => ⟨S384x2048, .f32⟩
  | .local _ .vmem, ⟨7, _⟩ => ⟨S384x2048, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S1x1024, .f32⟩
  | .local _ .vmem, ⟨13, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== HeadsBwdRefIdeal.lean ====
abbrev S4224x1024 : Shape := ⟨2, ![4224, 1024]⟩
abbrev S1x1024 : Shape := ⟨2, ![1, 1024]⟩
abbrev S4224x2048 : Shape := ⟨2, ![4224, 2048]⟩
abbrev S1024 : Shape := ⟨1, ![1024]⟩
abbrev S_ : Shape := ⟨0, ![]⟩
abbrev S4224 : Shape := ⟨1, ![4224]⟩
abbrev S4224x1 : Shape := ⟨2, ![4224, 1]⟩

abbrev nBuf : Space → Nat
  | .hbm => 102
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S1x1024, .f32⟩
  | .hbm, ⟨4, _⟩ => ⟨S4224x2048, .f32⟩
  | .hbm, ⟨5, _⟩ => ⟨S1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S_, .f32⟩
  | .hbm, ⟨19, _⟩ => ⟨S4224x1, .f32⟩
  | .hbm, ⟨20, _⟩ => ⟨S4224x1, .f32⟩
  | .hbm, ⟨21, _⟩ => ⟨S4224x1024, .f32⟩
  | .hbm, ⟨22, _⟩ => ⟨S4224x1024, .f32⟩
  | .hbm, ⟨23, _⟩ => ⟨S1x1024, .f32⟩
  | .hbm, ⟨24, _⟩ => ⟨S4224x1024, .f32⟩
  | .hbm, ⟨25, _⟩ => ⟨S4224x1024, .f32⟩
  | .hbm, ⟨26, _⟩ => ⟨S1024, .f32⟩
  | .hbm, ⟨27, _⟩ => ⟨S4224x1024, .f32⟩
  | .hbm, ⟨28, _⟩ => ⟨S_, .f32⟩
  | .hbm, ⟨29, _⟩ => ⟨S4224, .f32⟩
  | .hbm, ⟨30, _⟩ => ⟨S4224x1, .f32⟩
  | .hbm, ⟨31, _⟩ => ⟨S_, .f32⟩
  | .hbm, ⟨32, _⟩ => ⟨S4224x1, .f32⟩
  | .hbm, ⟨33, _⟩ => ⟨S4224x1, .f32⟩
  | .hbm, ⟨34, _⟩ => ⟨S_, .f32⟩
  | .hbm, ⟨35, _⟩ => ⟨S4224x1, .f32⟩
  | .hbm, ⟨36, _⟩ => ⟨S4224x1, .f32⟩
  | .hbm, ⟨37, _⟩ => ⟨S4224x1, .f32⟩
  | .hbm, ⟨38, _⟩ => ⟨S4224x1, .f32⟩
  | .hbm, ⟨39, _⟩ => ⟨S_, .f32⟩
  | .hbm, ⟨40, _⟩ => ⟨S4224x1, .f32⟩
  | .hbm, ⟨41, _⟩ => ⟨S4224x1, .f32⟩
  | .hbm, ⟨42, _⟩ => ⟨S4224x1024, .f32⟩
  | .hbm, ⟨43, _⟩ => ⟨S4224x1024, .f32⟩
  | .hbm, ⟨44, _⟩ => ⟨S1x1024, .f32⟩
  | .hbm, ⟨45, _⟩ => ⟨S4224x1024, .f32⟩
  | .hbm, ⟨46, _⟩ => ⟨S4224x1024, .f32⟩
  | .hbm, ⟨47, _⟩ => ⟨S4224x2048, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4224x1024, .f32⟩
  | .hbm, ⟨55, _⟩ => ⟨S4224x1024, .f32⟩
  | .hbm, ⟨56, _⟩ => ⟨S_, .f32⟩
  | .hbm, ⟨57, _⟩ => ⟨S1024, .f32⟩
  | .hbm, ⟨58, _⟩ => ⟨S4224x1024, .f32⟩
  | .hbm, ⟨59, _⟩ => ⟨S_, .f32⟩
  | .hbm, ⟨60, _⟩ => ⟨S4224, .f32⟩
  | .hbm, ⟨61, _⟩ => ⟨S4224x1, .f32⟩
  | .hbm, ⟨62, _⟩ => ⟨S4224x1024, .f32⟩
  | .hbm, ⟨63, _⟩ => ⟨S4224x1024, .f32⟩
  | .hbm, ⟨64, _⟩ => ⟨S4224x1, .f32⟩
  | .hbm, ⟨65, _⟩ => ⟨S_, .f32⟩
  | .hbm, ⟨66, _⟩ => ⟨S4224x1, .f32⟩
  | .hbm, ⟨67, _⟩ => ⟨S4224x1, .f32⟩
  | .hbm, ⟨68, _⟩ => ⟨S_, .f32⟩
  | .hbm, ⟨69, _⟩ => ⟨S4224, .f32⟩
  | .hbm, ⟨70, _⟩ => ⟨S4224x1024, .f32⟩
  | .hbm, ⟨71, _⟩ => ⟨S4224x1024, .f32⟩
  | .hbm, ⟨72, _⟩ => ⟨S4224x1024, .f32⟩
  | .hbm, ⟨73, _⟩ => ⟨S4224x1024, .f32⟩
  | .hbm, ⟨74, _⟩ => ⟨S4224x1024, .f32⟩
  | .hbm, ⟨75, _⟩ => ⟨S1x1024, .f32⟩
  | .hbm, ⟨76, _⟩ => ⟨S4224x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S4224x1024, .f32⟩
  | .hbm, ⟨81, _⟩ => ⟨S4224x1024, .f32⟩
  | .hbm, ⟨82, _⟩ => ⟨S_, .f32⟩
  | .hbm, ⟨83, _⟩ => ⟨S1024, .f32⟩
  | .hbm, ⟨84, _⟩ => ⟨S4224x1024, .f32⟩
  | .hbm, ⟨85, _⟩ => ⟨S_, .f32⟩
  | .hbm, ⟨86, _⟩ => ⟨S4224, .f32⟩
  | .hbm, ⟨87, _⟩ => ⟨S4224x1, .f32⟩
  | .hbm, ⟨88, _⟩ => ⟨S4224x1024, .f32⟩
  | .hbm, ⟨89, _⟩ => ⟨S4224x1024, .f32⟩
  | .hbm, ⟨90, _⟩ => ⟨S4224x1, .f32⟩
  | .hbm, ⟨91, _⟩ => ⟨S_, .f32⟩
  | .hbm, ⟨92, _⟩ => ⟨S4224x1, .f32⟩
  | .hbm, ⟨93, _⟩ => ⟨S4224x1, .f32⟩
  | .hbm, ⟨94, _⟩ => ⟨S_, .f32⟩
  | .hbm, ⟨95, _⟩ => ⟨S4224, .f32⟩
  | .hbm, ⟨96, _⟩ => ⟨S4224x1024, .f32⟩
  | .hbm, ⟨97, _⟩ => ⟨S4224x1024, .f32⟩
  | .hbm, ⟨98, _⟩ => ⟨S4224x1024, .f32⟩
  | .hbm, ⟨99, _⟩ => ⟨S4224x1024, .f32⟩
  | .hbm, ⟨100, _⟩ => ⟨S4224x1024, .f32⟩
  | .hbm, ⟨101, _⟩ => ⟨S1x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_cst_16 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]
-- ==== NormFwd.lean ====
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .bf16⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x2048, .bf16⟩
  | .local _ .vmem, ⟨4, _⟩ => ⟨S384x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4224x2048 : Shape := ⟨2, ![4224, 2048]⟩
abbrev S1x2048 : Shape := ⟨2, ![1, 2048]⟩
abbrev S2048 : Shape := ⟨1, ![2048]⟩
abbrev S_ : Shape := ⟨0, ![]⟩
abbrev S4224 : Shape := ⟨1, ![4224]⟩
abbrev S4224x1 : Shape := ⟨2, ![4224, 1]⟩

abbrev nBuf : Space → Nat
  | .hbm => 20
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S2048, .f32⟩
  | .hbm, ⟨3, _⟩ => ⟨S4224x2048, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x2048, .f32⟩
  | .hbm, ⟨15, _⟩ => ⟨S4224x2048, .f32⟩
  | .hbm, ⟨16, _⟩ => ⟨S1x2048, .f32⟩
  | .hbm, ⟨17, _⟩ => ⟨S4224x2048, .f32⟩
  | .hbm, ⟨18, _⟩ => ⟨S4224x2048, .f32⟩
  | .hbm, ⟨19, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== HeadsFwd.lean ====
abbrev S4224x1024 : Shape := ⟨2, ![4224, 1024]⟩
abbrev S1x1024 : Shape := ⟨2, ![1, 1024]⟩
abbrev S4224x2048 : Shape := ⟨2, ![4224, 2048]⟩
abbrev S384x1024 : Shape := ⟨2, ![384, 1024]⟩
abbrev S384x2048 : Shape := ⟨2, ![384, 2048]⟩
abbrev S384 : Shape := ⟨1, ![384]⟩
abbrev S384x1 : Shape := ⟨2, ![384, 1]⟩

abbrev nBuf : Space → Nat
  | .hbm => 5
  | .vmem => 8
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S1x1024, .f32⟩
  | .hbm, ⟨4, _⟩ => ⟨S4224x2048, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S1x1024, .f32⟩
  | .local _ .vmem, ⟨6, _⟩ => ⟨S384x2048, .bf16⟩
  | .local _ .vmem, ⟨7, _⟩ => ⟨S384x2048, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HeadsFwdRefIdeal.lean ====
abbrev S4224x1024 : Shape := ⟨2, ![4224, 1024]⟩
abbrev S1x1024 : Shape := ⟨2, ![1, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S4224x2048 : Shape := ⟨2, ![4224, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1024, .f32⟩
  | .hbm, ⟨17, _⟩ => ⟨S4224x1024, .f32⟩
  | .hbm, ⟨18, _⟩ => ⟨S1x1024, .f32⟩
  | .hbm, ⟨19, _⟩ => ⟨S4224x1024, .f32⟩
  | .hbm, ⟨20, _⟩ => ⟨S4224x1024, .f32⟩
  | .hbm, ⟨21, _⟩ => ⟨S1024, .f32⟩
  | .hbm, ⟨22, _⟩ => ⟨S4224x1024, .f32⟩
  | .hbm, ⟨23, _⟩ => ⟨S_, .f32⟩
  | .hbm, ⟨24, _⟩ => ⟨S4224, .f32⟩
  | .hbm, ⟨25, _⟩ => ⟨S4224x1, .f32⟩
  | .hbm, ⟨26, _⟩ => ⟨S_, .f32⟩
  | .hbm, ⟨27, _⟩ => ⟨S4224x1, .f32⟩
  | .hbm, ⟨28, _⟩ => ⟨S4224x1, .f32⟩
  | .hbm, ⟨29, _⟩ => ⟨S_, .f32⟩
  | .hbm, ⟨30, _⟩ => ⟨S4224x1, .f32⟩
  | .hbm, ⟨31, _⟩ => ⟨S4224x1, .f32⟩
  | .hbm, ⟨32, _⟩ => ⟨S4224x1, .f32⟩
  | .hbm, ⟨33, _⟩ => ⟨S4224x1024, .f32⟩
  | .hbm, ⟨34, _⟩ => ⟨S4224x1024, .f32⟩
  | .hbm, ⟨35, _⟩ => ⟨S1x1024, .f32⟩
  | .hbm, ⟨36, _⟩ => ⟨S4224x1024, .f32⟩
  | .hbm, ⟨37, _⟩ => ⟨S4224x1024, .f32⟩
  | .hbm, ⟨38, _⟩ => ⟨S4224x2048, .f32⟩
  | .hbm, ⟨39, _⟩ => ⟨S4224x2048, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== AttnFwd.lean ====
abbrev S4224x2560 : Shape := ⟨2, ![4224, 2560]⟩
abbrev S1x64 : Shape := ⟨2, ![1, 64]⟩
abbrev S1x16 : Shape := ⟨2, ![1, 16]⟩
abbrev S4224x1024 : Shape := ⟨2, ![4224, 1024]⟩
abbrev S128x1024 : Shape := ⟨2, ![128, 1024]⟩
abbrev S128x256 : Shape := ⟨2, ![128, 256]⟩
abbrev S128x384 : Shape := ⟨2, ![128, 384]⟩
abbrev S512x384 : Shape := ⟨2, ![512, 384]⟩
abbrev S128x64 : Shape := ⟨2, ![128, 64]⟩
abbrev S384x64 : Shape := ⟨2, ![384, 64]⟩
abbrev S384 : Shape := ⟨1, ![384]⟩
abbrev S384x1 : Shape := ⟨2, ![384, 1]⟩
abbrev S512x64 : Shape := ⟨2, ![512, 64]⟩
abbrev S512 : Shape := ⟨1, ![512]⟩
abbrev S512x1 : Shape := ⟨2, ![512, 1]⟩
abbrev S1x1 : Shape := ⟨2, ![1, 1]⟩
abbrev S128x1 : Shape := ⟨2, ![128, 1]⟩

abbrev nBuf : Space → Nat
  | .hbm => 5
  | .vmem => 17
  | .smem => 0
  | _ => 0

abbrev bufTy : (tb : Table) → Fin (tcTables nBuf tb) → BufTy
  | .hbm, ⟨0, _⟩ => ⟨S4224x2560, .f32⟩
  | .hbm, ⟨1, _⟩ => ⟨S1x64, .f32⟩
  | .hbm, ⟨2, _⟩ => ⟨S1x64, .f32⟩
  | .hbm, ⟨3, _⟩ => ⟨S1x16, .f32⟩
  | .hbm, ⟨4, _⟩ => ⟨S4224x1024, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S1x64, .f32⟩
  | .local _ .vmem, ⟨13, _⟩ => ⟨S1x64, .f32⟩
  | .local _ .vmem, ⟨14, _⟩ => ⟨S1x16, .f32⟩
  | .local _ .vmem, ⟨15, _⟩ => ⟨S128x1024, .f32⟩
  | .local _ .vmem, ⟨16, _⟩ => ⟨S128x1024, .f32⟩
  | _, _ => ⟨S4224x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S4224x2560 : Shape := ⟨2, ![4224, 2560]⟩
abbrev S1x64 : Shape := ⟨2, ![1, 64]⟩
abbrev S1x16 : Shape := ⟨2, ![1, 16]⟩
abbrev S4112x2560 : Shape := ⟨2, ![4112, 2560]⟩
abbrev S4112x1024 : Shape := ⟨2, ![4112, 1024]⟩
abbrev S4112x4x4x64 : Shape := ⟨4, ![4112, 4, 4, 64]⟩
abbrev S64 : Shape := ⟨1, ![64]⟩
abbrev S_ : Shape := ⟨0, ![]⟩
abbrev S4112x4x4 : Shape := ⟨3, ![4112, 4, 4]⟩
abbrev S4112x4x4x1 : Shape := ⟨4, ![4112, 4, 4, 1]⟩
abbrev S1x1x1x64 : Shape := ⟨4, ![1, 1, 1, 64]⟩
abbrev S4112x256 : Shape := ⟨2, ![4112, 256]⟩
abbrev S4112x4x64 : Shape := ⟨3, ![4112, 4, 64]⟩
abbrev S4112x4 : Shape := ⟨2, ![4112, 4]⟩
abbrev S4112x4x1 : Shape := ⟨3, ![4112, 4, 1]⟩
abbrev S1x1x64 : Shape := ⟨3, ![1, 1, 64]⟩
abbrev S4112 : Shape := ⟨1, ![4112]⟩
abbrev S4112x1 : Shape := ⟨2, ![4112, 1]⟩
abbrev S1x4112 : Shape := ⟨2, ![1, 4112]⟩
abbrev S4112x4112 : Shape := ⟨2, ![4112, 4112]⟩
abbrev S1 : Shape := ⟨1, ![1]⟩
abbrev S16 : Shape := ⟨1, ![16]⟩
abbrev S4x4x1x1 : Shape := ⟨4, ![4, 4, 1, 1]⟩
abbrev S4x4112x4112x4 : Shape := ⟨4, ![4, 4112, 4112, 4]⟩
abbrev S4x4x4112x4112 : Shape := ⟨4, ![4, 4, 4112, 4112]⟩
abbrev S1x1x4112x4112 : Shape := ⟨4, ![1, 1, 4112, 4112]⟩
abbrev S4x4x4112x1 : Shape := ⟨4, ![4, 4, 4112, 1]⟩
abbrev S4x4x4112x4113 : Shape := ⟨4, ![4, 4, 4112, 4113]⟩
abbrev S4x4x4112 : Shape := ⟨3, ![4, 4, 4112]⟩
abbrev S4x64x4x4112 : Shape := ⟨4, ![4, 64, 4, 4112]⟩
abbrev S4224x1024 : Shape := ⟨2, ![4224, 1024]⟩

abbrev nBuf : Space → Nat
  | .hbm => 141
  | .vmem => 0
  | .smem => 0
  | _ => 0

abbrev hbmTy0_0 (i : Nat) : BufTy := match i % 128 with
  | 0 => ⟨S4224x2560, .f32⟩
  | 1 => ⟨S1x64, .f32⟩
  | 2 => ⟨S1x64, .f32⟩
  | 3 => ⟨S1x16, .f32⟩
  | 4 => ⟨S4112x2560, .f32⟩
  | 5 => ⟨S4112x1024, .f32⟩
  | 6 => ⟨S4112x4x4x64, .f32⟩
  | 7 => ⟨S64, .f32⟩
  | 8 => ⟨S4112x4x4x64, .f32⟩
  | 9 => ⟨S_, .f32⟩
  | 10 => ⟨S4112x4x4, .f32⟩
  | 11 => ⟨S4112x4x4x1, .f32⟩
  | 12 => ⟨S_, .f32⟩
  | 13 => ⟨S4112x4x4x1, .f32⟩
  | 14 => ⟨S4112x4x4x1, .f32⟩
  | 15 => ⟨S_, .f32⟩
  | 16 => ⟨S4112x4x4x1, .f32⟩
  | 17 => ⟨S4112x4x4x1, .f32⟩
  | 18 => ⟨S4112x4x4x1, .f32⟩
  | 19 => ⟨S4112x4x4x64, .f32⟩
  | 20 => ⟨S4112x4x4x64, .f32⟩
  | 21 => ⟨S1x1x1x64, .f32⟩
  | 22 => ⟨S4112x4x4x64, .f32⟩
  | 23 => ⟨S4112x4x4x64, .f32⟩
  | 24 => ⟨S4112x256, .f32⟩
  | 25 => ⟨S4112x4x64, .f32⟩
  | 26 => ⟨S64, .f32⟩
  | 27 => ⟨S4112x4x64, .f32⟩
  | 28 => ⟨S_, .f32⟩
  | 29 => ⟨S4112x4, .f32⟩
  | 30 => ⟨S4112x4x1, .f32⟩
  | 31 => ⟨S_, .f32⟩
  | 32 => ⟨S4112x4x1, .f32⟩
  | 33 => ⟨S4112x4x1, .f32⟩
  | 34 => ⟨S_, .f32⟩
  | 35 => ⟨S4112x4x1, .f32⟩
  | 36 => ⟨S4112x4x1, .f32⟩
  | 37 => ⟨S4112x4x1, .f32⟩
  | 38 => ⟨S4112x4x64, .f32⟩
  | 39 => ⟨S4112x4x64, .f32⟩
  | 40 => ⟨S1x1x64, .f32⟩
  | 41 => ⟨S4112x4x64, .f32⟩
  | 42 => ⟨S4112x4x64, .f32⟩
  | 43 => ⟨S4112x256, .f32⟩
  | 44 => ⟨S4112x4x64, .f32⟩
  | 45 => ⟨S4112, .i32⟩
  | 46 => ⟨S4112x1, .i32⟩
  | 47 => ⟨S4112, .i32⟩
  | 48 => ⟨S1x4112, .i32⟩
  | 49 => ⟨S4112x4112, .i32⟩
  | 50 => ⟨S4112x4112, .i32⟩
  | 51 => ⟨S4112x4112, .i1⟩
  | 52 => ⟨S4112x4112, .i32⟩
  | 53 => ⟨S4112x4112, .i32⟩
  | 54 => ⟨S4112x4112, .i32⟩
  | 55 => ⟨S_, .i32⟩
  | 56 => ⟨S4112x4112, .i32⟩
  | 57 => ⟨S4112x4112, .i1⟩
  | 58 => ⟨S_, .i32⟩
  | 59 => ⟨S1x4112, .i32⟩
  | 60 => ⟨S1x4112, .i1⟩
  | 61 => ⟨S4112x4112, .i1⟩
  | 62 => ⟨S4112x4112, .i1⟩
  | 63 => ⟨S4112x4112, .i1⟩
  | 64 => ⟨S4112x4112, .i32⟩
  | 65 => ⟨S4112x4112, .i32⟩
  | 66 => ⟨S4112x4112, .i32⟩
  | 67 => ⟨S4112x4112, .f32⟩
  | 68 => ⟨S_, .f32⟩
  | 69 => ⟨S1, .f32⟩
  | 70 => ⟨S_, .f32⟩
  | 71 => ⟨S1, .f32⟩
  | 72 => ⟨S_, .f32⟩
  | 73 => ⟨S1, .f32⟩
  | 74 => ⟨S_, .f32⟩
  | 75 => ⟨S1, .f32⟩
  | 76 => ⟨S_, .f32⟩
  | 77 => ⟨S1, .f32⟩
  | 78 => ⟨S_, .f32⟩
  | 79 => ⟨S1, .f32⟩
  | 80 => ⟨S_, .f32⟩
  | 81 => ⟨S1, .f32⟩
  | 82 => ⟨S_, .f32⟩
  | 83 => ⟨S1, .f32⟩
  | 84 => ⟨S_, .f32⟩
  | 85 => ⟨S1, .f32⟩
  | 86 => ⟨S_, .f32⟩
  | 87 => ⟨S1, .f32⟩
  | 88 => ⟨S_, .f32⟩
  | 89 => ⟨S1, .f32⟩
  | 90 => ⟨S_, .f32⟩
  | 91 => ⟨S1, .f32⟩
  | 92 => ⟨S_, .f32⟩
  | 93 => ⟨S1, .f32⟩
  | 94 => ⟨S_, .f32⟩
  | 95 => ⟨S1, .f32⟩
  | 96 => ⟨S_, .f32⟩
  | 97 => ⟨S1, .f32⟩
  | 98 => ⟨S_, .f32⟩
  | 99 => ⟨S1, .f32⟩
  | 100 => ⟨S16, .f32⟩
  | 101 => ⟨S4x4x1x1, .f32⟩
  | 102 => ⟨S4x4112x4112x4, .f32⟩
  | 103 => ⟨S4x4x4112x4112, .f32⟩
  | 104 => ⟨S_, .f32⟩
  | 105 => ⟨S4x4x4112x4112, .f32⟩
  | 106 => ⟨S4x4x4112x4112, .f32⟩
  | 107 => ⟨S1x1x4112x4112, .f32⟩
  | 108 => ⟨S4x4x4112x4112, .f32⟩
  | 109 => ⟨S4x4x4112x4112, .f32⟩
  | 110 => ⟨S4x4x4112x4112, .f32⟩
  | 111 => ⟨S4x4x4112x4112, .f32⟩
  | 112 => ⟨S_, .f32⟩
  | 113 => ⟨S_, .f32⟩
  | 114 => ⟨S4x4x4112x4112, .i1⟩
  | 115 => ⟨S4x4x4112x4112, .f32⟩
  | 116 => ⟨S4x4x4112x4112, .f32⟩
  | 117 => ⟨S4x4x1x1, .f32⟩
  | 118 => ⟨S4x4x4112x1, .f32⟩
  | 119 => ⟨S4x4x4112x4113, .f32⟩
  | 120 => ⟨S_, .f32⟩
  | 121 => ⟨S4x4x4112, .f32⟩
  | 122 => ⟨S_, .f32⟩
  | 123 => ⟨S4x4x4112, .f32⟩
  | 124 => ⟨S4x4x4112, .f32⟩
  | 125 => ⟨S4x4x4112x1, .f32⟩
  | 126 => ⟨S4x4x4112x4113, .f32⟩
  | 127 => ⟨S4x4x4112x4113, .f32⟩
  | _ => ⟨S4224x2560, .f32⟩

abbrev hbmTy0_1 (i : Nat) : BufTy := match i % 128 with
  | 0 => ⟨S4x4x4112x4113, .f32⟩
  | 1 => ⟨S_, .f32⟩
  | 2 => ⟨S4x4x4112, .f32⟩
  | 3 => ⟨S4x4x4112x1, .f32⟩
  | 4 => ⟨S4x4x4112x4113, .f32⟩
  | 5 => ⟨S4x4x4112x4113, .f32⟩
  | 6 => ⟨S4x4x4112x4112, .f32⟩
  | 7 => ⟨S4x64x4x4112, .f32⟩
  | 8 => ⟨S4112x4x4x64, .f32⟩
  | 9 => ⟨S4112x1024, .f32⟩
  | 10 => ⟨S_, .i32⟩
  | 11 => ⟨S_, .f32⟩
  | 12 => ⟨S4224x1024, .f32⟩
  | _ => ⟨S4224x2560, .f32⟩

abbrev hbmTy (i : Nat) : BufTy := match i / 128 with
  | 0 => hbmTy0_0 i
  | 1 => hbmTy0_1 i
  | _ => ⟨S4224x2560, .f32⟩

abbrev bufTy : (tb : Table) → Fin (tcTables nBuf tb) → BufTy
  | .hbm, ⟨i, _⟩ => hbmTy i
  | _, _ => ⟨S4224x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c : Ref sig .tc := ⟨.hbm, 55, rfl⟩
abbrev main_v45 : Ref sig .tc := ⟨.hbm, 56, rfl⟩
abbrev main_v46 : Ref sig .tc := ⟨.hbm, 57, rfl⟩
abbrev main_c_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_6 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_cst_10 : Ref sig .tc := ⟨.hbm, 76, rfl⟩
abbrev main_v60 : Ref sig .tc := ⟨.hbm, 77, rfl⟩
abbrev main_cst_11 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_cst_15 : Ref sig .tc := ⟨.hbm, 86, rfl⟩
abbrev main_v65 : Ref sig .tc := ⟨.hbm, 87, rfl⟩
abbrev main_cst_16 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_cst_18 : Ref sig .tc := ⟨.hbm, 92, rfl⟩
abbrev main_v68 : Ref sig .tc := ⟨.hbm, 93, rfl⟩
abbrev main_cst_19 : Ref sig .tc := ⟨.hbm, 94, rfl⟩
abbrev main_v69 : Ref sig .tc := ⟨.hbm, 95, rfl⟩
abbrev main_cst_20 : Ref sig .tc := ⟨.hbm, 96, rfl⟩
abbrev main_v70 : Ref sig .tc := ⟨.hbm, 97, rfl⟩
abbrev main_cst_21 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_22 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_23 : Ref sig .tc := ⟨.hbm, 112, rfl⟩
abbrev main_call0_v0 : Ref sig .tc := ⟨.hbm, 113, rfl⟩
abbrev main_call0_v1 : Ref sig .tc := ⟨.hbm, 114, rfl⟩
abbrev main_call0_v2 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_24 : Ref sig .tc := ⟨.hbm, 120, rfl⟩
abbrev main_v87 : Ref sig .tc := ⟨.hbm, 121, rfl⟩
abbrev main_cst_25 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_26 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_27 : Ref sig .tc := ⟨.hbm, 138, rfl⟩
abbrev main_call1_v0 : Ref sig .tc := ⟨.hbm, 139, rfl⟩
abbrev main_v102 : Ref sig .tc := ⟨.hbm, 140, rfl⟩

abbrev nD : Nat := 1
abbrev τ : Topo := Topo.v7x

variable {F : FTy → Type} [FloatOps F]
-- ==== LossHead.lean ====
abbrev S4224x2048 : Shape := ⟨2, ![4224, 2048]⟩
abbrev S4096x2048 : Shape := ⟨2, ![4096, 2048]⟩
abbrev S8x128 : Shape := ⟨2, ![8, 128]⟩
abbrev S128x2048 : Shape := ⟨2, ![128, 2048]⟩
abbrev S1x128x2048 : Shape := ⟨3, ![1, 128, 2048]⟩
abbrev S1 : Shape := ⟨1, ![1]⟩
abbrev S1x1x1 : Shape := ⟨3, ![1, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4224x2048, .f32⟩
  | .hbm, ⟨1, _⟩ => ⟨S4096x2048, .f32⟩
  | .hbm, ⟨2, _⟩ => ⟨S4224x2048, .f32⟩
  | .hbm, ⟨3, _⟩ => ⟨S4224x2048, .bf16⟩
  | .hbm, ⟨4, _⟩ => ⟨S8x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .bf16⟩
  | .local _ .vmem, ⟨7, _⟩ => ⟨S128x2048, .bf16⟩
  | .local _ .vmem, ⟨8, _⟩ => ⟨S8x128, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossHeadRefIdeal.lean ====
abbrev S4224x2048 : Shape := ⟨2, ![4224, 2048]⟩
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 30
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4224x2048, .f32⟩
  | .hbm, ⟨28, _⟩ => ⟨S8x128, .f32⟩
  | .hbm, ⟨29, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== KNormBwd.lean ====
abbrev S4224x2560 : Shape := ⟨2, ![4224, 2560]⟩
abbrev S4224x256 : Shape := ⟨2, ![4224, 256]⟩
abbrev S1x64 : Shape := ⟨2, ![1, 64]⟩
abbrev S384x256 : Shape := ⟨2, ![384, 256]⟩
abbrev S384x512 : Shape := ⟨2, ![384, 512]⟩
abbrev S384x64 : Shape := ⟨2, ![384, 64]⟩
abbrev S384 : Shape := ⟨1, ![384]⟩
abbrev S384x1 : Shape := ⟨2, ![384, 1]⟩
abbrev S64 : Shape := ⟨1, ![64]⟩

abbrev nBuf : Space → Nat
  | .hbm => 7
  | .vmem => 10
  | .smem => 0
  | _ => 0

abbrev bufTy : (tb : Table) → Fin (tcTables nBuf tb) → BufTy
  | .hbm, ⟨0, _⟩ => ⟨S4224x2560, .f32⟩
  | .hbm, ⟨1, _⟩ => ⟨S4224x256, .f32⟩
  | .hbm, ⟨2, _⟩ => ⟨S4224x256, .f32⟩
  | .hbm, ⟨3, _⟩ => ⟨S1x64, .f32⟩
  | .hbm, ⟨4, _⟩ => ⟨S4224x2560, .bf16⟩
  | .hbm, ⟨5, _⟩ => ⟨S4224x2560, .bf16⟩
  | .hbm, ⟨6, _⟩ => ⟨S1x64, .f32⟩
  | .local _ .vmem, ⟨0, _⟩ => ⟨S384x256, .f32⟩
  | .local _ .vmem, ⟨1, _⟩ => ⟨S384x256, .f32⟩
  | .local _ .vmem, ⟨2, _⟩ => ⟨S384x256, .f32⟩
  | .local _ .vmem, ⟨3, _⟩ => ⟨S384x256, .f32⟩
  | .local _ .vmem, ⟨4, _⟩ => ⟨S384x256, .f32⟩
  | .local _ .vmem, ⟨5, _⟩ => ⟨S384x256, .f32⟩
  | .local _ .vmem, ⟨6, _⟩ => ⟨S1x64, .f32⟩
  | .local _ .vmem, ⟨7, _⟩ => ⟨S384x512, .bf16⟩
  | .local _ .vmem, ⟨8, _⟩ => ⟨S384x512, .bf16⟩
  | .local _ .vmem, ⟨9, _⟩ => ⟨S1x64, .f32⟩
  | _, _ => ⟨S4224x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KNormBwdRefIdeal.lean ====
abbrev S4224x2560 : Shape := ⟨2, ![4224, 2560]⟩
abbrev S4224x256 : Shape := ⟨2, ![4224, 256]⟩
abbrev S1x64 : Shape := ⟨2, ![1, 64]⟩
abbrev S16896x64 : Shape := ⟨2, ![16896, 64]⟩
abbrev S64 : Shape := ⟨1, ![64]⟩
abbrev S_ : Shape := ⟨0, ![]⟩
abbrev S16896 : Shape := ⟨1, ![16896]⟩
abbrev S16896x1 : Shape := ⟨2, ![16896, 1]⟩
abbrev S4224x1024 : Shape := ⟨2, ![4224, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4224x2560, .f32⟩
  | .hbm, ⟨1, _⟩ => ⟨S4224x256, .f32⟩
  | .hbm, ⟨2, _⟩ => ⟨S4224x256, .f32⟩
  | .hbm, ⟨3, _⟩ => ⟨S1x64, .f32⟩
  | .hbm, ⟨4, _⟩ => ⟨S4224x2560, .bf16⟩
  | .hbm, ⟨5, _⟩ => ⟨S4224x256, .f32⟩
  | .hbm, ⟨6, _⟩ => ⟨S16896x64, .f32⟩
  | .hbm, ⟨7, _⟩ => ⟨S64, .f32⟩
  | .hbm, ⟨8, _⟩ => ⟨S16896x64, .f32⟩
  | .hbm, ⟨9, _⟩ => ⟨S_, .f32⟩
  | .hbm, ⟨10, _⟩ => ⟨S16896, .f32⟩
  | .hbm, ⟨11, _⟩ => ⟨S16896x1, .f32⟩
  | .hbm, ⟨12, _⟩ => ⟨S_, .f32⟩
  | .hbm, ⟨13, _⟩ => ⟨S16896x1, .f32⟩
  | .hbm, ⟨14, _⟩ => ⟨S16896x1, .f32⟩
  | .hbm, ⟨15, _⟩ => ⟨S_, .f32⟩
  | .hbm, ⟨16, _⟩ => ⟨S16896x1, .f32⟩
  | .hbm, ⟨17, _⟩ => ⟨S16896x1, .f32⟩
  | .hbm, ⟨18, _⟩ => ⟨S16896x1, .f32⟩
  | .hbm, ⟨19, _⟩ => ⟨S16896x1, .f32⟩
  | .hbm, ⟨20, _⟩ => ⟨S_, .f32⟩
  | .hbm, ⟨21, _⟩ => ⟨S16896x1, .f32⟩
  | .hbm, ⟨22, _⟩ => ⟨S16896x1, .f32⟩
  | .hbm, ⟨23, _⟩ => ⟨S16896x64, .f32⟩
  | .hbm, ⟨24, _⟩ => ⟨S16896x64, .f32⟩
  | .hbm, ⟨25, _⟩ => ⟨S1x64, .f32⟩
  | .hbm, ⟨26, _⟩ => ⟨S16896x64, .f32⟩
  | .hbm, ⟨27, _⟩ => ⟨S16896x64, .f32⟩
  | .hbm, ⟨28, _⟩ => ⟨S16896x64, .f32⟩
  | .hbm, ⟨29, _⟩ => ⟨S16896x64, .f32⟩
  | .hbm, ⟨30, _⟩ => ⟨S_, .f32⟩
  | .hbm, ⟨31, _⟩ => ⟨S64, .f32⟩
  | .hbm, ⟨32, _⟩ => ⟨S1x64, .f32⟩
  | .hbm, ⟨33, _⟩ => ⟨S16896x64, .f32⟩
  | .hbm, ⟨34, _⟩ => ⟨S16896x64, .f32⟩
  | .hbm, ⟨35, _⟩ => ⟨S_, .f32⟩
  | .hbm, ⟨36, _⟩ => ⟨S64, .f32⟩
  | .hbm, ⟨37, _⟩ => ⟨S16896x64, .f32⟩
  | .hbm, ⟨38, _⟩ => ⟨S_, .f32⟩
  | .hbm, ⟨39, _⟩ => ⟨S16896, .f32⟩
  | .hbm, ⟨40, _⟩ => ⟨S16896x1, .f32⟩
  | .hbm, ⟨41, _⟩ => ⟨S16896x64, .f32⟩
  | .hbm, ⟨42, _⟩ => ⟨S16896x64, .f32⟩
  | .hbm, ⟨43, _⟩ => ⟨S16896x1, .f32⟩
  | .hbm, ⟨44, _⟩ => ⟨S_, .f32⟩
  | .hbm, ⟨45, _⟩ => ⟨S16896x1, .f32⟩
  | .hbm, ⟨46, _⟩ => ⟨S16896x1, .f32⟩
  | .hbm, ⟨47, _⟩ => ⟨S_, .f32⟩
  | .hbm, ⟨48, _⟩ => ⟨S16896, .f32⟩
  | .hbm, ⟨49, _⟩ => ⟨S16896x64, .f32⟩
  | .hbm, ⟨50, _⟩ => ⟨S16896x64, .f32⟩
  | .hbm, ⟨51, _⟩ => ⟨S16896x64, .f32⟩
  | .hbm, ⟨52, _⟩ => ⟨S16896x64, .f32⟩
  | .hbm, ⟨53, _⟩ => ⟨S16896x64, .f32⟩
  | .hbm, ⟨54, _⟩ => ⟨S1x64, .f32⟩
  | .hbm, ⟨55, _⟩ => ⟨S4224x1024, .bf16⟩
  | .hbm, ⟨56, _⟩ => ⟨S4224x256, .f32⟩
  | .hbm, ⟨57, _⟩ => ⟨S4224x256, .bf16⟩
  | .hbm, ⟨58, _⟩ => ⟨S4224x256, .bf16⟩
  | .hbm, ⟨59, _⟩ => ⟨S4224x1024, .bf16⟩
  | .hbm, ⟨60, _⟩ => ⟨S4224x2560, .bf16⟩
  | _, _ => ⟨S4224x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Proof.AttnKit.lean ====
/- What the runs of the attention gradient's body are stated over: its one branch condition in closed form, and the
   staging buffers at a grid point. -/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The rows the body adds into -/

theorem k0_off1_eq : ∀ i : grid0.Coords, k0_off1 i = ![128 * ((i 0).val - 1), 0] := by decide +kernel
instance closedOff_k0_off1 (i : grid0.Coords) : ClosedOff (k0_off1 i) := ⟨![128 * ((i 0).val - 1), 0], k0_off1_eq i⟩
theorem k0_off3_eq : ∀ i : grid0.Coords, k0_off3 i = ![128 * ((i 0).val - 1), 64] := by decide +kernel
instance closedOff_k0_off3 (i : grid0.Coords) : ClosedOff (k0_off3 i) := ⟨![128 * ((i 0).val - 1), 64], k0_off3_eq i⟩
theorem k0_off5_eq : ∀ i : grid0.Coords, k0_off5 i = ![128 * ((i 0).val - 1), 128] := by decide +kernel
instance closedOff_k0_off5 (i : grid0.Coords) : ClosedOff (k0_off5 i) := ⟨![128 * ((i 0).val - 1), 128], k0_off5_eq i⟩
theorem k0_off7_eq : ∀ i : grid0.Coords, k0_off7 i = ![128 * ((i 0).val - 1), 192] := by decide +kernel
instance closedOff_k0_off7 (i : grid0.Coords) : ClosedOff (k0_off7 i) := ⟨![128 * ((i 0).val - 1), 192], k0_off7_eq i⟩

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, e0]
    word_cmp
   : ∀ t : Fin grid0.N, cond0_0 (grid0.coords t) ↔ t.val % 33 = 0)

/-- Each window's current staging memref at point `t`, spelled as the pipeline passes it (`bodyAt0`), and its wholeness. -/
abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x16 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4224x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S4224x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x64 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x16 .f32 := win0_16.stage (cfg0.slots t 16)
abbrev hs0_16 (t : Fin cfg0.N) : (ms0_16 t).IsWhole := hstage0_16 ((cfg0.slots t 16).cast nbuf0_16)

end Cert.KernelIdeal.Attn

end
-- ==== Proof.AttnRun.lean ====
/- The run of the attention gradient's body at a grid point, in its two cases (the first point, which zeroes the
   accumulators, and the later ones), with what it leaves in the two key/value accumulators and the sinks' gradient as the witness. -/
module

public import proofs.«01_k».proof.Proof.AttnKit
public import Idealize.ShloMosaic.Lib.WritesUnit

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

omit [FloatOps F] [Named F] in
/-- A row written whole reads as what was written last. -/
theorem read_row (v : View sig .tc .vmem S1x16 .f32) (f : v.ty.Contents (Elt F)) (inb : ∀ a, (![0, 0] : Fin 2 → ℕ) a + (![1, 16] : Fin 2 → ℕ) a ≤ S1x16.size a)
    (w : Vec F S1x16 .f32) (L : List (View.Piece (Elt F) S1x16 .f32)) :
    v.read (Elt F) (v.writes (Elt F) f (⟨Rect.unit (s := S1x16) ![0, 0] ![1, 16] inb, w⟩ :: L)) = w :=
  funext fun y => View.read_writes_cons_unit_of_mem v f inb w L y y rfl (fun a => by fin_cases a <;> exact (Nat.zero_add _).symm)

set_option maxHeartbeats 1600000 in
/-- The body's triple at a grid point that zeroes the accumulators first: on whole staging buffers, the inputs' at their contents, the body runs to
    the inputs' as they were and the two accumulators and the sinks' gradient at the contents the run finds; the other results are at contents
    nothing names. -/
def runA (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole) (arg13 : Memref sig .tc .vmem S128x1024 .bf16) (harg13 : arg13.IsWhole) (arg14 : Memref sig .tc .vmem S4224x256 .f32) (harg14 : arg14.IsWhole) (arg15 : Memref sig .tc .vmem S4224x256 .f32) (harg15 : arg15.IsWhole) (arg16 : Memref sig .tc .vmem S1x64 .f32) (harg16 : arg16.IsWhole) (arg17 : Memref sig .tc .vmem S1x16 .f32) (harg17 : arg17.IsWhole) (hc0 : cond0_0 i)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
      { p : Vec F S4224x256 .f32 × Vec F S4224x256 .f32 × Vec F S1x16 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare p.1 ∗ owns (c : Thread nD τ) arg15 fullShare p.2.1 ∗ (∃ d, owns (c : Thread nD τ) arg16 fullShare d) ∗ owns (c : Thread nD τ) arg17 fullShare p.2.2) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
    refine ⟨(?o1, ?o2, ?o3), fun E K => ?run⟩
    case run =>
      simp only [cc0_attn_bwd_eq_skeleton]; unfold cc0_attn_bwd_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _, _; isplitr; swap; · iexact H12
        ipureintro; rfl
      isplitl [H13]
      · iexists _; isplitr; swap; · iexact H13
        ipureintro; rfl
      isplitl [H14]
      · iexists _; isplitr; swap; · iexact H14
        ipureintro; rfl
      isplitl [H15]
      · iexists _, _; isplitr; swap; · iexact H15
        ipureintro; rfl
      iexists _; isplitr; swap; · iexact H16
      ipureintro; exact read_row _ _ _ _ _

set_option maxHeartbeats 1600000 in
/-- The body's triple at a grid point that adds to them: on whole staging buffers, the inputs' at their contents and the two accumulators and the sinks' gradient at theirs, the body runs to
    the inputs' as they were and the two accumulators and the sinks' gradient at the contents the run finds; the other results are at contents
    nothing names. -/
def runB (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole) (arg13 : Memref sig .tc .vmem S128x1024 .bf16) (harg13 : arg13.IsWhole) (arg14 : Memref sig .tc .vmem S4224x256 .f32) (harg14 : arg14.IsWhole) (arg15 : Memref sig .tc .vmem S4224x256 .f32) (harg15 : arg15.IsWhole) (arg16 : Memref sig .tc .vmem S1x64 .f32) (harg16 : arg16.IsWhole) (arg17 : Memref sig .tc .vmem S1x16 .f32) (harg17 : arg17.IsWhole) (hc0 : ¬cond0_0 i)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32)  (d13 d14 : Vec F S4224x256 .f32) (d16 : Vec F S1x16 .f32) :
      { p : Vec F S4224x256 .f32 × Vec F S4224x256 .f32 × Vec F S1x16 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare d13 ∗ owns (c : Thread nD τ) arg15 fullShare d14 ∗ (∃ d, owns (c : Thread nD τ) arg16 fullShare d) ∗ owns (c : Thread nD τ) arg17 fullShare d16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare p.1 ∗ owns (c : Thread nD τ) arg15 fullShare p.2.1 ∗ (∃ d, owns (c : Thread nD τ) arg16 fullShare d) ∗ owns (c : Thread nD τ) arg17 fullShare p.2.2) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
    refine ⟨(?o1, ?o2, ?o3), fun E K => ?run⟩
    case run =>
      simp only [cc0_attn_bwd_eq_skeleton]; unfold cc0_attn_bwd_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%d15, %f15, -, H15⟩, ⟨%f16, %hf16, H16⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hf14; obtain rfl := harg17.eq_unread hf16
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _, _; isplitr; swap; · iexact H12
        ipureintro; rfl
      isplitl [H13]
      · iexists _; isplitr; swap; · iexact H13
        ipureintro; rfl
      isplitl [H14]
      · iexists _; isplitr; swap; · iexact H14
        ipureintro; rfl
      isplitl [H15]
      · iexists _, _; isplitr; swap; · iexact H15
        ipureintro; rfl
      iexists _; isplitr; swap; · iexact H16
      ipureintro; rfl

end Cert.KernelIdeal.Attn

end
-- ==== Proof.AttnFrame.lean ====
/- The frame of the attention gradient: what the two key/value accumulators and the sinks' gradient hold point by point, the proof data, the
   body obligation, the run and the frame. The query gradient and the gain's gradient are forgotten. -/
module

public import proofs.«01_k».proof.Proof.AttnRun
public import Idealize.ShloMosaic.Lib.Claim
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the accumulators hold after each point -/

/-- What the first point (any point that zeroes) leaves in the two accumulators. -/
def accA (c : Dev nD) (n : ℕ) (h : n < cfg0.N) : Vec F S4224x256 .f32 × Vec F S4224x256 .f32 × Vec F S1x16 .f32 :=
  let t : Fin cfg0.N := ⟨n, h⟩
  if h0 : cond0_0 (grid0.coords t) then
    (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t)).1
  else (Pipeline.Dat.unnamed (cfg := cfg0) 13 t, Pipeline.Dat.unnamed (cfg := cfg0) 14 t, Pipeline.Dat.unnamed (cfg := cfg0) 16 t)

/-- What a later point leaves in them, from what it finds. -/
def accB (c : Dev nD) (n : ℕ) (h : n < cfg0.N) (p : Vec F S4224x256 .f32 × Vec F S4224x256 .f32 × Vec F S1x16 .f32) :
    Vec F S4224x256 .f32 × Vec F S4224x256 .f32 × Vec F S1x16 .f32 :=
  let t : Fin cfg0.N := ⟨n, h⟩
  if h0 : cond0_0 (grid0.coords t) then p else
    (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.1 p.2.1 p.2.2).1

/-- What the two accumulators hold after point `t`: the fold of the points up to it. -/
def accs (c : Dev nD) (t : Fin cfg0.N) : Vec F S4224x256 .f32 × Vec F S4224x256 .f32 × Vec F S1x16 .f32 :=
  Pipeline.accAt (accA m c) (accB m c) 0 t.val (by rw [Nat.zero_add]; exact t.isLt)

theorem accs_zero (c : Dev nD) (t : Fin cfg0.N) (ht : t.val = 0) : accs m c t = accA m c t.val t.isLt := by
  obtain ⟨n, hn⟩ := t; subst ht; rfl

theorem accs_pos (c : Dev nD) (t : Fin cfg0.N) (ht : t.val ≠ 0) :
    accs m c t = accB m c t.val t.isLt (accs m c ⟨t.val - 1, Nat.lt_of_le_of_lt (Nat.sub_le _ _) t.isLt⟩) := by
  obtain ⟨n, hn⟩ := t
  obtain _ | n := n
  · exact absurd rfl ht
  · have e : (0 + (n + 1)) = n + 1 := Nat.zero_add _
    have same : ∀ (u : ℕ) (hu : u < cfg0.N) (p), u = n + 1 → accB m c u hu p = accB m c (n + 1) hn p := fun u hu p e => by subst e; rfl
    exact same _ _ _ e

/-! ## The pipeline's proof data -/

/-- The output windows this certificate FORGETS (12, 15): nothing reads what the kernel leaves in them, so nothing
    of it is named (Lib/Pipeline/Dat.lean `Dat.toRForget`). -/
def forgets0 : Fin 17 → Bool := fun w => w.val == 12 || w.val == 15

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, _⟩ => (accs m c t).1
    | ⟨14, _⟩ => (accs m c t).2.1
    | ⟨15, h⟩ => Pipeline.Dat.unnamed (cfg := cfg0) ⟨15, h⟩ t
    | ⟨16, _⟩ => (accs m c t).2.2
    | ⟨_ + 17, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

theorem after0_13 (c : Dev nD) (t : Fin cfg0.N) : (dats m 0 c).after 13 t = (accs m c t).1 := by dsimp only [dats]
theorem after0_14 (c : Dev nD) (t : Fin cfg0.N) : (dats m 0 c).after 14 t = (accs m c t).2.1 := by dsimp only [dats]
theorem after0_16 (c : Dev nD) (t : Fin cfg0.N) : (dats m 0 c).after 16 t = (accs m c t).2.2 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- An accumulator holds, at every point but the first, what the point before left. -/
theorem before0_13_B (c : Dev nD) (t : Fin cfg0.N) (h0 : ¬ t.val % 33 = 0) (d) :
    (dats m 0 c).before 13 t d = (accs m c ⟨t.val - 1, Nat.lt_of_le_of_lt (Nat.sub_le _ _) t.isLt⟩).1 := by
  have hN : t.val < 33 := lt_of_lt_of_eq t.isLt (show cfg0.N = 33 from N_0)
  rw [Dat.before_of_pos _ _ _ (by omega) rfl,
    if_neg (fun h => by have := (flush0_13 _).mp h; dsimp only at this; omega)]
  exact after0_13 m c _
theorem before0_14_B (c : Dev nD) (t : Fin cfg0.N) (h0 : ¬ t.val % 33 = 0) (d) :
    (dats m 0 c).before 14 t d = (accs m c ⟨t.val - 1, Nat.lt_of_le_of_lt (Nat.sub_le _ _) t.isLt⟩).2.1 := by
  have hN : t.val < 33 := lt_of_lt_of_eq t.isLt (show cfg0.N = 33 from N_0)
  rw [Dat.before_of_pos _ _ _ (by omega) rfl,
    if_neg (fun h => by have := (flush0_14 _).mp h; dsimp only at this; omega)]
  exact after0_14 m c _
theorem before0_16_B (c : Dev nD) (t : Fin cfg0.N) (h0 : ¬ t.val % 33 = 0) (d) :
    (dats m 0 c).before 16 t d = (accs m c ⟨t.val - 1, Nat.lt_of_le_of_lt (Nat.sub_le _ _) t.isLt⟩).2.2 := by
  have hN : t.val < 33 := lt_of_lt_of_eq t.isLt (show cfg0.N = 33 from N_0)
  rw [Dat.before_of_pos _ _ _ (by omega) rfl,
    if_neg (fun h => by have := (flush0_16 _).mp h; dsimp only at this; omega)]
  exact after0_16 m c _

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ owns (c : Thread nD τ) (ms0_13 t) fullShare ((dats m 0 c).after 13 t)
    ∗ owns (c : Thread nD τ) (ms0_14 t) fullShare ((dats m 0 c).after 14 t)
    ∗ (∃ d, owns (c : Thread nD τ) (ms0_15 t) fullShare d)
    ∗ owns (c : Thread nD τ) (ms0_16 t) fullShare ((dats m 0 c).after 16 t))

set_option maxHeartbeats 3200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_13, after0_14, after0_16]
  have hN : t.val < 33 := lt_of_lt_of_eq t.isLt (show cfg0.N = 33 from N_0)
  by_cases h0 : t.val % 33 = 0
  · rw [accs_zero m c t (by omega)]; unfold accA; dsimp only; rw [dif_pos ((hcond0_0 t).mpr h0)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runA c (grid0.coords t) _ _ _ _ _ _ _ _ _ _ _ _ _ _ _ _ _ _ _ _ _ _ _ _ _ _ _ _ _ _ _ _ _ _ ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    iintro ⟨H0, H1, H2, H3, H4, H5, H6, H7, H8, H9, H10, H11, H12, H13, H14, H15, H16⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · simp only [before0_13_B m c t h0, before0_14_B m c t h0, before0_16_B m c t h0]
    rw [accs_pos m c t (by omega)]; unfold accB; dsimp only; rw [dif_neg (fun h => h0 ((hcond0_0 t).mp h))]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runB c (grid0.coords t) _ _ _ _ _ _ _ _ _ _ _ _ _ _ _ _ _ _ _ _ _ _ _ _ _ _ _ _ _ _ _ _ _ _ (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [H14]; · iexact H14
    isplitl [H15]; · iexists _; iexact H15
    isplitl [H16]; · iexact H16
    iintro ⟨H0, H1, H2, H3, H4, H5, H6, H7, H8, H9, H10, H11, H12, H13, H14, H15, H16⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 12, 15) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 6 rfl).trans ((A_eq m c 6).trans (V_main_arg0 m c)),
      (Pipeline.RDat.FramePost.arr_in h c 7 rfl).trans ((A_eq m c 7).trans (V_main_arg1 m c)),
      (Pipeline.RDat.FramePost.arr_in h c 8 rfl).trans ((A_eq m c 8).trans (V_main_arg2 m c)),
      (Pipeline.RDat.FramePost.arr_in h c 9 rfl).trans ((A_eq m c 9).trans (V_main_arg3 m c)),
      (Pipeline.RDat.FramePost.arr_in h c 10 rfl).trans ((A_eq m c 10).trans (V_main_arg4 m c)),
      (Pipeline.RDat.FramePost.arr_in h c 11 rfl).trans ((A_eq m c 11).trans (V_main_arg5 m c))⟩) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Attn

end
-- ==== Proof.AttnFloatRun.lean ====
/- The run of the attention gradient's body at a grid point, in its two cases (the first point, which zeroes the
   accumulators, and the later ones), with what it leaves in the two key/value accumulators as the witness. -/
module

public import proofs.«01_k».proof.Proof.AttnFloatKit

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in
/-- The body's triple at a grid point that zeroes the accumulators first: on whole staging buffers, the inputs' at their contents, the body runs to
    the inputs' as they were and the two accumulators at the contents the run finds; the other results are at contents
    nothing names. -/
def runA (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole) (arg13 : Memref sig .tc .vmem S128x1024 .bf16) (harg13 : arg13.IsWhole) (arg14 : Memref sig .tc .vmem S4224x256 .f32) (harg14 : arg14.IsWhole) (arg15 : Memref sig .tc .vmem S4224x256 .f32) (harg15 : arg15.IsWhole) (arg16 : Memref sig .tc .vmem S1x64 .f32) (harg16 : arg16.IsWhole) (arg17 : Memref sig .tc .vmem S1x16 .f32) (harg17 : arg17.IsWhole) (hc0 : cond0_0 i)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
      { p : Vec F S4224x256 .f32 × Vec F S4224x256 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare p.1 ∗ owns (c : Thread nD τ) arg15 fullShare p.2 ∗ (∃ d, owns (c : Thread nD τ) arg16 fullShare d) ∗ (∃ d, owns (c : Thread nD τ) arg17 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
    refine ⟨(?o1, ?o2), fun E K => ?run⟩
    case run =>
      simp only [cc0_attn_bwd_eq_skeleton]; unfold cc0_attn_bwd_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _, _; isplitr; swap; · iexact H12
        ipureintro; rfl
      isplitl [H13]
      · iexists _; isplitr; swap; · iexact H13
        ipureintro; rfl
      isplitl [H14]
      · iexists _; isplitr; swap; · iexact H14
        ipureintro; rfl
      isplitl [H15]
      · iexists _, _; isplitr; swap; · iexact H15
        ipureintro; rfl
      iexists _, _; isplitr; swap; · iexact H16
      ipureintro; rfl

set_option maxHeartbeats 1600000 in
/-- The body's triple at a grid point that adds to them: on whole staging buffers, the inputs' at their contents and the two accumulators at theirs, the body runs to
    the inputs' as they were and the two accumulators at the contents the run finds; the other results are at contents
    nothing names. -/
def runB (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole) (arg13 : Memref sig .tc .vmem S128x1024 .bf16) (harg13 : arg13.IsWhole) (arg14 : Memref sig .tc .vmem S4224x256 .f32) (harg14 : arg14.IsWhole) (arg15 : Memref sig .tc .vmem S4224x256 .f32) (harg15 : arg15.IsWhole) (arg16 : Memref sig .tc .vmem S1x64 .f32) (harg16 : arg16.IsWhole) (arg17 : Memref sig .tc .vmem S1x16 .f32) (harg17 : arg17.IsWhole) (hc0 : ¬cond0_0 i)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32)  (d13 d14 : Vec F S4224x256 .f32) :
      { p : Vec F S4224x256 .f32 × Vec F S4224x256 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare d13 ∗ owns (c : Thread nD τ) arg15 fullShare d14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare p.1 ∗ owns (c : Thread nD τ) arg15 fullShare p.2 ∗ (∃ d, owns (c : Thread nD τ) arg16 fullShare d) ∗ (∃ d, owns (c : Thread nD τ) arg17 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
    refine ⟨(?o1, ?o2), fun E K => ?run⟩
    case run =>
      simp only [cc0_attn_bwd_eq_skeleton]; unfold cc0_attn_bwd_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%d15, %f15, -, H15⟩, ⟨%d16, %f16, -, H16⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hf14
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _, _; isplitr; swap; · iexact H12
        ipureintro; rfl
      isplitl [H13]
      · iexists _; isplitr; swap; · iexact H13
        ipureintro; rfl
      isplitl [H14]
      · iexists _; isplitr; swap; · iexact H14
        ipureintro; rfl
      isplitl [H15]
      · iexists _, _; isplitr; swap; · iexact H15
        ipureintro; rfl
      iexists _, _; isplitr; swap; · iexact H16
      ipureintro; rfl

end Cert.Kernel.Attn

end
-- ==== Proof.AttnStep.lean ====
/- What one grid point of the attention gradient adds into the value accumulator: for each of the four key/value heads
   three blocks of 128 rows (the previous block, the current one, the meta block), in closed form over any float values. -/
module

public import proofs.«01_k».proof.Proof.AttnRun
public import Idealize.ShloMosaic.Lib.WritesUnit
public import Idealize.ShloMosaic.Lib.VecWindow
public import Idealize.ShloMosaic.Lib.ValueIdx
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.ShloMosaic.ValueIdx
open Cert.KernelIdeal Cert.KernelIdeal.Gen

variable {F : FTy → Type} [FloatOps F] [Named F]

/-! ## The slices of the blocks -/

/-- The 64 columns of key/value head `kh` of a block of keys or values. -/
def kvWin (x : Vec F S128x256 .f32) (kh : ℕ) (h : kh < 4) : Vec F S128x64 .f32 :=
  VecWindow.window x ![0, 64 * kh] S128x64.size
    (Fin.forall_fin_two.mpr ⟨(by decide : 0 + 128 ≤ 128), by show 64 * kh + 64 ≤ 256; omega⟩)

/-- The 64 columns of query head `h` of a block of queries. -/
def qWin (x : Vec F S128x1024 .f32) (h : ℕ) (hh : h < 16) : Vec F S128x64 .f32 :=
  VecWindow.window x ![0, 64 * h] S128x64.size
    (Fin.forall_fin_two.mpr ⟨(by decide : 0 + 128 ≤ 128), by show 64 * h + 64 ≤ 1024; omega⟩)

/-- The sink of query head `h`. -/
def skWin (x : Vec F S1x16 .f32) (h : ℕ) (hh : h < 16) : Vec F S1x1 .f32 :=
  VecWindow.window x ![0, h] S1x1.size
    (Fin.forall_fin_two.mpr ⟨(by decide : 0 + 1 ≤ 1), by show h + 1 ≤ 16; omega⟩)

/-- A row of gains, whole. -/
def gWin (x : Vec F S1x64 .f32) : Vec F S1x64 .f32 :=
  VecWindow.window x ![0, 0] S1x64.size (fun a => by fin_cases a <;> decide)

/-- A load of a slice of a whole buffer holding `x` is a window of `x`. -/
theorem ldWin {s : Shape} (arg : Memref sig .tc .vmem s .f32) (h : arg.IsWhole) (x : Vec F s .f32) {off size : Fin s.rank → ℕ}
    (inb : ∀ a, off a + size a ≤ s.size a) :
    View.readAt (Elt F) arg.view (Rect.unit off size inb).toLoadRect (h.unread x) = VecWindow.window x off size inb := by
  rw [View.readAt_unit _ _ inb rfl inb, h.read_unread]

/-! ## One head's contribution -/

/-- The contribution of one key/value head at one grid point: the transposed probabilities (512 query rows by 384 keys)
    times the cotangent rows, from the mask, the distances, the slopes, the three key slices, the four query slices,
    the sinks and the four cotangent slices. -/
def headDv (mask dist : FVec F S512x384 .f32) (slope : FVec F S512x1 .f32) (k0 k1 k2 : Vec F S128x64 .f32)
    (gk : Vec F S1x64 .f32) (q0 q1 q2 q3 : Vec F S128x64 .f32) (gq : Vec F S1x64 .f32) (s0 s1 s2 s3 : Vec F S1x1 .f32)
    (d0 d1 d2 d3 : Vec F S128x64 .f32) : FVec F S384x64 .f32 :=
  k0_pay43 (k0_pay29 mask dist (k0_pay14 k0 k1 k2 gk) (k0_pay18 q0 q1 q2 q3 gq) slope s3 (k0_pay20 s0) (k0_pay21 s1) (k0_pay22 s2))
    (k0_pay34 (k0_pay31 d0 d1 d2 d3))

/-- The contribution of key/value head `kh` at a grid point, from the point's blocks. -/
def dvC (i : grid0.Coords) (kh : ℕ) (h : kh < 4) (slope : FVec F S512x1 .f32) (x0 : Vec F S128x1024 .f32)
    (x1 x2 x3 : Vec F S128x256 .f32) (x8 : Vec F S128x1024 .f32) (x9 x10 : Vec F S1x64 .f32) (x11 : Vec F S1x16 .f32) :
    FVec F S384x64 .f32 :=
  headDv (k0_pay10 i) (k0_pay11 i) slope (kvWin x1 kh h) (kvWin x2 kh h) (kvWin x3 kh h) (gWin x10)
    (qWin x0 (4 * kh) (by omega)) (qWin x0 (4 * kh + 1) (by omega)) (qWin x0 (4 * kh + 2) (by omega)) (qWin x0 (4 * kh + 3) (by omega))
    (gWin x9) (skWin x11 (4 * kh) (by omega)) (skWin x11 (4 * kh + 1) (by omega)) (skWin x11 (4 * kh + 2) (by omega)) (skWin x11 (4 * kh + 3) (by omega))
    (qWin x8 (4 * kh) (by omega)) (qWin x8 (4 * kh + 1) (by omega)) (qWin x8 (4 * kh + 2) (by omega)) (qWin x8 (4 * kh + 3) (by omega))

/-- The slopes of head `kh`'s four query heads, one per query row. -/
def slopeCol : ℕ → FVec F S512x1 .f32
  | 0 => k0_pay19
  | 1 => k0_pay62
  | 2 => k0_pay107
  | _ => k0_pay147

/-! ## Adding a block of rows -/

/-- `d` with rows `k, …, k + 127` of `C` added at rows `o, …`, columns `col, …, col + 63`. -/
def addRows (d : Vec F S4224x256 .f32) (o col k : ℕ) (hk : k + 128 ≤ 384) (C : FVec F S384x64 .f32) : Vec F S4224x256 .f32 :=
  fun y => if h : (o ≤ (y 0).val ∧ (y 0).val < o + 128) ∧ (col ≤ (y 1).val ∧ (y 1).val < col + 64) then
    FloatOps.addf (d y) (C (ix2 ⟨(y 0).val - o + k, by have := h.1; show _ < 384; omega⟩ ⟨(y 1).val - col, by have := h.2; show _ < 64; omega⟩))
  else d y

theorem addRows_of_col (d : Vec F S4224x256 .f32) (o col k : ℕ) (hk : k + 128 ≤ 384) (C : FVec F S384x64 .f32) (y : S4224x256.Idx)
    (h : col + 64 ≤ (y 1).val) : addRows d o col k hk C y = d y :=
  dif_neg fun hh => by have := hh.2; omega

/-- Reading a list of stores whose newest adds a block of rows to what it loads there. -/
theorem read_cons_add (v : View sig .tc .vmem S4224x256 .f32) (f : v.ty.Contents (Elt F)) {off : Fin 2 → ℕ} {o col : ℕ}
    (inb : ∀ a, off a + S128x64.size a ≤ S4224x256.size a) (L : List (View.Piece (Elt F) S4224x256 .f32)) (hoff : off = ![o, col])
    (k : ℕ) (hk : k + 128 ≤ 384) (C : FVec F S384x64 .f32) (hs : S384x64.Slices ![k, 0] S128x64) (hc : S128x64.ShapeCasts S128x64)
    (base : Vec F S4224x256 .f32) (hb : v.read (Elt F) (v.writes (Elt F) f L) = base) (g : v.ty.Contents (Elt F))
    (hg : ∀ y : S4224x256.Idx, col ≤ (y 1).val → v.read (Elt F) g y = base y) :
    v.read (Elt F) (v.writes (Elt F) f (⟨Rect.unit off S128x64.size inb,
      addf (shapeCast (s := S128x64) S128x64 (v.readAt (Elt F) (Rect.unit (s := S4224x256) off S128x64.size inb).toLoadRect g) hc)
        (extractStridedSlice S128x64 ![k, 0] C hs)⟩ :: L)) = addRows base o col k hk C := by
  subst hoff
  funext y
  refine (View.read_writes_cons_unit v f inb _ L y rfl).trans ?_
  unfold addRows
  have hiff : (∀ a : Fin 2, (![o, col] : Fin 2 → ℕ) a ≤ (y a).val ∧ (y a).val < (![o, col] : Fin 2 → ℕ) a + S128x64.size a)
      ↔ ((o ≤ (y 0).val ∧ (y 0).val < o + 128) ∧ (col ≤ (y 1).val ∧ (y 1).val < col + 64)) := Fin.forall_fin_two
  by_cases h : (o ≤ (y 0).val ∧ (y 0).val < o + 128) ∧ (col ≤ (y 1).val ∧ (y 1).val < col + 64)
  · rw [dif_pos (hiff.mpr h), dif_pos h, shapeCast_self]
    refine congrArg₂ FloatOps.addf ?_ ?_
    · rw [View.readAt_unit v g inb rfl inb]
      refine Eq.trans ?_ (hg y h.2.1)
      refine congrArg (v.read (Elt F) g) (funext fun a => Fin.ext ?_)
      show (![o, col] : Fin 2 → ℕ) a + 1 * ((y a).val - (![o, col] : Fin 2 → ℕ) a) = (y a).val
      have := (hiff.mpr h a).1
      omega
    · refine extractStridedSlice_apply _ _ _ _ _ fun a => ?_
      match a with
      | ⟨0, _⟩ => show (y 0).val - o + k = k + ((y 0).val - o); omega
      | ⟨1, _⟩ => show (y 1).val - col = 0 + ((y 1).val - col); omega
  · rw [dif_neg (fun hh => h (hiff.mp hh)), dif_neg h, hb]

/-- What a grid point leaves in the value accumulator, from what it finds. -/
def vStep (n : ℕ) (C0 C1 C2 C3 : FVec F S384x64 .f32) (d : Vec F S4224x256 .f32) : Vec F S4224x256 .f32 :=
  let add3 (d : Vec F S4224x256 .f32) (col : ℕ) (C : FVec F S384x64 .f32) : Vec F S4224x256 .f32 :=
    addRows (addRows (addRows d (128 * (n - 1)) col 0 (by decide) C) (128 * n) col 128 (by decide) C) 0 col 256 (by decide) C
  add3 (add3 (add3 (add3 d 0 C0) 64 C1) 128 C2) 192 C3

theorem k0_off2_eq : ∀ i : grid0.Coords, k0_off2 i = ![128 * (i 0).val, 0] := by decide +kernel
theorem k0_off4_eq : ∀ i : grid0.Coords, k0_off4 i = ![128 * (i 0).val, 64] := by decide +kernel
theorem k0_off6_eq : ∀ i : grid0.Coords, k0_off6 i = ![128 * (i 0).val, 128] := by decide +kernel
theorem k0_off8_eq : ∀ i : grid0.Coords, k0_off8 i = ![128 * (i 0).val, 192] := by decide +kernel

/-! ## The heads' contributions in the run (first point) -/

theorem headA0 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 x2 x3 : Vec F S128x256 .f32) (x8 : Vec F S128x1024 .f32) (x9 x10 : Vec F S1x64 .f32) (x11 : Vec F S1x16 .f32) :
    runA.sl.r_21 c i arg1 harg1 arg2 harg2 arg3 harg3 arg4 harg4 arg9 harg9 arg10 harg10 arg11 harg11 arg12 harg12 x0 x1 x2 x3 x8 x9 x10 x11 = dvC i 0 (by decide) (slopeCol 0) x0 x1 x2 x3 x8 x9 x10 x11 := by
  simp only [runA.sl.r_21, runA.sl.r_11, runA.sl.r, runA.sl.r_6, runA.sl.r_2, runA.sl.r_3, runA.sl.r_7, runA.sl.r_8, runA.sl.r_9, runA.sl.r_10, runA.sl.r_15, runA.sl.r_13, ldWin]
  rfl

theorem headA1 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 x2 x3 : Vec F S128x256 .f32) (x8 : Vec F S128x1024 .f32) (x9 x10 : Vec F S1x64 .f32) (x11 : Vec F S1x16 .f32) :
    runA.sl.r_47 c i arg1 harg1 arg2 harg2 arg3 harg3 arg4 harg4 arg9 harg9 arg10 harg10 arg11 harg11 arg12 harg12 x0 x1 x2 x3 x8 x9 x10 x11 = dvC i 1 (by decide) (slopeCol 1) x0 x1 x2 x3 x8 x9 x10 x11 := by
  simp only [runA.sl.r_47, runA.sl.r_37, runA.sl.r_26, runA.sl.r_32, runA.sl.r_28, runA.sl.r_29, runA.sl.r_33, runA.sl.r_34, runA.sl.r_35, runA.sl.r_36, runA.sl.r_41, runA.sl.r_39, ldWin]
  rfl

theorem headA2 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 x2 x3 : Vec F S128x256 .f32) (x8 : Vec F S128x1024 .f32) (x9 x10 : Vec F S1x64 .f32) (x11 : Vec F S1x16 .f32) :
    runA.sl.r_71 c i arg1 harg1 arg2 harg2 arg3 harg3 arg4 harg4 arg9 harg9 arg10 harg10 arg11 harg11 arg12 harg12 x0 x1 x2 x3 x8 x9 x10 x11 = dvC i 2 (by decide) (slopeCol 2) x0 x1 x2 x3 x8 x9 x10 x11 := by
  simp only [runA.sl.r_71, runA.sl.r_62, runA.sl.r_52, runA.sl.r_60, runA.sl.r_61, runA.sl.r_54, runA.sl.r_55, runA.sl.r_56, runA.sl.r_65, ldWin]
  rfl

theorem headA3 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 x2 x3 : Vec F S128x256 .f32) (x8 : Vec F S128x1024 .f32) (x9 x10 : Vec F S1x64 .f32) (x11 : Vec F S1x16 .f32) :
    runA.sl.r_97 c i arg1 harg1 arg2 harg2 arg3 harg3 arg4 harg4 arg9 harg9 arg10 harg10 arg11 harg11 arg12 harg12 x0 x1 x2 x3 x8 x9 x10 x11 = dvC i 3 (by decide) (slopeCol 3) x0 x1 x2 x3 x8 x9 x10 x11 := by
  simp only [runA.sl.r_97, runA.sl.r_87, runA.sl.r_84, runA.sl.r_85, runA.sl.r_77, runA.sl.r_78, runA.sl.r_79, runA.sl.r_80, runA.sl.r_86, runA.sl.r_75, runA.sl.cst_351, runA.sl.r_90, ldWin]
  rfl

/-! ## The heads' contributions in the run (later points) -/

theorem headB0 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 x2 x3 : Vec F S128x256 .f32) (x8 : Vec F S128x1024 .f32) (x9 x10 : Vec F S1x64 .f32) (x11 : Vec F S1x16 .f32) :
    runB.sl.r_21 c i arg1 harg1 arg2 harg2 arg3 harg3 arg4 harg4 arg9 harg9 arg10 harg10 arg11 harg11 arg12 harg12 x0 x1 x2 x3 x8 x9 x10 x11 = dvC i 0 (by decide) (slopeCol 0) x0 x1 x2 x3 x8 x9 x10 x11 := by
  simp only [runB.sl.r_21, runB.sl.r_11, runB.sl.r, runB.sl.r_6, runB.sl.r_2, runB.sl.r_3, runB.sl.r_7, runB.sl.r_8, runB.sl.r_9, runB.sl.r_10, runB.sl.r_15, runB.sl.r_13, ldWin]
  rfl

theorem headB1 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 x2 x3 : Vec F S128x256 .f32) (x8 : Vec F S128x1024 .f32) (x9 x10 : Vec F S1x64 .f32) (x11 : Vec F S1x16 .f32) :
    runB.sl.r_47 c i arg1 harg1 arg2 harg2 arg3 harg3 arg4 harg4 arg9 harg9 arg10 harg10 arg11 harg11 arg12 harg12 x0 x1 x2 x3 x8 x9 x10 x11 = dvC i 1 (by decide) (slopeCol 1) x0 x1 x2 x3 x8 x9 x10 x11 := by
  simp only [runB.sl.r_47, runB.sl.r_37, runB.sl.r_26, runB.sl.r_32, runB.sl.r_28, runB.sl.r_29, runB.sl.r_33, runB.sl.r_34, runB.sl.r_35, runB.sl.r_36, runB.sl.r_41, runB.sl.r_39, ldWin]
  rfl

theorem headB2 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 x2 x3 : Vec F S128x256 .f32) (x8 : Vec F S128x1024 .f32) (x9 x10 : Vec F S1x64 .f32) (x11 : Vec F S1x16 .f32) :
    runB.sl.r_71 c i arg1 harg1 arg2 harg2 arg3 harg3 arg4 harg4 arg9 harg9 arg10 harg10 arg11 harg11 arg12 harg12 x0 x1 x2 x3 x8 x9 x10 x11 = dvC i 2 (by decide) (slopeCol 2) x0 x1 x2 x3 x8 x9 x10 x11 := by
  simp only [runB.sl.r_71, runB.sl.r_62, runB.sl.r_52, runB.sl.r_60, runB.sl.r_61, runB.sl.r_54, runB.sl.r_55, runB.sl.r_56, runB.sl.r_65, ldWin]
  rfl

theorem headB3 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 x2 x3 : Vec F S128x256 .f32) (x8 : Vec F S128x1024 .f32) (x9 x10 : Vec F S1x64 .f32) (x11 : Vec F S1x16 .f32) :
    runB.sl.r_97 c i arg1 harg1 arg2 harg2 arg3 harg3 arg4 harg4 arg9 harg9 arg10 harg10 arg11 harg11 arg12 harg12 x0 x1 x2 x3 x8 x9 x10 x11 = dvC i 3 (by decide) (slopeCol 3) x0 x1 x2 x3 x8 x9 x10 x11 := by
  simp only [runB.sl.r_97, runB.sl.r_87, runB.sl.r_84, runB.sl.r_85, runB.sl.r_77, runB.sl.r_78, runB.sl.r_79, runB.sl.r_80, runB.sl.r_86, runB.sl.r_75, runB.sl.cst_351, runB.sl.r_90, ldWin]
  rfl

set_option maxHeartbeats 1600000 in
/-- The value accumulator after the first point: the point's contributions added to zero. -/
theorem runA_snd (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole) (arg13 : Memref sig .tc .vmem S128x1024 .bf16) (harg13 : arg13.IsWhole) (arg14 : Memref sig .tc .vmem S4224x256 .f32) (harg14 : arg14.IsWhole) (arg15 : Memref sig .tc .vmem S4224x256 .f32) (harg15 : arg15.IsWhole) (arg16 : Memref sig .tc .vmem S1x64 .f32) (harg16 : arg16.IsWhole) (arg17 : Memref sig .tc .vmem S1x16 .f32) (harg17 : arg17.IsWhole) (hc0 : cond0_0 i)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).1.2.1 = vStep (i 0).val (dvC i 0 (by decide) (slopeCol 0) x0 x1 x2 x3 x8 x9 x10 x11) (dvC i 1 (by decide) (slopeCol 1) x0 x1 x2 x3 x8 x9 x10 x11) (dvC i 2 (by decide) (slopeCol 2) x0 x1 x2 x3 x8 x9 x10 x11) (dvC i 3 (by decide) (slopeCol 3) x0 x1 x2 x3 x8 x9 x10 x11) k0_pay5 := by
  have e0 : arg15.view.read (Elt F) (arg15.view.writes (Elt F) arg15.view.junk runA.sl.H14_1) = k0_pay5 := by
    unfold runA.sl.H14_1; funext y
    exact View.read_writes_cons_unit_of_mem _ _ _ _ _ y y rfl (fun a => by fin_cases a <;> exact (Nat.zero_add _).symm)
  have e1 : arg15.view.read (Elt F) (arg15.view.writes (Elt F) arg15.view.junk (runA.sl.H14_2 c i arg1 harg1 arg2 harg2 arg3 harg3 arg4 harg4 arg9 harg9 arg10 harg10 arg11 harg11 arg12 harg12 arg15 x0 x1 x2 x3 x8 x9 x10 x11))
      = _ :=
    read_cons_add arg15.view arg15.view.junk _ _ (k0_off1_eq i) 0 (by decide) (runA.sl.r_21 c i arg1 harg1 arg2 harg2 arg3 harg3 arg4 harg4 arg9 harg9 arg10 harg10 arg11 harg11 arg12 harg12 x0 x1 x2 x3 x8 x9 x10 x11) slices_S384x64_o0_0_S128x64 shapeCasts_S128x64_S128x64 _ e0 _ (fun y _ => congrFun e0 y)
  have e2 : arg15.view.read (Elt F) (arg15.view.writes (Elt F) arg15.view.junk (runA.sl.H14_3 c i arg1 harg1 arg2 harg2 arg3 harg3 arg4 harg4 arg9 harg9 arg10 harg10 arg11 harg11 arg12 harg12 arg15 x0 x1 x2 x3 x8 x9 x10 x11))
      = _ :=
    read_cons_add arg15.view arg15.view.junk _ _ (k0_off2_eq i) 128 (by decide) (runA.sl.r_21 c i arg1 harg1 arg2 harg2 arg3 harg3 arg4 harg4 arg9 harg9 arg10 harg10 arg11 harg11 arg12 harg12 x0 x1 x2 x3 x8 x9 x10 x11) slices_S384x64_o128_0_S128x64 shapeCasts_S128x64_S128x64 _ e1 _ (fun y _ => congrFun e1 y)
  have e3 : arg15.view.read (Elt F) (arg15.view.writes (Elt F) arg15.view.junk (runA.sl.H14_4 c i arg1 harg1 arg2 harg2 arg3 harg3 arg4 harg4 arg9 harg9 arg10 harg10 arg11 harg11 arg12 harg12 arg15 x0 x1 x2 x3 x8 x9 x10 x11))
      = _ :=
    read_cons_add arg15.view arg15.view.junk _ _ rfl 256 (by decide) (runA.sl.r_21 c i arg1 harg1 arg2 harg2 arg3 harg3 arg4 harg4 arg9 harg9 arg10 harg10 arg11 harg11 arg12 harg12 x0 x1 x2 x3 x8 x9 x10 x11) slices_S384x64_o256_0_S128x64 shapeCasts_S128x64_S128x64 _ e2 _ (fun y _ => congrFun e2 y)
  have e4 : arg15.view.read (Elt F) (arg15.view.writes (Elt F) arg15.view.junk (runA.sl.H14_5 c i arg1 harg1 arg2 harg2 arg3 harg3 arg4 harg4 arg9 harg9 arg10 harg10 arg11 harg11 arg12 harg12 arg15 x0 x1 x2 x3 x8 x9 x10 x11))
      = _ :=
    read_cons_add arg15.view arg15.view.junk _ _ (k0_off3_eq i) 0 (by decide) (runA.sl.r_47 c i arg1 harg1 arg2 harg2 arg3 harg3 arg4 harg4 arg9 harg9 arg10 harg10 arg11 harg11 arg12 harg12 x0 x1 x2 x3 x8 x9 x10 x11) slices_S384x64_o0_0_S128x64 shapeCasts_S128x64_S128x64 _ e3 _ (fun y _ => congrFun e3 y)
  have e5 : arg15.view.read (Elt F) (arg15.view.writes (Elt F) arg15.view.junk (runA.sl.H14_6 c i arg1 harg1 arg2 harg2 arg3 harg3 arg4 harg4 arg9 harg9 arg10 harg10 arg11 harg11 arg12 harg12 arg15 x0 x1 x2 x3 x8 x9 x10 x11))
      = _ :=
    read_cons_add arg15.view arg15.view.junk _ _ (k0_off4_eq i) 128 (by decide) (runA.sl.r_47 c i arg1 harg1 arg2 harg2 arg3 harg3 arg4 harg4 arg9 harg9 arg10 harg10 arg11 harg11 arg12 harg12 x0 x1 x2 x3 x8 x9 x10 x11) slices_S384x64_o128_0_S128x64 shapeCasts_S128x64_S128x64 _ e4 _ (fun y _ => congrFun e4 y)
  have e6 : arg15.view.read (Elt F) (arg15.view.writes (Elt F) arg15.view.junk (runA.sl.H14_7 c i arg1 harg1 arg2 harg2 arg3 harg3 arg4 harg4 arg9 harg9 arg10 harg10 arg11 harg11 arg12 harg12 arg15 x0 x1 x2 x3 x8 x9 x10 x11))
      = _ :=
    read_cons_add arg15.view arg15.view.junk _ _ rfl 256 (by decide) (runA.sl.r_47 c i arg1 harg1 arg2 harg2 arg3 harg3 arg4 harg4 arg9 harg9 arg10 harg10 arg11 harg11 arg12 harg12 x0 x1 x2 x3 x8 x9 x10 x11) slices_S384x64_o256_0_S128x64 shapeCasts_S128x64_S128x64 _ e5 _ (fun y _ => congrFun e5 y)
  have e7 : arg15.view.read (Elt F) (arg15.view.writes (Elt F) arg15.view.junk (runA.sl.H14_8 c i arg1 harg1 arg2 harg2 arg3 harg3 arg4 harg4 arg9 harg9 arg10 harg10 arg11 harg11 arg12 harg12 arg15 x0 x1 x2 x3 x8 x9 x10 x11))
      = _ :=
    read_cons_add arg15.view arg15.view.junk _ _ (k0_off5_eq i) 0 (by decide) (runA.sl.r_71 c i arg1 harg1 arg2 harg2 arg3 harg3 arg4 harg4 arg9 harg9 arg10 harg10 arg11 harg11 arg12 harg12 x0 x1 x2 x3 x8 x9 x10 x11) slices_S384x64_o0_0_S128x64 shapeCasts_S128x64_S128x64 _ e6 _ (fun y _ => congrFun e6 y)
  have e8 : arg15.view.read (Elt F) (arg15.view.writes (Elt F) arg15.view.junk (runA.sl.H14_9 c i arg1 harg1 arg2 harg2 arg3 harg3 arg4 harg4 arg9 harg9 arg10 harg10 arg11 harg11 arg12 harg12 arg15 x0 x1 x2 x3 x8 x9 x10 x11))
      = _ :=
    read_cons_add arg15.view arg15.view.junk _ _ (k0_off6_eq i) 128 (by decide) (runA.sl.r_71 c i arg1 harg1 arg2 harg2 arg3 harg3 arg4 harg4 arg9 harg9 arg10 harg10 arg11 harg11 arg12 harg12 x0 x1 x2 x3 x8 x9 x10 x11) slices_S384x64_o128_0_S128x64 shapeCasts_S128x64_S128x64 _ e7 _ (fun y _ => congrFun e7 y)
  have e9 : arg15.view.read (Elt F) (arg15.view.writes (Elt F) arg15.view.junk (runA.sl.H14_10 c i arg1 harg1 arg2 harg2 arg3 harg3 arg4 harg4 arg9 harg9 arg10 harg10 arg11 harg11 arg12 harg12 arg15 x0 x1 x2 x3 x8 x9 x10 x11))
      = _ :=
    read_cons_add arg15.view arg15.view.junk _ _ rfl 256 (by decide) (runA.sl.r_71 c i arg1 harg1 arg2 harg2 arg3 harg3 arg4 harg4 arg9 harg9 arg10 harg10 arg11 harg11 arg12 harg12 x0 x1 x2 x3 x8 x9 x10 x11) slices_S384x64_o256_0_S128x64 shapeCasts_S128x64_S128x64 _ e8 _ (fun y _ => congrFun e8 y)
  have e10 : arg15.view.read (Elt F) (arg15.view.writes (Elt F) arg15.view.junk (runA.sl.H14_11 c i arg1 harg1 arg2 harg2 arg3 harg3 arg4 harg4 arg9 harg9 arg10 harg10 arg11 harg11 arg12 harg12 arg15 x0 x1 x2 x3 x8 x9 x10 x11))
      = _ :=
    read_cons_add arg15.view arg15.view.junk _ _ (k0_off7_eq i) 0 (by decide) (runA.sl.r_97 c i arg1 harg1 arg2 harg2 arg3 harg3 arg4 harg4 arg9 harg9 arg10 harg10 arg11 harg11 arg12 harg12 x0 x1 x2 x3 x8 x9 x10 x11) slices_S384x64_o0_0_S128x64 shapeCasts_S128x64_S128x64 _ e9 _ (fun y _ => congrFun e9 y)
  have e11 : arg15.view.read (Elt F) (arg15.view.writes (Elt F) arg15.view.junk (runA.sl.H14_12 c i arg1 harg1 arg2 harg2 arg3 harg3 arg4 harg4 arg9 harg9 arg10 harg10 arg11 harg11 arg12 harg12 arg15 x0 x1 x2 x3 x8 x9 x10 x11))
      = _ :=
    read_cons_add arg15.view arg15.view.junk _ _ (k0_off8_eq i) 128 (by decide) (runA.sl.r_97 c i arg1 harg1 arg2 harg2 arg3 harg3 arg4 harg4 arg9 harg9 arg10 harg10 arg11 harg11 arg12 harg12 x0 x1 x2 x3 x8 x9 x10 x11) slices_S384x64_o128_0_S128x64 shapeCasts_S128x64_S128x64 _ e10 _ (fun y _ => congrFun e10 y)
  have e12 : arg15.view.read (Elt F) (arg15.view.writes (Elt F) arg15.view.junk (⟨Rect.unit ![0, 192] S128x64.size inb_S4224x256_S128x64_0_192, k0_pay1 (runA.sl.r_97 c i arg1 harg1 arg2 harg2 arg3 harg3 arg4 harg4 arg9 harg9 arg10 harg10 arg11 harg11 arg12 harg12 x0 x1 x2 x3 x8 x9 x10 x11) (runA.sl.v c i arg1 harg1 arg2 harg2 arg3 harg3 arg4 harg4 arg9 harg9 arg10 harg10 arg11 harg11 arg12 harg12 arg15 x0 x1 x2 x3 x8 x9 x10 x11)⟩ :: (runA.sl.H14_12 c i arg1 harg1 arg2 harg2 arg3 harg3 arg4 harg4 arg9 harg9 arg10 harg10 arg11 harg11 arg12 harg12 arg15 x0 x1 x2 x3 x8 x9 x10 x11)))
      = _ :=
    read_cons_add arg15.view arg15.view.junk _ _ rfl 256 (by decide) (runA.sl.r_97 c i arg1 harg1 arg2 harg2 arg3 harg3 arg4 harg4 arg9 harg9 arg10 harg10 arg11 harg11 arg12 harg12 x0 x1 x2 x3 x8 x9 x10 x11) slices_S384x64_o256_0_S128x64 shapeCasts_S128x64_S128x64 _ e11 _ (fun y _ => congrFun e11 y)
  refine e12.trans ?_
  rw [headA0, headA1, headA2, headA3]
  rfl

set_option maxHeartbeats 1600000 in
/-- The value accumulator after a later point: the point's contributions added to what it found. -/
theorem runB_snd (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole) (arg13 : Memref sig .tc .vmem S128x1024 .bf16) (harg13 : arg13.IsWhole) (arg14 : Memref sig .tc .vmem S4224x256 .f32) (harg14 : arg14.IsWhole) (arg15 : Memref sig .tc .vmem S4224x256 .f32) (harg15 : arg15.IsWhole) (arg16 : Memref sig .tc .vmem S1x64 .f32) (harg16 : arg16.IsWhole) (arg17 : Memref sig .tc .vmem S1x16 .f32) (harg17 : arg17.IsWhole) (hc0 : ¬cond0_0 i)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32)  (d13 d14 : Vec F S4224x256 .f32) (d16 : Vec F S1x16 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 d13 d14 d16).1.2.1 = vStep (i 0).val (dvC i 0 (by decide) (slopeCol 0) x0 x1 x2 x3 x8 x9 x10 x11) (dvC i 1 (by decide) (slopeCol 1) x0 x1 x2 x3 x8 x9 x10 x11) (dvC i 2 (by decide) (slopeCol 2) x0 x1 x2 x3 x8 x9 x10 x11) (dvC i 3 (by decide) (slopeCol 3) x0 x1 x2 x3 x8 x9 x10 x11) d14 := by
  have e0 : arg15.view.read (Elt F) (arg15.view.writes (Elt F) (harg15.unread d14) []) = d14 := harg15.read_unread d14
  have e1 : arg15.view.read (Elt F) (arg15.view.writes (Elt F) (harg15.unread d14) (runB.sl.H14_1 c i arg1 harg1 arg2 harg2 arg3 harg3 arg4 harg4 arg9 harg9 arg10 harg10 arg11 harg11 arg12 harg12 arg15 harg15 x0 x1 x2 x3 x8 x9 x10 x11 d14))
      = _ :=
    read_cons_add arg15.view (harg15.unread d14) _ _ (k0_off1_eq i) 0 (by decide) (runB.sl.r_21 c i arg1 harg1 arg2 harg2 arg3 harg3 arg4 harg4 arg9 harg9 arg10 harg10 arg11 harg11 arg12 harg12 x0 x1 x2 x3 x8 x9 x10 x11) slices_S384x64_o0_0_S128x64 shapeCasts_S128x64_S128x64 _ e0 _ (fun y _ => congrFun e0 y)
  have e2 : arg15.view.read (Elt F) (arg15.view.writes (Elt F) (harg15.unread d14) (runB.sl.H14_2 c i arg1 harg1 arg2 harg2 arg3 harg3 arg4 harg4 arg9 harg9 arg10 harg10 arg11 harg11 arg12 harg12 arg15 harg15 x0 x1 x2 x3 x8 x9 x10 x11 d14))
      = _ :=
    read_cons_add arg15.view (harg15.unread d14) _ _ (k0_off2_eq i) 128 (by decide) (runB.sl.r_21 c i arg1 harg1 arg2 harg2 arg3 harg3 arg4 harg4 arg9 harg9 arg10 harg10 arg11 harg11 arg12 harg12 x0 x1 x2 x3 x8 x9 x10 x11) slices_S384x64_o128_0_S128x64 shapeCasts_S128x64_S128x64 _ e1 _ (fun y _ => congrFun e1 y)
  have e3 : arg15.view.read (Elt F) (arg15.view.writes (Elt F) (harg15.unread d14) (⟨Rect.unit ![0, 0] S128x64.size inb_S4224x256_S128x64_0_0, k0_pay56 (runB.sl.r_21 c i arg1 harg1 arg2 harg2 arg3 harg3 arg4 harg4 arg9 harg9 arg10 harg10 arg11 harg11 arg12 harg12 x0 x1 x2 x3 x8 x9 x10 x11) (runB.sl.v284 c i arg1 harg1 arg2 harg2 arg3 harg3 arg4 harg4 arg9 harg9 arg10 harg10 arg11 harg11 arg12 harg12 arg15 harg15 x0 x1 x2 x3 x8 x9 x10 x11 d14)⟩ :: (runB.sl.H14_2 c i arg1 harg1 arg2 harg2 arg3 harg3 arg4 harg4 arg9 harg9 arg10 harg10 arg11 harg11 arg12 harg12 arg15 harg15 x0 x1 x2 x3 x8 x9 x10 x11 d14)))
      = _ :=
    read_cons_add arg15.view (harg15.unread d14) _ _ rfl 256 (by decide) (runB.sl.r_21 c i arg1 harg1 arg2 harg2 arg3 harg3 arg4 harg4 arg9 harg9 arg10 harg10 arg11 harg11 arg12 harg12 x0 x1 x2 x3 x8 x9 x10 x11) slices_S384x64_o256_0_S128x64 shapeCasts_S128x64_S128x64 _ e2 _ (fun y _ => congrFun e2 y)
  have e4 : arg15.view.read (Elt F) (arg15.view.writes (Elt F) (harg15.unread d14) (runB.sl.H14_4 c i arg1 harg1 arg2 harg2 arg3 harg3 arg4 harg4 arg9 harg9 arg10 harg10 arg11 harg11 arg12 harg12 arg15 harg15 x0 x1 x2 x3 x8 x9 x10 x11 d14))
      = _ :=
    read_cons_add arg15.view (harg15.unread d14) _ _ (k0_off3_eq i) 0 (by decide) (runB.sl.r_47 c i arg1 harg1 arg2 harg2 arg3 harg3 arg4 harg4 arg9 harg9 arg10 harg10 arg11 harg11 arg12 harg12 x0 x1 x2 x3 x8 x9 x10 x11) slices_S384x64_o0_0_S128x64 shapeCasts_S128x64_S128x64 _ e3 (harg15.unread d14) (fun y hy => ((congrFun (harg15.read_unread d14) y).trans (by
      rw [addRows_of_col _ _ _ _ _ _ y (by omega), addRows_of_col _ _ _ _ _ _ y (by omega), addRows_of_col _ _ _ _ _ _ y (by omega)])))
  have e5 : arg15.view.read (Elt F) (arg15.view.writes (Elt F) (harg15.unread d14) (runB.sl.H14_5 c i arg1 harg1 arg2 harg2 arg3 harg3 arg4 harg4 arg9 harg9 arg10 harg10 arg11 harg11 arg12 harg12 arg15 harg15 x0 x1 x2 x3 x8 x9 x10 x11 d14))
      = _ :=
    read_cons_add arg15.view (harg15.unread d14) _ _ (k0_off4_eq i) 128 (by decide) (runB.sl.r_47 c i arg1 harg1 arg2 harg2 arg3 harg3 arg4 harg4 arg9 harg9 arg10 harg10 arg11 harg11 arg12 harg12 x0 x1 x2 x3 x8 x9 x10 x11) slices_S384x64_o128_0_S128x64 shapeCasts_S128x64_S128x64 _ e4 _ (fun y _ => congrFun e4 y)
  have e6 : arg15.view.read (Elt F) (arg15.view.writes (Elt F) (harg15.unread d14) (⟨Rect.unit ![0, 64] S128x64.size inb_S4224x256_S128x64_0_64, k0_pay101 (runB.sl.r_47 c i arg1 harg1 arg2 harg2 arg3 harg3 arg4 harg4 arg9 harg9 arg10 harg10 arg11 harg11 arg12 harg12 x0 x1 x2 x3 x8 x9 x10 x11) (runB.sl.v520 c i arg1 harg1 arg2 harg2 arg3 harg3 arg4 harg4 arg9 harg9 arg10 harg10 arg11 harg11 arg12 harg12 arg15 harg15 x0 x1 x2 x3 x8 x9 x10 x11 d14)⟩ :: (runB.sl.H14_5 c i arg1 harg1 arg2 harg2 arg3 harg3 arg4 harg4 arg9 harg9 arg10 harg10 arg11 harg11 arg12 harg12 arg15 harg15 x0 x1 x2 x3 x8 x9 x10 x11 d14)))
      = _ :=
    read_cons_add arg15.view (harg15.unread d14) _ _ rfl 256 (by decide) (runB.sl.r_47 c i arg1 harg1 arg2 harg2 arg3 harg3 arg4 harg4 arg9 harg9 arg10 harg10 arg11 harg11 arg12 harg12 x0 x1 x2 x3 x8 x9 x10 x11) slices_S384x64_o256_0_S128x64 shapeCasts_S128x64_S128x64 _ e5 _ (fun y _ => congrFun e5 y)
  have e7 : arg15.view.read (Elt F) (arg15.view.writes (Elt F) (harg15.unread d14) (runB.sl.H14_7 c i arg1 harg1 arg2 harg2 arg3 harg3 arg4 harg4 arg9 harg9 arg10 harg10 arg11 harg11 arg12 harg12 arg15 harg15 x0 x1 x2 x3 x8 x9 x10 x11 d14))
      = _ :=
    read_cons_add arg15.view (harg15.unread d14) _ _ (k0_off5_eq i) 0 (by decide) (runB.sl.r_71 c i arg1 harg1 arg2 harg2 arg3 harg3 arg4 harg4 arg9 harg9 arg10 harg10 arg11 harg11 arg12 harg12 x0 x1 x2 x3 x8 x9 x10 x11) slices_S384x64_o0_0_S128x64 shapeCasts_S128x64_S128x64 _ e6 (harg15.unread d14) (fun y hy => ((congrFun (harg15.read_unread d14) y).trans (by
      rw [addRows_of_col _ _ _ _ _ _ y (by omega), addRows_of_col _ _ _ _ _ _ y (by omega), addRows_of_col _ _ _ _ _ _ y (by omega), addRows_of_col _ _ _ _ _ _ y (by omega), addRows_of_col _ _ _ _ _ _ y (by omega), addRows_of_col _ _ _ _ _ _ y (by omega)])))
  have e8 : arg15.view.read (Elt F) (arg15.view.writes (Elt F) (harg15.unread d14) (runB.sl.H14_8 c i arg1 harg1 arg2 harg2 arg3 harg3 arg4 harg4 arg9 harg9 arg10 harg10 arg11 harg11 arg12 harg12 arg15 harg15 x0 x1 x2 x3 x8 x9 x10 x11 d14))
      = _ :=
    read_cons_add arg15.view (harg15.unread d14) _ _ (k0_off6_eq i) 128 (by decide) (runB.sl.r_71 c i arg1 harg1 arg2 harg2 arg3 harg3 arg4 harg4 arg9 harg9 arg10 harg10 arg11 harg11 arg12 harg12 x0 x1 x2 x3 x8 x9 x10 x11) slices_S384x64_o128_0_S128x64 shapeCasts_S128x64_S128x64 _ e7 _ (fun y _ => congrFun e7 y)
  have e9 : arg15.view.read (Elt F) (arg15.view.writes (Elt F) (harg15.unread d14) (⟨Rect.unit ![0, 128] S128x64.size inb_S4224x256_S128x64_0_128, k0_pay141 (runB.sl.r_71 c i arg1 harg1 arg2 harg2 arg3 harg3 arg4 harg4 arg9 harg9 arg10 harg10 arg11 harg11 arg12 harg12 x0 x1 x2 x3 x8 x9 x10 x11) (runB.sl.v756 c i arg1 harg1 arg2 harg2 arg3 harg3 arg4 harg4 arg9 harg9 arg10 harg10 arg11 harg11 arg12 harg12 arg15 harg15 x0 x1 x2 x3 x8 x9 x10 x11 d14)⟩ :: (runB.sl.H14_8 c i arg1 harg1 arg2 harg2 arg3 harg3 arg4 harg4 arg9 harg9 arg10 harg10 arg11 harg11 arg12 harg12 arg15 harg15 x0 x1 x2 x3 x8 x9 x10 x11 d14)))
      = _ :=
    read_cons_add arg15.view (harg15.unread d14) _ _ rfl 256 (by decide) (runB.sl.r_71 c i arg1 harg1 arg2 harg2 arg3 harg3 arg4 harg4 arg9 harg9 arg10 harg10 arg11 harg11 arg12 harg12 x0 x1 x2 x3 x8 x9 x10 x11) slices_S384x64_o256_0_S128x64 shapeCasts_S128x64_S128x64 _ e8 _ (fun y _ => congrFun e8 y)
  have e10 : arg15.view.read (Elt F) (arg15.view.writes (Elt F) (harg15.unread d14) (runB.sl.H14_10 c i arg1 harg1 arg2 harg2 arg3 harg3 arg4 harg4 arg9 harg9 arg10 harg10 arg11 harg11 arg12 harg12 arg15 harg15 x0 x1 x2 x3 x8 x9 x10 x11 d14))
      = _ :=
    read_cons_add arg15.view (harg15.unread d14) _ _ (k0_off7_eq i) 0 (by decide) (runB.sl.r_97 c i arg1 harg1 arg2 harg2 arg3 harg3 arg4 harg4 arg9 harg9 arg10 harg10 arg11 harg11 arg12 harg12 x0 x1 x2 x3 x8 x9 x10 x11) slices_S384x64_o0_0_S128x64 shapeCasts_S128x64_S128x64 _ e9 (harg15.unread d14) (fun y hy => ((congrFun (harg15.read_unread d14) y).trans (by
      rw [addRows_of_col _ _ _ _ _ _ y (by omega), addRows_of_col _ _ _ _ _ _ y (by omega), addRows_of_col _ _ _ _ _ _ y (by omega), addRows_of_col _ _ _ _ _ _ y (by omega), addRows_of_col _ _ _ _ _ _ y (by omega), addRows_of_col _ _ _ _ _ _ y (by omega), addRows_of_col _ _ _ _ _ _ y (by omega), addRows_of_col _ _ _ _ _ _ y (by omega), addRows_of_col _ _ _ _ _ _ y (by omega)])))
  have e11 : arg15.view.read (Elt F) (arg15.view.writes (Elt F) (harg15.unread d14) (runB.sl.H14_11 c i arg1 harg1 arg2 harg2 arg3 harg3 arg4 harg4 arg9 harg9 arg10 harg10 arg11 harg11 arg12 harg12 arg15 harg15 x0 x1 x2 x3 x8 x9 x10 x11 d14))
      = _ :=
    read_cons_add arg15.view (harg15.unread d14) _ _ (k0_off8_eq i) 128 (by decide) (runB.sl.r_97 c i arg1 harg1 arg2 harg2 arg3 harg3 arg4 harg4 arg9 harg9 arg10 harg10 arg11 harg11 arg12 harg12 x0 x1 x2 x3 x8 x9 x10 x11) slices_S384x64_o128_0_S128x64 shapeCasts_S128x64_S128x64 _ e10 _ (fun y _ => congrFun e10 y)
  have e12 : arg15.view.read (Elt F) (arg15.view.writes (Elt F) (harg15.unread d14) (⟨Rect.unit ![0, 192] S128x64.size inb_S4224x256_S128x64_0_192, k0_pay1 (runB.sl.r_97 c i arg1 harg1 arg2 harg2 arg3 harg3 arg4 harg4 arg9 harg9 arg10 harg10 arg11 harg11 arg12 harg12 x0 x1 x2 x3 x8 x9 x10 x11) (runB.sl.v c i arg1 harg1 arg2 harg2 arg3 harg3 arg4 harg4 arg9 harg9 arg10 harg10 arg11 harg11 arg12 harg12 arg15 harg15 x0 x1 x2 x3 x8 x9 x10 x11 d14)⟩ :: (runB.sl.H14_11 c i arg1 harg1 arg2 harg2 arg3 harg3 arg4 harg4 arg9 harg9 arg10 harg10 arg11 harg11 arg12 harg12 arg15 harg15 x0 x1 x2 x3 x8 x9 x10 x11 d14)))
      = _ :=
    read_cons_add arg15.view (harg15.unread d14) _ _ rfl 256 (by decide) (runB.sl.r_97 c i arg1 harg1 arg2 harg2 arg3 harg3 arg4 harg4 arg9 harg9 arg10 harg10 arg11 harg11 arg12 harg12 x0 x1 x2 x3 x8 x9 x10 x11) slices_S384x64_o256_0_S128x64 shapeCasts_S128x64_S128x64 _ e11 _ (fun y _ => congrFun e11 y)
  refine e12.trans ?_
  rw [headB0, headB1, headB2, headB3]
  rfl

end Cert.KernelIdeal.Attn

end
-- ==== Proof.AttnMath.lean ====
/- The attention's value gradient as mathematics: positions are natural numbers, `Vis r κ` says which key row a query row
   sees, and a sum or a supremum over the keys a grid point holds is one over the visible rows. -/
module

public import Idealize.ShloMosaic.PureOps.Ideal

@[expose] public section

noncomputable section

namespace Cert.AttnMath

open Idealize.ShloMosaic

/-! ## Which keys a query sees -/

/-- Query row `r` sees key row `κ`: the key is no padding row, not later than the query, and either less than 128 rows
    back or one of the meta rows. -/
def Vis (r κ : ℕ) : Prop := 112 ≤ κ ∧ κ ≤ r ∧ (r < κ + 128 ∨ κ < 128)

instance (r κ : ℕ) : Decidable (Vis r κ) := by unfold Vis; infer_instance

/-- At grid point `n` row `i` of the query block sees entry `j` of the 384 keys at hand. -/
def vis (n i j : ℕ) : Prop :=
  (j < 256 ∧ i < j ∧ j ≤ i + 128 ∧ 256 ≤ j + 128 * n) ∨ (368 ≤ j ∧ j ≤ 256 + (128 * n + i))

instance (n i j : ℕ) : Decidable (vis n i j) := by unfold vis; infer_instance

/-- The row of the whole array that entry `j` of the keys of grid point `n` is. -/
def keyRow (n j : ℕ) : ℕ := if j < 128 then 128 * (n - 1) + j else if j < 256 then 128 * n + (j - 128) else j - 256

theorem vis_keyRow {n i j : ℕ} (hi : i < 128) (hj : j < 384) (h : vis n i j) : Vis (128 * n + i) (keyRow n j) := by
  unfold vis at h; unfold Vis keyRow; split_ifs <;> omega

theorem keyRow_inj {n i j j' : ℕ} (hi : i < 128) (hj : j < 384) (hj' : j' < 384) (h : vis n i j) (h' : vis n i j')
    (e : keyRow n j = keyRow n j') : j = j' := by
  unfold vis at h h'; unfold keyRow at e; split_ifs at e <;> omega

theorem exists_key {n i κ : ℕ} (hi : i < 128) (h : Vis (128 * n + i) κ) : ∃ j, j < 384 ∧ vis n i j ∧ keyRow n j = κ := by
  unfold Vis at h
  by_cases h1 : κ < 128
  · refine ⟨κ + 256, by omega, by unfold vis; omega, ?_⟩
    unfold keyRow; split_ifs <;> omega
  by_cases h2 : κ < 128 * n
  · refine ⟨κ - 128 * (n - 1), by omega, by unfold vis; omega, ?_⟩
    unfold keyRow; split_ifs <;> omega
  · refine ⟨κ - 128 * n + 128, by omega, by unfold vis; omega, ?_⟩
    unfold keyRow; split_ifs <;> omega

/-- The distance of a visible key, as the grid point computes it. -/
def gap (n i j : ℕ) : ℤ := if j < 256 then 128 + i - j else 128 * n + i - (j - 256)

theorem gap_eq {n i j : ℕ} (hj : j < 384) (h : vis n i j) :
    gap n i j = ((128 * n + i : ℕ) : ℤ) - (keyRow n j : ℤ) := by
  unfold vis at h; unfold gap keyRow; split_ifs <;> push_cast <;> omega

/-- The rows a query row sees. -/
def seen (r : ℕ) : Finset ℕ := (Finset.range 4224).filter (Vis r)

theorem mem_seen {r κ : ℕ} (hr : r < 4224) : κ ∈ seen r ↔ Vis r κ := by
  unfold seen; rw [Finset.mem_filter, Finset.mem_range]
  exact ⟨fun h => h.2, fun h => ⟨by unfold Vis at h; omega, h⟩⟩

/-! ## Sums and suprema over a renamed set -/

section Rename

variable {ι : Type} [Fintype ι] (v : ι → Prop) [DecidablePred v] (key : ι → ℕ) (Q : Finset ℕ)
  (hmem : ∀ j, v j → key j ∈ Q) (hinj : ∀ j j', v j → v j' → key j = key j' → j = j')
  (hsurj : ∀ κ ∈ Q, ∃ j, v j ∧ key j = κ)

include hmem hinj hsurj in
theorem sum_rename (F : ι → EReal) (f : ℕ → EReal) (hF : ∀ j, v j → F j = f (key j)) (h0 : ∀ j, ¬v j → F j = 0) :
    ∑ j, F j = ∑ κ ∈ Q, f κ := by
  rw [← Finset.sum_filter_add_sum_filter_not Finset.univ v F,
    Finset.sum_eq_zero (s := Finset.univ.filter fun j => ¬v j) (fun j hj => h0 j (Finset.mem_filter.mp hj).2), add_zero]
  refine Finset.sum_bij (fun j _ => key j) (fun j hj => hmem j (Finset.mem_filter.mp hj).2)
    (fun j hj j' hj' e => hinj j j' (Finset.mem_filter.mp hj).2 (Finset.mem_filter.mp hj').2 e)
    (fun κ hκ => ?_) (fun j hj => hF j (Finset.mem_filter.mp hj).2)
  obtain ⟨j, hj, e⟩ := hsurj κ hκ
  exact ⟨j, Finset.mem_filter.mpr ⟨Finset.mem_univ _, hj⟩, e⟩

include hmem hsurj in
theorem sup_rename (F : ι → EReal) (f : ℕ → EReal) (hF : ∀ j, v j → F j = f (key j)) (h0 : ∀ j, ¬v j → F j = ⊥) :
    Finset.univ.fold max ⊥ F = Q.sup f := by
  change Finset.univ.sup F = Q.sup f
  refine le_antisymm (Finset.sup_le fun j _ => ?_) (Finset.sup_le fun κ hκ => ?_)
  · by_cases h : v j
    · rw [hF j h]; exact Finset.le_sup (hmem j h)
    · rw [h0 j h]; exact bot_le
  · obtain ⟨j, hj, e⟩ := hsurj κ hκ
    rw [← e, ← hF j hj]; exact Finset.le_sup (Finset.mem_univ j)

include hmem hinj hsurj in
/-- The sum of the terms whose key is `κ`. -/
theorem pick_rename (F : ι → EReal) (f : ℕ → EReal) (hF : ∀ j, v j → F j = f (key j)) (h0 : ∀ j, ¬v j → F j = 0) (κ : ℕ) :
    (∑ j, if key j = κ then F j else 0) = if κ ∈ Q then f κ else 0 := by
  rw [sum_rename v key Q hmem hinj hsurj (fun j => if key j = κ then F j else 0) (fun κ' => if κ' = κ then f κ' else 0)
    (fun j hj => by rw [hF j hj]) (fun j hj => by rw [h0 j hj, ite_self]), Finset.sum_ite_eq']

end Rename

/-! ## Finite values -/

/-- A finite extended real. -/
def Fn (x : EReal) : Prop := ∃ a : ℝ, x = (a : EReal)

theorem Fn.coe (a : ℝ) : Fn (a : EReal) := ⟨a, rfl⟩
theorem Fn.zero : Fn 0 := ⟨0, rfl⟩
theorem Fn.add {x y : EReal} : Fn x → Fn y → Fn (x + y) := by
  rintro ⟨a, rfl⟩ ⟨b, rfl⟩; exact ⟨a + b, (EReal.coe_add a b).symm⟩
theorem Fn.mul {x y : EReal} : Fn x → Fn y → Fn (x * y) := by
  rintro ⟨a, rfl⟩ ⟨b, rfl⟩; exact ⟨a * b, (EReal.coe_mul a b).symm⟩
theorem Fn.sub {x y : EReal} : Fn x → Fn y → Fn (x - y) := by
  rintro ⟨a, rfl⟩ ⟨b, rfl⟩; exact ⟨a - b, (EReal.coe_sub a b).symm⟩
theorem Fn.sum {ι : Type} (s : Finset ι) (f : ι → EReal) (h : ∀ i ∈ s, Fn (f i)) : Fn (∑ i ∈ s, f i) := by
  classical
  induction s using Finset.induction_on with
  | empty => exact Fn.zero
  | insert a s ha ih =>
    rw [Finset.sum_insert ha]
    exact (h a (Finset.mem_insert_self a s)).add (ih fun i hi => h i (Finset.mem_insert_of_mem hi))

theorem Fn.of_lt {x : EReal} (h1 : ⊥ < x) (h2 : x < ⊤) : Fn x := by
  induction x with
  | bot => exact absurd h1 (lt_irrefl _)
  | top => exact absurd h2 (lt_irrefl _)
  | coe a => exact ⟨a, rfl⟩

theorem exp_nonneg (x : EReal) : 0 ≤ Ideal.exp x := by
  induction x with
  | bot => exact le_rfl
  | top => exact le_top
  | coe a => exact EReal.coe_nonneg.mpr (Real.exp_pos a).le

theorem exp_pos {x : EReal} (h : x ≠ ⊥) : 0 < Ideal.exp x := by
  induction x with
  | bot => exact absurd rfl h
  | top => exact EReal.zero_lt_top
  | coe a => exact EReal.coe_pos.mpr (Real.exp_pos a)

/-- The root mean square's reciprocal of finite numbers is finite. -/
theorem Fn.rms {ι : Type} (s : Finset ι) (f : ι → EReal) (h : ∀ i ∈ s, Fn (f i)) {n e : ℝ} (hn : 0 < n) (he : 0 < e) :
    Fn (Ideal.rsqrt (Ideal.div (∑ i ∈ s, f i * f i) (n : EReal) + (e : EReal))) := by
  have hs : ∃ a : ℝ, 0 ≤ a ∧ ∑ i ∈ s, f i * f i = (a : EReal) := by
    obtain ⟨a, ha⟩ := Fn.sum s (fun i => f i * f i) fun i hi => (h i hi).mul (h i hi)
    refine ⟨a, ?_, ha⟩
    have : (0 : EReal) ≤ ∑ i ∈ s, f i * f i := Finset.sum_nonneg fun i hi => by
      obtain ⟨b, hb⟩ := h i hi
      rw [hb, ← EReal.coe_mul]; exact EReal.coe_nonneg.mpr (mul_self_nonneg b)
    rw [ha] at this; exact EReal.coe_nonneg.mp this
  obtain ⟨a, ha, e1⟩ := hs
  have hp : 0 < a * (1 / n) + e := by positivity
  rw [e1, Ideal.div_coe hn.ne', ← EReal.coe_mul, ← EReal.coe_add, Ideal.rsqrt_coe, if_neg hp.le.not_gt, if_neg hp.ne']
  exact Fn.coe _

/-! ## The gradient -/

/-- The arrays of the attention, by row and column: the projections, the cotangent, the two gains, the sinks, and the slopes. -/
structure Arrays where
  proj : ℕ → ℕ → EReal
  dout : ℕ → ℕ → EReal
  gq : ℕ → EReal
  gk : ℕ → EReal
  sink : ℕ → EReal
  slope : ℕ → EReal

variable (A : Arrays)

/-- The normed entry `d` of the 64 columns from `col` of row `r`. -/
def nrm (X : ℕ → ℕ → EReal) (G : ℕ → EReal) (r col d : ℕ) : EReal :=
  X r (col + d) * Ideal.rsqrt (Ideal.div (∑ e : Fin 64, X r (col + e.val) * X r (col + e.val)) (64 : ℝ) + Ideal.ofBits .f32 0x358637BD#32) * G d

/-- The score of query row `r` in head `h` against key row `κ`. -/
def score (r κ h : ℕ) : EReal :=
  (∑ d : Fin 64, nrm A.proj A.gq r (64 * h) d.val * nrm A.proj A.gk κ (1024 + 64 * (h / 4)) d.val) * Ideal.ofBits .f32 0x3E000000#32
    - A.slope h * ((((r : ℤ) - (κ : ℤ) : ℤ) : ℝ) : EReal)

/-- The greatest score, the sink among them. -/
def top (r h : ℕ) : EReal := max ((seen r).sup fun κ => score A r κ h) (A.sink h)

/-- The softmax's denominator. -/
def total (r h : ℕ) : EReal :=
  (∑ κ ∈ seen r, Ideal.exp (score A r κ h - top A r h)) + Ideal.exp (A.sink h - top A r h)

/-- The probability of key row `κ` at query row `r`. -/
def prob (r κ h : ℕ) : EReal := Ideal.exp (score A r κ h - top A r h) * (total A r h)⁻¹

/-- The gradient of value row `κ`, column `c`. -/
def grad (κ c : ℕ) : EReal :=
  ∑ g : Fin 4, ∑ r ∈ Finset.range 4224,
    if Vis r κ then prob A r κ (4 * (c / 64) + g.val) * A.dout r (64 * (4 * (c / 64) + g.val) + c % 64) else 0

theorem grad_of_lt {κ : ℕ} (h : κ < 112) (c : ℕ) : grad A κ c = 0 :=
  Finset.sum_eq_zero fun g _ => Finset.sum_eq_zero fun r _ => if_neg fun hv => by unfold Vis at hv; omega

/-- What has to be finite for the softmax to be one. -/
structure Finite : Prop where
  proj : ∀ r c, 112 ≤ r → c < 1280 → Fn (A.proj r c)
  gq : ∀ d, Fn (A.gq d)
  gk : ∀ d, Fn (A.gk d)
  sink : ∀ h, Fn (A.sink h)
  slope : ∀ h, Fn (A.slope h)

theorem eps_pos : ∃ e : ℝ, 0 < e ∧ Ideal.ofBits .f32 0x358637BD#32 = (e : EReal) := by
  refine ⟨_, ?_, by simp [Ideal.ofBits, Ideal.ieee, -EReal.coe_mul]; rfl⟩
  norm_num

theorem eighth : Ideal.ofBits .f32 0x3E000000#32 = ((1 / 8 : ℝ) : EReal) := by
  simp [Ideal.ofBits, Ideal.ieee, -EReal.coe_mul]; norm_num

theorem nrm_fn {X : ℕ → ℕ → EReal} {G : ℕ → EReal} {r col d : ℕ} (hX : ∀ e, e < 64 → Fn (X r (col + e))) (hG : Fn (G d)) (hd : d < 64) :
    Fn (nrm X G r col d) := by
  obtain ⟨e, he, e1⟩ := eps_pos
  unfold nrm
  rw [e1]
  exact ((hX d hd).mul (Fn.rms Finset.univ (fun e : Fin 64 => X r (col + e.val)) (fun e _ => hX e.val e.isLt) (by norm_num) he)).mul hG

theorem score_fn (hA : Finite A) {r κ h : ℕ} (hr : 112 ≤ r) (hκ : 112 ≤ κ) (hh : h < 16) : Fn (score A r κ h) := by
  unfold score
  rw [eighth]
  refine Fn.sub (Fn.mul (Fn.sum _ _ fun d _ => ?_) (Fn.coe _)) ((hA.slope h).mul (Fn.coe _))
  exact (nrm_fn (fun e he => hA.proj r _ hr (by omega)) (hA.gq _) d.isLt).mul
    (nrm_fn (fun e he => hA.proj κ _ hκ (by omega)) (hA.gk _) d.isLt)

theorem top_lt (hA : Finite A) {r h : ℕ} (hh : h < 16) : top A r h < ⊤ := by
  unfold top
  refine max_lt ((Finset.sup_lt_iff bot_lt_top).mpr fun κ hκ => ?_) ?_
  · have hv : Vis r κ := (Finset.mem_filter.mp hκ).2
    obtain ⟨a, ha⟩ := score_fn A hA (r := r) (κ := κ) (by unfold Vis at hv; omega) hv.1 hh
    rw [ha]; exact EReal.coe_lt_top a
  · obtain ⟨a, ha⟩ := hA.sink h
    rw [ha]; exact EReal.coe_lt_top a

theorem total_ne (hA : Finite A) {r h : ℕ} (hh : h < 16) : total A r h ≠ 0 := by
  have h1 : A.sink h - top A r h ≠ ⊥ := by
    obtain ⟨a, ha⟩ := hA.sink h
    have h2 := top_lt A hA (r := r) hh
    have h3 : (a : EReal) ≤ top A r h := by rw [← ha]; exact le_max_right _ _
    obtain ⟨b, hb⟩ : Fn (top A r h) := Fn.of_lt (lt_of_lt_of_le (EReal.bot_lt_coe a) h3) h2
    rw [ha, hb, ← EReal.coe_sub]; exact EReal.coe_ne_bot _
  refine ne_of_gt (lt_of_lt_of_le (exp_pos h1) ?_)
  exact le_add_of_nonneg_left (Finset.sum_nonneg fun κ _ => exp_nonneg _)

theorem div_total (hA : Finite A) {r h : ℕ} (hh : h < 16) (x : EReal) : Ideal.div x (total A r h) = x * (total A r h)⁻¹ :=
  if_neg (total_ne A hA hh)

/-! ## A softmax over a renamed set of keys -/

section Soft

variable {A} {ι : Type} [Fintype ι] (v : ι → Prop) [DecidablePred v] (key : ι → ℕ) (r h : ℕ)
  (hmem : ∀ j, v j → key j ∈ seen r) (hinj : ∀ j j', v j → v j' → key j = key j' → j = j')
  (hsurj : ∀ κ ∈ seen r, ∃ j, v j ∧ key j = κ) (S : ι → EReal)
  (hS : ∀ j, S j = if v j then score A r (key j) h else ⊥)

include hmem hsurj hS in
theorem top_eq : max (Finset.univ.fold max ⊥ S) (A.sink h) = top A r h := by
  unfold top
  rw [sup_rename v key (seen r) hmem hsurj S (fun κ => score A r κ h) (fun j hj => by rw [hS j, if_pos hj])
    (fun j hj => by rw [hS j, if_neg hj])]

include hmem hinj hsurj hS in
theorem total_eq : (∑ j, Ideal.exp (S j - top A r h)) + Ideal.exp (A.sink h - top A r h) = total A r h := by
  unfold total
  rw [sum_rename v key (seen r) hmem hinj hsurj (fun j => Ideal.exp (S j - top A r h)) (fun κ => Ideal.exp (score A r κ h - top A r h))
    (fun j hj => by rw [hS j, if_pos hj]) (fun j hj => by rw [hS j, if_neg hj, EReal.bot_sub]; rfl)]

include hS in
theorem exp_mul (j : ι) (c : EReal) :
    Ideal.exp (S j - top A r h) * c = if v j then Ideal.exp (score A r (key j) h - top A r h) * c else 0 := by
  rw [hS j]
  split_ifs
  · rfl
  · rw [EReal.bot_sub, Ideal.exp_bot, zero_mul]

end Soft

/-- The keys of a grid point are the rows its query rows see. -/
theorem mem_point {n i : ℕ} (hn : n < 33) (hi : i < 128) (j : Fin 384) (hj : vis n i j.val) : keyRow n j.val ∈ seen (128 * n + i) :=
  (mem_seen (by omega)).mpr (vis_keyRow hi j.isLt hj)

theorem inj_point {n i : ℕ} (hi : i < 128) (j j' : Fin 384) (hj : vis n i j.val) (hj' : vis n i j'.val)
    (e : keyRow n j.val = keyRow n j'.val) : j = j' := Fin.ext (keyRow_inj hi j.isLt j'.isLt hj hj' e)

theorem surj_point {n i : ℕ} (hn : n < 33) (hi : i < 128) (κ : ℕ) (hκ : κ ∈ seen (128 * n + i)) :
    ∃ j : Fin 384, vis n i j.val ∧ keyRow n j.val = κ := by
  obtain ⟨j, hj, hv, e⟩ := exists_key hi ((mem_seen (by omega)).mp hκ)
  exact ⟨⟨j, hj⟩, hv, e⟩

/-- One query row of a grid point: the probability of entry `j` of the keys, times the cotangent. -/
theorem point_prob (hA : Finite A) {n i h : ℕ} (hn : n < 33) (hi : i < 128) (hh : h < 16) (S : Fin 384 → EReal)
    (hS : ∀ j : Fin 384, S j = if vis n i j.val then score A (128 * n + i) (keyRow n j.val) h else ⊥) (j : Fin 384) (D : EReal) :
    Ideal.exp (S j - max (Finset.univ.fold max ⊥ S) (A.sink h))
        * Ideal.div 1 ((∑ j', Ideal.exp (S j' - max (Finset.univ.fold max ⊥ S) (A.sink h)))
            + Ideal.exp (A.sink h - max (Finset.univ.fold max ⊥ S) (A.sink h))) * D
      = if vis n i j.val then prob A (128 * n + i) (keyRow n j.val) h * D else 0 := by
  rw [top_eq (fun j : Fin 384 => vis n i j.val) (fun j => keyRow n j.val) (128 * n + i) h (mem_point hn hi) (surj_point hn hi) S hS,
    total_eq (fun j : Fin 384 => vis n i j.val) (fun j => keyRow n j.val) (128 * n + i) h (mem_point hn hi) (inj_point hi) (surj_point hn hi) S hS,
    div_total A hA hh, one_mul,
    exp_mul (fun j : Fin 384 => vis n i j.val) (fun j => keyRow n j.val) (128 * n + i) h S hS]
  split_ifs
  · rfl
  · exact zero_mul _

/-- The reference's form: positions of tokens, 112 rows on. -/
theorem token_prob (hA : Finite A) {t h : ℕ} (ht : t < 4112) (hh : h < 16) (S : Fin 4112 → EReal)
    (hS : ∀ s : Fin 4112, S s = if Vis (t + 112) (s.val + 112) then score A (t + 112) (s.val + 112) h else ⊥) (s : Fin 4112) :
    Ideal.div (Ideal.exp (S s - max (Finset.univ.fold max ⊥ S) (A.sink h)))
        ((∑ s', Ideal.exp (S s' - max (Finset.univ.fold max ⊥ S) (A.sink h)))
            + Ideal.exp (A.sink h - max (Finset.univ.fold max ⊥ S) (A.sink h)))
      = if Vis (t + 112) (s.val + 112) then prob A (t + 112) (s.val + 112) h else 0 := by
  have hmem : ∀ s : Fin 4112, Vis (t + 112) (s.val + 112) → s.val + 112 ∈ seen (t + 112) := fun s hs => (mem_seen (by omega)).mpr hs
  have hsurj : ∀ κ ∈ seen (t + 112), ∃ s : Fin 4112, Vis (t + 112) (s.val + 112) ∧ s.val + 112 = κ := fun κ hκ => by
    have hv := (mem_seen (by omega)).mp hκ
    have e : κ - 112 + 112 = κ := by unfold Vis at hv; omega
    refine ⟨⟨κ - 112, by unfold Vis at hv; omega⟩, ?_, e⟩
    rw [e]; exact hv
  rw [top_eq (fun s : Fin 4112 => Vis (t + 112) (s.val + 112)) (fun s => s.val + 112) (t + 112) h hmem hsurj S hS,
    total_eq (fun s : Fin 4112 => Vis (t + 112) (s.val + 112)) (fun s => s.val + 112) (t + 112) h hmem
      (fun s s' _ _ e => Fin.ext (by simpa using e)) hsurj S hS,
    div_total A hA hh, exp_mul (fun s : Fin 4112 => Vis (t + 112) (s.val + 112)) (fun s => s.val + 112) (t + 112) h S hS]
  rfl

/-- What a grid point adds to row `κ` of an accumulator, summed over its keys: the query rows of the block that see `κ`. -/
theorem point_pick_of (f : ℕ → ℕ → ℕ → EReal) (n : ℕ) (hn : n < 33) (κ : ℕ) :
    (∑ j : Fin 384, if keyRow n j.val = κ then
        ∑ x : Fin 512, (if vis n (x.val % 128) j.val then f (128 * n + x.val % 128) (keyRow n j.val) (x.val / 128) else 0)
      else 0)
    = ∑ x : Fin 512, if Vis (128 * n + x.val % 128) κ then f (128 * n + x.val % 128) κ (x.val / 128) else 0 := by
  have e : ∀ j : Fin 384, (if keyRow n j.val = κ then
        ∑ x : Fin 512, (if vis n (x.val % 128) j.val then f (128 * n + x.val % 128) (keyRow n j.val) (x.val / 128) else 0)
      else 0) = ∑ x : Fin 512, if keyRow n j.val = κ then (if vis n (x.val % 128) j.val then
          f (128 * n + x.val % 128) (keyRow n j.val) (x.val / 128) else 0) else 0 := fun j => by
    split_ifs
    · rfl
    · exact Finset.sum_const_zero.symm
  rw [Finset.sum_congr rfl fun j _ => e j, Finset.sum_comm]
  refine Finset.sum_congr rfl fun x _ => ?_
  have hx : x.val % 128 < 128 := Nat.mod_lt _ (by decide)
  rw [pick_rename (fun j : Fin 384 => vis n (x.val % 128) j.val) (fun j => keyRow n j.val) (seen (128 * n + x.val % 128)) (mem_point hn hx) (inj_point hx) (surj_point hn hx)
    (fun j => if vis n (x.val % 128) j.val then f (128 * n + x.val % 128) (keyRow n j.val) (x.val / 128) else 0)
    (fun κ => f (128 * n + x.val % 128) κ (x.val / 128))
    (fun j hj => if_pos hj) (fun j hj => if_neg hj)]
  simp only [mem_seen (show 128 * n + x.val % 128 < 4224 by omega)]

/-- The value gradient's part of it. -/
theorem point_pick (n kh d : ℕ) (hn : n < 33) (κ : ℕ) :
    (∑ j : Fin 384, if keyRow n j.val = κ then
        ∑ x : Fin 512, (if vis n (x.val % 128) j.val then
          prob A (128 * n + x.val % 128) (keyRow n j.val) (4 * kh + x.val / 128) * A.dout (128 * n + x.val % 128) (64 * (4 * kh + x.val / 128) + d) else 0)
      else 0)
    = ∑ x : Fin 512, if Vis (128 * n + x.val % 128) κ then
        prob A (128 * n + x.val % 128) κ (4 * kh + x.val / 128) * A.dout (128 * n + x.val % 128) (64 * (4 * kh + x.val / 128) + d) else 0 :=
  point_pick_of (fun r κ g => prob A r κ (4 * kh + g) * A.dout r (64 * (4 * kh + g) + d)) n hn κ

/-- The grid points' query rows are all the rows. -/
theorem grid_sum (f : ℕ → ℕ → EReal) :
    (∑ n ∈ Finset.range 33, ∑ x : Fin 512, f (128 * n + x.val % 128) (x.val / 128)) = ∑ g : Fin 4, ∑ r ∈ Finset.range 4224, f r g.val := by
  have e1 : ∀ n, (∑ x : Fin 512, f (128 * n + x.val % 128) (x.val / 128)) = ∑ g : Fin 4, ∑ i : Fin 128, f (128 * n + i.val) g.val := fun n => by
    rw [← Fintype.sum_prod_type', ← (finProdFinEquiv (m := 4) (n := 128)).sum_comp]
    refine Finset.sum_congr rfl fun p _ => ?_
    have h1 : (finProdFinEquiv p).val % 128 = p.2.val := by
      have := p.2.isLt; show (p.2.val + 128 * p.1.val) % 128 = _; omega
    have h2 : (finProdFinEquiv p).val / 128 = p.1.val := by
      have := p.2.isLt; show (p.2.val + 128 * p.1.val) / 128 = _; omega
    rw [h1, h2]
  rw [Finset.sum_congr rfl fun n _ => e1 n, Finset.sum_comm]
  refine Finset.sum_congr rfl fun g _ => ?_
  rw [Finset.sum_range, Finset.sum_range (n := 4224), ← Fintype.sum_prod_type', ← (finProdFinEquiv (m := 33) (n := 128)).sum_comp]
  refine Finset.sum_congr rfl fun p _ => ?_
  rw [show (finProdFinEquiv p).val = 128 * p.1.val + p.2.val from by show p.2.val + 128 * p.1.val = _; omega]

/-- The grid points' contributions together are the gradient. -/
theorem grad_eq (κ c : ℕ) :
    (∑ n ∈ Finset.range 33, ∑ x : Fin 512, if Vis (128 * n + x.val % 128) κ then
        prob A (128 * n + x.val % 128) κ (4 * (c / 64) + x.val / 128)
          * A.dout (128 * n + x.val % 128) (64 * (4 * (c / 64) + x.val / 128) + c % 64) else 0) = grad A κ c :=
  grid_sum fun r g => if Vis r κ then prob A r κ (4 * (c / 64) + g) * A.dout r (64 * (4 * (c / 64) + g) + c % 64) else 0

/-- The gradient of the value row of token `s`, its sum over the query tokens. -/
theorem grad_token (s c : ℕ) :
    grad A (s + 112) c = ∑ g : Fin 4, ∑ t : Fin 4112, (if Vis (t.val + 112) (s + 112) then prob A (t.val + 112) (s + 112) (4 * (c / 64) + g.val) else 0)
      * A.dout (t.val + 112) (64 * (4 * (c / 64) + g.val) + c % 64) := by
  refine Finset.sum_congr rfl fun g _ => ?_
  rw [show 4224 = 112 + 4112 from rfl, Finset.sum_range_add, Finset.sum_eq_zero (s := Finset.range 112), zero_add, Finset.sum_range]
  · refine Finset.sum_congr rfl fun t _ => ?_
    rw [Nat.add_comm 112 t.val]
    split_ifs
    · rfl
    · exact (zero_mul _).symm
  · intro r hr
    rw [Finset.mem_range] at hr
    exact if_neg fun hv => by unfold Vis at hv; omega

end Cert.AttnMath

end
-- ==== Proof.AttnVal.lean ====
/- The contribution of one key/value head at one grid point over the extended reals: the sum, over the 512 stacked query rows,
   of the softmax's probability times the cotangent. -/
module

public import proofs.«01_k».proof.Proof.AttnStep
public import proofs.«01_k».proof.Proof.AttnMath
public import Idealize.ShloMosaic.Lib.Pointwise
public import Idealize.ShloMosaic.Lib.WordArith
public import Idealize.ShloMosaic.Lib.WordCmp

@[expose] public section

set_option maxRecDepth 16384

noncomputable section

namespace Cert.KernelIdeal.Attn

open Idealize.ShloMosaic Idealize.ShloMosaic.Pointwise Idealize.ShloMosaic.WordArith
open Cert.KernelIdeal Cert.KernelIdeal.Gen Cert.AttnMath

/-! ## The words of the mask and of the distance -/

theorem toInt_block {n : ℕ} (hn : n < 33) : (Scalar.muli (128#32) (BitVec.ofNat 32 n)).toInt = 128 * n := by
  have h : Scalar.muli (128#32) (BitVec.ofNat 32 n) = BitVec.ofNat 32 (128 * n) := by
    show BitVec.ofNat 32 128 * BitVec.ofNat 32 n = _
    rw [← BitVec.ofNat_mul]
  rw [h, toInt_ofNat_small _ (by omega)]; push_cast; rfl

/-- The mask's word at row `i` and entry `j` of grid point `n`. -/
theorem mask_word {n i j : ℕ} (hn : n < 33) (hi : i < 128) (hj : j < 384) (x y : EReal) :
    Scalar.select
      (IntOp.ori
        (IntOp.andi
          (IntOp.andi
            (IntOp.andi (IntOp.cmpi CmpIPredicate.slt (BitVec.ofNat 32 j) 256#32)
              (IntOp.cmpi CmpIPredicate.sgt (BitVec.ofNat 32 j) (BitVec.ofNat 32 i)))
            (IntOp.cmpi CmpIPredicate.sle (BitVec.ofNat 32 j) (IntOp.addi (BitVec.ofNat 32 i) 128#32)))
          (IntOp.cmpi CmpIPredicate.sge (BitVec.ofNat 32 j)
            (Scalar.subi (256#32) (Scalar.muli (128#32) (BitVec.ofNat 32 n)))))
        (IntOp.andi
          (IntOp.andi (IntOp.xori (IntOp.cmpi CmpIPredicate.slt (BitVec.ofNat 32 j) 256#32) 1#1)
            (IntOp.cmpi CmpIPredicate.sge (IntOp.subi (BitVec.ofNat 32 j) 256#32) 112#32))
          (IntOp.cmpi CmpIPredicate.sle (IntOp.subi (BitVec.ofNat 32 j) 256#32)
            (IntOp.addi (Scalar.muli (128#32) (BitVec.ofNat 32 n)) (BitVec.ofNat 32 i))))) x y
      = if vis n i j then x else y := by
  have hJ : (BitVec.ofNat 32 j).toInt = j := toInt_ofNat_small _ (by omega)
  have hI : (BitVec.ofNat 32 i).toInt = i := toInt_ofNat_small _ (by omega)
  have hN := toInt_block hn
  have c256 : (256#32).toInt = 256 := rfl
  have c128 : (128#32).toInt = 128 := rfl
  have c112 : (112#32).toInt = 112 := rfl
  have h1 : (IntOp.addi (BitVec.ofNat 32 i) 128#32).toInt = i + 128 := by
    show (BitVec.ofNat 32 i + 128#32).toInt = _
    rw [toInt_add_of_bounds _ _ (by omega) (by omega), hI, c128]
  have h2 : (Scalar.subi (256#32) (Scalar.muli (128#32) (BitVec.ofNat 32 n))).toInt = 256 - 128 * n := by
    show (256#32 - Scalar.muli (128#32) (BitVec.ofNat 32 n)).toInt = _
    rw [toInt_sub_of_bounds _ _ (by omega) (by omega), hN, c256]
  have h3 : (IntOp.subi (BitVec.ofNat 32 j) 256#32).toInt = (j : ℤ) - 256 := by
    show (BitVec.ofNat 32 j - 256#32).toInt = _
    rw [toInt_sub_of_bounds _ _ (by omega) (by omega), hJ, c256]
  have h4 : (IntOp.addi (Scalar.muli (128#32) (BitVec.ofNat 32 n)) (BitVec.ofNat 32 i)).toInt = 128 * n + i := by
    show (Scalar.muli (128#32) (BitVec.ofNat 32 n) + BitVec.ofNat 32 i).toInt = _
    rw [toInt_add_of_bounds _ _ (by omega) (by omega), hN, hI]
  have hx : ∀ b : Bool, IntOp.xori (BitVec.ofBool b) 1#1 = BitVec.ofBool (!b) := by decide
  have hs : ∀ b : Bool, Scalar.select (BitVec.ofBool b) x y = if b = true then x else y := fun b => by cases b <;> rfl
  rw [WordCmp.cmpi_slt_eq, WordCmp.cmpi_sgt_eq, WordCmp.cmpi_sle_eq, WordCmp.cmpi_sge_eq, WordCmp.cmpi_sge_eq, WordCmp.cmpi_sle_eq,
    h1, h2, h3, h4, hJ, hI, c256, c112, hx]
  simp only [andi_ofBool, ori_ofBool]
  rw [hs]
  refine if_congr ?_ rfl rfl
  simp only [Bool.or_eq_true, Bool.and_eq_true, decide_eq_true_eq, Bool.not_eq_true', decide_eq_false_iff_not]
  unfold vis
  omega

/-- The distance's word. -/
theorem dist_word {n i j : ℕ} (hn : n < 33) (hi : i < 128) (hj : j < 384) :
    (FloatOps.sitofp (F := Ideal) FTy.f32 (Scalar.select (IntOp.cmpi CmpIPredicate.slt (BitVec.ofNat 32 j) 256#32)
          (IntOp.subi (IntOp.addi (128#32) (BitVec.ofNat 32 i)) (BitVec.ofNat 32 j))
          (IntOp.subi (IntOp.addi (Scalar.muli (128#32) (BitVec.ofNat 32 n)) (BitVec.ofNat 32 i))
            (IntOp.subi (BitVec.ofNat 32 j) 256#32))) : EReal)
      = ((gap n i j : ℝ) : EReal) := by
  have hJ : (BitVec.ofNat 32 j).toInt = j := toInt_ofNat_small _ (by omega)
  have hI : (BitVec.ofNat 32 i).toInt = i := toInt_ofNat_small _ (by omega)
  have hN := toInt_block hn
  have c256 : (256#32).toInt = 256 := rfl
  have c128 : (128#32).toInt = 128 := rfl
  have h1 : (IntOp.addi (128#32) (BitVec.ofNat 32 i)).toInt = 128 + i := by
    show (128#32 + BitVec.ofNat 32 i).toInt = _
    rw [toInt_add_of_bounds _ _ (by omega) (by omega), hI, c128]
  have h3 : (IntOp.subi (BitVec.ofNat 32 j) 256#32).toInt = (j : ℤ) - 256 := by
    show (BitVec.ofNat 32 j - 256#32).toInt = _
    rw [toInt_sub_of_bounds _ _ (by omega) (by omega), hJ, c256]
  have h4 : (IntOp.addi (Scalar.muli (128#32) (BitVec.ofNat 32 n)) (BitVec.ofNat 32 i)).toInt = 128 * n + i := by
    show (Scalar.muli (128#32) (BitVec.ofNat 32 n) + BitVec.ofNat 32 i).toInt = _
    rw [toInt_add_of_bounds _ _ (by omega) (by omega), hN, hI]
  have h5 : (IntOp.subi (IntOp.addi (128#32) (BitVec.ofNat 32 i)) (BitVec.ofNat 32 j)).toInt = 128 + i - j := by
    show (IntOp.addi (128#32) (BitVec.ofNat 32 i) - BitVec.ofNat 32 j).toInt = _
    rw [toInt_sub_of_bounds _ _ (by omega) (by omega), h1, hJ]
  have h6 : (IntOp.subi (IntOp.addi (Scalar.muli (128#32) (BitVec.ofNat 32 n)) (BitVec.ofNat 32 i)) (IntOp.subi (BitVec.ofNat 32 j) 256#32)).toInt
      = 128 * n + i - (j - 256) := by
    show (IntOp.addi (Scalar.muli (128#32) (BitVec.ofNat 32 n)) (BitVec.ofNat 32 i) - IntOp.subi (BitVec.ofNat 32 j) 256#32).toInt = _
    rw [toInt_sub_of_bounds _ _ (by omega) (by omega), h3, h4]
  have hs : ∀ (b : Bool) (x y : BitVec 32), Scalar.select (BitVec.ofBool b) x y = if b = true then x else y := fun b x y => by cases b <;> rfl
  show (((BitVec.toInt _ : ℤ) : ℝ) : EReal) = _
  rw [WordCmp.cmpi_slt_eq, hs]
  have e : (if decide ((BitVec.ofNat 32 j).toInt < (256#32).toInt) = true then (IntOp.subi (IntOp.addi (128#32) (BitVec.ofNat 32 i)) (BitVec.ofNat 32 j))
      else (IntOp.subi (IntOp.addi (Scalar.muli (128#32) (BitVec.ofNat 32 n)) (BitVec.ofNat 32 i)) (IntOp.subi (BitVec.ofNat 32 j) 256#32))).toInt = gap n i j := by
    unfold gap
    by_cases h : j < 256
    · rw [if_pos (decide_eq_true (by rw [hJ, c256]; omega)), if_pos h, h5]
    · rw [if_neg (fun hd => h (by have := of_decide_eq_true hd; rw [hJ, c256] at this; omega)), if_neg h, h6]
  rw [e]

theorem mask_named : Named.named (F := Ideal) κ (φ := .f32) "mask" 0xF149F2CA#32 = (⊥ : EReal) :=
  IdealRules.named_const.ideal_named_scalar _ _ _ _ rfl

theorem pay10_apply (i : grid0.Coords) (x : Fin 512) (j : Fin 384) :
    k0_pay10 (F := Ideal) i (ix2 x j) = if vis (i 0).val (x.val % 128) j.val then 0 else ⊥ := by
  have hn : (i 0).val < 33 := (i 0).isLt
  have hx := x.isLt
  pointwise [k0_pay10, k0_pay8, k0_pay9]
  by_cases h1 : x.val < 128
  · rw [dif_pos h1, mask_word hn h1 j.isLt, mask_named, show x.val % 128 = x.val by omega]
  rw [dif_neg h1]
  by_cases h2 : x.val - 128 < 128
  · rw [dif_pos h2, mask_word hn h2 j.isLt, mask_named, show x.val % 128 = x.val - 128 by omega]
  rw [dif_neg h2]
  by_cases h3 : x.val - 128 - 128 < 128
  · rw [dif_pos h3, mask_word hn h3 j.isLt, mask_named, show x.val % 128 = x.val - 128 - 128 by omega]
  · rw [dif_neg h3, mask_word hn (by omega) j.isLt, mask_named, show x.val % 128 = x.val - 128 - 128 - 128 by omega]

theorem pay11_apply (i : grid0.Coords) (x : Fin 512) (j : Fin 384) :
    k0_pay11 (F := Ideal) i (ix2 x j) = ((gap (i 0).val (x.val % 128) j.val : ℝ) : EReal) := by
  have hn : (i 0).val < 33 := (i 0).isLt
  have hx := x.isLt
  pointwise [k0_pay11, k0_pay8, k0_pay9]
  by_cases h1 : x.val < 128
  · rw [dif_pos h1, dist_word hn h1 j.isLt, show x.val % 128 = x.val by omega]
  rw [dif_neg h1]
  by_cases h2 : x.val - 128 < 128
  · rw [dif_pos h2, dist_word hn h2 j.isLt, show x.val % 128 = x.val - 128 by omega]
  rw [dif_neg h2]
  by_cases h3 : x.val - 128 - 128 < 128
  · rw [dif_pos h3, dist_word hn h3 j.isLt, show x.val % 128 = x.val - 128 - 128 by omega]
  · rw [dif_neg h3, dist_word hn (by omega) j.isLt, show x.val % 128 = x.val - 128 - 128 - 128 by omega]

/-! ## The slopes -/

/-- The slope of a query head, as a float word: 2^(−(h+1)/2). -/
def slopeWord : ℕ → BitVec 32
  | 0 => 0x3F3504F3#32 | 1 => 0x3F000000#32 | 2 => 0x3EB504F3#32 | 3 => 0x3E800000#32
  | 4 => 0x3E3504F3#32 | 5 => 0x3E000000#32 | 6 => 0x3DB504F3#32 | 7 => 0x3D800000#32
  | 8 => 0x3D3504F3#32 | 9 => 0x3D000000#32 | 10 => 0x3CB504F3#32 | 11 => 0x3C800000#32
  | 12 => 0x3C3504F3#32 | 13 => 0x3C000000#32 | 14 => 0x3BB504F3#32 | 15 => 0x3B800000#32
  | _ => 0#32

theorem chain4 {α : Type} (x : ℕ) (a b c d : α) (hx : x < 512) (f : ℕ → α) (h0 : f 0 = a) (h1 : f 1 = b) (h2 : f 2 = c) (h3 : f 3 = d) :
    (if h : x < 128 then a else if h : x - 128 < 128 then b else if h : x - 128 - 128 < 128 then c else d) = f (x / 128) := by
  split_ifs
  · rw [show x / 128 = 0 by omega, h0]
  · rw [show x / 128 = 1 by omega, h1]
  · rw [show x / 128 = 2 by omega, h2]
  · rw [show x / 128 = 3 by omega, h3]

theorem chainW (x : ℕ) (a b c d : BitVec 32) (hx : x < 512) (f : ℕ → BitVec 32) (h0 : f 0 = a) (h1 : f 1 = b) (h2 : f 2 = c) (h3 : f 3 = d) :
    (if h : x < 128 then Ideal.ofBits .f32 a else if h : x - 128 < 128 then Ideal.ofBits .f32 b
      else if h : x - 128 - 128 < 128 then Ideal.ofBits .f32 c else Ideal.ofBits .f32 d) = Ideal.ofBits .f32 (f (x / 128)) :=
  chain4 x _ _ _ _ hx (fun g => Ideal.ofBits .f32 (f g)) (congrArg _ h0) (congrArg _ h1) (congrArg _ h2) (congrArg _ h3)

theorem slopeCol_apply (kh : ℕ) (h : kh < 4) (x : Fin 512) :
    slopeCol (F := Ideal) kh (ix2 x 0) = Ideal.ofBits .f32 (slopeWord (4 * kh + x.val / 128)) := by
  obtain rfl | rfl | rfl | rfl : kh = 0 ∨ kh = 1 ∨ kh = 2 ∨ kh = 3 := by omega
  · show k0_pay19 (F := Ideal) (ix2 x 0) = _
    pointwise [k0_pay19]
    rw [chainW x.val _ _ _ _ x.isLt slopeWord] <;> decide
  · show k0_pay62 (F := Ideal) (ix2 x 0) = _
    pointwise [k0_pay62]
    rw [chainW x.val _ _ _ _ x.isLt (fun g => slopeWord (4 * 1 + g))] <;> decide
  · show k0_pay107 (F := Ideal) (ix2 x 0) = _
    pointwise [k0_pay107]
    rw [chainW x.val _ _ _ _ x.isLt (fun g => slopeWord (4 * 2 + g))] <;> decide
  · show k0_pay147 (F := Ideal) (ix2 x 0) = _
    pointwise [k0_pay147]
    rw [chainW x.val _ _ _ _ x.isLt (fun g => slopeWord (4 * 3 + g))] <;> decide

/-! ## The normed queries and keys -/

theorem word64 : Ideal.ofBits .f32 0x42800000#32 = ((64 : ℝ) : EReal) := by
  simp [Ideal.ofBits, Ideal.ieee, -EReal.coe_mul]; norm_num

theorem word_bot : Ideal.ofBits .f32 0xFF800000#32 = (⊥ : EReal) := by
  simp [Ideal.ofBits, Ideal.ieee]

theorem pay18_apply (X : ℕ → ℕ → EReal) (G : ℕ → EReal) (b h0 : ℕ) (q0 q1 q2 q3 : Vec Ideal S128x64 .f32) (gq : Vec Ideal S1x64 .f32)
    (e0 : ∀ (i : Fin 128) (d : Fin 64), q0 (ix2 i d) = X (b + i.val) (64 * (h0 + 0) + d.val))
    (e1 : ∀ (i : Fin 128) (d : Fin 64), q1 (ix2 i d) = X (b + i.val) (64 * (h0 + 1) + d.val))
    (e2 : ∀ (i : Fin 128) (d : Fin 64), q2 (ix2 i d) = X (b + i.val) (64 * (h0 + 2) + d.val))
    (e3 : ∀ (i : Fin 128) (d : Fin 64), q3 (ix2 i d) = X (b + i.val) (64 * (h0 + 3) + d.val))
    (eg : ∀ d : Fin 64, gq (ix2 0 d) = G d.val) (x : Fin 512) (d : Fin 64) :
    k0_pay18 (F := Ideal) q0 q1 q2 q3 gq (ix2 x d) = nrm X G (b + x.val % 128) (64 * (h0 + x.val / 128)) d.val := by
  have hx := x.isLt
  pointwise [k0_pay18, k0_pay17, k0_pay16]
  simp only [e0, e1, e2, e3, eg, word64]
  unfold nrm
  split_ifs
  · rw [show x.val / 128 = 0 by omega, show x.val % 128 = x.val by omega]
  · rw [show x.val / 128 = 1 by omega, show x.val % 128 = x.val - 128 by omega]
  · rw [show x.val / 128 = 2 by omega, show x.val % 128 = x.val - 128 - 128 by omega]
  · rw [show x.val / 128 = 3 by omega, show x.val % 128 = x.val - 128 - 128 - 128 by omega]

theorem pay14_apply (X : ℕ → ℕ → EReal) (G : ℕ → EReal) (n col : ℕ) (k0 k1 k2 : Vec Ideal S128x64 .f32) (gk : Vec Ideal S1x64 .f32)
    (e0 : ∀ (i : Fin 128) (d : Fin 64), k0 (ix2 i d) = X (128 * (n - 1) + i.val) (col + d.val))
    (e1 : ∀ (i : Fin 128) (d : Fin 64), k1 (ix2 i d) = X (128 * n + i.val) (col + d.val))
    (e2 : ∀ (i : Fin 128) (d : Fin 64), k2 (ix2 i d) = X i.val (col + d.val))
    (eg : ∀ d : Fin 64, gk (ix2 0 d) = G d.val) (j : Fin 384) (d : Fin 64) :
    k0_pay14 (F := Ideal) k0 k1 k2 gk (ix2 j d) = nrm X G (keyRow n j.val) col d.val := by
  have hj := j.isLt
  pointwise [k0_pay14]
  simp only [e0, e1, e2, eg, word64]
  unfold nrm keyRow
  by_cases h1 : j.val < 128
  · simp only [dif_pos h1, if_pos h1]
  by_cases h2 : j.val - 128 < 128
  · simp only [dif_neg h1, if_neg h1, dif_pos h2, if_pos (show j.val < 256 by omega)]
  · simp only [dif_neg h1, if_neg h1, dif_neg h2, if_neg (show ¬j.val < 256 by omega), show j.val - 256 = j.val - 128 - 128 by omega]

theorem pay34_apply (X : ℕ → ℕ → EReal) (b h0 : ℕ) (q0 q1 q2 q3 : Vec Ideal S128x64 .f32)
    (e0 : ∀ (i : Fin 128) (d : Fin 64), q0 (ix2 i d) = X (b + i.val) (64 * (h0 + 0) + d.val))
    (e1 : ∀ (i : Fin 128) (d : Fin 64), q1 (ix2 i d) = X (b + i.val) (64 * (h0 + 1) + d.val))
    (e2 : ∀ (i : Fin 128) (d : Fin 64), q2 (ix2 i d) = X (b + i.val) (64 * (h0 + 2) + d.val))
    (e3 : ∀ (i : Fin 128) (d : Fin 64), q3 (ix2 i d) = X (b + i.val) (64 * (h0 + 3) + d.val)) (x : Fin 512) (d : Fin 64) :
    k0_pay34 (F := Ideal) (k0_pay31 q0 q1 q2 q3) (ix2 x d) = X (b + x.val % 128) (64 * (h0 + x.val / 128) + d.val) := by
  have hx := x.isLt
  pointwise [k0_pay34, k0_pay31]
  simp only [e0, e1, e2, e3]
  split_ifs
  · rw [show x.val / 128 = 0 by omega, show x.val % 128 = x.val by omega]
  · rw [show x.val / 128 = 1 by omega, show x.val % 128 = x.val - 128 by omega]
  · rw [show x.val / 128 = 2 by omega, show x.val % 128 = x.val - 128 - 128 by omega]
  · rw [show x.val / 128 = 3 by omega, show x.val % 128 = x.val - 128 - 128 - 128 by omega]

/-! ## One head's contribution -/

/-- The softmax and the product with the cotangent, from the mask, the distances, the slopes, the normed keys and queries, the
    sinks and the cotangent rows. -/
theorem soft_apply (A : Arrays) (hA : Finite A) (n kh : ℕ) (hn : n < 33) (hkh : kh < 4)
    (mask dst : FVec Ideal S512x384 .f32) (k : FVec Ideal S384x64 .f32) (q : FVec Ideal S512x64 .f32) (slope : FVec Ideal S512x1 .f32)
    (s0 s1 s2 s3 : Vec Ideal S1x1 .f32) (o : FVec Ideal S512x64 .bf16)
    (hm : ∀ x j, mask (ix2 x j) = if vis n (x.val % 128) j.val then (0 : EReal) else ⊥)
    (hd : ∀ x j, dst (ix2 x j) = ((gap n (x.val % 128) j.val : ℝ) : EReal))
    (hk : ∀ (j : Fin 384) (d : Fin 64), k (ix2 j d) = nrm A.proj A.gk (keyRow n j.val) (1024 + 64 * kh) d.val)
    (hq : ∀ (x : Fin 512) (d : Fin 64), q (ix2 x d) = nrm A.proj A.gq (128 * n + x.val % 128) (64 * (4 * kh + x.val / 128)) d.val)
    (hs : ∀ x : Fin 512, slope (ix2 x 0) = A.slope (4 * kh + x.val / 128))
    (h0 : s0 (ix2 0 0) = A.sink (4 * kh + 0)) (h1 : s1 (ix2 0 0) = A.sink (4 * kh + 1))
    (h2 : s2 (ix2 0 0) = A.sink (4 * kh + 2)) (h3 : s3 (ix2 0 0) = A.sink (4 * kh + 3))
    (ho : ∀ (x : Fin 512) (d : Fin 64), o (ix2 x d) = A.dout (128 * n + x.val % 128) (64 * (4 * kh + x.val / 128) + d.val))
    (j : Fin 384) (d : Fin 64) :
    k0_pay43 (F := Ideal) (k0_pay29 mask dst k q slope s3 (k0_pay20 s0) (k0_pay21 s1) (k0_pay22 s2)) o (ix2 j d)
      = ∑ x : Fin 512, (if vis n (x.val % 128) j.val then
          prob A (128 * n + x.val % 128) (keyRow n j.val) (4 * kh + x.val / 128) * A.dout (128 * n + x.val % 128) (64 * (4 * kh + x.val / 128) + d.val) else 0) := by
  pointwise [k0_pay43, k0_pay29, k0_pay28, k0_pay27, k0_pay26, k0_pay25, k0_pay24, k0_pay23, k0_pay20, k0_pay21, k0_pay22]
  refine Finset.sum_congr rfl fun x _ => ?_
  have hx : x.val % 128 < 128 := Nat.mod_lt _ (by decide)
  have hh : 4 * kh + x.val / 128 < 16 := by have := x.isLt; omega
  rw [chain4 x.val _ _ _ _ x.isLt (fun g => A.sink (4 * kh + g)) h0.symm h1.symm h2.symm h3.symm, word_bot, ho]
  refine point_prob A hA hn hx hh (fun x_1 => (∑ x_2, q (ix2 x x_2) * k (ix2 x_1 x_2)) * Ideal.ofBits FTy.f32 1040187392#32 -
                  slope (ix2 x 0) * dst (ix2 x x_1) + mask (ix2 x x_1)) (fun j' => ?_) j _
  show (∑ x_2, q (ix2 x x_2) * k (ix2 j' x_2)) * Ideal.ofBits FTy.f32 1040187392#32 -
                  slope (ix2 x 0) * dst (ix2 x j') + mask (ix2 x j') = _
  rw [hm]
  by_cases hv : vis n (x.val % 128) j'.val
  · rw [if_pos hv, if_pos hv, add_zero, hs, hd, gap_eq j'.isLt hv]
    unfold score
    rw [show (4 * kh + x.val / 128) / 4 = kh by have := x.isLt; omega]
    refine congrArg (· - _) (congrArg (· * _) (Finset.sum_congr rfl fun e _ => ?_))
    rw [hq, hk]
  · rw [if_neg hv, if_neg hv, EReal.add_bot]

end Cert.KernelIdeal.Attn

end
-- ==== Proof.AttnFold.lean ====
/- The value accumulator after the last grid point, over the extended reals: the blocks as rows of the whole arrays, one grid
   point's contribution, and the sum over the 33 points. -/
module

public import proofs.«01_k».proof.Proof.AttnVal
public import proofs.«01_k».proof.Proof.AttnFrame
public import Idealize.ShloMosaic.Lib.Pipeline.ValueKit

@[expose] public section

set_option maxRecDepth 16384

noncomputable section

namespace Cert.KernelIdeal.Attn

open Idealize.ShloMosaic Idealize.ShloMosaic.Pointwise
open Cert.KernelIdeal Cert.KernelIdeal.Gen Cert.AttnMath

/-! ## The arrays, indexed by numbers -/

/-- Entry (r, c) of a matrix, 0 outside of it. -/
def entry {a b : ℕ} (x : (⟨2, ![a, b]⟩ : Shape).Idx → EReal) (r c : ℕ) : EReal :=
  if h : r < a ∧ c < b then x (ix2 ⟨r, h.1⟩ ⟨c, h.2⟩) else 0

theorem entry_of {a b : ℕ} (x : (⟨2, ![a, b]⟩ : Shape).Idx → EReal) {r c : ℕ} (hr : r < a) (hc : c < b) :
    entry x r c = x (ix2 ⟨r, hr⟩ ⟨c, hc⟩) := dif_pos ⟨hr, hc⟩

/-- What the gradient is a function of. -/
def arrays (p : FVec Ideal S4224x2560 .f32) (o : FVec Ideal S4224x1024 .f32) (gq gk : FVec Ideal S1x64 .f32) (s : FVec Ideal S1x16 .f32) : Arrays where
  proj := entry p
  dout := entry o
  gq := entry gq 0
  gk := entry gk 0
  sink := entry s 0
  slope h := Ideal.ofBits .f32 (slopeWord h)

/-! ## The slices of the blocks, at an index -/

theorem kvWin_apply (x : Vec Ideal S128x256 .f32) (kh : ℕ) (h : kh < 4) (i : Fin 128) (d : Fin 64) :
    kvWin x kh h (ix2 i d) = x (ix2 i ⟨64 * kh + d.val, by omega⟩) := by
  unfold kvWin VecWindow.window
  blk_ext

theorem qWin_apply (x : Vec Ideal S128x1024 .f32) (h : ℕ) (hh : h < 16) (i : Fin 128) (d : Fin 64) :
    qWin x h hh (ix2 i d) = x (ix2 i ⟨64 * h + d.val, by omega⟩) := by
  unfold qWin VecWindow.window
  blk_ext

theorem skWin_apply (x : Vec Ideal S1x16 .f32) (h : ℕ) (hh : h < 16) :
    skWin x h hh (ix2 0 0) = x (ix2 0 ⟨h, hh⟩) := by
  unfold skWin VecWindow.window
  blk_ext

theorem gWin_apply (x : Vec Ideal S1x64 .f32) (d : Fin 64) : gWin x (ix2 0 d) = x (ix2 0 d) := by
  unfold gWin VecWindow.window
  blk_ext

/-! ## One head's contribution, from the blocks -/

theorem dvC_apply (A : Arrays) (hA : Finite A) (i : grid0.Coords) (kh : ℕ) (hkh : kh < 4)
    (x0 : Vec Ideal S128x1024 .f32) (x1 x2 x3 : Vec Ideal S128x256 .f32) (x8 : Vec Ideal S128x1024 .f32)
    (x9 x10 : Vec Ideal S1x64 .f32) (x11 : Vec Ideal S1x16 .f32)
    (e0 : ∀ (r : Fin 128) (d : Fin 1024), x0 (ix2 r d) = A.proj (128 * (i 0).val + r.val) d.val)
    (e1 : ∀ (r : Fin 128) (d : Fin 256), x1 (ix2 r d) = A.proj (128 * ((i 0).val - 1) + r.val) (1024 + d.val))
    (e2 : ∀ (r : Fin 128) (d : Fin 256), x2 (ix2 r d) = A.proj (128 * (i 0).val + r.val) (1024 + d.val))
    (e3 : ∀ (r : Fin 128) (d : Fin 256), x3 (ix2 r d) = A.proj r.val (1024 + d.val))
    (e8 : ∀ (r : Fin 128) (d : Fin 1024), x8 (ix2 r d) = A.dout (128 * (i 0).val + r.val) d.val)
    (e9 : ∀ d : Fin 64, x9 (ix2 0 d) = A.gq d.val) (e10 : ∀ d : Fin 64, x10 (ix2 0 d) = A.gk d.val)
    (e11 : ∀ h : Fin 16, x11 (ix2 0 h) = A.sink h.val)
    (eS : ∀ h, A.slope h = Ideal.ofBits .f32 (slopeWord h)) (j : Fin 384) (d : Fin 64) :
    dvC (F := Ideal) i kh hkh (slopeCol kh) x0 x1 x2 x3 x8 x9 x10 x11 (ix2 j d)
      = ∑ x : Fin 512, (if vis (i 0).val (x.val % 128) j.val then
          prob A (128 * (i 0).val + x.val % 128) (keyRow (i 0).val j.val) (4 * kh + x.val / 128)
            * A.dout (128 * (i 0).val + x.val % 128) (64 * (4 * kh + x.val / 128) + d.val) else 0) := by
  have hq : ∀ (h : ℕ) (hh : h < 16) (r : Fin 128) (d : Fin 64), qWin x0 h hh (ix2 r d) = A.proj (128 * (i 0).val + r.val) (64 * h + d.val) :=
    fun h hh r d => by rw [qWin_apply, e0]
  have ho : ∀ (h : ℕ) (hh : h < 16) (r : Fin 128) (d : Fin 64), qWin x8 h hh (ix2 r d) = A.dout (128 * (i 0).val + r.val) (64 * h + d.val) :=
    fun h hh r d => by rw [qWin_apply, e8]
  have hs : ∀ (h : ℕ) (hh : h < 16), skWin x11 h hh (ix2 0 0) = A.sink h := fun h hh => by rw [skWin_apply, e11]
  unfold dvC headDv
  exact soft_apply A hA (i 0).val kh (i 0).isLt hkh _ _ _ _ _ _ _ _ _ _ (pay10_apply i) (pay11_apply i)
    (pay14_apply A.proj A.gk (i 0).val (1024 + 64 * kh) _ _ _ _
      (fun r d => by rw [kvWin_apply, e1, Nat.add_assoc]) (fun r d => by rw [kvWin_apply, e2, Nat.add_assoc])
      (fun r d => by rw [kvWin_apply, e3, Nat.add_assoc]) (fun d => by rw [gWin_apply, e10]))
    (pay18_apply A.proj A.gq (128 * (i 0).val) (4 * kh) _ _ _ _ _ (hq _ _) (hq _ _) (hq _ _) (hq _ _) (fun d => by rw [gWin_apply, e9]))
    (fun x => by rw [slopeCol_apply kh hkh, eS]) (hs _ _) (hs _ _) (hs _ _) (hs _ _)
    (pay34_apply A.dout (128 * (i 0).val) (4 * kh) _ _ _ _ (ho _ _) (ho _ _) (ho _ _) (ho _ _)) j d

/-! ## One point's step -/

/-- The three blocks of rows that a head adds hit row `κ` once for every entry of the keys that is row `κ`. -/
theorem sum_pick (C : Fin 384 → EReal) (n κ : ℕ) :
    (∑ j : Fin 384, if keyRow n j.val = κ then C j else 0)
      = (if h : 128 * (n - 1) ≤ κ ∧ κ < 128 * (n - 1) + 128 then C ⟨κ - 128 * (n - 1) + 0, by omega⟩ else 0)
        + (if h : 128 * n ≤ κ ∧ κ < 128 * n + 128 then C ⟨κ - 128 * n + 128, by omega⟩ else 0)
        + (if h : 0 ≤ κ ∧ κ < 0 + 128 then C ⟨κ - 0 + 256, by omega⟩ else 0) := by
  have one : ∀ (b o : ℕ) (hb : b + 128 ≤ 384), (∑ i : Fin 128, if o + i.val = κ then C ⟨b + i.val, by omega⟩ else 0)
      = if h : o ≤ κ ∧ κ < o + 128 then C ⟨κ - o + b, by omega⟩ else 0 := fun b o hb => by
    split_ifs with h
    · rw [Finset.sum_eq_single (⟨κ - o, by omega⟩ : Fin 128)]
      · rw [if_pos (by show o + (κ - o) = κ; omega)]; congr 1; ext; show b + (κ - o) = κ - o + b; omega
      · intro i _ hi; exact if_neg fun e => hi (Fin.ext (by show i.val = κ - o; omega))
      · intro hi; exact absurd (Finset.mem_univ _) hi
    · exact Finset.sum_eq_zero fun i _ => if_neg fun e => h (by have := i.isLt; omega)
  rw [← one 0 (128 * (n - 1)) (by decide), ← one 128 (128 * n) (by decide), ← one 256 0 (by decide)]
  rw [show (∑ j : Fin 384, if keyRow n j.val = κ then C j else 0)
      = ∑ j : Fin (256 + 128), if keyRow n j.val = κ then C ⟨j.val, j.isLt⟩ else 0 from rfl, Fin.sum_univ_add,
    show (∑ j : Fin 256, if keyRow n (Fin.castAdd 128 j).val = κ then C ⟨(Fin.castAdd 128 j).val, (Fin.castAdd 128 j).isLt⟩ else 0)
      = ∑ j : Fin (128 + 128), if keyRow n j.val = κ then C ⟨j.val, by omega⟩ else 0 from rfl, Fin.sum_univ_add]
  refine congrArg₂ (· + ·) (congrArg₂ (· + ·) (Finset.sum_congr rfl fun i _ => ?_) (Finset.sum_congr rfl fun i _ => ?_))
    (Finset.sum_congr rfl fun i _ => ?_)
  · have hi := i.isLt
    have hC : (⟨i.val, by omega⟩ : Fin 384) = ⟨0 + i.val, by omega⟩ := Fin.ext (Nat.zero_add _).symm
    show (if keyRow n i.val = κ then C ⟨i.val, _⟩ else 0) = _
    rw [hC, show keyRow n i.val = 128 * (n - 1) + i.val by unfold keyRow; rw [if_pos hi]]
  · have hi := i.isLt
    show (if keyRow n (128 + i.val) = κ then C ⟨128 + i.val, _⟩ else 0) = _
    rw [show keyRow n (128 + i.val) = 128 * n + i.val by unfold keyRow; rw [if_neg (by omega), if_pos (by omega)]; omega]
  · have hi := i.isLt
    show (if keyRow n (256 + i.val) = κ then C ⟨256 + i.val, _⟩ else 0) = _
    rw [show keyRow n (256 + i.val) = 0 + i.val by unfold keyRow; rw [if_neg (by omega), if_neg (by omega)]; omega]

theorem addRows_ideal (d : Vec Ideal S4224x256 .f32) (o col k : ℕ) (hk : k + 128 ≤ 384) (C : FVec Ideal S384x64 .f32) (y : S4224x256.Idx)
    (h1 : col ≤ (y 1).val) (h2 : (y 1).val < col + 64) :
    addRows d o col k hk C y = d y + (if h : o ≤ (y 0).val ∧ (y 0).val < o + 128 then
      C (ix2 ⟨(y 0).val - o + k, by omega⟩ ⟨(y 1).val - col, by omega⟩) else 0) := by
  unfold addRows
  by_cases h : o ≤ (y 0).val ∧ (y 0).val < o + 128
  · rw [dif_pos ⟨h, h1, h2⟩, dif_pos h]; rfl
  · rw [dif_neg fun hh => h hh.1, dif_neg h, add_zero]

theorem addRows_miss (d : Vec Ideal S4224x256 .f32) (o col k : ℕ) (hk : k + 128 ≤ 384) (C : FVec Ideal S384x64 .f32) (y : S4224x256.Idx)
    (h : ¬(col ≤ (y 1).val ∧ (y 1).val < col + 64)) : addRows d o col k hk C y = d y :=
  dif_neg fun hh => h hh.2

/-- One point's step at an index: what was there, and for every entry of the keys that is this row the head's contribution. -/
theorem vStep_apply (n : ℕ) (C : ℕ → FVec Ideal S384x64 .f32) (d : Vec Ideal S4224x256 .f32) (y : S4224x256.Idx) :
    vStep n (C 0) (C 1) (C 2) (C 3) d y
      = d y + ∑ j : Fin 384, if keyRow n j.val = (y 0).val then C ((y 1).val / 64) (ix2 j ⟨(y 1).val % 64, Nat.mod_lt _ (by decide)⟩) else 0 := by
  have hy : (y 1).val < 256 := (y 1).isLt
  have three : ∀ (e : Vec Ideal S4224x256 .f32) (kh : ℕ) (D : FVec Ideal S384x64 .f32), (y 1).val / 64 = kh →
      addRows (addRows (addRows e (128 * (n - 1)) (64 * kh) 0 (by decide) D) (128 * n) (64 * kh) 128 (by decide) D) 0 (64 * kh) 256 (by decide) D y
        = e y + ∑ j : Fin 384, if keyRow n j.val = (y 0).val then D (ix2 j ⟨(y 1).val % 64, Nat.mod_lt _ (by decide)⟩) else 0 := fun e kh D hkh => by
    rw [addRows_ideal _ _ _ _ _ _ _ (by omega) (by omega), addRows_ideal _ _ _ _ _ _ _ (by omega) (by omega),
      addRows_ideal _ _ _ _ _ _ _ (by omega) (by omega), sum_pick (fun j => D (ix2 j ⟨(y 1).val % 64, Nat.mod_lt _ (by decide)⟩)), add_assoc, add_assoc,
      add_assoc]
    have hc : (⟨(y 1).val - 64 * kh, by omega⟩ : Fin 64) = ⟨(y 1).val % 64, Nat.mod_lt _ (by decide)⟩ := Fin.ext (by show (y 1).val - 64 * kh = (y 1).val % 64; omega)
    rw [hc]
  have miss : ∀ (e : Vec Ideal S4224x256 .f32) (kh : ℕ) (D : FVec Ideal S384x64 .f32), (y 1).val / 64 ≠ kh →
      addRows (addRows (addRows e (128 * (n - 1)) (64 * kh) 0 (by decide) D) (128 * n) (64 * kh) 128 (by decide) D) 0 (64 * kh) 256 (by decide) D y
        = e y := fun e kh D hkh => by
    rw [addRows_miss _ _ _ _ _ _ _ (by omega), addRows_miss _ _ _ _ _ _ _ (by omega), addRows_miss _ _ _ _ _ _ _ (by omega)]
  unfold vStep
  obtain h | h | h | h : (y 1).val / 64 = 0 ∨ (y 1).val / 64 = 1 ∨ (y 1).val / 64 = 2 ∨ (y 1).val / 64 = 3 := by omega
  · rw [h]
    exact (miss _ 3 _ (by omega)).trans ((miss _ 2 _ (by omega)).trans ((miss _ 1 _ (by omega)).trans (three _ 0 _ h)))
  · rw [h]
    exact (miss _ 3 _ (by omega)).trans ((miss _ 2 _ (by omega)).trans ((three _ 1 _ h).trans (congrArg (· + _) (miss _ 0 _ (by omega)))))
  · rw [h]
    exact (miss _ 3 _ (by omega)).trans ((three _ 2 _ h).trans (congrArg (· + _) ((miss _ 1 _ (by omega)).trans (miss _ 0 _ (by omega)))))
  · rw [h]
    exact (three _ 3 _ h).trans (congrArg (· + _) ((miss _ 2 _ (by omega)).trans ((miss _ 1 _ (by omega)).trans (miss _ 0 _ (by omega)))))

/-! ## The blocks are rows of the arrays -/

theorem idx0 : ∀ t : Fin cfg0.N, (cfg0.win 0).index t = ![t.val, 0] := by decide +kernel
theorem idx1 : ∀ t : Fin cfg0.N, (cfg0.win 1).index t = ![t.val - 1, 4] := by decide +kernel
theorem idx2 : ∀ t : Fin cfg0.N, (cfg0.win 2).index t = ![t.val, 4] := by decide +kernel
theorem idx3 : ∀ t : Fin cfg0.N, (cfg0.win 3).index t = ![0, 4] := by decide +kernel
theorem idx8 : ∀ t : Fin cfg0.N, (cfg0.win 8).index t = ![t.val, 0] := by decide +kernel
theorem idx9 : ∀ t : Fin cfg0.N, (cfg0.win 9).index t = ![0, 0] := by decide +kernel
theorem idx10 : ∀ t : Fin cfg0.N, (cfg0.win 10).index t = ![0, 0] := by decide +kernel
theorem idx11 : ∀ t : Fin cfg0.N, (cfg0.win 11).index t = ![0, 0] := by decide +kernel

variable (m : (ℓ : Loc nD τ sig) → Buf (Elt Ideal) ℓ) (c : Dev nD)

/-- The gradient's arrays, from the kernel's arguments. -/
def argArrays : Arrays :=
  arrays (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5))

theorem idx14 : ∀ t : Fin cfg0.N, (cfg0.win 14).index t = ![0, 0] := by decide +kernel

theorem coords_eq : ∀ t : Fin cfg0.N, (grid0.coords t 0).val = t.val := by decide +kernel

theorem lt_N (t : Fin cfg0.N) : t.val < 33 := lt_of_lt_of_eq t.isLt (show cfg0.N = 33 from N_0)

theorem blk0 (t : Fin cfg0.N) (r : Fin 128) (d : Fin 1024) : (X0_0 m c t : Vec Ideal S128x1024 .f32) (ix2 r d) = (argArrays m c).proj (128 * t.val + r.val) d.val := by
  have ht := lt_N t
  unfold argArrays arrays X0_0 Pipeline.Window.fill; dsimp only
  rw [dif_pos (moved0_0 t _), entry_of _ (by omega) (by omega)]
  blk_ext [iblk, V, idx0 t]
theorem blk1 (t : Fin cfg0.N) (r : Fin 128) (d : Fin 256) : (iblk m c 1 t : Vec Ideal S128x256 .f32) (ix2 r d) = (argArrays m c).proj (128 * (t.val - 1) + r.val) (1024 + d.val) := by
  have ht := lt_N t
  unfold argArrays arrays; dsimp only
  rw [entry_of _ (by omega) (by omega)]
  blk_ext [iblk, V, idx1 t]
theorem blk2 (t : Fin cfg0.N) (r : Fin 128) (d : Fin 256) : (iblk m c 2 t : Vec Ideal S128x256 .f32) (ix2 r d) = (argArrays m c).proj (128 * t.val + r.val) (1024 + d.val) := by
  have ht := lt_N t
  unfold argArrays arrays; dsimp only
  rw [entry_of _ (by omega) (by omega)]
  blk_ext [iblk, V, idx2 t]
theorem blk3 (t : Fin cfg0.N) (r : Fin 128) (d : Fin 256) : (iblk m c 3 t : Vec Ideal S128x256 .f32) (ix2 r d) = (argArrays m c).proj r.val (1024 + d.val) := by
  unfold argArrays arrays; dsimp only
  rw [entry_of _ (by omega) (by omega)]
  blk_ext [iblk, V, idx3 t]
theorem blk8 (t : Fin cfg0.N) (r : Fin 128) (d : Fin 1024) : (iblk m c 8 t : Vec Ideal S128x1024 .f32) (ix2 r d) = (argArrays m c).dout (128 * t.val + r.val) d.val := by
  have ht := lt_N t
  unfold argArrays arrays; dsimp only
  rw [entry_of _ (by omega) (by omega)]
  blk_ext [iblk, V, idx8 t]
theorem blk9 (t : Fin cfg0.N) (d : Fin 64) : (iblk m c 9 t : Vec Ideal S1x64 .f32) (ix2 0 d) = (argArrays m c).gq d.val := by
  unfold argArrays arrays; dsimp only
  rw [entry_of _ (by omega) (by omega)]
  blk_ext [iblk, V, idx9 t]
theorem blk10 (t : Fin cfg0.N) (d : Fin 64) : (iblk m c 10 t : Vec Ideal S1x64 .f32) (ix2 0 d) = (argArrays m c).gk d.val := by
  unfold argArrays arrays; dsimp only
  rw [entry_of _ (by omega) (by omega)]
  blk_ext [iblk, V, idx10 t]
theorem blk11 (t : Fin cfg0.N) (h : Fin 16) : (iblk m c 11 t : Vec Ideal S1x16 .f32) (ix2 0 h) = (argArrays m c).sink h.val := by
  unfold argArrays arrays; dsimp only
  rw [entry_of _ (by omega) (by omega)]
  blk_ext [iblk, V, idx11 t]

/-! ## The fold over the points -/

/-- What point `n` adds to value row `κ`, column `e`. -/
def term (A : Arrays) (n κ e : ℕ) : EReal :=
  ∑ x : Fin 512, if Vis (128 * n + x.val % 128) κ then
    prob A (128 * n + x.val % 128) κ (4 * (e / 64) + x.val / 128)
      * A.dout (128 * n + x.val % 128) (64 * (4 * (e / 64) + x.val / 128) + e % 64) else 0

variable (hA : Finite (argArrays m c))

include hA in
/-- One point's step from its own blocks. -/
theorem step_apply (t : Fin cfg0.N) (d : Vec Ideal S4224x256 .f32) (y : S4224x256.Idx) :
    vStep (grid0.coords t 0).val (dvC (grid0.coords t) 0 (by decide) (slopeCol 0) (X0_0 m c t) (iblk m c 1 t) (iblk m c 2 t) (iblk m c 3 t) (iblk m c 8 t) (iblk m c 9 t) (iblk m c 10 t) (iblk m c 11 t))
      (dvC (grid0.coords t) 1 (by decide) (slopeCol 1) (X0_0 m c t) (iblk m c 1 t) (iblk m c 2 t) (iblk m c 3 t) (iblk m c 8 t) (iblk m c 9 t) (iblk m c 10 t) (iblk m c 11 t))
      (dvC (grid0.coords t) 2 (by decide) (slopeCol 2) (X0_0 m c t) (iblk m c 1 t) (iblk m c 2 t) (iblk m c 3 t) (iblk m c 8 t) (iblk m c 9 t) (iblk m c 10 t) (iblk m c 11 t))
      (dvC (grid0.coords t) 3 (by decide) (slopeCol 3) (X0_0 m c t) (iblk m c 1 t) (iblk m c 2 t) (iblk m c 3 t) (iblk m c 8 t) (iblk m c 9 t) (iblk m c 10 t) (iblk m c 11 t)) d y
      = d y + term (argArrays m c) t.val (y 0).val (y 1).val := by
  have ht := lt_N t
  have hi := coords_eq t
  have hy : (y 1).val / 64 < 4 := by have : (y 1).val < 256 := (y 1).isLt; omega
  refine (vStep_apply (grid0.coords t 0).val (fun kh => if h : kh < 4 then dvC (grid0.coords t) kh h (slopeCol kh) (X0_0 m c t) (iblk m c 1 t) (iblk m c 2 t) (iblk m c 3 t) (iblk m c 8 t) (iblk m c 9 t) (iblk m c 10 t) (iblk m c 11 t) else k0_pay43 (fun _ => 0) (fun _ => 0)) d y).trans ?_
  refine congrArg (d y + ·) ?_
  unfold term
  rw [← point_pick (argArrays m c) t.val ((y 1).val / 64) ((y 1).val % 64) ht (y 0).val]
  refine Finset.sum_congr rfl fun j _ => ?_
  rw [dif_pos hy, dvC_apply (argArrays m c) hA (grid0.coords t) _ hy _ _ _ _ _ _ _ _ (by rw [hi]; exact blk0 m c t) (by rw [hi]; exact blk1 m c t)
    (by rw [hi]; exact blk2 m c t) (blk3 m c t) (by rw [hi]; exact blk8 m c t) (blk9 m c t) (blk10 m c t) (blk11 m c t) (fun _ => rfl), hi]

include hA in
/-- The value accumulator after point `t`. -/
theorem accs_apply (n : ℕ) (h : n < cfg0.N) (y : S4224x256.Idx) :
    (accs m c ⟨n, h⟩).2.1 y = ∑ k ∈ Finset.range (n + 1), term (argArrays m c) k (y 0).val (y 1).val := by
  induction n with
  | zero =>
    rw [accs_zero m c ⟨0, h⟩ rfl]
    unfold accA
    rw [dif_pos ((hcond0_0 ⟨0, h⟩).mpr rfl), runA_snd, step_apply m c hA ⟨0, h⟩, Finset.sum_range_one]
    pointwise [k0_pay5]
  | succ n ih =>
    have hn : n + 1 < 33 := lt_N ⟨n + 1, h⟩
    rw [accs_pos m c ⟨n + 1, h⟩ (Nat.succ_ne_zero n)]
    unfold accB
    rw [dif_neg fun hc => by have := (hcond0_0 ⟨n + 1, h⟩).mp hc; have : (n + 1) % 33 = 0 := this; omega, runB_snd, step_apply m c hA ⟨n + 1, h⟩,
      Finset.sum_range_succ]
    exact congrArg (· + _) (ih (Nat.lt_of_succ_lt h))

/-- The array that the pipeline leaves in the value window. -/
def gradArray (A : Arrays) : FVec Ideal S4224x256 .f32 := fun y => grad A (y 0).val (y 1).val

include hA in
theorem arr14 : (dats m 0 c).arrAt 14 cfg0.N = gradArray (argArrays m c) := by
  refine (dats m 0 c).arrAt_eq_of_covers 14 _ (by decide +kernel) fun t hf y => ?_
  have ht : t.val % 33 = 32 := (flush0_14 t).mp hf
  have hN := lt_N t
  have hy : gradArray (argArrays m c) (((cfg0.win 14).blk t).view.emb y) = gradArray (argArrays m c) y := by
    unfold gradArray; blk_simp [idx14 t]
  rw [hy]
  blk_simp
  rw [after0_14]
  refine (accs_apply m c hA t.val t.isLt _).trans ?_
  rw [show t.val + 1 = 33 by omega]
  exact grad_eq (argArrays m c) _ _

include hA in
/-- What the run's post says of the value window's array. -/
theorem out14 {r : PUnit × MemSt nD τ sig (Elt Ideal)}
    (h : Pipeline.RDat.FramePost (cfgs 0) (fun c => (dats m 0 c).toRForget forgets0) (V m) r) :
    r.2.mem ((c.tc : Thread nD τ).loc main_v0_2) = gradArray (argArrays m c) :=
  ((Pipeline.Dat.toRForget_arrAt_iff (dats m 0 c) (fgt := forgets0) (w := 14) rfl _ _).mp ((h c).1 14)).trans (arr14 m c hA)

end Cert.KernelIdeal.Attn

end

end
-- ==== Proof.AttnRef.lean ====
/- The dense attention and its value gradient, stage by stage at an index, and that the last stage is the gradient of the
   mathematics. -/
module

public import proofs.«01_k».proof.Proof.AttnFold
public import proofs.«01_k».proof.Proof.Gen.ReferenceIdeal.Read
public import Idealize.ShloMosaic.Lib.Pointwise

@[expose] public section

set_option maxRecDepth 16384

noncomputable section

namespace Cert.ReferenceIdeal.Attn

open Idealize.ShloMosaic Idealize.ShloMosaic.Pointwise Idealize.ShloMosaic.WordArith
open Cert.ReferenceIdeal Cert.ReferenceIdeal.Gen Cert.ReferenceIdeal.Read Cert.AttnMath
open Cert.KernelIdeal.Attn (entry entry_of arrays slopeWord word64 word_bot gradArray)

variable (x0 : FVec Ideal S4224x2560 .f32) (x2 : FVec Ideal S4224x1024 .f32) (x3 x4 : FVec Ideal S1x64 .f32) (x5 : FVec Ideal S1x16 .f32)

/-! ## The normed queries and keys -/

theorem v16_apply (t : Fin 4112) (k g : Fin 4) (d : Fin 64) :
    val_main_v16 (F := Ideal) x0 x3 (ix4 t k g d)
      = nrm (arrays x0 x2 x3 x4 x5).proj (arrays x0 x2 x3 x4 x5).gq (t.val + 112) (64 * (4 * k.val + g.val)) d.val := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1]
  have e : ∀ d : Fin 64, entry x0 (t.val + 112) (64 * (4 * k.val + g.val) + d.val)
      = x0 (ix2 ⟨112 + t.val, by omega⟩ ⟨k.val * 256 + g.val * 64 + d.val, by omega⟩) := fun d => by
    rw [entry_of x0 (r := t.val + 112) (c := 64 * (4 * k.val + g.val) + d.val) (by omega) (by omega)]
    exact congrArg x0 (congrArg₂ ix2 (Fin.ext (by show t.val + 112 = 112 + t.val; omega)) (Fin.ext (by
      show 64 * (4 * k.val + g.val) + d.val = k.val * 256 + g.val * 64 + d.val; omega)))
  unfold nrm arrays
  dsimp only
  simp only [e, word64]
  rw [entry_of x3 (r := 0) (c := d.val) (by omega) d.isLt]
  rfl

theorem v32_apply (s : Fin 4112) (k : Fin 4) (d : Fin 64) :
    val_main_v32 (F := Ideal) x0 x4 (ix3 s k d)
      = nrm (arrays x0 x2 x3 x4 x5).proj (arrays x0 x2 x3 x4 x5).gk (s.val + 112) (1024 + 64 * k.val) d.val := by
  pointwise [val_main_v0, val_main_v17, val_main_v18, val_main_v19, val_main_v20, val_main_v21, val_main_v22, val_main_v23, val_main_v24, val_main_v25, val_main_v26, val_main_v27, val_main_v28, val_main_v29, val_main_v30, val_main_v31, val_main_v32, val_main_cst_2, val_main_cst_3, val_main_cst_4]
  have e : ∀ d : Fin 64, entry x0 (s.val + 112) (1024 + 64 * k.val + d.val)
      = x0 (ix2 ⟨112 + s.val, by omega⟩ ⟨1024 + (k.val * 64 + d.val), by omega⟩) := fun d => by
    rw [entry_of x0 (r := s.val + 112) (c := 1024 + 64 * k.val + d.val) (by omega) (by omega)]
    exact congrArg x0 (congrArg₂ ix2 (Fin.ext (by show s.val + 112 = 112 + s.val; omega)) (Fin.ext (by
      show 1024 + 64 * k.val + d.val = 1024 + (k.val * 64 + d.val); omega)))
  unfold nrm arrays
  dsimp only
  simp only [e, word64]
  rw [entry_of x4 (r := 0) (c := d.val) (by omega) d.isLt]
  rfl

/-! ## The slopes -/

theorem v74_apply (l : Fin 16) : val_main_v74 (F := Ideal) (ix1 l) = Ideal.ofBits .f32 (slopeWord l.val) := by
  unfold val_main_v74
  concat_tiles i h
  all_goals
    rw [show l.val = _ from h]
    rfl

/-! ## The scores -/

/-- The mask's word at query token `t` and key token `s`. -/
theorem mask_word {t s : ℕ} (ht : t < 4112) (hs : s < 4112) (x y : EReal) :
    Scalar.select (IntOp.andi (IntOp.cmpi CmpIPredicate.sle (BitVec.ofNat 32 s) (BitVec.ofNat 32 t))
        (IntOp.ori (IntOp.cmpi CmpIPredicate.slt (IntOp.subi (BitVec.ofNat 32 t) (BitVec.ofNat 32 s)) 128#32)
          (IntOp.cmpi CmpIPredicate.slt (BitVec.ofNat 32 s) 16#32))) x y
      = if Vis (t + 112) (s + 112) then x else y := by
  have hT : (BitVec.ofNat 32 t).toInt = t := toInt_ofNat_small _ (by omega)
  have hS : (BitVec.ofNat 32 s).toInt = s := toInt_ofNat_small _ (by omega)
  have c128 : (128#32).toInt = 128 := rfl
  have c16 : (16#32).toInt = 16 := rfl
  have h1 : (IntOp.subi (BitVec.ofNat 32 t) (BitVec.ofNat 32 s)).toInt = (t : ℤ) - s := by
    show (BitVec.ofNat 32 t - BitVec.ofNat 32 s).toInt = _
    rw [toInt_sub_of_bounds _ _ (by omega) (by omega), hT, hS]
  have hsel : ∀ b : Bool, Scalar.select (BitVec.ofBool b) x y = if b = true then x else y := fun b => by cases b <;> rfl
  rw [WordCmp.cmpi_sle_eq, WordCmp.cmpi_slt_eq, WordCmp.cmpi_slt_eq, h1, hT, hS, c128, c16]
  simp only [andi_ofBool, ori_ofBool]
  rw [hsel]
  refine if_congr ?_ rfl rfl
  simp only [Bool.or_eq_true, Bool.and_eq_true, decide_eq_true_eq]
  unfold Vis
  omega

theorem dist_word {t s : ℕ} (ht : t < 4112) (hs : s < 4112) :
    (FloatOps.sitofp (F := Ideal) FTy.f32 (IntOp.subi (BitVec.ofNat 32 t) (BitVec.ofNat 32 s)) : EReal)
      = (((((t + 112 : ℕ) : ℤ) - ((s + 112 : ℕ) : ℤ) : ℤ) : ℝ) : EReal) := by
  have hT : (BitVec.ofNat 32 t).toInt = t := toInt_ofNat_small _ (by omega)
  have hS : (BitVec.ofNat 32 s).toInt = s := toInt_ofNat_small _ (by omega)
  have h1 : (IntOp.subi (BitVec.ofNat 32 t) (BitVec.ofNat 32 s)).toInt = ((t + 112 : ℕ) : ℤ) - ((s + 112 : ℕ) : ℤ) := by
    show (BitVec.ofNat 32 t - BitVec.ofNat 32 s).toInt = _
    rw [toInt_sub_of_bounds _ _ (by omega) (by omega), hT, hS]; push_cast; ring
  show (((BitVec.toInt _ : ℤ) : ℝ) : EReal) = _
  rw [h1]

theorem v85_apply (k g : Fin 4) (t s : Fin 4112) :
    val_main_v85_0 (F := Ideal) x0 x3 x4 (ix4 k g t s)
      = if Vis (t.val + 112) (s.val + 112) then score (arrays x0 x2 x3 x4 x5) (t.val + 112) (s.val + 112) (4 * k.val + g.val) else ⊥ := by
  pointwise [val_main_v76, val_main_v77, val_main_v78, val_main_v79, val_main_v80, val_main_v81, val_main_v82, val_main_v83, val_main_v84, val_main_v85_0, val_main_cst_22, val_main_cst_23, val_main_v85_1, val_main_call0_v0, val_main_call0_v2, val_main_v75, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_c_5, val_main_c]
  rw [mask_word t.isLt s.isLt, dist_word t.isLt s.isLt, v74_apply]
  refine if_congr Iff.rfl ?_ word_bot
  unfold score
  rw [show (4 * k.val + g.val) / 4 = k.val by omega]
  refine congrArg₂ (· - ·) (congrArg (· * _) (Finset.sum_congr rfl fun d _ => ?_)) ?_
  · rw [v32_apply x0 x2 x3 x4 x5, v16_apply x0 x2 x3 x4 x5, mul_comm]
  · show Ideal.ofBits .f32 (slopeWord (k.val * 4 + g.val)) * _ = _
    rw [Nat.mul_comm k.val 4]
    rfl

/-! ## The softmax with the sink -/

/-- The sink's entry. -/
theorem sink_apply (k g : Fin 4) : x5 (ix2 0 ⟨k.val * 4 + g.val, by omega⟩) = (arrays x0 x2 x3 x4 x5).sink (4 * k.val + g.val) := by
  show _ = entry x5 0 (4 * k.val + g.val)
  rw [entry_of x5 (r := 0) (c := 4 * k.val + g.val) (by omega) (by omega)]
  exact congrArg x5 (congrArg₂ ix2 rfl (Fin.ext (by show k.val * 4 + g.val = 4 * k.val + g.val; omega)))

theorem concat_sink (y : FVec Ideal S4x4x4112x4112 .f32) (z : FVec Ideal S4x4x4112x1 .f32) (t : Fin 4112) (k g : Fin 4) (s : Fin 4113) :
    concatenate S4x4x4112x4113 3 [⟨S4x4x4112x4112, y⟩, ⟨S4x4x4112x1, z⟩] concatenates_S4x4x4112x4112_S4x4x4112x1_S4x4x4112x4113_d3 (ix4 k g t s)
      = if h : s.val < 4112 then y (ix4 k g t ⟨s.val, h⟩) else z (ix4 k g t 0) := by
  pointwise
  by_cases h : s.val < 4112
  · rw [dif_pos h, dif_pos h]
  · rw [dif_neg h, dif_neg h]
    exact congrArg (fun e => z (ix4 k g t e)) (Subsingleton.elim _ _)

theorem v88_apply (t : Fin 4112) (k g : Fin 4) (s : Fin 4113) :
    val_main_v88 (F := Ideal) x0 x3 x4 x5 (ix4 k g t s)
      = if h : s.val < 4112 then val_main_v85_0 (F := Ideal) x0 x3 x4 (ix4 k g t ⟨s.val, h⟩) else (arrays x0 x2 x3 x4 x5).sink (4 * k.val + g.val) := by
  unfold val_main_v88
  rw [concat_sink]
  have e : val_main_v87 (F := Ideal) x5 (ix4 k g t 0) = (arrays x0 x2 x3 x4 x5).sink (4 * k.val + g.val) := by
    rw [← sink_apply]
    pointwise [val_main_v87, val_main_v86]
  rw [e]

theorem reduce_max (y : FVec Ideal S4x4x4112x4113 .f32) (z : FVec Ideal S_ .f32) (t : Fin 4112) (k g : Fin 4) :
    Host.reduce FloatOps.maximumf y z reducesTo_S4x4x4112x4113_S4x4x4112_d3 h_S_ (ix3 k g t)
      = Finset.univ.fold max (z ix0) (fun x : Fin 4113 => y (ix4 k g t x)) := by
  pointwise
  exact congrArg (fun e => Finset.fold max (z e) (fun x : Fin 4113 => y (ix4 k g t x)) Finset.univ) (funext fun a => a.elim0)

/-- The largest of 4113 numbers, the last of them apart. -/
theorem fold_last (f : Fin 4113 → EReal) (b : EReal) (S : Fin 4112 → EReal) (hS : ∀ s : Fin 4112, f s.castSucc = S s) (hb : f (Fin.last 4112) = b) :
    Finset.univ.fold max ⊥ f = max (Finset.univ.fold max ⊥ S) b := by
  change Finset.univ.sup f = max (Finset.univ.sup S) b
  refine le_antisymm (Finset.sup_le fun i _ => ?_) (max_le (Finset.sup_le fun s _ => ?_) ?_)
  · induction i using Fin.lastCases with
    | last => rw [hb]; exact le_max_right _ _
    | cast s => rw [hS s]; exact le_max_of_le_left (Finset.le_sup (Finset.mem_univ s))
  · rw [← hS s]; exact Finset.le_sup (Finset.mem_univ _)
  · rw [← hb]; exact Finset.le_sup (Finset.mem_univ _)

theorem v96_apply (t : Fin 4112) (k g : Fin 4) :
    val_main_v96 (F := Ideal) x0 x3 x4 x5 (ix3 k g t)
      = max (Finset.univ.fold max ⊥ fun s : Fin 4112 => val_main_v85_0 (F := Ideal) x0 x3 x4 (ix4 k g t s)) ((arrays x0 x2 x3 x4 x5).sink (4 * k.val + g.val)) := by
  have e89 : val_main_v89 (F := Ideal) x0 x3 x4 x5 (ix3 k g t)
      = Finset.univ.fold max (⊥ : EReal) (fun x : Fin 4113 => val_main_v88 (F := Ideal) x0 x3 x4 x5 (ix4 k g t x)) := by
    have e25 : val_main_cst_24 (F := Ideal) ix0 = (⊥ : EReal) := word_bot
    unfold val_main_v89
    rw [reduce_max, e25]
  have e96 : ∀ y : FVec Ideal S4x4x4112 .f32, maximumf (val_main_v95 (F := Ideal)) y (ix3 k g t) = max ⊥ (y (ix3 k g t)) := by
    intro y
    pointwise [val_main_v95, val_main_cst_26]
    rw [word_bot]
  unfold val_main_v96
  refine (e96 _).trans ?_
  rw [e89, max_bot_left]
  exact fold_last _ _ _ (fun s => by rw [v88_apply x0 x2 x3 x4 x5]; exact dif_pos s.isLt)
    (by rw [v88_apply x0 x2 x3 x4 x5]; exact dif_neg (by show ¬(4112 < 4112); omega))

theorem v117_apply (hA : Finite (arrays x0 x2 x3 x4 x5)) (k g : Fin 4) (t s : Fin 4112) :
    val_main_v117 (F := Ideal) x0 x3 x4 x5 (ix4 k g t s)
      = if Vis (t.val + 112) (s.val + 112) then prob (arrays x0 x2 x3 x4 x5) (t.val + 112) (s.val + 112) (4 * k.val + g.val) else 0 := by
  pointwise [val_main_v106, val_main_v107, val_main_v108, val_main_v109, val_main_v110, val_main_v111, val_main_v112, val_main_v113, val_main_v117, val_main_v88, val_main_v87, val_main_v86, val_main_cst_32]
  rw [Fin.sum_univ_one, sink_apply x0 x2 x3 x4 x5, v96_apply x0 x2 x3 x4 x5]
  exact token_prob _ hA t.isLt (by omega) (fun s => val_main_v85_0 (F := Ideal) x0 x3 x4 (ix4 k g t s))
    (fun s => v85_apply x0 x2 x3 x4 x5 k g t s) s

/-! ## The gradient -/

theorem v151_eq (hA : Finite (arrays x0 x2 x3 x4 x5)) :
    val_main_v151 (F := Ideal) x0 x2 x3 x4 x5 = gradArray (arrays x0 x2 x3 x4 x5) := by
  funext y
  obtain ⟨r, c, rfl⟩ : ∃ (r : Fin 4224) (c : Fin 256), y = ix2 r c := ⟨y 0, y 1, by funext a; fin_cases a <;> rfl⟩
  show _ = grad (arrays x0 x2 x3 x4 x5) r.val c.val
  pointwise [val_main_v120, val_main_v122, val_main_v123, val_main_v150, val_main_v151, val_main_c_40, val_main_call3_v0, val_main_v36, val_main_v35]
  have hr := r.isLt
  have hc := c.isLt
  by_cases h : 112 ≤ r.val ∧ r.val - 112 < 4112
  · rw [dif_pos h]
    conv_rhs => rw [show r.val = r.val - 112 + 112 by omega]
    rw [grad_token]
    refine Finset.sum_congr rfl fun g _ => Finset.sum_congr rfl fun t _ => ?_
    rw [v117_apply x0 x2 x3 x4 x5 hA, mul_comm]
    refine congrArg₂ (fun a b : EReal => a * b) rfl ?_
    show _ = entry x2 (t.val + 112) (64 * (4 * (c.val / 64) + g.val) + c.val % 64)
    rw [entry_of x2 (r := t.val + 112) (c := 64 * (4 * (c.val / 64) + g.val) + c.val % 64) (by omega) (by omega)]
    exact congrArg x2 (congrArg₂ ix2 (Fin.ext (by show 112 + t.val = t.val + 112; omega)) (Fin.ext (by
      show c.val / 64 * 256 + g.val * 64 + c.val % 64 = 64 * (4 * (c.val / 64) + g.val) + c.val % 64; omega)))
  · rw [dif_neg h, grad_of_lt _ (by omega)]
    show (((0#32 : BitVec 32).toInt : ℝ) : EReal) = 0
    simp

end Cert.ReferenceIdeal.Attn
-- ==== Proof.AttnPre.lean ====
/- The preconditions' comparisons as finiteness, and the arrays of the mathematics from finite entries: the queries' and keys'
   columns of the token rows, the two norms' gains and the sinks. -/
module

public import proofs.«01_k».proof.Proof.AttnFold
public import Idealize.ShloMosaic.Lib.Pointwise

@[expose] public section

set_option maxRecDepth 16384

noncomputable section

namespace Cert.KernelIdeal.Attn

open Idealize.ShloMosaic Idealize.ShloMosaic.Pointwise
open Cert.KernelIdeal Cert.KernelIdeal.Gen Cert.AttnMath

theorem word_top : Ideal.ofBits .f32 0x7F800000#32 = (⊤ : EReal) := by
  simp [Ideal.ofBits, Ideal.ieee]

/-- What the two comparisons with the infinities say. -/
theorem fn_of_word (x : EReal) (h : IntOp.andi (BitVec.ofBool (decide (Ideal.ofBits .f32 0xFF800000#32 < x)))
    (BitVec.ofBool (decide (x < Ideal.ofBits .f32 0x7F800000#32))) = 1#1) : Fn x := by
  rw [word_bot, word_top] at h
  have hb : ∀ a b : Bool, IntOp.andi (BitVec.ofBool a) (BitVec.ofBool b) = 1#1 → a = true ∧ b = true := by decide
  obtain ⟨h1, h2⟩ := hb _ _ h
  exact Fn.of_lt (of_decide_eq_true h1) (of_decide_eq_true h2)

variable (x0 : FVec Ideal S4224x2560 .f32) (x2 : FVec Ideal S4224x1024 .f32) (x3 x4 : FVec Ideal S1x64 .f32) (x5 : FVec Ideal S1x16 .f32)

/-- An entry of a row vector of finite numbers. -/
theorem entry_fn {b : ℕ} (x : (⟨2, ![1, b]⟩ : Shape).Idx → EReal) (h : ∀ d : Fin b, Fn (x (ix2 0 d))) (d : ℕ) : Fn (entry x 0 d) := by
  by_cases hd : d < b
  · rw [entry_of x (by omega) hd]; exact h ⟨d, hd⟩
  · unfold entry; rw [dif_neg (fun hh => hd hh.2)]; exact Fn.zero

/-- An entry of a token's row of finite numbers. -/
theorem row_fn {a b n : ℕ} (ha : 112 ≤ a) (x : (⟨2, ![a, b]⟩ : Shape).Idx → EReal) (hn : n ≤ b)
    (h : ∀ (r : Fin (a - 112)) (c : Fin n), Fn (x (ix2 ⟨112 + r.val, by omega⟩ ⟨c.val, by omega⟩))) {r c : ℕ} (hr : 112 ≤ r) (hc : c < n) :
    Fn (entry x r c) := by
  by_cases hd : r < a
  · rw [entry_of x hd (by omega)]
    have e := h ⟨r - 112, by omega⟩ ⟨c, hc⟩
    have hx : x (ix2 ⟨112 + (r - 112), by omega⟩ ⟨c, by omega⟩) = x (ix2 ⟨r, hd⟩ ⟨c, by omega⟩) :=
      congrArg x (congrArg₂ ix2 (Fin.ext (by show 112 + (r - 112) = r; omega)) rfl)
    rw [← hx]; exact e
  · unfold entry; rw [dif_neg (fun hh => hd hh.1)]; exact Fn.zero

theorem finite_arrays (h0 : ∀ (r : Fin 4112) (c : Fin 1280), Fn (x0 (ix2 ⟨112 + r.val, by omega⟩ ⟨c.val, by omega⟩)))
    (h1 : ∀ d : Fin 64, Fn (x3 (ix2 0 d))) (h2 : ∀ d : Fin 64, Fn (x4 (ix2 0 d))) (h3 : ∀ d : Fin 16, Fn (x5 (ix2 0 d))) :
    Finite (arrays x0 x2 x3 x4 x5) where
  proj r c hr hc := row_fn (a := 4224) (by decide) x0 (n := 1280) (by decide) h0 hr hc
  gq d := entry_fn x3 h1 d
  gk d := entry_fn x4 h2 d
  sink d := entry_fn x5 h3 d
  slope h := by
    show Fn (Ideal.ofBits .f32 (slopeWord h))
    have hw : ∀ n : ℕ, n < 16 → Fn (Ideal.ofBits .f32 (slopeWord n)) := by
      intro n hn
      interval_cases n <;>
        exact ⟨_, by simp [slopeWord, Ideal.ofBits, Ideal.ieee, -EReal.coe_mul]; rfl⟩
    by_cases hh : h < 16
    · exact hw h hh
    · rw [show slopeWord h = 0#32 by unfold slopeWord; split <;> first | omega | rfl]
      exact ⟨0, by simp [Ideal.ofBits, Ideal.ieee]⟩

end Cert.KernelIdeal.Attn
-- ==== Proof.MmSum.lean ====
/- A product whose contraction is cut into blocks, one per grid point and added into an accumulator that the first point of
   every run resets, is the product over the whole contraction. -/
module

public import Idealize.ShloMosaic.Lib.Pipeline.ValueKit
public import Idealize.ShloMosaic.Lib.Pointwise
public import Idealize.ShloMosaic.PureOps.Ideal.Laws

@[expose] public section

namespace Cert.Mm

open Idealize.ShloMosaic Idealize.ShloMosaic.Pointwise

/-- One product of the contraction over the second axis of both: row `r` of `x` with row `j` of `w`, at `k`. -/
noncomputable abbrev termNT {M K N : ℕ} (x : (⟨2, ![M, K]⟩ : Shape).Idx → EReal) (w : (⟨2, ![N, K]⟩ : Shape).Idx → EReal) (r : Fin M) (j : Fin N)
    (k : Fin K) : EReal := x (ix2 r k) * w (ix2 j k)

/-- One product of the contraction over the first axis of both: column `r` of `x` with column `j` of `w`, at `k`. -/
noncomputable abbrev termTN {M K N : ℕ} (x : (⟨2, ![K, M]⟩ : Shape).Idx → EReal) (w : (⟨2, ![K, N]⟩ : Shape).Idx → EReal) (r : Fin M) (j : Fin N)
    (k : Fin K) : EReal := x (ix2 k r) * w (ix2 k j)

/-- One product of the plain matrix product: row `r` of `x` with column `j` of `w`, at `k`. -/
noncomputable abbrev termNN {M K N : ℕ} (x : (⟨2, ![M, K]⟩ : Shape).Idx → EReal) (w : (⟨2, ![K, N]⟩ : Shape).Idx → EReal) (r : Fin M) (j : Fin N)
    (k : Fin K) : EReal := x (ix2 r k) * w (ix2 k j)

/-- Two contractions whose factors agree. -/
theorem sum_mul_congr {K : ℕ} {f f' g g' : Fin K → EReal} (hf : ∀ l, f l = f' l) (hg : ∀ l, g l = g' l) :
    ∑ l, f l * g l = ∑ l, f' l * g' l :=
  Finset.sum_congr rfl fun l _ => by rw [hf, hg]

/-- `f` an accumulator's entry after each point: runs of `J` points, each adding the `n` products of its block. At the last
    point of a run it is the sum of all `L = J · n` products. -/
theorem blocked_sum {N J n L : ℕ} [NeZero J] (f : (t : ℕ) → t < N → EReal) (g : Fin N → Fin n → EReal) (G : Fin L → EReal)
    (h0 : ∀ t : Fin N, t.val % J = 0 → f t.val t.isLt = 0 + ∑ k : Fin n, g t k)
    (hs : ∀ t : Fin N, ¬t.val % J = 0 → f t.val t.isLt = f (t.val - 1) (Nat.lt_of_le_of_lt (Nat.sub_le _ _) t.isLt) + ∑ k : Fin n, g t k)
    (t : Fin N) (ht : t.val % J = J - 1) (hL : L = J * n)
    (hg : ∀ (s : Fin J) (k : Fin n) (hp : J * (t.val / J) + s.val < N) (hl : s.val * n + k.val < L),
      g ⟨J * (t.val / J) + s.val, hp⟩ k = G ⟨s.val * n + k.val, hl⟩) :
    f t.val t.isLt = ∑ l : Fin L, G l := by
  rw [Pipeline.eq_sum_fin_of_reset_step_of_flush f J 0 (fun t => ∑ k : Fin n, g t k) h0 hs t ht, zero_add]
  exact Fin.sum_mul_add_congr (fun s k hl => hg s k _ hl) hL

end Cert.Mm
-- ==== Proof.MmDownDx.lean ====
/- The gradient through the down projection and the squared rectifier: the product's block times twice the rectified activation
   is the derivative of the square of the maximum, which the reference takes by cases. -/
module

public import proofs.«01_k».proof.Defs
public import proofs.«01_k».proof.Proof.Gen.DownDxIdeal.Value
public import proofs.«01_k».proof.Proof.Gen.DownDxRefIdeal.Read
public import Idealize.ShloMosaic.Lib.Pipeline.ValueKit
public import Idealize.ShloMosaic.Lib.Pointwise
public import Idealize.ShloMosaic.Lib.Pipeline.ReadBack
public import proofs.«01_k».proof.Proof.MmSum

@[expose] public section

set_option maxRecDepth 16384

noncomputable section

namespace Cert.DownDxIdeal.Mm

open Idealize.ShloMosaic Idealize.ShloMosaic.TcCoe Idealize.ShloMosaic.Tactic Idealize.ShloMosaic.Pointwise Idealize.SL.Sem
open Cert.DownDxIdeal Cert.DownDxIdeal.Gen

variable (m : (ℓ : Loc nD τ sig) → Buf (Elt Ideal) ℓ) (c : Dev nD)

theorem idx : ∀ t : Fin cfg0.N, win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, _)

/-- The result at an index: row `i 0` of the cotangent times row `i 1` of the weight, times `2 · max(a, 0)`. -/
def result (x : S4224x2048.Idx → EReal) (w : S8192x2048.Idx → EReal) (a : S4224x8192.Idx → EReal) (i : S4224x8192.Idx) : EReal :=
  (∑ l : Fin 2048, Cert.Mm.termNT x w (i 0) (i 1) l) * (Ideal.ofBits .f32 0x40000000#32 * max (a i) 0)

theorem pay2_apply (a : Vec Ideal S1408x1024 .f32) (x : Vec Ideal S1408x2048 .bf16) (w : Vec Ideal S1024x2048 .bf16) (y : S1408x1024.Idx) :
    k0_pay2 a x w y = a y + ∑ k : Fin 2048, Cert.Mm.termNT x w (y 0) (y 1) k := by
  pointwise [k0_pay2]

theorem pay1_apply (y : S1408x1024.Idx) : k0_pay1 (F := Ideal) y = 0 := by
  pointwise [k0_pay1]

theorem pay3_apply (v a : Vec Ideal S1408x1024 .f32) (y : S1408x1024.Idx) :
    k0_pay3 v a y = v y * (Ideal.ofBits .f32 0x40000000#32 * max (a y) 0) := by
  pointwise [k0_pay3]

theorem final : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  rw [pay3_apply, pay2_apply, pay1_apply, zero_add]
  have e := idx t
  unfold result
  refine congrArg₂ (fun a b : EReal => a * b) (Finset.sum_congr rfl fun l _ => congrArg₂ (fun a b : EReal => a * b) ?_ ?_)
    (congrArg (fun b : EReal => Ideal.ofBits .f32 0x40000000#32 * max b 0) ?_) <;> blk_ext [iblk, V, e]

/-- The reference's result is the same. -/
theorem reference (x : FVec Ideal S4224x2048 .bf16) (w : FVec Ideal S8192x2048 .bf16) (a : FVec Ideal S4224x8192 .f32) (i : S4224x8192.Idx) :
    Cert.DownDxRefIdeal.Read.val_main_v14 (F := Ideal) x w a i = result x w a i := by
  pointwise [Cert.DownDxRefIdeal.Read.val_main_v14, Cert.DownDxRefIdeal.Read.val_main_v13, Cert.DownDxRefIdeal.Read.val_main_v12, Cert.DownDxRefIdeal.Read.val_main_v11,
    Cert.DownDxRefIdeal.Read.val_main_v10, Cert.DownDxRefIdeal.Read.val_main_v8, Cert.DownDxRefIdeal.Read.val_main_v7, Cert.DownDxRefIdeal.Read.val_main_v4,
    Cert.DownDxRefIdeal.Read.val_main_v3, Cert.DownDxRefIdeal.Read.val_main_v2, Cert.DownDxRefIdeal.Read.val_main_v1, Cert.DownDxRefIdeal.Read.val_main_v0,
    Cert.DownDxRefIdeal.Read.val_main_call0_v0, Cert.DownDxRefIdeal.Read.val_main_call0_cst, Cert.DownDxRefIdeal.Read.val_main_cst, Cert.DownDxRefIdeal.Read.val_main_cst_1, Cert.DownDxRefIdeal.Read.val_main_cst_2]
  unfold result
  split_ifs with h
  · rfl
  · rw [max_eq_right (not_lt.mp h), mul_zero, mul_zero]

theorem equal : Cert.algebraic_DownDxIdeal_DownDxRefIdeal := fun m ρ m' ρ' _ harg => by
  refine ⟨fun c => (dats m 0 c).arrAt 3 cfg0.N, Value.run_blocks m ρ,
    (θ_run Cert.DownDxRefIdeal.defs _ _).mono (fun r h c => ⟨?_, (h c).2⟩) (Cert.DownDxRefIdeal.Value.run (F := Ideal) m' ρ')⟩
  rw [(h c).1, Cert.DownDxRefIdeal.Read.val_main_v14_eq, (harg c).1, (harg c).2.1, (harg c).2.2]
  exact (funext fun i => reference _ _ _ i).trans (final m c).symm

theorem frame_reference : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

end Cert.DownDxIdeal.Mm

end
-- ==== Proof.MmDownDw.lean ====
/- The gradient of the down projection's weight: the three blocks of rows added into the accumulator are one sum. -/
module

public import proofs.«01_k».proof.Defs
public import proofs.«01_k».proof.Proof.Gen.DownDwIdeal.Value
public import proofs.«01_k».proof.Proof.Gen.DownDwRefIdeal.Read
public import Idealize.ShloMosaic.Lib.Pipeline.ValueKit
public import Idealize.ShloMosaic.Lib.Pointwise
public import Idealize.ShloMosaic.Lib.Pipeline.ReadBack
public import proofs.«01_k».proof.Proof.MmSum

@[expose] public section

set_option maxRecDepth 16384

noncomputable section

namespace Cert.DownDwIdeal.Mm

open Idealize.ShloMosaic Idealize.ShloMosaic.TcCoe Idealize.ShloMosaic.Tactic Idealize.ShloMosaic.Pointwise Idealize.SL.Sem
open Cert.DownDwIdeal Cert.DownDwIdeal.Gen

variable (m : (ℓ : Loc nD τ sig) → Buf (Elt Ideal) ℓ) (c : Dev nD)

theorem idx : ∀ t : Fin cfg0.N, win0_0.index t = ![t.val % 3, t.val / 3] ∧ win0_1.index t = ![t.val % 3, 0] :=
  (by decide +kernel : ∀ t : Fin grid0.N, _)

theorem acc_reset (t : Fin cfg0.N) (h : t.val % 3 = 0) :
    (outsAt0 m c t.val t.isLt).2 = k0_pay2 (k0_pay1 (F := Ideal)) (iblk m c 0 t) (iblk m c 1 t) := by
  rw [outsAt0_A m c t h (by omega)]
  frame_out

theorem acc_step (t : Fin cfg0.N) (h : ¬t.val % 3 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 3 = 2
  · rw [outsAt0_C m c t h h1]
    frame_out
    simp only [read_unread_whole]
  · rw [outsAt0_B m c t h h1]
    frame_out
    simp only [read_unread_whole]

theorem out_last (t : Fin cfg0.N) (h : t.val % 3 = 2) :
    (outsAt0 m c t.val t.isLt).1 = k0_pay3 (outsAt0 m c t.val t.isLt).2 := by
  rw [outsAt0_C m c t (by omega) h]
  frame_out

theorem pay2_apply (a : Vec Ideal S1024x2048 .f32) (x : Vec Ideal S1408x1024 .bf16) (w : Vec Ideal S1408x2048 .bf16) (y : S1024x2048.Idx) :
    k0_pay2 a x w y = a y + ∑ k : Fin 1408, Cert.Mm.termTN x w (y 0) (y 1) k := by
  pointwise [k0_pay2]

theorem pay1_apply (y : S1024x2048.Idx) : k0_pay1 (F := Ideal) y = 0 := by
  pointwise [k0_pay1]

/-- The result at an index: column `i 0` of the saved input times column `i 1` of the cotangent. -/
theorem value (i : S8192x2048.Idx) :
    Value.G2 m c i = (∑ l : Fin 4224, Cert.Mm.termTN (m ((c : Thread nD τ).loc main_arg0)) (m ((c : Thread nD τ).loc main_arg1)) (i 0) (i 1) l : EReal) := by
  have h0 : (i 0).val < 8192 := (i 0).isLt
  have h1 : (i 1).val < 2048 := (i 1).isLt
  have hN : cfg0.N = 24 := N_0
  have hp : Value.pt2Of i = 3 * (1 * ((i 0).val / 1024) + (i 1).val / 2048) + 2 := by
    show 3 * (1 * ((i 0).val / 1024 - 0) + 1 * ((i 1).val / 2048 - 0)) + 2 = _; omega
  have ht : Value.pt2Of i < cfg0.N := by omega
  unfold Value.G2
  rw [dif_pos ht, ← Value.outsAt0_sweep m c _ ht, out_last m c ⟨_, ht⟩ (by show Value.pt2Of i % 3 = 2; omega)]
  refine Cert.Mm.blocked_sum (J := 3) (n := 1408) (fun n h => (outsAt0 m c n h).2 (Value.loc2Of i))
    (fun t k => Cert.Mm.termTN (iblk m c 0 t) (iblk m c 1 t) (Value.loc2Of i 0) (Value.loc2Of i 1) k) _
    (fun t h => ?_) (fun t h => ?_) ⟨Value.pt2Of i, ht⟩ (by show Value.pt2Of i % 3 = 2; omega) rfl (fun s k hp' hl => ?_)
  · rw [acc_reset m c t h, pay2_apply, pay1_apply]
  · rw [acc_step m c t h, pay2_apply]
  · have e := idx ⟨3 * (Value.pt2Of i / 3) + s.val, hp'⟩
    have hs := s.isLt
    refine congrArg₂ (fun a b : EReal => a * b) ?_ ?_ <;> blk_ext [iblk, V, e]

/-- The reference's result is the same: it multiplies in the other order and transposes. -/
theorem reference (x : FVec Ideal S4224x8192 .bf16) (w : FVec Ideal S4224x2048 .bf16) (i : S8192x2048.Idx) :
    Cert.DownDwRefIdeal.Read.val_main_v6 (F := Ideal) x w i = ∑ l : Fin 4224, Cert.Mm.termTN x w (i 0) (i 1) l := by
  pointwise [Cert.DownDwRefIdeal.Read.val_main_v6, Cert.DownDwRefIdeal.Read.val_main_v5, Cert.DownDwRefIdeal.Read.val_main_v4, Cert.DownDwRefIdeal.Read.val_main_v0, Cert.DownDwRefIdeal.Read.val_main_v1]
  exact Finset.sum_congr rfl fun l _ => EReal.mul_comm _ _

theorem equal : Cert.algebraic_DownDwIdeal_DownDwRefIdeal := fun m ρ m' ρ' _ harg => by
  refine ⟨fun c => Value.G2 m c, Value.run m ρ,
    (θ_run Cert.DownDwRefIdeal.defs _ _).mono (fun r h c => ⟨?_, (h c).2⟩) (Cert.DownDwRefIdeal.Value.run (F := Ideal) m' ρ')⟩
  rw [(h c).1, Cert.DownDwRefIdeal.Read.val_main_v6_eq, (harg c).1, (harg c).2]
  exact funext fun i => (reference _ _ i).trans (value m c i).symm

theorem frame_reference : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

end Cert.DownDwIdeal.Mm

end
-- ==== Proof.MmUpDx.lean ====
/- The gradient of the up projection's input: the sixteen blocks of the contraction added into the accumulator are one sum. -/
module

public import proofs.«01_k».proof.Defs
public import proofs.«01_k».proof.Proof.Gen.UpDxIdeal.Value
public import proofs.«01_k».proof.Proof.Gen.UpDxRefIdeal.Read
public import Idealize.ShloMosaic.Lib.Pipeline.ValueKit
public import Idealize.ShloMosaic.Lib.Pointwise
public import Idealize.ShloMosaic.Lib.Pipeline.ReadBack
public import proofs.«01_k».proof.Proof.MmSum

@[expose] public section

set_option maxRecDepth 16384

noncomputable section

namespace Cert.UpDxIdeal.Mm

open Idealize.ShloMosaic Idealize.ShloMosaic.TcCoe Idealize.ShloMosaic.Tactic Idealize.ShloMosaic.Pointwise Idealize.SL.Sem
open Cert.UpDxIdeal Cert.UpDxIdeal.Gen

variable (m : (ℓ : Loc nD τ sig) → Buf (Elt Ideal) ℓ) (c : Dev nD)

theorem idx : ∀ t : Fin cfg0.N, win0_0.index t = ![t.val / 16, t.val % 16] ∧ win0_1.index t = ![0, t.val % 16]
    ∧ win0_2.index t = ![t.val / 16, 0] :=
  (by decide +kernel : ∀ t : Fin grid0.N, _)

theorem acc_reset (t : Fin cfg0.N) (h : t.val % 16 = 0) :
    (outsAt0 m c t.val t.isLt).2 = k0_pay2 (k0_pay1 (F := Ideal)) (iblk m c 0 t) (iblk m c 1 t) := by
  rw [outsAt0_A m c t h (by omega)]
  frame_out

theorem acc_step (t : Fin cfg0.N) (h : ¬t.val % 16 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 16 = 15
  · rw [outsAt0_C m c t h h1]
    frame_out
    simp only [read_unread_whole]
  · rw [outsAt0_B m c t h h1]
    frame_out
    simp only [read_unread_whole]

theorem out_last (t : Fin cfg0.N) (h : t.val % 16 = 15) :
    (outsAt0 m c t.val t.isLt).1 = (outsAt0 m c t.val t.isLt).2 := by
  rw [outsAt0_C m c t (by omega) h]
  frame_out

theorem pay2_apply (a : Vec Ideal S1408x2048 .f32) (x : Vec Ideal S1408x512 .bf16) (w : Vec Ideal S2048x512 .bf16) (y : S1408x2048.Idx) :
    k0_pay2 a x w y = a y + ∑ k : Fin 512, Cert.Mm.termNT x w (y 0) (y 1) k := by
  pointwise [k0_pay2]

theorem pay1_apply (y : S1408x2048.Idx) : k0_pay1 (F := Ideal) y = 0 := by
  pointwise [k0_pay1]

/-- The result at an index: row `i 0` of the cotangent times row `i 1` of the weight. -/
theorem value (i : S4224x2048.Idx) :
    Value.G2 m c i = (∑ l : Fin 8192, Cert.Mm.termNT (m ((c : Thread nD τ).loc main_arg0)) (m ((c : Thread nD τ).loc main_arg1)) (i 0) (i 1) l : EReal) := by
  have h0 : (i 0).val < 4224 := (i 0).isLt
  have h1 : (i 1).val < 2048 := (i 1).isLt
  have hN : cfg0.N = 48 := N_0
  have hp : Value.pt2Of i = 16 * ((i 0).val / 1408) + 15 := by show 16 * (1 * ((i 0).val / 1408 - 0) + 1 * ((i 1).val / 2048 - 0)) + 15 = _; omega
  have ht : Value.pt2Of i < cfg0.N := by omega
  unfold Value.G2
  rw [dif_pos ht, ← Value.outsAt0_sweep m c _ ht, out_last m c ⟨_, ht⟩ (by show Value.pt2Of i % 16 = 15; omega)]
  refine Cert.Mm.blocked_sum (J := 16) (n := 512) (fun n h => (outsAt0 m c n h).2 (Value.loc2Of i))
    (fun t k => Cert.Mm.termNT (iblk m c 0 t) (iblk m c 1 t) (Value.loc2Of i 0) (Value.loc2Of i 1) k) _
    (fun t h => ?_) (fun t h => ?_) ⟨Value.pt2Of i, ht⟩ (by show Value.pt2Of i % 16 = 15; omega) rfl (fun s k hp' hl => ?_)
  · rw [acc_reset m c t h, pay2_apply, pay1_apply]
  · rw [acc_step m c t h, pay2_apply]
  · have e := idx ⟨16 * (Value.pt2Of i / 16) + s.val, hp'⟩
    have hs := s.isLt
    refine congrArg₂ (fun a b : EReal => a * b) ?_ ?_ <;> blk_ext [iblk, V, e]

/-- The reference's result is the same. -/
theorem reference (x : FVec Ideal S4224x8192 .bf16) (w : FVec Ideal S2048x8192 .bf16) (i : S4224x2048.Idx) :
    Cert.UpDxRefIdeal.Read.val_main_v4 (F := Ideal) x w i = ∑ l : Fin 8192, Cert.Mm.termNT x w (i 0) (i 1) l := by
  rw [Cert.UpDxRefIdeal.Read.val_main_v4_apply]
  refine Finset.sum_congr rfl fun l _ => congrArg₂ (fun a b : EReal => a * b) ?_ ?_ <;>
    exact congrArg _ (funext fun a => by fin_cases a <;> rfl)

theorem equal : Cert.algebraic_UpDxIdeal_UpDxRefIdeal := fun m ρ m' ρ' _ harg => by
  refine ⟨fun c => Value.G2 m c, Value.run m ρ,
    (θ_run Cert.UpDxRefIdeal.defs _ _).mono (fun r h c => ⟨?_, (h c).2⟩) (Cert.UpDxRefIdeal.Value.run (F := Ideal) m' ρ')⟩
  rw [(h c).1, Cert.UpDxRefIdeal.Read.val_main_v4_eq, (harg c).1, (harg c).2]
  exact funext fun i => (reference _ _ i).trans (value m c i).symm

theorem frame_reference : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

end Cert.UpDxIdeal.Mm

end
-- ==== Proof.MmUpDw.lean ====
/- The gradient of the up projection's weight: the three blocks of rows added into the accumulator are one sum. -/
module

public import proofs.«01_k».proof.Defs
public import proofs.«01_k».proof.Proof.Gen.UpDwIdeal.Value
public import proofs.«01_k».proof.Proof.Gen.UpDwRefIdeal.Read
public import Idealize.ShloMosaic.Lib.Pipeline.ValueKit
public import Idealize.ShloMosaic.Lib.Pointwise
public import Idealize.ShloMosaic.Lib.Pipeline.ReadBack
public import proofs.«01_k».proof.Proof.MmSum

@[expose] public section

set_option maxRecDepth 16384

noncomputable section

namespace Cert.UpDwIdeal.Mm

open Idealize.ShloMosaic Idealize.ShloMosaic.TcCoe Idealize.ShloMosaic.Tactic Idealize.ShloMosaic.Pointwise Idealize.SL.Sem
open Cert.UpDwIdeal Cert.UpDwIdeal.Gen

variable (m : (ℓ : Loc nD τ sig) → Buf (Elt Ideal) ℓ) (c : Dev nD)

theorem idx : ∀ t : Fin cfg0.N, win0_0.index t = ![t.val % 3, t.val / 3 / 4] ∧ win0_1.index t = ![t.val % 3, t.val / 3 % 4] :=
  (by decide +kernel : ∀ t : Fin grid0.N, _)

theorem acc_reset (t : Fin cfg0.N) (h : t.val % 3 = 0) :
    (outsAt0 m c t.val t.isLt).2 = k0_pay2 (k0_pay1 (F := Ideal)) (iblk m c 0 t) (iblk m c 1 t) := by
  rw [outsAt0_A m c t h (by omega)]
  frame_out

theorem acc_step (t : Fin cfg0.N) (h : ¬t.val % 3 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 3 = 2
  · rw [outsAt0_C m c t h h1]
    frame_out
    simp only [read_unread_whole]
  · rw [outsAt0_B m c t h h1]
    frame_out
    simp only [read_unread_whole]

theorem out_last (t : Fin cfg0.N) (h : t.val % 3 = 2) :
    (outsAt0 m c t.val t.isLt).1 = k0_pay3 (outsAt0 m c t.val t.isLt).2 := by
  rw [outsAt0_C m c t (by omega) h]
  frame_out

theorem pay2_apply (a : Vec Ideal S1024x2048 .f32) (x : Vec Ideal S1408x1024 .bf16) (w : Vec Ideal S1408x2048 .bf16) (y : S1024x2048.Idx) :
    k0_pay2 a x w y = a y + ∑ k : Fin 1408, Cert.Mm.termTN x w (y 0) (y 1) k := by
  pointwise [k0_pay2]

theorem pay1_apply (y : S1024x2048.Idx) : k0_pay1 (F := Ideal) y = 0 := by
  pointwise [k0_pay1]

/-- The result at an index: column `i 0` of the saved input times column `i 1` of the cotangent. -/
theorem value (i : S2048x8192.Idx) :
    Value.G2 m c i = (∑ l : Fin 4224, Cert.Mm.termTN (m ((c : Thread nD τ).loc main_arg0)) (m ((c : Thread nD τ).loc main_arg1)) (i 0) (i 1) l : EReal) := by
  have h0 : (i 0).val < 2048 := (i 0).isLt
  have h1 : (i 1).val < 8192 := (i 1).isLt
  have hN : cfg0.N = 24 := N_0
  have hp : Value.pt2Of i = 3 * (4 * ((i 0).val / 1024) + (i 1).val / 2048) + 2 := by
    show 3 * (4 * ((i 0).val / 1024 - 0) + 1 * ((i 1).val / 2048 - 0)) + 2 = _; omega
  have ht : Value.pt2Of i < cfg0.N := by omega
  unfold Value.G2
  rw [dif_pos ht, ← Value.outsAt0_sweep m c _ ht, out_last m c ⟨_, ht⟩ (by show Value.pt2Of i % 3 = 2; omega)]
  refine Cert.Mm.blocked_sum (J := 3) (n := 1408) (fun n h => (outsAt0 m c n h).2 (Value.loc2Of i))
    (fun t k => Cert.Mm.termTN (iblk m c 0 t) (iblk m c 1 t) (Value.loc2Of i 0) (Value.loc2Of i 1) k) _
    (fun t h => ?_) (fun t h => ?_) ⟨Value.pt2Of i, ht⟩ (by show Value.pt2Of i % 3 = 2; omega) rfl (fun s k hp' hl => ?_)
  · rw [acc_reset m c t h, pay2_apply, pay1_apply]
  · rw [acc_step m c t h, pay2_apply]
  · have e := idx ⟨3 * (Value.pt2Of i / 3) + s.val, hp'⟩
    have hs := s.isLt
    refine congrArg₂ (fun a b : EReal => a * b) ?_ ?_ <;> blk_ext [iblk, V, e]

/-- The reference's result is the same: it multiplies in the other order and transposes. -/
theorem reference (x : FVec Ideal S4224x2048 .bf16) (w : FVec Ideal S4224x8192 .bf16) (i : S2048x8192.Idx) :
    Cert.UpDwRefIdeal.Read.val_main_v6 (F := Ideal) x w i = ∑ l : Fin 4224, Cert.Mm.termTN x w (i 0) (i 1) l := by
  pointwise [Cert.UpDwRefIdeal.Read.val_main_v6, Cert.UpDwRefIdeal.Read.val_main_v5, Cert.UpDwRefIdeal.Read.val_main_v4, Cert.UpDwRefIdeal.Read.val_main_v0, Cert.UpDwRefIdeal.Read.val_main_v1]
  exact Finset.sum_congr rfl fun l _ => EReal.mul_comm _ _

theorem equal : Cert.algebraic_UpDwIdeal_UpDwRefIdeal := fun m ρ m' ρ' _ harg => by
  refine ⟨fun c => Value.G2 m c, Value.run m ρ,
    (θ_run Cert.UpDwRefIdeal.defs _ _).mono (fun r h c => ⟨?_, (h c).2⟩) (Cert.UpDwRefIdeal.Value.run (F := Ideal) m' ρ')⟩
  rw [(h c).1, Cert.UpDwRefIdeal.Read.val_main_v6_eq, (harg c).1, (harg c).2]
  exact funext fun i => (reference _ _ i).trans (value m c i).symm

theorem frame_reference : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

end Cert.UpDwIdeal.Mm

end
-- ==== Proof.MmProj.lean ====
/- The backward products of the two projections: the gradients of `mix @ w_out` and of `h @ w_in` in both factors. Three of the
   four add blocks of the contraction into an accumulator; each is the one sum of the reference. -/
module

public import proofs.«01_k».proof.Defs
public import proofs.«01_k».proof.Proof.Gen.OutDxIdeal.Value
public import proofs.«01_k».proof.Proof.Gen.OutDxRefIdeal.Read
public import proofs.«01_k».proof.Proof.Gen.OutDwIdeal.Value
public import proofs.«01_k».proof.Proof.Gen.OutDwRefIdeal.Read
public import proofs.«01_k».proof.Proof.Gen.InDxIdeal.Value
public import proofs.«01_k».proof.Proof.Gen.InDxRefIdeal.Read
public import proofs.«01_k».proof.Proof.Gen.InDwIdeal.Value
public import proofs.«01_k».proof.Proof.Gen.InDwRefIdeal.Read
public import Idealize.ShloMosaic.Lib.Pipeline.ValueKit
public import Idealize.ShloMosaic.Lib.Pointwise
public import Idealize.ShloMosaic.Lib.Pipeline.ReadBack
public import proofs.«01_k».proof.Proof.MmSum

@[expose] public section

set_option maxRecDepth 16384

noncomputable section

open Idealize.ShloMosaic Idealize.ShloMosaic.TcCoe Idealize.ShloMosaic.Tactic Idealize.ShloMosaic.Pointwise Idealize.SL.Sem

/-! ## The input projection's input: five blocks of 512 columns of the cotangent -/

namespace Cert.InDxIdeal.Mm

open Cert.InDxIdeal Cert.InDxIdeal.Gen

variable (m : (ℓ : Loc nD τ sig) → Buf (Elt Ideal) ℓ) (c : Dev nD)

theorem idx : ∀ t : Fin cfg0.N, win0_0.index t = ![t.val / 5, t.val % 5] ∧ win0_1.index t = ![0, t.val % 5]
    ∧ win0_2.index t = ![t.val / 5, 0] :=
  (by decide +kernel : ∀ t : Fin grid0.N, _)

theorem pay2_apply (a : Vec Ideal S1408x2048 .f32) (x : Vec Ideal S1408x512 .bf16) (w : Vec Ideal S2048x512 .bf16) (y : S1408x2048.Idx) :
    k0_pay2 a x w y = a y + ∑ k : Fin 512, Cert.Mm.termNT x w (y 0) (y 1) k := by
  pointwise [k0_pay2]

theorem pay1_apply (y : S1408x2048.Idx) : k0_pay1 (F := Ideal) y = 0 := by
  pointwise [k0_pay1]

theorem acc_reset (t : Fin cfg0.N) (h : t.val % 5 = 0) (y : S1408x2048.Idx) :
    (outsAt0 m c t.val t.isLt).2 y = 0 + ∑ k : Fin 512, Cert.Mm.termNT (iblk m c 0 t) (iblk m c 1 t) (y 0) (y 1) k := by
  rw [outsAt0_A m c t h (by omega)]
  frame_out
  rw [pay2_apply, pay1_apply]

theorem acc_step (t : Fin cfg0.N) (h : ¬t.val % 5 = 0) (y : S1408x2048.Idx) :
    (outsAt0 m c t.val t.isLt).2 y = (outsAt0 m c (t.val - 1) (Nat.lt_of_le_of_lt (Nat.sub_le _ _) t.isLt)).2 y
      + ∑ k : Fin 512, Cert.Mm.termNT (iblk m c 0 t) (iblk m c 1 t) (y 0) (y 1) k := by
  rw [← pay2_apply]
  by_cases h1 : t.val % 5 = 4
  · rw [outsAt0_C m c t h h1]
    frame_out
    simp only [read_unread_whole]
  · rw [outsAt0_B m c t h h1]
    frame_out
    simp only [read_unread_whole]

theorem out_last (t : Fin cfg0.N) (h : t.val % 5 = 4) : (outsAt0 m c t.val t.isLt).1 = (outsAt0 m c t.val t.isLt).2 := by
  rw [outsAt0_C m c t (by omega) h]
  frame_out

theorem final : (dats m 0 c).arrAt 2 cfg0.N
    = fun i : S4224x2048.Idx => (∑ l : Fin 2560, Cert.Mm.termNT (m ((c : Thread nD τ).loc main_arg0)) (m ((c : Thread nD τ).loc main_arg1)) (i 0) (i 1) l : EReal) := by
  refine (dats m 0 c).arrAt_eq_of_covers 2 _ (by decide +kernel) fun t hf y => ?_
  have hl : t.val % 5 = 4 := (flush0_2 t).mp hf
  blk_simp
  rw [after0_2, out_last m c t hl]
  refine Cert.Mm.blocked_sum (J := 5) (n := 512) (fun n h => (outsAt0 m c n h).2 _) (fun t k => Cert.Mm.termNT (iblk m c 0 t) (iblk m c 1 t) _ _ k) _
    (fun t h => acc_reset m c t h _) (fun t h => acc_step m c t h _) t hl rfl (fun s k hp' hl => ?_)
  have e := idx t
  have e' := idx ⟨5 * (t.val / 5) + s.val, hp'⟩
  have hs := s.isLt
  refine congrArg₂ (fun a b : EReal => a * b) ?_ ?_ <;> blk_ext [iblk, V, e, e']

theorem reference (x : FVec Ideal S4224x2560 .bf16) (w : FVec Ideal S2048x2560 .bf16) (i : S4224x2048.Idx) :
    Cert.InDxRefIdeal.Read.val_main_v4 (F := Ideal) x w i = ∑ l : Fin 2560, Cert.Mm.termNT x w (i 0) (i 1) l := by
  rw [Cert.InDxRefIdeal.Read.val_main_v4_apply]
  refine Cert.Mm.sum_mul_congr (fun l => ?_) (fun l => ?_) <;> exact congrArg _ (funext fun a => by fin_cases a <;> rfl)

theorem equal : Cert.algebraic_InDxIdeal_InDxRefIdeal := fun m ρ m' ρ' _ harg => by
  refine ⟨fun c => (dats m 0 c).arrAt 2 cfg0.N, Value.run_blocks m ρ,
    (θ_run Cert.InDxRefIdeal.defs _ _).mono (fun r h c => ⟨?_, (h c).2⟩) (Cert.InDxRefIdeal.Value.run (F := Ideal) m' ρ')⟩
  rw [(h c).1, Cert.InDxRefIdeal.Read.val_main_v4_eq, (harg c).1, (harg c).2]
  exact (funext fun i => reference _ _ i).trans (final m c).symm

theorem frame_reference : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

end Cert.InDxIdeal.Mm

/-! ## The input projection's weight: three blocks of 1408 rows -/

namespace Cert.InDwIdeal.Mm

open Cert.InDwIdeal Cert.InDwIdeal.Gen

variable (m : (ℓ : Loc nD τ sig) → Buf (Elt Ideal) ℓ) (c : Dev nD)

theorem idx : ∀ t : Fin cfg0.N, win0_0.index t = ![t.val % 3, t.val / 6] ∧ win0_1.index t = ![t.val % 3, t.val / 3 % 2]
    ∧ win0_2.index t = ![t.val / 6, t.val / 3 % 2] :=
  (by decide +kernel : ∀ t : Fin grid0.N, _)

theorem pay2_apply (a : Vec Ideal S1024x1280 .f32) (x : Vec Ideal S1408x1024 .bf16) (w : Vec Ideal S1408x1280 .bf16) (y : S1024x1280.Idx) :
    k0_pay2 a x w y = a y + ∑ k : Fin 1408, Cert.Mm.termTN x w (y 0) (y 1) k := by
  pointwise [k0_pay2]

theorem pay1_apply (y : S1024x1280.Idx) : k0_pay1 (F := Ideal) y = 0 := by
  pointwise [k0_pay1]

theorem acc_reset (t : Fin cfg0.N) (h : t.val % 3 = 0) (y : S1024x1280.Idx) :
    (outsAt0 m c t.val t.isLt).2 y = 0 + ∑ k : Fin 1408, Cert.Mm.termTN (iblk m c 0 t) (iblk m c 1 t) (y 0) (y 1) k := by
  rw [outsAt0_A m c t h (by omega)]
  frame_out
  rw [pay2_apply, pay1_apply]

theorem acc_step (t : Fin cfg0.N) (h : ¬t.val % 3 = 0) (y : S1024x1280.Idx) :
    (outsAt0 m c t.val t.isLt).2 y = (outsAt0 m c (t.val - 1) (Nat.lt_of_le_of_lt (Nat.sub_le _ _) t.isLt)).2 y
      + ∑ k : Fin 1408, Cert.Mm.termTN (iblk m c 0 t) (iblk m c 1 t) (y 0) (y 1) k := by
  rw [← pay2_apply]
  by_cases h1 : t.val % 3 = 2
  · rw [outsAt0_C m c t h h1]
    frame_out
    simp only [read_unread_whole]
  · rw [outsAt0_B m c t h h1]
    frame_out
    simp only [read_unread_whole]

theorem out_last (t : Fin cfg0.N) (h : t.val % 3 = 2) : (outsAt0 m c t.val t.isLt).1 = (outsAt0 m c t.val t.isLt).2 := by
  rw [outsAt0_C m c t (by omega) h]
  frame_out
  rfl

theorem final : (dats m 0 c).arrAt 2 cfg0.N
    = fun i : S2048x2560.Idx => (∑ l : Fin 4224, Cert.Mm.termTN (m ((c : Thread nD τ).loc main_arg0)) (m ((c : Thread nD τ).loc main_arg1)) (i 0) (i 1) l : EReal) := by
  refine (dats m 0 c).arrAt_eq_of_covers 2 _ (by decide +kernel) fun t hf y => ?_
  have hl : t.val % 3 = 2 := (flush0_2 t).mp hf
  blk_simp
  rw [after0_2, out_last m c t hl]
  refine Cert.Mm.blocked_sum (J := 3) (n := 1408) (fun n h => (outsAt0 m c n h).2 _) (fun t k => Cert.Mm.termTN (iblk m c 0 t) (iblk m c 1 t) _ _ k) _
    (fun t h => acc_reset m c t h _) (fun t h => acc_step m c t h _) t hl rfl (fun s k hp' hl => ?_)
  have e := idx t
  have e' := idx ⟨3 * (t.val / 3) + s.val, hp'⟩
  have hs := s.isLt
  refine congrArg₂ (fun a b : EReal => a * b) ?_ ?_ <;> blk_ext [iblk, V, e, e']

theorem reference (x : FVec Ideal S4224x2048 .bf16) (w : FVec Ideal S4224x2560 .bf16) (i : S2048x2560.Idx) :
    Cert.InDwRefIdeal.Read.val_main_v6 (F := Ideal) x w i = ∑ l : Fin 4224, Cert.Mm.termTN x w (i 0) (i 1) l := by
  pointwise [Cert.InDwRefIdeal.Read.val_main_v6, Cert.InDwRefIdeal.Read.val_main_v5, Cert.InDwRefIdeal.Read.val_main_v4, Cert.InDwRefIdeal.Read.val_main_v0, Cert.InDwRefIdeal.Read.val_main_v1]
  exact Finset.sum_congr rfl fun l _ => EReal.mul_comm _ _

theorem equal : Cert.algebraic_InDwIdeal_InDwRefIdeal := fun m ρ m' ρ' _ harg => by
  refine ⟨fun c => (dats m 0 c).arrAt 2 cfg0.N, Value.run_blocks m ρ,
    (θ_run Cert.InDwRefIdeal.defs _ _).mono (fun r h c => ⟨?_, (h c).2⟩) (Cert.InDwRefIdeal.Value.run (F := Ideal) m' ρ')⟩
  rw [(h c).1, Cert.InDwRefIdeal.Read.val_main_v6_eq, (harg c).1, (harg c).2]
  exact (funext fun i => reference _ _ i).trans (final m c).symm

theorem frame_reference : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

end Cert.InDwIdeal.Mm

/-! ## The output projection's weight: three blocks of 1408 rows -/

namespace Cert.OutDwIdeal.Mm

open Cert.OutDwIdeal Cert.OutDwIdeal.Gen

variable (m : (ℓ : Loc nD τ sig) → Buf (Elt Ideal) ℓ) (c : Dev nD)

theorem idx : ∀ t : Fin cfg0.N, win0_0.index t = ![t.val % 3, t.val / 3] ∧ win0_1.index t = ![t.val % 3, 0]
    ∧ win0_2.index t = ![t.val / 3, 0] :=
  (by decide +kernel : ∀ t : Fin grid0.N, _)

theorem pay2_apply (a : Vec Ideal S1024x2048 .f32) (x : Vec Ideal S1408x1024 .bf16) (w : Vec Ideal S1408x2048 .bf16) (y : S1024x2048.Idx) :
    k0_pay2 a x w y = a y + ∑ k : Fin 1408, Cert.Mm.termTN x w (y 0) (y 1) k := by
  pointwise [k0_pay2]

theorem pay1_apply (y : S1024x2048.Idx) : k0_pay1 (F := Ideal) y = 0 := by
  pointwise [k0_pay1]

theorem acc_reset (t : Fin cfg0.N) (h : t.val % 3 = 0) (y : S1024x2048.Idx) :
    (outsAt0 m c t.val t.isLt).2 y = 0 + ∑ k : Fin 1408, Cert.Mm.termTN (iblk m c 0 t) (iblk m c 1 t) (y 0) (y 1) k := by
  rw [outsAt0_A m c t h (by omega)]
  frame_out
  rw [pay2_apply, pay1_apply]

theorem acc_step (t : Fin cfg0.N) (h : ¬t.val % 3 = 0) (y : S1024x2048.Idx) :
    (outsAt0 m c t.val t.isLt).2 y = (outsAt0 m c (t.val - 1) (Nat.lt_of_le_of_lt (Nat.sub_le _ _) t.isLt)).2 y
      + ∑ k : Fin 1408, Cert.Mm.termTN (iblk m c 0 t) (iblk m c 1 t) (y 0) (y 1) k := by
  rw [← pay2_apply]
  by_cases h1 : t.val % 3 = 2
  · rw [outsAt0_C m c t h h1]
    frame_out
    simp only [read_unread_whole]
  · rw [outsAt0_B m c t h h1]
    frame_out
    simp only [read_unread_whole]

theorem out_last (t : Fin cfg0.N) (h : t.val % 3 = 2) : (outsAt0 m c t.val t.isLt).1 = (outsAt0 m c t.val t.isLt).2 := by
  rw [outsAt0_C m c t (by omega) h]
  frame_out
  rfl

theorem final : (dats m 0 c).arrAt 2 cfg0.N
    = fun i : S2048x2048.Idx => (∑ l : Fin 4224, Cert.Mm.termTN (m ((c : Thread nD τ).loc main_arg0)) (m ((c : Thread nD τ).loc main_arg1)) (i 0) (i 1) l : EReal) := by
  refine (dats m 0 c).arrAt_eq_of_covers 2 _ (by decide +kernel) fun t hf y => ?_
  have hl : t.val % 3 = 2 := (flush0_2 t).mp hf
  blk_simp
  rw [after0_2, out_last m c t hl]
  refine Cert.Mm.blocked_sum (J := 3) (n := 1408) (fun n h => (outsAt0 m c n h).2 _) (fun t k => Cert.Mm.termTN (iblk m c 0 t) (iblk m c 1 t) _ _ k) _
    (fun t h => acc_reset m c t h _) (fun t h => acc_step m c t h _) t hl rfl (fun s k hp' hl => ?_)
  have e := idx t
  have e' := idx ⟨3 * (t.val / 3) + s.val, hp'⟩
  have hs := s.isLt
  refine congrArg₂ (fun a b : EReal => a * b) ?_ ?_ <;> blk_ext [iblk, V, e, e']

theorem reference (x : FVec Ideal S4224x2048 .bf16) (w : FVec Ideal S4224x2048 .bf16) (i : S2048x2048.Idx) :
    Cert.OutDwRefIdeal.Read.val_main_v6 (F := Ideal) x w i = ∑ l : Fin 4224, Cert.Mm.termTN x w (i 0) (i 1) l := by
  pointwise [Cert.OutDwRefIdeal.Read.val_main_v6, Cert.OutDwRefIdeal.Read.val_main_v5, Cert.OutDwRefIdeal.Read.val_main_v4, Cert.OutDwRefIdeal.Read.val_main_v0, Cert.OutDwRefIdeal.Read.val_main_v1]
  exact Finset.sum_congr rfl fun l _ => EReal.mul_comm _ _

theorem equal : Cert.algebraic_OutDwIdeal_OutDwRefIdeal := fun m ρ m' ρ' _ harg => by
  refine ⟨fun c => (dats m 0 c).arrAt 2 cfg0.N, Value.run_blocks m ρ,
    (θ_run Cert.OutDwRefIdeal.defs _ _).mono (fun r h c => ⟨?_, (h c).2⟩) (Cert.OutDwRefIdeal.Value.run (F := Ideal) m' ρ')⟩
  rw [(h c).1, Cert.OutDwRefIdeal.Read.val_main_v6_eq, (harg c).1, (harg c).2]
  exact (funext fun i => reference _ _ i).trans (final m c).symm

theorem frame_reference : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

end Cert.OutDwIdeal.Mm

/-! ## The output projection's input: one block, the whole contraction -/

namespace Cert.OutDxIdeal.Mm

open Cert.OutDxIdeal Cert.OutDxIdeal.Gen

variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem pay_apply (x : Vec Ideal S1408x2048 .bf16) (w : Vec Ideal S1024x2048 .bf16) (y : S1408x1024.Idx) :
    k0_pay2 (k0_pay1 (F := Ideal)) x w y = ∑ k : Fin 2048, Cert.Mm.termNT x w (y 0) (y 1) k := by
  pointwise [k0_pay2, k0_pay1]

theorem final : (dats m 0 c).arrAt 2 cfg0.N
    = fun i : S4224x2048.Idx => (∑ l : Fin 2048, Cert.Mm.termNT (m ((c : Thread nD τ).loc main_arg0)) (m ((c : Thread nD τ).loc main_arg1)) (i 0) (i 1) l : EReal) := by
  refine (dats m 0 c).arrAt_eq_of_covers 2 _ (by decide +kernel) fun t hf y => ?_
  blk_simp
  rw [after0_2]
  unfold outsAt0
  frame_out
  rw [pay_apply]
  have e := idx t
  refine Cert.Mm.sum_mul_congr (fun l => ?_) (fun l => ?_) <;> blk_ext [iblk, V, e]

theorem reference (x : FVec Ideal S4224x2048 .bf16) (w : FVec Ideal S2048x2048 .bf16) (i : S4224x2048.Idx) :
    Cert.OutDxRefIdeal.Read.val_main_v4 (F := Ideal) x w i = ∑ l : Fin 2048, Cert.Mm.termNT x w (i 0) (i 1) l := by
  rw [Cert.OutDxRefIdeal.Read.val_main_v4_apply]
  refine Cert.Mm.sum_mul_congr (fun l => ?_) (fun l => ?_) <;> exact congrArg _ (funext fun a => by fin_cases a <;> rfl)

theorem equal : Cert.algebraic_OutDxIdeal_OutDxRefIdeal := fun m ρ m' ρ' _ harg => by
  refine ⟨fun c => (dats m 0 c).arrAt 2 cfg0.N, Value.run_blocks m ρ,
    (θ_run Cert.OutDxRefIdeal.defs _ _).mono (fun r h c => ⟨?_, (h c).2⟩) (Cert.OutDxRefIdeal.Value.run (F := Ideal) m' ρ')⟩
  rw [(h c).1, Cert.OutDxRefIdeal.Read.val_main_v4_eq, (harg c).1, (harg c).2]
  exact (funext fun i => reference _ _ i).trans (final m c).symm

theorem frame_reference : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

end Cert.OutDxIdeal.Mm

end
-- ==== Proof.MmGlu.lean ====
/- The gated linear unit: its forward product with the gate, and the product of its weight's gradient. -/
module

public import proofs.«01_k».proof.Defs
public import proofs.«01_k».proof.Proof.Gen.GluFwdIdeal.Value
public import proofs.«01_k».proof.Proof.Gen.GluFwdRefIdeal.Read
public import proofs.«01_k».proof.Proof.Gen.GluDwIdeal.Value
public import proofs.«01_k».proof.Proof.Gen.GluDwRefIdeal.Read
public import Idealize.ShloMosaic.Lib.Pipeline.ValueKit
public import Idealize.ShloMosaic.Lib.Pointwise
public import Idealize.ShloMosaic.Lib.Pipeline.ReadBack
public import proofs.«01_k».proof.Proof.MmSum

@[expose] public section

set_option maxRecDepth 16384

noncomputable section

open Idealize.ShloMosaic Idealize.ShloMosaic.TcCoe Idealize.ShloMosaic.Tactic Idealize.ShloMosaic.Pointwise Idealize.SL.Sem

/-! ## The gate's product and the gate: four blocks of the contraction -/

namespace Cert.GluFwdIdeal.Mm

open Cert.GluFwdIdeal Cert.GluFwdIdeal.Gen

variable (m : (ℓ : Loc nD τ sig) → Buf (Elt Ideal) ℓ) (c : Dev nD)

theorem idx : ∀ t : Fin cfg0.N, win0_0.index t = ![t.val / 4, t.val % 4] ∧ win0_1.index t = ![t.val % 4, 0]
    ∧ win0_2.index t = ![0, 0] ∧ win0_3.index t = ![t.val / 4, 0] ∧ win0_4.index t = ![t.val / 4, 0] ∧ win0_5.index t = ![t.val / 4, 0] :=
  (by decide +kernel : ∀ t : Fin grid0.N, _)

/-- The gate's argument at an index: the product and the bias. -/
def gate (g : S4224x1024.Idx → EReal) (w : S1024x1024.Idx → EReal) (b : S1x1024.Idx → EReal) (i : S4224x1024.Idx) : EReal :=
  (∑ l : Fin 1024, Cert.Mm.termNN g w (i 0) (i 1) l) + b (ix2 0 (i 1))

/-- The gated unit at an index. -/
def gated (g : S4224x1024.Idx → EReal) (w : S1024x1024.Idx → EReal) (b : S1x1024.Idx → EReal) (i : S4224x1024.Idx) : EReal :=
  g i * Ideal.logistic (gate g w b i)

theorem pay2_apply (a : Vec Ideal S1408x1024 .f32) (x : Vec Ideal S1408x256 .f32) (w : Vec Ideal S256x1024 .bf16) (y : S1408x1024.Idx) :
    k0_pay2 a x w y = a y + ∑ k : Fin 256, Cert.Mm.termNN x w (y 0) (y 1) k := by
  pointwise [k0_pay2]

theorem pay1_apply (y : S1408x1024.Idx) : k0_pay1 (F := Ideal) y = 0 := by
  pointwise [k0_pay1]

theorem pay3_apply (v : Vec Ideal S1408x1024 .f32) (b : Vec Ideal S1x1024 .f32) (y : S1408x1024.Idx) : k0_pay3 v b y = v y + b (ix2 0 (y 1)) := by
  pointwise [k0_pay3]

theorem pay4_apply (v : Vec Ideal S1408x1024 .f32) (b : Vec Ideal S1x1024 .f32) (g : Vec Ideal S1408x1024 .f32) (y : S1408x1024.Idx) :
    k0_pay4 v b g y = g y * Ideal.logistic (v y + b (ix2 0 (y 1))) := by
  pointwise [k0_pay4, k0_pay3]

theorem acc_reset (t : Fin cfg0.N) (h : t.val % 4 = 0) (y : S1408x1024.Idx) :
    (outsAt0 m c t.val t.isLt).2.2 y = 0 + ∑ k : Fin 256, Cert.Mm.termNN (iblk m c 0 t) (iblk m c 1 t) (y 0) (y 1) k := by
  rw [outsAt0_A m c t h (by omega)]
  frame_out
  rw [pay2_apply, pay1_apply]

theorem acc_step (t : Fin cfg0.N) (h : ¬t.val % 4 = 0) (y : S1408x1024.Idx) :
    (outsAt0 m c t.val t.isLt).2.2 y = (outsAt0 m c (t.val - 1) (Nat.lt_of_le_of_lt (Nat.sub_le _ _) t.isLt)).2.2 y
      + ∑ k : Fin 256, Cert.Mm.termNN (iblk m c 0 t) (iblk m c 1 t) (y 0) (y 1) k := by
  rw [← pay2_apply]
  by_cases h1 : t.val % 4 = 3
  · rw [outsAt0_C m c t h h1]
    frame_out
    simp only [read_unread_whole]
  · rw [outsAt0_B m c t h h1]
    frame_out
    simp only [read_unread_whole]

theorem out_last (t : Fin cfg0.N) (h : t.val % 4 = 3) :
    (outsAt0 m c t.val t.isLt).1 = k0_pay4 (outsAt0 m c t.val t.isLt).2.2 (iblk m c 2 t) (iblk m c 3 t)
    ∧ (outsAt0 m c t.val t.isLt).2.1 = k0_pay3 (outsAt0 m c t.val t.isLt).2.2 (iblk m c 2 t) := by
  rw [outsAt0_C m c t (by omega) h]
  constructor <;> frame_out

/-- At the last point of a run the accumulator and the bias are a block of the gate's argument. -/
theorem block (t : Fin cfg0.N) (hl : t.val % 4 = 3) (y : S1408x1024.Idx) (i : S4224x1024.Idx) (h0 : (i 0).val = t.val / 4 * 1408 + (y 0).val)
    (h1 : (i 1).val = (y 1).val) :
    ((outsAt0 m c t.val t.isLt).2.2 y : EReal) + (iblk m c 2 t : Vec Ideal S1x1024 .f32) (ix2 0 (y 1))
      = gate (m ((c : Thread nD τ).loc main_arg0)) (m ((c : Thread nD τ).loc main_arg1)) (m ((c : Thread nD τ).loc main_arg2)) i := by
  have e := idx t
  refine congrArg₂ (fun a b : EReal => a + b) ?_ (by blk_ext [iblk, V, e])
  refine Cert.Mm.blocked_sum (J := 4) (n := 256) (fun n h => (outsAt0 m c n h).2.2 _) (fun t k => Cert.Mm.termNN (iblk m c 0 t) (iblk m c 1 t) _ _ k) _
    (fun t h => acc_reset m c t h _) (fun t h => acc_step m c t h _) t hl rfl (fun s k hp' hl => ?_)
  have e' := idx ⟨4 * (t.val / 4) + s.val, hp'⟩
  have hs := s.isLt
  refine congrArg₂ (fun a b : EReal => a * b) ?_ ?_ <;> blk_ext [iblk, V, e, e']

theorem final_gated : (dats m 0 c).arrAt 4 cfg0.N
    = gated (m ((c : Thread nD τ).loc main_arg0)) (m ((c : Thread nD τ).loc main_arg1)) (m ((c : Thread nD τ).loc main_arg2)) := by
  refine (dats m 0 c).arrAt_eq_of_covers 4 _ (by decide +kernel) fun t hf y => ?_
  have hl : t.val % 4 = 3 := (flush0_4 t).mp hf
  have e := idx t
  blk_simp
  rw [after0_4, (out_last m c t hl).1, pay4_apply]
  refine congrArg₂ (fun a b : EReal => a * b) (by blk_ext [iblk, V, e]) (congrArg Ideal.logistic (block m c t hl _ _ ?_ ?_)) <;> blk_simp [e]

theorem final_gate : (dats m 0 c).arrAt 5 cfg0.N
    = gate (m ((c : Thread nD τ).loc main_arg0)) (m ((c : Thread nD τ).loc main_arg1)) (m ((c : Thread nD τ).loc main_arg2)) := by
  refine (dats m 0 c).arrAt_eq_of_covers 5 _ (by decide +kernel) fun t hf y => ?_
  have hl : t.val % 4 = 3 := (flush0_5 t).mp hf
  have e := idx t
  blk_simp
  rw [after0_5, (out_last m c t hl).2, pay3_apply]
  refine block m c t hl _ _ ?_ ?_ <;> blk_simp [e]

theorem reference_gate (g : FVec Ideal S4224x1024 .f32) (w : FVec Ideal S1024x1024 .bf16) (b : FVec Ideal S1x1024 .f32) (i : S4224x1024.Idx) :
    Cert.GluFwdRefIdeal.Read.val_main_v5 (F := Ideal) g w b i = gate g w b i := by
  pointwise [Cert.GluFwdRefIdeal.Read.val_main_v5, Cert.GluFwdRefIdeal.Read.val_main_v4, Cert.GluFwdRefIdeal.Read.val_main_v3, Cert.GluFwdRefIdeal.Read.val_main_v2, Cert.GluFwdRefIdeal.Read.val_main_v1, Cert.GluFwdRefIdeal.Read.val_main_v0]
  rfl

theorem reference_gated (g : FVec Ideal S4224x1024 .f32) (w : FVec Ideal S1024x1024 .bf16) (b : FVec Ideal S1x1024 .f32) (i : S4224x1024.Idx) :
    Cert.GluFwdRefIdeal.Read.val_main_v12 (F := Ideal) g w b i = gated g w b i := by
  pointwise [Cert.GluFwdRefIdeal.Read.val_main_v12, Cert.GluFwdRefIdeal.Read.val_main_v11, Cert.GluFwdRefIdeal.Read.val_main_v10, Cert.GluFwdRefIdeal.Read.val_main_v9, Cert.GluFwdRefIdeal.Read.val_main_v8, Cert.GluFwdRefIdeal.Read.val_main_v7, Cert.GluFwdRefIdeal.Read.val_main_v6, Cert.GluFwdRefIdeal.Read.val_main_cst, Cert.GluFwdRefIdeal.Read.val_main_cst_0]
  rw [reference_gate]
  rfl

theorem equal : Cert.algebraic_GluFwdIdeal_GluFwdRefIdeal := fun m ρ m' ρ' _ harg => by
  refine ⟨fun c => (dats m 0 c).arrAt 4 cfg0.N, fun c => (dats m 0 c).arrAt 5 cfg0.N, Value.run_blocks m ρ,
    (θ_run Cert.GluFwdRefIdeal.defs _ _).mono (fun r h c => ⟨?_, ?_, (h c).2.2⟩) (Cert.GluFwdRefIdeal.Value.run (F := Ideal) m' ρ')⟩
  · rw [(h c).1, Cert.GluFwdRefIdeal.Read.val_main_v12_eq, (harg c).1, (harg c).2.1, (harg c).2.2]
    exact (funext fun i => reference_gated _ _ _ i).trans (final_gated m c).symm
  · rw [(h c).2.1, Cert.GluFwdRefIdeal.Read.val_main_v5_eq, (harg c).1, (harg c).2.1, (harg c).2.2]
    exact (funext fun i => reference_gate _ _ _ i).trans (final_gate m c).symm

theorem frame_reference : Cert.quiescent_GluFwdRefIdeal := fun m ρ _ =>
  (θ_run Cert.GluFwdRefIdeal.defs _ _).mono (fun r h => ⟨fun c => (h c).2.2, sem_eq_zero_of_no_sems (by decide) r.2⟩)
    (Cert.GluFwdRefIdeal.Value.run (F := Ideal) m ρ)

end Cert.GluFwdIdeal.Mm

/-! ## The weight's gradient: three blocks of 1408 rows -/

namespace Cert.GluDwIdeal.Mm

open Cert.GluDwIdeal Cert.GluDwIdeal.Gen

variable (m : (ℓ : Loc nD τ sig) → Buf (Elt Ideal) ℓ) (c : Dev nD)

theorem idx : ∀ t : Fin cfg0.N, win0_0.index t = ![t.val % 3, 0] ∧ win0_1.index t = ![t.val % 3, 0]
    ∧ win0_2.index t = ![0, 0] :=
  (by decide +kernel : ∀ t : Fin grid0.N, _)

theorem pay2_apply (a : Vec Ideal S1024x1024 .f32) (x : Vec Ideal S1408x1024 .f32) (w : Vec Ideal S1408x1024 .bf16) (y : S1024x1024.Idx) :
    k0_pay2 a x w y = a y + ∑ k : Fin 1408, Cert.Mm.termTN x w (y 0) (y 1) k := by
  pointwise [k0_pay2]

theorem pay1_apply (y : S1024x1024.Idx) : k0_pay1 (F := Ideal) y = 0 := by
  pointwise [k0_pay1]

theorem acc_reset (t : Fin cfg0.N) (h : t.val % 3 = 0) (y : S1024x1024.Idx) :
    (outsAt0 m c t.val t.isLt).2 y = 0 + ∑ k : Fin 1408, Cert.Mm.termTN (iblk m c 0 t) (iblk m c 1 t) (y 0) (y 1) k := by
  rw [outsAt0_A m c t h (by omega)]
  frame_out
  rw [pay2_apply, pay1_apply]

theorem acc_step (t : Fin cfg0.N) (h : ¬t.val % 3 = 0) (y : S1024x1024.Idx) :
    (outsAt0 m c t.val t.isLt).2 y = (outsAt0 m c (t.val - 1) (Nat.lt_of_le_of_lt (Nat.sub_le _ _) t.isLt)).2 y
      + ∑ k : Fin 1408, Cert.Mm.termTN (iblk m c 0 t) (iblk m c 1 t) (y 0) (y 1) k := by
  rw [← pay2_apply]
  by_cases h1 : t.val % 3 = 2
  · rw [outsAt0_C m c t h h1]
    frame_out
    simp only [read_unread_whole]
  · rw [outsAt0_B m c t h h1]
    frame_out
    simp only [read_unread_whole]

theorem out_last (t : Fin cfg0.N) (h : t.val % 3 = 2) : (outsAt0 m c t.val t.isLt).1 = (outsAt0 m c t.val t.isLt).2 := by
  rw [outsAt0_C m c t (by omega) h]
  frame_out
  rfl

theorem final : (dats m 0 c).arrAt 2 cfg0.N
    = fun i : S1024x1024.Idx => (∑ l : Fin 4224, Cert.Mm.termTN (m ((c : Thread nD τ).loc main_arg0)) (m ((c : Thread nD τ).loc main_arg1)) (i 0) (i 1) l : EReal) := by
  refine (dats m 0 c).arrAt_eq_of_covers 2 _ (by decide +kernel) fun t hf y => ?_
  have hl : t.val % 3 = 2 := (flush0_2 t).mp hf
  blk_simp
  rw [after0_2, out_last m c t hl]
  refine Cert.Mm.blocked_sum (J := 3) (n := 1408) (fun n h => (outsAt0 m c n h).2 _) (fun t k => Cert.Mm.termTN (iblk m c 0 t) (iblk m c 1 t) _ _ k) _
    (fun t h => acc_reset m c t h _) (fun t h => acc_step m c t h _) t hl rfl (fun s k hp' hl => ?_)
  have e := idx t
  have e' := idx ⟨3 * (t.val / 3) + s.val, hp'⟩
  have hs := s.isLt
  refine congrArg₂ (fun a b : EReal => a * b) ?_ ?_ <;> blk_ext [iblk, V, e, e']

theorem reference (x : FVec Ideal S4224x1024 .f32) (w : FVec Ideal S4224x1024 .bf16) (i : S1024x1024.Idx) :
    Cert.GluDwRefIdeal.Read.val_main_v5 (F := Ideal) x w i = ∑ l : Fin 4224, Cert.Mm.termTN x w (i 0) (i 1) l := by
  pointwise [Cert.GluDwRefIdeal.Read.val_main_v5, Cert.GluDwRefIdeal.Read.val_main_v4, Cert.GluDwRefIdeal.Read.val_main_v3, Cert.GluDwRefIdeal.Read.val_main_v0]
  exact Finset.sum_congr rfl fun l _ => EReal.mul_comm _ _

theorem equal : Cert.algebraic_GluDwIdeal_GluDwRefIdeal := fun m ρ m' ρ' _ harg => by
  refine ⟨fun c => (dats m 0 c).arrAt 2 cfg0.N, Value.run_blocks m ρ,
    (θ_run Cert.GluDwRefIdeal.defs _ _).mono (fun r h c => ⟨?_, (h c).2⟩) (Cert.GluDwRefIdeal.Value.run (F := Ideal) m' ρ')⟩
  rw [(h c).1, Cert.GluDwRefIdeal.Read.val_main_v5_eq, (harg c).1, (harg c).2]
  exact (funext fun i => reference _ _ i).trans (final m c).symm

theorem frame_reference : Cert.quiescent_GluDwRefIdeal := fun m ρ _ =>
  (θ_run Cert.GluDwRefIdeal.defs _ _).mono (fun r h => ⟨fun c => (h c).2, sem_eq_zero_of_no_sems (by decide) r.2⟩)
    (Cert.GluDwRefIdeal.Value.run (F := Ideal) m ρ)

end Cert.GluDwIdeal.Mm

end
-- ==== Proof.MmForward.lean ====
/- The forward products: the input projection, the output projection and the down projection with their residuals, and the up
   projection with the squared rectifier beside it. -/
module

public import proofs.«01_k».proof.Defs
public import proofs.«01_k».proof.Proof.Gen.InFwdIdeal.Value
public import proofs.«01_k».proof.Proof.Gen.InFwdRefIdeal.Read
public import proofs.«01_k».proof.Proof.Gen.OutFwdIdeal.Value
public import proofs.«01_k».proof.Proof.Gen.OutFwdRefIdeal.Read
public import proofs.«01_k».proof.Proof.Gen.UpFwdIdeal.Value
public import proofs.«01_k».proof.Proof.Gen.UpFwdRefIdeal.Read
public import proofs.«01_k».proof.Proof.Gen.DownFwdIdeal.Value
public import proofs.«01_k».proof.Proof.Gen.DownFwdRefIdeal.Read
public import Idealize.ShloMosaic.Lib.Pipeline.ValueKit
public import Idealize.ShloMosaic.Lib.Pointwise
public import Idealize.ShloMosaic.Lib.Pipeline.ReadBack
public import proofs.«01_k».proof.Proof.MmSum

@[expose] public section

set_option maxRecDepth 16384

noncomputable section

open Idealize.ShloMosaic Idealize.ShloMosaic.TcCoe Idealize.ShloMosaic.Tactic Idealize.ShloMosaic.Pointwise Idealize.SL.Sem

/-! ## The input projection -/

namespace Cert.InFwdIdeal.Mm

open Cert.InFwdIdeal Cert.InFwdIdeal.Gen

variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem pay_apply (x : Vec Ideal S1408x2048 .bf16) (w : Vec Ideal S2048x1280 .bf16) (y : S1408x1280.Idx) :
    k0_pay2 (k0_pay1 (F := Ideal)) x w y = ∑ k : Fin 2048, Cert.Mm.termNN x w (y 0) (y 1) k := by
  pointwise [k0_pay2, k0_pay1]

theorem final : (dats m 0 c).arrAt 2 cfg0.N
    = fun i : S4224x2560.Idx => (∑ l : Fin 2048, Cert.Mm.termNN (m ((c : Thread nD τ).loc main_arg0)) (m ((c : Thread nD τ).loc main_arg1)) (i 0) (i 1) l : EReal) := by
  refine (dats m 0 c).arrAt_eq_of_covers 2 _ (by decide +kernel) fun t hf y => ?_
  blk_simp
  rw [after0_2]
  unfold outsAt0
  frame_out
  rw [pay_apply]
  have e := idx t
  refine Cert.Mm.sum_mul_congr (fun l => ?_) (fun l => ?_) <;> blk_ext [iblk, V, e]

theorem reference (x : FVec Ideal S4224x2048 .bf16) (w : FVec Ideal S2048x2560 .bf16) (i : S4224x2560.Idx) :
    Cert.InFwdRefIdeal.Read.val_main_v2 (F := Ideal) x w i = ∑ l : Fin 2048, Cert.Mm.termNN x w (i 0) (i 1) l := by
  pointwise [Cert.InFwdRefIdeal.Read.val_main_v2, Cert.InFwdRefIdeal.Read.val_main_v0, Cert.InFwdRefIdeal.Read.val_main_v1]

theorem equal : Cert.algebraic_InFwdIdeal_InFwdRefIdeal := fun m ρ m' ρ' _ harg => by
  refine ⟨fun c => (dats m 0 c).arrAt 2 cfg0.N, Value.run_blocks m ρ,
    (θ_run Cert.InFwdRefIdeal.defs _ _).mono (fun r h c => ⟨?_, (h c).2⟩) (Cert.InFwdRefIdeal.Value.run (F := Ideal) m' ρ')⟩
  rw [(h c).1, Cert.InFwdRefIdeal.Read.val_main_v2_eq, (harg c).1, (harg c).2]
  exact (funext fun i => reference _ _ i).trans (final m c).symm

theorem frame_reference : Cert.quiescent_InFwdRefIdeal := fun m ρ _ =>
  (θ_run Cert.InFwdRefIdeal.defs _ _).mono (fun r h => ⟨fun c => (h c).2, sem_eq_zero_of_no_sems (by decide) r.2⟩)
    (Cert.InFwdRefIdeal.Value.run (F := Ideal) m ρ)

end Cert.InFwdIdeal.Mm

/-! ## The output projection and the residual -/

namespace Cert.OutFwdIdeal.Mm

open Cert.OutFwdIdeal Cert.OutFwdIdeal.Gen

variable (m : (ℓ : Loc nD τ sig) → Buf (Elt Ideal) ℓ) (c : Dev nD)

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- The result at an index: the residual and the product. -/
def result (x : S4224x2048.Idx → EReal) (w : S2048x2048.Idx → EReal) (b : S4224x2048.Idx → EReal) (i : S4224x2048.Idx) : EReal :=
  b i + ∑ l : Fin 2048, Cert.Mm.termNN x w (i 0) (i 1) l

theorem pay_apply (x : Vec Ideal S1408x2048 .bf16) (w : Vec Ideal S2048x512 .bf16) (b : Vec Ideal S1408x512 .f32) (y : S1408x512.Idx) :
    k0_pay3 (k0_pay2 (k0_pay1 (F := Ideal)) x w) b y = b y + ∑ k : Fin 2048, Cert.Mm.termNN x w (y 0) (y 1) k := by
  pointwise [k0_pay3, k0_pay2, k0_pay1]
  exact add_comm _ _

theorem final : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  rw [pay_apply]
  have e := idx t
  unfold result
  refine congrArg₂ (fun a b : EReal => a + b) ?_ (Cert.Mm.sum_mul_congr (fun l => ?_) (fun l => ?_)) <;> blk_ext [iblk, V, e]

theorem reference (x : FVec Ideal S4224x2048 .bf16) (w : FVec Ideal S2048x2048 .bf16) (b : FVec Ideal S4224x2048 .f32) (i : S4224x2048.Idx) :
    Cert.OutFwdRefIdeal.Read.val_main_v3 (F := Ideal) x w b i = result x w b i := by
  pointwise [Cert.OutFwdRefIdeal.Read.val_main_v3, Cert.OutFwdRefIdeal.Read.val_main_v2, Cert.OutFwdRefIdeal.Read.val_main_v0, Cert.OutFwdRefIdeal.Read.val_main_v1]
  rfl

theorem equal : Cert.algebraic_OutFwdIdeal_OutFwdRefIdeal := fun m ρ m' ρ' _ harg => by
  refine ⟨fun c => (dats m 0 c).arrAt 3 cfg0.N, Value.run_blocks m ρ,
    (θ_run Cert.OutFwdRefIdeal.defs _ _).mono (fun r h c => ⟨?_, (h c).2⟩) (Cert.OutFwdRefIdeal.Value.run (F := Ideal) m' ρ')⟩
  rw [(h c).1, Cert.OutFwdRefIdeal.Read.val_main_v3_eq, (harg c).1, (harg c).2.1, (harg c).2.2]
  exact (funext fun i => reference _ _ _ i).trans (final m c).symm

theorem frame_reference : Cert.quiescent_OutFwdRefIdeal := fun m ρ _ =>
  (θ_run Cert.OutFwdRefIdeal.defs _ _).mono (fun r h => ⟨fun c => (h c).2, sem_eq_zero_of_no_sems (by decide) r.2⟩)
    (Cert.OutFwdRefIdeal.Value.run (F := Ideal) m ρ)

end Cert.OutFwdIdeal.Mm

/-! ## The up projection and the squared rectifier -/

namespace Cert.UpFwdIdeal.Mm

open Cert.UpFwdIdeal Cert.UpFwdIdeal.Gen

variable (m : (ℓ : Loc nD τ sig) → Buf (Elt Ideal) ℓ) (c : Dev nD)

theorem idx : ∀ t : Fin cfg0.N, win0_0.index t = ![t.val / 8, 0] ∧ win0_1.index t = ![0, t.val % 8]
    ∧ win0_2.index t = ![t.val / 8, t.val % 8] ∧ win0_3.index t = ![t.val / 8, t.val % 8] :=
  (by decide +kernel : ∀ t : Fin grid0.N, _)

/-- The activation at an index. -/
def activation (x : S4224x2048.Idx → EReal) (w : S2048x8192.Idx → EReal) (i : S4224x8192.Idx) : EReal :=
  ∑ l : Fin 2048, Cert.Mm.termNN x w (i 0) (i 1) l

/-- The square of its rectifier. -/
def rectified (x : S4224x2048.Idx → EReal) (w : S2048x8192.Idx → EReal) (i : S4224x8192.Idx) : EReal :=
  max (activation x w i) 0 * max (activation x w i) 0

theorem pay_apply (x : Vec Ideal S1408x2048 .bf16) (w : Vec Ideal S2048x1024 .bf16) (y : S1408x1024.Idx) :
    k0_pay2 (k0_pay1 (F := Ideal)) x w y = ∑ k : Fin 2048, Cert.Mm.termNN x w (y 0) (y 1) k := by
  pointwise [k0_pay2, k0_pay1]

theorem pay3_apply (v : Vec Ideal S1408x1024 .f32) (y : S1408x1024.Idx) : k0_pay3 v y = max (v y) 0 * max (v y) 0 := by
  pointwise [k0_pay3]

/-- A block of the product is a block of the activation. -/
theorem block (t : Fin cfg0.N) (y : S1408x1024.Idx) (i : S4224x8192.Idx) (h0 : (i 0).val = t.val / 8 * 1408 + (y 0).val) (h1 : (i 1).val = t.val % 8 * 1024 + (y 1).val) :
    k0_pay2 (k0_pay1 (F := Ideal)) (iblk m c 0 t) (iblk m c 1 t) y = activation (m ((c : Thread nD τ).loc main_arg0)) (m ((c : Thread nD τ).loc main_arg1)) i := by
  rw [pay_apply]
  have e := idx t
  refine Cert.Mm.sum_mul_congr (fun l => ?_) (fun l => ?_) <;> blk_ext [iblk, V, e]

theorem final_activation : (dats m 0 c).arrAt 2 cfg0.N = activation (m ((c : Thread nD τ).loc main_arg0)) (m ((c : Thread nD τ).loc main_arg1)) := by
  refine (dats m 0 c).arrAt_eq_of_covers 2 _ (by decide +kernel) fun t hf y => ?_
  have e := idx t
  rw [after0_2]
  unfold outsAt0
  frame_out
  exact block m c t _ _ (by blk_simp [e]) (by blk_simp [e])

theorem final_rectified : (dats m 0 c).arrAt 3 cfg0.N = rectified (m ((c : Thread nD τ).loc main_arg0)) (m ((c : Thread nD τ).loc main_arg1)) := by
  refine (dats m 0 c).arrAt_eq_of_covers 3 _ (by decide +kernel) fun t hf y => ?_
  have e := idx t
  rw [after0_3]
  unfold outsAt0
  frame_out
  rw [pay3_apply]
  exact congrArg (fun a : EReal => max a 0 * max a 0) (block m c t _ _ (by blk_simp [e]) (by blk_simp [e]))

theorem reference_activation (x : FVec Ideal S4224x2048 .bf16) (w : FVec Ideal S2048x8192 .bf16) (i : S4224x8192.Idx) :
    Cert.UpFwdRefIdeal.Read.val_main_v2 (F := Ideal) x w i = activation x w i := by
  pointwise [Cert.UpFwdRefIdeal.Read.val_main_v2, Cert.UpFwdRefIdeal.Read.val_main_v0, Cert.UpFwdRefIdeal.Read.val_main_v1]
  rfl

theorem reference_rectified (x : FVec Ideal S4224x2048 .bf16) (w : FVec Ideal S2048x8192 .bf16) (i : S4224x8192.Idx) :
    Cert.UpFwdRefIdeal.Read.val_main_v5 (F := Ideal) x w i = rectified x w i := by
  pointwise [Cert.UpFwdRefIdeal.Read.val_main_v5, Cert.UpFwdRefIdeal.Read.val_main_v4, Cert.UpFwdRefIdeal.Read.val_main_v3, Cert.UpFwdRefIdeal.Read.val_main_call0_v0, Cert.UpFwdRefIdeal.Read.val_main_call0_cst]
  rw [reference_activation]
  rfl

theorem equal : Cert.algebraic_UpFwdIdeal_UpFwdRefIdeal := fun m ρ m' ρ' _ harg => by
  refine ⟨fun c => (dats m 0 c).arrAt 2 cfg0.N, fun c => (dats m 0 c).arrAt 3 cfg0.N, Value.run_blocks m ρ,
    (θ_run Cert.UpFwdRefIdeal.defs _ _).mono (fun r h c => ⟨?_, ?_, (h c).2.2⟩) (Cert.UpFwdRefIdeal.Value.run (F := Ideal) m' ρ')⟩
  · rw [(h c).1, Cert.UpFwdRefIdeal.Read.val_main_v2_eq, (harg c).1, (harg c).2]
    exact (funext fun i => reference_activation _ _ i).trans (final_activation m c).symm
  · rw [(h c).2.1, Cert.UpFwdRefIdeal.Read.val_main_v5_eq, (harg c).1, (harg c).2]
    exact (funext fun i => reference_rectified _ _ i).trans (final_rectified m c).symm

theorem frame_reference : Cert.quiescent_UpFwdRefIdeal := fun m ρ _ =>
  (θ_run Cert.UpFwdRefIdeal.defs _ _).mono (fun r h => ⟨fun c => (h c).2.2, sem_eq_zero_of_no_sems (by decide) r.2⟩)
    (Cert.UpFwdRefIdeal.Value.run (F := Ideal) m ρ)

end Cert.UpFwdIdeal.Mm

/-! ## The down projection and the residual: eight blocks of the contraction -/

namespace Cert.DownFwdIdeal.Mm

open Cert.DownFwdIdeal Cert.DownFwdIdeal.Gen

variable (m : (ℓ : Loc nD τ sig) → Buf (Elt Ideal) ℓ) (c : Dev nD)

theorem idx : ∀ t : Fin cfg0.N, win0_0.index t = ![t.val / 16, t.val % 8] ∧ win0_1.index t = ![t.val % 8, t.val / 8 % 2]
    ∧ win0_2.index t = ![t.val / 16, t.val / 8 % 2] ∧ win0_3.index t = ![t.val / 16, t.val / 8 % 2] :=
  (by decide +kernel : ∀ t : Fin grid0.N, _)

/-- The result at an index: the residual and the product. -/
def result (x : S4224x8192.Idx → EReal) (w : S8192x2048.Idx → EReal) (b : S4224x2048.Idx → EReal) (i : S4224x2048.Idx) : EReal :=
  b i + ∑ l : Fin 8192, Cert.Mm.termNN x w (i 0) (i 1) l

theorem pay2_apply (a : Vec Ideal S1408x1024 .f32) (x : Vec Ideal S1408x1024 .bf16) (w : Vec Ideal S1024x1024 .bf16) (y : S1408x1024.Idx) :
    k0_pay2 a x w y = a y + ∑ k : Fin 1024, Cert.Mm.termNN x w (y 0) (y 1) k := by
  pointwise [k0_pay2]

theorem pay1_apply (y : S1408x1024.Idx) : k0_pay1 (F := Ideal) y = 0 := by
  pointwise [k0_pay1]

theorem pay3_apply (v b : Vec Ideal S1408x1024 .f32) (y : S1408x1024.Idx) : k0_pay3 v b y = b y + v y := by
  pointwise [k0_pay3]
  exact add_comm _ _

theorem acc_reset (t : Fin cfg0.N) (h : t.val % 8 = 0) (y : S1408x1024.Idx) :
    (outsAt0 m c t.val t.isLt).2 y = 0 + ∑ k : Fin 1024, Cert.Mm.termNN (iblk m c 0 t) (iblk m c 1 t) (y 0) (y 1) k := by
  rw [outsAt0_A m c t h (by omega)]
  frame_out
  rw [pay2_apply, pay1_apply]

theorem acc_step (t : Fin cfg0.N) (h : ¬t.val % 8 = 0) (y : S1408x1024.Idx) :
    (outsAt0 m c t.val t.isLt).2 y = (outsAt0 m c (t.val - 1) (Nat.lt_of_le_of_lt (Nat.sub_le _ _) t.isLt)).2 y
      + ∑ k : Fin 1024, Cert.Mm.termNN (iblk m c 0 t) (iblk m c 1 t) (y 0) (y 1) k := by
  rw [← pay2_apply]
  by_cases h1 : t.val % 8 = 7
  · rw [outsAt0_C m c t h h1]
    frame_out
    simp only [read_unread_whole]
  · rw [outsAt0_B m c t h h1]
    frame_out
    simp only [read_unread_whole]

theorem out_last (t : Fin cfg0.N) (h : t.val % 8 = 7) :
    (outsAt0 m c t.val t.isLt).1 = k0_pay3 (outsAt0 m c t.val t.isLt).2 (iblk m c 2 t) := by
  rw [outsAt0_C m c t (by omega) h]
  frame_out

theorem final : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have hl : t.val % 8 = 7 := (flush0_3 t).mp hf
  have e := idx t
  blk_simp
  rw [after0_3, out_last m c t hl, pay3_apply]
  refine congrArg₂ (fun a b : EReal => a + b) (by blk_ext [iblk, V, e]) ?_
  refine Cert.Mm.blocked_sum (J := 8) (n := 1024) (fun n h => (outsAt0 m c n h).2 _) (fun t k => Cert.Mm.termNN (iblk m c 0 t) (iblk m c 1 t) _ _ k) _
    (fun t h => acc_reset m c t h _) (fun t h => acc_step m c t h _) t hl rfl (fun s k hp' hl => ?_)
  have e' := idx ⟨8 * (t.val / 8) + s.val, hp'⟩
  have hs := s.isLt
  refine congrArg₂ (fun a b : EReal => a * b) ?_ ?_ <;> blk_ext [iblk, V, e, e']

theorem reference (x : FVec Ideal S4224x8192 .bf16) (w : FVec Ideal S8192x2048 .bf16) (b : FVec Ideal S4224x2048 .f32) (i : S4224x2048.Idx) :
    Cert.DownFwdRefIdeal.Read.val_main_v3 (F := Ideal) x w b i = result x w b i := by
  pointwise [Cert.DownFwdRefIdeal.Read.val_main_v3, Cert.DownFwdRefIdeal.Read.val_main_v2, Cert.DownFwdRefIdeal.Read.val_main_v0, Cert.DownFwdRefIdeal.Read.val_main_v1]
  rfl

theorem equal : Cert.algebraic_DownFwdIdeal_DownFwdRefIdeal := fun m ρ m' ρ' _ harg => by
  refine ⟨fun c => (dats m 0 c).arrAt 3 cfg0.N, Value.run_blocks m ρ,
    (θ_run Cert.DownFwdRefIdeal.defs _ _).mono (fun r h c => ⟨?_, (h c).2⟩) (Cert.DownFwdRefIdeal.Value.run (F := Ideal) m' ρ')⟩
  rw [(h c).1, Cert.DownFwdRefIdeal.Read.val_main_v3_eq, (harg c).1, (harg c).2.1, (harg c).2.2]
  exact (funext fun i => reference _ _ _ i).trans (final m c).symm

theorem frame_reference : Cert.quiescent_DownFwdRefIdeal := fun m ρ _ =>
  (θ_run Cert.DownFwdRefIdeal.defs _ _).mono (fun r h => ⟨fun c => (h c).2, sem_eq_zero_of_no_sems (by decide) r.2⟩)
    (Cert.DownFwdRefIdeal.Value.run (F := Ideal) m ρ)

end Cert.DownFwdIdeal.Mm

end
-- ==== Proof.MmGluBwd.lean ====
/- The gated linear unit, backward: the gradient of the gate and of its bias, and the gradient through the unit and the gelu. -/
module

public import proofs.«01_k».proof.Defs
public import proofs.«01_k».proof.Proof.Gen.GluDzIdeal.Value
public import proofs.«01_k».proof.Proof.Gen.GluDzRefIdeal.Read
public import proofs.«01_k».proof.Proof.Gen.GluDxIdeal.Value
public import proofs.«01_k».proof.Proof.Gen.GluDxRefIdeal.Read
public import Idealize.ShloMosaic.Lib.Pipeline.ValueKit
public import Idealize.ShloMosaic.Lib.Pointwise
public import Idealize.ShloMosaic.Lib.Pipeline.ReadBack
public import proofs.«01_k».proof.Proof.MmSum
public import proofs.«01_k».proof.Proof.AttnMath

@[expose] public section

set_option maxRecDepth 16384

noncomputable section

open Idealize.ShloMosaic Idealize.ShloMosaic.TcCoe Idealize.ShloMosaic.Tactic Idealize.ShloMosaic.Pointwise Idealize.SL.Sem

/-! ## The gradient of the gate and of its bias: eleven blocks of 384 rows -/

namespace Cert.GluDzIdeal.Mm

open Cert.GluDzIdeal Cert.GluDzIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] :=
  (by decide +kernel : ∀ t : Fin grid0.N, _)

/-- The derivative of `g · σ(z)` in `z`, at the cotangent `d`. -/
def slope (d g z : EReal) : EReal := d * g * (Ideal.logistic z * (1 - Ideal.logistic z))

/-- The gradient of the gate's argument at an index. -/
abbrev grad (d g z : S4224x1024.Idx → EReal) (i : S4224x1024.Idx) : EReal := slope (d i) (g i) (z i)

theorem pay2_apply (z d g : Vec Ideal S384x1024 .f32) (y : S384x1024.Idx) : k0_pay2 z d g y = slope (d y) (g y) (z y) := by
  pointwise [k0_pay2]
  rfl

theorem pay3_apply (z d g : Vec Ideal S384x1024 .f32) (y : S384x1024.Idx) : k0_pay3 z d g y = slope (d y) (g y) (z y) := by
  rw [← pay2_apply]
  pointwise [k0_pay3]

theorem pay1_apply (y : S1x1024.Idx) : k0_pay1 (F := Ideal) y = 0 := by
  pointwise [k0_pay1]

theorem pay4_apply (z d g : Vec Ideal S384x1024 .f32) (a : Vec Ideal S1x1024 .f32) (y : S1x1024.Idx) :
    k0_pay4 z d g a y = a y + ∑ k : Fin 384, slope (d (ix2 k (y 1))) (g (ix2 k (y 1))) (z (ix2 k (y 1))) := by
  pointwise [k0_pay4]
  simp only [pay2_apply]

theorem out_dz (t : Fin cfg0.N) : (outsAt0 m c t.val t.isLt).1 = k0_pay3 (iblk m c 2 t) (iblk m c 0 t) (iblk m c 1 t) := by
  by_cases h : t.val % 11 = 0
  · rw [outsAt0_A m c t h]
    frame_out
  · rw [outsAt0_B m c t h]
    frame_out

theorem acc_reset (t : Fin cfg0.N) (h : t.val % 11 = 0) (y : S1x1024.Idx) :
    (outsAt0 m c t.val t.isLt).2 y = k0_pay4 (iblk m c 2 t) (iblk m c 0 t) (iblk m c 1 t) (k0_pay1 (F := Ideal)) y := by
  rw [outsAt0_A m c t h]
  frame_out

theorem acc_step (t : Fin cfg0.N) (h : ¬t.val % 11 = 0) (y : S1x1024.Idx) :
    (outsAt0 m c t.val t.isLt).2 y
      = k0_pay4 (iblk m c 2 t) (iblk m c 0 t) (iblk m c 1 t) (outsAt0 m c (t.val - 1) (Nat.lt_of_le_of_lt (Nat.sub_le _ _) t.isLt)).2 y := by
  rw [outsAt0_B m c t h]
  frame_out

theorem final_dz : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  have e := idx t
  blk_simp
  rw [after0_3, out_dz m c t, pay3_apply]
  congr 1 <;> blk_ext [iblk, V, e]

theorem final_db : (dats m 0 c).arrAt 4 cfg0.N
    = fun i : S1x1024.Idx => (∑ l : Fin 4224, grad (m ((c : Thread nD τ).loc main_arg0)) (m ((c : Thread nD τ).loc main_arg1))
        (m ((c : Thread nD τ).loc main_arg2)) (ix2 l (i 1)) : EReal) := by
  refine (dats m 0 c).arrAt_eq_of_covers 4 _ (by decide +kernel) fun t hf y => ?_
  have hl : t.val % 11 = 10 := (flush0_4 t).mp hf
  blk_simp
  rw [after0_4]
  refine Cert.Mm.blocked_sum (J := 11) (n := 384) (fun n h => (outsAt0 m c n h).2 _)
    (fun t k => slope ((iblk m c 0 t : Vec Ideal S384x1024 .f32) (ix2 k (y 1))) ((iblk m c 1 t : Vec Ideal S384x1024 .f32) (ix2 k (y 1))) ((iblk m c 2 t : Vec Ideal S384x1024 .f32) (ix2 k (y 1)))) _
    (fun t h => (acc_reset m c t h _).trans (by rw [pay4_apply, pay1_apply])) (fun t h => (acc_step m c t h _).trans (by rw [pay4_apply])) t hl rfl (fun s k hp' hl => ?_)
  have e := idx t
  have e' := idx ⟨11 * (t.val / 11) + s.val, hp'⟩
  have hs := s.isLt
  have ht := t.isLt
  congr 1 <;> blk_ext [iblk, V, e, e']

theorem reference_dz (d g z : FVec Ideal S4224x1024 .f32) (i : S4224x1024.Idx) : Cert.GluDzRefIdeal.Read.val_main_v16 (F := Ideal) d g z i = grad d g z i := by
  pointwise [Cert.GluDzRefIdeal.Read.val_main_v16, Cert.GluDzRefIdeal.Read.val_main_v15, Cert.GluDzRefIdeal.Read.val_main_v14, Cert.GluDzRefIdeal.Read.val_main_v13, Cert.GluDzRefIdeal.Read.val_main_v12, Cert.GluDzRefIdeal.Read.val_main_v11, Cert.GluDzRefIdeal.Read.val_main_v10, Cert.GluDzRefIdeal.Read.val_main_v9, Cert.GluDzRefIdeal.Read.val_main_v8, Cert.GluDzRefIdeal.Read.val_main_v7, Cert.GluDzRefIdeal.Read.val_main_v6, Cert.GluDzRefIdeal.Read.val_main_v5, Cert.GluDzRefIdeal.Read.val_main_v4, Cert.GluDzRefIdeal.Read.val_main_v3, Cert.GluDzRefIdeal.Read.val_main_v2, Cert.GluDzRefIdeal.Read.val_main_v1, Cert.GluDzRefIdeal.Read.val_main_v0, Cert.GluDzRefIdeal.Read.val_main_cst, Cert.GluDzRefIdeal.Read.val_main_cst_0, Cert.GluDzRefIdeal.Read.val_main_cst_1, Cert.GluDzRefIdeal.Read.val_main_cst_2]
  simp only [add_zero, slope, grad]
  rw [mul_comm (g i)]
  rfl

theorem reference_dz16 (d g z : FVec Ideal S4224x1024 .f32) (i : S4224x1024.Idx) : Cert.GluDzRefIdeal.Read.val_main_v21 (F := Ideal) d g z i = grad d g z i := by
  rw [← reference_dz]
  pointwise [Cert.GluDzRefIdeal.Read.val_main_v21]

theorem reference_db (d g z : FVec Ideal S4224x1024 .f32) (i : S1x1024.Idx) :
    Cert.GluDzRefIdeal.Read.val_main_v20 (F := Ideal) d g z i = ∑ l : Fin 4224, grad d g z (ix2 l (i 1)) := by
  pointwise [Cert.GluDzRefIdeal.Read.val_main_v20, Cert.GluDzRefIdeal.Read.val_main_v19, Cert.GluDzRefIdeal.Read.val_main_v18, Cert.GluDzRefIdeal.Read.val_main_v17, Cert.GluDzRefIdeal.Read.val_main_cst_3, Cert.GluDzRefIdeal.Read.val_main_cst_4]
  simp only [reference_dz]
  exact Fin.sum_univ_one _

theorem equal : Cert.algebraic_GluDzIdeal_GluDzRefIdeal := fun m ρ m' ρ' _ harg => by
  refine ⟨fun c => (dats m 0 c).arrAt 3 cfg0.N, fun c => (dats m 0 c).arrAt 4 cfg0.N, Value.run_blocks m ρ,
    (θ_run Cert.GluDzRefIdeal.defs _ _).mono (fun r h c => ⟨?_, ?_, (h c).2.2⟩) (Cert.GluDzRefIdeal.Value.run (F := Ideal) m' ρ')⟩
  · rw [(h c).1, Cert.GluDzRefIdeal.Read.val_main_v21_eq, (harg c).1, (harg c).2.1, (harg c).2.2]
    exact (funext fun i => reference_dz16 _ _ _ i).trans (final_dz m c).symm
  · rw [(h c).2.1, Cert.GluDzRefIdeal.Read.val_main_v20_eq, (harg c).1, (harg c).2.1, (harg c).2.2]
    exact (funext fun i => reference_db _ _ _ i).trans (final_db m c).symm

theorem frame_reference : Cert.quiescent_GluDzRefIdeal := fun m ρ _ =>
  (θ_run Cert.GluDzRefIdeal.defs _ _).mono (fun r h => ⟨fun c => (h c).2.2, sem_eq_zero_of_no_sems (by decide) r.2⟩)
    (Cert.GluDzRefIdeal.Value.run (F := Ideal) m ρ)

end Cert.GluDzIdeal.Mm

/-! ## The gradient through the gated unit and the gelu: one product to a tile of 1408 rows and 512 columns -/

namespace Cert.GluDxIdeal.Mm

open Cert.GluDxIdeal Cert.GluDxIdeal.Gen

variable (m : (ℓ : Loc nD τ sig) → Buf (Elt Ideal) ℓ) (c : Dev nD)

open Cert.AttnMath

theorem preFacts : Cert.Pre_finite_glu.Facts where
  bcast_S_S4224x1024 := by decide
  bcast_S_S1024x1024 := by decide

theorem idx : ∀ t : Fin cfg0.N, win0_0.index t = ![t.val / 2, 0] ∧ win0_1.index t = ![t.val % 2, 0] ∧ win0_2.index t = ![t.val / 2, t.val % 2]
    ∧ win0_3.index t = ![t.val / 2, t.val % 2] ∧ win0_4.index t = ![t.val / 2, t.val % 2] ∧ win0_5.index t = ![t.val / 2, t.val % 2] :=
  (by decide +kernel : ∀ t : Fin grid0.N, _)

/-- The argument of the hyperbolic tangent of the gelu: `k (y + c y³)`. -/
def arg (k c : ℝ) (y : EReal) : EReal := k * (y + c * (y * y * y))

/-- The derivative of the gelu in the kernel's form. -/
def slope (k c : ℝ) (y : EReal) : EReal :=
  ((1 / 2 : ℝ) : EReal) * (1 + Ideal.tanh (arg k c y))
    + ((1 / 2 : ℝ) : EReal) * y * (1 - Ideal.tanh (arg k c y) * Ideal.tanh (arg k c y)) * (k * (1 + ((3 * c : ℝ) : EReal) * (y * y)))

/-- The cotangent `u` carried through the gelu term by term. -/
def carried (k c : ℝ) (u y : EReal) : EReal :=
  u * (((1 / 2 : ℝ) : EReal) * (1 + Ideal.tanh (arg k c y)))
    + k * (((1 / 2 : ℝ) : EReal) * (y * u) * ((1 + Ideal.tanh (arg k c y)) * (1 - Ideal.tanh (arg k c y))))
    + c * (k * (((1 / 2 : ℝ) : EReal) * (y * u) * ((1 + Ideal.tanh (arg k c y)) * (1 - Ideal.tanh (arg k c y))))) * (((3 : ℝ) : EReal) * (y * y))

theorem arg_top {k c : ℝ} (hk : 0 < k) (hc : 0 < c) : arg k c ⊤ = ⊤ := by
  simp [arg, EReal.coe_mul_top_of_pos hk, EReal.coe_mul_top_of_pos hc]

theorem arg_bot {k c : ℝ} (hk : 0 < k) (hc : 0 < c) : arg k c ⊥ = ⊥ := by
  simp [arg, EReal.coe_mul_bot_of_pos hk, EReal.coe_mul_bot_of_pos hc]

theorem carried_eq {k c : ℝ} (hk : 0 < k) (hc : 0 < c) {u : EReal} (hu : Fn u) (y : EReal) : carried k c u y = u * slope k c y := by
  obtain ⟨u, rfl⟩ := hu
  have two : (1 : EReal) + 1 = ((2 : ℝ) : EReal) := by rw [← EReal.coe_one, ← EReal.coe_add]; norm_num
  have zero : (1 : EReal) - 1 = 0 := by rw [← EReal.coe_one, ← EReal.coe_sub, sub_self, EReal.coe_zero]
  have zero' : (1 : EReal) + -1 = 0 := by rw [← sub_eq_add_neg, zero]
  induction y using EReal.rec with
  | bot =>
    have ht : Ideal.tanh (arg k c ⊥) = -1 := by rw [arg_bot hk hc]; rfl
    simp only [carried, slope, ht, zero', zero, neg_mul_neg, mul_one, zero_mul, mul_zero, add_zero]
  | top =>
    have ht : Ideal.tanh (arg k c ⊤) = 1 := by rw [arg_top hk hc]; rfl
    simp only [carried, slope, ht, zero, mul_one, zero_mul, mul_zero, add_zero]
  | coe y =>
    have ht : Ideal.tanh (arg k c y) = ((Real.tanh (k * (y + c * (y * y * y))) : ℝ) : EReal) := by
      unfold arg
      rw [← EReal.coe_mul, ← EReal.coe_mul, ← EReal.coe_mul, ← EReal.coe_add, ← EReal.coe_mul]
      rfl
    simp only [carried, slope, ht]
    generalize Real.tanh (k * (y + c * (y * y * y))) = t
    simp only [← EReal.coe_one, ← EReal.coe_mul, ← EReal.coe_add, ← EReal.coe_sub]
    exact congrArg _ (by ring)

/-- The constant `√(2/π)` as its word, a real. -/
theorem root : ∃ k : ℝ, 0 < k ∧ Ideal.ofBits .f32 0x3F4C422A#32 = (k : EReal) := by
  refine ⟨13386282 / 16777216, by norm_num, ?_⟩
  simp [Ideal.ofBits, Ideal.ieee, -EReal.coe_mul]
  norm_num

theorem half : Ideal.ofBits .f32 0x3F000000#32 = ((1 / 2 : ℝ) : EReal) := by
  simp [Ideal.ofBits, Ideal.ieee, -EReal.coe_mul]
  norm_num

theorem three : Ideal.ofBits .f32 0x40400000#32 = ((3 : ℝ) : EReal) := by
  simp [Ideal.ofBits, Ideal.ieee, -EReal.coe_mul]
  norm_num

theorem coeff : Ideal.div (Ideal.ofBits .f32 0x472EAB00#32) (Ideal.ofBits .f32 0x49742400#32) = ((8943 / 200000 : ℝ) : EReal) := by
  have h1 : Ideal.ofBits .f32 0x472EAB00#32 = ((44715 : ℝ) : EReal) := by
    simp [Ideal.ofBits, Ideal.ieee, -EReal.coe_mul]
    norm_num
  have h2 : Ideal.ofBits .f32 0x49742400#32 = ((1000000 : ℝ) : EReal) := by
    simp [Ideal.ofBits, Ideal.ieee, -EReal.coe_mul]
    norm_num
  rw [h1, h2, Ideal.div_coe (by norm_num), ← EReal.coe_mul]
  norm_num

theorem pay1_apply (y : S1408x512.Idx) : k0_pay1 (F := Ideal) y = 0 := by
  pointwise [k0_pay1]

theorem pay2_apply (a : Vec Ideal S1408x512 .f32) (x : Vec Ideal S1408x1024 .bf16) (w : Vec Ideal S512x1024 .bf16) (y : S1408x512.Idx) :
    k0_pay2 a x w y = a y + ∑ k : Fin 1024, Cert.Mm.termNT x w (y 0) (y 1) k := by
  pointwise [k0_pay2]

theorem pay3_apply {k : ℝ} (hk : Ideal.ofBits .f32 0x3F4C422A#32 = (k : EReal)) (a d z y : Vec Ideal S1408x512 .f32) (i : S1408x512.Idx) :
    k0_pay3 a d z y i = (a i + d i * Ideal.logistic (z i)) * slope k (8943 / 200000) (y i) := by
  pointwise [k0_pay3]
  unfold slope arg
  rw [half, hk, show ((3 * (8943 / 200000) : ℝ) : EReal) = ((26829 / 200000 : ℝ) : EReal) by norm_num]
  rfl

theorem out (t : Fin cfg0.N) :
    outsAt0 m c t = k0_pay3 (k0_pay2 (k0_pay1 (F := Ideal)) (iblk m c 0 t) (iblk m c 1 t)) (iblk m c 2 t) (iblk m c 3 t) (iblk m c 4 t) := by
  unfold outsAt0
  frame_out

theorem reference (k : ℝ) (hk : Ideal.ofBits .f32 0x3F4C422A#32 = (k : EReal))
    (x : FVec Ideal S4224x1024 .bf16) (w : FVec Ideal S1024x1024 .bf16) (d z y : FVec Ideal S4224x1024 .f32) (i : S4224x1024.Idx) :
    Cert.GluDxRefIdeal.Read.val_main_v46 (F := Ideal) x w d z y i
      = carried k (8943 / 200000) (d i * Ideal.logistic (z i) + ∑ l : Fin 1024, Cert.Mm.termNT x w (i 0) (i 1) l) (y i) := by
  pointwise [Cert.GluDxRefIdeal.Read.val_main_v46, Cert.GluDxRefIdeal.Read.val_main_v45, Cert.GluDxRefIdeal.Read.val_main_v44, Cert.GluDxRefIdeal.Read.val_main_v43, Cert.GluDxRefIdeal.Read.val_main_v42, Cert.GluDxRefIdeal.Read.val_main_v41, Cert.GluDxRefIdeal.Read.val_main_v40, Cert.GluDxRefIdeal.Read.val_main_v39, Cert.GluDxRefIdeal.Read.val_main_v38, Cert.GluDxRefIdeal.Read.val_main_v37, Cert.GluDxRefIdeal.Read.val_main_v36, Cert.GluDxRefIdeal.Read.val_main_v35, Cert.GluDxRefIdeal.Read.val_main_v34, Cert.GluDxRefIdeal.Read.val_main_v20, Cert.GluDxRefIdeal.Read.val_main_v19, Cert.GluDxRefIdeal.Read.val_main_v18, Cert.GluDxRefIdeal.Read.val_main_v17, Cert.GluDxRefIdeal.Read.val_main_v16, Cert.GluDxRefIdeal.Read.val_main_v15, Cert.GluDxRefIdeal.Read.val_main_v14, Cert.GluDxRefIdeal.Read.val_main_v13, Cert.GluDxRefIdeal.Read.val_main_v12, Cert.GluDxRefIdeal.Read.val_main_v11, Cert.GluDxRefIdeal.Read.val_main_v10, Cert.GluDxRefIdeal.Read.val_main_v9, Cert.GluDxRefIdeal.Read.val_main_v8, Cert.GluDxRefIdeal.Read.val_main_v7, Cert.GluDxRefIdeal.Read.val_main_v6, Cert.GluDxRefIdeal.Read.val_main_v5, Cert.GluDxRefIdeal.Read.val_main_v4, Cert.GluDxRefIdeal.Read.val_main_v3, Cert.GluDxRefIdeal.Read.val_main_v2, Cert.GluDxRefIdeal.Read.val_main_v1, Cert.GluDxRefIdeal.Read.val_main_v0, Cert.GluDxRefIdeal.Read.val_main_v29, Cert.GluDxRefIdeal.Read.val_main_v28, Cert.GluDxRefIdeal.Read.val_main_v27, Cert.GluDxRefIdeal.Read.val_main_v26, Cert.GluDxRefIdeal.Read.val_main_v25, Cert.GluDxRefIdeal.Read.val_main_v24, Cert.GluDxRefIdeal.Read.val_main_v33, Cert.GluDxRefIdeal.Read.val_main_v32, Cert.GluDxRefIdeal.Read.val_main_v31, Cert.GluDxRefIdeal.Read.val_main_v22, Cert.GluDxRefIdeal.Read.val_main_cst, Cert.GluDxRefIdeal.Read.val_main_cst_0, Cert.GluDxRefIdeal.Read.val_main_cst_1, Cert.GluDxRefIdeal.Read.val_main_cst_2, Cert.GluDxRefIdeal.Read.val_main_cst_3, Cert.GluDxRefIdeal.Read.val_main_cst_4, Cert.GluDxRefIdeal.Read.val_main_cst_5, Cert.GluDxRefIdeal.Read.val_main_cst_6, Cert.GluDxRefIdeal.Read.val_main_cst_7, Cert.GluDxRefIdeal.Read.val_main_cst_8, Cert.GluDxRefIdeal.Read.val_main_cst_9, Cert.GluDxRefIdeal.Read.val_main_cst_10]
  rw [half, hk, coeff, three]
  rfl

/-- What the two comparisons with the infinities say. -/
theorem fn_of_word {a b x : EReal} (ha : a = ⊥) (hb : b = ⊤) (h : IntOp.andi (BitVec.ofBool (decide (a < x))) (BitVec.ofBool (decide (x < b))) = 1#1) : Fn x := by
  rw [ha, hb] at h
  have hw : ∀ p q : Bool, IntOp.andi (BitVec.ofBool p) (BitVec.ofBool q) = 1#1 → p = true ∧ q = true := by decide
  obtain ⟨h1, h2⟩ := hw _ _ h
  exact Fn.of_lt (of_decide_eq_true h1) (of_decide_eq_true h2)

theorem logistic_fn (z : EReal) : Fn (Ideal.logistic z) := by
  induction z using EReal.rec with
  | bot => rw [Ideal.logistic_bot]; exact Fn.zero
  | top => rw [Ideal.logistic_top]; exact Fn.coe 1
  | coe z => rw [Ideal.logistic_coe]; exact Fn.coe _

section
attribute [local instance] preFacts

/-- Under the precondition the cotangent of the gelu is finite. -/
theorem cotangent_fn (x : FVec Ideal S4224x1024 .bf16) (w : FVec Ideal S1024x1024 .bf16) (d z y : FVec Ideal S4224x1024 .f32)
    (h0 : (Cert.Pre_finite_glu.fn (F := Ideal) x w d z y).1 = (fun _ => 1#1))
    (h1 : (Cert.Pre_finite_glu.fn (F := Ideal) x w d z y).2.1 = (fun _ => 1#1))
    (h2 : (Cert.Pre_finite_glu.fn (F := Ideal) x w d z y).2.2 = (fun _ => 1#1)) (i : S4224x1024.Idx) :
    Fn (d i * Ideal.logistic (z i) + ∑ l : Fin 1024, Cert.Mm.termNT x w (i 0) (i 1) l) := by
  have wb : Ideal.ofBits .bf16 0xFF80#16 = (⊥ : EReal) := by simp [Ideal.ofBits, Ideal.ieee]
  have wt : Ideal.ofBits .bf16 0x7F80#16 = (⊤ : EReal) := by simp [Ideal.ofBits, Ideal.ieee]
  have vb : Ideal.ofBits .f32 0xFF800000#32 = (⊥ : EReal) := by simp [Ideal.ofBits, Ideal.ieee]
  have vt : Ideal.ofBits .f32 0x7F800000#32 = (⊤ : EReal) := by simp [Ideal.ofBits, Ideal.ieee]
  have f0 : ∀ j, Fn (x j) := fun j => by
    have e := congrFun h0 j
    unfold Cert.Pre_finite_glu.fn at e
    dsimp only at e
    pointwise [] at e
    exact fn_of_word wb wt e
  have f1 : ∀ j, Fn (w j) := fun j => by
    have e := congrFun h1 j
    unfold Cert.Pre_finite_glu.fn at e
    dsimp only at e
    pointwise [] at e
    exact fn_of_word wb wt e
  have f2 : ∀ j, Fn (d j) := fun j => by
    have e := congrFun h2 j
    unfold Cert.Pre_finite_glu.fn at e
    dsimp only at e
    pointwise [] at e
    exact fn_of_word vb vt e
  exact ((f2 i).mul (logistic_fn _)).add (Fn.sum _ _ fun l _ => (f0 _).mul (f1 _))

end

/-- The gradient at an index: the cotangent of the gelu and its slope. -/
def grad (k : ℝ) (x : S4224x1024.Idx → EReal) (w : S1024x1024.Idx → EReal) (d z y : S4224x1024.Idx → EReal) (i : S4224x1024.Idx) : EReal :=
  (d i * Ideal.logistic (z i) + ∑ l : Fin 1024, Cert.Mm.termNT x w (i 0) (i 1) l) * slope k (8943 / 200000) (y i)

theorem final (k : ℝ) (hk : Ideal.ofBits .f32 0x3F4C422A#32 = (k : EReal)) : (dats m 0 c).arrAt 5 cfg0.N
    = grad k (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have e := idx t
  blk_simp
  rw [after0_5, out m c t, pay3_apply hk, pay2_apply, pay1_apply, zero_add, add_comm]
  refine congrArg₂ (fun a b : EReal => a * b) (congrArg₂ (fun a b : EReal => a + b) (congrArg₂ (fun a b : EReal => a * b) ?_ (congrArg Ideal.logistic ?_)) ?_) (congrArg (slope k (8943 / 200000)) ?_)
  · blk_ext [iblk, V, e]
  · blk_ext [iblk, V, e]
  · refine Cert.Mm.sum_mul_congr (fun l => ?_) (fun l => ?_) <;> blk_ext [iblk, V, e]
  · blk_ext [iblk, V, e]

theorem equal [hp : Cert.Pre_finite_glu.Facts] : Cert.algebraic_GluDxIdeal_GluDxRefIdeal_pre_finite_glu := fun m ρ m' ρ' hpre harg => by
  obtain ⟨k, hk0, hk⟩ := root
  refine ⟨fun c => (dats m 0 c).arrAt 5 cfg0.N, Value.run_blocks m ρ,
    (θ_run Cert.GluDxRefIdeal.defs _ _).mono (fun r h c => ⟨?_, (h c).2⟩) (Cert.GluDxRefIdeal.Value.run (F := Ideal) m' ρ')⟩
  rw [(h c).1, Cert.GluDxRefIdeal.Read.val_main_v46_eq, (harg c).1, (harg c).2.1, (harg c).2.2.1, (harg c).2.2.2.1, (harg c).2.2.2.2]
  refine Eq.trans (funext fun i => ?_) (final m c k hk).symm
  exact (reference k hk _ _ _ _ _ i).trans (carried_eq hk0 (by norm_num) (cotangent_fn _ _ _ _ _ (hpre c).1 (hpre c).2.1 (hpre c).2.2 i) _)

theorem frame_reference : Cert.quiescent_GluDxRefIdeal := fun m ρ _ =>
  (θ_run Cert.GluDxRefIdeal.defs _ _).mono (fun r h => ⟨fun c => (h c).2, sem_eq_zero_of_no_sems (by decide) r.2⟩)
    (Cert.GluDxRefIdeal.Value.run (F := Ideal) m ρ)

end Cert.GluDxIdeal.Mm

end
-- ==== Proof.NormMath.lean ====
/- The root-mean-square norm of a row over the extended reals, and its derivative: the gradient written with the normalised row
   is the one that differentiating the square, the mean and the inverse root step by step gives. -/
module

public import Idealize.ShloMosaic.Lib.Pointwise
public import Idealize.ShloMosaic.PureOps.Ideal.Laws

@[expose] public section

noncomputable section

namespace Cert.Norm

open Idealize.ShloMosaic Idealize.ShloMosaic.Pointwise

/-- The constant added to the mean square. -/
abbrev eps : EReal := Ideal.ofBits .f32 0x358637BD#32

variable {R K : ℕ}

/-- The inverse root of row `r`'s mean square. -/
def scale (n : EReal) (x : (⟨2, ![R, K]⟩ : Shape).Idx → EReal) (r : Fin R) : EReal :=
  Ideal.rsqrt (Ideal.div (∑ k : Fin K, x (ix2 r k) * x (ix2 r k)) n + eps)

/-- The norm, with the gain `g`. -/
def normed (n : EReal) (x : (⟨2, ![R, K]⟩ : Shape).Idx → EReal) (g : (⟨2, ![1, K]⟩ : Shape).Idx → EReal) (i : (⟨2, ![R, K]⟩ : Shape).Idx) : EReal :=
  x i * scale n x (i 0) * g (ix2 0 (i 1))

/-- The norm's gradient in the row, at the cotangent `d`. -/
def grad (n : EReal) (x : (⟨2, ![R, K]⟩ : Shape).Idx → EReal) (g : (⟨2, ![1, K]⟩ : Shape).Idx → EReal) (d : (⟨2, ![R, K]⟩ : Shape).Idx → EReal)
    (i : (⟨2, ![R, K]⟩ : Shape).Idx) : EReal :=
  scale n x (i 0) * (d i * g (ix2 0 (i 1))
    - x i * scale n x (i 0) * Ideal.div (∑ k : Fin K, d (ix2 (i 0) k) * g (ix2 0 k) * (x (ix2 (i 0) k) * scale n x (i 0))) n)

/-- The gradient in the gain: the cotangent against the normalised rows. -/
def gain (n : EReal) (x : (⟨2, ![R, K]⟩ : Shape).Idx → EReal) (d : (⟨2, ![R, K]⟩ : Shape).Idx → EReal) (j : Fin K) : EReal :=
  ∑ r : Fin R, d (ix2 r j) * (x (ix2 r j) * scale n x r)

theorem square_nonneg (a : EReal) : 0 ≤ a * a := by
  induction a using EReal.rec with
  | bot => simp
  | top => simp
  | coe a => rw [← EReal.coe_mul]; exact_mod_cast mul_self_nonneg a

theorem sum_mul_real {ι : Type} (s : Finset ι) (f : ι → EReal) {r : ℝ} (hr : 0 ≤ r) : (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem twice (a : EReal) : a + a = a * ((2 : ℝ) : EReal) := by
  induction a using EReal.rec with
  | bot => simp [EReal.bot_mul_coe_of_pos]
  | top => simp [EReal.top_mul_coe_of_pos]
  | coe a => rw [← EReal.coe_add, ← EReal.coe_mul, mul_two]

/-- The inverse root of a positive number is a nonnegative real, and its derivative is made of its cube. -/
theorem rsqrt_cases {v : EReal} (hv : 0 < v) : ∃ r : ℝ, 0 ≤ r ∧ Ideal.rsqrt v = (r : EReal) ∧ Ideal.div (Ideal.rsqrt v) v = ((r * r * r : ℝ) : EReal) := by
  induction v using EReal.rec with
  | bot => exact absurd hv (by simp)
  | top => exact ⟨0, le_refl _, by simp, by simp [Ideal.div]⟩
  | coe v =>
    have h : 0 < v := by exact_mod_cast hv
    refine ⟨(Real.sqrt v)⁻¹, by positivity, ?_, ?_⟩
    · rw [Ideal.rsqrt_coe, if_neg (not_lt.mpr h.le), if_neg h.ne']
    · rw [Ideal.rsqrt_coe, if_neg (not_lt.mpr h.le), if_neg h.ne', Ideal.div_coe h.ne', ← EReal.coe_mul]
      refine congrArg _ ?_
      have hs : Real.sqrt v * Real.sqrt v = v := Real.mul_self_sqrt h.le
      have h0 : Real.sqrt v ≠ 0 := (Real.sqrt_pos.mpr h).ne'
      rw [one_div]
      nth_rewrite 2 [← hs]
      field_simp

/-- The mean square and the constant are positive. -/
theorem mean_pos {ι : Type} (s : Finset ι) (x : ι → EReal) {n : ℝ} (hn : 0 < n) {e : EReal} (he : 0 < e) :
    0 < Ideal.div (∑ k ∈ s, x k * x k) (n : EReal) + e := by
  rw [Ideal.div_coe hn.ne']
  have h1 : (0 : EReal) ≤ ((1 / n : ℝ) : EReal) := by
    have : (0 : ℝ) ≤ 1 / n := by positivity
    exact_mod_cast this
  exact lt_of_lt_of_le he (le_add_of_nonneg_left (mul_nonneg (Finset.sum_nonneg fun k _ => square_nonneg (x k)) h1))

/-- The derivative step by step, at one entry: the cotangent `e` times the inverse root, and twice the entry times the mean's
    share of the inverse root's derivative. -/
theorem steps_eq {ι : Type} [Fintype ι] (x e : ι → EReal) (j : ι) {n : ℝ} (hn : 0 < n) {ε v : EReal} (hε : 0 < ε)
    (hv : v = Ideal.div (∑ k, x k * x k) (n : EReal) + ε) :
    e j * Ideal.rsqrt v + x j * Ideal.div ((∑ k, x k * e k) * (((-(1 / 2) : ℝ) : EReal) * Ideal.div (Ideal.rsqrt v) v)) (n : EReal)
        + Ideal.div ((∑ k, x k * e k) * (((-(1 / 2) : ℝ) : EReal) * Ideal.div (Ideal.rsqrt v) v)) (n : EReal) * x j
      = Ideal.rsqrt v * (e j - x j * Ideal.rsqrt v * Ideal.div (∑ k, e k * (x k * Ideal.rsqrt v)) (n : EReal)) := by
  obtain ⟨r, hr, h1, h2⟩ := rsqrt_cases (hv ▸ mean_pos Finset.univ x hn hε)
  have hs : ∑ k, e k * (x k * (r : EReal)) = (∑ k, x k * e k) * (r : EReal) := by
    rw [sum_mul_real _ _ hr]
    exact Finset.sum_congr rfl fun k _ => by rw [← mul_assoc, mul_comm (e k)]
  rw [h1] at h2
  rw [h1, h2, hs, Ideal.div_coe hn.ne', Ideal.div_coe hn.ne']
  generalize (∑ k, x k * e k) = T
  rw [sub_eq_add_neg, EReal.left_distrib_of_nonneg_of_ne_top (by exact_mod_cast hr) (EReal.coe_ne_top r), mul_comm (_ * _) (x j), add_assoc, twice, mul_comm (e j)]
  refine congrArg _ ?_
  have hreal : -((r : EReal) * ((r : EReal) * ((r : EReal) * ((1 / n : ℝ) : EReal))))
      = ((-(1 / 2) : ℝ) : EReal) * ((r * r * r : ℝ) : EReal) * ((1 / n : ℝ) : EReal) * ((2 : ℝ) : EReal) := by
    simp only [← EReal.coe_mul, ← EReal.coe_neg]
    exact congrArg _ (by ring)
  calc x j * (T * (((-(1 / 2) : ℝ) : EReal) * ((r * r * r : ℝ) : EReal)) * ((1 / n : ℝ) : EReal)) * ((2 : ℝ) : EReal)
      = x j * T * (((-(1 / 2) : ℝ) : EReal) * ((r * r * r : ℝ) : EReal) * ((1 / n : ℝ) : EReal) * ((2 : ℝ) : EReal)) := by ac_rfl
    _ = x j * T * -((r : EReal) * ((r : EReal) * ((r : EReal) * ((1 / n : ℝ) : EReal)))) := by rw [hreal]
    _ = (r : EReal) * -(x j * (r : EReal) * (T * (r : EReal) * ((1 / n : ℝ) : EReal))) := by
      rw [mul_neg, mul_neg]
      refine congrArg _ ?_
      ac_rfl

theorem eps_pos : 0 < eps := by
  have h : eps = ((8796093 / 8796093022208 : ℝ) : EReal) := by
    simp [eps, Ideal.ofBits, Ideal.ieee, -EReal.coe_mul]
    norm_num
  rw [h]
  have : (0 : ℝ) < 8796093 / 8796093022208 := by norm_num
  exact_mod_cast this

/-- The derivative step by step is the gradient. -/
theorem steps_grad {N h : EReal} {n : ℝ} (hN : N = (n : EReal)) (hn : 0 < n) (hh : h = ((-(1 / 2) : ℝ) : EReal))
    (x : (⟨2, ![R, K]⟩ : Shape).Idx → EReal) (g : (⟨2, ![1, K]⟩ : Shape).Idx → EReal) (d : (⟨2, ![R, K]⟩ : Shape).Idx → EReal)
    (i : (⟨2, ![R, K]⟩ : Shape).Idx) (v : EReal) (hv : v = Ideal.div (∑ k : Fin K, x (ix2 (i 0) k) * x (ix2 (i 0) k)) N + eps) :
    d i * g (ix2 0 (i 1)) * Ideal.rsqrt v
        + x i * Ideal.div ((∑ k : Fin K, x (ix2 (i 0) k) * (d (ix2 (i 0) k) * g (ix2 0 k))) * (h * Ideal.div (Ideal.rsqrt v) v)) N
        + Ideal.div ((∑ k : Fin K, x (ix2 (i 0) k) * (d (ix2 (i 0) k) * g (ix2 0 k))) * (h * Ideal.div (Ideal.rsqrt v) v)) N * x i
      = grad N x g d i := by
  obtain ⟨r, j, rfl⟩ : ∃ (r : Fin R) (j : Fin K), i = ix2 r j := ⟨i 0, i 1, eq_ix2 i⟩
  subst hN hh
  rw [hv]
  exact steps_eq (fun k : Fin K => x (ix2 r k)) (fun k : Fin K => d (ix2 r k) * g (ix2 0 k)) j hn eps_pos rfl

theorem word_2048 : Ideal.ofBits .f32 0x45000000#32 = ((2048 : ℝ) : EReal) := by
  simp [Ideal.ofBits, Ideal.ieee, -EReal.coe_mul]
  norm_num

theorem word_1024 : Ideal.ofBits .f32 0x44800000#32 = ((1024 : ℝ) : EReal) := by
  simp [Ideal.ofBits, Ideal.ieee, -EReal.coe_mul]
  norm_num

theorem word_neg_half : Ideal.ofBits .f32 0xBF000000#32 = ((-(1 / 2) : ℝ) : EReal) := by
  simp [Ideal.ofBits, Ideal.ieee, -EReal.coe_mul]
  norm_num

/-! A block's row gives what the array's row gives. -/

section
variable {R' : ℕ} (n : EReal) {x d : (⟨2, ![R, K]⟩ : Shape).Idx → EReal} {x' d' : (⟨2, ![R', K]⟩ : Shape).Idx → EReal}
  {g g' : (⟨2, ![1, K]⟩ : Shape).Idx → EReal}

theorem scale_congr {r : Fin R} {r' : Fin R'} (hx : ∀ l, x (ix2 r l) = x' (ix2 r' l)) : scale n x r = scale n x' r' := by
  unfold scale
  exact congrArg (fun s : EReal => Ideal.rsqrt (Ideal.div s n + eps)) (Finset.sum_congr rfl fun l _ => by rw [hx])

theorem normed_congr {i : (⟨2, ![R, K]⟩ : Shape).Idx} {i' : (⟨2, ![R', K]⟩ : Shape).Idx} (h1 : (i 1).val = (i' 1).val)
    (hx : ∀ l, x (ix2 (i 0) l) = x' (ix2 (i' 0) l)) (hg : ∀ l, g (ix2 0 l) = g' (ix2 0 l)) : normed n x g i = normed n x' g' i' := by
  obtain ⟨r, j, rfl⟩ : ∃ (r : Fin R) (j : Fin K), i = ix2 r j := ⟨i 0, i 1, eq_ix2 i⟩
  obtain ⟨r', j', rfl⟩ : ∃ (r' : Fin R') (j' : Fin K), i' = ix2 r' j' := ⟨i' 0, i' 1, eq_ix2 i'⟩
  obtain rfl : j = j' := Fin.ext h1
  unfold normed
  rw [scale_congr n hx]
  exact congrArg₂ (fun a b : EReal => a * _ * b) (hx j) (hg j)

theorem grad_congr {i : (⟨2, ![R, K]⟩ : Shape).Idx} {i' : (⟨2, ![R', K]⟩ : Shape).Idx} (h1 : (i 1).val = (i' 1).val)
    (hx : ∀ l, x (ix2 (i 0) l) = x' (ix2 (i' 0) l)) (hg : ∀ l, g (ix2 0 l) = g' (ix2 0 l)) (hd : ∀ l, d (ix2 (i 0) l) = d' (ix2 (i' 0) l)) :
    grad n x g d i = grad n x' g' d' i' := by
  obtain ⟨r, j, rfl⟩ : ∃ (r : Fin R) (j : Fin K), i = ix2 r j := ⟨i 0, i 1, eq_ix2 i⟩
  obtain ⟨r', j', rfl⟩ : ∃ (r' : Fin R') (j' : Fin K), i' = ix2 r' j' := ⟨i' 0, i' 1, eq_ix2 i'⟩
  obtain rfl : j = j' := Fin.ext h1
  have hs : ∑ k : Fin K, d (ix2 r k) * g (ix2 0 k) * (x (ix2 r k) * scale n x r)
      = ∑ k : Fin K, d' (ix2 r' k) * g' (ix2 0 k) * (x' (ix2 r' k) * scale n x' r') :=
    Finset.sum_congr rfl fun k _ => by
      exact congrArg₂ (fun a b : EReal => a * b) (congrArg₂ (fun a b : EReal => a * b) (hd k) (hg k))
        (congrArg₂ (fun a b : EReal => a * b) (hx k) (scale_congr n hx))
  unfold grad
  refine congrArg₂ (fun a b : EReal => a * b) (scale_congr n hx) (congrArg₂ (fun a b : EReal => a - b)
    (congrArg₂ (fun a b : EReal => a * b) (hd j) (hg j)) (congrArg₂ (fun a b : EReal => a * b)
      (congrArg₂ (fun a b : EReal => a * b) (hx j) (scale_congr n hx)) (congrArg (fun s : EReal => Ideal.div s n) hs)))
end

end Cert.Norm
-- ==== Proof.NormRows.lean ====
/- The norms of the rows before the products, and their gradients. -/
module

public import proofs.«01_k».proof.Defs
public import proofs.«01_k».proof.Proof.Gen.NormFwdIdeal.Value
public import proofs.«01_k».proof.Proof.Gen.NormFwdRefIdeal.Read
public import proofs.«01_k».proof.Proof.Gen.NormBwdIdeal.Value
public import proofs.«01_k».proof.Proof.Gen.NormBwdRefIdeal.Read
public import Idealize.ShloMosaic.Lib.Pipeline.ValueKit
public import Idealize.ShloMosaic.Lib.Pointwise
public import Idealize.ShloMosaic.Lib.Pipeline.ReadBack
public import proofs.«01_k».proof.Proof.MmSum
public import proofs.«01_k».proof.Proof.NormMath

@[expose] public section

set_option maxRecDepth 16384

noncomputable section

open Idealize.ShloMosaic Idealize.ShloMosaic.TcCoe Idealize.ShloMosaic.Tactic Idealize.ShloMosaic.Pointwise Idealize.SL.Sem

/-! ## The norm: a block of 384 rows at each point -/

namespace Cert.NormFwdIdeal.Mm

open Cert.NormFwdIdeal Cert.NormFwdIdeal.Gen

variable (m : (ℓ : Loc nD τ sig) → Buf (Elt Ideal) ℓ) (c : Dev nD)

open Cert.Norm

theorem idx : ∀ t : Fin cfg0.N, win0_0.index t = ![t.val, 0] ∧ win0_1.index t = ![0, 0] ∧ win0_2.index t = ![t.val, 0] :=
  (by decide +kernel : ∀ t : Fin grid0.N, _)

theorem pay1_apply (x : Vec Ideal S384x2048 .f32) (g : Vec Ideal S1x2048 .f32) (y : S384x2048.Idx) :
    k0_pay1 x g y = normed (Ideal.ofBits .f32 0x45000000#32) x g y := by
  pointwise [k0_pay1]
  rfl

theorem final : (dats m 0 c).arrAt 2 cfg0.N
    = normed (Ideal.ofBits .f32 0x45000000#32) (m ((c : Thread nD τ).loc main_arg0)) (m ((c : Thread nD τ).loc main_arg1)) := by
  refine (dats m 0 c).arrAt_eq_of_covers 2 _ (by decide +kernel) fun t hf y => ?_
  have e := idx t
  blk_simp
  rw [after0_2]
  frame_out
  rw [pay1_apply]
  unfold normed scale
  refine congrArg₂ (fun a b : EReal => a * b) (congrArg₂ (fun a b : EReal => a * b) ?_ (congrArg (fun s : EReal => Ideal.rsqrt (Ideal.div s _ + eps))
    (Cert.Mm.sum_mul_congr (fun l => ?_) (fun l => ?_)))) ?_ <;> blk_ext [iblk, V, e]

theorem reference (x : FVec Ideal S4224x2048 .f32) (g : FVec Ideal S1x2048 .f32) (i : S4224x2048.Idx) :
    Cert.NormFwdRefIdeal.Read.val_main_v14 (F := Ideal) x g i = normed (Ideal.ofBits .f32 0x45000000#32) x g i := by
  pointwise [Cert.NormFwdRefIdeal.Read.val_main_v14, Cert.NormFwdRefIdeal.Read.val_main_v13, Cert.NormFwdRefIdeal.Read.val_main_v12, Cert.NormFwdRefIdeal.Read.val_main_v11, Cert.NormFwdRefIdeal.Read.val_main_v10, Cert.NormFwdRefIdeal.Read.val_main_v9, Cert.NormFwdRefIdeal.Read.val_main_v8, Cert.NormFwdRefIdeal.Read.val_main_v7, Cert.NormFwdRefIdeal.Read.val_main_v6, Cert.NormFwdRefIdeal.Read.val_main_v5, Cert.NormFwdRefIdeal.Read.val_main_v4, Cert.NormFwdRefIdeal.Read.val_main_v3, Cert.NormFwdRefIdeal.Read.val_main_v2, Cert.NormFwdRefIdeal.Read.val_main_v1, Cert.NormFwdRefIdeal.Read.val_main_v0, Cert.NormFwdRefIdeal.Read.val_main_cst, Cert.NormFwdRefIdeal.Read.val_main_cst_0, Cert.NormFwdRefIdeal.Read.val_main_cst_1]
  rfl

theorem equal : Cert.algebraic_NormFwdIdeal_NormFwdRefIdeal := fun m ρ m' ρ' _ harg => by
  refine ⟨fun c => (dats m 0 c).arrAt 2 cfg0.N, Value.run_blocks m ρ,
    (θ_run Cert.NormFwdRefIdeal.defs _ _).mono (fun r h c => ⟨?_, (h c).2⟩) (Cert.NormFwdRefIdeal.Value.run (F := Ideal) m' ρ')⟩
  rw [(h c).1, Cert.NormFwdRefIdeal.Read.val_main_v14_eq, (harg c).1, (harg c).2]
  exact (funext fun i => reference _ _ i).trans (final m c).symm

theorem frame_reference : Cert.quiescent_NormFwdRefIdeal := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

end Cert.NormFwdIdeal.Mm

/-! ## The gradient of the norm and the residual stream, and of its gain: eleven blocks of 384 rows -/

namespace Cert.NormBwdIdeal.Mm

open Cert.NormBwdIdeal Cert.NormBwdIdeal.Gen

variable (m : (ℓ : Loc nD τ sig) → Buf (Elt Ideal) ℓ) (c : Dev nD)

open Cert.Norm

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![t.val, 0] :=
  (by decide +kernel : ∀ t : Fin grid0.N, _)

theorem pay4_apply (y : S1x2048.Idx) : k0_pay4 (F := Ideal) y = 0 := by
  pointwise [k0_pay4]

/-- A row's share of the gain's gradient. -/
abbrev share {R : ℕ} (x d : (⟨2, ![R, 2048]⟩ : Shape).Idx → EReal) (r : Fin R) (j : Fin 2048) : EReal :=
  d (ix2 r j) * (x (ix2 r j) * scale (Ideal.ofBits .f32 0x45000000#32) x r)

theorem pay5_apply (x d : Vec Ideal S384x2048 .f32) (a : Vec Ideal S1x2048 .f32) (y : S1x2048.Idx) :
    k0_pay5 x d a y = a y + ∑ k : Fin 384, share x d k (y 1) := by
  pointwise [k0_pay5, k0_pay3, k0_pay2]
  rfl

theorem pay6_apply (x d : Vec Ideal S384x2048 .f32) (g : Vec Ideal S1x2048 .f32) (res : Vec Ideal S384x2048 .f32) (y : S384x2048.Idx) :
    k0_pay6 x d g res y = grad (Ideal.ofBits .f32 0x45000000#32) x g d y + res y := by
  pointwise [k0_pay6, k0_pay3, k0_pay2]
  rfl

theorem out_dx (t : Fin cfg0.N) (y : S384x2048.Idx) :
    (outsAt0 m c t.val t.isLt).1 y = k0_pay6 (iblk m c 0 t) (iblk m c 2 t) (iblk m c 1 t) (iblk m c 3 t) y
    ∧ (outsAt0 m c t.val t.isLt).2.2 y = k0_pay6 (iblk m c 0 t) (iblk m c 2 t) (iblk m c 1 t) (iblk m c 3 t) y := by
  by_cases h : t.val % 11 = 0
  · rw [outsAt0_A m c t h]
    constructor
    · frame_out
    · frame_out
      pointwise [k0_pay1]
  · rw [outsAt0_B m c t h]
    constructor
    · frame_out
    · frame_out
      pointwise [k0_pay1]

theorem acc_reset (t : Fin cfg0.N) (h : t.val % 11 = 0) (y : S1x2048.Idx) :
    (outsAt0 m c t.val t.isLt).2.1 y = k0_pay5 (iblk m c 0 t) (iblk m c 2 t) (k0_pay4 (F := Ideal)) y := by
  rw [outsAt0_A m c t h]
  frame_out

theorem acc_step (t : Fin cfg0.N) (h : ¬t.val % 11 = 0) (y : S1x2048.Idx) :
    (outsAt0 m c t.val t.isLt).2.1 y
      = k0_pay5 (iblk m c 0 t) (iblk m c 2 t) (outsAt0 m c (t.val - 1) (Nat.lt_of_le_of_lt (Nat.sub_le _ _) t.isLt)).2.1 y := by
  rw [outsAt0_B m c t h]
  frame_out

/-- The gradient that flows on: the norm's and the residual stream's. -/
def total (x : S4224x2048.Idx → EReal) (g : S1x2048.Idx → EReal) (d res : S4224x2048.Idx → EReal) (i : S4224x2048.Idx) : EReal :=
  grad (Ideal.ofBits .f32 0x45000000#32) x g d i + res i

theorem block (t : Fin cfg0.N) (y : S384x2048.Idx) (i : S4224x2048.Idx) (h0 : (i 0).val = t.val * 384 + (y 0).val) (h1 : (i 1).val = (y 1).val) :
    k0_pay6 (iblk m c 0 t) (iblk m c 2 t) (iblk m c 1 t) (iblk m c 3 t) y
      = total (m ((c : Thread nD τ).loc main_arg0)) (m ((c : Thread nD τ).loc main_arg1)) (m ((c : Thread nD τ).loc main_arg2))
        (m ((c : Thread nD τ).loc main_arg3)) i := by
  have e := idx t
  have hr : scale (Ideal.ofBits .f32 0x45000000#32) (iblk m c 0 t : Vec Ideal S384x2048 .f32) (y 0)
      = scale (Ideal.ofBits .f32 0x45000000#32) (m ((c : Thread nD τ).loc main_arg0)) (i 0) := by
    refine congrArg (fun s : EReal => Ideal.rsqrt (Ideal.div s _ + eps)) (Cert.Mm.sum_mul_congr (fun l => ?_) (fun l => ?_)) <;> blk_ext [iblk, V, e]
  rw [pay6_apply]
  unfold total grad
  rw [hr]
  refine congrArg₂ (fun a b : EReal => a + b) (congrArg₂ (fun a b : EReal => a * b) rfl (congrArg₂ (fun a b : EReal => a - b)
    (congrArg₂ (fun a b : EReal => a * b) ?_ ?_) (congrArg₂ (fun a b : EReal => a * b) (congrArg (fun a : EReal => a * _) ?_)
      (congrArg (fun s : EReal => Ideal.div s _) (Cert.Mm.sum_mul_congr (fun l => congrArg₂ (fun a b : EReal => a * b) ?_ ?_) (fun l => congrArg (fun a : EReal => a * _) ?_)))))) ?_
    <;> blk_ext [iblk, V, e]

theorem final_dx : (dats m 0 c).arrAt 4 cfg0.N
    = total (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  have e := idx t
  blk_simp
  rw [after0_4, (out_dx m c t y).1]
  refine block m c t y _ ?_ ?_ <;> blk_simp [e]

theorem final_dx16 : (dats m 0 c).arrAt 6 cfg0.N
    = total (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  have e := idx t
  blk_simp
  rw [after0_6, (out_dx m c t y).2]
  refine block m c t y _ ?_ ?_ <;> blk_simp [e]

theorem final_dg : (dats m 0 c).arrAt 5 cfg0.N
    = fun i : S1x2048.Idx => gain (Ideal.ofBits .f32 0x45000000#32) (m ((c : Thread nD τ).loc main_arg0)) (m ((c : Thread nD τ).loc main_arg2)) (i 1) := by
  refine (dats m 0 c).arrAt_eq_of_covers 5 _ (by decide +kernel) fun t hf y => ?_
  have hl : t.val % 11 = 10 := (flush0_5 t).mp hf
  blk_simp
  rw [after0_5]
  refine Cert.Mm.blocked_sum (J := 11) (n := 384) (fun n h => (outsAt0 m c n h).2.1 _)
    (fun t k => share (iblk m c 0 t) (iblk m c 2 t) k (y 1)) _
    (fun t h => (acc_reset m c t h _).trans (by rw [pay5_apply, pay4_apply])) (fun t h => (acc_step m c t h _).trans (by rw [pay5_apply])) t hl rfl (fun s k hp' hl => ?_)
  have e := idx t
  have e' := idx ⟨11 * (t.val / 11) + s.val, hp'⟩
  have hs := s.isLt
  have ht := t.isLt
  refine congrArg₂ (fun a b : EReal => a * b) ?_ (congrArg₂ (fun a b : EReal => a * b) ?_ (congrArg (fun s : EReal => Ideal.rsqrt (Ideal.div s _ + eps))
    (Cert.Mm.sum_mul_congr (fun l => ?_) (fun l => ?_)))) <;> blk_ext [iblk, V, e, e']

theorem reference_dx (x : FVec Ideal S4224x2048 .f32) (g : FVec Ideal S1x2048 .f32) (d res : FVec Ideal S4224x2048 .f32) (i : S4224x2048.Idx) :
    Cert.NormBwdRefIdeal.Read.val_main_v37 (F := Ideal) x g d res i = total x g d res i := by
  pointwise [Cert.NormBwdRefIdeal.Read.val_main_v21, Cert.NormBwdRefIdeal.Read.val_main_v20, Cert.NormBwdRefIdeal.Read.val_main_v37, Cert.NormBwdRefIdeal.Read.val_main_v36, Cert.NormBwdRefIdeal.Read.val_main_v35, Cert.NormBwdRefIdeal.Read.val_main_v34, Cert.NormBwdRefIdeal.Read.val_main_v33, Cert.NormBwdRefIdeal.Read.val_main_v32, Cert.NormBwdRefIdeal.Read.val_main_v31, Cert.NormBwdRefIdeal.Read.val_main_v30, Cert.NormBwdRefIdeal.Read.val_main_v29, Cert.NormBwdRefIdeal.Read.val_main_v28, Cert.NormBwdRefIdeal.Read.val_main_v27, Cert.NormBwdRefIdeal.Read.val_main_v26, Cert.NormBwdRefIdeal.Read.val_main_v25, Cert.NormBwdRefIdeal.Read.val_main_v24, Cert.NormBwdRefIdeal.Read.val_main_v23, Cert.NormBwdRefIdeal.Read.val_main_v12, Cert.NormBwdRefIdeal.Read.val_main_v11, Cert.NormBwdRefIdeal.Read.val_main_v10, Cert.NormBwdRefIdeal.Read.val_main_v9, Cert.NormBwdRefIdeal.Read.val_main_v8, Cert.NormBwdRefIdeal.Read.val_main_v7, Cert.NormBwdRefIdeal.Read.val_main_v6, Cert.NormBwdRefIdeal.Read.val_main_v5, Cert.NormBwdRefIdeal.Read.val_main_v4, Cert.NormBwdRefIdeal.Read.val_main_v3, Cert.NormBwdRefIdeal.Read.val_main_v2, Cert.NormBwdRefIdeal.Read.val_main_v1, Cert.NormBwdRefIdeal.Read.val_main_v0, Cert.NormBwdRefIdeal.Read.val_main_v14, Cert.NormBwdRefIdeal.Read.val_main_cst, Cert.NormBwdRefIdeal.Read.val_main_cst_0, Cert.NormBwdRefIdeal.Read.val_main_cst_1, Cert.NormBwdRefIdeal.Read.val_main_cst_2, Cert.NormBwdRefIdeal.Read.val_main_cst_5, Cert.NormBwdRefIdeal.Read.val_main_cst_6, Cert.NormBwdRefIdeal.Read.val_main_cst_7]
  simp only [Fin.sum_univ_one]
  rw [add_assoc, add_assoc, ← add_assoc (_ * Ideal.rsqrt _), steps_grad word_2048 (by norm_num) word_neg_half x g d i _ rfl, add_comm]
  rfl

theorem reference_dx16 (x : FVec Ideal S4224x2048 .f32) (g : FVec Ideal S1x2048 .f32) (d res : FVec Ideal S4224x2048 .f32) (i : S4224x2048.Idx) :
    Cert.NormBwdRefIdeal.Read.val_main_v39 (F := Ideal) x g d res i = total x g d res i := by
  rw [← reference_dx]
  pointwise [Cert.NormBwdRefIdeal.Read.val_main_v39]

theorem reference_dg (x d : FVec Ideal S4224x2048 .f32) (i : S1x2048.Idx) :
    Cert.NormBwdRefIdeal.Read.val_main_v38 (F := Ideal) x d i = gain (Ideal.ofBits .f32 0x45000000#32) x d (i 1) := by
  pointwise [Cert.NormBwdRefIdeal.Read.val_main_v38, Cert.NormBwdRefIdeal.Read.val_main_v19, Cert.NormBwdRefIdeal.Read.val_main_v18, Cert.NormBwdRefIdeal.Read.val_main_v17, Cert.NormBwdRefIdeal.Read.val_main_v22, Cert.NormBwdRefIdeal.Read.val_main_v13, Cert.NormBwdRefIdeal.Read.val_main_v12, Cert.NormBwdRefIdeal.Read.val_main_v8, Cert.NormBwdRefIdeal.Read.val_main_v7, Cert.NormBwdRefIdeal.Read.val_main_v6, Cert.NormBwdRefIdeal.Read.val_main_v5, Cert.NormBwdRefIdeal.Read.val_main_v4, Cert.NormBwdRefIdeal.Read.val_main_v3, Cert.NormBwdRefIdeal.Read.val_main_v2, Cert.NormBwdRefIdeal.Read.val_main_v1, Cert.NormBwdRefIdeal.Read.val_main_cst, Cert.NormBwdRefIdeal.Read.val_main_cst_0, Cert.NormBwdRefIdeal.Read.val_main_cst_1, Cert.NormBwdRefIdeal.Read.val_main_cst_3, Cert.NormBwdRefIdeal.Read.val_main_cst_4]
  rw [Fin.sum_univ_one]
  exact Finset.sum_congr rfl fun k _ => mul_comm _ _

theorem equal : Cert.algebraic_NormBwdIdeal_NormBwdRefIdeal := fun m ρ m' ρ' _ harg => by
  refine ⟨fun c => (dats m 0 c).arrAt 4 cfg0.N, fun c => (dats m 0 c).arrAt 5 cfg0.N, fun c => (dats m 0 c).arrAt 6 cfg0.N, Value.run_blocks m ρ,
    (θ_run Cert.NormBwdRefIdeal.defs _ _).mono (fun r h c => ⟨?_, ?_, ?_, (h c).2.2.2⟩) (Cert.NormBwdRefIdeal.Value.run (F := Ideal) m' ρ')⟩
  · rw [(h c).1, Cert.NormBwdRefIdeal.Read.val_main_v37_eq, (harg c).1, (harg c).2.1, (harg c).2.2.1, (harg c).2.2.2]
    exact (funext fun i => reference_dx _ _ _ _ i).trans (final_dx m c).symm
  · rw [(h c).2.1, Cert.NormBwdRefIdeal.Read.val_main_v38_eq, (harg c).1, (harg c).2.2.1]
    exact (funext fun i => reference_dg _ _ i).trans (final_dg m c).symm
  · rw [(h c).2.2.1, Cert.NormBwdRefIdeal.Read.val_main_v39_eq, (harg c).1, (harg c).2.1, (harg c).2.2.1, (harg c).2.2.2]
    exact (funext fun i => reference_dx16 _ _ _ _ i).trans (final_dx16 m c).symm

theorem frame_reference : Cert.quiescent_NormBwdRefIdeal := fun m ρ _ =>
  (θ_run Cert.NormBwdRefIdeal.defs _ _).mono (fun r h => ⟨fun c => (h c).2.2.2, sem_eq_zero_of_no_sems (by decide) r.2⟩)
    (Cert.NormBwdRefIdeal.Value.run (F := Ideal) m ρ)

end Cert.NormBwdIdeal.Mm

end
-- ==== Proof.NormHeads.lean ====
/- The norms of the two heads, and their gradients. -/
module

public import proofs.«01_k».proof.Defs
public import proofs.«01_k».proof.Proof.Gen.HeadsFwdIdeal.Value
public import proofs.«01_k».proof.Proof.Gen.HeadsFwdRefIdeal.Read
public import proofs.«01_k».proof.Proof.Gen.HeadsBwdIdeal.Value
public import proofs.«01_k».proof.Proof.Gen.HeadsBwdRefIdeal.Read
public import Idealize.ShloMosaic.Lib.Pipeline.ValueKit
public import Idealize.ShloMosaic.Lib.Pointwise
public import Idealize.ShloMosaic.Lib.Pipeline.ReadBack
public import proofs.«01_k».proof.Proof.MmSum
public import proofs.«01_k».proof.Proof.NormMath

@[expose] public section

set_option maxRecDepth 16384

noncomputable section

open Idealize.ShloMosaic Idealize.ShloMosaic.TcCoe Idealize.ShloMosaic.Tactic Idealize.ShloMosaic.Pointwise Idealize.SL.Sem

/-! ## The norms of the two heads, side by side -/

namespace Cert.HeadsFwdIdeal.Mm

open Cert.HeadsFwdIdeal Cert.HeadsFwdIdeal.Gen

variable (m : (ℓ : Loc nD τ sig) → Buf (Elt Ideal) ℓ) (c : Dev nD)

open Cert.Norm

theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

theorem pay1_apply (x : Vec Ideal S384x1024 .f32) (g : Vec Ideal S1x1024 .f32) (y : S384x1024.Idx) :
    k0_pay1 x g y = normed (Ideal.ofBits .f32 0x44800000#32) x g y := by
  pointwise [k0_pay1]
  rfl

theorem pay2_apply (x : Vec Ideal S384x1024 .f32) (g : Vec Ideal S1x1024 .f32) (y : S384x1024.Idx) :
    k0_pay2 x g y = normed (Ideal.ofBits .f32 0x44800000#32) x g y := by
  pointwise [k0_pay2]
  rfl

/-- The two heads' rows, each normed by itself, side by side. -/
def heads (a s : S4224x1024.Idx → EReal) (ga gs : S1x1024.Idx → EReal) (i : S4224x2048.Idx) : EReal :=
  if h : (i 1).val < 1024 then normed (Ideal.ofBits .f32 0x44800000#32) a ga (ix2 (i 0) ⟨(i 1).val, h⟩)
  else normed (Ideal.ofBits .f32 0x44800000#32) s gs (ix2 (i 0) ⟨(i 1).val - 1024, by have := (i 1).isLt; simp [S4224x2048] at this; omega⟩)

theorem final : (dats m 0 c).arrAt 4 cfg0.N
    = heads (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  have e := idx t
  blk_simp
  rw [after0_4]
  frame_out
  refine View.canon_apply_of_pieces (Val := Elt Ideal) (fun y => heads (m ((c : Thread nD τ).loc main_arg0)) (m ((c : Thread nD τ).loc main_arg1)) (m ((c : Thread nD τ).loc main_arg2))
    (m ((c : Thread nD τ).loc main_arg3)) (((View.whole main_v0).slice (win0_4.rect t)).emb y)) _ (fun p hp x => ?_) y (cover0_4 _ _ y)
  simp only [List.mem_cons, List.not_mem_nil, or_false] at hp
  have hx := (x 1).isLt
  rcases hp with rfl | rfl
  · change _ < 1024 at hx
    have h1 : (r0_3.emb x 1).val = 1024 + 1 * (x 1).val := rfl
    refine (pay2_apply _ _ _).trans ?_
    unfold heads
    rw [dif_neg (by
      blk_simp [e]
      change ¬(r0_3.emb x 1).val < 1024
      omega)]
    refine normed_congr _ ?_ (fun l => ?_) (fun l => ?_)
    · blk_simp [e]
      change (x 1).val = (r0_3.emb x 1).val - 1024
      omega
    · blk_ext [iblk, V, e]
    · blk_ext [iblk, V, e]
  · change _ < 1024 at hx
    have h1 : (r0_2.emb x 1).val = 0 + 1 * (x 1).val := rfl
    refine (pay1_apply _ _ _).trans ?_
    unfold heads
    rw [dif_pos (by
      blk_simp [e]
      change (r0_2.emb x 1).val < 1024
      omega)]
    refine normed_congr _ ?_ (fun l => ?_) (fun l => ?_)
    · blk_simp [e]
      change (x 1).val = (r0_2.emb x 1).val
      omega
    · blk_ext [iblk, V, e]
    · blk_ext [iblk, V, e]

theorem reference (a s : FVec Ideal S4224x1024 .f32) (ga gs : FVec Ideal S1x1024 .f32) (i : S4224x2048.Idx) :
    Cert.HeadsFwdRefIdeal.Read.val_main_v29 (F := Ideal) a s ga gs i = heads a s ga gs i := by
  pointwise [Cert.HeadsFwdRefIdeal.Read.val_main_v29, Cert.HeadsFwdRefIdeal.Read.val_main_v28, Cert.HeadsFwdRefIdeal.Read.val_main_v27, Cert.HeadsFwdRefIdeal.Read.val_main_v26, Cert.HeadsFwdRefIdeal.Read.val_main_v25, Cert.HeadsFwdRefIdeal.Read.val_main_v24, Cert.HeadsFwdRefIdeal.Read.val_main_v23, Cert.HeadsFwdRefIdeal.Read.val_main_v22, Cert.HeadsFwdRefIdeal.Read.val_main_v21, Cert.HeadsFwdRefIdeal.Read.val_main_v20, Cert.HeadsFwdRefIdeal.Read.val_main_v19, Cert.HeadsFwdRefIdeal.Read.val_main_v18, Cert.HeadsFwdRefIdeal.Read.val_main_v17, Cert.HeadsFwdRefIdeal.Read.val_main_v16, Cert.HeadsFwdRefIdeal.Read.val_main_v15, Cert.HeadsFwdRefIdeal.Read.val_main_v14, Cert.HeadsFwdRefIdeal.Read.val_main_v13, Cert.HeadsFwdRefIdeal.Read.val_main_v12, Cert.HeadsFwdRefIdeal.Read.val_main_v11, Cert.HeadsFwdRefIdeal.Read.val_main_v10, Cert.HeadsFwdRefIdeal.Read.val_main_v9, Cert.HeadsFwdRefIdeal.Read.val_main_v8, Cert.HeadsFwdRefIdeal.Read.val_main_v7, Cert.HeadsFwdRefIdeal.Read.val_main_v6, Cert.HeadsFwdRefIdeal.Read.val_main_v5, Cert.HeadsFwdRefIdeal.Read.val_main_v4, Cert.HeadsFwdRefIdeal.Read.val_main_v3, Cert.HeadsFwdRefIdeal.Read.val_main_v2, Cert.HeadsFwdRefIdeal.Read.val_main_v1, Cert.HeadsFwdRefIdeal.Read.val_main_v0, Cert.HeadsFwdRefIdeal.Read.val_main_cst, Cert.HeadsFwdRefIdeal.Read.val_main_cst_0, Cert.HeadsFwdRefIdeal.Read.val_main_cst_1, Cert.HeadsFwdRefIdeal.Read.val_main_cst_2, Cert.HeadsFwdRefIdeal.Read.val_main_cst_3, Cert.HeadsFwdRefIdeal.Read.val_main_cst_4]
  rfl

theorem equal : Cert.algebraic_HeadsFwdIdeal_HeadsFwdRefIdeal := fun m ρ m' ρ' _ harg => by
  refine ⟨fun c => (dats m 0 c).arrAt 4 cfg0.N, Value.run_blocks m ρ,
    (θ_run Cert.HeadsFwdRefIdeal.defs _ _).mono (fun r h c => ⟨?_, (h c).2⟩) (Cert.HeadsFwdRefIdeal.Value.run (F := Ideal) m' ρ')⟩
  rw [(h c).1, Cert.HeadsFwdRefIdeal.Read.val_main_v29_eq, (harg c).1, (harg c).2.1, (harg c).2.2.1, (harg c).2.2.2]
  exact (funext fun i => reference _ _ _ _ i).trans (final m c).symm

theorem frame_reference : Cert.quiescent_HeadsFwdRefIdeal := fun m ρ _ =>
  (θ_run Cert.HeadsFwdRefIdeal.defs _ _).mono (fun r h => ⟨fun c => (h c).2, sem_eq_zero_of_no_sems (by decide) r.2⟩)
    (Cert.HeadsFwdRefIdeal.Value.run (F := Ideal) m ρ)

end Cert.HeadsFwdIdeal.Mm

/-! ## The gradients of the two heads and of their gains: eleven blocks of 384 rows -/

namespace Cert.HeadsBwdIdeal.Mm

open Cert.HeadsBwdIdeal Cert.HeadsBwdIdeal.Gen

variable (m : (ℓ : Loc nD τ sig) → Buf (Elt Ideal) ℓ) (c : Dev nD)

open Cert.Norm

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] :=
  (by decide +kernel : ∀ t : Fin grid0.N, _)

/-- The 1024 columns from `o` on: the cotangent of one head. -/
def half {R : ℕ} (o : ℕ) (ho : o + 1024 ≤ 2048) (d : (⟨2, ![R, 2048]⟩ : Shape).Idx → EReal) (i : (⟨2, ![R, 1024]⟩ : Shape).Idx) : EReal :=
  d (ix2 (i 0) ⟨o + (i 1).val, Nat.lt_of_lt_of_le (Nat.add_lt_add_left (i 1).isLt o) ho⟩)

theorem read_half0 (d : Vec Ideal S384x2048 .f32) :
    View.ld d (Rect.unit ![0, 0] ![384, 1024] inb_S384x2048_S384x1024_0_0) = half 0 (by decide) d := by
  funext y
  pointwise []
  unfold half
  exact congrArg d (congrArg (ix2 (y 0)) (Fin.ext (Nat.zero_add _).symm))

theorem read_half1 (d : Vec Ideal S384x2048 .f32) :
    View.ld d (Rect.unit ![0, 1024] ![384, 1024] inb_S384x2048_S384x1024_0_1024) = half 1024 (by decide) d := by
  funext y
  pointwise []
  rfl

/-- A row's share of a gain's gradient. -/
abbrev share {R : ℕ} (x d : (⟨2, ![R, 1024]⟩ : Shape).Idx → EReal) (r : Fin R) (j : Fin 1024) : EReal :=
  d (ix2 r j) * (x (ix2 r j) * scale (Ideal.ofBits .f32 0x44800000#32) x r)

theorem pay3_apply (y : S1x1024.Idx) : k0_pay3 (F := Ideal) y = 0 := by
  pointwise [k0_pay3]

theorem pay8_apply (y : S1x1024.Idx) : k0_pay8 (F := Ideal) y = 0 := by
  pointwise [k0_pay8]

theorem pay4_apply (x d : Vec Ideal S384x1024 .f32) (a : Vec Ideal S1x1024 .f32) (y : S1x1024.Idx) :
    k0_pay4 x d a y = a y + ∑ k : Fin 384, share x d k (y 1) := by
  pointwise [k0_pay4, k0_pay2, k0_pay1]
  rfl

theorem pay9_apply (x d : Vec Ideal S384x1024 .f32) (a : Vec Ideal S1x1024 .f32) (y : S1x1024.Idx) :
    k0_pay9 x d a y = a y + ∑ k : Fin 384, share x d k (y 1) := by
  pointwise [k0_pay9, k0_pay7, k0_pay6]
  rfl

theorem pay5_apply (x d : Vec Ideal S384x1024 .f32) (g : Vec Ideal S1x1024 .f32) (y : S384x1024.Idx) :
    k0_pay5 x d g y = grad (Ideal.ofBits .f32 0x44800000#32) x g d y := by
  pointwise [k0_pay5, k0_pay2, k0_pay1]
  rfl

theorem pay10_apply (x d : Vec Ideal S384x1024 .f32) (g : Vec Ideal S1x1024 .f32) (y : S384x1024.Idx) :
    k0_pay10 x d g y = grad (Ideal.ofBits .f32 0x44800000#32) x g d y := by
  pointwise [k0_pay10, k0_pay7, k0_pay6]
  rfl

theorem out_dx (t : Fin cfg0.N) (y : S384x1024.Idx) :
    (outsAt0 m c t.val t.isLt).1 y
        = grad (Ideal.ofBits .f32 0x44800000#32) (iblk m c 0 t) (iblk m c 2 t) (half 0 (by decide) (iblk m c 4 t : Vec Ideal S384x2048 .f32)) y
    ∧ (outsAt0 m c t.val t.isLt).2.1 y
        = grad (Ideal.ofBits .f32 0x44800000#32) (iblk m c 1 t) (iblk m c 3 t) (half 1024 (by decide) (iblk m c 4 t : Vec Ideal S384x2048 .f32)) y := by
  by_cases h : t.val % 11 = 0
  · rw [outsAt0_A m c t h h]
    constructor
    · frame_out
      rw [read_half0, pay10_apply]
    · frame_out
      rw [read_half1, pay5_apply]
  · rw [outsAt0_B m c t h h]
    constructor
    · frame_out
      rw [read_half0, pay10_apply]
    · frame_out
      rw [read_half1, pay5_apply]

theorem acc_reset (t : Fin cfg0.N) (h : t.val % 11 = 0) (y : S1x1024.Idx) :
    (outsAt0 m c t.val t.isLt).2.2.1 y
        = 0 + ∑ k : Fin 384, share (iblk m c 0 t) (half 0 (by decide) (iblk m c 4 t : Vec Ideal S384x2048 .f32)) k (y 1)
    ∧ (outsAt0 m c t.val t.isLt).2.2.2 y
        = 0 + ∑ k : Fin 384, share (iblk m c 1 t) (half 1024 (by decide) (iblk m c 4 t : Vec Ideal S384x2048 .f32)) k (y 1) := by
  rw [outsAt0_A m c t h h]
  constructor
  · frame_out
    rw [read_half0, pay9_apply, pay8_apply]
  · frame_out
    rw [read_half1, pay4_apply, pay3_apply]

theorem acc_step (t : Fin cfg0.N) (h : ¬t.val % 11 = 0) (y : S1x1024.Idx) :
    (outsAt0 m c t.val t.isLt).2.2.1 y = (outsAt0 m c (t.val - 1) (Nat.lt_of_le_of_lt (Nat.sub_le _ _) t.isLt)).2.2.1 y
        + ∑ k : Fin 384, share (iblk m c 0 t) (half 0 (by decide) (iblk m c 4 t : Vec Ideal S384x2048 .f32)) k (y 1)
    ∧ (outsAt0 m c t.val t.isLt).2.2.2 y = (outsAt0 m c (t.val - 1) (Nat.lt_of_le_of_lt (Nat.sub_le _ _) t.isLt)).2.2.2 y
        + ∑ k : Fin 384, share (iblk m c 1 t) (half 1024 (by decide) (iblk m c 4 t : Vec Ideal S384x2048 .f32)) k (y 1) := by
  rw [outsAt0_B m c t h h]
  constructor
  · frame_out
    rw [read_half0, pay9_apply]
  · frame_out
    rw [read_half1, pay4_apply]

theorem final_da : (dats m 0 c).arrAt 5 cfg0.N
    = grad (Ideal.ofBits .f32 0x44800000#32) (m ((c : Thread nD τ).loc main_arg0)) (m ((c : Thread nD τ).loc main_arg2))
        (half 0 (by decide) (m ((c : Thread nD τ).loc main_arg4))) := by
  refine (dats m 0 c).arrAt_eq_of_covers 5 _ (by decide +kernel) fun t hf y => ?_
  have e := idx t
  blk_simp
  rw [after0_5, (out_dx m c t y).1]
  refine grad_congr _ ?_ (fun l => ?_) (fun l => ?_) (fun l => ?_)
  · blk_simp [e]
  · blk_ext [iblk, V, e]
  · blk_ext [iblk, V, e]
  · unfold half
    blk_ext [iblk, V, e]

theorem final_ds : (dats m 0 c).arrAt 6 cfg0.N
    = grad (Ideal.ofBits .f32 0x44800000#32) (m ((c : Thread nD τ).loc main_arg1)) (m ((c : Thread nD τ).loc main_arg3))
        (half 1024 (by decide) (m ((c : Thread nD τ).loc main_arg4))) := by
  refine (dats m 0 c).arrAt_eq_of_covers 6 _ (by decide +kernel) fun t hf y => ?_
  have e := idx t
  blk_simp
  rw [after0_6, (out_dx m c t y).2]
  refine grad_congr _ ?_ (fun l => ?_) (fun l => ?_) (fun l => ?_)
  · blk_simp [e]
  · blk_ext [iblk, V, e]
  · blk_ext [iblk, V, e]
  · unfold half
    blk_ext [iblk, V, e]

theorem final_dga : (dats m 0 c).arrAt 7 cfg0.N
    = fun i : S1x1024.Idx => gain (Ideal.ofBits .f32 0x44800000#32) (m ((c : Thread nD τ).loc main_arg0))
        (half 0 (by decide) (m ((c : Thread nD τ).loc main_arg4))) (i 1) := by
  refine (dats m 0 c).arrAt_eq_of_covers 7 _ (by decide +kernel) fun t hf y => ?_
  have hl : t.val % 11 = 10 := (flush0_7 t).mp hf
  blk_simp
  rw [after0_7]
  refine Cert.Mm.blocked_sum (J := 11) (n := 384) (fun n h => (outsAt0 m c n h).2.2.1 _)
    (fun t k => share (iblk m c 0 t) (half 0 (by decide) (iblk m c 4 t : Vec Ideal S384x2048 .f32)) k (y 1)) _
    (fun t h => (acc_reset m c t h _).1) (fun t h => (acc_step m c t h _).1) t hl rfl (fun s k hp' hl => ?_)
  have e := idx t
  have e' := idx ⟨11 * (t.val / 11) + s.val, hp'⟩
  have hs := s.isLt
  have ht := t.isLt
  unfold half
  refine congrArg₂ (fun a b : EReal => a * b) ?_ (congrArg₂ (fun a b : EReal => a * b) ?_ (scale_congr _ fun l => ?_)) <;> blk_ext [iblk, V, e, e']

theorem final_dgs : (dats m 0 c).arrAt 8 cfg0.N
    = fun i : S1x1024.Idx => gain (Ideal.ofBits .f32 0x44800000#32) (m ((c : Thread nD τ).loc main_arg1))
        (half 1024 (by decide) (m ((c : Thread nD τ).loc main_arg4))) (i 1) := by
  refine (dats m 0 c).arrAt_eq_of_covers 8 _ (by decide +kernel) fun t hf y => ?_
  have hl : t.val % 11 = 10 := (flush0_8 t).mp hf
  blk_simp
  rw [after0_8]
  refine Cert.Mm.blocked_sum (J := 11) (n := 384) (fun n h => (outsAt0 m c n h).2.2.2 _)
    (fun t k => share (iblk m c 1 t) (half 1024 (by decide) (iblk m c 4 t : Vec Ideal S384x2048 .f32)) k (y 1)) _
    (fun t h => (acc_reset m c t h _).2) (fun t h => (acc_step m c t h _).2) t hl rfl (fun s k hp' hl => ?_)
  have e := idx t
  have e' := idx ⟨11 * (t.val / 11) + s.val, hp'⟩
  have hs := s.isLt
  have ht := t.isLt
  unfold half
  refine congrArg₂ (fun a b : EReal => a * b) ?_ (congrArg₂ (fun a b : EReal => a * b) ?_ (scale_congr _ fun l => ?_)) <;> blk_ext [iblk, V, e, e']

theorem reference_ds (s : FVec Ideal S4224x1024 .f32) (g : FVec Ideal S1x1024 .f32) (d : FVec Ideal S4224x2048 .f32) (i : S4224x1024.Idx) :
    Cert.HeadsBwdRefIdeal.Read.val_main_v56 (F := Ideal) s g d i = grad (Ideal.ofBits .f32 0x44800000#32) s g (half 1024 (by decide) d) i := by
  pointwise [Cert.HeadsBwdRefIdeal.Read.val_main_v56, Cert.HeadsBwdRefIdeal.Read.val_main_v55, Cert.HeadsBwdRefIdeal.Read.val_main_v54, Cert.HeadsBwdRefIdeal.Read.val_main_v53, Cert.HeadsBwdRefIdeal.Read.val_main_v52, Cert.HeadsBwdRefIdeal.Read.val_main_v51, Cert.HeadsBwdRefIdeal.Read.val_main_v50, Cert.HeadsBwdRefIdeal.Read.val_main_v49, Cert.HeadsBwdRefIdeal.Read.val_main_v48, Cert.HeadsBwdRefIdeal.Read.val_main_v47, Cert.HeadsBwdRefIdeal.Read.val_main_v46, Cert.HeadsBwdRefIdeal.Read.val_main_v45, Cert.HeadsBwdRefIdeal.Read.val_main_v44, Cert.HeadsBwdRefIdeal.Read.val_main_v43, Cert.HeadsBwdRefIdeal.Read.val_main_v31, Cert.HeadsBwdRefIdeal.Read.val_main_v30, Cert.HeadsBwdRefIdeal.Read.val_main_v29, Cert.HeadsBwdRefIdeal.Read.val_main_v28, Cert.HeadsBwdRefIdeal.Read.val_main_v27, Cert.HeadsBwdRefIdeal.Read.val_main_v26, Cert.HeadsBwdRefIdeal.Read.val_main_v25, Cert.HeadsBwdRefIdeal.Read.val_main_v24, Cert.HeadsBwdRefIdeal.Read.val_main_v23, Cert.HeadsBwdRefIdeal.Read.val_main_v22, Cert.HeadsBwdRefIdeal.Read.val_main_v21, Cert.HeadsBwdRefIdeal.Read.val_main_v20, Cert.HeadsBwdRefIdeal.Read.val_main_v19, Cert.HeadsBwdRefIdeal.Read.val_main_v18, Cert.HeadsBwdRefIdeal.Read.val_main_v17, Cert.HeadsBwdRefIdeal.Read.val_main_v36, Cert.HeadsBwdRefIdeal.Read.val_main_v40, Cert.HeadsBwdRefIdeal.Read.val_main_v41, Cert.HeadsBwdRefIdeal.Read.val_main_cst, Cert.HeadsBwdRefIdeal.Read.val_main_cst_0, Cert.HeadsBwdRefIdeal.Read.val_main_cst_1, Cert.HeadsBwdRefIdeal.Read.val_main_cst_2, Cert.HeadsBwdRefIdeal.Read.val_main_cst_3, Cert.HeadsBwdRefIdeal.Read.val_main_cst_4, Cert.HeadsBwdRefIdeal.Read.val_main_cst_5, Cert.HeadsBwdRefIdeal.Read.val_main_cst_6, Cert.HeadsBwdRefIdeal.Read.val_main_cst_7, Cert.HeadsBwdRefIdeal.Read.val_main_cst_8, Cert.HeadsBwdRefIdeal.Read.val_main_cst_9, Cert.HeadsBwdRefIdeal.Read.val_main_cst_10, Cert.HeadsBwdRefIdeal.Read.val_main_cst_11, Cert.HeadsBwdRefIdeal.Read.val_main_cst_12, Cert.HeadsBwdRefIdeal.Read.val_main_cst_13, Cert.HeadsBwdRefIdeal.Read.val_main_cst_14, Cert.HeadsBwdRefIdeal.Read.val_main_cst_15, Cert.HeadsBwdRefIdeal.Read.val_main_cst_16]
  simp only [Fin.sum_univ_one]
  exact steps_grad word_1024 (by norm_num) word_neg_half s g (half 1024 (by decide) d) i _ rfl

theorem reference_da (a : FVec Ideal S4224x1024 .f32) (g : FVec Ideal S1x1024 .f32) (d : FVec Ideal S4224x2048 .f32) (i : S4224x1024.Idx) :
    Cert.HeadsBwdRefIdeal.Read.val_main_v77 (F := Ideal) a g d i = grad (Ideal.ofBits .f32 0x44800000#32) a g (half 0 (by decide) d) i := by
  rw [← steps_grad word_1024 (by norm_num) word_neg_half a g (half 0 (by decide) d) i _ rfl]
  pointwise [Cert.HeadsBwdRefIdeal.Read.val_main_v77, Cert.HeadsBwdRefIdeal.Read.val_main_v76, Cert.HeadsBwdRefIdeal.Read.val_main_v75, Cert.HeadsBwdRefIdeal.Read.val_main_v74, Cert.HeadsBwdRefIdeal.Read.val_main_v73, Cert.HeadsBwdRefIdeal.Read.val_main_v72, Cert.HeadsBwdRefIdeal.Read.val_main_v71, Cert.HeadsBwdRefIdeal.Read.val_main_v70, Cert.HeadsBwdRefIdeal.Read.val_main_v69, Cert.HeadsBwdRefIdeal.Read.val_main_v68, Cert.HeadsBwdRefIdeal.Read.val_main_v67, Cert.HeadsBwdRefIdeal.Read.val_main_v66, Cert.HeadsBwdRefIdeal.Read.val_main_v65, Cert.HeadsBwdRefIdeal.Read.val_main_v64, Cert.HeadsBwdRefIdeal.Read.val_main_v14, Cert.HeadsBwdRefIdeal.Read.val_main_v13, Cert.HeadsBwdRefIdeal.Read.val_main_v12, Cert.HeadsBwdRefIdeal.Read.val_main_v11, Cert.HeadsBwdRefIdeal.Read.val_main_v10, Cert.HeadsBwdRefIdeal.Read.val_main_v9, Cert.HeadsBwdRefIdeal.Read.val_main_v8, Cert.HeadsBwdRefIdeal.Read.val_main_v7, Cert.HeadsBwdRefIdeal.Read.val_main_v6, Cert.HeadsBwdRefIdeal.Read.val_main_v5, Cert.HeadsBwdRefIdeal.Read.val_main_v4, Cert.HeadsBwdRefIdeal.Read.val_main_v3, Cert.HeadsBwdRefIdeal.Read.val_main_v2, Cert.HeadsBwdRefIdeal.Read.val_main_v1, Cert.HeadsBwdRefIdeal.Read.val_main_v0, Cert.HeadsBwdRefIdeal.Read.val_main_v35, Cert.HeadsBwdRefIdeal.Read.val_main_v61, Cert.HeadsBwdRefIdeal.Read.val_main_v62, Cert.HeadsBwdRefIdeal.Read.val_main_cst, Cert.HeadsBwdRefIdeal.Read.val_main_cst_0, Cert.HeadsBwdRefIdeal.Read.val_main_cst_1, Cert.HeadsBwdRefIdeal.Read.val_main_cst_2, Cert.HeadsBwdRefIdeal.Read.val_main_cst_3, Cert.HeadsBwdRefIdeal.Read.val_main_cst_4, Cert.HeadsBwdRefIdeal.Read.val_main_cst_5, Cert.HeadsBwdRefIdeal.Read.val_main_cst_6, Cert.HeadsBwdRefIdeal.Read.val_main_cst_7, Cert.HeadsBwdRefIdeal.Read.val_main_cst_8, Cert.HeadsBwdRefIdeal.Read.val_main_cst_9, Cert.HeadsBwdRefIdeal.Read.val_main_cst_10, Cert.HeadsBwdRefIdeal.Read.val_main_cst_11, Cert.HeadsBwdRefIdeal.Read.val_main_cst_12, Cert.HeadsBwdRefIdeal.Read.val_main_cst_13, Cert.HeadsBwdRefIdeal.Read.val_main_cst_14, Cert.HeadsBwdRefIdeal.Read.val_main_cst_15, Cert.HeadsBwdRefIdeal.Read.val_main_cst_16]
  simp only [Fin.sum_univ_one, half, Nat.zero_add]
  rfl

theorem reference_dgs (s : FVec Ideal S4224x1024 .f32) (d : FVec Ideal S4224x2048 .f32) (i : S1x1024.Idx) :
    Cert.HeadsBwdRefIdeal.Read.val_main_v57 (F := Ideal) s d i = gain (Ideal.ofBits .f32 0x44800000#32) s (half 1024 (by decide) d) (i 1) := by
  pointwise [Cert.HeadsBwdRefIdeal.Read.val_main_v57, Cert.HeadsBwdRefIdeal.Read.val_main_v42, Cert.HeadsBwdRefIdeal.Read.val_main_v39, Cert.HeadsBwdRefIdeal.Read.val_main_v38, Cert.HeadsBwdRefIdeal.Read.val_main_v37, Cert.HeadsBwdRefIdeal.Read.val_main_v36, Cert.HeadsBwdRefIdeal.Read.val_main_v30, Cert.HeadsBwdRefIdeal.Read.val_main_v29, Cert.HeadsBwdRefIdeal.Read.val_main_v28, Cert.HeadsBwdRefIdeal.Read.val_main_v27, Cert.HeadsBwdRefIdeal.Read.val_main_v26, Cert.HeadsBwdRefIdeal.Read.val_main_v25, Cert.HeadsBwdRefIdeal.Read.val_main_v24, Cert.HeadsBwdRefIdeal.Read.val_main_v23, Cert.HeadsBwdRefIdeal.Read.val_main_v22, Cert.HeadsBwdRefIdeal.Read.val_main_v21, Cert.HeadsBwdRefIdeal.Read.val_main_v20, Cert.HeadsBwdRefIdeal.Read.val_main_v19, Cert.HeadsBwdRefIdeal.Read.val_main_v18, Cert.HeadsBwdRefIdeal.Read.val_main_cst, Cert.HeadsBwdRefIdeal.Read.val_main_cst_0, Cert.HeadsBwdRefIdeal.Read.val_main_cst_1, Cert.HeadsBwdRefIdeal.Read.val_main_cst_2, Cert.HeadsBwdRefIdeal.Read.val_main_cst_3, Cert.HeadsBwdRefIdeal.Read.val_main_cst_4, Cert.HeadsBwdRefIdeal.Read.val_main_cst_5, Cert.HeadsBwdRefIdeal.Read.val_main_cst_6, Cert.HeadsBwdRefIdeal.Read.val_main_cst_7, Cert.HeadsBwdRefIdeal.Read.val_main_cst_8, Cert.HeadsBwdRefIdeal.Read.val_main_cst_9, Cert.HeadsBwdRefIdeal.Read.val_main_cst_10, Cert.HeadsBwdRefIdeal.Read.val_main_cst_11, Cert.HeadsBwdRefIdeal.Read.val_main_cst_12, Cert.HeadsBwdRefIdeal.Read.val_main_cst_13, Cert.HeadsBwdRefIdeal.Read.val_main_cst_14, Cert.HeadsBwdRefIdeal.Read.val_main_cst_15, Cert.HeadsBwdRefIdeal.Read.val_main_cst_16]
  rw [Fin.sum_univ_one]
  exact Finset.sum_congr rfl fun k _ => mul_comm _ _

theorem reference_dga (a : FVec Ideal S4224x1024 .f32) (d : FVec Ideal S4224x2048 .f32) (i : S1x1024.Idx) :
    Cert.HeadsBwdRefIdeal.Read.val_main_v78 (F := Ideal) a d i = gain (Ideal.ofBits .f32 0x44800000#32) a (half 0 (by decide) d) (i 1) := by
  pointwise [Cert.HeadsBwdRefIdeal.Read.val_main_v78, Cert.HeadsBwdRefIdeal.Read.val_main_v63, Cert.HeadsBwdRefIdeal.Read.val_main_v60, Cert.HeadsBwdRefIdeal.Read.val_main_v59, Cert.HeadsBwdRefIdeal.Read.val_main_v58, Cert.HeadsBwdRefIdeal.Read.val_main_v35, Cert.HeadsBwdRefIdeal.Read.val_main_v13, Cert.HeadsBwdRefIdeal.Read.val_main_v12, Cert.HeadsBwdRefIdeal.Read.val_main_v11, Cert.HeadsBwdRefIdeal.Read.val_main_v10, Cert.HeadsBwdRefIdeal.Read.val_main_v9, Cert.HeadsBwdRefIdeal.Read.val_main_v8, Cert.HeadsBwdRefIdeal.Read.val_main_v7, Cert.HeadsBwdRefIdeal.Read.val_main_v6, Cert.HeadsBwdRefIdeal.Read.val_main_v5, Cert.HeadsBwdRefIdeal.Read.val_main_v4, Cert.HeadsBwdRefIdeal.Read.val_main_v3, Cert.HeadsBwdRefIdeal.Read.val_main_v2, Cert.HeadsBwdRefIdeal.Read.val_main_v1, Cert.HeadsBwdRefIdeal.Read.val_main_cst, Cert.HeadsBwdRefIdeal.Read.val_main_cst_0, Cert.HeadsBwdRefIdeal.Read.val_main_cst_1, Cert.HeadsBwdRefIdeal.Read.val_main_cst_2, Cert.HeadsBwdRefIdeal.Read.val_main_cst_3, Cert.HeadsBwdRefIdeal.Read.val_main_cst_4, Cert.HeadsBwdRefIdeal.Read.val_main_cst_5, Cert.HeadsBwdRefIdeal.Read.val_main_cst_6, Cert.HeadsBwdRefIdeal.Read.val_main_cst_7, Cert.HeadsBwdRefIdeal.Read.val_main_cst_8, Cert.HeadsBwdRefIdeal.Read.val_main_cst_9, Cert.HeadsBwdRefIdeal.Read.val_main_cst_10, Cert.HeadsBwdRefIdeal.Read.val_main_cst_11, Cert.HeadsBwdRefIdeal.Read.val_main_cst_12, Cert.HeadsBwdRefIdeal.Read.val_main_cst_13, Cert.HeadsBwdRefIdeal.Read.val_main_cst_14, Cert.HeadsBwdRefIdeal.Read.val_main_cst_15, Cert.HeadsBwdRefIdeal.Read.val_main_cst_16]
  rw [Fin.sum_univ_one]
  unfold gain half
  refine Finset.sum_congr rfl fun k _ => (mul_comm _ _).trans (congrArg₂ (fun a b : EReal => a * b) (congrArg d (congrArg (ix2 k) (Fin.ext ?_))) rfl)
  exact (Nat.zero_add _).symm

theorem equal : Cert.algebraic_HeadsBwdIdeal_HeadsBwdRefIdeal := fun m ρ m' ρ' _ harg => by
  refine ⟨fun c => (dats m 0 c).arrAt 5 cfg0.N, fun c => (dats m 0 c).arrAt 6 cfg0.N, fun c => (dats m 0 c).arrAt 7 cfg0.N,
    fun c => (dats m 0 c).arrAt 8 cfg0.N, Value.run_blocks m ρ,
    (θ_run Cert.HeadsBwdRefIdeal.defs _ _).mono (fun r h c => ⟨?_, ?_, ?_, ?_, (h c).2.2.2.2⟩) (Cert.HeadsBwdRefIdeal.Value.run (F := Ideal) m' ρ')⟩
  · rw [(h c).1, Cert.HeadsBwdRefIdeal.Read.val_main_v77_eq, (harg c).1, (harg c).2.2.1, (harg c).2.2.2.2]
    exact (funext fun i => reference_da _ _ _ i).trans (final_da m c).symm
  · rw [(h c).2.1, Cert.HeadsBwdRefIdeal.Read.val_main_v56_eq, (harg c).2.1, (harg c).2.2.2.1, (harg c).2.2.2.2]
    exact (funext fun i => reference_ds _ _ _ i).trans (final_ds m c).symm
  · rw [(h c).2.2.1, Cert.HeadsBwdRefIdeal.Read.val_main_v78_eq, (harg c).1, (harg c).2.2.2.2]
    exact (funext fun i => reference_dga _ _ i).trans (final_dga m c).symm
  · rw [(h c).2.2.2.1, Cert.HeadsBwdRefIdeal.Read.val_main_v57_eq, (harg c).2.1, (harg c).2.2.2.2]
    exact (funext fun i => reference_dgs _ _ i).trans (final_dgs m c).symm

theorem frame_reference : Cert.quiescent_HeadsBwdRefIdeal := fun m ρ _ =>
  (θ_run Cert.HeadsBwdRefIdeal.defs _ _).mono (fun r h => ⟨fun c => (h c).2.2.2.2, sem_eq_zero_of_no_sems (by decide) r.2⟩)
    (Cert.HeadsBwdRefIdeal.Value.run (F := Ideal) m ρ)

end Cert.HeadsBwdIdeal.Mm

end
-- ==== Proof.NormKeys.lean ====
/- The gradient of the keys' norm, pasted with the values' gradient into the projection's gradient. -/
module

public import proofs.«01_k».proof.Defs
public import proofs.«01_k».proof.Proof.Gen.KNormBwdIdeal.Value
public import proofs.«01_k».proof.Proof.Gen.KNormBwdRefIdeal.Read
public import Idealize.ShloMosaic.Lib.Pipeline.ValueKit
public import Idealize.ShloMosaic.Lib.Pointwise
public import Idealize.ShloMosaic.Lib.Pipeline.ReadBack
public import proofs.«01_k».proof.Proof.MmSum
public import proofs.«01_k».proof.Proof.NormMath

@[expose] public section

set_option maxRecDepth 16384

noncomputable section

open Idealize.ShloMosaic Idealize.ShloMosaic.TcCoe Idealize.ShloMosaic.Tactic Idealize.ShloMosaic.Pointwise Idealize.SL.Sem

namespace Cert.KNormBwdIdeal.Mm

open Cert.KNormBwdIdeal Cert.KNormBwdIdeal.Gen

variable (m : (ℓ : Loc nD τ sig) → Buf (Elt Ideal) ℓ) (c : Dev nD)

open Cert.Norm

theorem idx : ∀ t : Fin cfg0.N, win0_0.index t = ![t.val, 4] ∧ win0_1.index t = ![t.val, 0] ∧ win0_2.index t = ![t.val, 0]
    ∧ win0_3.index t = ![0, 0] ∧ win0_4.index t = ![t.val, 2] ∧ win0_5.index t = ![0, 0] :=
  (by decide +kernel : ∀ t : Fin grid0.N, _)

/-- The 64 columns from `o` on: one head. -/
def head {R C : ℕ} (o : ℕ) (ho : o + 64 ≤ C) (x : (⟨2, ![R, C]⟩ : Shape).Idx → EReal) (i : (⟨2, ![R, 64]⟩ : Shape).Idx) : EReal :=
  x (ix2 (i 0) ⟨o + (i 1).val, Nat.lt_of_lt_of_le (Nat.add_lt_add_left (i 1).isLt o) ho⟩)

theorem read_head0 (x : Vec Ideal S384x256 .f32) :
    View.ld x (Rect.unit ![0, 0] ![384, 64] inb_S384x256_S384x64_0_0) = head 0 (by decide) x := by
  funext y
  pointwise []
  unfold head
  exact congrArg x (congrArg (ix2 (y 0)) (Fin.ext (Nat.zero_add _).symm))

theorem read_head1 (x : Vec Ideal S384x256 .f32) :
    View.ld x (Rect.unit ![0, 64] ![384, 64] inb_S384x256_S384x64_0_64) = head 64 (by decide) x := by
  funext y
  pointwise []
  rfl

theorem read_head2 (x : Vec Ideal S384x256 .f32) :
    View.ld x (Rect.unit ![0, 128] ![384, 64] inb_S384x256_S384x64_0_128) = head 128 (by decide) x := by
  funext y
  pointwise []
  rfl

theorem read_head3 (x : Vec Ideal S384x256 .f32) :
    View.ld x (Rect.unit ![0, 192] ![384, 64] inb_S384x256_S384x64_0_192) = head 192 (by decide) x := by
  funext y
  pointwise []
  rfl

/-- The heads' width. -/
abbrev n64 : EReal := Ideal.ofBits .f32 0x42800000#32

/-- A row's share of the gain's gradient, in one head. -/
abbrev share {R : ℕ} (x d : (⟨2, ![R, 64]⟩ : Shape).Idx → EReal) (r : Fin R) (j : Fin 64) : EReal :=
  d (ix2 r j) * (x (ix2 r j) * scale n64 x r)

theorem pay8_apply (x d : Vec Ideal S384x64 .f32) (g : Vec Ideal S1x64 .f32) (y : S384x64.Idx) : k0_pay8 x d g y = grad n64 x g d y := by
  pointwise [k0_pay8, k0_pay6, k0_pay5]
  rfl

theorem pay12_apply (x d : Vec Ideal S384x64 .f32) (g : Vec Ideal S1x64 .f32) (y : S384x64.Idx) : k0_pay12 x d g y = grad n64 x g d y := by
  pointwise [k0_pay12, k0_pay10, k0_pay9]
  rfl

theorem pay15_apply (x d : Vec Ideal S384x64 .f32) (g : Vec Ideal S1x64 .f32) (y : S384x64.Idx) :
    k0_pay15 d (k0_pay13 x) (k0_pay14 x) g y = grad n64 x g d y := by
  pointwise [k0_pay15, k0_pay14, k0_pay13]
  rfl

theorem pay1_apply (x d : Vec Ideal S384x64 .f32) (g : Vec Ideal S1x64 .f32) (y : S384x64.Idx) :
    k0_pay1 (k0_pay16 x) (k0_pay17 x) (k0_pay19 d g) (k0_pay20 x d g) y = grad n64 x g d y := by
  pointwise [k0_pay1, k0_pay20, k0_pay19, k0_pay17, k0_pay16]
  rfl

theorem pay2_apply (x : Vec Ideal S384x256 .f32) (y : S384x256.Idx) : k0_pay2 x y = x y := by
  pointwise [k0_pay2]

theorem pay4_apply (y : S1x64.Idx) : k0_pay4 (F := Ideal) y = 0 := by
  pointwise [k0_pay4]

theorem pay3_apply (g a : Vec Ideal S1x64 .f32) (y : S1x64.Idx) : k0_pay3 g a y = a y + g y := by
  pointwise [k0_pay3]

theorem gain_apply (x0 x1 x2 x3 d0 d1 d2 d3 : Vec Ideal S384x64 .f32) (y : S1x64.Idx) :
    k0_pay18 (k0_pay11 (k0_pay7 x0 d0) x1 d1) d2 (k0_pay14 x2) x3 d3 y
      = ∑ k : Fin 384, (share x0 d0 k (y 1) + share x1 d1 k (y 1) + share x2 d2 k (y 1) + share x3 d3 k (y 1)) := by
  rw [Finset.sum_add_distrib, Finset.sum_add_distrib, Finset.sum_add_distrib]
  pointwise [k0_pay18, k0_pay17, k0_pay16, k0_pay14, k0_pay13, k0_pay11, k0_pay10, k0_pay9, k0_pay7, k0_pay6, k0_pay5]
  refine congrArg₂ (fun a b : EReal => a + b) (congrArg₂ (fun a b : EReal => a + b) (congrArg₂ (fun a b : EReal => a + b) ?_ rfl) rfl) rfl
  rfl

/-- The four heads of 64 columns from `o` on, each head of each row a row. -/
def headRows {C : ℕ} (o : ℕ) (ho : o + 256 ≤ C) (x : (⟨2, ![4224, C]⟩ : Shape).Idx → EReal) (i : (⟨2, ![16896, 64]⟩ : Shape).Idx) : EReal :=
  x (ix2 ⟨(i 0).val / 4, by have := (i 0).isLt; change _ < 16896 at this; omega⟩
    ⟨o + (64 * ((i 0).val % 4) + (i 1).val), by have := (i 1).isLt; change _ < 64 at this; omega⟩)

/-- What is left in the projection's gradient: the keys' and the values' columns replaced. -/
def pasted (p : S4224x2560.Idx → EReal) (dk dv : S4224x256.Idx → EReal) (g : S1x64.Idx → EReal) (b : S4224x2560.Idx → EReal) (i : S4224x2560.Idx) : EReal :=
  if h : (i 1).val < 1024 then b i
  else if h1 : (i 1).val - 1024 < 256 then
    grad n64 (headRows 1024 (by decide) p) g (headRows 0 (by decide) dk)
      (ix2 ⟨4 * (i 0).val + ((i 1).val - 1024) / 64, by have := (i 0).isLt; change _ < 4224 at this; omega⟩
        ⟨((i 1).val - 1024) % 64, Nat.mod_lt _ (by decide)⟩)
  else if h2 : (i 1).val - 1024 - 256 < 256 then dv (ix2 (i 0) ⟨(i 1).val - 1024 - 256, h2⟩)
  else b i

theorem ref_keys (p : FVec Ideal S4224x2560 .f32) : Cert.KNormBwdRefIdeal.Read.val_main_v1 (F := Ideal) p = headRows 1024 (by decide) p := by
  funext i
  pointwise [Cert.KNormBwdRefIdeal.Read.val_main_v1, Cert.KNormBwdRefIdeal.Read.val_main_v0]
  unfold headRows
  have h0 := (i 0).isLt
  have h1 := (i 1).isLt
  change _ < 16896 at h0
  change _ < 64 at h1
  refine congrArg p (congrArg₂ ix2 (Fin.ext ?_) (Fin.ext ?_)) <;> dsimp only <;> omega

theorem ref_cotangent (d : FVec Ideal S4224x256 .f32) : Cert.KNormBwdRefIdeal.Read.val_main_v19 (F := Ideal) d = headRows 0 (by decide) d := by
  funext i
  pointwise [Cert.KNormBwdRefIdeal.Read.val_main_v19]
  unfold headRows
  have h0 := (i 0).isLt
  have h1 := (i 1).isLt
  change _ < 16896 at h0
  change _ < 64 at h1
  refine congrArg d (congrArg₂ ix2 (Fin.ext ?_) (Fin.ext ?_)) <;> dsimp only <;> omega

theorem word_64 : n64 = ((64 : ℝ) : EReal) := by
  simp [n64, Ideal.ofBits, Ideal.ieee, -EReal.coe_mul]
  norm_num

theorem ref_grad (p : FVec Ideal S4224x2560 .f32) (dk : FVec Ideal S4224x256 .f32) (g : FVec Ideal S1x64 .f32) (i : (⟨2, ![16896, 64]⟩ : Shape).Idx) :
    Cert.KNormBwdRefIdeal.Read.val_main_v39 (F := Ideal) p dk g i = grad n64 (headRows 1024 (by decide) p) g (headRows 0 (by decide) dk) i := by
  rw [← steps_grad word_64 (by norm_num) word_neg_half (headRows 1024 (by decide) p) g (headRows 0 (by decide) dk) i _ rfl, ← ref_keys, ← ref_cotangent]
  pointwise [Cert.KNormBwdRefIdeal.Read.val_main_v39, Cert.KNormBwdRefIdeal.Read.val_main_v38, Cert.KNormBwdRefIdeal.Read.val_main_v37, Cert.KNormBwdRefIdeal.Read.val_main_v36, Cert.KNormBwdRefIdeal.Read.val_main_v35, Cert.KNormBwdRefIdeal.Read.val_main_v34, Cert.KNormBwdRefIdeal.Read.val_main_cst_7, Cert.KNormBwdRefIdeal.Read.val_main_v33, Cert.KNormBwdRefIdeal.Read.val_main_v32, Cert.KNormBwdRefIdeal.Read.val_main_cst_6, Cert.KNormBwdRefIdeal.Read.val_main_v31, Cert.KNormBwdRefIdeal.Read.val_main_v30, Cert.KNormBwdRefIdeal.Read.val_main_v29, Cert.KNormBwdRefIdeal.Read.val_main_v28, Cert.KNormBwdRefIdeal.Read.val_main_v27, Cert.KNormBwdRefIdeal.Read.val_main_cst_5, Cert.KNormBwdRefIdeal.Read.val_main_v26, Cert.KNormBwdRefIdeal.Read.val_main_v25, Cert.KNormBwdRefIdeal.Read.val_main_cst_4, Cert.KNormBwdRefIdeal.Read.val_main_v24, Cert.KNormBwdRefIdeal.Read.val_main_v23, Cert.KNormBwdRefIdeal.Read.val_main_v22, Cert.KNormBwdRefIdeal.Read.val_main_v21, Cert.KNormBwdRefIdeal.Read.val_main_cst_3, Cert.KNormBwdRefIdeal.Read.val_main_v20, Cert.KNormBwdRefIdeal.Read.val_main_v18, Cert.KNormBwdRefIdeal.Read.val_main_v17, Cert.KNormBwdRefIdeal.Read.val_main_v16, Cert.KNormBwdRefIdeal.Read.val_main_v15, Cert.KNormBwdRefIdeal.Read.val_main_v14, Cert.KNormBwdRefIdeal.Read.val_main_v13, Cert.KNormBwdRefIdeal.Read.val_main_v12, Cert.KNormBwdRefIdeal.Read.val_main_cst_2, Cert.KNormBwdRefIdeal.Read.val_main_v11, Cert.KNormBwdRefIdeal.Read.val_main_v10, Cert.KNormBwdRefIdeal.Read.val_main_v9, Cert.KNormBwdRefIdeal.Read.val_main_v8, Cert.KNormBwdRefIdeal.Read.val_main_cst_1, Cert.KNormBwdRefIdeal.Read.val_main_v7, Cert.KNormBwdRefIdeal.Read.val_main_v6, Cert.KNormBwdRefIdeal.Read.val_main_cst_0, Cert.KNormBwdRefIdeal.Read.val_main_v5, Cert.KNormBwdRefIdeal.Read.val_main_v4, Cert.KNormBwdRefIdeal.Read.val_main_cst, Cert.KNormBwdRefIdeal.Read.val_main_v3, Cert.KNormBwdRefIdeal.Read.val_main_v2]
  simp only [Fin.sum_univ_one]

theorem ref_gain (p : FVec Ideal S4224x2560 .f32) (dk : FVec Ideal S4224x256 .f32) (i : S1x64.Idx) :
    Cert.KNormBwdRefIdeal.Read.val_main_v40 (F := Ideal) p dk i = gain n64 (headRows 1024 (by decide) p) (headRows 0 (by decide) dk) (i 1) := by
  rw [← ref_keys, ← ref_cotangent]
  pointwise [Cert.KNormBwdRefIdeal.Read.val_main_v40, Cert.KNormBwdRefIdeal.Read.val_main_v39, Cert.KNormBwdRefIdeal.Read.val_main_v38, Cert.KNormBwdRefIdeal.Read.val_main_v37, Cert.KNormBwdRefIdeal.Read.val_main_v36, Cert.KNormBwdRefIdeal.Read.val_main_v35, Cert.KNormBwdRefIdeal.Read.val_main_v34, Cert.KNormBwdRefIdeal.Read.val_main_cst_7, Cert.KNormBwdRefIdeal.Read.val_main_v33, Cert.KNormBwdRefIdeal.Read.val_main_v32, Cert.KNormBwdRefIdeal.Read.val_main_cst_6, Cert.KNormBwdRefIdeal.Read.val_main_v31, Cert.KNormBwdRefIdeal.Read.val_main_v30, Cert.KNormBwdRefIdeal.Read.val_main_v29, Cert.KNormBwdRefIdeal.Read.val_main_v28, Cert.KNormBwdRefIdeal.Read.val_main_v27, Cert.KNormBwdRefIdeal.Read.val_main_cst_5, Cert.KNormBwdRefIdeal.Read.val_main_v26, Cert.KNormBwdRefIdeal.Read.val_main_v25, Cert.KNormBwdRefIdeal.Read.val_main_cst_4, Cert.KNormBwdRefIdeal.Read.val_main_v24, Cert.KNormBwdRefIdeal.Read.val_main_v23, Cert.KNormBwdRefIdeal.Read.val_main_v22, Cert.KNormBwdRefIdeal.Read.val_main_v21, Cert.KNormBwdRefIdeal.Read.val_main_cst_3, Cert.KNormBwdRefIdeal.Read.val_main_v20, Cert.KNormBwdRefIdeal.Read.val_main_v18, Cert.KNormBwdRefIdeal.Read.val_main_v17, Cert.KNormBwdRefIdeal.Read.val_main_v16, Cert.KNormBwdRefIdeal.Read.val_main_v15, Cert.KNormBwdRefIdeal.Read.val_main_v14, Cert.KNormBwdRefIdeal.Read.val_main_v13, Cert.KNormBwdRefIdeal.Read.val_main_v12, Cert.KNormBwdRefIdeal.Read.val_main_cst_2, Cert.KNormBwdRefIdeal.Read.val_main_v11, Cert.KNormBwdRefIdeal.Read.val_main_v10, Cert.KNormBwdRefIdeal.Read.val_main_v9, Cert.KNormBwdRefIdeal.Read.val_main_v8, Cert.KNormBwdRefIdeal.Read.val_main_cst_1, Cert.KNormBwdRefIdeal.Read.val_main_v7, Cert.KNormBwdRefIdeal.Read.val_main_v6, Cert.KNormBwdRefIdeal.Read.val_main_cst_0, Cert.KNormBwdRefIdeal.Read.val_main_v5, Cert.KNormBwdRefIdeal.Read.val_main_v4, Cert.KNormBwdRefIdeal.Read.val_main_cst, Cert.KNormBwdRefIdeal.Read.val_main_v3, Cert.KNormBwdRefIdeal.Read.val_main_v2]
  rw [Fin.sum_univ_one]
  exact Finset.sum_congr rfl fun k _ => mul_comm _ _

theorem ref_v41 (b : FVec Ideal S4224x2560 .bf16) (r : Fin 4224) (q : Fin 2560) (h : q.val < 1024) :
    Cert.KNormBwdRefIdeal.Read.val_main_v41 (F := Ideal) b (ix2 r ⟨q.val, h⟩) = b (ix2 r q) := by
  pointwise [Cert.KNormBwdRefIdeal.Read.val_main_v41]
  try exact congrArg b (congrArg (ix2 r) (Fin.ext (by dsimp only; omega)))

theorem ref_v45 (b : FVec Ideal S4224x2560 .bf16) (r : Fin 4224) (q : Fin 2560) (h' : 1536 ≤ q.val) (h : q.val - 1024 - 256 - 256 < 1024) :
    Cert.KNormBwdRefIdeal.Read.val_main_v45 (F := Ideal) b (ix2 r ⟨q.val - 1024 - 256 - 256, h⟩) = b (ix2 r q) := by
  pointwise [Cert.KNormBwdRefIdeal.Read.val_main_v45]
  exact congrArg b (congrArg (ix2 r) (Fin.ext (by dsimp only; omega)))

theorem ref_v44 (d : FVec Ideal S4224x256 .f32) (i : S4224x256.Idx) : Cert.KNormBwdRefIdeal.Read.val_main_v44 (F := Ideal) d i = d i := by
  pointwise [Cert.KNormBwdRefIdeal.Read.val_main_v44]

theorem ref_v43 (p : FVec Ideal S4224x2560 .f32) (dk : FVec Ideal S4224x256 .f32) (g : FVec Ideal S1x64 .f32) (r : Fin 4224) (q : Fin 256) :
    Cert.KNormBwdRefIdeal.Read.val_main_v43 (F := Ideal) p dk g (ix2 r q)
      = grad n64 (headRows 1024 (by decide) p) g (headRows 0 (by decide) dk)
          (ix2 ⟨4 * r.val + q.val / 64, by have := r.isLt; have := q.isLt; omega⟩ ⟨q.val % 64, Nat.mod_lt _ (by decide)⟩) := by
  rw [← ref_grad]
  pointwise [Cert.KNormBwdRefIdeal.Read.val_main_v43, Cert.KNormBwdRefIdeal.Read.val_main_v42]
  have h0 := r.isLt
  have h1 := q.isLt
  refine congrArg (Cert.KNormBwdRefIdeal.Read.val_main_v39 (F := Ideal) p dk g) (congrArg₂ ix2 (Fin.ext ?_) (Fin.ext ?_)) <;> dsimp only <;> omega

theorem ref_pasted (p : FVec Ideal S4224x2560 .f32) (dk dv : FVec Ideal S4224x256 .f32) (g : FVec Ideal S1x64 .f32) (b : FVec Ideal S4224x2560 .bf16) (i : S4224x2560.Idx) :
    Cert.KNormBwdRefIdeal.Read.val_main_v46 (F := Ideal) p dk dv g b i = pasted p dk dv g b i := by
  obtain ⟨r, q, rfl⟩ : ∃ (r : Fin 4224) (q : Fin 2560), i = ix2 r q := ⟨i 0, i 1, eq_ix2 i⟩
  pointwise [Cert.KNormBwdRefIdeal.Read.val_main_v46]
  have h1 := q.isLt
  have hp : pasted p dk dv g b (ix2 r q)
      = if h : q.val < 1024 then b (ix2 r q)
        else if h1 : q.val - 1024 < 256 then
          grad n64 (headRows 1024 (by decide) p) g (headRows 0 (by decide) dk)
            (ix2 ⟨4 * r.val + (q.val - 1024) / 64, by have := r.isLt; omega⟩ ⟨(q.val - 1024) % 64, Nat.mod_lt _ (by decide)⟩)
        else if h2 : q.val - 1024 - 256 < 256 then dv (ix2 r ⟨q.val - 1024 - 256, h2⟩)
        else b (ix2 r q) := rfl
  rw [hp]
  by_cases ha : q.val < 1024
  · rw [dif_pos ha, dif_pos ha]
    exact ref_v41 b r q ha
  rw [dif_neg ha, dif_neg ha]
  by_cases hb : q.val - 1024 < 256
  · rw [dif_pos hb, dif_pos hb]
    exact ref_v43 p dk g r _
  rw [dif_neg hb, dif_neg hb]
  by_cases hc : q.val - 1024 - 256 < 256
  · rw [dif_pos hc, dif_pos hc]
    exact ref_v44 dv _
  · rw [dif_neg hc, dif_neg hc]
    exact ref_v45 b r q (by omega) (by omega)

/-- The block's stores. -/
def pieces (t : Fin cfg0.N) : List (View.Piece (Elt Ideal) S384x512 .bf16) :=
  [⟨Rect.unit ![0, 256] ![384, 256] inb_S384x512_S384x256_0_256, k0_pay2 (iblk m c 2 t)⟩,
    ⟨Rect.unit ![0, 192] ![384, 64] inb_S384x512_S384x64_0_192,
      k0_pay1 (k0_pay16 (View.ld (iblk m c 0 t) (Rect.unit ![0, 192] ![384, 64] inb_S384x256_S384x64_0_192)))
        (k0_pay17 (View.ld (iblk m c 0 t) (Rect.unit ![0, 192] ![384, 64] inb_S384x256_S384x64_0_192)))
        (k0_pay19 (View.ld (iblk m c 1 t) (Rect.unit ![0, 192] ![384, 64] inb_S384x256_S384x64_0_192)) (iblk m c 3 t))
        (k0_pay20 (View.ld (iblk m c 0 t) (Rect.unit ![0, 192] ![384, 64] inb_S384x256_S384x64_0_192))
          (View.ld (iblk m c 1 t) (Rect.unit ![0, 192] ![384, 64] inb_S384x256_S384x64_0_192)) (iblk m c 3 t))⟩,
    ⟨Rect.unit ![0, 128] ![384, 64] inb_S384x512_S384x64_0_128,
      k0_pay15 (View.ld (iblk m c 1 t) (Rect.unit ![0, 128] ![384, 64] inb_S384x256_S384x64_0_128))
        (k0_pay13 (View.ld (iblk m c 0 t) (Rect.unit ![0, 128] ![384, 64] inb_S384x256_S384x64_0_128)))
        (k0_pay14 (View.ld (iblk m c 0 t) (Rect.unit ![0, 128] ![384, 64] inb_S384x256_S384x64_0_128))) (iblk m c 3 t)⟩,
    ⟨Rect.unit ![0, 64] ![384, 64] inb_S384x512_S384x64_0_64,
      k0_pay12 (View.ld (iblk m c 0 t) (Rect.unit ![0, 64] ![384, 64] inb_S384x256_S384x64_0_64))
        (View.ld (iblk m c 1 t) (Rect.unit ![0, 64] ![384, 64] inb_S384x256_S384x64_0_64)) (iblk m c 3 t)⟩,
    ⟨Rect.unit ![0, 0] ![384, 64] inb_S384x512_S384x64_0_0,
      k0_pay8 (View.ld (iblk m c 0 t) (Rect.unit ![0, 0] ![384, 64] inb_S384x256_S384x64_0_0))
        (View.ld (iblk m c 1 t) (Rect.unit ![0, 0] ![384, 64] inb_S384x256_S384x64_0_0)) (iblk m c 3 t)⟩]

theorem out_dx (t : Fin cfg0.N) : (outsAt0 m c t.val t.isLt).1 = View.canon (pieces m c t) := by
  by_cases h : t.val % 11 = 0
  · rw [outsAt0_A m c t h]
    frame_out
    rfl
  · rw [outsAt0_B m c t h]
    frame_out
    rfl

/-- A block's share of the gain's gradient. -/
def added (t : Fin cfg0.N) (j : Fin 64) : EReal :=
  ∑ k : Fin 384, (share (head 0 (by decide) (iblk m c 0 t : Vec Ideal S384x256 .f32)) (head 0 (by decide) (iblk m c 1 t : Vec Ideal S384x256 .f32)) k j
    + share (head 64 (by decide) (iblk m c 0 t : Vec Ideal S384x256 .f32)) (head 64 (by decide) (iblk m c 1 t : Vec Ideal S384x256 .f32)) k j
    + share (head 128 (by decide) (iblk m c 0 t : Vec Ideal S384x256 .f32)) (head 128 (by decide) (iblk m c 1 t : Vec Ideal S384x256 .f32)) k j
    + share (head 192 (by decide) (iblk m c 0 t : Vec Ideal S384x256 .f32)) (head 192 (by decide) (iblk m c 1 t : Vec Ideal S384x256 .f32)) k j)

/-- The same, a head row at a time: row `k` is head `k % 4` of the block's row `k / 4`. -/
def shareAt (t : Fin cfg0.N) (j : Fin 64) (k : Fin 1536) : EReal :=
  share (headRows 1024 (by decide) (m ((c : Thread nD τ).loc main_arg0))) (headRows 0 (by decide) (m ((c : Thread nD τ).loc main_arg1)))
    ⟨t.val * 1536 + k.val, by have := t.isLt; have := k.isLt; have h : cfg0.N = 11 := N_0; omega⟩ j

theorem head_block (o : ℕ) (ho : o + 64 ≤ 256) (kh : ℕ) (hk : kh < 4) (e : o = 64 * kh) (t : Fin cfg0.N) (k : Fin 384) (j : Fin 64)
    (hq : t.val * 1536 + (k.val * 4 + kh) < 16896) :
    head o ho (iblk m c 0 t : Vec Ideal S384x256 .f32) (ix2 k j)
        = headRows 1024 (by decide) (m ((c : Thread nD τ).loc main_arg0)) (ix2 ⟨t.val * 1536 + (k.val * 4 + kh), hq⟩ j)
    ∧ head o ho (iblk m c 1 t : Vec Ideal S384x256 .f32) (ix2 k j)
        = headRows 0 (by decide) (m ((c : Thread nD τ).loc main_arg1)) (ix2 ⟨t.val * 1536 + (k.val * 4 + kh), hq⟩ j) := by
  subst e
  have e := idx t
  have h0 := k.isLt
  have h1 := j.isLt
  unfold head headRows
  constructor <;> blk_ext [iblk, V, e]

theorem share_block (o : ℕ) (ho : o + 64 ≤ 256) (kh : ℕ) (hk : kh < 4) (e : o = 64 * kh) (t : Fin cfg0.N) (k : Fin 384) (j : Fin 64) :
    share (head o ho (iblk m c 0 t : Vec Ideal S384x256 .f32)) (head o ho (iblk m c 1 t : Vec Ideal S384x256 .f32)) k j
      = shareAt m c t j ⟨k.val * 4 + kh, by have := k.isLt; omega⟩ := by
  have hq : t.val * 1536 + (k.val * 4 + kh) < 16896 := by have := t.isLt; have := k.isLt; have h : cfg0.N = 11 := N_0; omega
  unfold shareAt
  exact congrArg₂ (fun a b : EReal => a * b) (head_block m c o ho kh hk e t k j hq).2
    (congrArg₂ (fun a b : EReal => a * b) (head_block m c o ho kh hk e t k j hq).1
      (scale_congr _ fun l => (head_block m c o ho kh hk e t k l hq).1))

theorem added_eq (t : Fin cfg0.N) (j : Fin 64) : added m c t j = ∑ k : Fin 1536, shareAt m c t j k := by
  unfold added
  rw [← Fin.sum_mul_add_congr (M := EReal) (L := 1536) (S := 384) (n := 4) (f := shareAt m c t j)
    (F := fun k kh => shareAt m c t j ⟨k.val * 4 + kh.val, by have := k.isLt; have := kh.isLt; omega⟩) (fun k kh hl => rfl) rfl]
  refine Finset.sum_congr rfl fun k _ => ?_
  rw [share_block m c 0 _ 0 (by decide) rfl, share_block m c 64 _ 1 (by decide) rfl, share_block m c 128 _ 2 (by decide) rfl,
    share_block m c 192 _ 3 (by decide) rfl]
  rw [Fin.sum_univ_four]
  rfl

theorem acc_reset (t : Fin cfg0.N) (h : t.val % 11 = 0) (y : S1x64.Idx) :
    (outsAt0 m c t.val t.isLt).2 y = 0 + ∑ k : Fin 1536, shareAt m c t (y 1) k := by
  rw [outsAt0_A m c t h]
  refine Eq.trans ?_ (congrArg (fun s : EReal => 0 + s) (added_eq m c t (y 1)))
  frame_out
  rw [pay3_apply, pay4_apply, gain_apply, read_head0, read_head0, read_head1, read_head1, read_head2, read_head2, read_head3, read_head3]
  rfl

theorem acc_step (t : Fin cfg0.N) (h : ¬t.val % 11 = 0) (y : S1x64.Idx) :
    (outsAt0 m c t.val t.isLt).2 y
      = (outsAt0 m c (t.val - 1) (Nat.lt_of_le_of_lt (Nat.sub_le _ _) t.isLt)).2 y + ∑ k : Fin 1536, shareAt m c t (y 1) k := by
  rw [outsAt0_B m c t h]
  refine Eq.trans ?_ (congrArg (fun s : EReal => (outsAt0 m c (t.val - 1) (Nat.lt_of_le_of_lt (Nat.sub_le _ _) t.isLt)).2 y + s) (added_eq m c t (y 1)))
  frame_out
  rw [pay3_apply, gain_apply, read_head0, read_head0, read_head1, read_head1, read_head2, read_head2, read_head3, read_head3]
  rfl

theorem final_dg : (dats m 0 c).arrAt 5 cfg0.N
    = fun i : S1x64.Idx => gain n64 (headRows 1024 (by decide) (m ((c : Thread nD τ).loc main_arg0)))
        (headRows 0 (by decide) (m ((c : Thread nD τ).loc main_arg1))) (i 1) := by
  refine (dats m 0 c).arrAt_eq_of_covers 5 _ (by decide +kernel) fun t hf y => ?_
  have hl : t.val % 11 = 10 := (flush0_5 t).mp hf
  blk_simp
  rw [after0_5]
  refine Cert.Mm.blocked_sum (J := 11) (n := 1536) (fun n h => (outsAt0 m c n h).2 _)
    (fun t k => shareAt m c t (y 1) k) _
    (fun t h => acc_reset m c t h _) (fun t h => acc_step m c t h _) t hl rfl (fun s k hp' hl => ?_)
  have hs := s.isLt
  have ht := t.isLt
  have hN : cfg0.N = 11 := N_0
  have h0 : t.val / 11 = 0 := by omega
  have hq : (⟨(11 * (t.val / 11) + s.val) * 1536 + k.val, by have := k.isLt; omega⟩ : Fin 16896) = ⟨s.val * 1536 + k.val, hl⟩ := Fin.ext (by dsimp only; omega)
  unfold shareAt
  have hy : (win0_5.blk t).view.emb y 1 = y 1 := by
    have e := idx t
    refine Fin.ext ?_
    blk_simp [e]
  exact congrArg₂ (fun q j => share (headRows 1024 (by decide) (m ((c : Thread nD τ).loc main_arg0))) (headRows 0 (by decide) (m ((c : Thread nD τ).loc main_arg1))) q j) hq hy.symm

theorem head_pasted (o : ℕ) (ho : o + 64 ≤ 256) (kh : ℕ) (hk : kh < 4) (e : o = 64 * kh) (t : Fin cfg0.N) (x : S384x64.Idx) (i : S4224x2560.Idx)
    (h0 : (i 0).val = t.val * 384 + (x 0).val) (h1 : (i 1).val = 1024 + (o + (x 1).val)) :
    grad n64 (head o ho (iblk m c 0 t : Vec Ideal S384x256 .f32)) (iblk m c 3 t) (head o ho (iblk m c 1 t : Vec Ideal S384x256 .f32)) x
      = pasted (m ((c : Thread nD τ).loc main_arg0)) (m ((c : Thread nD τ).loc main_arg1)) (m ((c : Thread nD τ).loc main_arg2))
          (m ((c : Thread nD τ).loc main_arg3)) (m ((c : Thread nD τ).loc main_arg4)) i := by
  have hx0 := (x 0).isLt
  have hx1 := (x 1).isLt
  change _ < 384 at hx0
  change _ < 64 at hx1
  have hq : t.val * 1536 + ((x 0).val * 4 + kh) < 16896 := by have := t.isLt; have h : cfg0.N = 11 := N_0; omega
  have hr : ∀ h, (⟨4 * (i 0).val + ((i 1).val - 1024) / 64, h⟩ : Fin 16896) = ⟨t.val * 1536 + ((x 0).val * 4 + kh), hq⟩ :=
    fun h => Fin.ext (by dsimp only; omega)
  unfold pasted
  rw [dif_neg (by omega), dif_pos (by omega), hr]
  refine grad_congr _ ?_ (fun l => ?_) (fun l => ?_) (fun l => ?_)
  · change (x 1).val = ((i 1).val - 1024) % 64
    omega
  · exact (head_block m c o ho kh hk e t (x 0) l hq).1
  · have e := idx t
    blk_ext [iblk, V, e]
  · exact (head_block m c o ho kh hk e t (x 0) l hq).2

/-- Before the call the result holds the array it is written into. -/
theorem V_result : V m c main_v0_0 = m ((c : Thread nD τ).loc main_arg4) := by
  rfl

theorem final_dx : (dats m 0 c).arrAt 4 cfg0.N
    = pasted (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_coversWhere_of_agree 4 _ (fun β => β (1 : Fin 2) = 2) (by decide +kernel) (fun t hf y => ?_) (fun j hj => ?_)
  · have e := idx t
    blk_simp
    rw [after0_4, out_dx]
    refine View.canon_apply_of_pieces (Val := Elt Ideal) (e := .bf16) (fun y => pasted (m ((c : Thread nD τ).loc main_arg0)) (m ((c : Thread nD τ).loc main_arg1)) (m ((c : Thread nD τ).loc main_arg2))
      (m ((c : Thread nD τ).loc main_arg3)) (m ((c : Thread nD τ).loc main_arg4)) (((View.whole main_v0_0).slice (win0_4.rect t)).emb y)) (pieces m c t) (fun p hp x => ?_) y
      (View.cover_of_tiledBy (s := S384x512) (pieces m c t) ![384, 64] (by sl_kernel_rfl) y)
    simp only [pieces, List.mem_cons, List.not_mem_nil, or_false] at hp
    rcases hp with rfl | rfl | rfl | rfl | rfl
    · dsimp only
      rw [pay2_apply]
      have hx1 := (x 1).isLt
      change _ < 256 at hx1
      unfold pasted
      rw [dif_neg (by blk_simp [e]; omega), dif_neg (by blk_simp [e]; omega), dif_pos (by blk_simp [e]; omega)]
      blk_ext [iblk, V, e]
    · dsimp only
      rw [pay1_apply, read_head3, read_head3]
      refine head_pasted m c 192 _ 3 (by decide) rfl t x _ ?_ ?_ <;> blk_simp [e]
    · dsimp only
      rw [pay15_apply, read_head2, read_head2]
      refine head_pasted m c 128 _ 2 (by decide) rfl t x _ ?_ ?_ <;> blk_simp [e]
    · dsimp only
      rw [pay12_apply, read_head1, read_head1]
      refine head_pasted m c 64 _ 1 (by decide) rfl t x _ ?_ ?_ <;> blk_simp [e]
    · dsimp only
      rw [pay8_apply, read_head0, read_head0]
      refine head_pasted m c 0 _ 0 (by decide) rfl t x _ ?_ ?_ <;> blk_simp [e]
  · blk_simp [Pipeline.Window.cell_apply] at hj
    rw [A_eq]
    change ¬(j (1 : Fin 2)).val / 512 = 2 at hj
    unfold pasted
    by_cases ha : (j (1 : Fin 2)).val < 1024
    · refine Eq.trans ?_ (dif_pos ha).symm
      exact congrFun (V_result m c) _
    refine Eq.trans ?_ (dif_neg ha).symm
    refine Eq.trans ?_ (dif_neg (by change ¬(j (1 : Fin 2)).val - 1024 < 256; omega)).symm
    refine Eq.trans ?_ (dif_neg (by change ¬(j (1 : Fin 2)).val - 1024 - 256 < 256; omega)).symm
    exact congrFun (V_result m c) _

theorem equal : Cert.algebraic_KNormBwdIdeal_KNormBwdRefIdeal := fun m ρ m' ρ' _ harg => by
  refine ⟨fun c => (dats m 0 c).arrAt 4 cfg0.N, fun c => (dats m 0 c).arrAt 5 cfg0.N, Value.run_blocks m ρ,
    (θ_run Cert.KNormBwdRefIdeal.defs _ _).mono (fun r h c => ⟨?_, ?_, (h c).2.2⟩) (Cert.KNormBwdRefIdeal.Value.run (F := Ideal) m' ρ')⟩
  · rw [(h c).1, Cert.KNormBwdRefIdeal.Read.val_main_v46_eq, (harg c).1, (harg c).2.1, (harg c).2.2.1, (harg c).2.2.2.1, (harg c).2.2.2.2]
    exact (funext fun i => ref_pasted _ _ _ _ _ i).trans (final_dx m c).symm
  · rw [(h c).2.1, Cert.KNormBwdRefIdeal.Read.val_main_v40_eq, (harg c).1, (harg c).2.1]
    exact (funext fun i => ref_gain _ _ i).trans (final_dg m c).symm

theorem frame_reference : Cert.quiescent_KNormBwdRefIdeal := fun m ρ _ =>
  (θ_run Cert.KNormBwdRefIdeal.defs _ _).mono (fun r h => ⟨fun c => (h c).2.2, sem_eq_zero_of_no_sems (by decide) r.2⟩)
    (Cert.KNormBwdRefIdeal.Value.run (F := Ideal) m ρ)

end Cert.KNormBwdIdeal.Mm

end
-- ==== Proof.LossRows.lean ====
/- The head: the loss and its gradient. -/
module

public import proofs.«01_k».proof.Defs
public import proofs.«01_k».proof.Proof.Gen.LossHeadIdeal.Value
public import proofs.«01_k».proof.Proof.Gen.LossHeadRefIdeal.Read
public import Idealize.ShloMosaic.Lib.Pipeline.ValueKit
public import Idealize.ShloMosaic.Lib.Pointwise
public import Idealize.ShloMosaic.Lib.Pipeline.ReadBack
public import proofs.«01_k».proof.Proof.MmSum
public import proofs.«01_k».proof.Proof.NormMath

@[expose] public section

set_option maxRecDepth 16384

noncomputable section

open Idealize.ShloMosaic Idealize.ShloMosaic.TcCoe Idealize.ShloMosaic.Tactic Idealize.ShloMosaic.Pointwise Idealize.SL.Sem

/-! ## The loss over the rows after the first block, and its gradient: thirty-three blocks of 128 rows -/

namespace Cert.LossHeadIdeal.Mm

open Cert.LossHeadIdeal Cert.LossHeadIdeal.Gen

variable (m : (ℓ : Loc nD τ sig) → Buf (Elt Ideal) ℓ) (c : Dev nD)

open Cert.Norm

theorem idx : ∀ t : Fin cfg0.N, win0_0.index t = ![t.val, 0] ∧ win0_1.index t = ![t.val - 1, 0] ∧ win0_2.index t = ![t.val, 0]
    ∧ win0_3.index t = ![t.val, 0] ∧ win0_4.index t = ![0, 0] :=
  (by decide +kernel : ∀ t : Fin grid0.N, _)

theorem pay1_apply (y : S8x128.Idx) : k0_pay1 (F := Ideal) y = 0 := by
  pointwise [k0_pay1]

theorem pay2_apply (y : S128x2048.Idx) : k0_pay2 (F := Ideal) y = 0 := by
  pointwise [k0_pay2]

theorem pay3_apply (y : S128x2048.Idx) : k0_pay3 (F := Ideal) y = 0 := by
  pointwise [k0_pay3]

theorem pay5_apply (x g : Vec Ideal S128x2048 .f32) (y : S128x2048.Idx) :
    k0_pay5 x g y = (x y - g y) * Ideal.ofBits .f32 0x3A000000#32 := by
  pointwise [k0_pay5, k0_pay4]

theorem pay6_apply (x g : Vec Ideal S128x2048 .f32) (y : S128x2048.Idx) :
    k0_pay6 x g y = (x y - g y) * Ideal.ofBits .f32 0x3A000000#32 := by
  pointwise [k0_pay6, k0_pay5, k0_pay4]

/-- A row's squared error, with the loss's factor. -/
abbrev share {R K : ℕ} (x : (⟨2, ![R, 2048]⟩ : Shape).Idx → EReal) (g : (⟨2, ![K, 2048]⟩ : Shape).Idx → EReal) (r : Fin R) (k : Fin K) : EReal :=
  (∑ j : Fin 2048, (x (ix2 r j) - g (ix2 k j)) * (x (ix2 r j) - g (ix2 k j))) * Ideal.ofBits .f32 0x39800000#32

theorem word_2048th : Ideal.ofBits .f32 0x3A000000#32 = ((1 / 2048 : ℝ) : EReal) := by
  simp [Ideal.ofBits, Ideal.ieee, -EReal.coe_mul]
  norm_num

theorem word_4096th : Ideal.ofBits .f32 0x39800000#32 = ((1 / 4096 : ℝ) : EReal) := by
  simp [Ideal.ofBits, Ideal.ieee, -EReal.coe_mul]
  norm_num

theorem word_half : Ideal.ofBits .f32 0x3F000000#32 = ((1 / 2 : ℝ) : EReal) := by
  simp [Ideal.ofBits, Ideal.ieee, -EReal.coe_mul]
  norm_num

theorem word_two : Ideal.ofBits .f32 0x40000000#32 = ((2 : ℝ) : EReal) := by
  simp [Ideal.ofBits, Ideal.ieee, -EReal.coe_mul]
  norm_num

theorem pay7_apply (x g : Vec Ideal S128x2048 .f32) (a : Vec Ideal S8x128 .f32) (y : S8x128.Idx) :
    k0_pay7 x g a y = a y + ∑ r : Fin 128, share x g r r := by
  pointwise [k0_pay7, k0_pay4]
  unfold share
  rw [word_4096th, sum_mul_real _ _ (by norm_num)]

theorem outs_first (t : Fin cfg0.N) (h : t.val = 0) :
    (∀ y, (outsAt0 m c t.val t.isLt).1 y = 0) ∧ (∀ y, (outsAt0 m c t.val t.isLt).2.1 y = 0) ∧ ∀ y, (outsAt0 m c t.val t.isLt).2.2 y = 0 := by
  rw [outsAt0_A m c t (by rw [h]) (by omega)]
  refine ⟨fun y => ?_, fun y => ?_, fun y => ?_⟩
  · frame_out
    exact pay2_apply y
  · frame_out
    exact pay3_apply y
  · frame_out
    exact pay1_apply y

theorem outs_next (t : Fin cfg0.N) (h : 1 ≤ t.val) :
    (∀ y, (outsAt0 m c t.val t.isLt).1 y = k0_pay5 (iblk m c 0 t) (iblk m c 1 t) y)
    ∧ (∀ y, (outsAt0 m c t.val t.isLt).2.1 y = k0_pay6 (iblk m c 0 t) (iblk m c 1 t) y)
    ∧ ∀ y, (outsAt0 m c t.val t.isLt).2.2 y = k0_pay7 (iblk m c 0 t) (iblk m c 1 t)
        (outsAt0 m c (t.val - 1) (Nat.lt_of_le_of_lt (Nat.sub_le _ _) t.isLt)).2.2 y := by
  have ht : t.val < 33 := lt_of_lt_of_eq t.isLt N_0
  rw [outsAt0_B m c t (by omega) h]
  refine ⟨fun y => ?_, fun y => ?_, fun y => ?_⟩ <;> frame_out

/-- The error, with the gradient's factor. -/
abbrev error (a b : EReal) : EReal := (a - b) * Ideal.ofBits .f32 0x3A000000#32

/-- The loss's gradient: nothing at the first 128 rows. -/
def slope (x : S4224x2048.Idx → EReal) (g : S4096x2048.Idx → EReal) (i : S4224x2048.Idx) : EReal :=
  if h : 128 ≤ (i 0).val then
    error (x i) (g (ix2 ⟨(i 0).val - 128, by have := (i 0).isLt; change _ < 4224 at this; omega⟩ (i 1)))
  else 0

/-- The loss: every row after the first 128 against the target's. -/
def loss (x : S4224x2048.Idx → EReal) (g : S4096x2048.Idx → EReal) : EReal :=
  ∑ r : Fin 4096, share x g ⟨128 + r.val, by omega⟩ r

theorem block (t : Fin cfg0.N) (h : 1 ≤ t.val) (y : S128x2048.Idx) (i : S4224x2048.Idx) (h0 : (i 0).val = t.val * 128 + (y 0).val)
    (h1 : (i 1).val = (y 1).val) :
    error (iblk m c 0 t y) (iblk m c 1 t y)
      = slope (m ((c : Thread nD τ).loc main_arg0)) (m ((c : Thread nD τ).loc main_arg1)) i := by
  have e := idx t
  unfold slope
  rw [dif_pos (by omega)]
  refine congrArg₂ error ?_ ?_ <;> blk_ext [iblk, V, e]

theorem final_dy : (dats m 0 c).arrAt 2 cfg0.N
    = slope (m ((c : Thread nD τ).loc main_arg0)) (m ((c : Thread nD τ).loc main_arg1)) := by
  refine (dats m 0 c).arrAt_eq_of_covers 2 _ (by decide +kernel) fun t hf y => ?_
  have e := idx t
  have hy := (y 0).isLt
  blk_simp
  rw [after0_2]
  rcases Nat.eq_zero_or_pos t.val with h | h
  · rw [(outs_first m c t h).1]
    unfold slope
    rw [dif_neg]
    blk_simp [e]
    change (y 0).val < 128 at hy
    omega
  · rw [(outs_next m c t h).1, pay5_apply]
    refine block m c t h y _ ?_ ?_ <;> blk_simp [e]

theorem final_dy16 : (dats m 0 c).arrAt 3 cfg0.N
    = slope (m ((c : Thread nD τ).loc main_arg0)) (m ((c : Thread nD τ).loc main_arg1)) := by
  refine (dats m 0 c).arrAt_eq_of_covers 3 _ (by decide +kernel) fun t hf y => ?_
  have e := idx t
  have hy := (y 0).isLt
  blk_simp
  rw [after0_3]
  rcases Nat.eq_zero_or_pos t.val with h | h
  · rw [(outs_first m c t h).2.1]
    unfold slope
    rw [dif_neg]
    blk_simp [e]
    change (y 0).val < 128 at hy
    omega
  · rw [(outs_next m c t h).2.1, pay6_apply]
    refine block m c t h y _ ?_ ?_ <;> blk_simp [e]

/-- The rows' shares with the first block's at nothing. -/
abbrev padded (x : S4224x2048.Idx → EReal) (g : S4096x2048.Idx → EReal) (l : Fin 4224) : EReal :=
  if h : 128 ≤ l.val then share x g l ⟨l.val - 128, by omega⟩ else 0

theorem sum_padded (x : S4224x2048.Idx → EReal) (g : S4096x2048.Idx → EReal) : ∑ l : Fin 4224, padded x g l = loss x g := by
  rw [show ∑ l : Fin 4224, padded x g l = ∑ l : Fin (128 + 4096), padded x g l from rfl, Fin.sum_univ_add]
  rw [Finset.sum_eq_zero fun k _ => dif_neg (by simp), zero_add]
  refine Finset.sum_congr rfl fun k _ => ?_
  unfold padded
  rw [dif_pos (by simp)]
  refine congrArg (share x g _) (Fin.ext ?_)
  simp

theorem final_loss : (dats m 0 c).arrAt 4 cfg0.N
    = fun _ => loss (m ((c : Thread nD τ).loc main_arg0)) (m ((c : Thread nD τ).loc main_arg1)) := by
  refine (dats m 0 c).arrAt_eq_of_covers 4 _ (by decide +kernel) fun t hf y => ?_
  have hl : t.val % 33 = 32 := (flush0_4 t).mp hf
  blk_simp
  rw [after0_4, ← sum_padded]
  refine Cert.Mm.blocked_sum (J := 33) (n := 128) (fun n h => (outsAt0 m c n h).2.2 _)
    (fun t k => if 1 ≤ t.val then share (iblk m c 0 t : Vec Ideal S128x2048 .f32) (iblk m c 1 t : Vec Ideal S128x2048 .f32) k k else 0) _
    (fun t h => ?_) (fun t h => ?_) t hl rfl (fun s k hp' hl => ?_)
  · have ht : t.val < 33 := lt_of_lt_of_eq t.isLt N_0
    refine ((outs_first m c t (by omega)).2.2 _).trans ?_
    simp [show ¬1 ≤ t.val by omega]
  · have h1 : 1 ≤ t.val := by
      by_contra h2
      exact h (by rw [show t.val = 0 by omega])
    refine ((outs_next m c t h1).2.2 _).trans ?_
    rw [pay7_apply]
    simp only [if_pos h1]
  · have ht : t.val < 33 := lt_of_lt_of_eq t.isLt N_0
    have e' := idx ⟨33 * (t.val / 33) + s.val, hp'⟩
    have hk := k.isLt
    unfold padded
    rcases Nat.eq_zero_or_pos s.val with h | h
    · rw [if_neg (by dsimp only; omega), dif_neg (by dsimp only; rw [h]; omega)]
    · rw [if_pos (by dsimp only; omega), dif_pos (by dsimp only; omega)]
      refine congrArg (fun a : EReal => a * _) (Cert.Mm.sum_mul_congr (fun l => congrArg₂ (fun a b : EReal => a - b) ?_ ?_)
        (fun l => congrArg₂ (fun a b : EReal => a - b) ?_ ?_)) <;> blk_ext [iblk, V, e']

theorem reference_loss (x : FVec Ideal S4224x2048 .f32) (g : FVec Ideal S4096x2048 .f32) (i : S8x128.Idx) :
    Cert.LossHeadRefIdeal.Read.val_main_v17 (F := Ideal) x g i = loss x g := by
  pointwise [Cert.LossHeadRefIdeal.Read.val_main_v17, Cert.LossHeadRefIdeal.Read.val_main_v9, Cert.LossHeadRefIdeal.Read.val_main_v8, Cert.LossHeadRefIdeal.Read.val_main_v7, Cert.LossHeadRefIdeal.Read.val_main_v6, Cert.LossHeadRefIdeal.Read.val_main_v5, Cert.LossHeadRefIdeal.Read.val_main_v4, Cert.LossHeadRefIdeal.Read.val_main_v3, Cert.LossHeadRefIdeal.Read.val_main_v2, Cert.LossHeadRefIdeal.Read.val_main_v1, Cert.LossHeadRefIdeal.Read.val_main_v0, Cert.LossHeadRefIdeal.Read.val_main_cst, Cert.LossHeadRefIdeal.Read.val_main_cst_0, Cert.LossHeadRefIdeal.Read.val_main_cst_1, Cert.LossHeadRefIdeal.Read.val_main_cst_2, Cert.LossHeadRefIdeal.Read.val_main_cst_3, Cert.LossHeadRefIdeal.Read.val_main_cst_4, Cert.LossHeadRefIdeal.Read.val_main_cst_5, Cert.LossHeadRefIdeal.Read.val_main_cst_6, Cert.LossHeadRefIdeal.Read.val_main_cst_7]
  unfold loss
  have h (r : Fin 4096) (a : EReal) : Ideal.div a (Ideal.ofBits .f32 0x45000000#32) = a * ((1 / 2048 : ℝ) : EReal) := by
    rw [word_2048, Ideal.div_coe (by norm_num)]
  rw [Finset.sum_congr rfl fun r _ => h r _, ← sum_mul_real _ _ (by norm_num), word_half]
  unfold share
  rw [word_4096th, ← sum_mul_real _ _ (by norm_num), mul_comm, mul_assoc, ← EReal.coe_mul]
  exact congrArg (fun a : ℝ => _ * (a : EReal)) (by norm_num)

theorem reference_dy (x : FVec Ideal S4224x2048 .f32) (g : FVec Ideal S4096x2048 .f32) (i : S4224x2048.Idx) :
    Cert.LossHeadRefIdeal.Read.val_main_v16 (F := Ideal) x g i = slope x g i := by
  pointwise [Cert.LossHeadRefIdeal.Read.val_main_v16, Cert.LossHeadRefIdeal.Read.val_main_v15, Cert.LossHeadRefIdeal.Read.val_main_v14, Cert.LossHeadRefIdeal.Read.val_main_v13, Cert.LossHeadRefIdeal.Read.val_main_v12, Cert.LossHeadRefIdeal.Read.val_main_v11, Cert.LossHeadRefIdeal.Read.val_main_v10, Cert.LossHeadRefIdeal.Read.val_main_v9, Cert.LossHeadRefIdeal.Read.val_main_v8, Cert.LossHeadRefIdeal.Read.val_main_v7, Cert.LossHeadRefIdeal.Read.val_main_v6, Cert.LossHeadRefIdeal.Read.val_main_v5, Cert.LossHeadRefIdeal.Read.val_main_v4, Cert.LossHeadRefIdeal.Read.val_main_v3, Cert.LossHeadRefIdeal.Read.val_main_v2, Cert.LossHeadRefIdeal.Read.val_main_v1, Cert.LossHeadRefIdeal.Read.val_main_v0, Cert.LossHeadRefIdeal.Read.val_main_cst, Cert.LossHeadRefIdeal.Read.val_main_cst_0, Cert.LossHeadRefIdeal.Read.val_main_cst_1, Cert.LossHeadRefIdeal.Read.val_main_cst_2, Cert.LossHeadRefIdeal.Read.val_main_cst_3, Cert.LossHeadRefIdeal.Read.val_main_cst_4, Cert.LossHeadRefIdeal.Read.val_main_cst_5, Cert.LossHeadRefIdeal.Read.val_main_cst_6, Cert.LossHeadRefIdeal.Read.val_main_cst_7]
  unfold slope
  have hi : (i 0).val < 4224 := (i 0).isLt
  by_cases h : 128 ≤ (i 0).val
  · rw [dif_pos ⟨h, by omega⟩, dif_pos h]
    unfold error
    rw [word_half, word_2048, word_two, word_2048th, Ideal.div_coe (by norm_num), ← mul_assoc, ← EReal.coe_mul,
      ← EReal.coe_mul, mul_comm]
    refine congrArg₂ (fun a b : EReal => a * b) (congrArg (fun a : EReal => a - _) (congrArg x ?_)) (congrArg _ (by norm_num))
    refine Eq.trans ?_ (eq_ix2 i).symm
    exact congrArg (fun r => ix2 r (i 1)) (Fin.ext (show 128 + ((i 0).val - 128) = (i 0).val by omega))
  · rw [dif_neg (fun h' => h h'.1), dif_neg h]

theorem reference_dy16 (x : FVec Ideal S4224x2048 .f32) (g : FVec Ideal S4096x2048 .f32) (i : S4224x2048.Idx) :
    Cert.LossHeadRefIdeal.Read.val_main_v18 (F := Ideal) x g i = slope x g i := by
  rw [← reference_dy]
  pointwise [Cert.LossHeadRefIdeal.Read.val_main_v18]

theorem equal : Cert.algebraic_LossHeadIdeal_LossHeadRefIdeal := fun m ρ m' ρ' _ harg => by
  refine ⟨fun c => (dats m 0 c).arrAt 4 cfg0.N, fun c => (dats m 0 c).arrAt 2 cfg0.N, fun c => (dats m 0 c).arrAt 3 cfg0.N,
    (θ_run defs _ _).mono (fun r h c => ⟨(h c).2.2.1, (h c).1, (h c).2.1, (h c).2.2.2⟩) (Value.run_blocks m ρ),
    (θ_run Cert.LossHeadRefIdeal.defs _ _).mono (fun r h c => ⟨?_, ?_, ?_, (h c).2.2.2⟩) (Cert.LossHeadRefIdeal.Value.run (F := Ideal) m' ρ')⟩
  · rw [(h c).1, Cert.LossHeadRefIdeal.Read.val_main_v17_eq, (harg c).1, (harg c).2]
    exact (funext fun i => reference_loss _ _ i).trans (final_loss m c).symm
  · rw [(h c).2.1, Cert.LossHeadRefIdeal.Read.val_main_v16_eq, (harg c).1, (harg c).2]
    exact (funext fun i => reference_dy _ _ i).trans (final_dy m c).symm
  · rw [(h c).2.2.1, Cert.LossHeadRefIdeal.Read.val_main_v18_eq, (harg c).1, (harg c).2]
    exact (funext fun i => reference_dy16 _ _ i).trans (final_dy16 m c).symm

theorem frame_reference : Cert.quiescent_LossHeadRefIdeal := fun m ρ _ =>
  (θ_run Cert.LossHeadRefIdeal.defs _ _).mono (fun r h => ⟨fun c => (h c).2.2.2, sem_eq_zero_of_no_sems (by decide) r.2⟩)
    (Cert.LossHeadRefIdeal.Value.run (F := Ideal) m ρ)

end Cert.LossHeadIdeal.Mm

end
-- ==== Proof.AttnForward.lean ====
/- The forward attention: every row of the result is the probabilities of the rows it sees times their values, in the kernel
   block by block, in the reference token by token. -/
module

public import proofs.«01_k».proof.Defs
public import proofs.«01_k».proof.Proof.Gen.AttnFwdIdeal.Value
public import proofs.«01_k».proof.Proof.Gen.AttnFwdRefIdeal.Read
public import proofs.«01_k».proof.Proof.AttnRef
public import proofs.«01_k».proof.Proof.AttnPre
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.ShloMosaic.Tactic Idealize.ShloMosaic.Pointwise Idealize.SL.Sem

/-! ## The result as mathematics -/

namespace Cert.AttnMath

variable (A : Arrays)

/-- Entry `d` of query row `r` in head `h`: the probabilities times the value rows. -/
def out (r h d : ℕ) : EReal := ∑ κ ∈ seen r, prob A r κ h * A.proj κ (1280 + 64 * (h / 4) + d)

/-- A grid point's entry: its sum over the 384 keys at hand. -/
theorem point_out (hA : Finite A) {n i h d : ℕ} (hn : n < 33) (hi : i < 128) (hh : h < 16) (S : Fin 384 → EReal) (V : Fin 384 → EReal)
    (hS : ∀ j : Fin 384, S j = if vis n i j.val then score A (128 * n + i) (keyRow n j.val) h else ⊥)
    (hV : ∀ j : Fin 384, V j = A.proj (keyRow n j.val) (1280 + 64 * (h / 4) + d)) :
    (∑ j : Fin 384, Ideal.exp (S j - max (Finset.univ.fold max ⊥ S) (A.sink h))
        * Ideal.div 1 ((∑ j', Ideal.exp (S j' - max (Finset.univ.fold max ⊥ S) (A.sink h)))
            + Ideal.exp (A.sink h - max (Finset.univ.fold max ⊥ S) (A.sink h))) * V j)
      = out A (128 * n + i) h d := by
  unfold out
  rw [Finset.sum_congr rfl fun j _ => point_prob A hA hn hi hh S hS j (V j)]
  refine sum_rename (fun j : Fin 384 => vis n i j.val) (fun j => keyRow n j.val) (seen (128 * n + i)) (mem_point hn hi) (inj_point hi) (surj_point hn hi)
    _ (fun κ => prob A (128 * n + i) κ h * A.proj κ (1280 + 64 * (h / 4) + d)) (fun j hj => ?_) (fun j hj => if_neg hj)
  rw [if_pos hj, hV]

/-- A token's entry: its sum over the tokens. -/
theorem token_out {t h d : ℕ} (ht : t < 4112) :
    (∑ s : Fin 4112, (if Vis (t + 112) (s.val + 112) then prob A (t + 112) (s.val + 112) h else 0) * A.proj (s.val + 112) (1280 + 64 * (h / 4) + d))
      = out A (t + 112) h d := by
  unfold out
  refine sum_rename (fun s : Fin 4112 => Vis (t + 112) (s.val + 112)) (fun s => s.val + 112) (seen (t + 112))
    (fun s hs => (mem_seen (by omega)).mpr hs) (fun s s' _ _ e => Fin.ext (by simpa using e)) (fun κ hκ => ?_)
    _ (fun κ => prob A (t + 112) κ h * A.proj κ (1280 + 64 * (h / 4) + d)) (fun j hj => by rw [if_pos hj]) (fun j hj => by rw [if_neg hj, zero_mul])
  have hv := (mem_seen (by omega)).mp hκ
  have e : κ - 112 + 112 = κ := by unfold Vis at hv; omega
  refine ⟨⟨κ - 112, by unfold Vis at hv; omega⟩, ?_, e⟩
  rw [e]; exact hv

/-- A padding row sees nothing. -/
theorem out_of_lt {r : ℕ} (hr : r < 112) (h d : ℕ) : out A r h d = 0 := by
  unfold out
  refine Finset.sum_eq_zero fun κ hκ => ?_
  have hv := (mem_seen (by omega)).mp hκ
  unfold Vis at hv; omega

end Cert.AttnMath

namespace Cert.AttnFwdIdeal.Mm

open Cert.AttnFwdIdeal Cert.AttnFwdIdeal.Gen Cert.AttnMath
open Cert.KernelIdeal.Attn (entry entry_of arrays slopeWord word64 word_bot mask_word dist_word chain4 chainW)

/-! ## One head of one grid point -/

theorem mask_named : Named.named (F := Ideal) κ (φ := .f32) "mask" 0xF149F2CA#32 = (⊥ : EReal) :=
  IdealRules.named_const.ideal_named_scalar _ _ _ _ rfl

theorem pay8_apply (i : grid0.Coords) (x : Fin 512) (j : Fin 384) :
    k0_pay8 (F := Ideal) i (ix2 x j) = if vis (i 0).val (x.val % 128) j.val then 0 else ⊥ := by
  have hn : (i 0).val < 33 := (i 0).isLt
  have hx := x.isLt
  pointwise [k0_pay8, k0_pay6, k0_pay7]
  by_cases h1 : x.val < 128
  · rw [dif_pos h1, mask_word hn h1 j.isLt, mask_named, show x.val % 128 = x.val by omega]
  rw [dif_neg h1]
  by_cases h2 : x.val - 128 < 128
  · rw [dif_pos h2, mask_word hn h2 j.isLt, mask_named, show x.val % 128 = x.val - 128 by omega]
  rw [dif_neg h2]
  by_cases h3 : x.val - 128 - 128 < 128
  · rw [dif_pos h3, mask_word hn h3 j.isLt, mask_named, show x.val % 128 = x.val - 128 - 128 by omega]
  · rw [dif_neg h3, mask_word hn (by omega) j.isLt, mask_named, show x.val % 128 = x.val - 128 - 128 - 128 by omega]

theorem pay9_apply (i : grid0.Coords) (x : Fin 512) (j : Fin 384) :
    k0_pay9 (F := Ideal) i (ix2 x j) = ((gap (i 0).val (x.val % 128) j.val : ℝ) : EReal) := by
  have hn : (i 0).val < 33 := (i 0).isLt
  have hx := x.isLt
  pointwise [k0_pay9, k0_pay6, k0_pay7]
  by_cases h1 : x.val < 128
  · rw [dif_pos h1, dist_word hn h1 j.isLt, show x.val % 128 = x.val by omega]
  rw [dif_neg h1]
  by_cases h2 : x.val - 128 < 128
  · rw [dif_pos h2, dist_word hn h2 j.isLt, show x.val % 128 = x.val - 128 by omega]
  rw [dif_neg h2]
  by_cases h3 : x.val - 128 - 128 < 128
  · rw [dif_pos h3, dist_word hn h3 j.isLt, show x.val % 128 = x.val - 128 - 128 by omega]
  · rw [dif_neg h3, dist_word hn (by omega) j.isLt, show x.val % 128 = x.val - 128 - 128 - 128 by omega]

/-- The slopes of one head's four query heads, one per query row. -/
def slopes (kh : ℕ) : FVec Ideal S512x1 .f32 := fun y => Ideal.ofBits .f32 (slopeWord (4 * kh + (y 0).val / 128))

/-- Four words, each on 128 rows. -/
def slopesOf (w0 w1 w2 w3 : BitVec 32) : FVec Ideal S512x1 .f32 :=
  k0_pay53 (broadcast S1x1 (Scalar.ofBits (F := Ideal) .f32 w0)) (broadcast S1x1 (Scalar.ofBits (F := Ideal) .f32 w1))
    (broadcast S1x1 (Scalar.ofBits (F := Ideal) .f32 w2)) (broadcast S1x1 (Scalar.ofBits (F := Ideal) .f32 w3))

theorem slopesOf_eq (kh : ℕ) (w0 w1 w2 w3 : BitVec 32) (h0 : w0 = slopeWord (4 * kh + 0)) (h1 : w1 = slopeWord (4 * kh + 1))
    (h2 : w2 = slopeWord (4 * kh + 2)) (h3 : w3 = slopeWord (4 * kh + 3)) : slopesOf w0 w1 w2 w3 = slopes kh := by
  funext y
  obtain ⟨x, d, rfl⟩ : ∃ (x : Fin 512) (d : Fin 1), y = ix2 x d := ⟨y 0, y 1, by funext a; fin_cases a <;> rfl⟩
  unfold slopesOf
  pointwise [k0_pay53]
  exact chain4 x.val _ _ _ _ x.isLt (fun g => Ideal.ofBits .f32 (slopeWord (4 * kh + g))) (congrArg _ h0.symm) (congrArg _ h1.symm) (congrArg _ h2.symm) (congrArg _ h3.symm)

theorem keys_apply (X : ℕ → ℕ → EReal) (G : ℕ → EReal) (n col : ℕ) (k0 k1 k2 : Vec Ideal S128x64 .f32) (gk : Vec Ideal S1x64 .f32)
    (e0 : ∀ (i : Fin 128) (d : Fin 64), k0 (ix2 i d) = X (128 * (n - 1) + i.val) (col + d.val))
    (e1 : ∀ (i : Fin 128) (d : Fin 64), k1 (ix2 i d) = X (128 * n + i.val) (col + d.val))
    (e2 : ∀ (i : Fin 128) (d : Fin 64), k2 (ix2 i d) = X i.val (col + d.val))
    (eg : ∀ d : Fin 64, gk (ix2 0 d) = G d.val) (j : Fin 384) (d : Fin 64) :
    k0_pay36 (F := Ideal) k0 k1 k2 gk (ix2 j d) = nrm X G (keyRow n j.val) col d.val :=
  Cert.KernelIdeal.Attn.pay14_apply X G n col k0 k1 k2 gk e0 e1 e2 eg j d

theorem queries_apply (X : ℕ → ℕ → EReal) (G : ℕ → EReal) (b h0 : ℕ) (q0 q1 q2 q3 : Vec Ideal S128x64 .f32) (gq : Vec Ideal S1x64 .f32)
    (e0 : ∀ (i : Fin 128) (d : Fin 64), q0 (ix2 i d) = X (b + i.val) (64 * (h0 + 0) + d.val))
    (e1 : ∀ (i : Fin 128) (d : Fin 64), q1 (ix2 i d) = X (b + i.val) (64 * (h0 + 1) + d.val))
    (e2 : ∀ (i : Fin 128) (d : Fin 64), q2 (ix2 i d) = X (b + i.val) (64 * (h0 + 2) + d.val))
    (e3 : ∀ (i : Fin 128) (d : Fin 64), q3 (ix2 i d) = X (b + i.val) (64 * (h0 + 3) + d.val))
    (eg : ∀ d : Fin 64, gq (ix2 0 d) = G d.val) (x : Fin 512) (d : Fin 64) :
    k0_pay38 (F := Ideal) q0 q1 q2 q3 gq (ix2 x d) = nrm X G (b + x.val % 128) (64 * (h0 + x.val / 128)) d.val :=
  Cert.KernelIdeal.Attn.pay18_apply X G b h0 q0 q1 q2 q3 gq e0 e1 e2 e3 eg x d

theorem values_apply (X : ℕ → ℕ → EReal) (n col : ℕ) (k0 k1 k2 : Vec Ideal S128x64 .f32)
    (e0 : ∀ (i : Fin 128) (d : Fin 64), k0 (ix2 i d) = X (128 * (n - 1) + i.val) (col + d.val))
    (e1 : ∀ (i : Fin 128) (d : Fin 64), k1 (ix2 i d) = X (128 * n + i.val) (col + d.val))
    (e2 : ∀ (i : Fin 128) (d : Fin 64), k2 (ix2 i d) = X i.val (col + d.val)) (j : Fin 384) (d : Fin 64) :
    k0_pay37 (F := Ideal) k0 k1 k2 (ix2 j d) = X (keyRow n j.val) (col + d.val) := by
  have hj := j.isLt
  pointwise [k0_pay37]
  simp only [e0, e1, e2]
  unfold keyRow
  by_cases h1 : j.val < 128
  · simp only [dif_pos h1, if_pos h1]
  by_cases h2 : j.val - 128 < 128
  · simp only [dif_neg h1, if_neg h1, dif_pos h2, if_pos (show j.val < 256 by omega)]
  · simp only [dif_neg h1, if_neg h1, dif_neg h2, if_neg (show ¬j.val < 256 by omega), show j.val - 256 = j.val - 128 - 128 by omega]

/-- The 512 rows of one key/value head: from its slices of the blocks. -/
def head (i : grid0.Coords) (kh : ℕ) (k0 k1 k2 v0 v1 v2 q0 q1 q2 q3 : Vec Ideal S128x64 .f32) (gq gk : Vec Ideal S1x64 .f32)
    (s0 s1 s2 s3 : Vec Ideal S1x1 .f32) : FVec Ideal S512x64 .f32 :=
  k0_pay44 (k0_pay8 i) (k0_pay9 i) (k0_pay36 k0 k1 k2 gk) (k0_pay37 v0 v1 v2) (k0_pay38 q0 q1 q2 q3 gq) (slopes kh)
    (k0_pay40 s0) (k0_pay41 s1) (k0_pay42 s2) (k0_pay43 s3)

theorem head0_eq (i : grid0.Coords) (k0 k1 k2 v0 v1 v2 q0 q1 q2 q3 : Vec Ideal S128x64 .f32) (gq gk : Vec Ideal S1x64 .f32) (s0 s1 s2 s3 : Vec Ideal S1x1 .f32) :
    k0_pay18 (k0_pay11 v0 v1 v2) (k0_pay14 s0 s1 s2 s3) (k0_pay16 (k0_pay8 i) (k0_pay9 i) (k0_pay10 k0 k1 k2 gk) (k0_pay12 q0 q1 q2 q3) gq (k0_pay13 q0 q1 q2 q3) s0 s1 s2 s3) (k0_pay17 (k0_pay8 i) (k0_pay9 i) (k0_pay10 k0 k1 k2 gk) (k0_pay12 q0 q1 q2 q3) gq (k0_pay13 q0 q1 q2 q3) s0 s1 s2 s3)
      = head i 0 k0 k1 k2 v0 v1 v2 q0 q1 q2 q3 gq gk s0 s1 s2 s3 := by
  unfold head
  rw [← slopesOf_eq 0 0x3F3504F3#32 0x3F000000#32 0x3EB504F3#32 0x3E800000#32 (by decide) (by decide) (by decide) (by decide)]
  rfl

theorem head1_eq (i : grid0.Coords) (k0 k1 k2 v0 v1 v2 q0 q1 q2 q3 : Vec Ideal S128x64 .f32) (gq gk : Vec Ideal S1x64 .f32) (s0 s1 s2 s3 : Vec Ideal S1x1 .f32) :
    k0_pay31 (k0_pay8 i) (k0_pay9 i) (k0_pay24 gk (k0_pay23 k0 k1 k2)) (k0_pay25 v0 v1 v2) (k0_pay26 q0 q1 q2 q3 gq) k0_pay27 k0_pay28 k0_pay29 k0_pay30 s0 s1 s2 s3
      = head i 1 k0 k1 k2 v0 v1 v2 q0 q1 q2 q3 gq gk s0 s1 s2 s3 := by
  unfold head
  rw [← slopesOf_eq 1 0x3E3504F3#32 0x3E000000#32 0x3DB504F3#32 0x3D800000#32 (by decide) (by decide) (by decide) (by decide)]
  rfl

theorem head2_eq (i : grid0.Coords) (k0 k1 k2 v0 v1 v2 q0 q1 q2 q3 : Vec Ideal S128x64 .f32) (gq gk : Vec Ideal S1x64 .f32) (s0 s1 s2 s3 : Vec Ideal S1x1 .f32) :
    k0_pay44 (k0_pay8 i) (k0_pay9 i) (k0_pay36 k0 k1 k2 gk) (k0_pay37 v0 v1 v2) (k0_pay38 q0 q1 q2 q3 gq) k0_pay39 (k0_pay40 s0) (k0_pay41 s1) (k0_pay42 s2) (k0_pay43 s3)
      = head i 2 k0 k1 k2 v0 v1 v2 q0 q1 q2 q3 gq gk s0 s1 s2 s3 := by
  unfold head
  rw [← slopesOf_eq 2 0x3D3504F3#32 0x3D000000#32 0x3CB504F3#32 0x3C800000#32 (by decide) (by decide) (by decide) (by decide)]
  rfl

theorem head3_eq (i : grid0.Coords) (k0 k1 k2 v0 v1 v2 q0 q1 q2 q3 : Vec Ideal S128x64 .f32) (gq gk : Vec Ideal S1x64 .f32) (s0 s1 s2 s3 : Vec Ideal S1x1 .f32) :
    k0_pay1 (k0_pay50 v0 v1 v2) (k0_pay53 s0 s1 s2 s3) (k0_pay55 (k0_pay8 i) (k0_pay9 i) (k0_pay49 k0 k1 k2 gk) (k0_pay51 q0 q1 q2 q3) gq (k0_pay52 q0 q1 q2 q3) s0 s1 s2 s3) (k0_pay56 (k0_pay8 i) (k0_pay9 i) (k0_pay49 k0 k1 k2 gk) (k0_pay51 q0 q1 q2 q3) gq (k0_pay52 q0 q1 q2 q3) s0 s1 s2 s3)
      = head i 3 k0 k1 k2 v0 v1 v2 q0 q1 q2 q3 gq gk s0 s1 s2 s3 := by
  unfold head
  rw [← slopesOf_eq 3 0x3C3504F3#32 0x3C000000#32 0x3BB504F3#32 0x3B800000#32 (by decide) (by decide) (by decide) (by decide)]
  rfl

theorem head_apply (A : Arrays) (hA : Finite A) (hS : ∀ h, A.slope h = Ideal.ofBits .f32 (slopeWord h)) (i : grid0.Coords) (kh : ℕ) (hkh : kh < 4)
    (k0 k1 k2 v0 v1 v2 q0 q1 q2 q3 : Vec Ideal S128x64 .f32) (gq gk : Vec Ideal S1x64 .f32) (s0 s1 s2 s3 : Vec Ideal S1x1 .f32)
    (ek0 : ∀ (r : Fin 128) (d : Fin 64), k0 (ix2 r d) = A.proj (128 * ((i 0).val - 1) + r.val) (1024 + 64 * kh + d.val))
    (ek1 : ∀ (r : Fin 128) (d : Fin 64), k1 (ix2 r d) = A.proj (128 * (i 0).val + r.val) (1024 + 64 * kh + d.val))
    (ek2 : ∀ (r : Fin 128) (d : Fin 64), k2 (ix2 r d) = A.proj r.val (1024 + 64 * kh + d.val))
    (ev0 : ∀ (r : Fin 128) (d : Fin 64), v0 (ix2 r d) = A.proj (128 * ((i 0).val - 1) + r.val) (1280 + 64 * kh + d.val))
    (ev1 : ∀ (r : Fin 128) (d : Fin 64), v1 (ix2 r d) = A.proj (128 * (i 0).val + r.val) (1280 + 64 * kh + d.val))
    (ev2 : ∀ (r : Fin 128) (d : Fin 64), v2 (ix2 r d) = A.proj r.val (1280 + 64 * kh + d.val))
    (eq0 : ∀ (r : Fin 128) (d : Fin 64), q0 (ix2 r d) = A.proj (128 * (i 0).val + r.val) (64 * (4 * kh + 0) + d.val))
    (eq1 : ∀ (r : Fin 128) (d : Fin 64), q1 (ix2 r d) = A.proj (128 * (i 0).val + r.val) (64 * (4 * kh + 1) + d.val))
    (eq2 : ∀ (r : Fin 128) (d : Fin 64), q2 (ix2 r d) = A.proj (128 * (i 0).val + r.val) (64 * (4 * kh + 2) + d.val))
    (eq3 : ∀ (r : Fin 128) (d : Fin 64), q3 (ix2 r d) = A.proj (128 * (i 0).val + r.val) (64 * (4 * kh + 3) + d.val))
    (egq : ∀ d : Fin 64, gq (ix2 0 d) = A.gq d.val) (egk : ∀ d : Fin 64, gk (ix2 0 d) = A.gk d.val)
    (es0 : s0 (ix2 0 0) = A.sink (4 * kh + 0)) (es1 : s1 (ix2 0 0) = A.sink (4 * kh + 1))
    (es2 : s2 (ix2 0 0) = A.sink (4 * kh + 2)) (es3 : s3 (ix2 0 0) = A.sink (4 * kh + 3)) (x : Fin 512) (d : Fin 64) :
    head i kh k0 k1 k2 v0 v1 v2 q0 q1 q2 q3 gq gk s0 s1 s2 s3 (ix2 x d) = out A (128 * (i 0).val + x.val % 128) (4 * kh + x.val / 128) d.val := by
  have hn : (i 0).val < 33 := (i 0).isLt
  have hx : x.val % 128 < 128 := Nat.mod_lt _ (by decide)
  have hh : 4 * kh + x.val / 128 < 16 := by have := x.isLt; omega
  have hd : (4 * kh + x.val / 128) / 4 = kh := by have := x.isLt; omega
  have hm := pay8_apply i
  have hg := pay9_apply i
  have hk := keys_apply A.proj A.gk (i 0).val (1024 + 64 * kh) k0 k1 k2 gk ek0 ek1 ek2 egk
  have hq := queries_apply A.proj A.gq (128 * (i 0).val) (4 * kh) q0 q1 q2 q3 gq eq0 eq1 eq2 eq3 egq
  have hv := values_apply A.proj (i 0).val (1280 + 64 * kh) v0 v1 v2 ev0 ev1 ev2
  have hs : ∀ x : Fin 512, slopes kh (ix2 x 0) = A.slope (4 * kh + x.val / 128) := fun x => (hS _).symm
  unfold head
  generalize k0_pay8 (F := Ideal) i = M at *
  generalize k0_pay9 (F := Ideal) i = D at *
  generalize k0_pay36 (F := Ideal) k0 k1 k2 gk = K at *
  generalize k0_pay37 (F := Ideal) v0 v1 v2 = W at *
  generalize k0_pay38 (F := Ideal) q0 q1 q2 q3 gq = Q at *
  generalize slopes kh = B at *
  pointwise [k0_pay44, k0_pay40, k0_pay41, k0_pay42, k0_pay43]
  rw [chain4 x.val _ _ _ _ x.isLt (fun g => A.sink (4 * kh + g)) es0.symm es1.symm es2.symm es3.symm, word_bot]
  refine point_out A hA hn hx hh (fun x_1 => (∑ x_2, Q (ix2 x x_2) * K (ix2 x_1 x_2)) * Ideal.ofBits FTy.f32 1040187392#32 -
                  B (ix2 x 0) * D (ix2 x x_1) + M (ix2 x x_1)) (fun j => W (ix2 j d)) (fun j' => ?_) (fun j => by rw [hv, hd])
  show (∑ x_2, Q (ix2 x x_2) * K (ix2 j' x_2)) * Ideal.ofBits FTy.f32 1040187392#32 -
                  B (ix2 x 0) * D (ix2 x j') + M (ix2 x j') = _
  rw [hm]
  by_cases hw : vis (i 0).val (x.val % 128) j'.val
  · rw [if_pos hw, if_pos hw, add_zero, hs, hg, gap_eq j'.isLt hw]
    unfold score
    rw [hd]
    refine congrArg (· - _) (congrArg (· * _) (Finset.sum_congr rfl fun e _ => ?_))
    rw [hq, hk]
  · rw [if_neg hw, if_neg hw, EReal.add_bot]

/-! ## The array -/

variable (m : (ℓ : Loc nD τ sig) → Buf (Elt Ideal) ℓ) (c : Dev nD)

/-- What the attention is a function of. -/
def argArrays : Arrays :=
  arrays (m ((c.tc : Thread nD τ).loc main_arg0)) (fun _ => (0 : EReal)) (m ((c.tc : Thread nD τ).loc main_arg1))
    (m ((c.tc : Thread nD τ).loc main_arg2)) (m ((c.tc : Thread nD τ).loc main_arg3))

def outArray (A : Arrays) : FVec Ideal S4224x1024 .f32 := fun y => out A (y 0).val ((y 1).val / 64) ((y 1).val % 64)

theorem idx : ∀ t : Fin cfg0.N, win0_0.index t = ![t.val, 0] ∧ win0_1.index t = ![t.val - 1, 4] ∧ win0_2.index t = ![t.val, 4]
    ∧ win0_3.index t = ![0, 4] ∧ win0_4.index t = ![t.val - 1, 5] ∧ win0_5.index t = ![t.val, 5] ∧ win0_6.index t = ![0, 5]
    ∧ win0_7.index t = ![0, 0] ∧ win0_8.index t = ![0, 0] ∧ win0_9.index t = ![0, 0] ∧ win0_10.index t = ![t.val, 0] :=
  (by decide +kernel : ∀ t : Fin grid0.N, _)

theorem coords_eq : ∀ t : Fin cfg0.N, (grid0.coords t 0).val = t.val := by decide +kernel

theorem lt_N (t : Fin cfg0.N) : t.val < 33 := lt_of_lt_of_eq t.isLt (show cfg0.N = 33 from N_0)

/-! ### The slices of the blocks, and the blocks, at an index -/

theorem kv_apply (x : Vec Ideal S128x256 .f32) (o : ℕ) (h : ∀ a, (![0, o] : Fin 2 → ℕ) a + (![128, 64] : Fin 2 → ℕ) a ≤ S128x256.size a) (i : Fin 128) (d : Fin 64) :
    View.ld x (Rect.unit ![0, o] ![128, 64] h) (ix2 i d) = x (ix2 i ⟨o + d.val, (Nat.add_lt_add_left d.isLt o).trans_le (h 1)⟩) := by
  refine congrArg x (funext fun a => Fin.ext ?_)
  fin_cases a
  · show 0 + 1 * i.val = i.val; omega
  · show o + 1 * d.val = o + d.val; omega

theorem q_apply (x : Vec Ideal S128x1024 .f32) (o : ℕ) (h : ∀ a, (![0, o] : Fin 2 → ℕ) a + (![128, 64] : Fin 2 → ℕ) a ≤ S128x1024.size a) (i : Fin 128) (d : Fin 64) :
    View.ld x (Rect.unit ![0, o] ![128, 64] h) (ix2 i d) = x (ix2 i ⟨o + d.val, (Nat.add_lt_add_left d.isLt o).trans_le (h 1)⟩) := by
  refine congrArg x (funext fun a => Fin.ext ?_)
  fin_cases a
  · show 0 + 1 * i.val = i.val; omega
  · show o + 1 * d.val = o + d.val; omega

theorem s_apply (x : Vec Ideal S1x16 .f32) (o : ℕ) (h : ∀ a, (![0, o] : Fin 2 → ℕ) a + (![1, 1] : Fin 2 → ℕ) a ≤ S1x16.size a) :
    View.ld x (Rect.unit ![0, o] ![1, 1] h) (ix2 0 0) = x (ix2 0 ⟨o, h 1⟩) := by
  refine congrArg x (funext fun a => Fin.ext ?_)
  fin_cases a
  · rfl
  · show o + 1 * 0 = o; omega

theorem blk0_apply (t : Fin cfg0.N) (i : Fin 128) (j : Fin 1024) :
    (X0_0 m c t) (ix2 i j) = (argArrays m c).proj (128 * t.val + i.val) (j.val) := by
  have e := idx t
  have ht := lt_N t
  show _ = entry (m ((c.tc : Thread nD τ).loc main_arg0)) _ _
  rw [entry_of _ (by omega) (by omega)]
  unfold X0_0 Pipeline.Window.fill
  rw [dif_pos (moved0_0 t _)]
  blk_ext [iblk, V, e]

theorem blk1_apply (t : Fin cfg0.N) (i : Fin 128) (j : Fin 256) :
    (iblk m c 1 t : Vec Ideal S128x256 .f32) (ix2 i j) = (argArrays m c).proj (128 * (t.val - 1) + i.val) (1024 + j.val) := by
  have e := idx t
  have ht := lt_N t
  show _ = entry (m ((c.tc : Thread nD τ).loc main_arg0)) _ _
  rw [entry_of _ (by omega) (by omega)]
  blk_ext [iblk, V, e]

theorem blk2_apply (t : Fin cfg0.N) (i : Fin 128) (j : Fin 256) :
    (iblk m c 2 t : Vec Ideal S128x256 .f32) (ix2 i j) = (argArrays m c).proj (128 * t.val + i.val) (1024 + j.val) := by
  have e := idx t
  have ht := lt_N t
  show _ = entry (m ((c.tc : Thread nD τ).loc main_arg0)) _ _
  rw [entry_of _ (by omega) (by omega)]
  blk_ext [iblk, V, e]

theorem blk3_apply (t : Fin cfg0.N) (i : Fin 128) (j : Fin 256) :
    (iblk m c 3 t : Vec Ideal S128x256 .f32) (ix2 i j) = (argArrays m c).proj (i.val) (1024 + j.val) := by
  have e := idx t
  have ht := lt_N t
  show _ = entry (m ((c.tc : Thread nD τ).loc main_arg0)) _ _
  rw [entry_of _ (by omega) (by omega)]
  blk_ext [iblk, V, e]

theorem blk4_apply (t : Fin cfg0.N) (i : Fin 128) (j : Fin 256) :
    (iblk m c 4 t : Vec Ideal S128x256 .f32) (ix2 i j) = (argArrays m c).proj (128 * (t.val - 1) + i.val) (1280 + j.val) := by
  have e := idx t
  have ht := lt_N t
  show _ = entry (m ((c.tc : Thread nD τ).loc main_arg0)) _ _
  rw [entry_of _ (by omega) (by omega)]
  blk_ext [iblk, V, e]

theorem blk5_apply (t : Fin cfg0.N) (i : Fin 128) (j : Fin 256) :
    (iblk m c 5 t : Vec Ideal S128x256 .f32) (ix2 i j) = (argArrays m c).proj (128 * t.val + i.val) (1280 + j.val) := by
  have e := idx t
  have ht := lt_N t
  show _ = entry (m ((c.tc : Thread nD τ).loc main_arg0)) _ _
  rw [entry_of _ (by omega) (by omega)]
  blk_ext [iblk, V, e]

theorem blk6_apply (t : Fin cfg0.N) (i : Fin 128) (j : Fin 256) :
    (iblk m c 6 t : Vec Ideal S128x256 .f32) (ix2 i j) = (argArrays m c).proj (i.val) (1280 + j.val) := by
  have e := idx t
  have ht := lt_N t
  show _ = entry (m ((c.tc : Thread nD τ).loc main_arg0)) _ _
  rw [entry_of _ (by omega) (by omega)]
  blk_ext [iblk, V, e]

theorem blk7_apply (t : Fin cfg0.N) (j : Fin 64) :
    (iblk m c 7 t : Vec Ideal S1x64 .f32) (ix2 0 j) = (argArrays m c).gq j.val := by
  have e := idx t
  show _ = entry (m ((c.tc : Thread nD τ).loc main_arg1)) _ _
  rw [entry_of _ (by omega) (by omega)]
  blk_ext [iblk, V, e]

theorem blk8_apply (t : Fin cfg0.N) (j : Fin 64) :
    (iblk m c 8 t : Vec Ideal S1x64 .f32) (ix2 0 j) = (argArrays m c).gk j.val := by
  have e := idx t
  show _ = entry (m ((c.tc : Thread nD τ).loc main_arg2)) _ _
  rw [entry_of _ (by omega) (by omega)]
  blk_ext [iblk, V, e]

theorem blk9_apply (t : Fin cfg0.N) (j : Fin 16) :
    (iblk m c 9 t : Vec Ideal S1x16 .f32) (ix2 0 j) = (argArrays m c).sink j.val := by
  have e := idx t
  show _ = entry (m ((c.tc : Thread nD τ).loc main_arg3)) _ _
  rw [entry_of _ (by omega) (by omega)]
  blk_ext [iblk, V, e]

/-- The rows of key/value head 0 at point `t`, from the blocks. -/
abbrev head0 (t : Fin cfg0.N) : FVec Ideal S512x64 .f32 :=
  head (grid0.coords t) 0
    (View.ld (iblk m c 1 t) (Rect.unit ![0, 0] ![128, 64] inb_S128x256_S128x64_0_0))
    (View.ld (iblk m c 2 t) (Rect.unit ![0, 0] ![128, 64] inb_S128x256_S128x64_0_0))
    (View.ld (iblk m c 3 t) (Rect.unit ![0, 0] ![128, 64] inb_S128x256_S128x64_0_0))
    (View.ld (iblk m c 4 t) (Rect.unit ![0, 0] ![128, 64] inb_S128x256_S128x64_0_0))
    (View.ld (iblk m c 5 t) (Rect.unit ![0, 0] ![128, 64] inb_S128x256_S128x64_0_0))
    (View.ld (iblk m c 6 t) (Rect.unit ![0, 0] ![128, 64] inb_S128x256_S128x64_0_0))
    (View.ld (X0_0 m c t) (Rect.unit ![0, 0] ![128, 64] inb_S128x1024_S128x64_0_0))
    (View.ld (X0_0 m c t) (Rect.unit ![0, 64] ![128, 64] inb_S128x1024_S128x64_0_64))
    (View.ld (X0_0 m c t) (Rect.unit ![0, 128] ![128, 64] inb_S128x1024_S128x64_0_128))
    (View.ld (X0_0 m c t) (Rect.unit ![0, 192] ![128, 64] inb_S128x1024_S128x64_0_192))
    (iblk m c 7 t) (iblk m c 8 t)
    (View.ld (iblk m c 9 t) (Rect.unit ![0, 0] ![1, 1] inb_S1x16_S1x1_0_0))
    (View.ld (iblk m c 9 t) (Rect.unit ![0, 1] ![1, 1] inb_S1x16_S1x1_0_1))
    (View.ld (iblk m c 9 t) (Rect.unit ![0, 2] ![1, 1] inb_S1x16_S1x1_0_2))
    (View.ld (iblk m c 9 t) (Rect.unit ![0, 3] ![1, 1] inb_S1x16_S1x1_0_3))

theorem head0_apply (hA : Finite (argArrays m c)) (t : Fin cfg0.N) (x : Fin 512) (d : Fin 64) :
    head0 m c t (ix2 x d) = out (argArrays m c) (128 * t.val + x.val % 128) (4 * 0 + x.val / 128) d.val := by
  have ht := lt_N t
  have e := idx t
  rw [← coords_eq t]
  refine head_apply (argArrays m c) hA (fun h => rfl) (grid0.coords t) 0 (by decide) _ _ _ _ _ _ _ _ _ _ _ _ _ _ _ _
    (fun r d => (kv_apply _ 0 _ r d).trans ((blk1_apply m c t r _).trans ?_)) (fun r d => (kv_apply _ 0 _ r d).trans ((blk2_apply m c t r _).trans ?_))
    (fun r d => (kv_apply _ 0 _ r d).trans ((blk3_apply m c t r _).trans ?_)) (fun r d => (kv_apply _ 0 _ r d).trans ((blk4_apply m c t r _).trans ?_))
    (fun r d => (kv_apply _ 0 _ r d).trans ((blk5_apply m c t r _).trans ?_)) (fun r d => (kv_apply _ 0 _ r d).trans ((blk6_apply m c t r _).trans ?_))
    (fun r d => (q_apply _ 0 _ r d).trans ((blk0_apply m c t r _).trans ?_)) (fun r d => (q_apply _ 64 _ r d).trans ((blk0_apply m c t r _).trans ?_))
    (fun r d => (q_apply _ 128 _ r d).trans ((blk0_apply m c t r _).trans ?_)) (fun r d => (q_apply _ 192 _ r d).trans ((blk0_apply m c t r _).trans ?_))
    (fun d => blk7_apply m c t d) (fun d => blk8_apply m c t d)
    ((s_apply _ 0 _).trans (blk9_apply m c t _)) ((s_apply _ 1 _).trans (blk9_apply m c t _))
    ((s_apply _ 2 _).trans (blk9_apply m c t _)) ((s_apply _ 3 _).trans (blk9_apply m c t _)) x d
  all_goals try rw [coords_eq t]
  all_goals exact congrArg _ (by dsimp only; omega)

/-- The rows of key/value head 1 at point `t`, from the blocks. -/
abbrev head1 (t : Fin cfg0.N) : FVec Ideal S512x64 .f32 :=
  head (grid0.coords t) 1
    (View.ld (iblk m c 1 t) (Rect.unit ![0, 64] ![128, 64] inb_S128x256_S128x64_0_64))
    (View.ld (iblk m c 2 t) (Rect.unit ![0, 64] ![128, 64] inb_S128x256_S128x64_0_64))
    (View.ld (iblk m c 3 t) (Rect.unit ![0, 64] ![128, 64] inb_S128x256_S128x64_0_64))
    (View.ld (iblk m c 4 t) (Rect.unit ![0, 64] ![128, 64] inb_S128x256_S128x64_0_64))
    (View.ld (iblk m c 5 t) (Rect.unit ![0, 64] ![128, 64] inb_S128x256_S128x64_0_64))
    (View.ld (iblk m c 6 t) (Rect.unit ![0, 64] ![128, 64] inb_S128x256_S128x64_0_64))
    (View.ld (X0_0 m c t) (Rect.unit ![0, 256] ![128, 64] inb_S128x1024_S128x64_0_256))
    (View.ld (X0_0 m c t) (Rect.unit ![0, 320] ![128, 64] inb_S128x1024_S128x64_0_320))
    (View.ld (X0_0 m c t) (Rect.unit ![0, 384] ![128, 64] inb_S128x1024_S128x64_0_384))
    (View.ld (X0_0 m c t) (Rect.unit ![0, 448] ![128, 64] inb_S128x1024_S128x64_0_448))
    (iblk m c 7 t) (iblk m c 8 t)
    (View.ld (iblk m c 9 t) (Rect.unit ![0, 4] ![1, 1] inb_S1x16_S1x1_0_4))
    (View.ld (iblk m c 9 t) (Rect.unit ![0, 5] ![1, 1] inb_S1x16_S1x1_0_5))
    (View.ld (iblk m c 9 t) (Rect.unit ![0, 6] ![1, 1] inb_S1x16_S1x1_0_6))
    (View.ld (iblk m c 9 t) (Rect.unit ![0, 7] ![1, 1] inb_S1x16_S1x1_0_7))

theorem head1_apply (hA : Finite (argArrays m c)) (t : Fin cfg0.N) (x : Fin 512) (d : Fin 64) :
    head1 m c t (ix2 x d) = out (argArrays m c) (128 * t.val + x.val % 128) (4 * 1 + x.val / 128) d.val := by
  have ht := lt_N t
  have e := idx t
  rw [← coords_eq t]
  refine head_apply (argArrays m c) hA (fun h => rfl) (grid0.coords t) 1 (by decide) _ _ _ _ _ _ _ _ _ _ _ _ _ _ _ _
    (fun r d => (kv_apply _ 64 _ r d).trans ((blk1_apply m c t r _).trans ?_)) (fun r d => (kv_apply _ 64 _ r d).trans ((blk2_apply m c t r _).trans ?_))
    (fun r d => (kv_apply _ 64 _ r d).trans ((blk3_apply m c t r _).trans ?_)) (fun r d => (kv_apply _ 64 _ r d).trans ((blk4_apply m c t r _).trans ?_))
    (fun r d => (kv_apply _ 64 _ r d).trans ((blk5_apply m c t r _).trans ?_)) (fun r d => (kv_apply _ 64 _ r d).trans ((blk6_apply m c t r _).trans ?_))
    (fun r d => (q_apply _ 256 _ r d).trans ((blk0_apply m c t r _).trans ?_)) (fun r d => (q_apply _ 320 _ r d).trans ((blk0_apply m c t r _).trans ?_))
    (fun r d => (q_apply _ 384 _ r d).trans ((blk0_apply m c t r _).trans ?_)) (fun r d => (q_apply _ 448 _ r d).trans ((blk0_apply m c t r _).trans ?_))
    (fun d => blk7_apply m c t d) (fun d => blk8_apply m c t d)
    ((s_apply _ 4 _).trans (blk9_apply m c t _)) ((s_apply _ 5 _).trans (blk9_apply m c t _))
    ((s_apply _ 6 _).trans (blk9_apply m c t _)) ((s_apply _ 7 _).trans (blk9_apply m c t _)) x d
  all_goals try rw [coords_eq t]
  all_goals exact congrArg _ (by dsimp only; omega)

/-- The rows of key/value head 2 at point `t`, from the blocks. -/
abbrev head2 (t : Fin cfg0.N) : FVec Ideal S512x64 .f32 :=
  head (grid0.coords t) 2
    (View.ld (iblk m c 1 t) (Rect.unit ![0, 128] ![128, 64] inb_S128x256_S128x64_0_128))
    (View.ld (iblk m c 2 t) (Rect.unit ![0, 128] ![128, 64] inb_S128x256_S128x64_0_128))
    (View.ld (iblk m c 3 t) (Rect.unit ![0, 128] ![128, 64] inb_S128x256_S128x64_0_128))
    (View.ld (iblk m c 4 t) (Rect.unit ![0, 128] ![128, 64] inb_S128x256_S128x64_0_128))
    (View.ld (iblk m c 5 t) (Rect.unit ![0, 128] ![128, 64] inb_S128x256_S128x64_0_128))
    (View.ld (iblk m c 6 t) (Rect.unit ![0, 128] ![128, 64] inb_S128x256_S128x64_0_128))
    (View.ld (X0_0 m c t) (Rect.unit ![0, 512] ![128, 64] inb_S128x1024_S128x64_0_512))
    (View.ld (X0_0 m c t) (Rect.unit ![0, 576] ![128, 64] inb_S128x1024_S128x64_0_576))
    (View.ld (X0_0 m c t) (Rect.unit ![0, 640] ![128, 64] inb_S128x1024_S128x64_0_640))
    (View.ld (X0_0 m c t) (Rect.unit ![0, 704] ![128, 64] inb_S128x1024_S128x64_0_704))
    (iblk m c 7 t) (iblk m c 8 t)
    (View.ld (iblk m c 9 t) (Rect.unit ![0, 8] ![1, 1] inb_S1x16_S1x1_0_8))
    (View.ld (iblk m c 9 t) (Rect.unit ![0, 9] ![1, 1] inb_S1x16_S1x1_0_9))
    (View.ld (iblk m c 9 t) (Rect.unit ![0, 10] ![1, 1] inb_S1x16_S1x1_0_10))
    (View.ld (iblk m c 9 t) (Rect.unit ![0, 11] ![1, 1] inb_S1x16_S1x1_0_11))

theorem head2_apply (hA : Finite (argArrays m c)) (t : Fin cfg0.N) (x : Fin 512) (d : Fin 64) :
    head2 m c t (ix2 x d) = out (argArrays m c) (128 * t.val + x.val % 128) (4 * 2 + x.val / 128) d.val := by
  have ht := lt_N t
  have e := idx t
  rw [← coords_eq t]
  refine head_apply (argArrays m c) hA (fun h => rfl) (grid0.coords t) 2 (by decide) _ _ _ _ _ _ _ _ _ _ _ _ _ _ _ _
    (fun r d => (kv_apply _ 128 _ r d).trans ((blk1_apply m c t r _).trans ?_)) (fun r d => (kv_apply _ 128 _ r d).trans ((blk2_apply m c t r _).trans ?_))
    (fun r d => (kv_apply _ 128 _ r d).trans ((blk3_apply m c t r _).trans ?_)) (fun r d => (kv_apply _ 128 _ r d).trans ((blk4_apply m c t r _).trans ?_))
    (fun r d => (kv_apply _ 128 _ r d).trans ((blk5_apply m c t r _).trans ?_)) (fun r d => (kv_apply _ 128 _ r d).trans ((blk6_apply m c t r _).trans ?_))
    (fun r d => (q_apply _ 512 _ r d).trans ((blk0_apply m c t r _).trans ?_)) (fun r d => (q_apply _ 576 _ r d).trans ((blk0_apply m c t r _).trans ?_))
    (fun r d => (q_apply _ 640 _ r d).trans ((blk0_apply m c t r _).trans ?_)) (fun r d => (q_apply _ 704 _ r d).trans ((blk0_apply m c t r _).trans ?_))
    (fun d => blk7_apply m c t d) (fun d => blk8_apply m c t d)
    ((s_apply _ 8 _).trans (blk9_apply m c t _)) ((s_apply _ 9 _).trans (blk9_apply m c t _))
    ((s_apply _ 10 _).trans (blk9_apply m c t _)) ((s_apply _ 11 _).trans (blk9_apply m c t _)) x d
  all_goals try rw [coords_eq t]
  all_goals exact congrArg _ (by dsimp only; omega)

/-- The rows of key/value head 3 at point `t`, from the blocks. -/
abbrev head3 (t : Fin cfg0.N) : FVec Ideal S512x64 .f32 :=
  head (grid0.coords t) 3
    (View.ld (iblk m c 1 t) (Rect.unit ![0, 192] ![128, 64] inb_S128x256_S128x64_0_192))
    (View.ld (iblk m c 2 t) (Rect.unit ![0, 192] ![128, 64] inb_S128x256_S128x64_0_192))
    (View.ld (iblk m c 3 t) (Rect.unit ![0, 192] ![128, 64] inb_S128x256_S128x64_0_192))
    (View.ld (iblk m c 4 t) (Rect.unit ![0, 192] ![128, 64] inb_S128x256_S128x64_0_192))
    (View.ld (iblk m c 5 t) (Rect.unit ![0, 192] ![128, 64] inb_S128x256_S128x64_0_192))
    (View.ld (iblk m c 6 t) (Rect.unit ![0, 192] ![128, 64] inb_S128x256_S128x64_0_192))
    (View.ld (X0_0 m c t) (Rect.unit ![0, 768] ![128, 64] inb_S128x1024_S128x64_0_768))
    (View.ld (X0_0 m c t) (Rect.unit ![0, 832] ![128, 64] inb_S128x1024_S128x64_0_832))
    (View.ld (X0_0 m c t) (Rect.unit ![0, 896] ![128, 64] inb_S128x1024_S128x64_0_896))
    (View.ld (X0_0 m c t) (Rect.unit ![0, 960] ![128, 64] inb_S128x1024_S128x64_0_960))
    (iblk m c 7 t) (iblk m c 8 t)
    (View.ld (iblk m c 9 t) (Rect.unit ![0, 12] ![1, 1] inb_S1x16_S1x1_0_12))
    (View.ld (iblk m c 9 t) (Rect.unit ![0, 13] ![1, 1] inb_S1x16_S1x1_0_13))
    (View.ld (iblk m c 9 t) (Rect.unit ![0, 14] ![1, 1] inb_S1x16_S1x1_0_14))
    (View.ld (iblk m c 9 t) (Rect.unit ![0, 15] ![1, 1] inb_S1x16_S1x1_0_15))

theorem head3_apply (hA : Finite (argArrays m c)) (t : Fin cfg0.N) (x : Fin 512) (d : Fin 64) :
    head3 m c t (ix2 x d) = out (argArrays m c) (128 * t.val + x.val % 128) (4 * 3 + x.val / 128) d.val := by
  have ht := lt_N t
  have e := idx t
  rw [← coords_eq t]
  refine head_apply (argArrays m c) hA (fun h => rfl) (grid0.coords t) 3 (by decide) _ _ _ _ _ _ _ _ _ _ _ _ _ _ _ _
    (fun r d => (kv_apply _ 192 _ r d).trans ((blk1_apply m c t r _).trans ?_)) (fun r d => (kv_apply _ 192 _ r d).trans ((blk2_apply m c t r _).trans ?_))
    (fun r d => (kv_apply _ 192 _ r d).trans ((blk3_apply m c t r _).trans ?_)) (fun r d => (kv_apply _ 192 _ r d).trans ((blk4_apply m c t r _).trans ?_))
    (fun r d => (kv_apply _ 192 _ r d).trans ((blk5_apply m c t r _).trans ?_)) (fun r d => (kv_apply _ 192 _ r d).trans ((blk6_apply m c t r _).trans ?_))
    (fun r d => (q_apply _ 768 _ r d).trans ((blk0_apply m c t r _).trans ?_)) (fun r d => (q_apply _ 832 _ r d).trans ((blk0_apply m c t r _).trans ?_))
    (fun r d => (q_apply _ 896 _ r d).trans ((blk0_apply m c t r _).trans ?_)) (fun r d => (q_apply _ 960 _ r d).trans ((blk0_apply m c t r _).trans ?_))
    (fun d => blk7_apply m c t d) (fun d => blk8_apply m c t d)
    ((s_apply _ 12 _).trans (blk9_apply m c t _)) ((s_apply _ 13 _).trans (blk9_apply m c t _))
    ((s_apply _ 14 _).trans (blk9_apply m c t _)) ((s_apply _ 15 _).trans (blk9_apply m c t _)) x d
  all_goals try rw [coords_eq t]
  all_goals exact congrArg _ (by dsimp only; omega)

/-! ### The result -/

/-- A block of rows of the result: the entry a stored piece has at its index. -/
theorem outArray_emb (t : Fin cfg0.N) (o : ℕ) (h : ∀ a, (![0, o] : Fin 2 → ℕ) a + (![128, 64] : Fin 2 → ℕ) a ≤ S128x1024.size a) (x : Fin 128) (d : Fin 64) :
    outArray (argArrays m c) (((View.whole main_v0).slice (win0_10.rect t)).emb ((Rect.unit (s := S128x1024) ![0, o] ![128, 64] h).emb (ix2 x d : S128x64.Idx)))
      = out (argArrays m c) (128 * t.val + x.val) ((o + d.val) / 64) ((o + d.val) % 64) := by
  have e := idx t
  unfold outArray
  have e0 : (((View.whole main_v0).slice (win0_10.rect t)).emb ((Rect.unit (s := S128x1024) ![0, o] ![128, 64] h).emb (ix2 x d : S128x64.Idx)) 0).val = 128 * t.val + x.val := by
    blk_simp [e]
    omega
  have e1 : (((View.whole main_v0).slice (win0_10.rect t)).emb ((Rect.unit (s := S128x1024) ![0, o] ![128, 64] h).emb (ix2 x d : S128x64.Idx)) 1).val = o + d.val := by
    blk_simp [e]
  rw [e0, e1]

/-- Rows `128 g …` of a head's 512. -/
theorem rows_apply (v : FVec Ideal S512x64 .f32) (g : ℕ) (h : S512x64.Slices ![128 * g, 0] S128x64) (hg : g < 4) (x : Fin 128) (d : Fin 64) :
    extractStridedSlice S128x64 ![128 * g, 0] v h (ix2 x d) = v (ix2 ⟨128 * g + x.val, by omega⟩ d) := by
  pointwise []

theorem piece (t : Fin cfg0.N) (kh g o : ℕ) (hg : g < 4) (ho : o = 64 * (4 * kh + g)) (v : FVec Ideal S512x64 .f32)
    (hv : ∀ (x : Fin 512) (d : Fin 64), v (ix2 x d) = out (argArrays m c) (128 * t.val + x.val % 128) (4 * kh + x.val / 128) d.val)
    (h : ∀ a, (![0, o] : Fin 2 → ℕ) a + (![128, 64] : Fin 2 → ℕ) a ≤ S128x1024.size a) (hs : S512x64.Slices ![128 * g, 0] S128x64) (y : S128x64.Idx) :
    extractStridedSlice S128x64 ![128 * g, 0] v hs y
      = outArray (argArrays m c) (((View.whole main_v0).slice (win0_10.rect t)).emb ((Rect.unit (s := S128x1024) ![0, o] ![128, 64] h).emb y)) := by
  obtain ⟨x, d, rfl⟩ : ∃ (x : Fin 128) (d : Fin 64), y = ix2 x d := ⟨y 0, y 1, by funext a; fin_cases a <;> rfl⟩
  rw [outArray_emb, rows_apply v g hs hg, hv]
  have hx := x.isLt
  have hd := d.isLt
  dsimp only
  rw [show (128 * g + x.val) % 128 = x.val by omega, show 4 * kh + (128 * g + x.val) / 128 = (o + d.val) / 64 by omega, show (o + d.val) % 64 = d.val by omega]

/-- The sixteen stores of a point, last first. -/
def pieces (t : Fin cfg0.N) : List (View.Piece (Elt Ideal) S128x1024 .f32) :=
  [⟨Rect.unit ![0, 960] ![128, 64] inb_S128x1024_S128x64_0_960, extractStridedSlice S128x64 ![384, 0] (head3 m c t) slices_S512x64_o384_0_S128x64⟩,
   ⟨Rect.unit ![0, 896] ![128, 64] inb_S128x1024_S128x64_0_896, extractStridedSlice S128x64 ![256, 0] (head3 m c t) slices_S512x64_o256_0_S128x64⟩,
   ⟨Rect.unit ![0, 832] ![128, 64] inb_S128x1024_S128x64_0_832, extractStridedSlice S128x64 ![128, 0] (head3 m c t) slices_S512x64_o128_0_S128x64⟩,
   ⟨Rect.unit ![0, 768] ![128, 64] inb_S128x1024_S128x64_0_768, extractStridedSlice S128x64 ![0, 0] (head3 m c t) slices_S512x64_o0_0_S128x64⟩,
   ⟨Rect.unit ![0, 704] ![128, 64] inb_S128x1024_S128x64_0_704, extractStridedSlice S128x64 ![384, 0] (head2 m c t) slices_S512x64_o384_0_S128x64⟩,
   ⟨Rect.unit ![0, 640] ![128, 64] inb_S128x1024_S128x64_0_640, extractStridedSlice S128x64 ![256, 0] (head2 m c t) slices_S512x64_o256_0_S128x64⟩,
   ⟨Rect.unit ![0, 576] ![128, 64] inb_S128x1024_S128x64_0_576, extractStridedSlice S128x64 ![128, 0] (head2 m c t) slices_S512x64_o128_0_S128x64⟩,
   ⟨Rect.unit ![0, 512] ![128, 64] inb_S128x1024_S128x64_0_512, extractStridedSlice S128x64 ![0, 0] (head2 m c t) slices_S512x64_o0_0_S128x64⟩,
   ⟨Rect.unit ![0, 448] ![128, 64] inb_S128x1024_S128x64_0_448, extractStridedSlice S128x64 ![384, 0] (head1 m c t) slices_S512x64_o384_0_S128x64⟩,
   ⟨Rect.unit ![0, 384] ![128, 64] inb_S128x1024_S128x64_0_384, extractStridedSlice S128x64 ![256, 0] (head1 m c t) slices_S512x64_o256_0_S128x64⟩,
   ⟨Rect.unit ![0, 320] ![128, 64] inb_S128x1024_S128x64_0_320, extractStridedSlice S128x64 ![128, 0] (head1 m c t) slices_S512x64_o128_0_S128x64⟩,
   ⟨Rect.unit ![0, 256] ![128, 64] inb_S128x1024_S128x64_0_256, extractStridedSlice S128x64 ![0, 0] (head1 m c t) slices_S512x64_o0_0_S128x64⟩,
   ⟨Rect.unit ![0, 192] ![128, 64] inb_S128x1024_S128x64_0_192, extractStridedSlice S128x64 ![384, 0] (head0 m c t) slices_S512x64_o384_0_S128x64⟩,
   ⟨Rect.unit ![0, 128] ![128, 64] inb_S128x1024_S128x64_0_128, extractStridedSlice S128x64 ![256, 0] (head0 m c t) slices_S512x64_o256_0_S128x64⟩,
   ⟨Rect.unit ![0, 64] ![128, 64] inb_S128x1024_S128x64_0_64, extractStridedSlice S128x64 ![128, 0] (head0 m c t) slices_S512x64_o128_0_S128x64⟩,
   ⟨Rect.unit ![0, 0] ![128, 64] inb_S128x1024_S128x64_0_0, extractStridedSlice S128x64 ![0, 0] (head0 m c t) slices_S512x64_o0_0_S128x64⟩]

theorem pieces_apply (hA : Finite (argArrays m c)) (t : Fin cfg0.N) (y : S128x1024.Idx) :
    View.canon (pieces m c t) y = outArray (argArrays m c) (((View.whole main_v0).slice (win0_10.rect t)).emb y) := by
  refine View.canon_apply_of_pieces (Val := Elt Ideal) (e := .f32) (fun y => outArray (argArrays m c) (((View.whole main_v0).slice (win0_10.rect t)).emb y)) _ (fun p hp x => ?_) y
    (View.cover_of_tiledL (s := S128x1024) (pieces m c t) S128x64.size (by sl_kernel_rfl) y)
  unfold pieces at hp
  simp only [List.mem_cons, List.not_mem_nil, or_false] at hp
  rcases hp with rfl | rfl | rfl | rfl | rfl | rfl | rfl | rfl | rfl | rfl | rfl | rfl | rfl | rfl | rfl | rfl
  · exact piece m c t 3 3 960 (by decide) rfl (head3 m c t) (head3_apply m c hA t) inb_S128x1024_S128x64_0_960 slices_S512x64_o384_0_S128x64 x
  · exact piece m c t 3 2 896 (by decide) rfl (head3 m c t) (head3_apply m c hA t) inb_S128x1024_S128x64_0_896 slices_S512x64_o256_0_S128x64 x
  · exact piece m c t 3 1 832 (by decide) rfl (head3 m c t) (head3_apply m c hA t) inb_S128x1024_S128x64_0_832 slices_S512x64_o128_0_S128x64 x
  · exact piece m c t 3 0 768 (by decide) rfl (head3 m c t) (head3_apply m c hA t) inb_S128x1024_S128x64_0_768 slices_S512x64_o0_0_S128x64 x
  · exact piece m c t 2 3 704 (by decide) rfl (head2 m c t) (head2_apply m c hA t) inb_S128x1024_S128x64_0_704 slices_S512x64_o384_0_S128x64 x
  · exact piece m c t 2 2 640 (by decide) rfl (head2 m c t) (head2_apply m c hA t) inb_S128x1024_S128x64_0_640 slices_S512x64_o256_0_S128x64 x
  · exact piece m c t 2 1 576 (by decide) rfl (head2 m c t) (head2_apply m c hA t) inb_S128x1024_S128x64_0_576 slices_S512x64_o128_0_S128x64 x
  · exact piece m c t 2 0 512 (by decide) rfl (head2 m c t) (head2_apply m c hA t) inb_S128x1024_S128x64_0_512 slices_S512x64_o0_0_S128x64 x
  · exact piece m c t 1 3 448 (by decide) rfl (head1 m c t) (head1_apply m c hA t) inb_S128x1024_S128x64_0_448 slices_S512x64_o384_0_S128x64 x
  · exact piece m c t 1 2 384 (by decide) rfl (head1 m c t) (head1_apply m c hA t) inb_S128x1024_S128x64_0_384 slices_S512x64_o256_0_S128x64 x
  · exact piece m c t 1 1 320 (by decide) rfl (head1 m c t) (head1_apply m c hA t) inb_S128x1024_S128x64_0_320 slices_S512x64_o128_0_S128x64 x
  · exact piece m c t 1 0 256 (by decide) rfl (head1 m c t) (head1_apply m c hA t) inb_S128x1024_S128x64_0_256 slices_S512x64_o0_0_S128x64 x
  · exact piece m c t 0 3 192 (by decide) rfl (head0 m c t) (head0_apply m c hA t) inb_S128x1024_S128x64_0_192 slices_S512x64_o384_0_S128x64 x
  · exact piece m c t 0 2 128 (by decide) rfl (head0 m c t) (head0_apply m c hA t) inb_S128x1024_S128x64_0_128 slices_S512x64_o256_0_S128x64 x
  · exact piece m c t 0 1 64 (by decide) rfl (head0 m c t) (head0_apply m c hA t) inb_S128x1024_S128x64_0_64 slices_S512x64_o128_0_S128x64 x
  · exact piece m c t 0 0 0 (by decide) rfl (head0 m c t) (head0_apply m c hA t) inb_S128x1024_S128x64_0_0 slices_S512x64_o0_0_S128x64 x

theorem final (hA : Finite (argArrays m c)) : (dats m 0 c).arrAt 10 cfg0.N = outArray (argArrays m c) := by
  refine (dats m 0 c).arrAt_eq_of_covers 10 _ (by decide +kernel) fun t hf y => ?_
  refine Eq.trans ?_ (pieces_apply m c hA t y)
  blk_simp
  rw [after0_10]
  unfold outsAt0
  frame_out
  unfold k0_pay19 k0_pay20 k0_pay21 k0_pay22 k0_pay32 k0_pay33 k0_pay34 k0_pay35 k0_pay45 k0_pay46 k0_pay47 k0_pay48 k0_pay2 k0_pay3 k0_pay4 k0_pay5
  rw [head0_eq, head1_eq, head2_eq, head3_eq]
  rfl

/-! ## The reference -/

section

open Cert.AttnFwdRefIdeal.Read

variable (x0 : FVec Ideal S4224x2560 .f32) (x1 x2 : FVec Ideal S1x64 .f32) (x3 : FVec Ideal S1x16 .f32)

theorem probs_apply (hA : Finite (arrays x0 (fun _ => (0 : EReal)) x1 x2 x3)) (k g : Fin 4) (t s : Fin 4112) :
    val_main_v98 (F := Ideal) x0 x1 x2 x3 (ix4 k g t s)
      = if Vis (t.val + 112) (s.val + 112) then prob (arrays x0 (fun _ => (0 : EReal)) x1 x2 x3) (t.val + 112) (s.val + 112) (4 * k.val + g.val) else 0 :=
  (show _ = Cert.ReferenceIdeal.Read.val_main_v117 (F := Ideal) x0 x1 x2 x3 (ix4 k g t s) from rfl).trans
    (Cert.ReferenceIdeal.Attn.v117_apply x0 (fun _ => (0 : EReal)) x1 x2 x3 hA k g t s)

theorem reference_eq (hA : Finite (arrays x0 (fun _ => (0 : EReal)) x1 x2 x3)) :
    val_main_v102 (F := Ideal) x0 x1 x2 x3 = outArray (arrays x0 (fun _ => (0 : EReal)) x1 x2 x3) := by
  funext y
  obtain ⟨r, j, rfl⟩ : ∃ (r : Fin 4224) (j : Fin 1024), y = ix2 r j := ⟨y 0, y 1, by funext a; fin_cases a <;> rfl⟩
  show _ = out (arrays x0 (fun _ => (0 : EReal)) x1 x2 x3) r.val (j.val / 64) (j.val % 64)
  have hr := r.isLt
  have hj := j.isLt
  pointwise [val_main_v99, val_main_v100, val_main_v101, val_main_v102, val_main_call1_v0, val_main_v34, val_main_v33]
  by_cases h : 112 ≤ r.val ∧ r.val - 112 < 4112
  · rw [dif_pos h]
    conv_rhs => rw [show r.val = r.val - 112 + 112 by omega]
    rw [← token_out _ h.2]
    refine Finset.sum_congr rfl fun s _ => ?_
    rw [probs_apply x0 x1 x2 x3 hA, mul_comm]
    refine congrArg₂ (fun a b : EReal => a * b) ?_ ?_
    · dsimp only
      rw [show 4 * (j.val / 256) + j.val / 64 % 4 = j.val / 64 by omega]
    · show _ = entry x0 (s.val + 112) (1280 + 64 * (j.val / 64 / 4) + j.val % 64)
      rw [entry_of x0 (r := s.val + 112) (c := 1280 + 64 * (j.val / 64 / 4) + j.val % 64) (by omega) (by omega)]
      pointwise [val_main_v0]
      exact congrArg x0 (congrArg₂ ix2 (Fin.ext (by show 112 + s.val = s.val + 112; omega)) (Fin.ext (by
        show 1280 + (j.val / 256 * 64 + j.val % 64) = 1280 + 64 * (j.val / 64 / 4) + j.val % 64; omega)))
  · rw [dif_neg h, out_of_lt _ (by omega)]
    show (((0#32 : BitVec 32).toInt : ℝ) : EReal) = 0
    simp

end

/-! ## The claim -/

theorem preFacts : Cert.Pre_finite_attn.Facts where
  slices_S4224x2560_S4112x1280_112_0 := by decide
  bcast_S_S4112x1280 := by decide
  bcast_S_S1x64 := by decide
  bcast_S_S1x16 := by decide

theorem finite_of_pre [hp : Cert.Pre_finite_attn.Facts] (x0 : FVec Ideal S4224x2560 .f32) (x1 x2 : FVec Ideal S1x64 .f32) (x3 : FVec Ideal S1x16 .f32)
    (h0 : (Cert.Pre_finite_attn.fn (F := Ideal) x0 x1 x2 x3).1 = (fun _ => 1#1))
    (h1 : (Cert.Pre_finite_attn.fn (F := Ideal) x0 x1 x2 x3).2.1 = (fun _ => 1#1))
    (h2 : (Cert.Pre_finite_attn.fn (F := Ideal) x0 x1 x2 x3).2.2.1 = (fun _ => 1#1))
    (h3 : (Cert.Pre_finite_attn.fn (F := Ideal) x0 x1 x2 x3).2.2.2 = (fun _ => 1#1)) :
    Finite (arrays x0 (fun _ => (0 : EReal)) x1 x2 x3) := by
  refine Cert.KernelIdeal.Attn.finite_arrays x0 (fun _ => (0 : EReal)) x1 x2 x3 (fun r c => by
    have e := congrFun h0 (ix2 r c)
    unfold Cert.Pre_finite_attn.fn Cert.Pre_finite_attn.fn_part1 at e
    dsimp only at e
    pointwise [] at e
    exact Cert.KernelIdeal.Attn.fn_of_word _ e)
    (fun d => by
    have e := congrFun h1 (ix2 0 d)
    unfold Cert.Pre_finite_attn.fn Cert.Pre_finite_attn.fn_part1 at e
    dsimp only at e
    pointwise [] at e
    exact Cert.KernelIdeal.Attn.fn_of_word _ e)
    (fun d => by
    have e := congrFun h2 (ix2 0 d)
    unfold Cert.Pre_finite_attn.fn Cert.Pre_finite_attn.fn_part1 at e
    dsimp only at e
    pointwise [] at e
    exact Cert.KernelIdeal.Attn.fn_of_word _ e)
    (fun d => by
    have e := congrFun h3 (ix2 0 d)
    unfold Cert.Pre_finite_attn.fn Cert.Pre_finite_attn.fn_part1 at e
    dsimp only at e
    pointwise [] at e
    exact Cert.KernelIdeal.Attn.fn_of_word _ e)

theorem equal [hp : Cert.Pre_finite_attn.Facts] : Cert.algebraic_AttnFwdIdeal_AttnFwdRefIdeal_pre_finite_attn := fun m ρ m' ρ' hpre harg => by
  refine ⟨fun c => (dats m 0 c).arrAt 10 cfg0.N, Value.run_blocks m ρ,
    (θ_run Cert.AttnFwdRefIdeal.defs _ _).mono (fun r h c => ⟨?_, (h c).2⟩) (Cert.AttnFwdRefIdeal.Value.run (F := Ideal) m' ρ')⟩
  have hA : Finite (argArrays m c) := finite_of_pre _ _ _ _ (hpre c).1 (hpre c).2.1 (hpre c).2.2.1 (hpre c).2.2.2
  rw [(h c).1, Cert.AttnFwdRefIdeal.Read.val_main_v102_eq, (harg c).1, (harg c).2.1, (harg c).2.2.1, (harg c).2.2.2]
  exact (reference_eq _ _ _ _ hA).trans (final m c hA).symm

theorem frame_reference : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)

end Cert.AttnFwdIdeal.Mm

end
-- ==== Proof.AttnKeyStep.lean ====
/- What one grid point of the attention gradient adds into the key accumulator: the same rows as for the values, from another
   contribution of each key/value head. -/
module

public import proofs.«01_k».proof.Proof.AttnStep

@[expose] public section

set_option maxRecDepth 16384

noncomputable section

namespace Cert.KernelIdeal.Attn

open Idealize.ShloMosaic Idealize.ShloMosaic.TcCoe Idealize.ShloMosaic.Tactic
open Idealize.ShloMosaic.ValueIdx
open Cert.KernelIdeal Cert.KernelIdeal.Gen

variable {F : FTy → Type} [FloatOps F] [Named F]

/-! ## One head's contribution -/

/-- The contribution of one key/value head at one grid point: the transposed differences (the probability times what the
    cotangent's product with the value exceeds its product with the saved output) times the normed query rows, an eighth. -/
def headDk (mask dist : FVec F S512x384 .f32) (slope : FVec F S512x1 .f32) (k0 k1 k2 v0 v1 v2 : Vec F S128x64 .f32)
    (gk : Vec F S1x64 .f32) (q0 q1 q2 q3 : Vec F S128x64 .f32) (gq : Vec F S1x64 .f32) (s0 s1 s2 s3 : Vec F S1x1 .f32)
    (o0 o1 o2 o3 d0 d1 d2 d3 : Vec F S128x64 .f32) : FVec F S384x64 .f32 :=
  k0_pay42 (k0_pay18 q0 q1 q2 q3 gq)
    (k0_pay35 (k0_pay15 v0 v1 v2) (k0_pay29 mask dist (k0_pay14 k0 k1 k2 gk) (k0_pay18 q0 q1 q2 q3 gq) slope s3 (k0_pay20 s0) (k0_pay21 s1) (k0_pay22 s2))
      (k0_pay31 d0 d1 d2 d3) (k0_pay32 d0 d1 d2 d3 o0 o1 o2 o3))

/-- The contribution of key/value head `kh` at a grid point, from the point's blocks. -/
def dkC (i : grid0.Coords) (kh : ℕ) (h : kh < 4) (slope : FVec F S512x1 .f32) (x0 : Vec F S128x1024 .f32)
    (x1 x2 x3 x4 x5 x6 : Vec F S128x256 .f32) (x7 x8 : Vec F S128x1024 .f32) (x9 x10 : Vec F S1x64 .f32) (x11 : Vec F S1x16 .f32) :
    FVec F S384x64 .f32 :=
  headDk (k0_pay10 i) (k0_pay11 i) slope (kvWin x1 kh h) (kvWin x2 kh h) (kvWin x3 kh h) (kvWin x4 kh h) (kvWin x5 kh h) (kvWin x6 kh h) (gWin x10)
    (qWin x0 (4 * kh) (by omega)) (qWin x0 (4 * kh + 1) (by omega)) (qWin x0 (4 * kh + 2) (by omega)) (qWin x0 (4 * kh + 3) (by omega))
    (gWin x9) (skWin x11 (4 * kh) (by omega)) (skWin x11 (4 * kh + 1) (by omega)) (skWin x11 (4 * kh + 2) (by omega)) (skWin x11 (4 * kh + 3) (by omega))
    (qWin x7 (4 * kh) (by omega)) (qWin x7 (4 * kh + 1) (by omega)) (qWin x7 (4 * kh + 2) (by omega)) (qWin x7 (4 * kh + 3) (by omega))
    (qWin x8 (4 * kh) (by omega)) (qWin x8 (4 * kh + 1) (by omega)) (qWin x8 (4 * kh + 2) (by omega)) (qWin x8 (4 * kh + 3) (by omega))

/-! ## The heads' contributions in the run (first point) -/

theorem keyHeadA0 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    runA.sl.r_20 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = dkC i 0 (by decide) (slopeCol 0) x0 x1 x2 x3 x4 x5 x6 x7 x8 x9 x10 x11 := by
  simp only [runA.sl.r_20, runA.sl.r_6, runA.sl.r_2, runA.sl.r_3, runA.sl.r_16, runA.sl.r_1, runA.sl.r_11, runA.sl.r, runA.sl.r_7, runA.sl.r_8, runA.sl.r_9, runA.sl.r_10, runA.sl.r_13, runA.sl.r_14, ldWin]
  rfl

theorem keyHeadA1 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    runA.sl.r_46 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = dkC i 1 (by decide) (slopeCol 1) x0 x1 x2 x3 x4 x5 x6 x7 x8 x9 x10 x11 := by
  simp only [runA.sl.r_46, runA.sl.r_32, runA.sl.r_28, runA.sl.r_29, runA.sl.r_42, runA.sl.r_27, runA.sl.r_37, runA.sl.r_26, runA.sl.r_33, runA.sl.r_34, runA.sl.r_35, runA.sl.r_36, runA.sl.r_39, runA.sl.r_40, ldWin]
  rfl

theorem keyHeadA2 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    runA.sl.r_70 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = dkC i 2 (by decide) (slopeCol 2) x0 x1 x2 x3 x4 x5 x6 x7 x8 x9 x10 x11 := by
  simp only [runA.sl.r_70, runA.sl.r_59, runA.sl.r_54, runA.sl.r_55, runA.sl.r_56, runA.sl.r_66, runA.sl.r_53, runA.sl.r_62, runA.sl.r_52, runA.sl.r_60, runA.sl.r_61, runA.sl.r_64, runA.sl.r_65, ldWin]
  rfl

theorem keyHeadA3 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    runA.sl.r_96 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = dkC i 3 (by decide) (slopeCol 3) x0 x1 x2 x3 x4 x5 x6 x7 x8 x9 x10 x11 := by
  simp only [runA.sl.r_96, runA.sl.r_83, runA.sl.r_77, runA.sl.r_78, runA.sl.r_79, runA.sl.r_80, runA.sl.r_92, runA.sl.r_87, runA.sl.r_84, runA.sl.r_85, runA.sl.r_86, runA.sl.r_75, runA.sl.r_89, runA.sl.r_91, runA.sl.r_76, ldWin]
  rfl

/-! ## The heads' contributions in the run (later points) -/

theorem keyHeadB0 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    runB.sl.r_20 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = dkC i 0 (by decide) (slopeCol 0) x0 x1 x2 x3 x4 x5 x6 x7 x8 x9 x10 x11 := by
  simp only [runB.sl.r_20, runB.sl.r_6, runB.sl.r_2, runB.sl.r_3, runB.sl.r_16, runB.sl.r_1, runB.sl.r_11, runB.sl.r, runB.sl.r_7, runB.sl.r_8, runB.sl.r_9, runB.sl.r_10, runB.sl.r_13, runB.sl.r_14, ldWin]
  rfl

theorem keyHeadB1 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    runB.sl.r_46 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = dkC i 1 (by decide) (slopeCol 1) x0 x1 x2 x3 x4 x5 x6 x7 x8 x9 x10 x11 := by
  simp only [runB.sl.r_46, runB.sl.r_32, runB.sl.r_28, runB.sl.r_29, runB.sl.r_42, runB.sl.r_27, runB.sl.r_37, runB.sl.r_26, runB.sl.r_33, runB.sl.r_34, runB.sl.r_35, runB.sl.r_36, runB.sl.r_39, runB.sl.r_40, ldWin]
  rfl

theorem keyHeadB2 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    runB.sl.r_70 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = dkC i 2 (by decide) (slopeCol 2) x0 x1 x2 x3 x4 x5 x6 x7 x8 x9 x10 x11 := by
  simp only [runB.sl.r_70, runB.sl.r_59, runB.sl.r_54, runB.sl.r_55, runB.sl.r_56, runB.sl.r_66, runB.sl.r_53, runB.sl.r_62, runB.sl.r_52, runB.sl.r_60, runB.sl.r_61, runB.sl.r_64, runB.sl.r_65, ldWin]
  rfl

theorem keyHeadB3 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    runB.sl.r_96 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = dkC i 3 (by decide) (slopeCol 3) x0 x1 x2 x3 x4 x5 x6 x7 x8 x9 x10 x11 := by
  simp only [runB.sl.r_96, runB.sl.r_83, runB.sl.r_77, runB.sl.r_78, runB.sl.r_79, runB.sl.r_80, runB.sl.r_92, runB.sl.r_87, runB.sl.r_84, runB.sl.r_85, runB.sl.r_86, runB.sl.r_75, runB.sl.r_89, runB.sl.r_91, runB.sl.r_76, ldWin]
  rfl

set_option maxHeartbeats 1600000 in
/-- The key accumulator after the first point: the point's contributions added to zero. -/
theorem runA_fst (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole) (arg13 : Memref sig .tc .vmem S128x1024 .bf16) (harg13 : arg13.IsWhole) (arg14 : Memref sig .tc .vmem S4224x256 .f32) (harg14 : arg14.IsWhole) (arg15 : Memref sig .tc .vmem S4224x256 .f32) (harg15 : arg15.IsWhole) (arg16 : Memref sig .tc .vmem S1x64 .f32) (harg16 : arg16.IsWhole) (arg17 : Memref sig .tc .vmem S1x16 .f32) (harg17 : arg17.IsWhole) (hc0 : cond0_0 i)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).1.1 = vStep (i 0).val (dkC i 0 (by decide) (slopeCol 0) x0 x1 x2 x3 x4 x5 x6 x7 x8 x9 x10 x11) (dkC i 1 (by decide) (slopeCol 1) x0 x1 x2 x3 x4 x5 x6 x7 x8 x9 x10 x11) (dkC i 2 (by decide) (slopeCol 2) x0 x1 x2 x3 x4 x5 x6 x7 x8 x9 x10 x11) (dkC i 3 (by decide) (slopeCol 3) x0 x1 x2 x3 x4 x5 x6 x7 x8 x9 x10 x11) k0_pay4 := by
  have e0 : arg14.view.read (Elt F) (arg14.view.writes (Elt F) arg14.view.junk runA.sl.H13_1) = k0_pay4 := by
    unfold runA.sl.H13_1; funext y
    exact View.read_writes_cons_unit_of_mem _ _ _ _ _ y y rfl (fun a => by fin_cases a <;> exact (Nat.zero_add _).symm)
  have e1 : arg14.view.read (Elt F) (arg14.view.writes (Elt F) arg14.view.junk (runA.sl.H13_2 c i arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11))
      = _ :=
    read_cons_add arg14.view arg14.view.junk _ _ (k0_off1_eq i) 0 (by decide) (runA.sl.r_20 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o0_0_S128x64 shapeCasts_S128x64_S128x64 _ e0 _ (fun y _ => congrFun e0 y)
  have e2 : arg14.view.read (Elt F) (arg14.view.writes (Elt F) arg14.view.junk (runA.sl.H13_3 c i arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11))
      = _ :=
    read_cons_add arg14.view arg14.view.junk _ _ (k0_off2_eq i) 128 (by decide) (runA.sl.r_20 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o128_0_S128x64 shapeCasts_S128x64_S128x64 _ e1 _ (fun y _ => congrFun e1 y)
  have e3 : arg14.view.read (Elt F) (arg14.view.writes (Elt F) arg14.view.junk (runA.sl.H13_4 c i arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11))
      = _ :=
    read_cons_add arg14.view arg14.view.junk _ _ rfl 256 (by decide) (runA.sl.r_20 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o256_0_S128x64 shapeCasts_S128x64_S128x64 _ e2 _ (fun y _ => congrFun e2 y)
  have e4 : arg14.view.read (Elt F) (arg14.view.writes (Elt F) arg14.view.junk (runA.sl.H13_5 c i arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11))
      = _ :=
    read_cons_add arg14.view arg14.view.junk _ _ (k0_off3_eq i) 0 (by decide) (runA.sl.r_46 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o0_0_S128x64 shapeCasts_S128x64_S128x64 _ e3 _ (fun y _ => congrFun e3 y)
  have e5 : arg14.view.read (Elt F) (arg14.view.writes (Elt F) arg14.view.junk (runA.sl.H13_6 c i arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11))
      = _ :=
    read_cons_add arg14.view arg14.view.junk _ _ (k0_off4_eq i) 128 (by decide) (runA.sl.r_46 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o128_0_S128x64 shapeCasts_S128x64_S128x64 _ e4 _ (fun y _ => congrFun e4 y)
  have e6 : arg14.view.read (Elt F) (arg14.view.writes (Elt F) arg14.view.junk (runA.sl.H13_7 c i arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11))
      = _ :=
    read_cons_add arg14.view arg14.view.junk _ _ rfl 256 (by decide) (runA.sl.r_46 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o256_0_S128x64 shapeCasts_S128x64_S128x64 _ e5 _ (fun y _ => congrFun e5 y)
  have e7 : arg14.view.read (Elt F) (arg14.view.writes (Elt F) arg14.view.junk (runA.sl.H13_8 c i arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11))
      = _ :=
    read_cons_add arg14.view arg14.view.junk _ _ (k0_off5_eq i) 0 (by decide) (runA.sl.r_70 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o0_0_S128x64 shapeCasts_S128x64_S128x64 _ e6 _ (fun y _ => congrFun e6 y)
  have e8 : arg14.view.read (Elt F) (arg14.view.writes (Elt F) arg14.view.junk (runA.sl.H13_9 c i arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11))
      = _ :=
    read_cons_add arg14.view arg14.view.junk _ _ (k0_off6_eq i) 128 (by decide) (runA.sl.r_70 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o128_0_S128x64 shapeCasts_S128x64_S128x64 _ e7 _ (fun y _ => congrFun e7 y)
  have e9 : arg14.view.read (Elt F) (arg14.view.writes (Elt F) arg14.view.junk (runA.sl.H13_10 c i arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11))
      = _ :=
    read_cons_add arg14.view arg14.view.junk _ _ rfl 256 (by decide) (runA.sl.r_70 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o256_0_S128x64 shapeCasts_S128x64_S128x64 _ e8 _ (fun y _ => congrFun e8 y)
  have e10 : arg14.view.read (Elt F) (arg14.view.writes (Elt F) arg14.view.junk (runA.sl.H13_11 c i arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11))
      = _ :=
    read_cons_add arg14.view arg14.view.junk _ _ (k0_off7_eq i) 0 (by decide) (runA.sl.r_96 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o0_0_S128x64 shapeCasts_S128x64_S128x64 _ e9 _ (fun y _ => congrFun e9 y)
  have e11 : arg14.view.read (Elt F) (arg14.view.writes (Elt F) arg14.view.junk (runA.sl.H13_12 c i arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11))
      = _ :=
    read_cons_add arg14.view arg14.view.junk _ _ (k0_off8_eq i) 128 (by decide) (runA.sl.r_96 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o128_0_S128x64 shapeCasts_S128x64_S128x64 _ e10 _ (fun y _ => congrFun e10 y)
  have e12 : arg14.view.read (Elt F) (arg14.view.writes (Elt F) arg14.view.junk (⟨Rect.unit ![0, 192] S128x64.size inb_S4224x256_S128x64_0_192, k0_pay182 (runA.sl.r_96 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (runA.sl.v987 c i arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11)⟩ :: (runA.sl.H13_12 c i arg1 harg1 arg2 harg2 arg3 harg3 arg4 harg4 arg5 harg5 arg6 harg6 arg7 harg7 arg8 harg8 arg9 harg9 arg10 harg10 arg11 harg11 arg12 harg12 arg14 x0 x1 x2 x3 x4 x5 x6 x7 x8 x9 x10 x11)))
      = _ :=
    read_cons_add arg14.view arg14.view.junk _ _ rfl 256 (by decide) (runA.sl.r_96 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o256_0_S128x64 shapeCasts_S128x64_S128x64 _ e11 _ (fun y _ => congrFun e11 y)
  refine e12.trans ?_
  rw [keyHeadA0, keyHeadA1, keyHeadA2, keyHeadA3]
  rfl

set_option maxHeartbeats 1600000 in
/-- The key accumulator after a later point: the point's contributions added to what it found. -/
theorem runB_fst (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole) (arg13 : Memref sig .tc .vmem S128x1024 .bf16) (harg13 : arg13.IsWhole) (arg14 : Memref sig .tc .vmem S4224x256 .f32) (harg14 : arg14.IsWhole) (arg15 : Memref sig .tc .vmem S4224x256 .f32) (harg15 : arg15.IsWhole) (arg16 : Memref sig .tc .vmem S1x64 .f32) (harg16 : arg16.IsWhole) (arg17 : Memref sig .tc .vmem S1x16 .f32) (harg17 : arg17.IsWhole) (hc0 : ¬cond0_0 i)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32)  (d13 d14 : Vec F S4224x256 .f32) (d16 : Vec F S1x16 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 d13 d14 d16).1.1 = vStep (i 0).val (dkC i 0 (by decide) (slopeCol 0) x0 x1 x2 x3 x4 x5 x6 x7 x8 x9 x10 x11) (dkC i 1 (by decide) (slopeCol 1) x0 x1 x2 x3 x4 x5 x6 x7 x8 x9 x10 x11) (dkC i 2 (by decide) (slopeCol 2) x0 x1 x2 x3 x4 x5 x6 x7 x8 x9 x10 x11) (dkC i 3 (by decide) (slopeCol 3) x0 x1 x2 x3 x4 x5 x6 x7 x8 x9 x10 x11) d13 := by
  have e0 : arg14.view.read (Elt F) (arg14.view.writes (Elt F) (harg14.unread d13) []) = d13 := harg14.read_unread d13
  have e1 : arg14.view.read (Elt F) (arg14.view.writes (Elt F) (harg14.unread d13) (runB.sl.H13_1 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13))
      = _ :=
    read_cons_add arg14.view (harg14.unread d13) _ _ (k0_off1_eq i) 0 (by decide) (runB.sl.r_20 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o0_0_S128x64 shapeCasts_S128x64_S128x64 _ e0 _ (fun y _ => congrFun e0 y)
  have e2 : arg14.view.read (Elt F) (arg14.view.writes (Elt F) (harg14.unread d13) (runB.sl.H13_2 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13))
      = _ :=
    read_cons_add arg14.view (harg14.unread d13) _ _ (k0_off2_eq i) 128 (by decide) (runB.sl.r_20 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o128_0_S128x64 shapeCasts_S128x64_S128x64 _ e1 _ (fun y _ => congrFun e1 y)
  have e3 : arg14.view.read (Elt F) (arg14.view.writes (Elt F) (harg14.unread d13) (⟨Rect.unit ![0, 0] S128x64.size inb_S4224x256_S128x64_0_0, runB.sl.r_25 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13⟩ :: (runB.sl.H13_2 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13)))
      = _ :=
    read_cons_add arg14.view (harg14.unread d13) _ _ rfl 256 (by decide) (runB.sl.r_20 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o256_0_S128x64 shapeCasts_S128x64_S128x64 _ e2 _ (fun y _ => congrFun e2 y)
  have e4 : arg14.view.read (Elt F) (arg14.view.writes (Elt F) (harg14.unread d13) (runB.sl.H13_4 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13))
      = _ :=
    read_cons_add arg14.view (harg14.unread d13) _ _ (k0_off3_eq i) 0 (by decide) (runB.sl.r_46 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o0_0_S128x64 shapeCasts_S128x64_S128x64 _ e3 (harg14.unread d13) (fun y hy => ((congrFun (harg14.read_unread d13) y).trans (by
      rw [addRows_of_col _ _ _ _ _ _ y (by omega), addRows_of_col _ _ _ _ _ _ y (by omega), addRows_of_col _ _ _ _ _ _ y (by omega)])))
  have e5 : arg14.view.read (Elt F) (arg14.view.writes (Elt F) (harg14.unread d13) (runB.sl.H13_5 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13))
      = _ :=
    read_cons_add arg14.view (harg14.unread d13) _ _ (k0_off4_eq i) 128 (by decide) (runB.sl.r_46 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o128_0_S128x64 shapeCasts_S128x64_S128x64 _ e4 _ (fun y _ => congrFun e4 y)
  have e6 : arg14.view.read (Elt F) (arg14.view.writes (Elt F) (harg14.unread d13) (⟨Rect.unit ![0, 64] S128x64.size inb_S4224x256_S128x64_0_64, runB.sl.r_51 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13⟩ :: (runB.sl.H13_5 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13)))
      = _ :=
    read_cons_add arg14.view (harg14.unread d13) _ _ rfl 256 (by decide) (runB.sl.r_46 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o256_0_S128x64 shapeCasts_S128x64_S128x64 _ e5 _ (fun y _ => congrFun e5 y)
  have e7 : arg14.view.read (Elt F) (arg14.view.writes (Elt F) (harg14.unread d13) (runB.sl.H13_7 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13))
      = _ :=
    read_cons_add arg14.view (harg14.unread d13) _ _ (k0_off5_eq i) 0 (by decide) (runB.sl.r_70 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o0_0_S128x64 shapeCasts_S128x64_S128x64 _ e6 (harg14.unread d13) (fun y hy => ((congrFun (harg14.read_unread d13) y).trans (by
      rw [addRows_of_col _ _ _ _ _ _ y (by omega), addRows_of_col _ _ _ _ _ _ y (by omega), addRows_of_col _ _ _ _ _ _ y (by omega), addRows_of_col _ _ _ _ _ _ y (by omega), addRows_of_col _ _ _ _ _ _ y (by omega), addRows_of_col _ _ _ _ _ _ y (by omega)])))
  have e8 : arg14.view.read (Elt F) (arg14.view.writes (Elt F) (harg14.unread d13) (runB.sl.H13_8 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13))
      = _ :=
    read_cons_add arg14.view (harg14.unread d13) _ _ (k0_off6_eq i) 128 (by decide) (runB.sl.r_70 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o128_0_S128x64 shapeCasts_S128x64_S128x64 _ e7 _ (fun y _ => congrFun e7 y)
  have e9 : arg14.view.read (Elt F) (arg14.view.writes (Elt F) (harg14.unread d13) (⟨Rect.unit ![0, 128] S128x64.size inb_S4224x256_S128x64_0_128, k0_pay140 (runB.sl.r_70 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (runB.sl.v751 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13)⟩ :: (runB.sl.H13_8 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13)))
      = _ :=
    read_cons_add arg14.view (harg14.unread d13) _ _ rfl 256 (by decide) (runB.sl.r_70 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o256_0_S128x64 shapeCasts_S128x64_S128x64 _ e8 _ (fun y _ => congrFun e8 y)
  have e10 : arg14.view.read (Elt F) (arg14.view.writes (Elt F) (harg14.unread d13) (runB.sl.H13_10 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13))
      = _ :=
    read_cons_add arg14.view (harg14.unread d13) _ _ (k0_off7_eq i) 0 (by decide) (runB.sl.r_96 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o0_0_S128x64 shapeCasts_S128x64_S128x64 _ e9 (harg14.unread d13) (fun y hy => ((congrFun (harg14.read_unread d13) y).trans (by
      rw [addRows_of_col _ _ _ _ _ _ y (by omega), addRows_of_col _ _ _ _ _ _ y (by omega), addRows_of_col _ _ _ _ _ _ y (by omega), addRows_of_col _ _ _ _ _ _ y (by omega), addRows_of_col _ _ _ _ _ _ y (by omega), addRows_of_col _ _ _ _ _ _ y (by omega), addRows_of_col _ _ _ _ _ _ y (by omega), addRows_of_col _ _ _ _ _ _ y (by omega), addRows_of_col _ _ _ _ _ _ y (by omega)])))
  have e11 : arg14.view.read (Elt F) (arg14.view.writes (Elt F) (harg14.unread d13) (runB.sl.H13_11 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13))
      = _ :=
    read_cons_add arg14.view (harg14.unread d13) _ _ (k0_off8_eq i) 128 (by decide) (runB.sl.r_96 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o128_0_S128x64 shapeCasts_S128x64_S128x64 _ e10 _ (fun y _ => congrFun e10 y)
  have e12 : arg14.view.read (Elt F) (arg14.view.writes (Elt F) (harg14.unread d13) (⟨Rect.unit ![0, 192] S128x64.size inb_S4224x256_S128x64_0_192, k0_pay182 (runB.sl.r_96 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (runB.sl.v987 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13)⟩ :: (runB.sl.H13_11 c i arg1 harg1 arg2 harg2 arg3 harg3 arg4 harg4 arg5 harg5 arg6 harg6 arg7 harg7 arg8 harg8 arg9 harg9 arg10 harg10 arg11 harg11 arg12 harg12 arg14 harg14 x0 x1 x2 x3 x4 x5 x6 x7 x8 x9 x10 x11 d13)))
      = _ :=
    read_cons_add arg14.view (harg14.unread d13) _ _ rfl 256 (by decide) (runB.sl.r_96 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) slices_S384x64_o256_0_S128x64 shapeCasts_S128x64_S128x64 _ e11 _ (fun y _ => congrFun e11 y)
  refine e12.trans ?_
  rw [keyHeadB0, keyHeadB1, keyHeadB2, keyHeadB3]
  rfl

end Cert.KernelIdeal.Attn

end
-- ==== Proof.AttnKeyMath.lean ====
/- The attention's key gradient as mathematics: the softmax's cotangent at a query row and a key row, and its sum against the
   normed queries. -/
module

public import proofs.«01_k».proof.Proof.AttnMath

@[expose] public section

noncomputable section

namespace Cert.AttnMath

open Idealize.ShloMosaic

variable (A : Arrays) (O : ℕ → ℕ → EReal)

/-- The cotangent of query row `r` in head `h` times the value row `κ`. -/
def dotV (r κ h : ℕ) : EReal := ∑ d : Fin 64, A.dout r (64 * h + d.val) * A.proj κ (1280 + 64 * (h / 4) + d.val)

/-- The cotangent of query row `r` in head `h` times the saved output. -/
def dotO (r h : ℕ) : EReal := ∑ d : Fin 64, A.dout r (64 * h + d.val) * O r (64 * h + d.val)

/-- What query row `r` in head `h` gives to entry `d` of key row `κ`. -/
def keyTerm (r κ h d : ℕ) : EReal :=
  prob A r κ h * (dotV A r κ h - dotO A O r h) * nrm A.proj A.gq r (64 * h) d * Ideal.ofBits .f32 0x3E000000#32

/-- The gradient of normed key row `κ`, column `c`. -/
def gradKey (κ c : ℕ) : EReal :=
  ∑ g : Fin 4, ∑ r ∈ Finset.range 4224, if Vis r κ then keyTerm A O r κ (4 * (c / 64) + g.val) (c % 64) else 0

theorem gradKey_of_lt {κ : ℕ} (h : κ < 112) (c : ℕ) : gradKey A O κ c = 0 :=
  Finset.sum_eq_zero fun g _ => Finset.sum_eq_zero fun r _ => if_neg fun hv => by unfold Vis at hv; omega

/-- An eighth of a sum. -/
theorem sum_eighth {ι : Type} (s : Finset ι) (f : ι → EReal) :
    (∑ i ∈ s, f i) * Ideal.ofBits .f32 0x3E000000#32 = ∑ i ∈ s, f i * Ideal.ofBits .f32 0x3E000000#32 := by
  classical
  rw [eighth]
  have h0 : (0 : EReal) ≤ ((1 / 8 : ℝ) : EReal) := EReal.coe_nonneg.mpr (by norm_num)
  induction s using Finset.induction_on with
  | empty => exact zero_mul _
  | insert a s ha ih =>
    rw [Finset.sum_insert ha, Finset.sum_insert ha, EReal.right_distrib_of_nonneg_of_ne_top h0 (EReal.coe_ne_top _), ih]

/-- The grid points' contributions together are the gradient. -/
theorem gradKey_eq (κ c : ℕ) :
    (∑ n ∈ Finset.range 33, ∑ x : Fin 512, if Vis (128 * n + x.val % 128) κ then
        keyTerm A O (128 * n + x.val % 128) κ (4 * (c / 64) + x.val / 128) (c % 64) else 0) = gradKey A O κ c :=
  grid_sum fun r g => if Vis r κ then keyTerm A O r κ (4 * (c / 64) + g) (c % 64) else 0

/-- The gradient of the key row of token `s`, its sum over the query tokens. -/
theorem gradKey_token (s c : ℕ) :
    gradKey A O (s + 112) c = ∑ g : Fin 4, ∑ t : Fin 4112,
      if Vis (t.val + 112) (s + 112) then keyTerm A O (t.val + 112) (s + 112) (4 * (c / 64) + g.val) (c % 64) else 0 := by
  refine Finset.sum_congr rfl fun g _ => ?_
  rw [show 4224 = 112 + 4112 from rfl, Finset.sum_range_add, Finset.sum_eq_zero (s := Finset.range 112), zero_add, Finset.sum_range]
  · refine Finset.sum_congr rfl fun t _ => ?_
    rw [Nat.add_comm 112 t.val]
  · intro r hr
    rw [Finset.mem_range] at hr
    exact if_neg fun hv => by unfold Vis at hv; omega

/-! ## The softmax's cotangent -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient rule's form of the softmax's cotangent, and the probability's. -/
theorem soft_vjp {ι : Type} [Fintype ι] (E P : ι → EReal) (Z : EReal) (hE : ∀ i, Fn (E i)) (hP : ∀ i, Fn (P i)) (hZ : Fn Z) (hZ0 : Z ≠ 0) (i : ι) :
    (Ideal.div (P i) Z + -(∑ j, P j * Ideal.div 1 (Z * Z) * E j)) * E i = E i * Z⁻¹ * (P i - ∑ j, E j * Z⁻¹ * P j) := by
  choose e he using hE
  choose p hp using hP
  obtain ⟨z, rfl⟩ := hZ
  have hz : z ≠ 0 := fun h => hZ0 (by rw [h]; rfl)
  have one : (1 : EReal) = ((1 : ℝ) : EReal) := rfl
  simp only [he, hp, ← EReal.coe_mul, one, ← EReal.coe_inv, Ideal.div_coe hz, Ideal.div_coe (mul_ne_zero hz hz), coe_sum, ← EReal.coe_neg, ← EReal.coe_add, ← EReal.coe_sub]
  refine congrArg _ ?_
  have h1 : ∑ j, p j * (1 * (1 / (z * z))) * e j = z⁻¹ * z⁻¹ * ∑ j, e j * p j := by
    rw [Finset.mul_sum]; exact Finset.sum_congr rfl fun j _ => by field_simp
  have h2 : ∑ j, e j * z⁻¹ * p j = z⁻¹ * ∑ j, e j * p j := by
    rw [Finset.mul_sum]; exact Finset.sum_congr rfl fun j _ => by ring
  rw [h1, h2]
  field_simp
  ring

/-! ## Finiteness -/

/-- What has to be finite besides for the two forms of the softmax's cotangent to agree. -/
structure FiniteKey : Prop where
  base : Finite A
  value : ∀ r c, 112 ≤ r → c < 1536 → Fn (A.proj r c)
  dout : ∀ r c, 112 ≤ r → Fn (A.dout r c)

theorem exp_fn {x : EReal} : Fn x → Fn (Ideal.exp x) := by
  rintro ⟨a, rfl⟩; exact ⟨Real.exp a, rfl⟩

theorem inv_fn {x : EReal} : Fn x → Fn x⁻¹ := by
  rintro ⟨a, rfl⟩; exact ⟨a⁻¹, (EReal.coe_inv a).symm⟩

theorem top_fn (hA : Finite A) {r h : ℕ} (hh : h < 16) : Fn (top A r h) := by
  obtain ⟨a, ha⟩ := hA.sink h
  have h3 : (a : EReal) ≤ top A r h := by rw [← ha]; exact le_max_right _ _
  exact Fn.of_lt (lt_of_lt_of_le (EReal.bot_lt_coe a) h3) (top_lt A hA hh)

theorem weight_fn (hA : Finite A) {r κ h : ℕ} (hv : Vis r κ) (hh : h < 16) : Fn (Ideal.exp (score A r κ h - top A r h)) :=
  exp_fn ((score_fn A hA (by unfold Vis at hv; omega) hv.1 hh).sub (top_fn A hA hh))

theorem total_fn (hA : Finite A) {r h : ℕ} (hr : r < 4224) (hh : h < 16) : Fn (total A r h) :=
  (Fn.sum _ _ fun κ hκ => weight_fn A hA ((mem_seen hr).mp hκ) hh).add (exp_fn ((hA.sink h).sub (top_fn A hA hh)))

theorem prob_fn (hA : Finite A) {r κ h : ℕ} (hr : r < 4224) (hv : Vis r κ) (hh : h < 16) : Fn (prob A r κ h) :=
  (weight_fn A hA hv hh).mul (inv_fn (total_fn A hA hr hh))

theorem dotV_fn (hA : FiniteKey A) {r κ h : ℕ} (hr : 112 ≤ r) (hκ : 112 ≤ κ) (hh : h < 16) : Fn (dotV A r κ h) :=
  Fn.sum _ _ fun d _ => (hA.dout r _ hr).mul (hA.value κ _ hκ (by omega))

/-- Two finite sums of finite numbers, one inside the other, in the other order. -/
theorem sum_swap {ι κ : Type} (s : Finset ι) (t : Finset κ) (a : ι → EReal) (p : κ → EReal) (v : κ → ι → EReal) (ha : ∀ i ∈ s, Fn (a i))
    (hp : ∀ k ∈ t, Fn (p k)) (hv : ∀ k ∈ t, ∀ i ∈ s, Fn (v k i)) :
    ∑ i ∈ s, a i * ∑ k ∈ t, p k * v k i = ∑ k ∈ t, p k * ∑ i ∈ s, a i * v k i := by
  have re : ∀ {x : EReal}, Fn x → x = (x.toReal : EReal) := by rintro _ ⟨a, rfl⟩; rfl
  have e1 : ∀ i ∈ s, a i * ∑ k ∈ t, p k * v k i = (((a i).toReal * ∑ k ∈ t, (p k).toReal * (v k i).toReal : ℝ) : EReal) := fun i hi => by
    rw [EReal.coe_mul, ← coe_sum, ← re (ha i hi)]
    refine congrArg _ (Finset.sum_congr rfl fun k hk => ?_)
    rw [EReal.coe_mul, ← re (hp k hk), ← re (hv k hk i hi)]
  have e2 : ∀ k ∈ t, p k * ∑ i ∈ s, a i * v k i = (((p k).toReal * ∑ i ∈ s, (a i).toReal * (v k i).toReal : ℝ) : EReal) := fun k hk => by
    rw [EReal.coe_mul, ← coe_sum, ← re (hp k hk)]
    refine congrArg _ (Finset.sum_congr rfl fun i hi => ?_)
    rw [EReal.coe_mul, ← re (ha i hi), ← re (hv k hk i hi)]
  rw [Finset.sum_congr rfl e1, Finset.sum_congr rfl e2, coe_sum, coe_sum]
  refine congrArg _ ?_
  simp only [Finset.mul_sum]
  rw [Finset.sum_comm]
  exact Finset.sum_congr rfl fun k _ => Finset.sum_congr rfl fun i _ => by ring

/-- The cotangent times the saved output, where that is the probabilities times the values: the probabilities' mean of the
    cotangent's products with the values. -/
theorem dotO_eq (hA : FiniteKey A) {r h : ℕ} (hr : r < 4224) (h112 : 112 ≤ r) (hh : h < 16)
    (hO : ∀ d : Fin 64, O r (64 * h + d.val) = ∑ κ ∈ seen r, prob A r κ h * A.proj κ (1280 + 64 * (h / 4) + d.val)) :
    dotO A O r h = ∑ κ ∈ seen r, prob A r κ h * dotV A r κ h := by
  unfold dotO dotV
  rw [Finset.sum_congr rfl fun d _ => congrArg _ (hO d)]
  exact sum_swap Finset.univ (seen r) (fun d : Fin 64 => A.dout r (64 * h + d.val)) (fun κ => prob A r κ h)
    (fun κ d => A.proj κ (1280 + 64 * (h / 4) + d.val)) (fun d _ => hA.dout r _ h112) (fun κ hκ => prob_fn A hA.base hr ((mem_seen hr).mp hκ) hh)
    (fun κ hκ d _ => hA.value κ _ ((mem_seen hr).mp hκ).1 (by omega))

/-! ## The reference's form -/

/-- The weights and the products over the tokens and the sink, and what the quotient rule makes of them: the probability times the
    difference. -/
theorem token_vjp (hA : FiniteKey A) {t h : ℕ} (ht : t < 4112) (hh : h < 16)
    (hO : ∀ d : Fin 64, O (t + 112) (64 * h + d.val) = ∑ κ ∈ seen (t + 112), prob A (t + 112) κ h * A.proj κ (1280 + 64 * (h / 4) + d.val))
    (E P : Fin 4113 → EReal)
    (hE : ∀ s : Fin 4112, E s.castSucc = if Vis (t + 112) (s.val + 112) then Ideal.exp (score A (t + 112) (s.val + 112) h - top A (t + 112) h) else 0)
    (hEl : E (Fin.last 4112) = Ideal.exp (A.sink h - top A (t + 112) h))
    (hP : ∀ s : Fin 4112, P s.castSucc = dotV A (t + 112) (s.val + 112) h) (hPl : P (Fin.last 4112) = 0)
    (s : Fin 4112) (hv : Vis (t + 112) (s.val + 112)) :
    (Ideal.div (P s.castSucc) (total A (t + 112) h) + -(∑ j, P j * Ideal.div 1 (total A (t + 112) h * total A (t + 112) h) * E j)) * E s.castSucc
      = prob A (t + 112) (s.val + 112) h * (dotV A (t + 112) (s.val + 112) h - dotO A O (t + 112) h) := by
  have hr : t + 112 < 4224 := by omega
  have fE : ∀ i, Fn (E i) := fun i => by
    induction i using Fin.lastCases with
    | last => rw [hEl]; exact exp_fn ((hA.base.sink h).sub (top_fn A hA.base hh))
    | cast s =>
      rw [hE]
      split_ifs with hv
      · exact weight_fn A hA.base hv hh
      · exact Fn.zero
  have fP : ∀ i, Fn (P i) := fun i => by
    induction i using Fin.lastCases with
    | last => rw [hPl]; exact Fn.zero
    | cast s => rw [hP]; exact dotV_fn A hA (by omega) (by omega) hh
  rw [soft_vjp E P _ fE fP (total_fn A hA.base hr hh) (total_ne A hA.base hh), hE, if_pos hv, hP, dotO_eq A O hA hr (by omega) hh hO,
    Fin.sum_univ_castSucc, hPl, mul_zero, add_zero]
  refine congrArg (_ * ·) (congrArg (_ - ·) ?_)
  refine sum_rename (fun s : Fin 4112 => Vis (t + 112) (s.val + 112)) (fun s => s.val + 112) (seen (t + 112))
    (fun s hs => (mem_seen hr).mpr hs) (fun s s' _ _ e => Fin.ext (by simpa using e)) (fun κ hκ => ?_)
    _ (fun κ => prob A (t + 112) κ h * dotV A (t + 112) κ h) (fun j hj => by rw [hE, if_pos hj, hP]; rfl)
    (fun j hj => by rw [hE, if_neg hj, zero_mul, zero_mul])
  have hv := (mem_seen hr).mp hκ
  have e : κ - 112 + 112 = κ := by unfold Vis at hv; omega
  refine ⟨⟨κ - 112, by unfold Vis at hv; omega⟩, ?_, e⟩
  rw [e]; exact hv

end Cert.AttnMath

end
-- ==== Proof.AttnKeyVal.lean ====
/- The contribution of one key/value head at one grid point to the key gradient, over the extended reals: the sum, over the 512
   stacked query rows, of the softmax's cotangent times the normed query. -/
module

public import proofs.«01_k».proof.Proof.AttnKeyStep
public import proofs.«01_k».proof.Proof.AttnKeyMath
public import proofs.«01_k».proof.Proof.AttnVal

@[expose] public section

set_option maxRecDepth 16384

noncomputable section

namespace Cert.KernelIdeal.Attn

open Idealize.ShloMosaic Idealize.ShloMosaic.Pointwise
open Cert.KernelIdeal Cert.KernelIdeal.Gen Cert.AttnMath

/-- The value rows of the keys' three blocks. -/
theorem pay15_apply (X : ℕ → ℕ → EReal) (n col : ℕ) (k0 k1 k2 : Vec Ideal S128x64 .f32)
    (e0 : ∀ (i : Fin 128) (d : Fin 64), k0 (ix2 i d) = X (128 * (n - 1) + i.val) (col + d.val))
    (e1 : ∀ (i : Fin 128) (d : Fin 64), k1 (ix2 i d) = X (128 * n + i.val) (col + d.val))
    (e2 : ∀ (i : Fin 128) (d : Fin 64), k2 (ix2 i d) = X i.val (col + d.val)) (j : Fin 384) (d : Fin 64) :
    k0_pay15 (F := Ideal) k0 k1 k2 (ix2 j d) = X (keyRow n j.val) (col + d.val) := by
  have hj := j.isLt
  pointwise [k0_pay15]
  simp only [e0, e1, e2]
  unfold keyRow
  by_cases h1 : j.val < 128
  · simp only [dif_pos h1, if_pos h1]
  by_cases h2 : j.val - 128 < 128
  · simp only [dif_neg h1, if_neg h1, dif_pos h2, if_pos (show j.val < 256 by omega)]
  · simp only [dif_neg h1, if_neg h1, dif_neg h2, if_neg (show ¬j.val < 256 by omega), show j.val - 256 = j.val - 128 - 128 by omega]

theorem pay31_apply (X : ℕ → ℕ → EReal) (b h0 : ℕ) (q0 q1 q2 q3 : Vec Ideal S128x64 .f32)
    (e0 : ∀ (i : Fin 128) (d : Fin 64), q0 (ix2 i d) = X (b + i.val) (64 * (h0 + 0) + d.val))
    (e1 : ∀ (i : Fin 128) (d : Fin 64), q1 (ix2 i d) = X (b + i.val) (64 * (h0 + 1) + d.val))
    (e2 : ∀ (i : Fin 128) (d : Fin 64), q2 (ix2 i d) = X (b + i.val) (64 * (h0 + 2) + d.val))
    (e3 : ∀ (i : Fin 128) (d : Fin 64), q3 (ix2 i d) = X (b + i.val) (64 * (h0 + 3) + d.val)) (x : Fin 512) (d : Fin 64) :
    k0_pay31 (F := Ideal) q0 q1 q2 q3 (ix2 x d) = X (b + x.val % 128) (64 * (h0 + x.val / 128) + d.val) := by
  refine Eq.trans ?_ (pay34_apply X b h0 q0 q1 q2 q3 e0 e1 e2 e3 x d)
  pointwise [k0_pay34]

theorem pay32_eq (d0 d1 d2 d3 o0 o1 o2 o3 : Vec Ideal S128x64 .f32) (x : Fin 512) (d : Fin 64) :
    k0_pay32 (F := Ideal) d0 d1 d2 d3 o0 o1 o2 o3 (ix2 x d) = k0_pay31 (F := Ideal) d0 d1 d2 d3 (ix2 x d) * k0_pay31 (F := Ideal) o0 o1 o2 o3 (ix2 x d) := by
  pointwise [k0_pay32, k0_pay31]

/-- The softmax's cotangent times the normed queries, from the mask, the distances, the slopes, the normed keys and queries, the
    sinks, the values, the cotangent rows and their products with the saved output. -/
theorem key_apply (A : Arrays) (O : ℕ → ℕ → EReal) (hA : Finite A) (n kh : ℕ) (hn : n < 33) (hkh : kh < 4)
    (mask dst : FVec Ideal S512x384 .f32) (k : FVec Ideal S384x64 .f32) (q : FVec Ideal S512x64 .f32) (slope : FVec Ideal S512x1 .f32)
    (s0 s1 s2 s3 : Vec Ideal S1x1 .f32) (v : FVec Ideal S384x64 .bf16) (o od : FVec Ideal S512x64 .f32)
    (hm : ∀ x j, mask (ix2 x j) = if vis n (x.val % 128) j.val then (0 : EReal) else ⊥)
    (hd : ∀ x j, dst (ix2 x j) = ((gap n (x.val % 128) j.val : ℝ) : EReal))
    (hk : ∀ (j : Fin 384) (d : Fin 64), k (ix2 j d) = nrm A.proj A.gk (keyRow n j.val) (1024 + 64 * kh) d.val)
    (hq : ∀ (x : Fin 512) (d : Fin 64), q (ix2 x d) = nrm A.proj A.gq (128 * n + x.val % 128) (64 * (4 * kh + x.val / 128)) d.val)
    (hs : ∀ x : Fin 512, slope (ix2 x 0) = A.slope (4 * kh + x.val / 128))
    (h0 : s0 (ix2 0 0) = A.sink (4 * kh + 0)) (h1 : s1 (ix2 0 0) = A.sink (4 * kh + 1))
    (h2 : s2 (ix2 0 0) = A.sink (4 * kh + 2)) (h3 : s3 (ix2 0 0) = A.sink (4 * kh + 3))
    (hv : ∀ (j : Fin 384) (d : Fin 64), v (ix2 j d) = A.proj (keyRow n j.val) (1280 + 64 * kh + d.val))
    (ho : ∀ (x : Fin 512) (d : Fin 64), o (ix2 x d) = A.dout (128 * n + x.val % 128) (64 * (4 * kh + x.val / 128) + d.val))
    (hod : ∀ (x : Fin 512) (d : Fin 64), od (ix2 x d) = A.dout (128 * n + x.val % 128) (64 * (4 * kh + x.val / 128) + d.val)
      * O (128 * n + x.val % 128) (64 * (4 * kh + x.val / 128) + d.val))
    (j : Fin 384) (d : Fin 64) :
    k0_pay42 (F := Ideal) q (k0_pay35 v (k0_pay29 mask dst k q slope s3 (k0_pay20 s0) (k0_pay21 s1) (k0_pay22 s2)) o od) (ix2 j d)
      = ∑ x : Fin 512, (if vis n (x.val % 128) j.val then
          keyTerm A O (128 * n + x.val % 128) (keyRow n j.val) (4 * kh + x.val / 128) d.val else 0) := by
  pointwise [k0_pay42, k0_pay35, k0_pay34, k0_pay33, k0_pay29, k0_pay28, k0_pay27, k0_pay26, k0_pay25, k0_pay24, k0_pay23, k0_pay20, k0_pay21, k0_pay22]
  rw [sum_eighth]
  refine Finset.sum_congr rfl fun x _ => ?_
  have hx : x.val % 128 < 128 := Nat.mod_lt _ (by decide)
  have hh : 4 * kh + x.val / 128 < 16 := by have := x.isLt; omega
  have hg : (4 * kh + x.val / 128) / 4 = kh := by have := x.isLt; omega
  rw [chain4 x.val _ _ _ _ x.isLt (fun g => A.sink (4 * kh + g)) h0.symm h1.symm h2.symm h3.symm, word_bot]
  simp only [ho, hod, hv]
  refine (congrArg (fun e => e * q (ix2 x d) * Ideal.ofBits .f32 0x3E000000#32) (point_prob A hA hn hx hh (fun x_1 => (∑ x_2, q (ix2 x x_2) * k (ix2 x_1 x_2)) * Ideal.ofBits FTy.f32 1040187392#32 -
                  slope (ix2 x 0) * dst (ix2 x x_1) + mask (ix2 x x_1)) (fun j' => ?_) j _)).trans ?_
  · show (∑ x_2, q (ix2 x x_2) * k (ix2 j' x_2)) * Ideal.ofBits FTy.f32 1040187392#32 -
                    slope (ix2 x 0) * dst (ix2 x j') + mask (ix2 x j') = _
    rw [hm]
    by_cases hv : vis n (x.val % 128) j'.val
    · rw [if_pos hv, if_pos hv, add_zero, hs, hd, gap_eq j'.isLt hv]
      unfold score
      rw [hg]
      refine congrArg (· - _) (congrArg (· * _) (Finset.sum_congr rfl fun e _ => ?_))
      rw [hq, hk]
    · rw [if_neg hv, if_neg hv, EReal.add_bot]
  · rw [hq]
    unfold keyTerm dotV dotO
    rw [hg]
    split_ifs
    · rfl
    · rw [zero_mul, zero_mul]

end Cert.KernelIdeal.Attn

end
-- ==== Proof.AttnKeyFold.lean ====
/- The key accumulator after the last grid point, over the extended reals: one grid point's contribution from the blocks, and the
   sum over the 33 points. -/
module

public import proofs.«01_k».proof.Proof.AttnKeyVal
public import proofs.«01_k».proof.Proof.AttnFold

@[expose] public section

set_option maxRecDepth 16384

noncomputable section

namespace Cert.KernelIdeal.Attn

open Idealize.ShloMosaic Idealize.ShloMosaic.Pointwise
open Cert.KernelIdeal Cert.KernelIdeal.Gen Cert.AttnMath

/-! ## One head's contribution, from the blocks -/

theorem dkC_apply (A : Arrays) (O : ℕ → ℕ → EReal) (hA : Finite A) (i : grid0.Coords) (kh : ℕ) (hkh : kh < 4)
    (x0 : Vec Ideal S128x1024 .f32) (x1 x2 x3 x4 x5 x6 : Vec Ideal S128x256 .f32) (x7 x8 : Vec Ideal S128x1024 .f32)
    (x9 x10 : Vec Ideal S1x64 .f32) (x11 : Vec Ideal S1x16 .f32)
    (e0 : ∀ (r : Fin 128) (d : Fin 1024), x0 (ix2 r d) = A.proj (128 * (i 0).val + r.val) d.val)
    (e1 : ∀ (r : Fin 128) (d : Fin 256), x1 (ix2 r d) = A.proj (128 * ((i 0).val - 1) + r.val) (1024 + d.val))
    (e2 : ∀ (r : Fin 128) (d : Fin 256), x2 (ix2 r d) = A.proj (128 * (i 0).val + r.val) (1024 + d.val))
    (e3 : ∀ (r : Fin 128) (d : Fin 256), x3 (ix2 r d) = A.proj r.val (1024 + d.val))
    (e4 : ∀ (r : Fin 128) (d : Fin 256), x4 (ix2 r d) = A.proj (128 * ((i 0).val - 1) + r.val) (1280 + d.val))
    (e5 : ∀ (r : Fin 128) (d : Fin 256), x5 (ix2 r d) = A.proj (128 * (i 0).val + r.val) (1280 + d.val))
    (e6 : ∀ (r : Fin 128) (d : Fin 256), x6 (ix2 r d) = A.proj r.val (1280 + d.val))
    (e7 : ∀ (r : Fin 128) (d : Fin 1024), x7 (ix2 r d) = O (128 * (i 0).val + r.val) d.val)
    (e8 : ∀ (r : Fin 128) (d : Fin 1024), x8 (ix2 r d) = A.dout (128 * (i 0).val + r.val) d.val)
    (e9 : ∀ d : Fin 64, x9 (ix2 0 d) = A.gq d.val) (e10 : ∀ d : Fin 64, x10 (ix2 0 d) = A.gk d.val)
    (e11 : ∀ h : Fin 16, x11 (ix2 0 h) = A.sink h.val)
    (eS : ∀ h, A.slope h = Ideal.ofBits .f32 (slopeWord h)) (j : Fin 384) (d : Fin 64) :
    dkC (F := Ideal) i kh hkh (slopeCol kh) x0 x1 x2 x3 x4 x5 x6 x7 x8 x9 x10 x11 (ix2 j d)
      = ∑ x : Fin 512, (if vis (i 0).val (x.val % 128) j.val then
          keyTerm A O (128 * (i 0).val + x.val % 128) (keyRow (i 0).val j.val) (4 * kh + x.val / 128) d.val else 0) := by
  have hq : ∀ (h : ℕ) (hh : h < 16) (r : Fin 128) (d : Fin 64), qWin x0 h hh (ix2 r d) = A.proj (128 * (i 0).val + r.val) (64 * h + d.val) :=
    fun h hh r d => by rw [qWin_apply, e0]
  have ho : ∀ (h : ℕ) (hh : h < 16) (r : Fin 128) (d : Fin 64), qWin x8 h hh (ix2 r d) = A.dout (128 * (i 0).val + r.val) (64 * h + d.val) :=
    fun h hh r d => by rw [qWin_apply, e8]
  have hO : ∀ (h : ℕ) (hh : h < 16) (r : Fin 128) (d : Fin 64), qWin x7 h hh (ix2 r d) = O (128 * (i 0).val + r.val) (64 * h + d.val) :=
    fun h hh r d => by rw [qWin_apply, e7]
  have hs : ∀ (h : ℕ) (hh : h < 16), skWin x11 h hh (ix2 0 0) = A.sink h := fun h hh => by rw [skWin_apply, e11]
  have hd := pay31_apply A.dout (128 * (i 0).val) (4 * kh) _ _ _ _ (ho (4 * kh) (by omega)) (ho (4 * kh + 1) (by omega)) (ho (4 * kh + 2) (by omega)) (ho (4 * kh + 3) (by omega))
  have hoO := pay31_apply O (128 * (i 0).val) (4 * kh) _ _ _ _ (hO (4 * kh) (by omega)) (hO (4 * kh + 1) (by omega)) (hO (4 * kh + 2) (by omega)) (hO (4 * kh + 3) (by omega))
  unfold dkC headDk
  exact key_apply A O hA (i 0).val kh (i 0).isLt hkh _ _ _ _ _ _ _ _ _ _ _ _ (pay10_apply i) (pay11_apply i)
    (pay14_apply A.proj A.gk (i 0).val (1024 + 64 * kh) _ _ _ _
      (fun r d => by rw [kvWin_apply, e1, Nat.add_assoc]) (fun r d => by rw [kvWin_apply, e2, Nat.add_assoc])
      (fun r d => by rw [kvWin_apply, e3, Nat.add_assoc]) (fun d => by rw [gWin_apply, e10]))
    (pay18_apply A.proj A.gq (128 * (i 0).val) (4 * kh) _ _ _ _ _ (hq _ _) (hq _ _) (hq _ _) (hq _ _) (fun d => by rw [gWin_apply, e9]))
    (fun x => by rw [slopeCol_apply kh hkh, eS]) (hs _ _) (hs _ _) (hs _ _) (hs _ _)
    (pay15_apply A.proj (i 0).val (1280 + 64 * kh) _ _ _
      (fun r d => by rw [kvWin_apply, e4, Nat.add_assoc]) (fun r d => by rw [kvWin_apply, e5, Nat.add_assoc])
      (fun r d => by rw [kvWin_apply, e6, Nat.add_assoc]))
    hd (fun x d => by rw [pay32_eq, hd, hoO]) j d

/-! ## The blocks are rows of the arrays -/

theorem idx4 : ∀ t : Fin cfg0.N, (cfg0.win 4).index t = ![t.val - 1, 5] := by decide +kernel
theorem idx5 : ∀ t : Fin cfg0.N, (cfg0.win 5).index t = ![t.val, 5] := by decide +kernel
theorem idx6 : ∀ t : Fin cfg0.N, (cfg0.win 6).index t = ![0, 5] := by decide +kernel
theorem idx7 : ∀ t : Fin cfg0.N, (cfg0.win 7).index t = ![t.val, 0] := by decide +kernel
theorem idx13 : ∀ t : Fin cfg0.N, (cfg0.win 13).index t = ![0, 0] := by decide +kernel

variable (m : (ℓ : Loc nD τ sig) → Buf (Elt Ideal) ℓ) (c : Dev nD)

/-- The saved output of the forward attention. -/
def savedOut : ℕ → ℕ → EReal := entry (m ((c.tc : Thread nD τ).loc main_arg1) : FVec Ideal S4224x1024 .f32)

theorem blk4 (t : Fin cfg0.N) (r : Fin 128) (d : Fin 256) : (iblk m c 4 t : Vec Ideal S128x256 .f32) (ix2 r d) = (argArrays m c).proj (128 * (t.val - 1) + r.val) (1280 + d.val) := by
  have ht := lt_N t
  unfold argArrays arrays; dsimp only
  rw [entry_of _ (by omega) (by omega)]
  blk_ext [iblk, V, idx4 t]
theorem blk5 (t : Fin cfg0.N) (r : Fin 128) (d : Fin 256) : (iblk m c 5 t : Vec Ideal S128x256 .f32) (ix2 r d) = (argArrays m c).proj (128 * t.val + r.val) (1280 + d.val) := by
  have ht := lt_N t
  unfold argArrays arrays; dsimp only
  rw [entry_of _ (by omega) (by omega)]
  blk_ext [iblk, V, idx5 t]
theorem blk6 (t : Fin cfg0.N) (r : Fin 128) (d : Fin 256) : (iblk m c 6 t : Vec Ideal S128x256 .f32) (ix2 r d) = (argArrays m c).proj r.val (1280 + d.val) := by
  unfold argArrays arrays; dsimp only
  rw [entry_of _ (by omega) (by omega)]
  blk_ext [iblk, V, idx6 t]
theorem blk7 (t : Fin cfg0.N) (r : Fin 128) (d : Fin 1024) : (iblk m c 7 t : Vec Ideal S128x1024 .f32) (ix2 r d) = savedOut m c (128 * t.val + r.val) d.val := by
  have ht := lt_N t
  unfold savedOut
  rw [entry_of _ (by omega) (by omega)]
  blk_ext [iblk, V, idx7 t]

/-! ## The fold over the points -/

/-- What point `n` adds to key row `κ`, column `e`. -/
def keyPart (A : Arrays) (O : ℕ → ℕ → EReal) (n κ e : ℕ) : EReal :=
  ∑ x : Fin 512, if Vis (128 * n + x.val % 128) κ then
    keyTerm A O (128 * n + x.val % 128) κ (4 * (e / 64) + x.val / 128) (e % 64) else 0

variable (hA : Finite (argArrays m c))

include hA in
/-- One point's step from its own blocks. -/
theorem keyStep_apply (t : Fin cfg0.N) (d : Vec Ideal S4224x256 .f32) (y : S4224x256.Idx) :
    vStep (grid0.coords t 0).val (dkC (grid0.coords t) 0 (by decide) (slopeCol 0) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (dkC (grid0.coords t) 1 (by decide) (slopeCol 1) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (dkC (grid0.coords t) 2 (by decide) (slopeCol 2) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (dkC (grid0.coords t) 3 (by decide) (slopeCol 3) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t)) d y
      = d y + keyPart (argArrays m c) (savedOut m c) t.val (y 0).val (y 1).val := by
  have ht := lt_N t
  have hi := coords_eq t
  have hy : (y 1).val / 64 < 4 := by have : (y 1).val < 256 := (y 1).isLt; omega
  refine (vStep_apply (grid0.coords t 0).val (fun kh => if h : kh < 4 then dkC (grid0.coords t) kh h (slopeCol kh) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) else k0_pay43 (fun _ => 0) (fun _ => 0)) d y).trans ?_
  refine congrArg (d y + ·) ?_
  unfold keyPart
  rw [← point_pick_of (fun r κ g => keyTerm (argArrays m c) (savedOut m c) r κ (4 * ((y 1).val / 64) + g) ((y 1).val % 64)) t.val ht (y 0).val]
  refine Finset.sum_congr rfl fun j _ => ?_
  rw [dif_pos hy, dkC_apply (argArrays m c) (savedOut m c) hA (grid0.coords t) _ hy _ _ _ _ _ _ _ _ _ _ _ _ (by rw [hi]; exact blk0 m c t) (by rw [hi]; exact blk1 m c t)
    (by rw [hi]; exact blk2 m c t) (blk3 m c t) (by rw [hi]; exact blk4 m c t) (by rw [hi]; exact blk5 m c t) (blk6 m c t) (by rw [hi]; exact blk7 m c t)
    (by rw [hi]; exact blk8 m c t) (blk9 m c t) (blk10 m c t) (blk11 m c t) (fun _ => rfl), hi]

include hA in
/-- The key accumulator after point `t`. -/
theorem keys_apply (n : ℕ) (h : n < cfg0.N) (y : S4224x256.Idx) :
    (accs m c ⟨n, h⟩).1 y = ∑ k ∈ Finset.range (n + 1), keyPart (argArrays m c) (savedOut m c) k (y 0).val (y 1).val := by
  induction n with
  | zero =>
    rw [accs_zero m c ⟨0, h⟩ rfl]
    unfold accA
    rw [dif_pos ((hcond0_0 ⟨0, h⟩).mpr rfl), runA_fst, keyStep_apply m c hA ⟨0, h⟩, Finset.sum_range_one]
    pointwise [k0_pay4]
  | succ n ih =>
    have hn : n + 1 < 33 := lt_N ⟨n + 1, h⟩
    rw [accs_pos m c ⟨n + 1, h⟩ (Nat.succ_ne_zero n)]
    unfold accB
    rw [dif_neg fun hc => by have := (hcond0_0 ⟨n + 1, h⟩).mp hc; have : (n + 1) % 33 = 0 := this; omega, runB_fst, keyStep_apply m c hA ⟨n + 1, h⟩,
      Finset.sum_range_succ]
    exact congrArg (· + _) (ih (Nat.lt_of_succ_lt h))

/-- The array that the pipeline leaves in the key window. -/
def keyArray (A : Arrays) (O : ℕ → ℕ → EReal) : FVec Ideal S4224x256 .f32 := fun y => gradKey A O (y 0).val (y 1).val

include hA in
theorem arr13 : (dats m 0 c).arrAt 13 cfg0.N = keyArray (argArrays m c) (savedOut m c) := by
  refine (dats m 0 c).arrAt_eq_of_covers 13 _ (by decide +kernel) fun t hf y => ?_
  have ht : t.val % 33 = 32 := (flush0_13 t).mp hf
  have hN := lt_N t
  have hy : keyArray (argArrays m c) (savedOut m c) (((cfg0.win 13).blk t).view.emb y) = keyArray (argArrays m c) (savedOut m c) y := by
    unfold keyArray; blk_simp [idx13 t]
  rw [hy]
  blk_simp
  rw [after0_13]
  refine (keys_apply m c hA t.val t.isLt _).trans ?_
  rw [show t.val + 1 = 33 by omega]
  exact gradKey_eq (argArrays m c) (savedOut m c) _ _

include hA in
/-- What the run's post says of the key window's array. -/
theorem out13 {r : PUnit × MemSt nD τ sig (Elt Ideal)}
    (h : Pipeline.RDat.FramePost (cfgs 0) (fun c => (dats m 0 c).toRForget forgets0) (V m) r) :
    r.2.mem ((c.tc : Thread nD τ).loc main_v0_1) = keyArray (argArrays m c) (savedOut m c) :=
  ((Pipeline.Dat.toRForget_arrAt_iff (dats m 0 c) (fgt := forgets0) (w := 13) rfl _ _).mp ((h c).1 13)).trans (arr13 m c hA)

end Cert.KernelIdeal.Attn

end
-- ==== Proof.AttnSinkStep.lean ====
/- What one grid point of the attention gradient adds to the sinks' gradient: for each query head, the sum over the block's rows
   of minus the sink's probability times the cotangent's product with the saved output. -/
module

public import proofs.«01_k».proof.Proof.AttnKeyStep

@[expose] public section

set_option maxRecDepth 16384

noncomputable section

namespace Cert.KernelIdeal.Attn

open Idealize.ShloMosaic Idealize.ShloMosaic.TcCoe Idealize.ShloMosaic.Tactic
open Idealize.ShloMosaic.ValueIdx
open Cert.KernelIdeal Cert.KernelIdeal.Gen

variable {F : FTy → Type} [FloatOps F] [Named F]

/-! ## One head's contribution -/

/-- The sum of a column of 128 entries. -/
def colSum (v : FVec F S128x1 .f32) : F .f32 :=
  extractAt ![0, 0, 0] (shapeCast S1x1x1 (multiReduction .add [1, 2] S1 (shapeCast S1x128x1 v shapeCasts_S128x1_S1x128x1) 0x00000000#32
    reduces_S1x128x1_S1 (.inl rfl) rfl) shapeCasts_S1_S1x1x1) inpos_S1x1x1_p0_0_0

/-- The row `acc` with the sum of the column `v` added in lane `k`. -/
def addLane (k : ℕ) (v : FVec F S128x1 .f32) (acc : FVec F S1x16 .f32) : FVec F S1x16 .f32 :=
  addf acc (select (cmpi .eq (iota .tc S1x16 32 [1] iota_S1x16_d1_w32) (broadcast S1x16 (BitVec.ofNat 32 k)))
    (broadcast S1x16 (colSum v)) (broadcast S1x16 (Scalar.ofBits .f32 0x00000000#32 : F .f32)))

/-- The four query heads of key/value head `kh`, each with its 128 rows of `v` summed into its lane. -/
def addHead (kh : ℕ) (v : FVec F S512x1 .f32) (acc : FVec F S1x16 .f32) : FVec F S1x16 .f32 :=
  addLane (4 * kh + 3) (extractStridedSlice S128x1 ![384, 0] v slices_S512x1_o384_0_S128x1)
    (addLane (4 * kh + 2) (extractStridedSlice S128x1 ![256, 0] v slices_S512x1_o256_0_S128x1)
      (addLane (4 * kh + 1) (extractStridedSlice S128x1 ![128, 0] v slices_S512x1_o128_0_S128x1)
        (addLane (4 * kh) (extractStridedSlice S128x1 ![0, 0] v slices_S512x1_o0_0_S128x1) acc)))

/-- The rows of one key/value head at one grid point: minus the sink's probability times the cotangent's product with the saved
    output. -/
def headSink (mask dist : FVec F S512x384 .f32) (slope : FVec F S512x1 .f32) (k0 k1 k2 : Vec F S128x64 .f32)
    (gk : Vec F S1x64 .f32) (q0 q1 q2 q3 : Vec F S128x64 .f32) (gq : Vec F S1x64 .f32) (s0 s1 s2 s3 : Vec F S1x1 .f32)
    (o0 o1 o2 o3 d0 d1 d2 d3 : Vec F S128x64 .f32) : FVec F S512x1 .f32 :=
  k0_pay36 (k0_pay30 mask dist (k0_pay14 k0 k1 k2 gk) (k0_pay18 q0 q1 q2 q3 gq) slope s3 (k0_pay20 s0) (k0_pay21 s1) (k0_pay22 s2))
    (k0_pay32 d0 d1 d2 d3 o0 o1 o2 o3)

/-- Those of key/value head `kh`, from the point's blocks. -/
def dsC (i : grid0.Coords) (kh : ℕ) (h : kh < 4) (slope : FVec F S512x1 .f32) (x0 : Vec F S128x1024 .f32)
    (x1 x2 x3 : Vec F S128x256 .f32) (x7 x8 : Vec F S128x1024 .f32) (x9 x10 : Vec F S1x64 .f32) (x11 : Vec F S1x16 .f32) :
    FVec F S512x1 .f32 :=
  headSink (k0_pay10 i) (k0_pay11 i) slope (kvWin x1 kh h) (kvWin x2 kh h) (kvWin x3 kh h) (gWin x10)
    (qWin x0 (4 * kh) (by omega)) (qWin x0 (4 * kh + 1) (by omega)) (qWin x0 (4 * kh + 2) (by omega)) (qWin x0 (4 * kh + 3) (by omega))
    (gWin x9) (skWin x11 (4 * kh) (by omega)) (skWin x11 (4 * kh + 1) (by omega)) (skWin x11 (4 * kh + 2) (by omega)) (skWin x11 (4 * kh + 3) (by omega))
    (qWin x7 (4 * kh) (by omega)) (qWin x7 (4 * kh + 1) (by omega)) (qWin x7 (4 * kh + 2) (by omega)) (qWin x7 (4 * kh + 3) (by omega))
    (qWin x8 (4 * kh) (by omega)) (qWin x8 (4 * kh + 1) (by omega)) (qWin x8 (4 * kh + 2) (by omega)) (qWin x8 (4 * kh + 3) (by omega))

/-- The point's contribution to the sixteen lanes, from the four heads' rows. -/
def sinkRow (v0 v1 v2 v3 : FVec F S512x1 .f32) : FVec F S1x16 .f32 :=
  addHead 3 v3 (addHead 2 v2 (addHead 1 v1 (addHead 0 v0 k0_pay13)))

omit [Named F] in
theorem sinkChain (p0 p1 p2 p3 b2 b3 : FVec F S512x1 .f32) (b0 : FVec F S512x64 .f32) (b1 : FVec F S512 .f32) :
    k0_pay167 (k0_pay164 (iota .tc S1x16 32 [1] iota_S1x16_d1_w32) (k0_pay125 (k0_pay122 (iota .tc S1x16 32 [1] iota_S1x16_d1_w32)
        (k0_pay84 (k0_pay81 (iota .tc S1x16 32 [1] iota_S1x16_d1_w32)
          (k0_pay40 (k0_pay37 (iota .tc S1x16 32 [1] iota_S1x16_d1_w32) k0_pay13 p0 b0) (k0_pay38 (iota .tc S1x16 32 [1] iota_S1x16_d1_w32)) (k0_pay39 p0 b0))
          p1 b1) (k0_pay82 (iota .tc S1x16 32 [1] iota_S1x16_d1_w32)) (k0_pay83 p1 b1))
        p2 b2) (k0_pay123 (iota .tc S1x16 32 [1] iota_S1x16_d1_w32)) (k0_pay124 p2 b2))
      p3 b3) (k0_pay165 (iota .tc S1x16 32 [1] iota_S1x16_d1_w32)) (k0_pay166 p3 b3) (FloatOps.ofBits .f32 0#32)
      = sinkRow (k0_pay36 p0 b0) (k0_pay80 p1 b1) (k0_pay121 p2 b2) (k0_pay163 p3 b3) := rfl

/-! ## The heads' contributions in the run -/

theorem sinkHeadA0 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    k0_pay36 (runA.sl.r_12 c i arg1 harg1 arg2 harg2 arg3 harg3 arg4 harg4 arg10 harg10 arg11 harg11 arg12 harg12 x0 x1 x2 x3 x9 x10 x11) (runA.sl.r_14 c arg8 harg8 arg9 harg9 x7 x8) = dsC i 0 (by decide) (slopeCol 0) x0 x1 x2 x3 x7 x8 x9 x10 x11 := by
  simp only [runA.sl.r_12, runA.sl.r_14, runA.sl.r, runA.sl.r_2, runA.sl.r_3, runA.sl.r_6, runA.sl.r_7, runA.sl.r_8, runA.sl.r_9, runA.sl.r_10, ldWin]
  rfl

theorem sinkHeadA1 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    k0_pay80 (runA.sl.r_38 c i arg1 harg1 arg2 harg2 arg3 harg3 arg4 harg4 arg10 harg10 arg11 harg11 arg12 harg12 x0 x1 x2 x3 x9 x10 x11) (runA.sl.r_40 c arg8 harg8 arg9 harg9 x7 x8) = dsC i 1 (by decide) (slopeCol 1) x0 x1 x2 x3 x7 x8 x9 x10 x11 := by
  simp only [runA.sl.r_38, runA.sl.r_40, runA.sl.r_26, runA.sl.r_32, runA.sl.r_28, runA.sl.r_29, runA.sl.r_33, runA.sl.r_34, runA.sl.r_35, runA.sl.r_36, ldWin]
  rfl

theorem sinkHeadA2 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    k0_pay121 (runA.sl.r_63 c i arg1 harg1 arg2 harg2 arg3 harg3 arg4 harg4 arg10 harg10 arg11 harg11 arg12 harg12 x0 x1 x2 x3 x9 x10 x11) (runA.sl.r_64 c arg8 harg8 arg9 harg9 x7 x8) = dsC i 2 (by decide) (slopeCol 2) x0 x1 x2 x3 x7 x8 x9 x10 x11 := by
  simp only [runA.sl.r_63, runA.sl.r_64, runA.sl.r_52, runA.sl.r_60, runA.sl.r_61, runA.sl.r_54, runA.sl.r_55, runA.sl.r_56, ldWin]
  rfl

theorem sinkHeadA3 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    k0_pay163 (runA.sl.r_88 c i arg1 harg1 arg2 harg2 arg3 harg3 arg4 harg4 arg10 harg10 arg11 harg11 arg12 harg12 x0 x1 x2 x3 x9 x10 x11) (runA.sl.r_89 c arg8 harg8 arg9 harg9 x7 x8) = dsC i 3 (by decide) (slopeCol 3) x0 x1 x2 x3 x7 x8 x9 x10 x11 := by
  simp only [runA.sl.r_88, runA.sl.r_89, runA.sl.r_84, runA.sl.r_85, runA.sl.r_86, runA.sl.cst_351, runA.sl.r_77, runA.sl.r_78, runA.sl.r_79, runA.sl.r_80, runA.sl.r_75, ldWin]
  rfl

theorem sinkSumA (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    runA.sl.r_95 c i arg1 harg1 arg2 harg2 arg3 harg3 arg4 harg4 arg8 harg8 arg9 harg9 arg10 harg10 arg11 harg11 arg12 harg12 x0 x1 x2 x3 x7 x8 x9 x10 x11 = sinkRow (dsC i 0 (by decide) (slopeCol 0) x0 x1 x2 x3 x7 x8 x9 x10 x11) (dsC i 1 (by decide) (slopeCol 1) x0 x1 x2 x3 x7 x8 x9 x10 x11) (dsC i 2 (by decide) (slopeCol 2) x0 x1 x2 x3 x7 x8 x9 x10 x11) (dsC i 3 (by decide) (slopeCol 3) x0 x1 x2 x3 x7 x8 x9 x10 x11) := by
  simp only [runA.sl.r_95, runA.sl.r_93, runA.sl.r_94, runA.sl.r_69, runA.sl.r_67, runA.sl.r_68, runA.sl.r_45, runA.sl.r_43, runA.sl.r_44, runA.sl.r_19, runA.sl.r_17, runA.sl.r_18, runA.sl.v44, runA.sl.cst_382]
  rw [sinkChain, sinkHeadA0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, sinkHeadA1 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11,
    sinkHeadA2 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, sinkHeadA3 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11]

theorem sinkHeadB0 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    k0_pay36 (runB.sl.r_12 c i arg1 harg1 arg2 harg2 arg3 harg3 arg4 harg4 arg10 harg10 arg11 harg11 arg12 harg12 x0 x1 x2 x3 x9 x10 x11) (runB.sl.r_14 c arg8 harg8 arg9 harg9 x7 x8) = dsC i 0 (by decide) (slopeCol 0) x0 x1 x2 x3 x7 x8 x9 x10 x11 := by
  simp only [runB.sl.r_12, runB.sl.r_14, runB.sl.r, runB.sl.r_2, runB.sl.r_3, runB.sl.r_6, runB.sl.r_7, runB.sl.r_8, runB.sl.r_9, runB.sl.r_10, ldWin]
  rfl

theorem sinkHeadB1 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    k0_pay80 (runB.sl.r_38 c i arg1 harg1 arg2 harg2 arg3 harg3 arg4 harg4 arg10 harg10 arg11 harg11 arg12 harg12 x0 x1 x2 x3 x9 x10 x11) (runB.sl.r_40 c arg8 harg8 arg9 harg9 x7 x8) = dsC i 1 (by decide) (slopeCol 1) x0 x1 x2 x3 x7 x8 x9 x10 x11 := by
  simp only [runB.sl.r_38, runB.sl.r_40, runB.sl.r_26, runB.sl.r_32, runB.sl.r_28, runB.sl.r_29, runB.sl.r_33, runB.sl.r_34, runB.sl.r_35, runB.sl.r_36, ldWin]
  rfl

theorem sinkHeadB2 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    k0_pay121 (runB.sl.r_63 c i arg1 harg1 arg2 harg2 arg3 harg3 arg4 harg4 arg10 harg10 arg11 harg11 arg12 harg12 x0 x1 x2 x3 x9 x10 x11) (runB.sl.r_64 c arg8 harg8 arg9 harg9 x7 x8) = dsC i 2 (by decide) (slopeCol 2) x0 x1 x2 x3 x7 x8 x9 x10 x11 := by
  simp only [runB.sl.r_63, runB.sl.r_64, runB.sl.r_52, runB.sl.r_60, runB.sl.r_61, runB.sl.r_54, runB.sl.r_55, runB.sl.r_56, ldWin]
  rfl

theorem sinkHeadB3 (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    k0_pay163 (runB.sl.r_88 c i arg1 harg1 arg2 harg2 arg3 harg3 arg4 harg4 arg10 harg10 arg11 harg11 arg12 harg12 x0 x1 x2 x3 x9 x10 x11) (runB.sl.r_89 c arg8 harg8 arg9 harg9 x7 x8) = dsC i 3 (by decide) (slopeCol 3) x0 x1 x2 x3 x7 x8 x9 x10 x11 := by
  simp only [runB.sl.r_88, runB.sl.r_89, runB.sl.r_84, runB.sl.r_85, runB.sl.r_86, runB.sl.cst_351, runB.sl.r_77, runB.sl.r_78, runB.sl.r_79, runB.sl.r_80, runB.sl.r_75, ldWin]
  rfl

theorem sinkSumB (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    runB.sl.r_95 c i arg1 harg1 arg2 harg2 arg3 harg3 arg4 harg4 arg8 harg8 arg9 harg9 arg10 harg10 arg11 harg11 arg12 harg12 x0 x1 x2 x3 x7 x8 x9 x10 x11 = sinkRow (dsC i 0 (by decide) (slopeCol 0) x0 x1 x2 x3 x7 x8 x9 x10 x11) (dsC i 1 (by decide) (slopeCol 1) x0 x1 x2 x3 x7 x8 x9 x10 x11) (dsC i 2 (by decide) (slopeCol 2) x0 x1 x2 x3 x7 x8 x9 x10 x11) (dsC i 3 (by decide) (slopeCol 3) x0 x1 x2 x3 x7 x8 x9 x10 x11) := by
  simp only [runB.sl.r_95, runB.sl.r_93, runB.sl.r_94, runB.sl.r_69, runB.sl.r_67, runB.sl.r_68, runB.sl.r_45, runB.sl.r_43, runB.sl.r_44, runB.sl.r_19, runB.sl.r_17, runB.sl.r_18, runB.sl.v44, runB.sl.cst_382]
  rw [sinkChain, sinkHeadB0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, sinkHeadB1 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11,
    sinkHeadB2 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, sinkHeadB3 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11]

/-- The sinks' gradient after the first point: the point's contribution added to zero. -/
theorem runA_sinks (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole) (arg13 : Memref sig .tc .vmem S128x1024 .bf16) (harg13 : arg13.IsWhole) (arg14 : Memref sig .tc .vmem S4224x256 .f32) (harg14 : arg14.IsWhole) (arg15 : Memref sig .tc .vmem S4224x256 .f32) (harg15 : arg15.IsWhole) (arg16 : Memref sig .tc .vmem S1x64 .f32) (harg16 : arg16.IsWhole) (arg17 : Memref sig .tc .vmem S1x16 .f32) (harg17 : arg17.IsWhole) (hc0 : cond0_0 i)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).1.2.2 = k0_pay3 (sinkRow (dsC i 0 (by decide) (slopeCol 0) x0 x1 x2 x3 x7 x8 x9 x10 x11) (dsC i 1 (by decide) (slopeCol 1) x0 x1 x2 x3 x7 x8 x9 x10 x11) (dsC i 2 (by decide) (slopeCol 2) x0 x1 x2 x3 x7 x8 x9 x10 x11) (dsC i 3 (by decide) (slopeCol 3) x0 x1 x2 x3 x7 x8 x9 x10 x11)) k0_pay7 := by
  refine Eq.trans (b := k0_pay3 (runA.sl.r_95 c i arg1 harg1 arg2 harg2 arg3 harg3 arg4 harg4 arg8 harg8 arg9 harg9 arg10 harg10 arg11 harg11 arg12 harg12 x0 x1 x2 x3 x7 x8 x9 x10 x11) (runA.sl.v1001 c arg17)) rfl ?_
  rw [sinkSumA c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11]
  refine congrArg (k0_pay3 _) ?_
  exact View.readCov_full (Val := Elt F) arg17.view inb_S1x16_S1x16_0_0 inb_S1x16_S1x16_0_0 (k0_pay7 (F := F)) []

/-- The sinks' gradient after a later point: the point's contribution added to what it found. -/
theorem runB_sinks (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x16 .f32) (harg12 : arg12.IsWhole) (arg13 : Memref sig .tc .vmem S128x1024 .bf16) (harg13 : arg13.IsWhole) (arg14 : Memref sig .tc .vmem S4224x256 .f32) (harg14 : arg14.IsWhole) (arg15 : Memref sig .tc .vmem S4224x256 .f32) (harg15 : arg15.IsWhole) (arg16 : Memref sig .tc .vmem S1x64 .f32) (harg16 : arg16.IsWhole) (arg17 : Memref sig .tc .vmem S1x16 .f32) (harg17 : arg17.IsWhole) (hc0 : ¬cond0_0 i)
    (x0 : Vec F S128x1024 .f32) (x1 : Vec F S128x256 .f32) (x2 : Vec F S128x256 .f32) (x3 : Vec F S128x256 .f32) (x4 : Vec F S128x256 .f32) (x5 : Vec F S128x256 .f32) (x6 : Vec F S128x256 .f32) (x7 : Vec F S128x1024 .f32) (x8 : Vec F S128x1024 .f32) (x9 : Vec F S1x64 .f32) (x10 : Vec F S1x64 .f32) (x11 : Vec F S1x16 .f32)  (d13 d14 : Vec F S4224x256 .f32) (d16 : Vec F S1x16 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 d13 d14 d16).1.2.2 = k0_pay3 (sinkRow (dsC i 0 (by decide) (slopeCol 0) x0 x1 x2 x3 x7 x8 x9 x10 x11) (dsC i 1 (by decide) (slopeCol 1) x0 x1 x2 x3 x7 x8 x9 x10 x11) (dsC i 2 (by decide) (slopeCol 2) x0 x1 x2 x3 x7 x8 x9 x10 x11) (dsC i 3 (by decide) (slopeCol 3) x0 x1 x2 x3 x7 x8 x9 x10 x11)) d16 := by
  refine (read_row arg17.view (harg17.unread d16) _ _ []).trans ?_
  rw [sinkSumB c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11]
  refine congrArg (k0_pay3 _) ?_
  exact (View.readAt_full arg17.view _ inb_S1x16_S1x16_0_0).trans (harg17.read_unread d16)

end Cert.KernelIdeal.Attn

end
-- ==== Proof.AttnSinkMath.lean ====
/- The mathematics of the attention's gradient for the sinks, over the extended reals: the sink's share of the softmax, what the
   quotient rule makes of it, and the sum over the rows. -/
module

public import proofs.«01_k».proof.Proof.AttnKeyMath

@[expose] public section

noncomputable section

namespace Cert.AttnMath

open Idealize.ShloMosaic

variable (A : Arrays) (O : ℕ → ℕ → EReal)

/-- What query row `r` gives to the sink of head `h`: minus the sink's probability times the cotangent's product with the saved
    output. -/
def sinkTerm (r h : ℕ) : EReal := (0 - Ideal.exp (A.sink h - top A r h) * (total A r h)⁻¹) * dotO A O r h

/-- The gradient of the sink of head `h`. -/
def gradSink (h : ℕ) : EReal := ∑ r ∈ Finset.range 4224, sinkTerm A O r h

/-- The rows in blocks of 128. -/
theorem rows_sum (f : ℕ → EReal) (N : ℕ) : (∑ n ∈ Finset.range N, ∑ x : Fin 128, f (128 * n + x.val)) = ∑ r ∈ Finset.range (128 * N), f r := by
  induction N with
  | zero => rfl
  | succ N ih => rw [Finset.sum_range_succ, ih, Nat.mul_succ, Finset.sum_range_add, Finset.sum_range (n := 128)]

/-- Where the saved output is zero on the padding rows, the sum over the tokens. -/
theorem gradSink_token (h : ℕ) (h0 : ∀ r, r < 112 → ∀ d : Fin 64, O r (64 * h + d.val) = 0) :
    gradSink A O h = ∑ t : Fin 4112, sinkTerm A O (t.val + 112) h := by
  unfold gradSink
  rw [show 4224 = 112 + 4112 from rfl, Finset.sum_range_add, Finset.sum_eq_zero (s := Finset.range 112), zero_add, Finset.sum_range]
  · refine Finset.sum_congr rfl fun t _ => ?_
    rw [Nat.add_comm 112 t.val]
  · intro r hr
    rw [Finset.mem_range] at hr
    unfold sinkTerm dotO
    rw [Finset.sum_eq_zero fun d _ => by rw [h0 r hr d, mul_zero], mul_zero]

/-- One query row of a grid point: the sink's probability. -/
theorem point_sink (hA : Finite A) {n i h : ℕ} (hn : n < 33) (hi : i < 128) (hh : h < 16) (S : Fin 384 → EReal)
    (hS : ∀ j : Fin 384, S j = if vis n i j.val then score A (128 * n + i) (keyRow n j.val) h else ⊥) :
    Ideal.exp (A.sink h - max (Finset.univ.fold max ⊥ S) (A.sink h))
        * Ideal.div 1 ((∑ j', Ideal.exp (S j' - max (Finset.univ.fold max ⊥ S) (A.sink h)))
            + Ideal.exp (A.sink h - max (Finset.univ.fold max ⊥ S) (A.sink h)))
      = Ideal.exp (A.sink h - top A (128 * n + i) h) * (total A (128 * n + i) h)⁻¹ := by
  rw [top_eq (fun j : Fin 384 => vis n i j.val) (fun j => keyRow n j.val) (128 * n + i) h (mem_point hn hi) (surj_point hn hi) S hS,
    total_eq (fun j : Fin 384 => vis n i j.val) (fun j => keyRow n j.val) (128 * n + i) h (mem_point hn hi) (inj_point hi) (surj_point hn hi) S hS,
    div_total A hA hh, one_mul]

/-- The weights and the products over the tokens and the sink, and what the quotient rule makes of the sink's. -/
theorem token_sink (hA : FiniteKey A) {t h : ℕ} (ht : t < 4112) (hh : h < 16)
    (hO : ∀ d : Fin 64, O (t + 112) (64 * h + d.val) = ∑ κ ∈ seen (t + 112), prob A (t + 112) κ h * A.proj κ (1280 + 64 * (h / 4) + d.val))
    (E P : Fin 4113 → EReal)
    (hE : ∀ s : Fin 4112, E s.castSucc = if Vis (t + 112) (s.val + 112) then Ideal.exp (score A (t + 112) (s.val + 112) h - top A (t + 112) h) else 0)
    (hEl : E (Fin.last 4112) = Ideal.exp (A.sink h - top A (t + 112) h))
    (hP : ∀ s : Fin 4112, P s.castSucc = dotV A (t + 112) (s.val + 112) h) (hPl : P (Fin.last 4112) = 0) :
    (Ideal.div (P (Fin.last 4112)) (total A (t + 112) h) + -(∑ j, P j * Ideal.div 1 (total A (t + 112) h * total A (t + 112) h) * E j)) * E (Fin.last 4112)
      = sinkTerm A O (t + 112) h := by
  have hr : t + 112 < 4224 := by omega
  have fE : ∀ i, Fn (E i) := fun i => by
    induction i using Fin.lastCases with
    | last => rw [hEl]; exact exp_fn ((hA.base.sink h).sub (top_fn A hA.base hh))
    | cast s =>
      rw [hE]
      split_ifs with hv
      · exact weight_fn A hA.base hv hh
      · exact Fn.zero
  have fP : ∀ i, Fn (P i) := fun i => by
    induction i using Fin.lastCases with
    | last => rw [hPl]; exact Fn.zero
    | cast s => rw [hP]; exact dotV_fn A hA (by omega) (by omega) hh
  unfold sinkTerm
  rw [soft_vjp E P _ fE fP (total_fn A hA.base hr hh) (total_ne A hA.base hh), hEl, hPl, dotO_eq A O hA hr (by omega) hh hO,
    Fin.sum_univ_castSucc, hPl, mul_zero, add_zero, zero_sub, zero_sub, EReal.neg_mul, mul_neg]
  refine congrArg Neg.neg (congrArg (HMul.hMul _) ?_)
  refine sum_rename (fun s : Fin 4112 => Vis (t + 112) (s.val + 112)) (fun s => s.val + 112) (seen (t + 112))
    (fun s hs => (mem_seen hr).mpr hs) (fun s s' _ _ e => Fin.ext (by simpa using e)) (fun κ hκ => ?_)
    _ (fun κ => prob A (t + 112) κ h * dotV A (t + 112) κ h) (fun j hj => by rw [hE, if_pos hj, hP]; rfl)
    (fun j hj => by rw [hE, if_neg hj, zero_mul, zero_mul])
  have hv := (mem_seen hr).mp hκ
  have e : κ - 112 + 112 = κ := by unfold Vis at hv; omega
  refine ⟨⟨κ - 112, by unfold Vis at hv; omega⟩, ?_, e⟩
  rw [e]; exact hv

end Cert.AttnMath

end
-- ==== Proof.AttnSinkFold.lean ====
/- The sinks' gradient after the last grid point, over the extended reals: one grid point's contribution from the blocks, and the
   sum over the 33 points. -/
module

public import proofs.«01_k».proof.Proof.AttnSinkStep
public import proofs.«01_k».proof.Proof.AttnKeyFold
public import proofs.«01_k».proof.Proof.AttnSinkMath

@[expose] public section

set_option maxRecDepth 16384

noncomputable section

namespace Cert.KernelIdeal.Attn

open Idealize.ShloMosaic Idealize.ShloMosaic.Pointwise
open Cert.KernelIdeal Cert.KernelIdeal.Gen Cert.AttnMath

/-! ## One head's contribution, from the blocks -/

theorem colSum_apply (v : FVec Ideal S128x1 .f32) : colSum v = ∑ x : Fin 128, v (ix2 x 0) := by
  unfold colSum
  pointwise []
  simp only [Fin.sum_univ_one]

theorem lane_word : ∀ h k : Fin 16, IntOp.cmpi .eq (BitVec.ofNat 32 h.val) (BitVec.ofNat 32 k.val) = if h = k then 1#1 else 0#1 := by decide

theorem addLane_apply (k : Fin 16) (v : FVec Ideal S128x1 .f32) (acc : FVec Ideal S1x16 .f32) (h : Fin 16) :
    addLane k.val v acc (ix2 0 h) = acc (ix2 0 h) + if h = k then ∑ x : Fin 128, v (ix2 x 0) else 0 := by
  rw [← colSum_apply]
  unfold addLane
  generalize colSum v = s
  pointwise []
  rw [lane_word]
  split_ifs <;> rfl

/-- The sum of the 128 rows of query head `g` of four. -/
def headSum (v : FVec Ideal S512x1 .f32) (g : Fin 4) : EReal := ∑ x : Fin 128, v (ix2 ⟨128 * g.val + x.val, by omega⟩ 0)

theorem addHead_apply (kh : Fin 4) (v : FVec Ideal S512x1 .f32) (acc : FVec Ideal S1x16 .f32) (k g : Fin 4) :
    addHead kh.val v acc (ix2 0 ⟨4 * k.val + g.val, by omega⟩) = acc (ix2 0 ⟨4 * k.val + g.val, by omega⟩) + if k = kh then headSum v g else 0 := by
  have l0 := addLane_apply ⟨4 * kh.val, by omega⟩
  have l1 := addLane_apply ⟨4 * kh.val + 1, by omega⟩
  have l2 := addLane_apply ⟨4 * kh.val + 2, by omega⟩
  have l3 := addLane_apply ⟨4 * kh.val + 3, by omega⟩
  dsimp only at l0 l1 l2 l3
  have s0 : (∑ x : Fin 128, extractStridedSlice S128x1 ![0, 0] v slices_S512x1_o0_0_S128x1 (ix2 x 0)) = headSum v 0 :=
    Finset.sum_congr rfl fun x _ => by pointwise []
  have s1 : (∑ x : Fin 128, extractStridedSlice S128x1 ![128, 0] v slices_S512x1_o128_0_S128x1 (ix2 x 0)) = headSum v 1 :=
    Finset.sum_congr rfl fun x _ => by pointwise []
  have s2 : (∑ x : Fin 128, extractStridedSlice S128x1 ![256, 0] v slices_S512x1_o256_0_S128x1 (ix2 x 0)) = headSum v 2 :=
    Finset.sum_congr rfl fun x _ => by pointwise []
  have s3 : (∑ x : Fin 128, extractStridedSlice S128x1 ![384, 0] v slices_S512x1_o384_0_S128x1 (ix2 x 0)) = headSum v 3 :=
    Finset.sum_congr rfl fun x _ => by pointwise []
  unfold addHead
  rw [l3, l2, l1, l0, s0, s1, s2, s3]
  simp only [Fin.ext_iff]
  by_cases hk : k.val = kh.val
  · rw [if_pos hk]
    match g with
    | 0 => simp [hk]
    | 1 => simp [hk]
    | 2 => simp [hk]
    | 3 => simp [hk]
  · rw [if_neg hk, if_neg (by omega), if_neg (by omega), if_neg (by omega), if_neg (by omega)]
    simp only [add_zero]

theorem sinkRow_apply (v : Fin 4 → FVec Ideal S512x1 .f32) (old : FVec Ideal S1x16 .f32) (k g : Fin 4) :
    k0_pay3 (sinkRow (v 0) (v 1) (v 2) (v 3)) old (ix2 0 ⟨4 * k.val + g.val, by omega⟩)
      = old (ix2 0 ⟨4 * k.val + g.val, by omega⟩) + headSum (v k) g := by
  have e : sinkRow (v 0) (v 1) (v 2) (v 3) (ix2 0 ⟨4 * k.val + g.val, by omega⟩) = headSum (v k) g := by
    unfold sinkRow
    rw [show addHead 3 = addHead (F := Ideal) (3 : Fin 4).val from rfl, addHead_apply,
      show addHead 2 = addHead (F := Ideal) (2 : Fin 4).val from rfl, addHead_apply,
      show addHead 1 = addHead (F := Ideal) (1 : Fin 4).val from rfl, addHead_apply,
      show addHead 0 = addHead (F := Ideal) (0 : Fin 4).val from rfl, addHead_apply]
    have z : (k0_pay13 : FVec Ideal S1x16 .f32) (ix2 0 ⟨4 * k.val + g.val, by omega⟩) = 0 := by pointwise [k0_pay13]
    rw [z]
    match k with
    | 0 => simp
    | 1 => simp
    | 2 => simp
    | 3 => simp
  rw [← e]
  generalize sinkRow (v 0) (v 1) (v 2) (v 3) = w
  pointwise [k0_pay3]

/-! ## One head's rows, from the blocks -/

theorem sink_apply (A : Arrays) (O : ℕ → ℕ → EReal) (hA : Finite A) (n kh : ℕ) (hn : n < 33) (hkh : kh < 4)
    (mask dst : FVec Ideal S512x384 .f32) (k : FVec Ideal S384x64 .f32) (q : FVec Ideal S512x64 .f32) (slope : FVec Ideal S512x1 .f32)
    (s0 s1 s2 s3 : Vec Ideal S1x1 .f32) (od : FVec Ideal S512x64 .f32)
    (hm : ∀ x j, mask (ix2 x j) = if vis n (x.val % 128) j.val then (0 : EReal) else ⊥)
    (hd : ∀ x j, dst (ix2 x j) = ((gap n (x.val % 128) j.val : ℝ) : EReal))
    (hk : ∀ (j : Fin 384) (d : Fin 64), k (ix2 j d) = nrm A.proj A.gk (keyRow n j.val) (1024 + 64 * kh) d.val)
    (hq : ∀ (x : Fin 512) (d : Fin 64), q (ix2 x d) = nrm A.proj A.gq (128 * n + x.val % 128) (64 * (4 * kh + x.val / 128)) d.val)
    (hs : ∀ x : Fin 512, slope (ix2 x 0) = A.slope (4 * kh + x.val / 128))
    (h0 : s0 (ix2 0 0) = A.sink (4 * kh + 0)) (h1 : s1 (ix2 0 0) = A.sink (4 * kh + 1))
    (h2 : s2 (ix2 0 0) = A.sink (4 * kh + 2)) (h3 : s3 (ix2 0 0) = A.sink (4 * kh + 3))
    (hod : ∀ (x : Fin 512) (d : Fin 64), od (ix2 x d) = A.dout (128 * n + x.val % 128) (64 * (4 * kh + x.val / 128) + d.val)
      * O (128 * n + x.val % 128) (64 * (4 * kh + x.val / 128) + d.val))
    (x : Fin 512) :
    k0_pay36 (F := Ideal) (k0_pay30 mask dst k q slope s3 (k0_pay20 s0) (k0_pay21 s1) (k0_pay22 s2)) od (ix2 x 0)
      = sinkTerm A O (128 * n + x.val % 128) (4 * kh + x.val / 128) := by
  pointwise [k0_pay36, k0_pay33, k0_pay30, k0_pay28, k0_pay27, k0_pay26, k0_pay25, k0_pay24, k0_pay23, k0_pay20, k0_pay21, k0_pay22]
  have hx : x.val % 128 < 128 := Nat.mod_lt _ (by decide)
  have hh : 4 * kh + x.val / 128 < 16 := by have := x.isLt; omega
  have hg : (4 * kh + x.val / 128) / 4 = kh := by have := x.isLt; omega
  rw [chain4 x.val _ _ _ _ x.isLt (fun g => A.sink (4 * kh + g)) h0.symm h1.symm h2.symm h3.symm, word_bot]
  simp only [hod]
  refine (congrArg (fun e => (0 - e) * _) (point_sink A hA hn hx hh (fun x_1 => (∑ x_2, q (ix2 x x_2) * k (ix2 x_1 x_2)) * Ideal.ofBits FTy.f32 1040187392#32 -
                  slope (ix2 x 0) * dst (ix2 x x_1) + mask (ix2 x x_1)) (fun j' => ?_))).trans ?_
  · show (∑ x_2, q (ix2 x x_2) * k (ix2 j' x_2)) * Ideal.ofBits FTy.f32 1040187392#32 -
                    slope (ix2 x 0) * dst (ix2 x j') + mask (ix2 x j') = _
    rw [hm]
    by_cases hv : vis n (x.val % 128) j'.val
    · rw [if_pos hv, if_pos hv, add_zero, hs, hd, gap_eq j'.isLt hv]
      unfold score
      rw [hg]
      refine congrArg (· - _) (congrArg (· * _) (Finset.sum_congr rfl fun e _ => ?_))
      rw [hq, hk]
    · rw [if_neg hv, if_neg hv, EReal.add_bot]
  · rfl

theorem dsC_apply (A : Arrays) (O : ℕ → ℕ → EReal) (hA : Finite A) (i : grid0.Coords) (kh : ℕ) (hkh : kh < 4)
    (x0 : Vec Ideal S128x1024 .f32) (x1 x2 x3 : Vec Ideal S128x256 .f32) (x7 x8 : Vec Ideal S128x1024 .f32)
    (x9 x10 : Vec Ideal S1x64 .f32) (x11 : Vec Ideal S1x16 .f32)
    (e0 : ∀ (r : Fin 128) (d : Fin 1024), x0 (ix2 r d) = A.proj (128 * (i 0).val + r.val) d.val)
    (e1 : ∀ (r : Fin 128) (d : Fin 256), x1 (ix2 r d) = A.proj (128 * ((i 0).val - 1) + r.val) (1024 + d.val))
    (e2 : ∀ (r : Fin 128) (d : Fin 256), x2 (ix2 r d) = A.proj (128 * (i 0).val + r.val) (1024 + d.val))
    (e3 : ∀ (r : Fin 128) (d : Fin 256), x3 (ix2 r d) = A.proj r.val (1024 + d.val))
    (e7 : ∀ (r : Fin 128) (d : Fin 1024), x7 (ix2 r d) = O (128 * (i 0).val + r.val) d.val)
    (e8 : ∀ (r : Fin 128) (d : Fin 1024), x8 (ix2 r d) = A.dout (128 * (i 0).val + r.val) d.val)
    (e9 : ∀ d : Fin 64, x9 (ix2 0 d) = A.gq d.val) (e10 : ∀ d : Fin 64, x10 (ix2 0 d) = A.gk d.val)
    (e11 : ∀ h : Fin 16, x11 (ix2 0 h) = A.sink h.val)
    (eS : ∀ h, A.slope h = Ideal.ofBits .f32 (slopeWord h)) (x : Fin 512) :
    dsC (F := Ideal) i kh hkh (slopeCol kh) x0 x1 x2 x3 x7 x8 x9 x10 x11 (ix2 x 0)
      = sinkTerm A O (128 * (i 0).val + x.val % 128) (4 * kh + x.val / 128) := by
  have hq : ∀ (h : ℕ) (hh : h < 16) (r : Fin 128) (d : Fin 64), qWin x0 h hh (ix2 r d) = A.proj (128 * (i 0).val + r.val) (64 * h + d.val) :=
    fun h hh r d => by rw [qWin_apply, e0]
  have ho : ∀ (h : ℕ) (hh : h < 16) (r : Fin 128) (d : Fin 64), qWin x8 h hh (ix2 r d) = A.dout (128 * (i 0).val + r.val) (64 * h + d.val) :=
    fun h hh r d => by rw [qWin_apply, e8]
  have hO : ∀ (h : ℕ) (hh : h < 16) (r : Fin 128) (d : Fin 64), qWin x7 h hh (ix2 r d) = O (128 * (i 0).val + r.val) (64 * h + d.val) :=
    fun h hh r d => by rw [qWin_apply, e7]
  have hs : ∀ (h : ℕ) (hh : h < 16), skWin x11 h hh (ix2 0 0) = A.sink h := fun h hh => by rw [skWin_apply, e11]
  have hd := pay31_apply A.dout (128 * (i 0).val) (4 * kh) _ _ _ _ (ho (4 * kh) (by omega)) (ho (4 * kh + 1) (by omega)) (ho (4 * kh + 2) (by omega)) (ho (4 * kh + 3) (by omega))
  have hoO := pay31_apply O (128 * (i 0).val) (4 * kh) _ _ _ _ (hO (4 * kh) (by omega)) (hO (4 * kh + 1) (by omega)) (hO (4 * kh + 2) (by omega)) (hO (4 * kh + 3) (by omega))
  unfold dsC headSink
  exact sink_apply A O hA (i 0).val kh (i 0).isLt hkh _ _ _ _ _ _ _ _ _ _ (pay10_apply i) (pay11_apply i)
    (pay14_apply A.proj A.gk (i 0).val (1024 + 64 * kh) _ _ _ _
      (fun r d => by rw [kvWin_apply, e1, Nat.add_assoc]) (fun r d => by rw [kvWin_apply, e2, Nat.add_assoc])
      (fun r d => by rw [kvWin_apply, e3, Nat.add_assoc]) (fun d => by rw [gWin_apply, e10]))
    (pay18_apply A.proj A.gq (128 * (i 0).val) (4 * kh) _ _ _ _ _ (hq _ _) (hq _ _) (hq _ _) (hq _ _) (fun d => by rw [gWin_apply, e9]))
    (fun x => by rw [slopeCol_apply kh hkh, eS]) (hs _ _) (hs _ _) (hs _ _) (hs _ _)
    (fun x d => by rw [pay32_eq, hd, hoO]) x

/-! ## The fold over the points -/

theorem idx16 : ∀ t : Fin cfg0.N, (cfg0.win 16).index t = ![0, 0] := by decide +kernel

variable (m : (ℓ : Loc nD τ sig) → Buf (Elt Ideal) ℓ) (c : Dev nD) (hA : Finite (argArrays m c))

/-- Point `t`'s rows of key/value head `kh`. -/
def pointRows (t : Fin cfg0.N) (kh : Fin 4) : FVec Ideal S512x1 .f32 :=
  dsC (grid0.coords t) kh.val kh.isLt (slopeCol kh.val) (X0_0 m c t) (iblk m c 1 t) (iblk m c 2 t) (iblk m c 3 t) (iblk m c 7 t) (iblk m c 8 t) (iblk m c 9 t) (iblk m c 10 t) (iblk m c 11 t)

/-- What point `n` adds to lane `h`. -/
def sinkPart (A : Arrays) (O : ℕ → ℕ → EReal) (n h : ℕ) : EReal := ∑ x : Fin 128, sinkTerm A O (128 * n + x.val) h

include hA in
theorem rows_apply (t : Fin cfg0.N) (k g : Fin 4) :
    headSum (pointRows m c t k) g = sinkPart (argArrays m c) (savedOut m c) t.val (4 * k.val + g.val) := by
  have hi := coords_eq t
  unfold headSum sinkPart pointRows
  refine Finset.sum_congr rfl fun x _ => ?_
  rw [dsC_apply (argArrays m c) (savedOut m c) hA (grid0.coords t) _ k.isLt _ _ _ _ _ _ _ _ _ (by rw [hi]; exact blk0 m c t) (by rw [hi]; exact blk1 m c t)
    (by rw [hi]; exact blk2 m c t) (blk3 m c t) (by rw [hi]; exact blk7 m c t)
    (by rw [hi]; exact blk8 m c t) (blk9 m c t) (blk10 m c t) (blk11 m c t) (fun _ => rfl), hi]
  have h1 : (128 * g.val + x.val) % 128 = x.val := by omega
  have h2 : (128 * g.val + x.val) / 128 = g.val := by omega
  dsimp only
  rw [h1, h2]

include hA in
/-- The accumulator of the sinks' gradient after point `t`. -/
theorem sinks_apply (n : ℕ) (h : n < cfg0.N) (k g : Fin 4) :
    ((accs m c ⟨n, h⟩).2.2 : Vec Ideal S1x16 .f32) (ix2 0 ⟨4 * k.val + g.val, by omega⟩)
      = ∑ p ∈ Finset.range (n + 1), sinkPart (argArrays m c) (savedOut m c) p (4 * k.val + g.val) := by
  induction n with
  | zero =>
    rw [accs_zero m c ⟨0, h⟩ rfl]
    unfold accA
    rw [dif_pos ((hcond0_0 ⟨0, h⟩).mpr rfl), runA_sinks]
    refine (sinkRow_apply (pointRows m c ⟨0, h⟩) _ k g).trans ?_
    rw [rows_apply m c hA, Finset.sum_range_one]
    pointwise [k0_pay7]
  | succ n ih =>
    have hn : n + 1 < 33 := lt_N ⟨n + 1, h⟩
    rw [accs_pos m c ⟨n + 1, h⟩ (Nat.succ_ne_zero n)]
    unfold accB
    rw [dif_neg fun hc => by have := (hcond0_0 ⟨n + 1, h⟩).mp hc; have : (n + 1) % 33 = 0 := this; omega, runB_sinks]
    refine (sinkRow_apply (pointRows m c ⟨n + 1, h⟩) _ k g).trans ?_
    rw [rows_apply m c hA, Finset.sum_range_succ]
    exact congrArg (· + _) (ih (Nat.lt_of_succ_lt h))

/-- The array that the pipeline leaves in the window of the sinks' gradient. -/
def sinkArray (A : Arrays) (O : ℕ → ℕ → EReal) : FVec Ideal S1x16 .f32 := fun y => gradSink A O (y 1).val

include hA in
theorem arr16 : (dats m 0 c).arrAt 16 cfg0.N = sinkArray (argArrays m c) (savedOut m c) := by
  refine (dats m 0 c).arrAt_eq_of_covers 16 _ (by decide +kernel) fun t hf y => ?_
  have ht : t.val % 33 = 32 := (flush0_16 t).mp hf
  have hN := lt_N t
  have hy : sinkArray (argArrays m c) (savedOut m c) (((cfg0.win 16).blk t).view.emb y) = sinkArray (argArrays m c) (savedOut m c) y := by
    unfold sinkArray; blk_simp [idx16 t]
  rw [hy]
  blk_simp
  rw [after0_16]
  have hy1 : (y 1).val < 16 := (y 1).isLt
  have hy0 : (y 0).val < 1 := (y 0).isLt
  have e := sinks_apply m c hA t.val t.isLt ⟨(y 1).val / 4, by omega⟩ ⟨(y 1).val % 4, by omega⟩
  have ey : (ix2 0 ⟨4 * ((y 1).val / 4) + (y 1).val % 4, by omega⟩ : S1x16.Idx) = y := by
    funext a
    match a with
    | 0 => exact Fin.ext (by show 0 = (y 0).val; omega)
    | 1 => exact Fin.ext (by show 4 * ((y 1).val / 4) + (y 1).val % 4 = (y 1).val; omega)
  dsimp only at e
  rw [ey] at e
  refine e.trans ?_
  rw [show t.val + 1 = 33 by omega, show 4 * ((y 1).val / 4) + (y 1).val % 4 = (y 1).val by omega]
  exact rows_sum (fun r => sinkTerm (argArrays m c) (savedOut m c) r (y 1).val) 33

include hA in
/-- What the run's post says of the array of the sinks' gradient. -/
theorem out16 {r : PUnit × MemSt nD τ sig (Elt Ideal)}
    (h : Pipeline.RDat.FramePost (cfgs 0) (fun c => (dats m 0 c).toRForget forgets0) (V m) r) :
    r.2.mem ((c.tc : Thread nD τ).loc main_v0_4) = sinkArray (argArrays m c) (savedOut m c) :=
  ((Pipeline.Dat.toRForget_arrAt_iff (dats m 0 c) (fgt := forgets0) (w := 16) rfl _ _).mp ((h c).1 16)).trans (arr16 m c hA)

/-- The run: the three gradients are in their results, and the arguments are as they were. -/
theorem run_three (ρ : Dev nD → PrngReg) (hAll : ∀ c, Finite (argArrays m c)) :
    θ_run defs (onTc (τ := τ) (main (F := Ideal))) ⟨m, fun _ => 0, ρ⟩ (fun r => ∀ c : Dev nD,
      r.2.mem ((c.tc : Thread nD τ).loc main_v0_1) = keyArray (argArrays m c) (savedOut m c)
      ∧ r.2.mem ((c.tc : Thread nD τ).loc main_v0_2) = gradArray (argArrays m c)
      ∧ r.2.mem ((c.tc : Thread nD τ).loc main_v0_4) = sinkArray (argArrays m c) (savedOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨out13 m c (hAll c) h.1, out14 m c (hAll c) h.1, out16 m c (hAll c) h.1, h.2 c⟩)
    (θ_run_and (run_main m ρ) (unchanged m ρ))

end Cert.KernelIdeal.Attn

end
-- ==== Proof.AttnKeyRef.lean ====
/- The dense attention's key gradient, and the sinks', stage by stage at an index, and that the last stages are the gradients of the mathematics
   where the saved output is the forward attention's. -/
module

public import proofs.«01_k».proof.Proof.AttnSinkFold
public import proofs.«01_k».proof.Proof.AttnForward

@[expose] public section

set_option maxRecDepth 16384

noncomputable section

namespace Cert.ReferenceIdeal.Attn

open Idealize.ShloMosaic Idealize.ShloMosaic.Pointwise
open Cert.ReferenceIdeal Cert.ReferenceIdeal.Gen Cert.ReferenceIdeal.Read Cert.AttnMath
open Cert.KernelIdeal.Attn (entry entry_of arrays slopeWord word64 word_bot keyArray sinkArray)

variable (x0 : FVec Ideal S4224x2560 .f32) (x2 : FVec Ideal S4224x1024 .f32) (x3 x4 : FVec Ideal S1x64 .f32) (x5 : FVec Ideal S1x16 .f32)

/-! ## The weights and their sum -/

theorem top_token (hA : Finite (arrays x0 x2 x3 x4 x5)) (t : Fin 4112) (k g : Fin 4) :
    val_main_v96 (F := Ideal) x0 x3 x4 x5 (ix3 k g t) = top (arrays x0 x2 x3 x4 x5) (t.val + 112) (4 * k.val + g.val) := by
  rw [v96_apply x0 x2 x3 x4 x5]
  refine top_eq (fun s : Fin 4112 => Vis (t.val + 112) (s.val + 112)) (fun s => s.val + 112) (t.val + 112) (4 * k.val + g.val)
    (fun s hs => (mem_seen (by omega)).mpr hs) (fun κ hκ => ?_) _ (fun s => v85_apply x0 x2 x3 x4 x5 k g t s)
  have hv := (mem_seen (by omega)).mp hκ
  have e : κ - 112 + 112 = κ := by unfold Vis at hv; omega
  refine ⟨⟨κ - 112, by unfold Vis at hv; omega⟩, ?_, e⟩
  rw [e]; exact hv

theorem v109_apply (hA : Finite (arrays x0 x2 x3 x4 x5)) (t : Fin 4112) (k g : Fin 4) (s : Fin 4113) :
    val_main_v109 (F := Ideal) x0 x3 x4 x5 (ix4 k g t s)
      = Ideal.exp (val_main_v88 (F := Ideal) x0 x3 x4 x5 (ix4 k g t s) - top (arrays x0 x2 x3 x4 x5) (t.val + 112) (4 * k.val + g.val)) := by
  pointwise [val_main_v106, val_main_v107, val_main_v108, val_main_v109]
  rw [top_token x0 x2 x3 x4 x5 hA]

theorem v109_token (hA : Finite (arrays x0 x2 x3 x4 x5)) (t : Fin 4112) (k g : Fin 4) (s : Fin 4112) :
    val_main_v109 (F := Ideal) x0 x3 x4 x5 (ix4 k g t s.castSucc)
      = if Vis (t.val + 112) (s.val + 112) then Ideal.exp (score (arrays x0 x2 x3 x4 x5) (t.val + 112) (s.val + 112) (4 * k.val + g.val)
          - top (arrays x0 x2 x3 x4 x5) (t.val + 112) (4 * k.val + g.val)) else 0 := by
  rw [v109_apply x0 x2 x3 x4 x5 hA, v88_apply x0 x2 x3 x4 x5, dif_pos (show s.castSucc.val < 4112 from s.isLt),
    show (⟨s.castSucc.val, s.isLt⟩ : Fin 4112) = s from rfl, v85_apply x0 x2 x3 x4 x5]
  split_ifs
  · rfl
  · rw [EReal.bot_sub, Ideal.exp_bot]

theorem v109_sink (hA : Finite (arrays x0 x2 x3 x4 x5)) (t : Fin 4112) (k g : Fin 4) :
    val_main_v109 (F := Ideal) x0 x3 x4 x5 (ix4 k g t (Fin.last 4112))
      = Ideal.exp ((arrays x0 x2 x3 x4 x5).sink (4 * k.val + g.val) - top (arrays x0 x2 x3 x4 x5) (t.val + 112) (4 * k.val + g.val)) := by
  rw [v109_apply x0 x2 x3 x4 x5 hA, v88_apply x0 x2 x3 x4 x5, dif_neg (show ¬(Fin.last 4112).val < 4112 by decide)]

theorem v110_apply (hA : Finite (arrays x0 x2 x3 x4 x5)) (t : Fin 4112) (k g : Fin 4) :
    val_main_v110 (F := Ideal) x0 x3 x4 x5 (ix3 k g t) = total (arrays x0 x2 x3 x4 x5) (t.val + 112) (4 * k.val + g.val) := by
  have e : val_main_v110 (F := Ideal) x0 x3 x4 x5 (ix3 k g t) = ∑ s : Fin 4113, val_main_v109 (F := Ideal) x0 x3 x4 x5 (ix4 k g t s) := by
    generalize hy : val_main_v109 (F := Ideal) x0 x3 x4 x5 = y
    unfold val_main_v110
    rw [hy]
    pointwise [val_main_cst_32]
  rw [e, Fin.sum_univ_castSucc, v109_sink x0 x2 x3 x4 x5 hA]
  unfold total
  refine congrArg (· + _) ?_
  refine sum_rename (fun s : Fin 4112 => Vis (t.val + 112) (s.val + 112)) (fun s => s.val + 112) (seen (t.val + 112))
    (fun s hs => (mem_seen (by omega)).mpr hs) (fun s s' _ _ e => Fin.ext (by simpa using e)) (fun κ hκ => ?_)
    _ (fun κ => Ideal.exp (score (arrays x0 x2 x3 x4 x5) (t.val + 112) κ (4 * k.val + g.val) - top (arrays x0 x2 x3 x4 x5) (t.val + 112) (4 * k.val + g.val)))
    (fun j hj => by rw [v109_token x0 x2 x3 x4 x5 hA, if_pos hj]) (fun j hj => by rw [v109_token x0 x2 x3 x4 x5 hA, if_neg hj])
  have hv := (mem_seen (by omega)).mp hκ
  have e : κ - 112 + 112 = κ := by unfold Vis at hv; omega
  refine ⟨⟨κ - 112, by unfold Vis at hv; omega⟩, ?_, e⟩
  rw [e]; exact hv

/-! ## The cotangent's products with the values -/

theorem v121_apply (t s : Fin 4112) (k g : Fin 4) :
    val_main_v121 (F := Ideal) x0 x2 (ix4 k g t s) = dotV (arrays x0 x2 x3 x4 x5) (t.val + 112) (s.val + 112) (4 * k.val + g.val) := by
  pointwise [val_main_v121, val_main_v120, val_main_v36, val_main_v35, val_main_v34, val_main_v33, val_main_v0]
  unfold dotV
  refine Finset.sum_congr rfl fun d _ => ?_
  show _ = entry x2 (t.val + 112) (64 * (4 * k.val + g.val) + d.val) * entry x0 (s.val + 112) (1280 + 64 * ((4 * k.val + g.val) / 4) + d.val)
  rw [entry_of x2 (r := t.val + 112) (c := 64 * (4 * k.val + g.val) + d.val) (by omega) (by omega),
    entry_of x0 (r := s.val + 112) (c := 1280 + 64 * ((4 * k.val + g.val) / 4) + d.val) (by omega) (by omega)]
  refine congrArg₂ (fun a b : EReal => a * b) (congrArg x2 (congrArg₂ ix2 (Fin.ext ?_) (Fin.ext ?_))) (congrArg x0 (congrArg₂ ix2 (Fin.ext ?_) (Fin.ext ?_)))
  · show 112 + t.val = t.val + 112; omega
  · show k.val * 256 + g.val * 64 + d.val = 64 * (4 * k.val + g.val) + d.val; omega
  · show 112 + s.val = s.val + 112; omega
  · show 1280 + (k.val * 64 + d.val) = 1280 + 64 * ((4 * k.val + g.val) / 4) + d.val; omega

theorem v124_apply (t : Fin 4112) (k g : Fin 4) (s : Fin 4113) :
    val_main_v124 (F := Ideal) x0 x2 (ix4 k g t s)
      = if h : s.val < 4112 then val_main_v121 (F := Ideal) x0 x2 (ix4 k g t ⟨s.val, h⟩) else 0 := by
  unfold val_main_v124
  generalize val_main_v121 (F := Ideal) x0 x2 = y
  pointwise [val_main_cst_34]

theorem v124_token (t s : Fin 4112) (k g : Fin 4) :
    val_main_v124 (F := Ideal) x0 x2 (ix4 k g t s.castSucc) = dotV (arrays x0 x2 x3 x4 x5) (t.val + 112) (s.val + 112) (4 * k.val + g.val) := by
  rw [← v121_apply x0 x2 x3 x4 x5, v124_apply, dif_pos (show s.castSucc.val < 4112 from s.isLt)]
  rfl

theorem v124_sink (t : Fin 4112) (k g : Fin 4) : val_main_v124 (F := Ideal) x0 x2 (ix4 k g t (Fin.last 4112)) = 0 := by
  rw [v124_apply, dif_neg (show ¬(Fin.last 4112).val < 4112 by decide)]

/-! ## The softmax's cotangent -/

theorem v136_form (t : Fin 4112) (k g : Fin 4) (s : Fin 4113) :
    val_main_v136 (F := Ideal) x0 x2 x3 x4 x5 (ix4 k g t s)
      = (Ideal.div (val_main_v124 (F := Ideal) x0 x2 (ix4 k g t s)) (val_main_v110 (F := Ideal) x0 x3 x4 x5 (ix3 k g t))
          + -(∑ j : Fin 4113, val_main_v124 (F := Ideal) x0 x2 (ix4 k g t j)
              * Ideal.div 1 (val_main_v110 (F := Ideal) x0 x3 x4 x5 (ix3 k g t) * val_main_v110 (F := Ideal) x0 x3 x4 x5 (ix3 k g t))
              * val_main_v109 (F := Ideal) x0 x3 x4 x5 (ix4 k g t j)))
        * val_main_v109 (F := Ideal) x0 x3 x4 x5 (ix4 k g t s) := by
  unfold val_main_v136 val_main_v135 val_main_v134 val_main_v133 val_main_v132 val_main_v131 val_main_v130 val_main_v129 val_main_v128 val_main_v127 val_main_v126 val_main_v125 val_main_v116 val_main_v115 val_main_v114 val_main_v111
  generalize val_main_v124 (F := Ideal) x0 x2 = P
  generalize val_main_v110 (F := Ideal) x0 x3 x4 x5 = Z
  generalize val_main_v109 (F := Ideal) x0 x3 x4 x5 = E
  pointwise [val_main_cst_36, val_main_cst_35, val_main_cst_33]
  rw [Fin.sum_univ_one]

theorem v137_eq (t s : Fin 4112) (k g : Fin 4) :
    val_main_v137 (F := Ideal) x0 x2 x3 x4 x5 (ix4 k g t s) = val_main_v136 (F := Ideal) x0 x2 x3 x4 x5 (ix4 k g t s.castSucc) := by
  unfold val_main_v137
  generalize val_main_v136 (F := Ideal) x0 x2 x3 x4 x5 = y
  pointwise []
  rfl

theorem v137_apply (hA : FiniteKey (arrays x0 x2 x3 x4 x5)) (O : ℕ → ℕ → EReal) (t s : Fin 4112) (k g : Fin 4)
    (hO : ∀ d : Fin 64, O (t.val + 112) (64 * (4 * k.val + g.val) + d.val) = out (arrays x0 x2 x3 x4 x5) (t.val + 112) (4 * k.val + g.val) d.val)
    (hv : Vis (t.val + 112) (s.val + 112)) :
    val_main_v137 (F := Ideal) x0 x2 x3 x4 x5 (ix4 k g t s)
      = prob (arrays x0 x2 x3 x4 x5) (t.val + 112) (s.val + 112) (4 * k.val + g.val)
        * (dotV (arrays x0 x2 x3 x4 x5) (t.val + 112) (s.val + 112) (4 * k.val + g.val) - dotO (arrays x0 x2 x3 x4 x5) O (t.val + 112) (4 * k.val + g.val)) := by
  rw [v137_eq, v136_form, v110_apply x0 x2 x3 x4 x5 hA.base]
  exact token_vjp (arrays x0 x2 x3 x4 x5) O hA t.isLt (by omega) hO
    (fun j => val_main_v109 (F := Ideal) x0 x3 x4 x5 (ix4 k g t j)) (fun j => val_main_v124 (F := Ideal) x0 x2 (ix4 k g t j)) (v109_token x0 x2 x3 x4 x5 hA.base t k g) (v109_sink x0 x2 x3 x4 x5 hA.base t k g)
    (fun s => v124_token x0 x2 x3 x4 x5 t s k g) (v124_sink x0 x2 t k g) s hv

theorem v142_apply (t s : Fin 4112) (k g : Fin 4) :
    val_main_v142 (F := Ideal) x0 x2 x3 x4 x5 (ix4 k g t s)
      = if Vis (t.val + 112) (s.val + 112) then val_main_v137 (F := Ideal) x0 x2 x3 x4 x5 (ix4 k g t s) else 0 := by
  pointwise [val_main_v142, val_main_call1_v0, val_main_call1_cst, val_main_v85_1, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_c_5, val_main_c]
  rw [mask_word t.isLt s.isLt]

/-! ## The gradient -/

theorem v149_eq (hA : FiniteKey (arrays x0 x2 x3 x4 x5)) (O : ℕ → ℕ → EReal)
    (hO : ∀ t : Fin 4112, ∀ h : Fin 16, ∀ d : Fin 64, O (t.val + 112) (64 * h.val + d.val) = out (arrays x0 x2 x3 x4 x5) (t.val + 112) h.val d.val) :
    val_main_v149 (F := Ideal) x0 x2 x3 x4 x5 = keyArray (arrays x0 x2 x3 x4 x5) O := by
  funext y
  obtain ⟨r, c, rfl⟩ : ∃ (r : Fin 4224) (c : Fin 256), y = ix2 r c := ⟨y 0, y 1, by funext a; fin_cases a <;> rfl⟩
  show _ = gradKey (arrays x0 x2 x3 x4 x5) O r.val c.val
  pointwise [val_main_v149, val_main_v148, val_main_v147, val_main_v146, val_main_v145, val_main_v144, val_main_v143, val_main_cst_38, val_main_c_39, val_main_call2_v0]
  have hr := r.isLt
  have hc := c.isLt
  by_cases h : 112 ≤ r.val ∧ r.val - 112 < 4112
  · rw [dif_pos h]
    conv_rhs => rw [show r.val = r.val - 112 + 112 by omega]
    rw [gradKey_token]
    rw [Finset.sum_comm]
    refine Finset.sum_congr rfl fun g _ => Finset.sum_congr rfl fun t _ => ?_
    have e := v142_apply x0 x2 x3 x4 x5 t ⟨r.val - 112, h.2⟩ ⟨c.val / 64, by omega⟩ g
    rw [e, v16_apply x0 x2 x3 x4 x5]
    by_cases hv : Vis (t.val + 112) (r.val - 112 + 112)
    · rw [if_pos hv, if_pos hv, v137_apply x0 x2 x3 x4 x5 hA O t ⟨r.val - 112, h.2⟩ ⟨c.val / 64, by omega⟩ g
        (hO t ⟨4 * (c.val / 64) + g.val, by omega⟩) hv, mul_right_comm]
      rfl
    · rw [if_neg hv, if_neg hv, zero_mul, zero_mul]
  · rw [dif_neg h, gradKey_of_lt _ _ (by omega)]
    show (((0#32 : BitVec 32).toInt : ℝ) : EReal) = 0
    simp

/-! ## The sinks' gradient -/

theorem v138_eq (t : Fin 4112) (k g : Fin 4) (z : Fin 1) :
    val_main_v138 (F := Ideal) x0 x2 x3 x4 x5 (ix4 k g t z) = val_main_v136 (F := Ideal) x0 x2 x3 x4 x5 (ix4 k g t (Fin.last 4112)) := by
  obtain rfl : z = 0 := Subsingleton.elim _ _
  unfold val_main_v138
  generalize val_main_v136 (F := Ideal) x0 x2 x3 x4 x5 = y
  have e : ∀ s : Fin 4113, s.val = 4112 → extractStridedSlice S4x4x4112x1 ![0, 0, 0, 4112] y slices_S4x4x4112x4113_S4x4x4112x1_0_0_0_4112 (ix4 k g t 0) = y (ix4 k g t s) := by
    intro s hs
    pointwise []
    exact congrArg y (congrArg (ix4 k g t) (Fin.ext (by show 4112 + 0 = s.val; omega)))
  exact e _ rfl

theorem v141_apply (k g : Fin 4) :
    val_main_v141 (F := Ideal) x0 x2 x3 x4 x5 (ix2 0 ⟨4 * k.val + g.val, by omega⟩)
      = ∑ t : Fin 4112, val_main_v136 (F := Ideal) x0 x2 x3 x4 x5 (ix4 k g t (Fin.last 4112)) := by
  have e : val_main_v141 (F := Ideal) x0 x2 x3 x4 x5 (ix2 0 ⟨4 * k.val + g.val, by omega⟩)
      = ∑ t : Fin 4112, ∑ z : Fin 1, val_main_v138 (F := Ideal) x0 x2 x3 x4 x5 (ix4 k g t z) := by
    unfold val_main_v141 val_main_v140 val_main_v139
    generalize val_main_v138 (F := Ideal) x0 x2 x3 x4 x5 = y
    pointwise [val_main_cst_37]
  rw [e]
  refine Finset.sum_congr rfl fun t _ => ?_
  rw [Fin.sum_univ_one, v138_eq]

theorem v141_eq (hA : FiniteKey (arrays x0 x2 x3 x4 x5)) (O : ℕ → ℕ → EReal)
    (hO : ∀ t : Fin 4112, ∀ h : Fin 16, ∀ d : Fin 64, O (t.val + 112) (64 * h.val + d.val) = out (arrays x0 x2 x3 x4 x5) (t.val + 112) h.val d.val)
    (h0 : ∀ r, r < 112 → ∀ (h : Fin 16) (d : Fin 64), O r (64 * h.val + d.val) = 0) :
    val_main_v141 (F := Ideal) x0 x2 x3 x4 x5 = sinkArray (arrays x0 x2 x3 x4 x5) O := by
  funext y
  obtain ⟨k, g, rfl⟩ : ∃ k g : Fin 4, y = ix2 0 ⟨4 * k.val + g.val, by omega⟩ := by
    have hy1 : (y 1).val < 16 := (y 1).isLt
    have hy0 : (y 0).val < 1 := (y 0).isLt
    refine ⟨⟨(y 1).val / 4, by omega⟩, ⟨(y 1).val % 4, by omega⟩, ?_⟩
    funext a
    match a with
    | 0 => exact Fin.ext (by show (y 0).val = 0; omega)
    | 1 => exact Fin.ext (by show (y 1).val = 4 * ((y 1).val / 4) + (y 1).val % 4; omega)
  show _ = gradSink (arrays x0 x2 x3 x4 x5) O (4 * k.val + g.val)
  rw [v141_apply, gradSink_token (arrays x0 x2 x3 x4 x5) O (4 * k.val + g.val) fun r hr d => h0 r hr ⟨4 * k.val + g.val, by omega⟩ d]
  refine Finset.sum_congr rfl fun t _ => ?_
  rw [v136_form, v110_apply x0 x2 x3 x4 x5 hA.base]
  exact token_sink (arrays x0 x2 x3 x4 x5) O hA t.isLt (by omega) (hO t ⟨4 * k.val + g.val, by omega⟩)
    (fun j => val_main_v109 (F := Ideal) x0 x3 x4 x5 (ix4 k g t j)) (fun j => val_main_v124 (F := Ideal) x0 x2 (ix4 k g t j)) (v109_token x0 x2 x3 x4 x5 hA.base t k g) (v109_sink x0 x2 x3 x4 x5 hA.base t k g)
    (fun s => v124_token x0 x2 x3 x4 x5 t s k g) (v124_sink x0 x2 t k g)

end Cert.ReferenceIdeal.Attn

end
-- ==== Proof.AttnKeyPre.lean ====
/- What the precondition `saved` says: the projections, the cotangent and the gains are finite on the token rows, and the saved output is the forward
   attention's. -/
module

public import proofs.«01_k».proof.Defs
public import proofs.«01_k».proof.Proof.AttnKeyRef

@[expose] public section

set_option maxRecDepth 16384

noncomputable section

namespace Cert.KernelIdeal.Attn

open Idealize.ShloMosaic Idealize.ShloMosaic.Pointwise
open Cert.KernelIdeal Cert.AttnMath
open Cert.AttnFwdIdeal.Mm (outArray)

theorem preFacts : Cert.Pre_saved.Facts where
  slices_S4224x2560_S4112x1536_112_0 := by decide
  slices_S4224x1024_S4112x1024_112_0 := by decide
  bcast_S_S4112x1536 := by decide
  bcast_S_S4112x1024 := by decide
  bcast_S_S1x64 := by decide
  bcast_S_S1x16 := by decide
  slices_S4224x2560_S4112x2560_112_0 := by decide
  slices_S4112x2560_S4112x1024_0_0 := by decide
  shapeCasts_S4112x1024_S4112x4x4x64 := by decide
  shapeCasts_S1x64_S64 := by decide
  reducesTo_S4112x4x4x64_S4112x4x4_d3 := by decide
  h_S_ := by decide
  bcast_S4112x4x4_S4112x4x4x1_0_1_2 := by decide
  bcast_S_S4112x4x4x1 := by decide
  bcast_S4112x4x4x1_S4112x4x4x64_0_1_2_3 := by decide
  bcast_S64_S1x1x1x64_3 := by decide
  bcast_S1x1x1x64_S4112x4x4x64_0_1_2_3 := by decide
  slices_S4112x2560_S4112x256_0_1024 := by decide
  shapeCasts_S4112x256_S4112x4x64 := by decide
  reducesTo_S4112x4x64_S4112x4_d2 := by decide
  bcast_S4112x4_S4112x4x1_0_1 := by decide
  bcast_S_S4112x4x1 := by decide
  bcast_S4112x4x1_S4112x4x64_0_1_2 := by decide
  bcast_S64_S1x1x64_2 := by decide
  bcast_S1x1x64_S4112x4x64_0_1_2 := by decide
  slices_S4112x2560_S4112x256_0_1280 := by decide
  bcast_S4112_S4112x1_0 := by decide
  bcast_S4112_S1x4112_1 := by decide
  bcast_S1x4112_S4112x4112_0_1 := by decide
  bcast_S4112x1_S4112x4112_0_1 := by decide
  bcast_S_S4112x4112 := by decide
  bcast_S_S1x4112 := by decide
  bcast_S_S1 := by decide
  concatenates_S1_S1_S1_S1_S1_S1_S1_S1_S1_S1_S1_S1_S1_S1_S1_S1_S16_d0 := by decide
  shapeCasts_S16_S4x4x1x1 := by decide
  transposes_S4x4112x4112x4_S4x4x4112x4112_0_3_2_1 := by decide
  bcast_S_S4x4x4112x4112 := by decide
  bcast_S4112x4112_S1x1x4112x4112_2_3 := by decide
  bcast_S4x4x1x1_S4x4x4112x4112_0_1_2_3 := by decide
  bcast_S1x1x4112x4112_S4x4x4112x4112_0_1_2_3 := by decide
  bcast_S4112x4112_S4x4x4112x4112_2_3 := by decide
  shapeCasts_S1x16_S4x4x1x1 := by decide
  bcast_S4x4x1x1_S4x4x4112x1_0_1_2_3 := by decide
  concatenates_S4x4x4112x4112_S4x4x4112x1_S4x4x4112x4113_d3 := by decide
  reducesTo_S4x4x4112x4113_S4x4x4112_d3 := by decide
  bcast_S_S4x4x4112 := by decide
  bcast_S4x4x4112_S4x4x4112x1_0_1_2 := by decide
  bcast_S4x4x4112x1_S4x4x4112x4113_0_1_2_3 := by decide
  slices_S4x4x4112x4113_S4x4x4112x4112_0_0_0_0 := by decide
  transposes_S4x64x4x4112_S4112x4x4x64_3_0_2_1 := by decide
  shapeCasts_S4112x4x4x64_S4112x1024 := by decide
  pads_S4112x1024_S4224x1024_11200_000 := by decide
  dot_S4112x4x64_S4112x4x4x64_S4x4112x4112x4_2_3_0_02_1_1_wf := by decide
  dot_S4112x4x64_S4x4x4112x4112_S4x64x4x4112_0_3_2_12_1_0_wf := by decide

section

variable [hp : Cert.Pre_saved.Facts] (x0 : FVec Ideal S4224x2560 .f32) (x1 x2 : FVec Ideal S4224x1024 .f32) (x3 x4 : FVec Ideal S1x64 .f32) (x5 : FVec Ideal S1x16 .f32)

theorem proj_of_pre (h : (Cert.Pre_saved.fn (F := Ideal) x0 x1 x2 x3 x4 x5).1 = (fun _ => 1#1)) (r : Fin 4112) (c : Fin 1536) :
    Fn (x0 (ix2 ⟨112 + r.val, by omega⟩ ⟨c.val, by omega⟩)) := by
  have e := congrFun h (ix2 r c)
  unfold Cert.Pre_saved.fn Cert.Pre_saved.fn_part1 Cert.Pre_saved.fn_part2 Cert.Pre_saved.fn_part3 Cert.Pre_saved.fn_part4 Cert.Pre_saved.fn_part5 Cert.Pre_saved.fn_part6 Cert.Pre_saved.fn_part7 at e
  dsimp only at e
  pointwise [] at e
  exact fn_of_word _ e

theorem cotangent_of_pre (h : (Cert.Pre_saved.fn (F := Ideal) x0 x1 x2 x3 x4 x5).2.1 = (fun _ => 1#1)) (r : Fin 4112) (c : Fin 1024) :
    Fn (x2 (ix2 ⟨112 + r.val, by omega⟩ ⟨c.val, by omega⟩)) := by
  have e := congrFun h (ix2 r c)
  unfold Cert.Pre_saved.fn Cert.Pre_saved.fn_part1 Cert.Pre_saved.fn_part2 Cert.Pre_saved.fn_part3 Cert.Pre_saved.fn_part4 Cert.Pre_saved.fn_part5 Cert.Pre_saved.fn_part6 Cert.Pre_saved.fn_part7 at e
  dsimp only at e
  pointwise [] at e
  exact fn_of_word _ e

theorem queryGain_of_pre (h : (Cert.Pre_saved.fn (F := Ideal) x0 x1 x2 x3 x4 x5).2.2.1 = (fun _ => 1#1)) (d : Fin 64) : Fn (x3 (ix2 0 d)) := by
  have e := congrFun h (ix2 0 d)
  unfold Cert.Pre_saved.fn Cert.Pre_saved.fn_part1 Cert.Pre_saved.fn_part2 Cert.Pre_saved.fn_part3 Cert.Pre_saved.fn_part4 Cert.Pre_saved.fn_part5 Cert.Pre_saved.fn_part6 Cert.Pre_saved.fn_part7 at e
  dsimp only at e
  pointwise [] at e
  exact fn_of_word _ e

theorem keyGain_of_pre (h : (Cert.Pre_saved.fn (F := Ideal) x0 x1 x2 x3 x4 x5).2.2.2.1 = (fun _ => 1#1)) (d : Fin 64) : Fn (x4 (ix2 0 d)) := by
  have e := congrFun h (ix2 0 d)
  unfold Cert.Pre_saved.fn Cert.Pre_saved.fn_part1 Cert.Pre_saved.fn_part2 Cert.Pre_saved.fn_part3 Cert.Pre_saved.fn_part4 Cert.Pre_saved.fn_part5 Cert.Pre_saved.fn_part6 Cert.Pre_saved.fn_part7 at e
  dsimp only at e
  pointwise [] at e
  exact fn_of_word _ e

theorem sinks_of_pre (h : (Cert.Pre_saved.fn (F := Ideal) x0 x1 x2 x3 x4 x5).2.2.2.2.1 = (fun _ => 1#1)) (d : Fin 16) : Fn (x5 (ix2 0 d)) := by
  have e := congrFun h (ix2 0 d)
  unfold Cert.Pre_saved.fn Cert.Pre_saved.fn_part1 Cert.Pre_saved.fn_part2 Cert.Pre_saved.fn_part3 Cert.Pre_saved.fn_part4 Cert.Pre_saved.fn_part5 Cert.Pre_saved.fn_part6 Cert.Pre_saved.fn_part7 at e
  dsimp only at e
  pointwise [] at e
  exact fn_of_word _ e

theorem forward_stage :
    (Cert.Pre_saved.fn (F := Ideal) x0 x1 x2 x3 x4 x5).2.2.2.2.2
      = cmpf .oeq x1 (Cert.AttnFwdRefIdeal.Read.val_main_v102 (F := Ideal) x0 x3 x4 x5) := rfl

theorem saved_of_pre (h : (Cert.Pre_saved.fn (F := Ideal) x0 x1 x2 x3 x4 x5).2.2.2.2.2 = (fun _ => 1#1)) :
    x1 = Cert.AttnFwdRefIdeal.Read.val_main_v102 (F := Ideal) x0 x3 x4 x5 := by
  funext y
  have e := congrFun h y
  rw [forward_stage] at e
  generalize Cert.AttnFwdRefIdeal.Read.val_main_v102 (F := Ideal) x0 x3 x4 x5 = z at e ⊢
  pointwise [] at e
  have hb : ∀ b : Bool, BitVec.ofBool b = 1#1 → b = true := by decide
  exact of_decide_eq_true (hb _ e)

end

variable (x0 : FVec Ideal S4224x2560 .f32) (x1 x2 : FVec Ideal S4224x1024 .f32) (x3 x4 : FVec Ideal S1x64 .f32) (x5 : FVec Ideal S1x16 .f32)

/-- The finiteness of what the key gradient reads. -/
theorem finite_key (h0 : ∀ (r : Fin 4112) (c : Fin 1536), Fn (x0 (ix2 ⟨112 + r.val, by omega⟩ ⟨c.val, by omega⟩)))
    (h1 : ∀ (r : Fin 4112) (c : Fin 1024), Fn (x2 (ix2 ⟨112 + r.val, by omega⟩ ⟨c.val, by omega⟩)))
    (h2 : ∀ d : Fin 64, Fn (x3 (ix2 0 d))) (h3 : ∀ d : Fin 64, Fn (x4 (ix2 0 d))) (h4 : ∀ d : Fin 16, Fn (x5 (ix2 0 d))) :
    FiniteKey (arrays x0 x2 x3 x4 x5) where
  base := finite_arrays x0 x2 x3 x4 x5 (fun r c => h0 r ⟨c.val, by omega⟩) h2 h3 h4
  value r c hr hc := row_fn (a := 4224) (by decide) x0 (n := 1536) (by decide) h0 hr hc
  dout r c hr := by
    by_cases hc : c < 1024
    · exact row_fn (a := 4224) (by decide) x2 (n := 1024) (by decide) h1 hr hc
    · show Fn (entry x2 r c)
      unfold entry; rw [dif_neg (fun hh => hc hh.2)]; exact Fn.zero

/-- The saved output's entries are the forward attention's. -/
theorem saved_entry (hA : Finite (arrays x0 x2 x3 x4 x5)) (h : x1 = Cert.AttnFwdRefIdeal.Read.val_main_v102 (F := Ideal) x0 x3 x4 x5)
    (r : ℕ) (hr : r < 4224) (g : Fin 16) (d : Fin 64) :
    entry x1 r (64 * g.val + d.val) = outArray (arrays x0 (fun _ => (0 : EReal)) x3 x4 x5) (ix2 ⟨r, hr⟩ ⟨64 * g.val + d.val, by omega⟩) := by
  have hZ : Finite (arrays x0 (fun _ => (0 : EReal)) x3 x4 x5) := ⟨hA.proj, hA.gq, hA.gk, hA.sink, hA.slope⟩
  rw [entry_of x1 (r := r) (c := 64 * g.val + d.val) hr (by omega), h, Cert.AttnFwdIdeal.Mm.reference_eq x0 x3 x4 x5 hZ]

theorem saved_out (hA : Finite (arrays x0 x2 x3 x4 x5)) (h : x1 = Cert.AttnFwdRefIdeal.Read.val_main_v102 (F := Ideal) x0 x3 x4 x5)
    (t : Fin 4112) (g : Fin 16) (d : Fin 64) :
    entry x1 (t.val + 112) (64 * g.val + d.val) = out (arrays x0 x2 x3 x4 x5) (t.val + 112) g.val d.val := by
  rw [saved_entry x0 x1 x2 x3 x4 x5 hA h (t.val + 112) (by omega) g d]
  show out (arrays x0 x2 x3 x4 x5) (t.val + 112) ((64 * g.val + d.val) / 64) ((64 * g.val + d.val) % 64) = _
  rw [show (64 * g.val + d.val) / 64 = g.val by omega, show (64 * g.val + d.val) % 64 = d.val by omega]

theorem saved_pad (hA : Finite (arrays x0 x2 x3 x4 x5)) (h : x1 = Cert.AttnFwdRefIdeal.Read.val_main_v102 (F := Ideal) x0 x3 x4 x5)
    (r : ℕ) (hr : r < 112) (g : Fin 16) (d : Fin 64) : entry x1 r (64 * g.val + d.val) = 0 := by
  rw [saved_entry x0 x1 x2 x3 x4 x5 hA h r (by omega) g d]
  exact out_of_lt _ hr _ _

end Cert.KernelIdeal.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.AttnFrame
public import proofs.«01_k».proof.Proof.AttnFloatFrame
public import proofs.«01_k».proof.Proof.AttnRef
public import proofs.«01_k».proof.Proof.AttnPre
public import proofs.«01_k».proof.Proof.MmDownDx
public import proofs.«01_k».proof.Proof.MmDownDw
public import proofs.«01_k».proof.Proof.MmUpDx
public import proofs.«01_k».proof.Proof.MmUpDw
public import proofs.«01_k».proof.Proof.MmProj
public import proofs.«01_k».proof.Proof.MmGlu
public import proofs.«01_k».proof.Proof.MmForward
public import proofs.«01_k».proof.Proof.MmGluBwd
public import proofs.«01_k».proof.Proof.NormRows
public import proofs.«01_k».proof.Proof.NormHeads
public import proofs.«01_k».proof.Proof.NormKeys
public import proofs.«01_k».proof.Proof.LossRows
public import proofs.«01_k».proof.Proof.AttnForward
public import proofs.«01_k».proof.Proof.AttnKeyFold
public import proofs.«01_k».proof.Proof.AttnKeyRef
public import proofs.«01_k».proof.Proof.AttnKeyPre
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.GluDw
public import proofs.«01_k».proof.Proof.Gen.GluDw.Frame
public import proofs.«01_k».proof.Proof.Gen.GluDwIdeal
public import proofs.«01_k».proof.Proof.Gen.GluDwIdeal.Frame
public import proofs.«01_k».proof.Proof.Gen.GluDwIdeal.Value
public import proofs.«01_k».proof.Proof.Gen.GluDwRefIdeal
public import proofs.«01_k».proof.Proof.Gen.GluDwRefIdeal.Run
public import proofs.«01_k».proof.Proof.Gen.GluDwRefIdeal.Read
public import proofs.«01_k».proof.Proof.Gen.InFwd
public import proofs.«01_k».proof.Proof.Gen.InFwd.Frame
public import proofs.«01_k».proof.Proof.Gen.InFwdIdeal
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read
public import proofs.«01_k».proof.Proof.Gen.GluFwd
public import proofs.«01_k».proof.Proof.Gen.GluFwd.Frame
public import proofs.«01_k».proof.Proof.Gen.GluFwdIdeal
public import proofs.«01_k».proof.Proof.Gen.GluFwdIdeal.Frame
public import proofs.«01_k».proof.Proof.Gen.GluFwdIdeal.Value
public import proofs.«01_k».proof.Proof.Gen.GluFwdRefIdeal
public import proofs.«01_k».proof.Proof.Gen.GluFwdRefIdeal.Run
public import proofs.«01_k».proof.Proof.Gen.GluFwdRefIdeal.Read
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.Gen.UpFwd
public import proofs.«01_k».proof.Proof.Gen.UpFwd.Frame
public import proofs.«01_k».proof.Proof.Gen.UpFwdIdeal
public import proofs.«01_k».proof.Proof.Gen.UpFwdIdeal.Frame
public import proofs.«01_k».proof.Proof.Gen.UpFwdIdeal.Value
public import proofs.«01_k».proof.Proof.Gen.UpFwdRefIdeal
public import proofs.«01_k».proof.Proof.Gen.UpFwdRefIdeal.Run
public import proofs.«01_k».proof.Proof.Gen.UpFwdRefIdeal.Read
public import proofs.«01_k».proof.Proof.Gen.DownFwd
public import proofs.«01_k».proof.Proof.Gen.DownFwd.Frame
public import proofs.«01_k».proof.Proof.Gen.DownFwdIdeal
public import proofs.«01_k».proof.Proof.Gen.DownFwdIdeal.Frame
public import proofs.«01_k».proof.Proof.Gen.DownFwdIdeal.Value
public import proofs.«01_k».proof.Proof.Gen.DownFwdRefIdeal
public import proofs.«01_k».proof.Proof.Gen.DownFwdRefIdeal.Run
public import proofs.«01_k».proof.Proof.Gen.DownFwdRefIdeal.Read
public import proofs.«01_k».proof.Proof.Gen.GluDz
public import proofs.«01_k».proof.Proof.Gen.GluDz.Frame
public import proofs.«01_k».proof.Proof.Gen.GluDzIdeal
public import proofs.«01_k».proof.Proof.Gen.GluDzIdeal.Frame
public import proofs.«01_k».proof.Proof.Gen.GluDzIdeal.Value
public import proofs.«01_k».proof.Proof.Gen.GluDzRefIdeal
public import proofs.«01_k».proof.Proof.Gen.GluDzRefIdeal.Run
public import proofs.«01_k».proof.Proof.Gen.GluDzRefIdeal.Read
public import proofs.«01_k».proof.Proof.Gen.GluDx
public import proofs.«01_k».proof.Proof.Gen.GluDx.Frame
public import proofs.«01_k».proof.Proof.Gen.GluDxIdeal
public import proofs.«01_k».proof.Proof.Gen.GluDxIdeal.Frame
public import proofs.«01_k».proof.Proof.Gen.GluDxIdeal.Value
public import proofs.«01_k».proof.Proof.Gen.GluDxRefIdeal
public import proofs.«01_k».proof.Proof.Gen.GluDxRefIdeal.Run
public import proofs.«01_k».proof.Proof.Gen.GluDxRefIdeal.Read
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.HeadsBwd
public import proofs.«01_k».proof.Proof.Gen.HeadsBwd.Frame
public import proofs.«01_k».proof.Proof.Gen.HeadsBwdIdeal
public import proofs.«01_k».proof.Proof.Gen.HeadsBwdIdeal.Frame
public import proofs.«01_k».proof.Proof.Gen.HeadsBwdIdeal.Value
public import proofs.«01_k».proof.Proof.Gen.HeadsBwdRefIdeal
public import proofs.«01_k».proof.Proof.Gen.HeadsBwdRefIdeal.Run
public import proofs.«01_k».proof.Proof.Gen.HeadsBwdRefIdeal.Read
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.HeadsFwd
public import proofs.«01_k».proof.Proof.Gen.HeadsFwd.Frame
public import proofs.«01_k».proof.Proof.Gen.HeadsFwdIdeal
public import proofs.«01_k».proof.Proof.Gen.HeadsFwdIdeal.Frame
public import proofs.«01_k».proof.Proof.Gen.HeadsFwdIdeal.Value
public import proofs.«01_k».proof.Proof.Gen.HeadsFwdRefIdeal
public import proofs.«01_k».proof.Proof.Gen.HeadsFwdRefIdeal.Run
public import proofs.«01_k».proof.Proof.Gen.HeadsFwdRefIdeal.Read
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.KNormBwd
public import proofs.«01_k».proof.Proof.Gen.KNormBwd.Frame
public import proofs.«01_k».proof.Proof.Gen.KNormBwdIdeal
public import proofs.«01_k».proof.Proof.Gen.KNormBwdIdeal.Frame
public import proofs.«01_k».proof.Proof.Gen.KNormBwdIdeal.Value
public import proofs.«01_k».proof.Proof.Gen.KNormBwdRefIdeal
public import proofs.«01_k».proof.Proof.Gen.KNormBwdRefIdeal.Run
public import proofs.«01_k».proof.Proof.Gen.KNormBwdRefIdeal.Read
public import Idealize.ShloMosaic.Adequacy
public import Idealize.ShloMosaic.Init

@[expose] public section

noncomputable section

namespace Cert.Proof

open Idealize.ShloMosaic Idealize.SL.Sem

/-- The reference's frame: its run, with no semaphore in its signature. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

section
attribute [local instance] Cert.KernelIdeal.Attn.preFacts Cert.GluDxIdeal.Mm.preFacts Cert.AttnFwdIdeal.Mm.preFacts

/-- The kernel's gradients for the keys, the values and the sinks are the reference's: both are the gradients of the mathematics at the same arrays. -/
theorem key_value_sink_gradient : Cert.algebraic_KernelIdeal_ReferenceIdeal_pre_saved := fun m ρ m' ρ' hpre harg => by
  have hK : ∀ c, Cert.AttnMath.FiniteKey (Cert.KernelIdeal.Attn.argArrays m c) := fun c => by
    obtain ⟨p0, p1, p2, p3, p4, _⟩ := hpre c
    exact Cert.KernelIdeal.Attn.finite_key _ _ _ _ _ (Cert.KernelIdeal.Attn.proj_of_pre _ _ _ _ _ _ p0)
      (Cert.KernelIdeal.Attn.cotangent_of_pre _ _ _ _ _ _ p1) (Cert.KernelIdeal.Attn.queryGain_of_pre _ _ _ _ _ _ p2)
      (Cert.KernelIdeal.Attn.keyGain_of_pre _ _ _ _ _ _ p3) (Cert.KernelIdeal.Attn.sinks_of_pre _ _ _ _ _ _ p4)
  refine ⟨fun c => Cert.KernelIdeal.Attn.keyArray (Cert.KernelIdeal.Attn.argArrays m c) (Cert.KernelIdeal.Attn.savedOut m c),
    fun c => Cert.KernelIdeal.Attn.gradArray (Cert.KernelIdeal.Attn.argArrays m c),
    fun c => Cert.KernelIdeal.Attn.sinkArray (Cert.KernelIdeal.Attn.argArrays m c) (Cert.KernelIdeal.Attn.savedOut m c),
    Cert.KernelIdeal.Attn.run_three m ρ (fun c => (hK c).base),
    (θ_run Cert.ReferenceIdeal.defs _ _).mono (fun r h c => ⟨?_, ?_, ?_, (h c).2.2.2⟩) (Cert.ReferenceIdeal.Value.run (F := Ideal) m' ρ')⟩
  · obtain ⟨e0, _, e2, e3, e4, e5⟩ := harg c
    change StableHlo.launchContents m' c (Proc.devRef .tc Cert.ReferenceIdeal.main_arg0) = _ at e0
    change StableHlo.launchContents m' c (Proc.devRef .tc Cert.ReferenceIdeal.main_arg2) = _ at e2
    change StableHlo.launchContents m' c (Proc.devRef .tc Cert.ReferenceIdeal.main_arg3) = _ at e3
    change StableHlo.launchContents m' c (Proc.devRef .tc Cert.ReferenceIdeal.main_arg4) = _ at e4
    change StableHlo.launchContents m' c (Proc.devRef .tc Cert.ReferenceIdeal.main_arg5) = _ at e5
    rw [(h c).1, Cert.ReferenceIdeal.Read.val_main_v149_eq, e0, e2, e3, e4, e5]
    exact Cert.ReferenceIdeal.Attn.v149_eq _ _ _ _ _ (hK c) _ (Cert.KernelIdeal.Attn.saved_out _ _ _ _ _ _ (hK c).base
      (Cert.KernelIdeal.Attn.saved_of_pre _ _ _ _ _ _ (hpre c).2.2.2.2.2))
  · obtain ⟨e0, _, e2, e3, e4, e5⟩ := harg c
    change StableHlo.launchContents m' c (Proc.devRef .tc Cert.ReferenceIdeal.main_arg0) = _ at e0
    change StableHlo.launchContents m' c (Proc.devRef .tc Cert.ReferenceIdeal.main_arg2) = _ at e2
    change StableHlo.launchContents m' c (Proc.devRef .tc Cert.ReferenceIdeal.main_arg3) = _ at e3
    change StableHlo.launchContents m' c (Proc.devRef .tc Cert.ReferenceIdeal.main_arg4) = _ at e4
    change StableHlo.launchContents m' c (Proc.devRef .tc Cert.ReferenceIdeal.main_arg5) = _ at e5
    rw [(h c).2.1, Cert.ReferenceIdeal.Read.val_main_v151_eq, e0, e2, e3, e4, e5]
    exact Cert.ReferenceIdeal.Attn.v151_eq _ _ _ _ _ (hK c).base
  · obtain ⟨e0, _, e2, e3, e4, e5⟩ := harg c
    change StableHlo.launchContents m' c (Proc.devRef .tc Cert.ReferenceIdeal.main_arg0) = _ at e0
    change StableHlo.launchContents m' c (Proc.devRef .tc Cert.ReferenceIdeal.main_arg2) = _ at e2
    change StableHlo.launchContents m' c (Proc.devRef .tc Cert.ReferenceIdeal.main_arg3) = _ at e3
    change StableHlo.launchContents m' c (Proc.devRef .tc Cert.ReferenceIdeal.main_arg4) = _ at e4
    change StableHlo.launchContents m' c (Proc.devRef .tc Cert.ReferenceIdeal.main_arg5) = _ at e5
    rw [(h c).2.2.1, Cert.ReferenceIdeal.Read.val_main_v141_eq, e0, e2, e3, e4, e5]
    exact Cert.ReferenceIdeal.Attn.v141_eq _ _ _ _ _ (hK c) _
      (Cert.KernelIdeal.Attn.saved_out _ _ _ _ _ _ (hK c).base (Cert.KernelIdeal.Attn.saved_of_pre _ _ _ _ _ _ (hpre c).2.2.2.2.2))
      (Cert.KernelIdeal.Attn.saved_pad _ _ _ _ _ _ (hK c).base (Cert.KernelIdeal.Attn.saved_of_pre _ _ _ _ _ _ (hpre c).2.2.2.2.2))

theorem claim : Cert.Claim :=
  ⟨Cert.Kernel.Gen.facts, Cert.KernelIdeal.Gen.facts, Cert.ReferenceIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.OutDx.Gen.facts, Cert.OutDxIdeal.Gen.facts, Cert.OutDxRefIdeal.Gen.facts,
    Cert.OutDw.Gen.facts, Cert.OutDwIdeal.Gen.facts, Cert.OutDwRefIdeal.Gen.facts,
    Cert.InDx.Gen.facts, Cert.InDxIdeal.Gen.facts, Cert.InDxRefIdeal.Gen.facts,
    Cert.InDw.Gen.facts, Cert.InDwIdeal.Gen.facts, Cert.InDwRefIdeal.Gen.facts,
    Cert.GluDw.Gen.facts, Cert.GluDwIdeal.Gen.facts, Cert.GluDwRefIdeal.Gen.facts,
    Cert.InFwd.Gen.facts, Cert.InFwdIdeal.Gen.facts, Cert.InFwdRefIdeal.Gen.facts,
    Cert.GluFwd.Gen.facts, Cert.GluFwdIdeal.Gen.facts, Cert.GluFwdRefIdeal.Gen.facts,
    Cert.OutFwd.Gen.facts, Cert.OutFwdIdeal.Gen.facts, Cert.OutFwdRefIdeal.Gen.facts,
    Cert.UpFwd.Gen.facts, Cert.UpFwdIdeal.Gen.facts, Cert.UpFwdRefIdeal.Gen.facts,
    Cert.DownFwd.Gen.facts, Cert.DownFwdIdeal.Gen.facts, Cert.DownFwdRefIdeal.Gen.facts,
    Cert.GluDz.Gen.facts, Cert.GluDzIdeal.Gen.facts, Cert.GluDzRefIdeal.Gen.facts,
    Cert.GluDx.Gen.facts, Cert.GluDxIdeal.Gen.facts, Cert.GluDxRefIdeal.Gen.facts,
    Cert.NormBwd.Gen.facts, Cert.NormBwdIdeal.Gen.facts, Cert.NormBwdRefIdeal.Gen.facts,
    Cert.HeadsBwd.Gen.facts, Cert.HeadsBwdIdeal.Gen.facts, Cert.HeadsBwdRefIdeal.Gen.facts,
    Cert.NormFwd.Gen.facts, Cert.NormFwdIdeal.Gen.facts, Cert.NormFwdRefIdeal.Gen.facts,
    Cert.HeadsFwd.Gen.facts, Cert.HeadsFwdIdeal.Gen.facts, Cert.HeadsFwdRefIdeal.Gen.facts,
    Cert.AttnFwd.Gen.facts, Cert.AttnFwdIdeal.Gen.facts, Cert.AttnFwdRefIdeal.Gen.facts,
    Cert.LossHead.Gen.facts, Cert.LossHeadIdeal.Gen.facts, Cert.LossHeadRefIdeal.Gen.facts,
    Cert.KNormBwd.Gen.facts, Cert.KNormBwdIdeal.Gen.facts, Cert.KNormBwdRefIdeal.Gen.facts,
    Cert.KernelIdeal.Attn.preFacts, Cert.GluDxIdeal.Mm.preFacts, Cert.AttnFwdIdeal.Mm.preFacts,
    fun m ρ _ => Cert.Kernel.Attn.frame m ρ, fun m ρ _ => Cert.KernelIdeal.Attn.frame m ρ, fun m ρ _ => Cert.KernelIdeal.Attn.frame m ρ,
    frame_reference, fun m ρ _ => frame_reference m ρ trivial,
    fun m ρ _ => Cert.DownDx.Gen.frame m ρ, fun m ρ _ => Cert.DownDxIdeal.Gen.frame m ρ, Cert.DownDxIdeal.Mm.frame_reference,
    fun m ρ _ => Cert.DownDw.Gen.frame m ρ, fun m ρ _ => Cert.DownDwIdeal.Gen.frame m ρ, Cert.DownDwIdeal.Mm.frame_reference,
    fun m ρ _ => Cert.UpDx.Gen.frame m ρ, fun m ρ _ => Cert.UpDxIdeal.Gen.frame m ρ, Cert.UpDxIdeal.Mm.frame_reference,
    fun m ρ _ => Cert.UpDw.Gen.frame m ρ, fun m ρ _ => Cert.UpDwIdeal.Gen.frame m ρ, Cert.UpDwIdeal.Mm.frame_reference,
    fun m ρ _ => Cert.OutDx.Gen.frame m ρ, fun m ρ _ => Cert.OutDxIdeal.Gen.frame m ρ, Cert.OutDxIdeal.Mm.frame_reference,
    fun m ρ _ => Cert.OutDw.Gen.frame m ρ, fun m ρ _ => Cert.OutDwIdeal.Gen.frame m ρ, Cert.OutDwIdeal.Mm.frame_reference,
    fun m ρ _ => Cert.InDx.Gen.frame m ρ, fun m ρ _ => Cert.InDxIdeal.Gen.frame m ρ, Cert.InDxIdeal.Mm.frame_reference,
    fun m ρ _ => Cert.InDw.Gen.frame m ρ, fun m ρ _ => Cert.InDwIdeal.Gen.frame m ρ, Cert.InDwIdeal.Mm.frame_reference,
    fun m ρ _ => Cert.GluDw.Gen.frame m ρ, fun m ρ _ => Cert.GluDwIdeal.Gen.frame m ρ, Cert.GluDwIdeal.Mm.frame_reference,
    fun m ρ _ => Cert.InFwd.Gen.frame m ρ, fun m ρ _ => Cert.InFwdIdeal.Gen.frame m ρ, Cert.InFwdIdeal.Mm.frame_reference,
    fun m ρ _ => Cert.GluFwd.Gen.frame m ρ, fun m ρ _ => Cert.GluFwdIdeal.Gen.frame m ρ, Cert.GluFwdIdeal.Mm.frame_reference,
    fun m ρ _ => Cert.OutFwd.Gen.frame m ρ, fun m ρ _ => Cert.OutFwdIdeal.Gen.frame m ρ, Cert.OutFwdIdeal.Mm.frame_reference,
    fun m ρ _ => Cert.UpFwd.Gen.frame m ρ, fun m ρ _ => Cert.UpFwdIdeal.Gen.frame m ρ, Cert.UpFwdIdeal.Mm.frame_reference,
    fun m ρ _ => Cert.DownFwd.Gen.frame m ρ, fun m ρ _ => Cert.DownFwdIdeal.Gen.frame m ρ, Cert.DownFwdIdeal.Mm.frame_reference,
    fun m ρ _ => Cert.GluDz.Gen.frame m ρ, fun m ρ _ => Cert.GluDzIdeal.Gen.frame m ρ, Cert.GluDzIdeal.Mm.frame_reference,
    fun m ρ _ => Cert.GluDx.Gen.frame m ρ, fun m ρ _ => Cert.GluDxIdeal.Gen.frame m ρ, fun m ρ _ => Cert.GluDxIdeal.Gen.frame m ρ,
    Cert.GluDxIdeal.Mm.frame_reference, fun m ρ _ => Cert.GluDxIdeal.Mm.frame_reference m ρ trivial,
    fun m ρ _ => Cert.NormBwd.Gen.frame m ρ, fun m ρ _ => Cert.NormBwdIdeal.Gen.frame m ρ, Cert.NormBwdIdeal.Mm.frame_reference,
    fun m ρ _ => Cert.HeadsBwd.Gen.frame m ρ, fun m ρ _ => Cert.HeadsBwdIdeal.Gen.frame m ρ, Cert.HeadsBwdIdeal.Mm.frame_reference,
    fun m ρ _ => Cert.NormFwd.Gen.frame m ρ, fun m ρ _ => Cert.NormFwdIdeal.Gen.frame m ρ, Cert.NormFwdIdeal.Mm.frame_reference,
    fun m ρ _ => Cert.HeadsFwd.Gen.frame m ρ, fun m ρ _ => Cert.HeadsFwdIdeal.Gen.frame m ρ, Cert.HeadsFwdIdeal.Mm.frame_reference,
    fun m ρ _ => Cert.AttnFwd.Gen.frame m ρ, fun m ρ _ => Cert.AttnFwdIdeal.Gen.frame m ρ, fun m ρ _ => Cert.AttnFwdIdeal.Gen.frame m ρ,
    Cert.AttnFwdIdeal.Mm.frame_reference, fun m ρ _ => Cert.AttnFwdIdeal.Mm.frame_reference m ρ trivial,
    fun m ρ _ => Cert.LossHead.Gen.frame m ρ, fun m ρ _ => Cert.LossHeadIdeal.Gen.frame m ρ, Cert.LossHeadIdeal.Mm.frame_reference,
    fun m ρ _ => Cert.KNormBwd.Gen.frame m ρ, fun m ρ _ => Cert.KNormBwdIdeal.Gen.frame m ρ, Cert.KNormBwdIdeal.Mm.frame_reference,
    IdealRules.named_const.statement Cert.KernelIdeal.κ "mask" .f32 0xF149F2CA#32 ⊥ rfl, key_value_sink_gradient,
    trivial, Cert.DownDxIdeal.Mm.equal,
    trivial, Cert.DownDwIdeal.Mm.equal,
    trivial, Cert.UpDxIdeal.Mm.equal,
    trivial, Cert.UpDwIdeal.Mm.equal,
    trivial, Cert.OutDxIdeal.Mm.equal,
    trivial, Cert.OutDwIdeal.Mm.equal,
    trivial, Cert.InDxIdeal.Mm.equal,
    trivial, Cert.InDwIdeal.Mm.equal,
    trivial, Cert.GluDwIdeal.Mm.equal,
    trivial, Cert.InFwdIdeal.Mm.equal,
    trivial, Cert.GluFwdIdeal.Mm.equal,
    trivial, Cert.OutFwdIdeal.Mm.equal,
    trivial, Cert.UpFwdIdeal.Mm.equal,
    trivial, Cert.DownFwdIdeal.Mm.equal,
    trivial, Cert.GluDzIdeal.Mm.equal,
    ⟨IdealRules.named_const.statement Cert.GluDxIdeal.κ "gelu" .f32 0x3D372713#32 ((8943 / 200000 : ℝ) : EReal) rfl,
      IdealRules.named_const.statement Cert.GluDxIdeal.κ "gelu3" .f32 0x3E095D4F#32 ((26829 / 200000 : ℝ) : EReal) rfl⟩,
    Cert.GluDxIdeal.Mm.equal (hp := Cert.GluDxIdeal.Mm.preFacts),
    trivial, Cert.NormBwdIdeal.Mm.equal,
    trivial, Cert.HeadsBwdIdeal.Mm.equal,
    trivial, Cert.NormFwdIdeal.Mm.equal,
    trivial, Cert.HeadsFwdIdeal.Mm.equal,
    IdealRules.named_const.statement Cert.AttnFwdIdeal.κ "mask" .f32 0xF149F2CA#32 ⊥ rfl,
    Cert.AttnFwdIdeal.Mm.equal (hp := Cert.AttnFwdIdeal.Mm.preFacts),
    trivial, Cert.LossHeadIdeal.Mm.equal,
    trivial, Cert.KNormBwdIdeal.Mm.equal⟩

end

end Cert.Proof

end
